-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_scores2 [hPre_finite_scores2 : Cert.Pre_finite_scores2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_scores2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_scores2 [hPre_finite_scores2 : Cert.Pre_finite_scores2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_scores2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_product [hPre_finite_product : Cert.Pre_finite_product.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_product.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_product [hPre_finite_product : Cert.Pre_finite_product.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_product.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Kernel22Ideal_finite_scores22 [hPre_finite_scores22 : Cert.Pre_finite_scores22.Facts] (m : (ℓ : Loc Cert.Kernel22Ideal.nD Cert.Kernel22Ideal.τ Cert.Kernel22Ideal.sig) → Buf (Elt Ideal) ℓ) : Prop :=
  ∀ c : Dev Cert.Kernel22Ideal.nD,
    (Cert.Pre_finite_scores22.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2))) = (fun _ => 1#1)

def Pre_Reference22Ideal (m : (ℓ : Loc Cert.Reference22Ideal.nD Cert.Reference22Ideal.τ Cert.Reference22Ideal.sig) → Buf (Elt Ideal) ℓ) : Prop :=
  True

def Pre_Reference22Ideal_finite_scores22 [hPre_finite_scores22 : Cert.Pre_finite_scores22.Facts] (m : (ℓ : Loc Cert.Reference22Ideal.nD Cert.Reference22Ideal.τ Cert.Reference22Ideal.sig) → Buf (Elt Ideal) ℓ) : Prop :=
  ∀ c : Dev Cert.Reference22Ideal.nD,
    (Cert.Pre_finite_scores22.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2))) = (fun _ => 1#1)

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Kernel23Ideal_finite_scores23 [hPre_finite_scores23 : Cert.Pre_finite_scores23.Facts] (m : (ℓ : Loc Cert.Kernel23Ideal.nD Cert.Kernel23Ideal.τ Cert.Kernel23Ideal.sig) → Buf (Elt Ideal) ℓ) : Prop :=
  ∀ c : Dev Cert.Kernel23Ideal.nD,
    (Cert.Pre_finite_scores23.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2))) = (fun _ => 1#1)

def Pre_Reference23Ideal (m : (ℓ : Loc Cert.Reference23Ideal.nD Cert.Reference23Ideal.τ Cert.Reference23Ideal.sig) → Buf (Elt Ideal) ℓ) : Prop :=
  True

def Pre_Reference23Ideal_finite_scores23 [hPre_finite_scores23 : Cert.Pre_finite_scores23.Facts] (m : (ℓ : Loc Cert.Reference23Ideal.nD Cert.Reference23Ideal.τ Cert.Reference23Ideal.sig) → Buf (Elt Ideal) ℓ) : Prop :=
  ∀ c : Dev Cert.Reference23Ideal.nD,
    (Cert.Pre_finite_scores23.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2))) = (fun _ => 1#1)

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Kernel24Ideal_finite_weighted [hPre_finite_weighted : Cert.Pre_finite_weighted.Facts] (m : (ℓ : Loc Cert.Kernel24Ideal.nD Cert.Kernel24Ideal.τ Cert.Kernel24Ideal.sig) → Buf (Elt Ideal) ℓ) : Prop :=
  ∀ c : Dev Cert.Kernel24Ideal.nD,
    (Cert.Pre_finite_weighted.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3))) = (fun _ => 1#1)

def Pre_Reference24Ideal (m : (ℓ : Loc Cert.Reference24Ideal.nD Cert.Reference24Ideal.τ Cert.Reference24Ideal.sig) → Buf (Elt Ideal) ℓ) : Prop :=
  True

def Pre_Reference24Ideal_finite_weighted [hPre_finite_weighted : Cert.Pre_finite_weighted.Facts] (m : (ℓ : Loc Cert.Reference24Ideal.nD Cert.Reference24Ideal.τ Cert.Reference24Ideal.sig) → Buf (Elt Ideal) ℓ) : Prop :=
  ∀ c : Dev Cert.Reference24Ideal.nD,
    (Cert.Pre_finite_weighted.fn (F := Ideal) (m ((c.tc : Thread Cert.Reference24Ideal.nD Cert.Reference24Ideal.τ).loc Cert.Reference24Ideal.main_arg0)) (m ((c.tc : Thread Cert.Reference24Ideal.nD Cert.Reference24Ideal.τ).loc Cert.Reference24Ideal.main_arg1)) (m ((c.tc : Thread Cert.Reference24Ideal.nD Cert.Reference24Ideal.τ).loc Cert.Reference24Ideal.main_arg2)) (m ((c.tc : Thread Cert.Reference24Ideal.nD Cert.Reference24Ideal.τ).loc Cert.Reference24Ideal.main_arg3))) = (fun _ => 1#1)

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite_scores2 [hKernel2Ideal : Cert.Kernel2Ideal.Facts] [hPre_finite_scores2 : Cert.Pre_finite_scores2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_scores2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite_scores2 [hReference2Ideal : Cert.Reference2Ideal.Facts] [hPre_finite_scores2 : Cert.Pre_finite_scores2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_scores2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_finite_product [hKernel5Ideal : Cert.Kernel5Ideal.Facts] [hPre_finite_product : Cert.Pre_finite_product.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_product m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_finite_product [hReference5Ideal : Cert.Reference5Ideal.Facts] [hPre_finite_product : Cert.Pre_finite_product.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_product m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Kernel22Ideal_pre_finite_scores22 [hKernel22Ideal : Cert.Kernel22Ideal.Facts] [hPre_finite_scores22 : Cert.Pre_finite_scores22.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal_finite_scores22 m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Reference22Ideal_pre_finite_scores22 [hReference22Ideal : Cert.Reference22Ideal.Facts] [hPre_finite_scores22 : Cert.Pre_finite_scores22.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal_finite_scores22 m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Kernel23Ideal_pre_finite_scores23 [hKernel23Ideal : Cert.Kernel23Ideal.Facts] [hPre_finite_scores23 : Cert.Pre_finite_scores23.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal_finite_scores23 m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Reference23Ideal_pre_finite_scores23 [hReference23Ideal : Cert.Reference23Ideal.Facts] [hPre_finite_scores23 : Cert.Pre_finite_scores23.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal_finite_scores23 m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Kernel24Ideal_pre_finite_weighted [hKernel24Ideal : Cert.Kernel24Ideal.Facts] [hPre_finite_weighted : Cert.Pre_finite_weighted.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal_finite_weighted m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Reference24Ideal_pre_finite_weighted [hReference24Ideal : Cert.Reference24Ideal.Facts] [hPre_finite_weighted : Cert.Pre_finite_weighted.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal_finite_weighted m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "mask" .f32 0xF149F2CA#32 ⊥

def algebraic_Kernel2Ideal_Reference2Ideal_pre_finite_scores2 [hKernel2Ideal : Cert.Kernel2Ideal.Facts] [hReference2Ideal : Cert.Reference2Ideal.Facts] [hPre_finite_scores2 : Cert.Pre_finite_scores2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_scores2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)) (v2 : (c : Dev Cert.Kernel2Ideal.nD) → Buf (Elt Ideal) ((c.tc : Thread Cert.Kernel2Ideal.nD Cert.Kernel2Ideal.τ).loc Cert.Kernel2Ideal.main_v8_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_v8_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v84) = v0 c
          ∧ r.2.mem ((c.tc : Thread Cert.Reference2Ideal.nD Cert.Reference2Ideal.τ).loc Cert.Reference2Ideal.main_v87) = v1 c
          ∧ r.2.mem ((c.tc : Thread Cert.Reference2Ideal.nD Cert.Reference2Ideal.τ).loc Cert.Reference2Ideal.main_v75) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_finite_product [hKernel5Ideal : Cert.Kernel5Ideal.Facts] [hReference5Ideal : Cert.Reference5Ideal.Facts] [hPre_finite_product : Cert.Pre_finite_product.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_product m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_v8) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v10)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v10) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v5)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v5) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v9) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v1_0)) (v1 : (c : Dev Cert.Kernel11Ideal.nD) → Buf (Elt Ideal) ((c.tc : Thread Cert.Kernel11Ideal.nD Cert.Kernel11Ideal.τ).loc Cert.Kernel11Ideal.main_v1_1)) (v2 : (c : Dev Cert.Kernel11Ideal.nD) → Buf (Elt Ideal) ((c.tc : Thread Cert.Kernel11Ideal.nD Cert.Kernel11Ideal.τ).loc Cert.Kernel11Ideal.main_v1_2)) (v3 : (c : Dev Cert.Kernel11Ideal.nD) → Buf (Elt Ideal) ((c.tc : Thread Cert.Kernel11Ideal.nD Cert.Kernel11Ideal.τ).loc Cert.Kernel11Ideal.main_v1_3)) (v4 : (c : Dev Cert.Kernel11Ideal.nD) → Buf (Elt Ideal) ((c.tc : Thread Cert.Kernel11Ideal.nD Cert.Kernel11Ideal.τ).loc Cert.Kernel11Ideal.main_v1_4)) (v5 : (c : Dev Cert.Kernel11Ideal.nD) → Buf (Elt Ideal) ((c.tc : Thread Cert.Kernel11Ideal.nD Cert.Kernel11Ideal.τ).loc Cert.Kernel11Ideal.main_v1_5)) (v6 : (c : Dev Cert.Kernel11Ideal.nD) → Buf (Elt Ideal) ((c.tc : Thread Cert.Kernel11Ideal.nD Cert.Kernel11Ideal.τ).loc Cert.Kernel11Ideal.main_v1_6)) (v7 : (c : Dev Cert.Kernel11Ideal.nD) → Buf (Elt Ideal) ((c.tc : Thread Cert.Kernel11Ideal.nD Cert.Kernel11Ideal.τ).loc Cert.Kernel11Ideal.main_v1_7)) (v8 : (c : Dev Cert.Kernel11Ideal.nD) → Buf (Elt Ideal) ((c.tc : Thread Cert.Kernel11Ideal.nD Cert.Kernel11Ideal.τ).loc Cert.Kernel11Ideal.main_v1_8)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1_0) = v0 c
          ∧ r.2.mem ((c.tc : Thread Cert.Kernel11Ideal.nD Cert.Kernel11Ideal.τ).loc Cert.Kernel11Ideal.main_v1_1) = v1 c
          ∧ r.2.mem ((c.tc : Thread Cert.Kernel11Ideal.nD Cert.Kernel11Ideal.τ).loc Cert.Kernel11Ideal.main_v1_2) = v2 c
          ∧ r.2.mem ((c.tc : Thread Cert.Kernel11Ideal.nD Cert.Kernel11Ideal.τ).loc Cert.Kernel11Ideal.main_v1_3) = v3 c
          ∧ r.2.mem ((c.tc : Thread Cert.Kernel11Ideal.nD Cert.Kernel11Ideal.τ).loc Cert.Kernel11Ideal.main_v1_4) = v4 c
          ∧ r.2.mem ((c.tc : Thread Cert.Kernel11Ideal.nD Cert.Kernel11Ideal.τ).loc Cert.Kernel11Ideal.main_v1_5) = v5 c
          ∧ r.2.mem ((c.tc : Thread Cert.Kernel11Ideal.nD Cert.Kernel11Ideal.τ).loc Cert.Kernel11Ideal.main_v1_6) = v6 c
          ∧ r.2.mem ((c.tc : Thread Cert.Kernel11Ideal.nD Cert.Kernel11Ideal.τ).loc Cert.Kernel11Ideal.main_v1_7) = v7 c
          ∧ r.2.mem ((c.tc : Thread Cert.Kernel11Ideal.nD Cert.Kernel11Ideal.τ).loc Cert.Kernel11Ideal.main_v1_8) = v8 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v49) = v0 c
          ∧ r.2.mem ((c.tc : Thread Cert.Reference11Ideal.nD Cert.Reference11Ideal.τ).loc Cert.Reference11Ideal.main_v50) = v1 c
          ∧ r.2.mem ((c.tc : Thread Cert.Reference11Ideal.nD Cert.Reference11Ideal.τ).loc Cert.Reference11Ideal.main_v51) = v2 c
          ∧ r.2.mem ((c.tc : Thread Cert.Reference11Ideal.nD Cert.Reference11Ideal.τ).loc Cert.Reference11Ideal.main_v52) = v3 c
          ∧ r.2.mem ((c.tc : Thread Cert.Reference11Ideal.nD Cert.Reference11Ideal.τ).loc Cert.Reference11Ideal.main_v53) = v4 c
          ∧ r.2.mem ((c.tc : Thread Cert.Reference11Ideal.nD Cert.Reference11Ideal.τ).loc Cert.Reference11Ideal.main_v54) = v5 c
          ∧ r.2.mem ((c.tc : Thread Cert.Reference11Ideal.nD Cert.Reference11Ideal.τ).loc Cert.Reference11Ideal.main_v56) = v6 c
          ∧ r.2.mem ((c.tc : Thread Cert.Reference11Ideal.nD Cert.Reference11Ideal.τ).loc Cert.Reference11Ideal.main_v57) = v7 c
          ∧ r.2.mem ((c.tc : Thread Cert.Reference11Ideal.nD Cert.Reference11Ideal.τ).loc Cert.Reference11Ideal.main_v58) = v8 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v1_0)) (v1 : (c : Dev Cert.Kernel12Ideal.nD) → Buf (Elt Ideal) ((c.tc : Thread Cert.Kernel12Ideal.nD Cert.Kernel12Ideal.τ).loc Cert.Kernel12Ideal.main_v1_1)) (v2 : (c : Dev Cert.Kernel12Ideal.nD) → Buf (Elt Ideal) ((c.tc : Thread Cert.Kernel12Ideal.nD Cert.Kernel12Ideal.τ).loc Cert.Kernel12Ideal.main_v1_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1_0) = v0 c
          ∧ r.2.mem ((c.tc : Thread Cert.Kernel12Ideal.nD Cert.Kernel12Ideal.τ).loc Cert.Kernel12Ideal.main_v1_1) = v1 c
          ∧ r.2.mem ((c.tc : Thread Cert.Kernel12Ideal.nD Cert.Kernel12Ideal.τ).loc Cert.Kernel12Ideal.main_v1_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v36) = v0 c
          ∧ r.2.mem ((c.tc : Thread Cert.Reference12Ideal.nD Cert.Reference12Ideal.τ).loc Cert.Reference12Ideal.main_v37) = v1 c
          ∧ r.2.mem ((c.tc : Thread Cert.Reference12Ideal.nD Cert.Reference12Ideal.τ).loc Cert.Reference12Ideal.main_v38) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v13) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v5)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v5) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v7) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v3) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  IdealRules.named_const.Statement Cert.Kernel22Ideal.κ "mask" .f32 0xF149F2CA#32 ⊥

def algebraic_Kernel22Ideal_Reference22Ideal_pre_finite_scores22 [hKernel22Ideal : Cert.Kernel22Ideal.Facts] [hReference22Ideal : Cert.Reference22Ideal.Facts] [hPre_finite_scores22 : Cert.Pre_finite_scores22.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal_finite_scores22 m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v26) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  IdealRules.named_const.Statement Cert.Kernel23Ideal.κ "mask" .f32 0xF149F2CA#32 ⊥

def algebraic_Kernel23Ideal_Reference23Ideal_pre_finite_scores23 [hKernel23Ideal : Cert.Kernel23Ideal.Facts] [hReference23Ideal : Cert.Reference23Ideal.Facts] [hPre_finite_scores23 : Cert.Pre_finite_scores23.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal_finite_scores23 m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v6)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v6) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v26) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal_pre_finite_weighted [hKernel24Ideal : Cert.Kernel24Ideal.Facts] [hReference24Ideal : Cert.Reference24Ideal.Facts] [hPre_finite_weighted : Cert.Pre_finite_weighted.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal_finite_weighted m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v2_0)) (v1 : (c : Dev Cert.Kernel24Ideal.nD) → Buf (Elt Ideal) ((c.tc : Thread Cert.Kernel24Ideal.nD Cert.Kernel24Ideal.τ).loc Cert.Kernel24Ideal.main_v2_1)) (v2 : (c : Dev Cert.Kernel24Ideal.nD) → Buf (Elt Ideal) ((c.tc : Thread Cert.Kernel24Ideal.nD Cert.Kernel24Ideal.τ).loc Cert.Kernel24Ideal.main_v2_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v2_0) = v0 c
          ∧ r.2.mem ((c.tc : Thread Cert.Kernel24Ideal.nD Cert.Kernel24Ideal.τ).loc Cert.Kernel24Ideal.main_v2_1) = v1 c
          ∧ r.2.mem ((c.tc : Thread Cert.Kernel24Ideal.nD Cert.Kernel24Ideal.τ).loc Cert.Kernel24Ideal.main_v2_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v57) = v0 c
          ∧ r.2.mem ((c.tc : Thread Cert.Reference24Ideal.nD Cert.Reference24Ideal.τ).loc Cert.Reference24Ideal.main_v58) = v1 c
          ∧ r.2.mem ((c.tc : Thread Cert.Reference24Ideal.nD Cert.Reference24Ideal.τ).loc Cert.Reference24Ideal.main_v59) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v2) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v2) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v1_0)) (v1 : (c : Dev Cert.Kernel26Ideal.nD) → Buf (Elt Ideal) ((c.tc : Thread Cert.Kernel26Ideal.nD Cert.Kernel26Ideal.τ).loc Cert.Kernel26Ideal.main_v1_1)) (v2 : (c : Dev Cert.Kernel26Ideal.nD) → Buf (Elt Ideal) ((c.tc : Thread Cert.Kernel26Ideal.nD Cert.Kernel26Ideal.τ).loc Cert.Kernel26Ideal.main_v1_2)) (v3 : (c : Dev Cert.Kernel26Ideal.nD) → Buf (Elt Ideal) ((c.tc : Thread Cert.Kernel26Ideal.nD Cert.Kernel26Ideal.τ).loc Cert.Kernel26Ideal.main_v1_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v1_0) = v0 c
          ∧ r.2.mem ((c.tc : Thread Cert.Kernel26Ideal.nD Cert.Kernel26Ideal.τ).loc Cert.Kernel26Ideal.main_v1_1) = v1 c
          ∧ r.2.mem ((c.tc : Thread Cert.Kernel26Ideal.nD Cert.Kernel26Ideal.τ).loc Cert.Kernel26Ideal.main_v1_2) = v2 c
          ∧ r.2.mem ((c.tc : Thread Cert.Kernel26Ideal.nD Cert.Kernel26Ideal.τ).loc Cert.Kernel26Ideal.main_v1_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v62) = v0 c
          ∧ r.2.mem ((c.tc : Thread Cert.Reference26Ideal.nD Cert.Reference26Ideal.τ).loc Cert.Reference26Ideal.main_v63) = v1 c
          ∧ r.2.mem ((c.tc : Thread Cert.Reference26Ideal.nD Cert.Reference26Ideal.τ).loc Cert.Reference26Ideal.main_v49) = v2 c
          ∧ r.2.mem ((c.tc : Thread Cert.Reference26Ideal.nD Cert.Reference26Ideal.τ).loc Cert.Reference26Ideal.main_v64) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hPre_finite_scores : Cert.Pre_finite_scores.Facts) (hPre_finite_scores2 : Cert.Pre_finite_scores2.Facts) (hPre_finite_product : Cert.Pre_finite_product.Facts) (hPre_finite_scores22 : Cert.Pre_finite_scores22.Facts) (hPre_finite_scores23 : Cert.Pre_finite_scores23.Facts) (hPre_finite_weighted : Cert.Pre_finite_weighted.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Kernel2Ideal_pre_finite_scores2 (hKernel2Ideal := hKernel2Ideal) (hPre_finite_scores2 := hPre_finite_scores2)
    ∧ quiescent_Reference2Ideal (hReference2Ideal := hReference2Ideal)
    ∧ quiescent_Reference2Ideal_pre_finite_scores2 (hReference2Ideal := hReference2Ideal) (hPre_finite_scores2 := hPre_finite_scores2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_product (hKernel5Ideal := hKernel5Ideal) (hPre_finite_product := hPre_finite_product)
    ∧ quiescent_Reference5Ideal (hReference5Ideal := hReference5Ideal)
    ∧ quiescent_Reference5Ideal_pre_finite_product (hReference5Ideal := hReference5Ideal) (hPre_finite_product := hPre_finite_product)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Kernel22Ideal_pre_finite_scores22 (hKernel22Ideal := hKernel22Ideal) (hPre_finite_scores22 := hPre_finite_scores22)
    ∧ quiescent_Reference22Ideal (hReference22Ideal := hReference22Ideal)
    ∧ quiescent_Reference22Ideal_pre_finite_scores22 (hReference22Ideal := hReference22Ideal) (hPre_finite_scores22 := hPre_finite_scores22)
    ∧ quiescent_Kernel23 (hKernel23 := hKernel23)
    ∧ quiescent_Kernel23Ideal (hKernel23Ideal := hKernel23Ideal)
    ∧ quiescent_Kernel23Ideal_pre_finite_scores23 (hKernel23Ideal := hKernel23Ideal) (hPre_finite_scores23 := hPre_finite_scores23)
    ∧ quiescent_Reference23Ideal (hReference23Ideal := hReference23Ideal)
    ∧ quiescent_Reference23Ideal_pre_finite_scores23 (hReference23Ideal := hReference23Ideal) (hPre_finite_scores23 := hPre_finite_scores23)
    ∧ quiescent_Kernel24 (hKernel24 := hKernel24)
    ∧ quiescent_Kernel24Ideal (hKernel24Ideal := hKernel24Ideal)
    ∧ quiescent_Kernel24Ideal_pre_finite_weighted (hKernel24Ideal := hKernel24Ideal) (hPre_finite_weighted := hPre_finite_weighted)
    ∧ quiescent_Reference24Ideal (hReference24Ideal := hReference24Ideal)
    ∧ quiescent_Reference24Ideal_pre_finite_weighted (hReference24Ideal := hReference24Ideal) (hPre_finite_weighted := hPre_finite_weighted)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal_pre_finite_scores2 (hKernel2Ideal := hKernel2Ideal) (hReference2Ideal := hReference2Ideal) (hPre_finite_scores2 := hPre_finite_scores2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_product (hKernel5Ideal := hKernel5Ideal) (hReference5Ideal := hReference5Ideal) (hPre_finite_product := hPre_finite_product)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal_pre_finite_scores22 (hKernel22Ideal := hKernel22Ideal) (hReference22Ideal := hReference22Ideal) (hPre_finite_scores22 := hPre_finite_scores22)
    ∧ preserves_Kernel23_Kernel23Ideal
    ∧ algebraic_Kernel23Ideal_Reference23Ideal_pre_finite_scores23 (hKernel23Ideal := hKernel23Ideal) (hReference23Ideal := hReference23Ideal) (hPre_finite_scores23 := hPre_finite_scores23)
    ∧ preserves_Kernel24_Kernel24Ideal
    ∧ algebraic_Kernel24Ideal_Reference24Ideal_pre_finite_weighted (hKernel24Ideal := hKernel24Ideal) (hReference24Ideal := hReference24Ideal) (hPre_finite_weighted := hPre_finite_weighted)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
-- ==== Pre_finite_product.lean ====
abbrev S4352x5632 : Shape := ⟨2, ![4352, 5632]⟩
abbrev S_ : Shape := ⟨0, ![]⟩

class Facts : Prop where
  bitsLt_bf16_f32 : FTy.bits .bf16 < FTy.bits .f32
  bcast_S_S4352x5632 : S_.BroadcastsInDim S4352x5632 (![] : Fin 0 → Fin S4352x5632.rank)
  reducesTo_S4352x5632_S_d0_1 : S4352x5632.ReducesTo [0, 1] S_
  h_S_ : 0 < S_.numel

variable [Facts]

def fn {F : FTy → Type} [FloatOps F] (main_arg0 : FVec F S4352x5632 .bf16) (main_arg1 : FVec F S4352x5632 .bf16) (main_arg2 : FVec F S4352x5632 .f32) : IVec S_ 1 :=
  let main_v0 : FVec F S4352x5632 .f32 := (extf .f32 · bitsLt_bf16_f32) main_arg1
  let main_v1 : FVec F S4352x5632 .f32 := mulf main_v0 main_arg2
  let main_v2 : FVec F S4352x5632 .f32 := Host.absf main_v1
  let main_cst : FVec F S_ .f32 := constant S_ .f32 0x7F800000#32
  let main_v3 : FVec F S4352x5632 .f32 := broadcastInDim S4352x5632 ![] bcast_S_S4352x5632 main_cst
  let main_v4 : IVec S4352x5632 1 := cmpf .olt main_v2 main_v3
  let main_c : IVec S_ 1 := constantI S_ 1 1#1
  let main_v5 : IVec S_ 1 := (fun x v => Host.reduce IntOp.andi x v reducesTo_S4352x5632_S_d0_1 h_S_) main_v4 main_c
  main_v5
-- ==== Pre_finite_scores.lean ====
abbrev S4352x1024 : Shape := ⟨2, ![4352, 1024]⟩
abbrev S4352x256 : Shape := ⟨2, ![4352, 256]⟩
abbrev S2x2064x1024 : Shape := ⟨3, ![2, 2064, 1024]⟩
abbrev S_ : Shape := ⟨0, ![]⟩

class Facts : Prop where
  bcast_S_S4352x1024 : S_.BroadcastsInDim S4352x1024 (![] : Fin 0 → Fin S4352x1024.rank)
  reducesTo_S4352x1024_S_d0_1 : S4352x1024.ReducesTo [0, 1] S_
  h_S_ : 0 < S_.numel
  bcast_S_S4352x256 : S_.BroadcastsInDim S4352x256 (![] : Fin 0 → Fin S4352x256.rank)
  reducesTo_S4352x256_S_d0_1 : S4352x256.ReducesTo [0, 1] S_

variable [Facts]

def fn {F : FTy → Type} [FloatOps F] (main_arg0 : FVec F S4352x1024 .bf16) (main_arg1 : FVec F S4352x256 .bf16) (main_arg2 : FVec F S4352x256 .bf16) (main_arg3 : FVec F S2x2064x1024 .bf16) : IVec S_ 1 :=
  let main_v0 : FVec F S4352x1024 .bf16 := Host.absf main_arg0
  let main_cst : FVec F S_ .bf16 := constant S_ .bf16 0x7F80#16
  let main_v1 : FVec F S4352x1024 .bf16 := broadcastInDim S4352x1024 ![] bcast_S_S4352x1024 main_cst
  let main_v2 : IVec S4352x1024 1 := cmpf .olt main_v0 main_v1
  let main_c : IVec S_ 1 := constantI S_ 1 1#1
  let main_v3 : IVec S_ 1 := (fun x v => Host.reduce IntOp.andi x v reducesTo_S4352x1024_S_d0_1 h_S_) main_v2 main_c
  let main_v4 : FVec F S4352x256 .bf16 := Host.absf main_arg1
  let main_cst_0 : FVec F S_ .bf16 := constant S_ .bf16 0x7F80#16
  let main_v5 : FVec F S4352x256 .bf16 := broadcastInDim S4352x256 ![] bcast_S_S4352x256 main_cst_0
  let main_v6 : IVec S4352x256 1 := cmpf .olt main_v4 main_v5
  let main_c_1 : IVec S_ 1 := constantI S_ 1 1#1
  let main_v7 : IVec S_ 1 := (fun x v => Host.reduce IntOp.andi x v reducesTo_S4352x256_S_d0_1 h_S_) main_v6 main_c_1
  let main_v8 : IVec S_ 1 := andi main_v3 main_v7
  main_v8
-- ==== Pre_finite_scores2.lean ====
abbrev S4352x1536 : Shape := ⟨2, ![4352, 1536]⟩
abbrev S4352x1024 : Shape := ⟨2, ![4352, 1024]⟩
abbrev S2x2064x1024 : Shape := ⟨3, ![2, 2064, 1024]⟩
abbrev S_ : Shape := ⟨0, ![]⟩

class Facts : Prop where
  bcast_S_S4352x1536 : S_.BroadcastsInDim S4352x1536 (![] : Fin 0 → Fin S4352x1536.rank)
  reducesTo_S4352x1536_S_d0_1 : S4352x1536.ReducesTo [0, 1] S_
  h_S_ : 0 < S_.numel

variable [Facts]

def fn {F : FTy → Type} [FloatOps F] (main_arg0 : FVec F S4352x1536 .bf16) (main_arg1 : FVec F S4352x1536 .bf16) (main_arg2 : FVec F S4352x1024 .bf16) (main_arg3 : FVec F S2x2064x1024 .bf16) : IVec S_ 1 :=
  let main_v0 : FVec F S4352x1536 .bf16 := Host.absf main_arg0
  let main_cst : FVec F S_ .bf16 := constant S_ .bf16 0x7F80#16
  let main_v1 : FVec F S4352x1536 .bf16 := broadcastInDim S4352x1536 ![] bcast_S_S4352x1536 main_cst
  let main_v2 : IVec S4352x1536 1 := cmpf .olt main_v0 main_v1
  let main_c : IVec S_ 1 := constantI S_ 1 1#1
  let main_v3 : IVec S_ 1 := (fun x v => Host.reduce IntOp.andi x v reducesTo_S4352x1536_S_d0_1 h_S_) main_v2 main_c
  let main_v4 : FVec F S4352x1536 .bf16 := Host.absf main_arg1
  let main_cst_0 : FVec F S_ .bf16 := constant S_ .bf16 0x7F80#16
  let main_v5 : FVec F S4352x1536 .bf16 := broadcastInDim S4352x1536 ![] bcast_S_S4352x1536 main_cst_0
  let main_v6 : IVec S4352x1536 1 := cmpf .olt main_v4 main_v5
  let main_c_1 : IVec S_ 1 := constantI S_ 1 1#1
  let main_v7 : IVec S_ 1 := (fun x v => Host.reduce IntOp.andi x v reducesTo_S4352x1536_S_d0_1 h_S_) main_v6 main_c_1
  let main_v8 : IVec S_ 1 := andi main_v3 main_v7
  main_v8
-- ==== Pre_finite_scores22.lean ====
abbrev S4352x1024 : Shape := ⟨2, ![4352, 1024]⟩
abbrev S4352x256 : Shape := ⟨2, ![4352, 256]⟩
abbrev S_ : Shape := ⟨0, ![]⟩

class Facts : Prop where
  bcast_S_S4352x1024 : S_.BroadcastsInDim S4352x1024 (![] : Fin 0 → Fin S4352x1024.rank)
  reducesTo_S4352x1024_S_d0_1 : S4352x1024.ReducesTo [0, 1] S_
  h_S_ : 0 < S_.numel
  bcast_S_S4352x256 : S_.BroadcastsInDim S4352x256 (![] : Fin 0 → Fin S4352x256.rank)
  reducesTo_S4352x256_S_d0_1 : S4352x256.ReducesTo [0, 1] S_

variable [Facts]

def fn {F : FTy → Type} [FloatOps F] (main_arg0 : FVec F S4352x1024 .bf16) (main_arg1 : FVec F S4352x256 .bf16) (main_arg2 : FVec F S4352x256 .bf16) : IVec S_ 1 :=
  let main_v0 : FVec F S4352x1024 .bf16 := Host.absf main_arg0
  let main_cst : FVec F S_ .bf16 := constant S_ .bf16 0x7F80#16
  let main_v1 : FVec F S4352x1024 .bf16 := broadcastInDim S4352x1024 ![] bcast_S_S4352x1024 main_cst
  let main_v2 : IVec S4352x1024 1 := cmpf .olt main_v0 main_v1
  let main_c : IVec S_ 1 := constantI S_ 1 1#1
  let main_v3 : IVec S_ 1 := (fun x v => Host.reduce IntOp.andi x v reducesTo_S4352x1024_S_d0_1 h_S_) main_v2 main_c
  let main_v4 : FVec F S4352x256 .bf16 := Host.absf main_arg1
  let main_cst_0 : FVec F S_ .bf16 := constant S_ .bf16 0x7F80#16
  let main_v5 : FVec F S4352x256 .bf16 := broadcastInDim S4352x256 ![] bcast_S_S4352x256 main_cst_0
  let main_v6 : IVec S4352x256 1 := cmpf .olt main_v4 main_v5
  let main_c_1 : IVec S_ 1 := constantI S_ 1 1#1
  let main_v7 : IVec S_ 1 := (fun x v => Host.reduce IntOp.andi x v reducesTo_S4352x256_S_d0_1 h_S_) main_v6 main_c_1
  let main_v8 : IVec S_ 1 := andi main_v3 main_v7
  main_v8
-- ==== Pre_finite_scores23.lean ====
abbrev S4352x1536 : Shape := ⟨2, ![4352, 1536]⟩
abbrev S4352x1024 : Shape := ⟨2, ![4352, 1024]⟩
abbrev S_ : Shape := ⟨0, ![]⟩

class Facts : Prop where
  bcast_S_S4352x1536 : S_.BroadcastsInDim S4352x1536 (![] : Fin 0 → Fin S4352x1536.rank)
  reducesTo_S4352x1536_S_d0_1 : S4352x1536.ReducesTo [0, 1] S_
  h_S_ : 0 < S_.numel

variable [Facts]

def fn {F : FTy → Type} [FloatOps F] (main_arg0 : FVec F S4352x1536 .bf16) (main_arg1 : FVec F S4352x1536 .bf16) (main_arg2 : FVec F S4352x1024 .bf16) : IVec S_ 1 :=
  let main_v0 : FVec F S4352x1536 .bf16 := Host.absf main_arg0
  let main_cst : FVec F S_ .bf16 := constant S_ .bf16 0x7F80#16
  let main_v1 : FVec F S4352x1536 .bf16 := broadcastInDim S4352x1536 ![] bcast_S_S4352x1536 main_cst
  let main_v2 : IVec S4352x1536 1 := cmpf .olt main_v0 main_v1
  let main_c : IVec S_ 1 := constantI S_ 1 1#1
  let main_v3 : IVec S_ 1 := (fun x v => Host.reduce IntOp.andi x v reducesTo_S4352x1536_S_d0_1 h_S_) main_v2 main_c
  let main_v4 : FVec F S4352x1536 .bf16 := Host.absf main_arg1
  let main_cst_0 : FVec F S_ .bf16 := constant S_ .bf16 0x7F80#16
  let main_v5 : FVec F S4352x1536 .bf16 := broadcastInDim S4352x1536 ![] bcast_S_S4352x1536 main_cst_0
  let main_v6 : IVec S4352x1536 1 := cmpf .olt main_v4 main_v5
  let main_c_1 : IVec S_ 1 := constantI S_ 1 1#1
  let main_v7 : IVec S_ 1 := (fun x v => Host.reduce IntOp.andi x v reducesTo_S4352x1536_S_d0_1 h_S_) main_v6 main_c_1
  let main_v8 : IVec S_ 1 := andi main_v3 main_v7
  main_v8
-- ==== Pre_finite_weighted.lean ====
abbrev S4352x1024 : Shape := ⟨2, ![4352, 1024]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S4352x1024 : S_.BroadcastsInDim S4352x1024 (![] : Fin 0 → Fin S4352x1024.rank)
  reducesTo_S4352x1024_S_d0_1 : S4352x1024.ReducesTo [0, 1] S_

variable [Facts]

def fn {F : FTy → Type} [FloatOps F] (main_arg0 : FVec F S4352x1024 .f32) (main_arg1 : FVec F S1024 .f32) (main_arg2 : FVec F S1024 .f32) (main_arg3 : FVec F S4352x1024 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S4352x1024 .f32 := Host.absf main_arg3
  let main_cst_0 : FVec F S_ .f32 := constant S_ .f32 0x7F800000#32
  let main_v5 : FVec F S4352x1024 .f32 := broadcastInDim S4352x1024 ![] bcast_S_S4352x1024 main_cst_0
  let main_v6 : IVec S4352x1024 1 := cmpf .olt main_v4 main_v5
  let main_c_1 : IVec S_ 1 := constantI S_ 1 1#1
  let main_v7 : IVec S_ 1 := (fun x v => Host.reduce IntOp.andi x v reducesTo_S4352x1024_S_d0_1 h_S_) main_v6 main_c_1
  let main_v8 : IVec S_ 1 := andi main_v3 main_v7
  main_v8
-- ==== Kernel.lean ====
abbrev S4352x1024 : Shape := ⟨2, ![4352, 1024]⟩
abbrev S4352x256 : Shape := ⟨2, ![4352, 256]⟩
abbrev S2x2064x1024 : Shape := ⟨3, ![2, 2064, 1024]⟩
abbrev S_ : Shape := ⟨0, ![]⟩
abbrev S2x2176x1024 : Shape := ⟨3, ![2, 2176, 1024]⟩
abbrev S1088x128 : Shape := ⟨2, ![1088, 128]⟩
abbrev S2176x128 : Shape := ⟨2, ![2176, 128]⟩
abbrev S1088x2176 : Shape := ⟨2, ![1088, 2176]⟩
abbrev S1x2176 : Shape := ⟨2, ![1, 2176]⟩
abbrev S1088 : Shape := ⟨1, ![1088]⟩
abbrev S1088x1 : Shape := ⟨2, ![1088, 1]⟩

abbrev nBuf : Space → Nat
  | .hbm => 11
  | .vmem => 14
  | .smem => 0
  | _ => 0

abbrev bufTy : (tb : Table) → Fin (tcTables nBuf tb) → BufTy
  | .hbm, ⟨0, _⟩ => ⟨S4352x1024, .bf16⟩
  | .hbm, ⟨1, _⟩ => ⟨S4352x256, .bf16⟩
  | .hbm, ⟨2, _⟩ => ⟨S4352x256, .bf16⟩
  | .hbm, ⟨3, _⟩ => ⟨S2x2064x1024, .bf16⟩
  | .hbm, ⟨4, _⟩ => ⟨S_, .i32⟩
  | .hbm, ⟨5, _⟩ => ⟨S_, .bf16⟩
  | .hbm, ⟨6, _⟩ => ⟨S2x2176x1024, .bf16⟩
  | .hbm, ⟨7, _⟩ => ⟨S4352x1024, .bf16⟩
  | .hbm, ⟨8, _⟩ => ⟨S4352x1024, .f32⟩
  | .hbm, ⟨9, _⟩ => ⟨S4352x256, .f32⟩
  | .hbm, ⟨10, _⟩ => ⟨S4352x256, .f32⟩
  | .local _ .vmem, ⟨0, _⟩ => ⟨S1088x128, .bf16⟩
  | .local _ .vmem, ⟨1, _⟩ => ⟨S1088x128, .bf16⟩
  | .local _ .vmem, ⟨2, _⟩ => ⟨S2176x128, .bf16⟩
  | .local _ .vmem, ⟨3, _⟩ => ⟨S2176x128, .bf16⟩
  | .local _ .vmem, ⟨4, _⟩ => ⟨S2176x128, .bf16⟩
  | .local _ .vmem, ⟨5, _⟩ => ⟨S2176x128, .bf16⟩
  | .local _ .vmem, ⟨6, _⟩ => ⟨S1088x128, .bf16⟩
  | .local _ .vmem, ⟨7, _⟩ => ⟨S1088x128, .bf16⟩
  | .local _ .vmem, ⟨8, _⟩ => ⟨S1088x128, .f32⟩
  | .local _ .vmem, ⟨9, _⟩ => ⟨S1088x128, .f32⟩
  | .local _ .vmem, ⟨10, _⟩ => ⟨S2176x128, .f32⟩
  | .local _ .vmem, ⟨11, _⟩ => ⟨S2176x128, .f32⟩
  | .local _ .vmem, ⟨12, _⟩ => ⟨S2176x128, .f32⟩
  | .local _ .vmem, ⟨13, _⟩ => ⟨S2176x128, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨4, ![2, 2, 4, 2], ![false, false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let arg3 : BitVec 32 := BitVec.ofNat 32 (i 3).val
  let c0_i32_0 : BitVec 32 := 0#32
  let v1 : BitVec 1 := Scalar.cmpi .eq arg3 c0_i32_0
  let v2 : BitVec 1 := Scalar.andi v0 v1
  let v49 : BitVec 32 := Scalar.extui v2
  let c0_i32_21 : BitVec 32 := 0#32
  let v50 : BitVec 1 := Scalar.cmpi .ne v49 c0_i32_21
  v50

def k0_cond2 (i : grid0.Coords) : BitVec 1 :=
  let arg2 : BitVec 32 := BitVec.ofNat 32 (i 2).val
  let c0_i32 : BitVec 32 := 0#32
  let v0 : BitVec 1 := Scalar.cmpi .eq arg2 c0_i32
  let arg3 : BitVec 32 := BitVec.ofNat 32 (i 3).val
  let c0_i32_0 : BitVec 32 := 0#32
  let v1 : BitVec 1 := Scalar.cmpi .eq arg3 c0_i32_0
  let v2 : BitVec 1 := Scalar.andi v0 v1
  let v_true : BitVec 1 := 1#1
  let v51 : BitVec 1 := Scalar.xori v2 v_true
  let v52 : BitVec 32 := Scalar.extui v51
  let c0_i32_22 : BitVec 32 := 0#32
  let v53 : BitVec 1 := Scalar.cmpi .ne v52 c0_i32_22
  v53

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg3
  let c4_i32 : BitVec 32 := 4#32
  let v2 : BitVec 32 := Scalar.muli arg1 c4_i32
  let v3 : BitVec 32 := Scalar.addi v2 arg2
  let c0_i32 : BitVec 32 := 0#32
  ![v1.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg3
  let c4_i32 : BitVec 32 := 4#32
  let v2 : BitVec 32 := Scalar.muli arg1 c4_i32
  let v3 : BitVec 32 := Scalar.addi v2 arg2
  let c0_i32 : BitVec 32 := 0#32
  ![v1.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg3
  let c4_i32 : BitVec 32 := 4#32
  let v2 : BitVec 32 := Scalar.muli arg1 c4_i32
  let v3 : BitVec 32 := Scalar.addi v2 arg2
  let c0_i32 : BitVec 32 := 0#32
  ![v1.toNat, v3.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1088x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, true]

abbrev stage0_1 : Fin 2 → Memref sig .tc .vmem S2176x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, false]

abbrev stage0_2 : Fin 2 → Memref sig .tc .vmem S2176x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 2 → Memref sig .tc .vmem S1088x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]

abbrev stage0_4 : Fin 2 → Memref sig .tc .vmem S1088x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, true]

abbrev stage0_5 : Fin 2 → Memref sig .tc .vmem S2176x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false, false]

abbrev stage0_6 : Fin 2 → Memref sig .tc .vmem S2176x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false, false]
-- ==== KernelIdeal.lean ====
variable {F : FTy → Type} [FloatOps F] [Named F]
def κ : String → Option EReal := fun
  | "mask" => some ⊥
  | _ => none
-- ==== ReferenceIdeal.lean ====
abbrev S4352x1024 : Shape := ⟨2, ![4352, 1024]⟩
abbrev S4352x256 : Shape := ⟨2, ![4352, 256]⟩
abbrev S2x2064x1024 : Shape := ⟨3, ![2, 2064, 1024]⟩
abbrev S2x2176x1024 : Shape := ⟨3, ![2, 2176, 1024]⟩
abbrev S2x2064x2x4x128 : Shape := ⟨5, ![2, 2064, 2, 4, 128]⟩
abbrev S2x2176x256 : Shape := ⟨3, ![2, 2176, 256]⟩
abbrev S2x2064x256 : Shape := ⟨3, ![2, 2064, 256]⟩
abbrev S2x2064x2x128 : Shape := ⟨4, ![2, 2064, 2, 128]⟩
abbrev S2x2x2064x2064x4 : Shape := ⟨5, ![2, 2, 2064, 2064, 4]⟩
abbrev S2x2x4x2064x2064 : Shape := ⟨5, ![2, 2, 4, 2064, 2064]⟩
abbrev S_ : Shape := ⟨0, ![]⟩
abbrev S2x2x4x2064 : Shape := ⟨4, ![2, 2, 4, 2064]⟩
abbrev S2x2x4x2064x1 : Shape := ⟨5, ![2, 2, 4, 2064, 1]⟩
abbrev S2x2x128x4x2064 : Shape := ⟨5, ![2, 2, 128, 4, 2064]⟩
abbrev S2x2x128x2064 : Shape := ⟨4, ![2, 2, 128, 2064]⟩
abbrev S2x2x2064x4x128 : Shape := ⟨5, ![2, 2, 2064, 4, 128]⟩
abbrev S2x2x2064x128 : Shape := ⟨4, ![2, 2, 2064, 128]⟩

abbrev nBuf : Space → Nat
  | .hbm => 102
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x256, .bf16⟩
  | .hbm, ⟨2, _⟩ => ⟨S4352x256, .bf16⟩
  | .hbm, ⟨3, _⟩ => ⟨S2x2064x1024, .bf16⟩
  | .hbm, ⟨4, _⟩ => ⟨S4352x1024, .f32⟩
  | .hbm, ⟨5, _⟩ => ⟨S4352x256, .f32⟩
  | .hbm, ⟨6, _⟩ => ⟨S4352x256, .f32⟩
  | .hbm, ⟨7, _⟩ => ⟨S2x2064x1024, .f32⟩
  | .hbm, ⟨8, _⟩ => ⟨S2x2176x1024, .f32⟩
  | .hbm, ⟨9, _⟩ => ⟨S2x2064x1024, .f32⟩
  | .hbm, ⟨10, _⟩ => ⟨S2x2064x2x4x128, .f32⟩
  | .hbm, ⟨11, _⟩ => ⟨S2x2176x256, .f32⟩
  | .hbm, ⟨12, _⟩ => ⟨S2x2064x256, .f32⟩
  | .hbm, ⟨13, _⟩ => ⟨S2x2064x2x128, .f32⟩
  | .hbm, ⟨14, _⟩ => ⟨S2x2176x256, .f32⟩
  | .hbm, ⟨15, _⟩ => ⟨S2x2064x256, .f32⟩
  | .hbm, ⟨16, _⟩ => ⟨S2x2064x2x128, .f32⟩
  | .hbm, ⟨17, _⟩ => ⟨S2x2x2064x2064x4, .f32⟩
  | .hbm, ⟨18, _⟩ => ⟨S2x2x4x2064x2064, .f32⟩
  | .hbm, ⟨19, _⟩ => ⟨S_, .f32⟩
  | .hbm, ⟨20, _⟩ => ⟨S2x2x4x2064x2064, .f32⟩
  | .hbm, ⟨21, _⟩ => ⟨S2x2x4x2064x2064, .f32⟩
  | .hbm, ⟨22, _⟩ => ⟨S_, .f32⟩
  | .hbm, ⟨23, _⟩ => ⟨S2x2x4x2064, .f32⟩
  | .hbm, ⟨24, _⟩ => ⟨S2x2x4x2064x1, .f32⟩
  | .hbm, ⟨25, _⟩ => ⟨S2x2x4x2064x2064, .f32⟩
  | .hbm, ⟨26, _⟩ => ⟨S2x2x4x2064x2064, .i1⟩
  | .hbm, ⟨27, _⟩ => ⟨S2x2x4x2064x2064, .f32⟩
  | .hbm, ⟨28, _⟩ => ⟨S_, .f32⟩
  | .hbm, ⟨29, _⟩ => ⟨S2x2x4x2064, .f32⟩
  | .hbm, ⟨30, _⟩ => ⟨S_, .f32⟩
  | .hbm, ⟨31, _⟩ => ⟨S2x2x4x2064, .f32⟩
  | .hbm, ⟨32, _⟩ => ⟨S2x2x4x2064, .f32⟩
  | .hbm, ⟨33, _⟩ => ⟨S_, .f32⟩
  | .hbm, ⟨34, _⟩ => ⟨S2x2x4x2064, .f32⟩
  | .hbm, ⟨35, _⟩ => ⟨S2x2x4x2064, .i1⟩
  | .hbm, ⟨36, _⟩ => ⟨S_, .f32⟩
  | .hbm, ⟨37, _⟩ => ⟨S2x2x4x2064, .f32⟩
  | .hbm, ⟨38, _⟩ => ⟨S2x2x4x2064, .i1⟩
  | .hbm, ⟨39, _⟩ => ⟨S_, .f32⟩
  | .hbm, ⟨40, _⟩ => ⟨S2x2x4x2064, .f32⟩
  | .hbm, ⟨41, _⟩ => ⟨S_, .f32⟩
  | .hbm, ⟨42, _⟩ => ⟨S2x2x4x2064, .f32⟩
  | .hbm, ⟨43, _⟩ => ⟨S_, .f32⟩
  | .hbm, ⟨44, _⟩ => ⟨S2x2x4x2064, .f32⟩
  | .hbm, ⟨45, _⟩ => ⟨S2x2x4x2064, .f32⟩
  | .hbm, ⟨46, _⟩ => ⟨S2x2x4x2064, .f32⟩
  | .hbm, ⟨47, _⟩ => ⟨S2x2x4x2064x1, .f32⟩
  | .hbm, ⟨48, _⟩ => ⟨S2x2x4x2064x2064, .f32⟩
  | .hbm, ⟨49, _⟩ => ⟨S2x2x4x2064x2064, .f32⟩
  | .hbm, ⟨50, _⟩ => ⟨S2x2x4x2064x2064, .f32⟩
  | .hbm, ⟨51, _⟩ => ⟨S_, .f32⟩
  | .hbm, ⟨52, _⟩ => ⟨S2x2x4x2064, .f32⟩
  | .hbm, ⟨53, _⟩ => ⟨S2x2x4x2064x1, .f32⟩
  | .hbm, ⟨54, _⟩ => ⟨S2x2x4x2064x2064, .f32⟩
  | .hbm, ⟨55, _⟩ => ⟨S2x2x4x2064x2064, .f32⟩
  | .hbm, ⟨56, _⟩ => ⟨S2x2x4x2064x1, .f32⟩
  | .hbm, ⟨57, _⟩ => ⟨S_, .f32⟩
  | .hbm, ⟨58, _⟩ => ⟨S2x2x4x2064x1, .f32⟩
  | .hbm, ⟨59, _⟩ => ⟨S2x2x4x2064x1, .f32⟩
  | .hbm, ⟨60, _⟩ => ⟨S2x2x128x4x2064, .f32⟩
  | .hbm, ⟨61, _⟩ => ⟨S2x2064x2x4x128, .f32⟩
  | .hbm, ⟨62, _⟩ => ⟨S2x2064x1024, .f32⟩
  | .hbm, ⟨63, _⟩ => ⟨S2x2064x2x4x128, .f32⟩
  | .hbm, ⟨64, _⟩ => ⟨S2x2x128x4x2064, .f32⟩
  | .hbm, ⟨65, _⟩ => ⟨S2x2x4x2064x2064, .f32⟩
  | .hbm, ⟨66, _⟩ => ⟨S2x2x128x2064, .f32⟩
  | .hbm, ⟨67, _⟩ => ⟨S2x2064x2x128, .f32⟩
  | .hbm, ⟨68, _⟩ => ⟨S2x2x4x2064x2064, .f32⟩
  | .hbm, ⟨69, _⟩ => ⟨S2x2x4x2064x2064, .f32⟩
  | .hbm, ⟨70, _⟩ => ⟨S2x2x4x2064x2064, .f32⟩
  | .hbm, ⟨71, _⟩ => ⟨S_, .f32⟩
  | .hbm, ⟨72, _⟩ => ⟨S2x2x4x2064, .f32⟩
  | .hbm, ⟨73, _⟩ => ⟨S2x2x4x2064x1, .f32⟩
  | .hbm, ⟨74, _⟩ => ⟨S2x2x4x2064x1, .f32⟩
  | .hbm, ⟨75, _⟩ => ⟨S2x2x4x2064x2064, .f32⟩
  | .hbm, ⟨76, _⟩ => ⟨S2x2x4x2064x2064, .f32⟩
  | .hbm, ⟨77, _⟩ => ⟨S_, .f32⟩
  | .hbm, ⟨78, _⟩ => ⟨S2x2x4x2064, .f32⟩
  | .hbm, ⟨79, _⟩ => ⟨S2x2x4x2064x2064, .f32⟩
  | .hbm, ⟨80, _⟩ => ⟨S2x2x4x2064x2064, .f32⟩
  | .hbm, ⟨81, _⟩ => ⟨S2x2x4x2064x2064, .f32⟩
  | .hbm, ⟨82, _⟩ => ⟨S_, .f32⟩
  | .hbm, ⟨83, _⟩ => ⟨S2x2x4x2064x2064, .f32⟩
  | .hbm, ⟨84, _⟩ => ⟨S2x2x4x2064x2064, .f32⟩
  | .hbm, ⟨85, _⟩ => ⟨S2x2x2064x2064x4, .f32⟩
  | .hbm, ⟨86, _⟩ => ⟨S2x2x2064x4x128, .f32⟩
  | .hbm, ⟨87, _⟩ => ⟨S2x2064x2x4x128, .f32⟩
  | .hbm, ⟨88, _⟩ => ⟨S2x2x2064x128, .f32⟩
  | .hbm, ⟨89, _⟩ => ⟨S2x2064x2x128, .f32⟩
  | .hbm, ⟨90, _⟩ => ⟨S2x2064x256, .f32⟩
  | .hbm, ⟨91, _⟩ => ⟨S_, .f32⟩
  | .hbm, ⟨92, _⟩ => ⟨S2x2176x256, .f32⟩
  | .hbm, ⟨93, _⟩ => ⟨S4352x256, .f32⟩
  | .hbm, ⟨94, _⟩ => ⟨S2x2064x256, .f32⟩
  | .hbm, ⟨95, _⟩ => ⟨S_, .f32⟩
  | .hbm, ⟨96, _⟩ => ⟨S2x2176x256, .f32⟩
  | .hbm, ⟨97, _⟩ => ⟨S4352x256, .f32⟩
  | .hbm, ⟨98, _⟩ => ⟨S2x2064x1024, .f32⟩
  | .hbm, ⟨99, _⟩ => ⟨S_, .f32⟩
  | .hbm, ⟨100, _⟩ => ⟨S2x2176x1024, .f32⟩
  | .hbm, ⟨101, _⟩ => ⟨S4352x1024, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_8 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_9 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_10 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_11 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_12 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_13 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_14 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_cst_15 : Ref sig .tc := ⟨.hbm, 99, rfl⟩
abbrev main_v79 : Ref sig .tc := ⟨.hbm, 100, rfl⟩
abbrev main_v80 : Ref sig .tc := ⟨.hbm, 101, rfl⟩

abbrev nD : Nat := 1
abbrev τ : Topo := Topo.v7x

variable {F : FTy → Type} [FloatOps F]
-- ==== Kernel2.lean ====
abbrev S4352x1536 : Shape := ⟨2, ![4352, 1536]⟩
abbrev S4352x1024 : Shape := ⟨2, ![4352, 1024]⟩
abbrev S2x2064x1024 : Shape := ⟨3, ![2, 2064, 1024]⟩
abbrev S4352x8x192 : Shape := ⟨3, ![4352, 8, 192]⟩
abbrev S_ : Shape := ⟨0, ![]⟩
abbrev S4352x8x256 : Shape := ⟨3, ![4352, 8, 256]⟩
abbrev S4352x2048 : Shape := ⟨2, ![4352, 2048]⟩
abbrev S2x2176x1024 : Shape := ⟨3, ![2, 2176, 1024]⟩
abbrev S1088x256 : Shape := ⟨2, ![1088, 256]⟩
abbrev S2176x256 : Shape := ⟨2, ![2176, 256]⟩
abbrev S2176x128 : Shape := ⟨2, ![2176, 128]⟩
abbrev S1088x128 : Shape := ⟨2, ![1088, 128]⟩
abbrev S1088x2176 : Shape := ⟨2, ![1088, 2176]⟩
abbrev S1x2176 : Shape := ⟨2, ![1, 2176]⟩
abbrev S1088 : Shape := ⟨1, ![1088]⟩
abbrev S1088x1 : Shape := ⟨2, ![1088, 1]⟩

abbrev nBuf : Space → Nat
  | .hbm => 21
  | .vmem => 14
  | .smem => 0
  | _ => 0

abbrev bufTy : (tb : Table) → Fin (tcTables nBuf tb) → BufTy
  | .hbm, ⟨0, _⟩ => ⟨S4352x1536, .bf16⟩
  | .hbm, ⟨1, _⟩ => ⟨S4352x1536, .bf16⟩
  | .hbm, ⟨2, _⟩ => ⟨S4352x1024, .bf16⟩
  | .hbm, ⟨3, _⟩ => ⟨S2x2064x1024, .bf16⟩
  | .hbm, ⟨4, _⟩ => ⟨S4352x8x192, .bf16⟩
  | .hbm, ⟨5, _⟩ => ⟨S_, .i32⟩
  | .hbm, ⟨6, _⟩ => ⟨S_, .bf16⟩
  | .hbm, ⟨7, _⟩ => ⟨S4352x8x256, .bf16⟩
  | .hbm, ⟨8, _⟩ => ⟨S4352x2048, .bf16⟩
  | .hbm, ⟨9, _⟩ => ⟨S4352x8x192, .bf16⟩
  | .hbm, ⟨10, _⟩ => ⟨S_, .i32⟩
  | .hbm, ⟨11, _⟩ => ⟨S_, .bf16⟩
  | .hbm, ⟨12, _⟩ => ⟨S4352x8x256, .bf16⟩
  | .hbm, ⟨13, _⟩ => ⟨S4352x2048, .bf16⟩
  | .hbm, ⟨14, _⟩ => ⟨S_, .i32⟩
  | .hbm, ⟨15, _⟩ => ⟨S_, .bf16⟩
  | .hbm, ⟨16, _⟩ => ⟨S2x2176x1024, .bf16⟩
  | .hbm, ⟨17, _⟩ => ⟨S4352x1024, .bf16⟩
  | .hbm, ⟨18, _⟩ => ⟨S4352x2048, .f32⟩
  | .hbm, ⟨19, _⟩ => ⟨S4352x2048, .f32⟩
  | .hbm, ⟨20, _⟩ => ⟨S4352x1024, .f32⟩
  | .local _ .vmem, ⟨0, _⟩ => ⟨S1088x256, .bf16⟩
  | .local _ .vmem, ⟨1, _⟩ => ⟨S1088x256, .bf16⟩
  | .local _ .vmem, ⟨2, _⟩ => ⟨S2176x256, .bf16⟩
  | .local _ .vmem, ⟨3, _⟩ => ⟨S2176x256, .bf16⟩
  | .local _ .vmem, ⟨4, _⟩ => ⟨S2176x128, .bf16⟩
  | .local _ .vmem, ⟨5, _⟩ => ⟨S2176x128, .bf16⟩
  | .local _ .vmem, ⟨6, _⟩ => ⟨S1088x128, .bf16⟩
  | .local _ .vmem, ⟨7, _⟩ => ⟨S1088x128, .bf16⟩
  | .local _ .vmem, ⟨8, _⟩ => ⟨S1088x256, .f32⟩
  | .local _ .vmem, ⟨9, _⟩ => ⟨S1088x256, .f32⟩
  | .local _ .vmem, ⟨10, _⟩ => ⟨S2176x256, .f32⟩
  | .local _ .vmem, ⟨11, _⟩ => ⟨S2176x256, .f32⟩
  | .local _ .vmem, ⟨12, _⟩ => ⟨S2176x128, .f32⟩
  | .local _ .vmem, ⟨13, _⟩ => ⟨S2176x128, .f32⟩
  | _, _ => ⟨S4352x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_call2_v0 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨4, ![2, 8, 1, 2], ![false, false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let arg3 : BitVec 32 := BitVec.ofNat 32 (i 3).val
  let c0_i32_0 : BitVec 32 := 0#32
  let v1 : BitVec 1 := Scalar.cmpi .eq arg3 c0_i32_0
  let v2 : BitVec 1 := Scalar.andi v0 v1
  let v51 : BitVec 32 := Scalar.extui v2
  let c0_i32_21 : BitVec 32 := 0#32
  let v52 : BitVec 1 := Scalar.cmpi .ne v51 c0_i32_21
  v52

def k0_cond2 (i : grid0.Coords) : BitVec 1 :=
  let arg2 : BitVec 32 := BitVec.ofNat 32 (i 2).val
  let c0_i32 : BitVec 32 := 0#32
  let v0 : BitVec 1 := Scalar.cmpi .eq arg2 c0_i32
  let arg3 : BitVec 32 := BitVec.ofNat 32 (i 3).val
  let c0_i32_0 : BitVec 32 := 0#32
  let v1 : BitVec 1 := Scalar.cmpi .eq arg3 c0_i32_0
  let v2 : BitVec 1 := Scalar.andi v0 v1
  let v_true : BitVec 1 := 1#1
  let v53 : BitVec 1 := Scalar.xori v2 v_true
  let v54 : BitVec 32 := Scalar.extui v53
  let c0_i32_22 : BitVec 32 := 0#32
  let v55 : BitVec 1 := Scalar.cmpi .ne v54 c0_i32_22
  v55

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg3
  let c1_i32 : BitVec 32 := 1#32
  let v2 : BitVec 32 := Scalar.muli arg1 c1_i32
  let v3 : BitVec 32 := Scalar.addi v2 arg2
  let c0_i32 : BitVec 32 := 0#32
  ![v1.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg3
  let c1_i32 : BitVec 32 := 1#32
  let v2 : BitVec 32 := Scalar.muli arg1 c1_i32
  let v3 : BitVec 32 := Scalar.addi v2 arg2
  let c0_i32 : BitVec 32 := 0#32
  ![v1.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg3
  let c1_i32 : BitVec 32 := 1#32
  let v2 : BitVec 32 := Scalar.muli arg1 c1_i32
  let v3 : BitVec 32 := Scalar.addi v2 arg2
  let c0_i32 : BitVec 32 := 0#32
  ![v1.toNat, v3.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1088x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, true]

abbrev stage0_1 : Fin 2 → Memref sig .tc .vmem S2176x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, false]

abbrev stage0_2 : Fin 2 → Memref sig .tc .vmem S2176x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 2 → Memref sig .tc .vmem S1088x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]

abbrev stage0_4 : Fin 2 → Memref sig .tc .vmem S1088x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, true]

abbrev stage0_5 : Fin 2 → Memref sig .tc .vmem S2176x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false, false]

abbrev stage0_6 : Fin 2 → Memref sig .tc .vmem S2176x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false, false]
-- ==== Kernel2Ideal.lean ====
variable {F : FTy → Type} [FloatOps F] [Named F]
def κ : String → Option EReal := fun
  | "mask" => some ⊥
  | _ => none
-- ==== Reference2Ideal.lean ====
abbrev S4352x1536 : Shape := ⟨2, ![4352, 1536]⟩
abbrev S4352x1024 : Shape := ⟨2, ![4352, 1024]⟩
abbrev S2x2064x1024 : Shape := ⟨3, ![2, 2064, 1024]⟩
abbrev S2x2176x1536 : Shape := ⟨3, ![2, 2176, 1536]⟩
abbrev S2x2064x1536 : Shape := ⟨3, ![2, 2064, 1536]⟩
abbrev S2x2064x8x1x192 : Shape := ⟨5, ![2, 2064, 8, 1, 192]⟩
abbrev S2x2064x8x192 : Shape := ⟨4, ![2, 2064, 8, 192]⟩
abbrev S2x2176x1024 : Shape := ⟨3, ![2, 2176, 1024]⟩
abbrev S2x2064x8x128 : Shape := ⟨4, ![2, 2064, 8, 128]⟩
abbrev S2x8x2064x2064x1 : Shape := ⟨5, ![2, 8, 2064, 2064, 1]⟩
abbrev S2x8x1x2064x2064 : Shape := ⟨5, ![2, 8, 1, 2064, 2064]⟩
abbrev S_ : Shape := ⟨0, ![]⟩
abbrev S2x8x1x2064 : Shape := ⟨4, ![2, 8, 1, 2064]⟩
abbrev S2x8x1x2064x1 : Shape := ⟨5, ![2, 8, 1, 2064, 1]⟩
abbrev S2x8x128x1x2064 : Shape := ⟨5, ![2, 8, 128, 1, 2064]⟩
abbrev S2x2064x8x1x128 : Shape := ⟨5, ![2, 2064, 8, 1, 128]⟩
abbrev S2x8x128x2064 : Shape := ⟨4, ![2, 8, 128, 2064]⟩
abbrev S2x8x2064 : Shape := ⟨3, ![2, 8, 2064]⟩
abbrev S2x8x2064x1x192 : Shape := ⟨5, ![2, 8, 2064, 1, 192]⟩
abbrev S2x8x2064x192 : Shape := ⟨4, ![2, 8, 2064, 192]⟩
abbrev S4352x8x192 : Shape := ⟨3, ![4352, 8, 192]⟩
abbrev S4352x8x256 : Shape := ⟨3, ![4352, 8, 256]⟩
abbrev S4352x2048 : Shape := ⟨2, ![4352, 2048]⟩

abbrev nBuf : Space → Nat
  | .hbm => 113
  | .vmem => 0
  | .smem => 0
  | _ => 0

abbrev bufTy : (tb : Table) → Fin (tcTables nBuf tb) → BufTy
  | .hbm, ⟨0, _⟩ => ⟨S4352x1536, .bf16⟩
  | .hbm, ⟨1, _⟩ => ⟨S4352x1536, .bf16⟩
  | .hbm, ⟨2, _⟩ => ⟨S4352x1024, .bf16⟩
  | .hbm, ⟨3, _⟩ => ⟨S2x2064x1024, .bf16⟩
  | .hbm, ⟨4, _⟩ => ⟨S4352x1536, .f32⟩
  | .hbm, ⟨5, _⟩ => ⟨S4352x1536, .f32⟩
  | .hbm, ⟨6, _⟩ => ⟨S4352x1024, .f32⟩
  | .hbm, ⟨7, _⟩ => ⟨S2x2064x1024, .f32⟩
  | .hbm, ⟨8, _⟩ => ⟨S2x2176x1536, .f32⟩
  | .hbm, ⟨9, _⟩ => ⟨S2x2064x1536, .f32⟩
  | .hbm, ⟨10, _⟩ => ⟨S2x2064x8x1x192, .f32⟩
  | .hbm, ⟨11, _⟩ => ⟨S2x2176x1536, .f32⟩
  | .hbm, ⟨12, _⟩ => ⟨S2x2064x1536, .f32⟩
  | .hbm, ⟨13, _⟩ => ⟨S2x2064x8x192, .f32⟩
  | .hbm, ⟨14, _⟩ => ⟨S2x2176x1024, .f32⟩
  | .hbm, ⟨15, _⟩ => ⟨S2x2064x1024, .f32⟩
  | .hbm, ⟨16, _⟩ => ⟨S2x2064x8x128, .f32⟩
  | .hbm, ⟨17, _⟩ => ⟨S2x8x2064x2064x1, .f32⟩
  | .hbm, ⟨18, _⟩ => ⟨S2x8x1x2064x2064, .f32⟩
  | .hbm, ⟨19, _⟩ => ⟨S_, .f32⟩
  | .hbm, ⟨20, _⟩ => ⟨S2x8x1x2064x2064, .f32⟩
  | .hbm, ⟨21, _⟩ => ⟨S2x8x1x2064x2064, .f32⟩
  | .hbm, ⟨22, _⟩ => ⟨S_, .f32⟩
  | .hbm, ⟨23, _⟩ => ⟨S2x8x1x2064, .f32⟩
  | .hbm, ⟨24, _⟩ => ⟨S2x8x1x2064x1, .f32⟩
  | .hbm, ⟨25, _⟩ => ⟨S2x8x1x2064x2064, .f32⟩
  | .hbm, ⟨26, _⟩ => ⟨S2x8x1x2064x2064, .i1⟩
  | .hbm, ⟨27, _⟩ => ⟨S2x8x1x2064x2064, .f32⟩
  | .hbm, ⟨28, _⟩ => ⟨S_, .f32⟩
  | .hbm, ⟨29, _⟩ => ⟨S2x8x1x2064, .f32⟩
  | .hbm, ⟨30, _⟩ => ⟨S_, .f32⟩
  | .hbm, ⟨31, _⟩ => ⟨S2x8x1x2064, .f32⟩
  | .hbm, ⟨32, _⟩ => ⟨S2x8x1x2064, .f32⟩
  | .hbm, ⟨33, _⟩ => ⟨S_, .f32⟩
  | .hbm, ⟨34, _⟩ => ⟨S2x8x1x2064, .f32⟩
  | .hbm, ⟨35, _⟩ => ⟨S2x8x1x2064, .i1⟩
  | .hbm, ⟨36, _⟩ => ⟨S_, .f32⟩
  | .hbm, ⟨37, _⟩ => ⟨S2x8x1x2064, .f32⟩
  | .hbm, ⟨38, _⟩ => ⟨S2x8x1x2064, .i1⟩
  | .hbm, ⟨39, _⟩ => ⟨S_, .f32⟩
  | .hbm, ⟨40, _⟩ => ⟨S2x8x1x2064, .f32⟩
  | .hbm, ⟨41, _⟩ => ⟨S_, .f32⟩
  | .hbm, ⟨42, _⟩ => ⟨S2x8x1x2064, .f32⟩
  | .hbm, ⟨43, _⟩ => ⟨S_, .f32⟩
  | .hbm, ⟨44, _⟩ => ⟨S2x8x1x2064, .f32⟩
  | .hbm, ⟨45, _⟩ => ⟨S2x8x1x2064, .f32⟩
  | .hbm, ⟨46, _⟩ => ⟨S2x8x1x2064, .f32⟩
  | .hbm, ⟨47, _⟩ => ⟨S2x8x1x2064x1, .f32⟩
  | .hbm, ⟨48, _⟩ => ⟨S2x8x1x2064x2064, .f32⟩
  | .hbm, ⟨49, _⟩ => ⟨S2x8x1x2064x2064, .f32⟩
  | .hbm, ⟨50, _⟩ => ⟨S2x8x1x2064x2064, .f32⟩
  | .hbm, ⟨51, _⟩ => ⟨S_, .f32⟩
  | .hbm, ⟨52, _⟩ => ⟨S2x8x1x2064, .f32⟩
  | .hbm, ⟨53, _⟩ => ⟨S2x8x1x2064x1, .f32⟩
  | .hbm, ⟨54, _⟩ => ⟨S2x8x1x2064x2064, .f32⟩
  | .hbm, ⟨55, _⟩ => ⟨S2x8x1x2064x2064, .f32⟩
  | .hbm, ⟨56, _⟩ => ⟨S2x8x1x2064x1, .f32⟩
  | .hbm, ⟨57, _⟩ => ⟨S_, .f32⟩
  | .hbm, ⟨58, _⟩ => ⟨S2x8x1x2064x1, .f32⟩
  | .hbm, ⟨59, _⟩ => ⟨S2x8x1x2064x1, .f32⟩
  | .hbm, ⟨60, _⟩ => ⟨S2x8x128x1x2064, .f32⟩
  | .hbm, ⟨61, _⟩ => ⟨S2x2064x8x1x128, .f32⟩
  | .hbm, ⟨62, _⟩ => ⟨S2x2064x1024, .f32⟩
  | .hbm, ⟨63, _⟩ => ⟨S2x2064x8x1x128, .f32⟩
  | .hbm, ⟨64, _⟩ => ⟨S2x8x128x1x2064, .f32⟩
  | .hbm, ⟨65, _⟩ => ⟨S2x8x1x2064x2064, .f32⟩
  | .hbm, ⟨66, _⟩ => ⟨S2x8x128x2064, .f32⟩
  | .hbm, ⟨67, _⟩ => ⟨S2x2064x8x128, .f32⟩
  | .hbm, ⟨68, _⟩ => ⟨S2x8x1x2064x2064, .f32⟩
  | .hbm, ⟨69, _⟩ => ⟨S2x8x1x2064x2064, .f32⟩
  | .hbm, ⟨70, _⟩ => ⟨S2x8x1x2064x2064, .f32⟩
  | .hbm, ⟨71, _⟩ => ⟨S_, .f32⟩
  | .hbm, ⟨72, _⟩ => ⟨S2x8x1x2064, .f32⟩
  | .hbm, ⟨73, _⟩ => ⟨S2x8x1x2064x1, .f32⟩
  | .hbm, ⟨74, _⟩ => ⟨S2x8x1x2064x1, .f32⟩
  | .hbm, ⟨75, _⟩ => ⟨S2x8x1x2064x2064, .f32⟩
  | .hbm, ⟨76, _⟩ => ⟨S2x8x1x2064x2064, .f32⟩
  | .hbm, ⟨77, _⟩ => ⟨S_, .f32⟩
  | .hbm, ⟨78, _⟩ => ⟨S2x8x2064, .f32⟩
  | .hbm, ⟨79, _⟩ => ⟨S2x8x1x2064, .f32⟩
  | .hbm, ⟨80, _⟩ => ⟨S2x8x1x2064x2064, .f32⟩
  | .hbm, ⟨81, _⟩ => ⟨S2x8x1x2064x2064, .f32⟩
  | .hbm, ⟨82, _⟩ => ⟨S2x8x1x2064x2064, .f32⟩
  | .hbm, ⟨83, _⟩ => ⟨S_, .f32⟩
  | .hbm, ⟨84, _⟩ => ⟨S2x8x1x2064x2064, .f32⟩
  | .hbm, ⟨85, _⟩ => ⟨S2x8x1x2064x2064, .f32⟩
  | .hbm, ⟨86, _⟩ => ⟨S2x8x2064x2064x1, .f32⟩
  | .hbm, ⟨87, _⟩ => ⟨S2x8x2064x1x192, .f32⟩
  | .hbm, ⟨88, _⟩ => ⟨S2x2064x8x1x192, .f32⟩
  | .hbm, ⟨89, _⟩ => ⟨S2x8x2064x192, .f32⟩
  | .hbm, ⟨90, _⟩ => ⟨S2x2064x8x192, .f32⟩
  | .hbm, ⟨91, _⟩ => ⟨S2x2064x1024, .f32⟩
  | .hbm, ⟨92, _⟩ => ⟨S_, .f32⟩
  | .hbm, ⟨93, _⟩ => ⟨S2x2176x1024, .f32⟩
  | .hbm, ⟨94, _⟩ => ⟨S4352x1024, .f32⟩
  | .hbm, ⟨95, _⟩ => ⟨S2x2064x1536, .f32⟩
  | .hbm, ⟨96, _⟩ => ⟨S_, .f32⟩
  | .hbm, ⟨97, _⟩ => ⟨S2x2176x1536, .f32⟩
  | .hbm, ⟨98, _⟩ => ⟨S4352x1536, .f32⟩
  | .hbm, ⟨99, _⟩ => ⟨S2x2064x1536, .f32⟩
  | .hbm, ⟨100, _⟩ => ⟨S_, .f32⟩
  | .hbm, ⟨101, _⟩ => ⟨S2x2176x1536, .f32⟩
  | .hbm, ⟨102, _⟩ => ⟨S4352x1536, .f32⟩
  | .hbm, ⟨103, _⟩ => ⟨S4352x8x192, .f32⟩
  | .hbm, ⟨104, _⟩ => ⟨S_, .i32⟩
  | .hbm, ⟨105, _⟩ => ⟨S_, .f32⟩
  | .hbm, ⟨106, _⟩ => ⟨S4352x8x256, .f32⟩
  | .hbm, ⟨107, _⟩ => ⟨S4352x2048, .f32⟩
  | .hbm, ⟨108, _⟩ => ⟨S4352x8x192, .f32⟩
  | .hbm, ⟨109, _⟩ => ⟨S_, .i32⟩
  | .hbm, ⟨110, _⟩ => ⟨S_, .f32⟩
  | .hbm, ⟨111, _⟩ => ⟨S4352x8x256, .f32⟩
  | .hbm, ⟨112, _⟩ => ⟨S4352x2048, .f32⟩
  | _, _ => ⟨S4352x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_8 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_9 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_10 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_11 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_12 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_cst_13 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_14 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_cst_15 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_c : Ref sig .tc := ⟨.hbm, 104, rfl⟩
abbrev main_call0_v0 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_c_16 : Ref sig .tc := ⟨.hbm, 109, rfl⟩
abbrev main_call1_v0 : Ref sig .tc := ⟨.hbm, 110, rfl⟩
abbrev main_v86 : Ref sig .tc := ⟨.hbm, 111, rfl⟩
abbrev main_v87 : Ref sig .tc := ⟨.hbm, 112, rfl⟩

abbrev nD : Nat := 1
abbrev τ : Topo := Topo.v7x

variable {F : FTy → Type} [FloatOps F]
-- ==== Kernel3.lean ====
abbrev S4352x2048 : Shape := ⟨2, ![4352, 2048]⟩
abbrev S5632x2048 : Shape := ⟨2, ![5632, 2048]⟩
abbrev S4352x5632 : Shape := ⟨2, ![4352, 5632]⟩
abbrev S1088x2048 : Shape := ⟨2, ![1088, 2048]⟩
abbrev S1408x2048 : Shape := ⟨2, ![1408, 2048]⟩
abbrev S1088x1408 : Shape := ⟨2, ![1088, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S5632x2048, .bf16⟩
  | .hbm, ⟨2, _⟩ => ⟨S4352x5632, .f32⟩
  | .local _ .vmem, ⟨0, _⟩ => ⟨S1088x2048, .bf16⟩
  | .local _ .vmem, ⟨1, _⟩ => ⟨S1088x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1088x1408, .f32⟩
  | .local _ .vmem, ⟨5, _⟩ => ⟨S1088x1408, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4352x2048 : Shape := ⟨2, ![4352, 2048]⟩
abbrev S5632x2048 : Shape := ⟨2, ![5632, 2048]⟩
abbrev S4352x5632 : Shape := ⟨2, ![4352, 5632]⟩

abbrev nBuf : Space → Nat
  | .hbm => 5
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S5632x2048, .bf16⟩
  | .hbm, ⟨2, _⟩ => ⟨S5632x2048, .f32⟩
  | .hbm, ⟨3, _⟩ => ⟨S4352x2048, .f32⟩
  | .hbm, ⟨4, _⟩ => ⟨S4352x5632, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel4.lean ====
abbrev S4352x5632 : Shape := ⟨2, ![4352, 5632]⟩
abbrev S4352x2048 : Shape := ⟨2, ![4352, 2048]⟩
abbrev S5632x2048 : Shape := ⟨2, ![5632, 2048]⟩
abbrev S2176x512 : Shape := ⟨2, ![2176, 512]⟩
abbrev S2176x2048 : Shape := ⟨2, ![2176, 2048]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4352x5632, .bf16⟩
  | .hbm, ⟨1, _⟩ => ⟨S4352x2048, .bf16⟩
  | .hbm, ⟨2, _⟩ => ⟨S5632x2048, .bf16⟩
  | .local _ .vmem, ⟨0, _⟩ => ⟨S2176x512, .bf16⟩
  | .local _ .vmem, ⟨1, _⟩ => ⟨S2176x512, .bf16⟩
  | .local _ .vmem, ⟨2, _⟩ => ⟨S2176x2048, .bf16⟩
  | .local _ .vmem, ⟨3, _⟩ => ⟨S2176x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | _, _ => ⟨S4352x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4352x5632 : Shape := ⟨2, ![4352, 5632]⟩
abbrev S4352x2048 : Shape := ⟨2, ![4352, 2048]⟩
abbrev S2048x5632 : Shape := ⟨2, ![2048, 5632]⟩
abbrev S5632x2048 : Shape := ⟨2, ![5632, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4352x5632, .bf16⟩
  | .hbm, ⟨1, _⟩ => ⟨S4352x2048, .bf16⟩
  | .hbm, ⟨2, _⟩ => ⟨S4352x5632, .f32⟩
  | .hbm, ⟨3, _⟩ => ⟨S4352x2048, .f32⟩
  | .hbm, ⟨4, _⟩ => ⟨S2048x5632, .f32⟩
  | .hbm, ⟨5, _⟩ => ⟨S5632x2048, .f32⟩
  | .hbm, ⟨6, _⟩ => ⟨S5632x2048, .bf16⟩
  | _, _ => ⟨S4352x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel5.lean ====
abbrev S4352x5632 : Shape := ⟨2, ![4352, 5632]⟩
abbrev S64x5632 : Shape := ⟨2, ![64, 5632]⟩

abbrev nBuf : Space → Nat
  | .hbm => 5
  | .vmem => 10
  | .smem => 0
  | _ => 0

abbrev bufTy : (tb : Table) → Fin (tcTables nBuf tb) → BufTy
  | .hbm, ⟨0, _⟩ => ⟨S4352x5632, .bf16⟩
  | .hbm, ⟨1, _⟩ => ⟨S4352x5632, .bf16⟩
  | .hbm, ⟨2, _⟩ => ⟨S4352x5632, .f32⟩
  | .hbm, ⟨3, _⟩ => ⟨S4352x5632, .bf16⟩
  | .hbm, ⟨4, _⟩ => ⟨S4352x5632, .bf16⟩
  | .local _ .vmem, ⟨0, _⟩ => ⟨S64x5632, .bf16⟩
  | .local _ .vmem, ⟨1, _⟩ => ⟨S64x5632, .bf16⟩
  | .local _ .vmem, ⟨2, _⟩ => ⟨S64x5632, .bf16⟩
  | .local _ .vmem, ⟨3, _⟩ => ⟨S64x5632, .bf16⟩
  | .local _ .vmem, ⟨4, _⟩ => ⟨S64x5632, .f32⟩
  | .local _ .vmem, ⟨5, _⟩ => ⟨S64x5632, .f32⟩
  | .local _ .vmem, ⟨6, _⟩ => ⟨S64x5632, .bf16⟩
  | .local _ .vmem, ⟨7, _⟩ => ⟨S64x5632, .bf16⟩
  | .local _ .vmem, ⟨8, _⟩ => ⟨S64x5632, .bf16⟩
  | .local _ .vmem, ⟨9, _⟩ => ⟨S64x5632, .bf16⟩
  | _, _ => ⟨S4352x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S4352x5632 : Shape := ⟨2, ![4352, 5632]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4352x5632, .bf16⟩
  | .hbm, ⟨1, _⟩ => ⟨S4352x5632, .bf16⟩
  | .hbm, ⟨2, _⟩ => ⟨S4352x5632, .f32⟩
  | .hbm, ⟨3, _⟩ => ⟨S4352x5632, .f32⟩
  | .hbm, ⟨4, _⟩ => ⟨S4352x5632, .f32⟩
  | .hbm, ⟨5, _⟩ => ⟨S4352x5632, .f32⟩
  | .hbm, ⟨6, _⟩ => ⟨S4352x5632, .f32⟩
  | .hbm, ⟨7, _⟩ => ⟨S_, .f32⟩
  | .hbm, ⟨8, _⟩ => ⟨S4352x5632, .f32⟩
  | .hbm, ⟨9, _⟩ => ⟨S4352x5632, .f32⟩
  | .hbm, ⟨10, _⟩ => ⟨S_, .f32⟩
  | .hbm, ⟨11, _⟩ => ⟨S4352x5632, .f32⟩
  | .hbm, ⟨12, _⟩ => ⟨S4352x5632, .f32⟩
  | .hbm, ⟨13, _⟩ => ⟨S_, .f32⟩
  | .hbm, ⟨14, _⟩ => ⟨S4352x5632, .f32⟩
  | .hbm, ⟨15, _⟩ => ⟨S4352x5632, .f32⟩
  | .hbm, ⟨16, _⟩ => ⟨S4352x5632, .f32⟩
  | .hbm, ⟨17, _⟩ => ⟨S4352x5632, .f32⟩
  | .hbm, ⟨18, _⟩ => ⟨S4352x5632, .f32⟩
  | .hbm, ⟨19, _⟩ => ⟨S4352x5632, .f32⟩
  | .hbm, ⟨20, _⟩ => ⟨S4352x5632, .f32⟩
  | .hbm, ⟨21, _⟩ => ⟨S4352x5632, .f32⟩
  | .hbm, ⟨22, _⟩ => ⟨S4352x5632, .f32⟩
  | .hbm, ⟨23, _⟩ => ⟨S4352x5632, .f32⟩
  | .hbm, ⟨24, _⟩ => ⟨S4352x5632, .f32⟩
  | .hbm, ⟨25, _⟩ => ⟨S4352x5632, .bf16⟩
  | .hbm, ⟨26, _⟩ => ⟨S4352x5632, .bf16⟩
  | _, _ => ⟨S4352x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩

abbrev nD : Nat := 1
abbrev τ : Topo := Topo.v7x

variable {F : FTy → Type} [FloatOps F]
-- ==== Kernel6.lean ====
abbrev S4352x5632 : Shape := ⟨2, ![4352, 5632]⟩
abbrev S2048x5632 : Shape := ⟨2, ![2048, 5632]⟩
abbrev S2048x4x1408 : Shape := ⟨3, ![2048, 4, 1408]⟩
abbrev S4x2048x1408 : Shape := ⟨3, ![4, 2048, 1408]⟩
abbrev S4352x2048 : Shape := ⟨2, ![4352, 2048]⟩
abbrev S1088x1408 : Shape := ⟨2, ![1088, 1408]⟩
abbrev S1x2048x1408 : Shape := ⟨3, ![1, 2048, 1408]⟩
abbrev S1088x2048 : Shape := ⟨2, ![1088, 2048]⟩
abbrev S2048x1408 : Shape := ⟨2, ![2048, 1408]⟩

abbrev nBuf : Space → Nat
  | .hbm => 5
  | .vmem => 6
  | .smem => 0
  | _ => 0

abbrev bufTy : (tb : Table) → Fin (tcTables nBuf tb) → BufTy
  | .hbm, ⟨0, _⟩ => ⟨S4352x5632, .bf16⟩
  | .hbm, ⟨1, _⟩ => ⟨S2048x5632, .bf16⟩
  | .hbm, ⟨2, _⟩ => ⟨S2048x4x1408, .bf16⟩
  | .hbm, ⟨3, _⟩ => ⟨S4x2048x1408, .bf16⟩
  | .hbm, ⟨4, _⟩ => ⟨S4352x2048, .f32⟩
  | .local _ .vmem, ⟨0, _⟩ => ⟨S1088x1408, .bf16⟩
  | .local _ .vmem, ⟨1, _⟩ => ⟨S1088x1408, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1088x2048, .f32⟩
  | .local _ .vmem, ⟨5, _⟩ => ⟨S1088x2048, .f32⟩
  | _, _ => ⟨S4352x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg2 : BitVec 32 := BitVec.ofNat 32 (i 2).val
  let c0_i32_5 : BitVec 32 := 0#32
  let v7 : BitVec 1 := Scalar.cmpi .sgt arg2 c0_i32_5
  let c3_i32 : BitVec 32 := 3#32
  let v8 : BitVec 1 := Scalar.cmpi .slt arg2 c3_i32
  let v9 : BitVec 1 := Scalar.andi v7 v8
  let v10 : BitVec 32 := Scalar.extui v9
  let c0_i32_6 : BitVec 32 := 0#32
  let v11 : BitVec 1 := Scalar.cmpi .ne v10 c0_i32_6
  v11

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4352x5632 : Shape := ⟨2, ![4352, 5632]⟩
abbrev S2048x5632 : Shape := ⟨2, ![2048, 5632]⟩
abbrev S4352x2048 : Shape := ⟨2, ![4352, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4352x5632, .bf16⟩
  | .hbm, ⟨1, _⟩ => ⟨S2048x5632, .bf16⟩
  | .hbm, ⟨2, _⟩ => ⟨S2048x5632, .f32⟩
  | .hbm, ⟨3, _⟩ => ⟨S4352x5632, .f32⟩
  | .hbm, ⟨4, _⟩ => ⟨S4352x2048, .f32⟩
  | _, _ => ⟨S4352x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S4352x5632 : Shape := ⟨2, ![4352, 5632]⟩
abbrev S2048x5632 : Shape := ⟨2, ![2048, 5632]⟩
abbrev S4352x2048 : Shape := ⟨2, ![4352, 2048]⟩
abbrev S2048x4x1408 : Shape := ⟨3, ![2048, 4, 1408]⟩
abbrev S4x2048x1408 : Shape := ⟨3, ![4, 2048, 1408]⟩
abbrev S1088x1408 : Shape := ⟨2, ![1088, 1408]⟩
abbrev S1x1024x1408 : Shape := ⟨3, ![1, 1024, 1408]⟩
abbrev S1088x1024 : Shape := ⟨2, ![1088, 1024]⟩
abbrev S1024x1408 : Shape := ⟨2, ![1024, 1408]⟩

abbrev nBuf : Space → Nat
  | .hbm => 6
  | .vmem => 8
  | .smem => 0
  | _ => 0

abbrev bufTy : (tb : Table) → Fin (tcTables nBuf tb) → BufTy
  | .hbm, ⟨0, _⟩ => ⟨S4352x5632, .bf16⟩
  | .hbm, ⟨1, _⟩ => ⟨S2048x5632, .bf16⟩
  | .hbm, ⟨2, _⟩ => ⟨S4352x2048, .f32⟩
  | .hbm, ⟨3, _⟩ => ⟨S2048x4x1408, .bf16⟩
  | .hbm, ⟨4, _⟩ => ⟨S4x2048x1408, .bf16⟩
  | .hbm, ⟨5, _⟩ => ⟨S4352x2048, .f32⟩
  | .local _ .vmem, ⟨0, _⟩ => ⟨S1088x1408, .bf16⟩
  | .local _ .vmem, ⟨1, _⟩ => ⟨S1088x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | .local _ .vmem, ⟨7, _⟩ => ⟨S1088x1024, .f32⟩
  | _, _ => ⟨S4352x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg2 : BitVec 32 := BitVec.ofNat 32 (i 2).val
  let c0_i32_5 : BitVec 32 := 0#32
  let v7 : BitVec 1 := Scalar.cmpi .sgt arg2 c0_i32_5
  let c3_i32 : BitVec 32 := 3#32
  let v8 : BitVec 1 := Scalar.cmpi .slt arg2 c3_i32
  let v9 : BitVec 1 := Scalar.andi v7 v8
  let v10 : BitVec 32 := Scalar.extui v9
  let c0_i32_6 : BitVec 32 := 0#32
  let v11 : BitVec 1 := Scalar.cmpi .ne v10 c0_i32_6
  v11

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S4352x5632 : Shape := ⟨2, ![4352, 5632]⟩
abbrev S2048x5632 : Shape := ⟨2, ![2048, 5632]⟩
abbrev S4352x2048 : Shape := ⟨2, ![4352, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4352x5632, .bf16⟩
  | .hbm, ⟨1, _⟩ => ⟨S2048x5632, .bf16⟩
  | .hbm, ⟨2, _⟩ => ⟨S4352x2048, .f32⟩
  | .hbm, ⟨3, _⟩ => ⟨S2048x5632, .f32⟩
  | .hbm, ⟨4, _⟩ => ⟨S4352x5632, .f32⟩
  | .hbm, ⟨5, _⟩ => ⟨S4352x2048, .f32⟩
  | .hbm, ⟨6, _⟩ => ⟨S4352x2048, .f32⟩
  | _, _ => ⟨S4352x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S4352x2048 : Shape := ⟨2, ![4352, 2048]⟩
abbrev S4352x5632 : Shape := ⟨2, ![4352, 5632]⟩
abbrev S4x2048x1408 : Shape := ⟨3, ![4, 2048, 1408]⟩
abbrev S2176x1024 : Shape := ⟨2, ![2176, 1024]⟩
abbrev S2176x1408 : Shape := ⟨2, ![2176, 1408]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S4352x5632, .bf16⟩
  | .hbm, ⟨2, _⟩ => ⟨S4x2048x1408, .bf16⟩
  | .local _ .vmem, ⟨0, _⟩ => ⟨S2176x1024, .bf16⟩
  | .local _ .vmem, ⟨1, _⟩ => ⟨S2176x1024, .bf16⟩
  | .local _ .vmem, ⟨2, _⟩ => ⟨S2176x1408, .bf16⟩
  | .local _ .vmem, ⟨3, _⟩ => ⟨S2176x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4352x2048 : Shape := ⟨2, ![4352, 2048]⟩
abbrev S4352x5632 : Shape := ⟨2, ![4352, 5632]⟩
abbrev S5632x2048 : Shape := ⟨2, ![5632, 2048]⟩
abbrev S2048x5632 : Shape := ⟨2, ![2048, 5632]⟩
abbrev S2048x1408 : Shape := ⟨2, ![2048, 1408]⟩
abbrev S1x2048x1408 : Shape := ⟨3, ![1, 2048, 1408]⟩
abbrev S4x2048x1408 : Shape := ⟨3, ![4, 2048, 1408]⟩

abbrev nBuf : Space → Nat
  | .hbm => 16
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4352x5632, .bf16⟩
  | .hbm, ⟨2, _⟩ => ⟨S4352x2048, .f32⟩
  | .hbm, ⟨3, _⟩ => ⟨S4352x5632, .f32⟩
  | .hbm, ⟨4, _⟩ => ⟨S5632x2048, .f32⟩
  | .hbm, ⟨5, _⟩ => ⟨S2048x5632, .f32⟩
  | .hbm, ⟨6, _⟩ => ⟨S2048x5632, .bf16⟩
  | .hbm, ⟨7, _⟩ => ⟨S2048x1408, .bf16⟩
  | .hbm, ⟨8, _⟩ => ⟨S2048x1408, .bf16⟩
  | .hbm, ⟨9, _⟩ => ⟨S2048x1408, .bf16⟩
  | .hbm, ⟨10, _⟩ => ⟨S2048x1408, .bf16⟩
  | .hbm, ⟨11, _⟩ => ⟨S1x2048x1408, .bf16⟩
  | .hbm, ⟨12, _⟩ => ⟨S1x2048x1408, .bf16⟩
  | .hbm, ⟨13, _⟩ => ⟨S1x2048x1408, .bf16⟩
  | .hbm, ⟨14, _⟩ => ⟨S1x2048x1408, .bf16⟩
  | .hbm, ⟨15, _⟩ => ⟨S4x2048x1408, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩

abbrev nD : Nat := 1
abbrev τ : Topo := Topo.v7x

variable {F : FTy → Type} [FloatOps F]
-- ==== Kernel9.lean ====
abbrev S4352x10816 : Shape := ⟨2, ![4352, 10816]⟩
abbrev S2048x10816 : Shape := ⟨2, ![2048, 10816]⟩
abbrev S4352x4608 : Shape := ⟨2, ![4352, 4608]⟩
abbrev S4352x6144 : Shape := ⟨2, ![4352, 6144]⟩
abbrev S4352x64 : Shape := ⟨2, ![4352, 64]⟩
abbrev S_ : Shape := ⟨0, ![]⟩
abbrev S4352x10880 : Shape := ⟨2, ![4352, 10880]⟩
abbrev S2048x4608 : Shape := ⟨2, ![2048, 4608]⟩
abbrev S2048x6144 : Shape := ⟨2, ![2048, 6144]⟩
abbrev S2048x64 : Shape := ⟨2, ![2048, 64]⟩
abbrev S2048x10880 : Shape := ⟨2, ![2048, 10880]⟩
abbrev S4352x2048 : Shape := ⟨2, ![4352, 2048]⟩
abbrev S1088x2176 : Shape := ⟨2, ![1088, 2176]⟩
abbrev S2048x2176 : Shape := ⟨2, ![2048, 2176]⟩
abbrev S1088x2048 : Shape := ⟨2, ![1088, 2048]⟩

abbrev nBuf : Space → Nat
  | .hbm => 15
  | .vmem => 6
  | .smem => 0
  | _ => 0

abbrev bufTy : (tb : Table) → Fin (tcTables nBuf tb) → BufTy
  | .hbm, ⟨0, _⟩ => ⟨S4352x10816, .bf16⟩
  | .hbm, ⟨1, _⟩ => ⟨S2048x10816, .bf16⟩
  | .hbm, ⟨2, _⟩ => ⟨S4352x4608, .bf16⟩
  | .hbm, ⟨3, _⟩ => ⟨S4352x6144, .bf16⟩
  | .hbm, ⟨4, _⟩ => ⟨S4352x64, .bf16⟩
  | .hbm, ⟨5, _⟩ => ⟨S_, .bf16⟩
  | .hbm, ⟨6, _⟩ => ⟨S4352x64, .bf16⟩
  | .hbm, ⟨7, _⟩ => ⟨S4352x10880, .bf16⟩
  | .hbm, ⟨8, _⟩ => ⟨S2048x4608, .bf16⟩
  | .hbm, ⟨9, _⟩ => ⟨S2048x6144, .bf16⟩
  | .hbm, ⟨10, _⟩ => ⟨S2048x64, .bf16⟩
  | .hbm, ⟨11, _⟩ => ⟨S_, .bf16⟩
  | .hbm, ⟨12, _⟩ => ⟨S2048x64, .bf16⟩
  | .hbm, ⟨13, _⟩ => ⟨S2048x10880, .bf16⟩
  | .hbm, ⟨14, _⟩ => ⟨S4352x2048, .f32⟩
  | .local _ .vmem, ⟨0, _⟩ => ⟨S1088x2176, .bf16⟩
  | .local _ .vmem, ⟨1, _⟩ => ⟨S1088x2176, .bf16⟩
  | .local _ .vmem, ⟨2, _⟩ => ⟨S2048x2176, .bf16⟩
  | .local _ .vmem, ⟨3, _⟩ => ⟨S2048x2176, .bf16⟩
  | .local _ .vmem, ⟨4, _⟩ => ⟨S1088x2048, .f32⟩
  | .local _ .vmem, ⟨5, _⟩ => ⟨S1088x2048, .f32⟩
  | _, _ => ⟨S4352x10816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 5], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let c4_i32 : BitVec 32 := 4#32
  let v9 : BitVec 1 := Scalar.cmpi .slt arg2 c4_i32
  let v10 : BitVec 1 := Scalar.andi v8 v9
  let v11 : BitVec 32 := Scalar.extui v10
  let c0_i32_5 : BitVec 32 := 0#32
  let v12 : BitVec 1 := Scalar.cmpi .ne v11 c0_i32_5
  v12

def k0_cond3 (i : grid0.Coords) : BitVec 1 :=
  let arg2 : BitVec 32 := BitVec.ofNat 32 (i 2).val
  let c4_i32_6 : BitVec 32 := 4#32
  let v13 : BitVec 1 := Scalar.cmpi .eq arg2 c4_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4352x10816 : Shape := ⟨2, ![4352, 10816]⟩
abbrev S2048x10816 : Shape := ⟨2, ![2048, 10816]⟩
abbrev S4352x2048 : Shape := ⟨2, ![4352, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4352x10816, .bf16⟩
  | .hbm, ⟨1, _⟩ => ⟨S2048x10816, .bf16⟩
  | .hbm, ⟨2, _⟩ => ⟨S2048x10816, .f32⟩
  | .hbm, ⟨3, _⟩ => ⟨S4352x10816, .f32⟩
  | .hbm, ⟨4, _⟩ => ⟨S4352x2048, .f32⟩
  | _, _ => ⟨S4352x10816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S4352x2048 : Shape := ⟨2, ![4352, 2048]⟩
abbrev S4352x10816 : Shape := ⟨2, ![4352, 10816]⟩
abbrev S4352x4608 : Shape := ⟨2, ![4352, 4608]⟩
abbrev S4352x6144 : Shape := ⟨2, ![4352, 6144]⟩
abbrev S4352x64 : Shape := ⟨2, ![4352, 64]⟩
abbrev S_ : Shape := ⟨0, ![]⟩
abbrev S4352x10880 : Shape := ⟨2, ![4352, 10880]⟩
abbrev S2048x10880 : Shape := ⟨2, ![2048, 10880]⟩
abbrev S2176x1024 : Shape := ⟨2, ![2176, 1024]⟩
abbrev S2176x2176 : Shape := ⟨2, ![2176, 2176]⟩
abbrev S1024x2176 : Shape := ⟨2, ![1024, 2176]⟩

abbrev nBuf : Space → Nat
  | .hbm => 9
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S4352x10816, .bf16⟩
  | .hbm, ⟨2, _⟩ => ⟨S4352x4608, .bf16⟩
  | .hbm, ⟨3, _⟩ => ⟨S4352x6144, .bf16⟩
  | .hbm, ⟨4, _⟩ => ⟨S4352x64, .bf16⟩
  | .hbm, ⟨5, _⟩ => ⟨S_, .bf16⟩
  | .hbm, ⟨6, _⟩ => ⟨S4352x64, .bf16⟩
  | .hbm, ⟨7, _⟩ => ⟨S4352x10880, .bf16⟩
  | .hbm, ⟨8, _⟩ => ⟨S2048x10880, .bf16⟩
  | .local _ .vmem, ⟨0, _⟩ => ⟨S2176x1024, .bf16⟩
  | .local _ .vmem, ⟨1, _⟩ => ⟨S2176x1024, .bf16⟩
  | .local _ .vmem, ⟨2, _⟩ => ⟨S2176x2176, .bf16⟩
  | .local _ .vmem, ⟨3, _⟩ => ⟨S2176x2176, .bf16⟩
  | .local _ .vmem, ⟨4, _⟩ => ⟨S1024x2176, .bf16⟩
  | .local _ .vmem, ⟨5, _⟩ => ⟨S1024x2176, .bf16⟩
  | .local _ .vmem, ⟨6, _⟩ => ⟨S1024x2176, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 2], ![false, false, false]⟩

def k0_cond3 (i : grid0.Coords) : BitVec 1 :=
  let arg2 : BitVec 32 := BitVec.ofNat 32 (i 2).val
  let c1_i32_6 : BitVec 32 := 1#32
  let v12 : BitVec 1 := Scalar.cmpi .eq arg2 c1_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2176 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4352x2048 : Shape := ⟨2, ![4352, 2048]⟩
abbrev S4352x10816 : Shape := ⟨2, ![4352, 10816]⟩
abbrev S10816x2048 : Shape := ⟨2, ![10816, 2048]⟩
abbrev S2048x10816 : Shape := ⟨2, ![2048, 10816]⟩
abbrev S2048x4608 : Shape := ⟨2, ![2048, 4608]⟩
abbrev S2048x64 : Shape := ⟨2, ![2048, 64]⟩
abbrev S2048x6144 : Shape := ⟨2, ![2048, 6144]⟩
abbrev S_ : Shape := ⟨0, ![]⟩
abbrev S2048x10880 : Shape := ⟨2, ![2048, 10880]⟩

abbrev nBuf : Space → Nat
  | .hbm => 14
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4352x10816, .bf16⟩
  | .hbm, ⟨2, _⟩ => ⟨S4352x2048, .f32⟩
  | .hbm, ⟨3, _⟩ => ⟨S4352x10816, .f32⟩
  | .hbm, ⟨4, _⟩ => ⟨S10816x2048, .f32⟩
  | .hbm, ⟨5, _⟩ => ⟨S2048x10816, .f32⟩
  | .hbm, ⟨6, _⟩ => ⟨S2048x10816, .bf16⟩
  | .hbm, ⟨7, _⟩ => ⟨S2048x4608, .bf16⟩
  | .hbm, ⟨8, _⟩ => ⟨S2048x64, .bf16⟩
  | .hbm, ⟨9, _⟩ => ⟨S2048x6144, .bf16⟩
  | .hbm, ⟨10, _⟩ => ⟨S2048x10816, .bf16⟩
  | .hbm, ⟨11, _⟩ => ⟨S_, .i32⟩
  | .hbm, ⟨12, _⟩ => ⟨S_, .bf16⟩
  | .hbm, ⟨13, _⟩ => ⟨S2048x10880, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_call0_v0 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel11.lean ====
abbrev S4352x10880 : Shape := ⟨2, ![4352, 10880]⟩
abbrev S6144 : Shape := ⟨1, ![6144]⟩
abbrev S4352x2048 : Shape := ⟨2, ![4352, 2048]⟩
abbrev S1x6144 : Shape := ⟨2, ![1, 6144]⟩
abbrev S1x2048 : Shape := ⟨2, ![1, 2048]⟩
abbrev S544x512 : Shape := ⟨2, ![544, 512]⟩
abbrev S1x512 : Shape := ⟨2, ![1, 512]⟩
abbrev S512 : Shape := ⟨1, ![512]⟩

abbrev nBuf : Space → Nat
  | .hbm => 16
  | .vmem => 38
  | .smem => 0
  | _ => 0

abbrev bufTy : (tb : Table) → Fin (tcTables nBuf tb) → BufTy
  | .hbm, ⟨0, _⟩ => ⟨S4352x10880, .f32⟩
  | .hbm, ⟨1, _⟩ => ⟨S6144, .f32⟩
  | .hbm, ⟨2, _⟩ => ⟨S4352x2048, .f32⟩
  | .hbm, ⟨3, _⟩ => ⟨S4352x2048, .f32⟩
  | .hbm, ⟨4, _⟩ => ⟨S4352x2048, .f32⟩
  | .hbm, ⟨5, _⟩ => ⟨S4352x2048, .f32⟩
  | .hbm, ⟨6, _⟩ => ⟨S1x6144, .f32⟩
  | .hbm, ⟨7, _⟩ => ⟨S4352x2048, .bf16⟩
  | .hbm, ⟨8, _⟩ => ⟨S4352x2048, .bf16⟩
  | .hbm, ⟨9, _⟩ => ⟨S4352x2048, .bf16⟩
  | .hbm, ⟨10, _⟩ => ⟨S4352x2048, .bf16⟩
  | .hbm, ⟨11, _⟩ => ⟨S4352x2048, .bf16⟩
  | .hbm, ⟨12, _⟩ => ⟨S4352x2048, .bf16⟩
  | .hbm, ⟨13, _⟩ => ⟨S1x2048, .f32⟩
  | .hbm, ⟨14, _⟩ => ⟨S1x2048, .f32⟩
  | .hbm, ⟨15, _⟩ => ⟨S1x2048, .f32⟩
  | .local _ .vmem, ⟨0, _⟩ => ⟨S544x512, .f32⟩
  | .local _ .vmem, ⟨1, _⟩ => ⟨S544x512, .f32⟩
  | .local _ .vmem, ⟨2, _⟩ => ⟨S544x512, .f32⟩
  | .local _ .vmem, ⟨3, _⟩ => ⟨S544x512, .f32⟩
  | .local _ .vmem, ⟨4, _⟩ => ⟨S544x512, .f32⟩
  | .local _ .vmem, ⟨5, _⟩ => ⟨S544x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S544x512, .f32⟩
  | .local _ .vmem, ⟨13, _⟩ => ⟨S544x512, .f32⟩
  | .local _ .vmem, ⟨14, _⟩ => ⟨S544x512, .f32⟩
  | .local _ .vmem, ⟨15, _⟩ => ⟨S544x512, .f32⟩
  | .local _ .vmem, ⟨16, _⟩ => ⟨S544x512, .f32⟩
  | .local _ .vmem, ⟨17, _⟩ => ⟨S544x512, .f32⟩
  | .local _ .vmem, ⟨18, _⟩ => ⟨S544x512, .f32⟩
  | .local _ .vmem, ⟨19, _⟩ => ⟨S544x512, .f32⟩
  | .local _ .vmem, ⟨20, _⟩ => ⟨S544x512, .bf16⟩
  | .local _ .vmem, ⟨21, _⟩ => ⟨S544x512, .bf16⟩
  | .local _ .vmem, ⟨22, _⟩ => ⟨S544x512, .bf16⟩
  | .local _ .vmem, ⟨23, _⟩ => ⟨S544x512, .bf16⟩
  | .local _ .vmem, ⟨24, _⟩ => ⟨S544x512, .bf16⟩
  | .local _ .vmem, ⟨25, _⟩ => ⟨S544x512, .bf16⟩
  | .local _ .vmem, ⟨26, _⟩ => ⟨S544x512, .bf16⟩
  | .local _ .vmem, ⟨27, _⟩ => ⟨S544x512, .bf16⟩
  | .local _ .vmem, ⟨28, _⟩ => ⟨S544x512, .bf16⟩
  | .local _ .vmem, ⟨29, _⟩ => ⟨S544x512, .bf16⟩
  | .local _ .vmem, ⟨30, _⟩ => ⟨S544x512, .bf16⟩
  | .local _ .vmem, ⟨31, _⟩ => ⟨S544x512, .bf16⟩
  | .local _ .vmem, ⟨32, _⟩ => ⟨S1x512, .f32⟩
  | .local _ .vmem, ⟨33, _⟩ => ⟨S1x512, .f32⟩
  | .local _ .vmem, ⟨34, _⟩ => ⟨S1x512, .f32⟩
  | .local _ .vmem, ⟨35, _⟩ => ⟨S1x512, .f32⟩
  | .local _ .vmem, ⟨36, _⟩ => ⟨S1x512, .f32⟩
  | .local _ .vmem, ⟨37, _⟩ => ⟨S1x512, .f32⟩
  | _, _ => ⟨S4352x10880, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev main_v1_5 : Ref sig .tc := ⟨.hbm, 12, rfl⟩
abbrev main_v1_6 : Ref sig .tc := ⟨.hbm, 13, rfl⟩
abbrev main_v1_7 : Ref sig .tc := ⟨.hbm, 14, rfl⟩
abbrev main_v1_8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v26 : BitVec 1 := Scalar.cmpi .eq arg1 c0_i32
  let v27 : BitVec 32 := Scalar.extui v26
  let c0_i32_15 : BitVec 32 := 0#32
  let v28 : BitVec 1 := Scalar.cmpi .ne v27 c0_i32_15
  v28

def k0_cond2 (i : grid0.Coords) : BitVec 1 :=
  let arg1 : BitVec 32 := BitVec.ofNat 32 (i 1).val
  let c0_i32_16 : BitVec 32 := 0#32
  let v29 : BitVec 1 := Scalar.cmpi .sgt arg1 c0_i32_16
  let v30 : BitVec 32 := Scalar.extui v29
  let c0_i32_17 : BitVec 32 := 0#32
  let v31 : BitVec 1 := Scalar.cmpi .ne v30 c0_i32_17
  v31

def k0_cond3 (i : grid0.Coords) : BitVec 1 :=
  let arg1 : BitVec 32 := BitVec.ofNat 32 (i 1).val
  let c0_i32_33 : BitVec 32 := 0#32
  let v57 : BitVec 1 := Scalar.cmpi .eq arg1 c0_i32_33
  let v58 : BitVec 32 := Scalar.extui v57
  let c0_i32_34 : BitVec 32 := 0#32
  let v59 : BitVec 1 := Scalar.cmpi .ne v58 c0_i32_34
  v59

def k0_cond4 (i : grid0.Coords) : BitVec 1 :=
  let arg1 : BitVec 32 := BitVec.ofNat 32 (i 1).val
  let c0_i32_35 : BitVec 32 := 0#32
  let v60 : BitVec 1 := Scalar.cmpi .sgt arg1 c0_i32_35
  let v61 : BitVec 32 := Scalar.extui v60
  let c0_i32_36 : BitVec 32 := 0#32
  let v62 : BitVec 1 := Scalar.cmpi .ne v61 c0_i32_36
  v62

def k0_cond5 (i : grid0.Coords) : BitVec 1 :=
  let arg1 : BitVec 32 := BitVec.ofNat 32 (i 1).val
  let c0_i32_52 : BitVec 32 := 0#32
  let v88 : BitVec 1 := Scalar.cmpi .eq arg1 c0_i32_52
  let v89 : BitVec 32 := Scalar.extui v88
  let c0_i32_53 : BitVec 32 := 0#32
  let v90 : BitVec 1 := Scalar.cmpi .ne v89 c0_i32_53
  v90

def k0_cond6 (i : grid0.Coords) : BitVec 1 :=
  let arg1 : BitVec 32 := BitVec.ofNat 32 (i 1).val
  let c0_i32_54 : BitVec 32 := 0#32
  let v91 : BitVec 1 := Scalar.cmpi .sgt arg1 c0_i32_54
  let v92 : BitVec 32 := Scalar.extui v91
  let c0_i32_55 : BitVec 32 := 0#32
  let v93 : BitVec 1 := Scalar.cmpi .ne v92 c0_i32_55
  v93

def cc0_transform_0 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi c17_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S544x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S544x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S544x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S544x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S544x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S544x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S544x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S544x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S544x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S544x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S544x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S544x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S544x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]
-- ==== Reference11Ideal.lean ====
abbrev S4352x10880 : Shape := ⟨2, ![4352, 10880]⟩
abbrev S6144 : Shape := ⟨1, ![6144]⟩
abbrev S4352x2048 : Shape := ⟨2, ![4352, 2048]⟩
abbrev S4352x6144 : Shape := ⟨2, ![4352, 6144]⟩
abbrev S1x6144 : Shape := ⟨2, ![1, 6144]⟩
abbrev S_ : Shape := ⟨0, ![]⟩
abbrev S4352x3x2048 : Shape := ⟨3, ![4352, 3, 2048]⟩
abbrev S4352x1x2048 : Shape := ⟨3, ![4352, 1, 2048]⟩
abbrev S1x2048 : Shape := ⟨2, ![1, 2048]⟩

abbrev nBuf : Space → Nat
  | .hbm => 73
  | .vmem => 0
  | .smem => 0
  | _ => 0

abbrev bufTy : (tb : Table) → Fin (tcTables nBuf tb) → BufTy
  | .hbm, ⟨0, _⟩ => ⟨S4352x10880, .f32⟩
  | .hbm, ⟨1, _⟩ => ⟨S6144, .f32⟩
  | .hbm, ⟨2, _⟩ => ⟨S4352x2048, .f32⟩
  | .hbm, ⟨3, _⟩ => ⟨S4352x2048, .f32⟩
  | .hbm, ⟨4, _⟩ => ⟨S4352x2048, .f32⟩
  | .hbm, ⟨5, _⟩ => ⟨S4352x2048, .f32⟩
  | .hbm, ⟨6, _⟩ => ⟨S4352x6144, .f32⟩
  | .hbm, ⟨7, _⟩ => ⟨S1x6144, .f32⟩
  | .hbm, ⟨8, _⟩ => ⟨S4352x6144, .f32⟩
  | .hbm, ⟨9, _⟩ => ⟨S4352x6144, .f32⟩
  | .hbm, ⟨10, _⟩ => ⟨S4352x6144, .f32⟩
  | .hbm, ⟨11, _⟩ => ⟨S4352x6144, .f32⟩
  | .hbm, ⟨12, _⟩ => ⟨S_, .f32⟩
  | .hbm, ⟨13, _⟩ => ⟨S4352x6144, .f32⟩
  | .hbm, ⟨14, _⟩ => ⟨S4352x6144, .f32⟩
  | .hbm, ⟨15, _⟩ => ⟨S_, .f32⟩
  | .hbm, ⟨16, _⟩ => ⟨S4352x6144, .f32⟩
  | .hbm, ⟨17, _⟩ => ⟨S4352x6144, .f32⟩
  | .hbm, ⟨18, _⟩ => ⟨S_, .f32⟩
  | .hbm, ⟨19, _⟩ => ⟨S4352x6144, .f32⟩
  | .hbm, ⟨20, _⟩ => ⟨S4352x6144, .f32⟩
  | .hbm, ⟨21, _⟩ => ⟨S4352x6144, .f32⟩
  | .hbm, ⟨22, _⟩ => ⟨S4352x3x2048, .f32⟩
  | .hbm, ⟨23, _⟩ => ⟨S4352x1x2048, .f32⟩
  | .hbm, ⟨24, _⟩ => ⟨S4352x2048, .f32⟩
  | .hbm, ⟨25, _⟩ => ⟨S4352x2048, .f32⟩
  | .hbm, ⟨26, _⟩ => ⟨S4352x1x2048, .f32⟩
  | .hbm, ⟨27, _⟩ => ⟨S4352x2048, .f32⟩
  | .hbm, ⟨28, _⟩ => ⟨S4352x2048, .f32⟩
  | .hbm, ⟨29, _⟩ => ⟨S4352x2048, .f32⟩
  | .hbm, ⟨30, _⟩ => ⟨S4352x1x2048, .f32⟩
  | .hbm, ⟨31, _⟩ => ⟨S4352x2048, .f32⟩
  | .hbm, ⟨32, _⟩ => ⟨S4352x2048, .f32⟩
  | .hbm, ⟨33, _⟩ => ⟨S4352x2048, .f32⟩
  | .hbm, ⟨34, _⟩ => ⟨S4352x2048, .f32⟩
  | .hbm, ⟨35, _⟩ => ⟨S4352x2048, .f32⟩
  | .hbm, ⟨36, _⟩ => ⟨S4352x2048, .f32⟩
  | .hbm, ⟨37, _⟩ => ⟨S4352x2048, .f32⟩
  | .hbm, ⟨38, _⟩ => ⟨S4352x1x2048, .f32⟩
  | .hbm, ⟨39, _⟩ => ⟨S_, .f32⟩
  | .hbm, ⟨40, _⟩ => ⟨S4352x3x2048, .f32⟩
  | .hbm, ⟨41, _⟩ => ⟨S4352x2048, .f32⟩
  | .hbm, ⟨42, _⟩ => ⟨S4352x2048, .f32⟩
  | .hbm, ⟨43, _⟩ => ⟨S4352x1x2048, .f32⟩
  | .hbm, ⟨44, _⟩ => ⟨S_, .f32⟩
  | .hbm, ⟨45, _⟩ => ⟨S4352x3x2048, .f32⟩
  | .hbm, ⟨46, _⟩ => ⟨S4352x3x2048, .f32⟩
  | .hbm, ⟨47, _⟩ => ⟨S4352x2048, .f32⟩
  | .hbm, ⟨48, _⟩ => ⟨S4352x2048, .f32⟩
  | .hbm, ⟨49, _⟩ => ⟨S4352x1x2048, .f32⟩
  | .hbm, ⟨50, _⟩ => ⟨S_, .f32⟩
  | .hbm, ⟨51, _⟩ => ⟨S4352x3x2048, .f32⟩
  | .hbm, ⟨52, _⟩ => ⟨S4352x3x2048, .f32⟩
  | .hbm, ⟨53, _⟩ => ⟨S4352x6144, .f32⟩
  | .hbm, ⟨54, _⟩ => ⟨S4352x6144, .f32⟩
  | .hbm, ⟨55, _⟩ => ⟨S_, .f32⟩
  | .hbm, ⟨56, _⟩ => ⟨S6144, .f32⟩
  | .hbm, ⟨57, _⟩ => ⟨S1x6144, .f32⟩
  | .hbm, ⟨58, _⟩ => ⟨S_, .f32⟩
  | .hbm, ⟨59, _⟩ => ⟨S6144, .f32⟩
  | .hbm, ⟨60, _⟩ => ⟨S4352x2048, .f32⟩
  | .hbm, ⟨61, _⟩ => ⟨S4352x2048, .f32⟩
  | .hbm, ⟨62, _⟩ => ⟨S4352x2048, .f32⟩
  | .hbm, ⟨63, _⟩ => ⟨S4352x2048, .bf16⟩
  | .hbm, ⟨64, _⟩ => ⟨S4352x2048, .bf16⟩
  | .hbm, ⟨65, _⟩ => ⟨S4352x2048, .bf16⟩
  | .hbm, ⟨66, _⟩ => ⟨S4352x2048, .bf16⟩
  | .hbm, ⟨67, _⟩ => ⟨S4352x2048, .bf16⟩
  | .hbm, ⟨68, _⟩ => ⟨S4352x2048, .bf16⟩
  | .hbm, ⟨69, _⟩ => ⟨S1x6144, .f32⟩
  | .hbm, ⟨70, _⟩ => ⟨S1x2048, .f32⟩
  | .hbm, ⟨71, _⟩ => ⟨S1x2048, .f32⟩
  | .hbm, ⟨72, _⟩ => ⟨S1x2048, .f32⟩
  | _, _ => ⟨S4352x10880, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩

abbrev nD : Nat := 1
abbrev τ : Topo := Topo.v7x

variable {F : FTy → Type} [FloatOps F]
-- ==== Kernel12.lean ====
abbrev S4352x2048 : Shape := ⟨2, ![4352, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S4352x2048, .f32⟩
  | .hbm, ⟨1, _⟩ => ⟨S2048, .f32⟩
  | .hbm, ⟨2, _⟩ => ⟨S4352x2048, .f32⟩
  | .hbm, ⟨3, _⟩ => ⟨S4352x2048, .f32⟩
  | .hbm, ⟨4, _⟩ => ⟨S1x2048, .f32⟩
  | .hbm, ⟨5, _⟩ => ⟨S4352x2048, .f32⟩
  | .hbm, ⟨6, _⟩ => ⟨S4352x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v38 : BitVec 1 := Scalar.cmpi .eq arg0 c0_i32
  let v39 : BitVec 32 := Scalar.extui v38
  let c0_i32_16 : BitVec 32 := 0#32
  let v40 : BitVec 1 := Scalar.cmpi .ne v39 c0_i32_16
  v40

def k0_cond2 (i : grid0.Coords) : BitVec 1 :=
  let arg0 : BitVec 32 := BitVec.ofNat 32 (i 0).val
  let c0_i32_17 : BitVec 32 := 0#32
  let v41 : BitVec 1 := Scalar.cmpi .sgt arg0 c0_i32_17
  let v42 : BitVec 32 := Scalar.extui v41
  let c0_i32_18 : BitVec 32 := 0#32
  let v43 : BitVec 1 := Scalar.cmpi .ne v42 c0_i32_18
  v43

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference12Ideal.lean ====
abbrev S4352x2048 : Shape := ⟨2, ![4352, 2048]⟩
abbrev S2048 : Shape := ⟨1, ![2048]⟩
abbrev S_ : Shape := ⟨0, ![]⟩
abbrev S4352 : Shape := ⟨1, ![4352]⟩
abbrev S4352x1 : Shape := ⟨2, ![4352, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S2048, .f32⟩
  | .hbm, ⟨2, _⟩ => ⟨S4352x2048, .f32⟩
  | .hbm, ⟨3, _⟩ => ⟨S4352x2048, .f32⟩
  | .hbm, ⟨4, _⟩ => ⟨S4352x2048, .f32⟩
  | .hbm, ⟨5, _⟩ => ⟨S_, .f32⟩
  | .hbm, ⟨6, _⟩ => ⟨S4352, .f32⟩
  | .hbm, ⟨7, _⟩ => ⟨S4352x1, .f32⟩
  | .hbm, ⟨8, _⟩ => ⟨S_, .f32⟩
  | .hbm, ⟨9, _⟩ => ⟨S4352x1, .f32⟩
  | .hbm, ⟨10, _⟩ => ⟨S4352x1, .f32⟩
  | .hbm, ⟨11, _⟩ => ⟨S_, .f32⟩
  | .hbm, ⟨12, _⟩ => ⟨S4352x1, .f32⟩
  | .hbm, ⟨13, _⟩ => ⟨S4352x1, .f32⟩
  | .hbm, ⟨14, _⟩ => ⟨S4352x1, .f32⟩
  | .hbm, ⟨15, _⟩ => ⟨S4352x1, .f32⟩
  | .hbm, ⟨16, _⟩ => ⟨S_, .f32⟩
  | .hbm, ⟨17, _⟩ => ⟨S4352x1, .f32⟩
  | .hbm, ⟨18, _⟩ => ⟨S4352x1, .f32⟩
  | .hbm, ⟨19, _⟩ => ⟨S4352x2048, .f32⟩
  | .hbm, ⟨20, _⟩ => ⟨S4352x2048, .f32⟩
  | .hbm, ⟨21, _⟩ => ⟨S1x2048, .f32⟩
  | .hbm, ⟨22, _⟩ => ⟨S4352x2048, .f32⟩
  | .hbm, ⟨23, _⟩ => ⟨S4352x2048, .f32⟩
  | .hbm, ⟨24, _⟩ => ⟨S4352x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4352x2048, .f32⟩
  | .hbm, ⟨29, _⟩ => ⟨S4352x2048, .f32⟩
  | .hbm, ⟨30, _⟩ => ⟨S_, .f32⟩
  | .hbm, ⟨31, _⟩ => ⟨S2048, .f32⟩
  | .hbm, ⟨32, _⟩ => ⟨S4352x2048, .f32⟩
  | .hbm, ⟨33, _⟩ => ⟨S_, .f32⟩
  | .hbm, ⟨34, _⟩ => ⟨S4352, .f32⟩
  | .hbm, ⟨35, _⟩ => ⟨S4352x1, .f32⟩
  | .hbm, ⟨36, _⟩ => ⟨S4352x2048, .f32⟩
  | .hbm, ⟨37, _⟩ => ⟨S4352x2048, .f32⟩
  | .hbm, ⟨38, _⟩ => ⟨S4352x1, .f32⟩
  | .hbm, ⟨39, _⟩ => ⟨S_, .f32⟩
  | .hbm, ⟨40, _⟩ => ⟨S4352x1, .f32⟩
  | .hbm, ⟨41, _⟩ => ⟨S4352x1, .f32⟩
  | .hbm, ⟨42, _⟩ => ⟨S_, .f32⟩
  | .hbm, ⟨43, _⟩ => ⟨S4352, .f32⟩
  | .hbm, ⟨44, _⟩ => ⟨S4352x2048, .f32⟩
  | .hbm, ⟨45, _⟩ => ⟨S4352x2048, .f32⟩
  | .hbm, ⟨46, _⟩ => ⟨S4352x2048, .f32⟩
  | .hbm, ⟨47, _⟩ => ⟨S4352x2048, .f32⟩
  | .hbm, ⟨48, _⟩ => ⟨S4352x2048, .f32⟩
  | .hbm, ⟨49, _⟩ => ⟨S4352x2048, .f32⟩
  | .hbm, ⟨50, _⟩ => ⟨S4352x2048, .bf16⟩
  | .hbm, ⟨51, _⟩ => ⟨S1x2048, .f32⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel13.lean ====
abbrev S4352x2048 : Shape := ⟨2, ![4352, 2048]⟩
abbrev S2048x2048 : Shape := ⟨2, ![2048, 2048]⟩
abbrev S1088x2048 : Shape := ⟨2, ![1088, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4352x2048, .bf16⟩
  | .hbm, ⟨1, _⟩ => ⟨S2048x2048, .bf16⟩
  | .hbm, ⟨2, _⟩ => ⟨S4352x2048, .f32⟩
  | .local _ .vmem, ⟨0, _⟩ => ⟨S1088x2048, .bf16⟩
  | .local _ .vmem, ⟨1, _⟩ => ⟨S1088x2048, .bf16⟩
  | .local _ .vmem, ⟨2, _⟩ => ⟨S2048x2048, .bf16⟩
  | .local _ .vmem, ⟨3, _⟩ => ⟨S1088x2048, .f32⟩
  | .local _ .vmem, ⟨4, _⟩ => ⟨S1088x2048, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4352x2048 : Shape := ⟨2, ![4352, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x2048, .bf16⟩
  | .hbm, ⟨2, _⟩ => ⟨S2048x2048, .f32⟩
  | .hbm, ⟨3, _⟩ => ⟨S4352x2048, .f32⟩
  | .hbm, ⟨4, _⟩ => ⟨S4352x2048, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel14.lean ====
abbrev S4352x2048 : Shape := ⟨2, ![4352, 2048]⟩
abbrev S2048x2048 : Shape := ⟨2, ![2048, 2048]⟩
abbrev S2176x1024 : Shape := ⟨2, ![2176, 1024]⟩
abbrev S2176x2048 : Shape := ⟨2, ![2176, 2048]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S4352x2048, .bf16⟩
  | .hbm, ⟨2, _⟩ => ⟨S2048x2048, .bf16⟩
  | .local _ .vmem, ⟨0, _⟩ => ⟨S2176x1024, .bf16⟩
  | .local _ .vmem, ⟨1, _⟩ => ⟨S2176x1024, .bf16⟩
  | .local _ .vmem, ⟨2, _⟩ => ⟨S2176x2048, .bf16⟩
  | .local _ .vmem, ⟨3, _⟩ => ⟨S2176x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4352x2048 : Shape := ⟨2, ![4352, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4352x2048, .bf16⟩
  | .hbm, ⟨2, _⟩ => ⟨S4352x2048, .f32⟩
  | .hbm, ⟨3, _⟩ => ⟨S4352x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel15.lean ====
abbrev S4352x1024 : Shape := ⟨2, ![4352, 1024]⟩
abbrev S4352x2048 : Shape := ⟨2, ![4352, 2048]⟩
abbrev S4x1024x512 : Shape := ⟨3, ![4, 1024, 512]⟩
abbrev S2176x1024 : Shape := ⟨2, ![2176, 1024]⟩
abbrev S2176x512 : Shape := ⟨2, ![2176, 512]⟩
abbrev S1x1024x512 : Shape := ⟨3, ![1, 1024, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4352x1024, .bf16⟩
  | .hbm, ⟨1, _⟩ => ⟨S4352x2048, .bf16⟩
  | .hbm, ⟨2, _⟩ => ⟨S4x1024x512, .bf16⟩
  | .local _ .vmem, ⟨0, _⟩ => ⟨S2176x1024, .bf16⟩
  | .local _ .vmem, ⟨1, _⟩ => ⟨S2176x1024, .bf16⟩
  | .local _ .vmem, ⟨2, _⟩ => ⟨S2176x512, .bf16⟩
  | .local _ .vmem, ⟨3, _⟩ => ⟨S2176x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4352x1024 : Shape := ⟨2, ![4352, 1024]⟩
abbrev S4352x2048 : Shape := ⟨2, ![4352, 2048]⟩
abbrev S2048x1024 : Shape := ⟨2, ![2048, 1024]⟩
abbrev S1024x2048 : Shape := ⟨2, ![1024, 2048]⟩
abbrev S1024x512 : Shape := ⟨2, ![1024, 512]⟩
abbrev S1x1024x512 : Shape := ⟨3, ![1, 1024, 512]⟩
abbrev S4x1024x512 : Shape := ⟨3, ![4, 1024, 512]⟩

abbrev nBuf : Space → Nat
  | .hbm => 16
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x2048, .bf16⟩
  | .hbm, ⟨2, _⟩ => ⟨S4352x1024, .f32⟩
  | .hbm, ⟨3, _⟩ => ⟨S4352x2048, .f32⟩
  | .hbm, ⟨4, _⟩ => ⟨S2048x1024, .f32⟩
  | .hbm, ⟨5, _⟩ => ⟨S1024x2048, .f32⟩
  | .hbm, ⟨6, _⟩ => ⟨S1024x2048, .bf16⟩
  | .hbm, ⟨7, _⟩ => ⟨S1024x512, .bf16⟩
  | .hbm, ⟨8, _⟩ => ⟨S1024x512, .bf16⟩
  | .hbm, ⟨9, _⟩ => ⟨S1024x512, .bf16⟩
  | .hbm, ⟨10, _⟩ => ⟨S1024x512, .bf16⟩
  | .hbm, ⟨11, _⟩ => ⟨S1x1024x512, .bf16⟩
  | .hbm, ⟨12, _⟩ => ⟨S1x1024x512, .bf16⟩
  | .hbm, ⟨13, _⟩ => ⟨S1x1024x512, .bf16⟩
  | .hbm, ⟨14, _⟩ => ⟨S1x1024x512, .bf16⟩
  | .hbm, ⟨15, _⟩ => ⟨S4x1024x512, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩

abbrev nD : Nat := 1
abbrev τ : Topo := Topo.v7x

variable {F : FTy → Type} [FloatOps F]
-- ==== Kernel16.lean ====
abbrev S4352x2048 : Shape := ⟨2, ![4352, 2048]⟩
abbrev S1024x2048 : Shape := ⟨2, ![1024, 2048]⟩
abbrev S1024x4x512 : Shape := ⟨3, ![1024, 4, 512]⟩
abbrev S4x1024x512 : Shape := ⟨3, ![4, 1024, 512]⟩
abbrev S4352x1024 : Shape := ⟨2, ![4352, 1024]⟩
abbrev S1088x512 : Shape := ⟨2, ![1088, 512]⟩
abbrev S1x1024x512 : Shape := ⟨3, ![1, 1024, 512]⟩
abbrev S1088x1024 : Shape := ⟨2, ![1088, 1024]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S1024x2048, .bf16⟩
  | .hbm, ⟨2, _⟩ => ⟨S1024x4x512, .bf16⟩
  | .hbm, ⟨3, _⟩ => ⟨S4x1024x512, .bf16⟩
  | .hbm, ⟨4, _⟩ => ⟨S4352x1024, .bf16⟩
  | .local _ .vmem, ⟨0, _⟩ => ⟨S1088x512, .bf16⟩
  | .local _ .vmem, ⟨1, _⟩ => ⟨S1088x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1088x1024, .bf16⟩
  | .local _ .vmem, ⟨5, _⟩ => ⟨S1088x1024, .bf16⟩
  | .local _ .vmem, ⟨6, _⟩ => ⟨S1088x1024, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4352x2048 : Shape := ⟨2, ![4352, 2048]⟩
abbrev S1024x2048 : Shape := ⟨2, ![1024, 2048]⟩
abbrev S4352x1024 : Shape := ⟨2, ![4352, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S1024x2048, .bf16⟩
  | .hbm, ⟨2, _⟩ => ⟨S1024x2048, .f32⟩
  | .hbm, ⟨3, _⟩ => ⟨S4352x2048, .f32⟩
  | .hbm, ⟨4, _⟩ => ⟨S4352x1024, .f32⟩
  | .hbm, ⟨5, _⟩ => ⟨S4352x1024, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel17.lean ====
abbrev S4352x2048 : Shape := ⟨2, ![4352, 2048]⟩
abbrev S2048x10816 : Shape := ⟨2, ![2048, 10816]⟩
abbrev S2048x4608 : Shape := ⟨2, ![2048, 4608]⟩
abbrev S2048x6144 : Shape := ⟨2, ![2048, 6144]⟩
abbrev S2048x64 : Shape := ⟨2, ![2048, 64]⟩
abbrev S_ : Shape := ⟨0, ![]⟩
abbrev S2048x10880 : Shape := ⟨2, ![2048, 10880]⟩
abbrev S4352x10880 : Shape := ⟨2, ![4352, 10880]⟩
abbrev S1088x2048 : Shape := ⟨2, ![1088, 2048]⟩
abbrev S2048x2176 : Shape := ⟨2, ![2048, 2176]⟩
abbrev S1088x2176 : Shape := ⟨2, ![1088, 2176]⟩

abbrev nBuf : Space → Nat
  | .hbm => 9
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S2048x10816, .bf16⟩
  | .hbm, ⟨2, _⟩ => ⟨S2048x4608, .bf16⟩
  | .hbm, ⟨3, _⟩ => ⟨S2048x6144, .bf16⟩
  | .hbm, ⟨4, _⟩ => ⟨S2048x64, .bf16⟩
  | .hbm, ⟨5, _⟩ => ⟨S_, .bf16⟩
  | .hbm, ⟨6, _⟩ => ⟨S2048x64, .bf16⟩
  | .hbm, ⟨7, _⟩ => ⟨S2048x10880, .bf16⟩
  | .hbm, ⟨8, _⟩ => ⟨S4352x10880, .f32⟩
  | .local _ .vmem, ⟨0, _⟩ => ⟨S1088x2048, .bf16⟩
  | .local _ .vmem, ⟨1, _⟩ => ⟨S1088x2048, .bf16⟩
  | .local _ .vmem, ⟨2, _⟩ => ⟨S2048x2176, .bf16⟩
  | .local _ .vmem, ⟨3, _⟩ => ⟨S2048x2176, .bf16⟩
  | .local _ .vmem, ⟨4, _⟩ => ⟨S1088x2176, .f32⟩
  | .local _ .vmem, ⟨5, _⟩ => ⟨S1088x2176, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4352x2048 : Shape := ⟨2, ![4352, 2048]⟩
abbrev S2048x10816 : Shape := ⟨2, ![2048, 10816]⟩
abbrev S4352x10816 : Shape := ⟨2, ![4352, 10816]⟩
abbrev S4352x4608 : Shape := ⟨2, ![4352, 4608]⟩
abbrev S4352x64 : Shape := ⟨2, ![4352, 64]⟩
abbrev S4352x6144 : Shape := ⟨2, ![4352, 6144]⟩
abbrev S_ : Shape := ⟨0, ![]⟩
abbrev S4352x10880 : Shape := ⟨2, ![4352, 10880]⟩

abbrev nBuf : Space → Nat
  | .hbm => 12
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x10816, .bf16⟩
  | .hbm, ⟨2, _⟩ => ⟨S4352x2048, .f32⟩
  | .hbm, ⟨3, _⟩ => ⟨S2048x10816, .f32⟩
  | .hbm, ⟨4, _⟩ => ⟨S4352x10816, .f32⟩
  | .hbm, ⟨5, _⟩ => ⟨S4352x4608, .f32⟩
  | .hbm, ⟨6, _⟩ => ⟨S4352x64, .f32⟩
  | .hbm, ⟨7, _⟩ => ⟨S4352x6144, .f32⟩
  | .hbm, ⟨8, _⟩ => ⟨S4352x10816, .f32⟩
  | .hbm, ⟨9, _⟩ => ⟨S_, .i32⟩
  | .hbm, ⟨10, _⟩ => ⟨S_, .f32⟩
  | .hbm, ⟨11, _⟩ => ⟨S4352x10880, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel18.lean ====
abbrev S4352x2048 : Shape := ⟨2, ![4352, 2048]⟩
abbrev S2048x5632 : Shape := ⟨2, ![2048, 5632]⟩
abbrev S2048x4x1408 : Shape := ⟨3, ![2048, 4, 1408]⟩
abbrev S4x2048x1408 : Shape := ⟨3, ![4, 2048, 1408]⟩
abbrev S4352x5632 : Shape := ⟨2, ![4352, 5632]⟩
abbrev S1088x2048 : Shape := ⟨2, ![1088, 2048]⟩
abbrev S1x2048x1408 : Shape := ⟨3, ![1, 2048, 1408]⟩
abbrev S1088x1408 : Shape := ⟨2, ![1088, 1408]⟩
abbrev S2048x1408 : Shape := ⟨2, ![2048, 1408]⟩

abbrev nBuf : Space → Nat
  | .hbm => 5
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S2048x5632, .bf16⟩
  | .hbm, ⟨2, _⟩ => ⟨S2048x4x1408, .bf16⟩
  | .hbm, ⟨3, _⟩ => ⟨S4x2048x1408, .bf16⟩
  | .hbm, ⟨4, _⟩ => ⟨S4352x5632, .bf16⟩
  | .local _ .vmem, ⟨0, _⟩ => ⟨S1088x2048, .bf16⟩
  | .local _ .vmem, ⟨1, _⟩ => ⟨S1088x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1088x1408, .bf16⟩
  | .local _ .vmem, ⟨5, _⟩ => ⟨S1088x1408, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4352x2048 : Shape := ⟨2, ![4352, 2048]⟩
abbrev S2048x5632 : Shape := ⟨2, ![2048, 5632]⟩
abbrev S4352x5632 : Shape := ⟨2, ![4352, 5632]⟩

abbrev nBuf : Space → Nat
  | .hbm => 6
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x5632, .bf16⟩
  | .hbm, ⟨2, _⟩ => ⟨S4352x2048, .f32⟩
  | .hbm, ⟨3, _⟩ => ⟨S2048x5632, .f32⟩
  | .hbm, ⟨4, _⟩ => ⟨S4352x5632, .f32⟩
  | .hbm, ⟨5, _⟩ => ⟨S4352x5632, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel19.lean ====
abbrev S4352x5632 : Shape := ⟨2, ![4352, 5632]⟩
abbrev S5632x2048 : Shape := ⟨2, ![5632, 2048]⟩
abbrev S4352x2048 : Shape := ⟨2, ![4352, 2048]⟩
abbrev S1088x1408 : Shape := ⟨2, ![1088, 1408]⟩
abbrev S1408x1024 : Shape := ⟨2, ![1408, 1024]⟩
abbrev S1088x1024 : Shape := ⟨2, ![1088, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4352x5632, .bf16⟩
  | .hbm, ⟨1, _⟩ => ⟨S5632x2048, .bf16⟩
  | .hbm, ⟨2, _⟩ => ⟨S4352x2048, .f32⟩
  | .hbm, ⟨3, _⟩ => ⟨S4352x2048, .f32⟩
  | .local _ .vmem, ⟨0, _⟩ => ⟨S1088x1408, .bf16⟩
  | .local _ .vmem, ⟨1, _⟩ => ⟨S1088x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | .local _ .vmem, ⟨7, _⟩ => ⟨S1088x1024, .f32⟩
  | _, _ => ⟨S4352x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let c3_i32 : BitVec 32 := 3#32
  let v7 : BitVec 1 := Scalar.cmpi .slt arg2 c3_i32
  let v8 : BitVec 1 := Scalar.andi v6 v7
  let v9 : BitVec 32 := Scalar.extui v8
  let c0_i32_5 : BitVec 32 := 0#32
  let v10 : BitVec 1 := Scalar.cmpi .ne v9 c0_i32_5
  v10

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference19Ideal.lean ====
abbrev S4352x5632 : Shape := ⟨2, ![4352, 5632]⟩
abbrev S5632x2048 : Shape := ⟨2, ![5632, 2048]⟩
abbrev S4352x2048 : Shape := ⟨2, ![4352, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4352x5632, .bf16⟩
  | .hbm, ⟨1, _⟩ => ⟨S5632x2048, .bf16⟩
  | .hbm, ⟨2, _⟩ => ⟨S4352x2048, .f32⟩
  | .hbm, ⟨3, _⟩ => ⟨S4352x5632, .f32⟩
  | .hbm, ⟨4, _⟩ => ⟨S5632x2048, .f32⟩
  | .hbm, ⟨5, _⟩ => ⟨S4352x2048, .f32⟩
  | .hbm, ⟨6, _⟩ => ⟨S4352x2048, .f32⟩
  | _, _ => ⟨S4352x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel20.lean ====
abbrev S4352x1024 : Shape := ⟨2, ![4352, 1024]⟩
abbrev S1024x2048 : Shape := ⟨2, ![1024, 2048]⟩
abbrev S1024x4x512 : Shape := ⟨3, ![1024, 4, 512]⟩
abbrev S4x1024x512 : Shape := ⟨3, ![4, 1024, 512]⟩
abbrev S4352x2048 : Shape := ⟨2, ![4352, 2048]⟩
abbrev S1088x1024 : Shape := ⟨2, ![1088, 1024]⟩
abbrev S1x1024x512 : Shape := ⟨3, ![1, 1024, 512]⟩
abbrev S1088x512 : Shape := ⟨2, ![1088, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S1024x2048, .bf16⟩
  | .hbm, ⟨2, _⟩ => ⟨S1024x4x512, .bf16⟩
  | .hbm, ⟨3, _⟩ => ⟨S4x1024x512, .bf16⟩
  | .hbm, ⟨4, _⟩ => ⟨S4352x2048, .f32⟩
  | .local _ .vmem, ⟨0, _⟩ => ⟨S1088x1024, .bf16⟩
  | .local _ .vmem, ⟨1, _⟩ => ⟨S1088x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1088x512, .f32⟩
  | .local _ .vmem, ⟨5, _⟩ => ⟨S1088x512, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S4352x1024 : Shape := ⟨2, ![4352, 1024]⟩
abbrev S1024x2048 : Shape := ⟨2, ![1024, 2048]⟩
abbrev S4352x2048 : Shape := ⟨2, ![4352, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x2048, .bf16⟩
  | .hbm, ⟨2, _⟩ => ⟨S4352x1024, .f32⟩
  | .hbm, ⟨3, _⟩ => ⟨S1024x2048, .f32⟩
  | .hbm, ⟨4, _⟩ => ⟨S4352x2048, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel21.lean ====
abbrev S4352x2048 : Shape := ⟨2, ![4352, 2048]⟩
abbrev S2048x2048 : Shape := ⟨2, ![2048, 2048]⟩
abbrev S1088x2048 : Shape := ⟨2, ![1088, 2048]⟩
abbrev S2048x1024 : Shape := ⟨2, ![2048, 1024]⟩
abbrev S1088x1024 : Shape := ⟨2, ![1088, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4352x2048, .bf16⟩
  | .hbm, ⟨1, _⟩ => ⟨S2048x2048, .bf16⟩
  | .hbm, ⟨2, _⟩ => ⟨S4352x2048, .f32⟩
  | .hbm, ⟨3, _⟩ => ⟨S4352x2048, .f32⟩
  | .local _ .vmem, ⟨0, _⟩ => ⟨S1088x2048, .bf16⟩
  | .local _ .vmem, ⟨1, _⟩ => ⟨S1088x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | .local _ .vmem, ⟨7, _⟩ => ⟨S1088x1024, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference21Ideal.lean ====
abbrev S4352x2048 : Shape := ⟨2, ![4352, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x2048, .bf16⟩
  | .hbm, ⟨2, _⟩ => ⟨S4352x2048, .f32⟩
  | .hbm, ⟨3, _⟩ => ⟨S4352x2048, .f32⟩
  | .hbm, ⟨4, _⟩ => ⟨S2048x2048, .f32⟩
  | .hbm, ⟨5, _⟩ => ⟨S4352x2048, .f32⟩
  | .hbm, ⟨6, _⟩ => ⟨S4352x2048, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel22.lean ====
abbrev S4352x1024 : Shape := ⟨2, ![4352, 1024]⟩
abbrev S4352x256 : Shape := ⟨2, ![4352, 256]⟩
abbrev S1088x128 : Shape := ⟨2, ![1088, 128]⟩
abbrev S2176x128 : Shape := ⟨2, ![2176, 128]⟩
abbrev S1088x2176 : Shape := ⟨2, ![1088, 2176]⟩
abbrev S1x2176 : Shape := ⟨2, ![1, 2176]⟩
abbrev S1088 : Shape := ⟨1, ![1088]⟩
abbrev S1088x1 : Shape := ⟨2, ![1088, 1]⟩

abbrev nBuf : Space → Nat
  | .hbm => 4
  | .vmem => 8
  | .smem => 0
  | _ => 0

abbrev bufTy : (tb : Table) → Fin (tcTables nBuf tb) → BufTy
  | .hbm, ⟨0, _⟩ => ⟨S4352x1024, .bf16⟩
  | .hbm, ⟨1, _⟩ => ⟨S4352x256, .bf16⟩
  | .hbm, ⟨2, _⟩ => ⟨S4352x256, .bf16⟩
  | .hbm, ⟨3, _⟩ => ⟨S4352x1024, .bf16⟩
  | .local _ .vmem, ⟨0, _⟩ => ⟨S1088x128, .bf16⟩
  | .local _ .vmem, ⟨1, _⟩ => ⟨S1088x128, .bf16⟩
  | .local _ .vmem, ⟨2, _⟩ => ⟨S2176x128, .bf16⟩
  | .local _ .vmem, ⟨3, _⟩ => ⟨S2176x128, .bf16⟩
  | .local _ .vmem, ⟨4, _⟩ => ⟨S2176x128, .bf16⟩
  | .local _ .vmem, ⟨5, _⟩ => ⟨S2176x128, .bf16⟩
  | .local _ .vmem, ⟨6, _⟩ => ⟨S1088x128, .bf16⟩
  | .local _ .vmem, ⟨7, _⟩ => ⟨S1088x128, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg0.toNat, v16.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg0.toNat, v16.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 2 → Memref sig .tc .vmem S1088x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2176x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2176x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Kernel22Ideal.lean ====
variable {F : FTy → Type} [FloatOps F] [Named F]
def κ : String → Option EReal := fun
  | "mask" => some ⊥
  | _ => none
-- ==== Reference22Ideal.lean ====
abbrev S4352x1024 : Shape := ⟨2, ![4352, 1024]⟩
abbrev S4352x256 : Shape := ⟨2, ![4352, 256]⟩
abbrev S2x2176x2x4x128 : Shape := ⟨5, ![2, 2176, 2, 4, 128]⟩
abbrev S2x2176x2x128 : Shape := ⟨4, ![2, 2176, 2, 128]⟩
abbrev S2x2064x2x128 : Shape := ⟨4, ![2, 2064, 2, 128]⟩
abbrev S2x2x2064x2176x4 : Shape := ⟨5, ![2, 2, 2064, 2176, 4]⟩
abbrev S2x2x4x2176x2064 : Shape := ⟨5, ![2, 2, 4, 2176, 2064]⟩
abbrev S_ : Shape := ⟨0, ![]⟩
abbrev S2x2x4x2176 : Shape := ⟨4, ![2, 2, 4, 2176]⟩
abbrev S2x2x4x2176x1 : Shape := ⟨5, ![2, 2, 4, 2176, 1]⟩
abbrev S2x2x128x4x2176 : Shape := ⟨5, ![2, 2, 128, 4, 2176]⟩

abbrev nBuf : Space → Nat
  | .hbm => 34
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x256, .bf16⟩
  | .hbm, ⟨2, _⟩ => ⟨S4352x256, .bf16⟩
  | .hbm, ⟨3, _⟩ => ⟨S4352x1024, .f32⟩
  | .hbm, ⟨4, _⟩ => ⟨S4352x256, .f32⟩
  | .hbm, ⟨5, _⟩ => ⟨S4352x256, .f32⟩
  | .hbm, ⟨6, _⟩ => ⟨S2x2176x2x4x128, .f32⟩
  | .hbm, ⟨7, _⟩ => ⟨S2x2176x2x128, .f32⟩
  | .hbm, ⟨8, _⟩ => ⟨S2x2064x2x128, .f32⟩
  | .hbm, ⟨9, _⟩ => ⟨S2x2176x2x128, .f32⟩
  | .hbm, ⟨10, _⟩ => ⟨S2x2064x2x128, .f32⟩
  | .hbm, ⟨11, _⟩ => ⟨S2x2x2064x2176x4, .f32⟩
  | .hbm, ⟨12, _⟩ => ⟨S2x2x4x2176x2064, .f32⟩
  | .hbm, ⟨13, _⟩ => ⟨S_, .f32⟩
  | .hbm, ⟨14, _⟩ => ⟨S2x2x4x2176x2064, .f32⟩
  | .hbm, ⟨15, _⟩ => ⟨S2x2x4x2176x2064, .f32⟩
  | .hbm, ⟨16, _⟩ => ⟨S_, .f32⟩
  | .hbm, ⟨17, _⟩ => ⟨S2x2x4x2176, .f32⟩
  | .hbm, ⟨18, _⟩ => ⟨S_, .f32⟩
  | .hbm, ⟨19, _⟩ => ⟨S2x2x4x2176, .f32⟩
  | .hbm, ⟨20, _⟩ => ⟨S2x2x4x2176, .f32⟩
  | .hbm, ⟨21, _⟩ => ⟨S2x2x4x2176x1, .f32⟩
  | .hbm, ⟨22, _⟩ => ⟨S2x2x4x2176x2064, .f32⟩
  | .hbm, ⟨23, _⟩ => ⟨S2x2x4x2176x2064, .f32⟩
  | .hbm, ⟨24, _⟩ => ⟨S2x2x4x2176x2064, .f32⟩
  | .hbm, ⟨25, _⟩ => ⟨S_, .f32⟩
  | .hbm, ⟨26, _⟩ => ⟨S2x2x4x2176, .f32⟩
  | .hbm, ⟨27, _⟩ => ⟨S2x2x4x2176x1, .f32⟩
  | .hbm, ⟨28, _⟩ => ⟨S2x2x4x2176x2064, .f32⟩
  | .hbm, ⟨29, _⟩ => ⟨S2x2x4x2176x2064, .f32⟩
  | .hbm, ⟨30, _⟩ => ⟨S2x2x128x4x2176, .f32⟩
  | .hbm, ⟨31, _⟩ => ⟨S2x2176x2x4x128, .f32⟩
  | .hbm, ⟨32, _⟩ => ⟨S4352x1024, .f32⟩
  | .hbm, ⟨33, _⟩ => ⟨S4352x1024, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Kernel23.lean ====
abbrev S4352x1536 : Shape := ⟨2, ![4352, 1536]⟩
abbrev S4352x1024 : Shape := ⟨2, ![4352, 1024]⟩
abbrev S4352x8x192 : Shape := ⟨3, ![4352, 8, 192]⟩
abbrev S_ : Shape := ⟨0, ![]⟩
abbrev S4352x8x256 : Shape := ⟨3, ![4352, 8, 256]⟩
abbrev S4352x2048 : Shape := ⟨2, ![4352, 2048]⟩
abbrev S1088x256 : Shape := ⟨2, ![1088, 256]⟩
abbrev S2176x256 : Shape := ⟨2, ![2176, 256]⟩
abbrev S2176x128 : Shape := ⟨2, ![2176, 128]⟩
abbrev S1088x128 : Shape := ⟨2, ![1088, 128]⟩
abbrev S1088x2176 : Shape := ⟨2, ![1088, 2176]⟩
abbrev S1x2176 : Shape := ⟨2, ![1, 2176]⟩
abbrev S1088 : Shape := ⟨1, ![1088]⟩
abbrev S1088x1 : Shape := ⟨2, ![1088, 1]⟩

abbrev nBuf : Space → Nat
  | .hbm => 14
  | .vmem => 8
  | .smem => 0
  | _ => 0

abbrev bufTy : (tb : Table) → Fin (tcTables nBuf tb) → BufTy
  | .hbm, ⟨0, _⟩ => ⟨S4352x1536, .bf16⟩
  | .hbm, ⟨1, _⟩ => ⟨S4352x1536, .bf16⟩
  | .hbm, ⟨2, _⟩ => ⟨S4352x1024, .bf16⟩
  | .hbm, ⟨3, _⟩ => ⟨S4352x8x192, .bf16⟩
  | .hbm, ⟨4, _⟩ => ⟨S_, .i32⟩
  | .hbm, ⟨5, _⟩ => ⟨S_, .bf16⟩
  | .hbm, ⟨6, _⟩ => ⟨S4352x8x256, .bf16⟩
  | .hbm, ⟨7, _⟩ => ⟨S4352x2048, .bf16⟩
  | .hbm, ⟨8, _⟩ => ⟨S4352x8x192, .bf16⟩
  | .hbm, ⟨9, _⟩ => ⟨S_, .i32⟩
  | .hbm, ⟨10, _⟩ => ⟨S_, .bf16⟩
  | .hbm, ⟨11, _⟩ => ⟨S4352x8x256, .bf16⟩
  | .hbm, ⟨12, _⟩ => ⟨S4352x2048, .bf16⟩
  | .hbm, ⟨13, _⟩ => ⟨S4352x1024, .bf16⟩
  | .local _ .vmem, ⟨0, _⟩ => ⟨S1088x256, .bf16⟩
  | .local _ .vmem, ⟨1, _⟩ => ⟨S1088x256, .bf16⟩
  | .local _ .vmem, ⟨2, _⟩ => ⟨S2176x256, .bf16⟩
  | .local _ .vmem, ⟨3, _⟩ => ⟨S2176x256, .bf16⟩
  | .local _ .vmem, ⟨4, _⟩ => ⟨S2176x128, .bf16⟩
  | .local _ .vmem, ⟨5, _⟩ => ⟨S2176x128, .bf16⟩
  | .local _ .vmem, ⟨6, _⟩ => ⟨S1088x128, .bf16⟩
  | .local _ .vmem, ⟨7, _⟩ => ⟨S1088x128, .bf16⟩
  | _, _ => ⟨S4352x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  ![arg0.toNat, v16.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  ![arg0.toNat, v16.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 2 → Memref sig .tc .vmem S1088x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2176x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2176x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Kernel23Ideal.lean ====
variable {F : FTy → Type} [FloatOps F] [Named F]
def κ : String → Option EReal := fun
  | "mask" => some ⊥
  | _ => none
-- ==== Reference23Ideal.lean ====
abbrev S4352x1536 : Shape := ⟨2, ![4352, 1536]⟩
abbrev S4352x1024 : Shape := ⟨2, ![4352, 1024]⟩
abbrev S2x2176x8x1x192 : Shape := ⟨5, ![2, 2176, 8, 1, 192]⟩
abbrev S2x2176x8x192 : Shape := ⟨4, ![2, 2176, 8, 192]⟩
abbrev S2x2064x8x192 : Shape := ⟨4, ![2, 2064, 8, 192]⟩
abbrev S2x2176x8x128 : Shape := ⟨4, ![2, 2176, 8, 128]⟩
abbrev S2x2064x8x128 : Shape := ⟨4, ![2, 2064, 8, 128]⟩
abbrev S2x8x2064x2176x1 : Shape := ⟨5, ![2, 8, 2064, 2176, 1]⟩
abbrev S2x8x1x2176x2064 : Shape := ⟨5, ![2, 8, 1, 2176, 2064]⟩
abbrev S_ : Shape := ⟨0, ![]⟩
abbrev S2x8x1x2176 : Shape := ⟨4, ![2, 8, 1, 2176]⟩
abbrev S2x8x1x2176x1 : Shape := ⟨5, ![2, 8, 1, 2176, 1]⟩
abbrev S2x8x128x1x2176 : Shape := ⟨5, ![2, 8, 128, 1, 2176]⟩
abbrev S2x2176x8x1x128 : Shape := ⟨5, ![2, 2176, 8, 1, 128]⟩

abbrev nBuf : Space → Nat
  | .hbm => 34
  | .vmem => 0
  | .smem => 0
  | _ => 0

abbrev bufTy : (tb : Table) → Fin (tcTables nBuf tb) → BufTy
  | .hbm, ⟨0, _⟩ => ⟨S4352x1536, .bf16⟩
  | .hbm, ⟨1, _⟩ => ⟨S4352x1536, .bf16⟩
  | .hbm, ⟨2, _⟩ => ⟨S4352x1024, .bf16⟩
  | .hbm, ⟨3, _⟩ => ⟨S4352x1536, .f32⟩
  | .hbm, ⟨4, _⟩ => ⟨S4352x1536, .f32⟩
  | .hbm, ⟨5, _⟩ => ⟨S4352x1024, .f32⟩
  | .hbm, ⟨6, _⟩ => ⟨S2x2176x8x1x192, .f32⟩
  | .hbm, ⟨7, _⟩ => ⟨S2x2176x8x192, .f32⟩
  | .hbm, ⟨8, _⟩ => ⟨S2x2064x8x192, .f32⟩
  | .hbm, ⟨9, _⟩ => ⟨S2x2176x8x128, .f32⟩
  | .hbm, ⟨10, _⟩ => ⟨S2x2064x8x128, .f32⟩
  | .hbm, ⟨11, _⟩ => ⟨S2x8x2064x2176x1, .f32⟩
  | .hbm, ⟨12, _⟩ => ⟨S2x8x1x2176x2064, .f32⟩
  | .hbm, ⟨13, _⟩ => ⟨S_, .f32⟩
  | .hbm, ⟨14, _⟩ => ⟨S2x8x1x2176x2064, .f32⟩
  | .hbm, ⟨15, _⟩ => ⟨S2x8x1x2176x2064, .f32⟩
  | .hbm, ⟨16, _⟩ => ⟨S_, .f32⟩
  | .hbm, ⟨17, _⟩ => ⟨S2x8x1x2176, .f32⟩
  | .hbm, ⟨18, _⟩ => ⟨S_, .f32⟩
  | .hbm, ⟨19, _⟩ => ⟨S2x8x1x2176, .f32⟩
  | .hbm, ⟨20, _⟩ => ⟨S2x8x1x2176, .f32⟩
  | .hbm, ⟨21, _⟩ => ⟨S2x8x1x2176x1, .f32⟩
  | .hbm, ⟨22, _⟩ => ⟨S2x8x1x2176x2064, .f32⟩
  | .hbm, ⟨23, _⟩ => ⟨S2x8x1x2176x2064, .f32⟩
  | .hbm, ⟨24, _⟩ => ⟨S2x8x1x2176x2064, .f32⟩
  | .hbm, ⟨25, _⟩ => ⟨S_, .f32⟩
  | .hbm, ⟨26, _⟩ => ⟨S2x8x1x2176, .f32⟩
  | .hbm, ⟨27, _⟩ => ⟨S2x8x1x2176x1, .f32⟩
  | .hbm, ⟨28, _⟩ => ⟨S2x8x1x2176x2064, .f32⟩
  | .hbm, ⟨29, _⟩ => ⟨S2x8x1x2176x2064, .f32⟩
  | .hbm, ⟨30, _⟩ => ⟨S2x8x128x1x2176, .f32⟩
  | .hbm, ⟨31, _⟩ => ⟨S2x2176x8x1x128, .f32⟩
  | .hbm, ⟨32, _⟩ => ⟨S4352x1024, .f32⟩
  | .hbm, ⟨33, _⟩ => ⟨S4352x1024, .bf16⟩
  | _, _ => ⟨S4352x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Kernel24.lean ====
abbrev S4352x1024 : Shape := ⟨2, ![4352, 1024]⟩
abbrev S1024 : Shape := ⟨1, ![1024]⟩
abbrev S1x1024 : Shape := ⟨2, ![1, 1024]⟩
abbrev S272x1024 : Shape := ⟨2, ![272, 1024]⟩
abbrev S272 : Shape := ⟨1, ![272]⟩
abbrev S272x1 : Shape := ⟨2, ![272, 1]⟩

abbrev nBuf : Space → Nat
  | .hbm => 9
  | .vmem => 10
  | .smem => 0
  | _ => 0

abbrev bufTy : (tb : Table) → Fin (tcTables nBuf tb) → BufTy
  | .hbm, ⟨0, _⟩ => ⟨S4352x1024, .f32⟩
  | .hbm, ⟨1, _⟩ => ⟨S1024, .f32⟩
  | .hbm, ⟨2, _⟩ => ⟨S1024, .f32⟩
  | .hbm, ⟨3, _⟩ => ⟨S4352x1024, .f32⟩
  | .hbm, ⟨4, _⟩ => ⟨S1x1024, .f32⟩
  | .hbm, ⟨5, _⟩ => ⟨S1x1024, .f32⟩
  | .hbm, ⟨6, _⟩ => ⟨S4352x1024, .f32⟩
  | .hbm, ⟨7, _⟩ => ⟨S1x1024, .f32⟩
  | .hbm, ⟨8, _⟩ => ⟨S1x1024, .f32⟩
  | .local _ .vmem, ⟨0, _⟩ => ⟨S272x1024, .f32⟩
  | .local _ .vmem, ⟨1, _⟩ => ⟨S272x1024, .f32⟩
  | .local _ .vmem, ⟨2, _⟩ => ⟨S1x1024, .f32⟩
  | .local _ .vmem, ⟨3, _⟩ => ⟨S1x1024, .f32⟩
  | .local _ .vmem, ⟨4, _⟩ => ⟨S272x1024, .f32⟩
  | .local _ .vmem, ⟨5, _⟩ => ⟨S272x1024, .f32⟩
  | .local _ .vmem, ⟨6, _⟩ => ⟨S272x1024, .f32⟩
  | .local _ .vmem, ⟨7, _⟩ => ⟨S272x1024, .f32⟩
  | .local _ .vmem, ⟨8, _⟩ => ⟨S1x1024, .f32⟩
  | .local _ .vmem, ⟨9, _⟩ => ⟨S1x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v66 : BitVec 1 := Scalar.cmpi .eq arg0 c0_i32
  let v67 : BitVec 32 := Scalar.extui v66
  let c0_i32_26 : BitVec 32 := 0#32
  let v68 : BitVec 1 := Scalar.cmpi .ne v67 c0_i32_26
  v68

def k0_cond2 (i : grid0.Coords) : BitVec 1 :=
  let arg0 : BitVec 32 := BitVec.ofNat 32 (i 0).val
  let c0_i32_27 : BitVec 32 := 0#32
  let v69 : BitVec 1 := Scalar.cmpi .sgt arg0 c0_i32_27
  let v70 : BitVec 32 := Scalar.extui v69
  let c0_i32_28 : BitVec 32 := 0#32
  let v71 : BitVec 1 := Scalar.cmpi .ne v70 c0_i32_28
  v71

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S272x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S272x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S272x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference24Ideal.lean ====
abbrev S4352x1024 : Shape := ⟨2, ![4352, 1024]⟩
abbrev S1024 : Shape := ⟨1, ![1024]⟩
abbrev S_ : Shape := ⟨0, ![]⟩
abbrev S4352 : Shape := ⟨1, ![4352]⟩
abbrev S4352x1 : Shape := ⟨2, ![4352, 1]⟩
abbrev S1x1024 : Shape := ⟨2, ![1, 1024]⟩

abbrev nBuf : Space → Nat
  | .hbm => 95
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1024, .f32⟩
  | .hbm, ⟨2, _⟩ => ⟨S1024, .f32⟩
  | .hbm, ⟨3, _⟩ => ⟨S4352x1024, .f32⟩
  | .hbm, ⟨4, _⟩ => ⟨S_, .f32⟩
  | .hbm, ⟨5, _⟩ => ⟨S4352, .f32⟩
  | .hbm, ⟨6, _⟩ => ⟨S4352x1, .f32⟩
  | .hbm, ⟨7, _⟩ => ⟨S_, .f32⟩
  | .hbm, ⟨8, _⟩ => ⟨S4352x1, .f32⟩
  | .hbm, ⟨9, _⟩ => ⟨S4352x1, .f32⟩
  | .hbm, ⟨10, _⟩ => ⟨S4352x1024, .f32⟩
  | .hbm, ⟨11, _⟩ => ⟨S4352x1024, .f32⟩
  | .hbm, ⟨12, _⟩ => ⟨S4352x1024, .f32⟩
  | .hbm, ⟨13, _⟩ => ⟨S_, .f32⟩
  | .hbm, ⟨14, _⟩ => ⟨S4352, .f32⟩
  | .hbm, ⟨15, _⟩ => ⟨S4352x1, .f32⟩
  | .hbm, ⟨16, _⟩ => ⟨S_, .f32⟩
  | .hbm, ⟨17, _⟩ => ⟨S4352x1, .f32⟩
  | .hbm, ⟨18, _⟩ => ⟨S4352x1, .f32⟩
  | .hbm, ⟨19, _⟩ => ⟨S_, .f32⟩
  | .hbm, ⟨20, _⟩ => ⟨S4352x1, .f32⟩
  | .hbm, ⟨21, _⟩ => ⟨S4352x1, .f32⟩
  | .hbm, ⟨22, _⟩ => ⟨S4352x1, .f32⟩
  | .hbm, ⟨23, _⟩ => ⟨S4352x1, .f32⟩
  | .hbm, ⟨24, _⟩ => ⟨S_, .f32⟩
  | .hbm, ⟨25, _⟩ => ⟨S4352x1, .f32⟩
  | .hbm, ⟨26, _⟩ => ⟨S4352x1, .f32⟩
  | .hbm, ⟨27, _⟩ => ⟨S4352x1024, .f32⟩
  | .hbm, ⟨28, _⟩ => ⟨S4352x1024, .f32⟩
  | .hbm, ⟨29, _⟩ => ⟨S1x1024, .f32⟩
  | .hbm, ⟨30, _⟩ => ⟨S4352x1024, .f32⟩
  | .hbm, ⟨31, _⟩ => ⟨S4352x1024, .f32⟩
  | .hbm, ⟨32, _⟩ => ⟨S1x1024, .f32⟩
  | .hbm, ⟨33, _⟩ => ⟨S4352x1024, .f32⟩
  | .hbm, ⟨34, _⟩ => ⟨S4352x1024, .f32⟩
  | .hbm, ⟨35, _⟩ => ⟨S4352x1024, .f32⟩
  | .hbm, ⟨36, _⟩ => ⟨S4352x1024, .f32⟩
  | .hbm, ⟨37, _⟩ => ⟨S_, .f32⟩
  | .hbm, ⟨38, _⟩ => ⟨S4352x1024, .f32⟩
  | .hbm, ⟨39, _⟩ => ⟨S4352x1024, .f32⟩
  | .hbm, ⟨40, _⟩ => ⟨S_, .f32⟩
  | .hbm, ⟨41, _⟩ => ⟨S4352x1024, .f32⟩
  | .hbm, ⟨42, _⟩ => ⟨S4352x1024, .f32⟩
  | .hbm, ⟨43, _⟩ => ⟨S_, .f32⟩
  | .hbm, ⟨44, _⟩ => ⟨S4352x1024, .f32⟩
  | .hbm, ⟨45, _⟩ => ⟨S4352x1024, .f32⟩
  | .hbm, ⟨46, _⟩ => ⟨S4352x1024, .f32⟩
  | .hbm, ⟨47, _⟩ => ⟨S4352x1024, .f32⟩
  | .hbm, ⟨48, _⟩ => ⟨S4352x1024, .f32⟩
  | .hbm, ⟨49, _⟩ => ⟨S4352x1024, .f32⟩
  | .hbm, ⟨50, _⟩ => ⟨S4352x1024, .f32⟩
  | .hbm, ⟨51, _⟩ => ⟨S4352x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S_, .f32⟩
  | .hbm, ⟨56, _⟩ => ⟨S1024, .f32⟩
  | .hbm, ⟨57, _⟩ => ⟨S4352x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S4352x1024, .f32⟩
  | .hbm, ⟨62, _⟩ => ⟨S4352x1024, .f32⟩
  | .hbm, ⟨63, _⟩ => ⟨S_, .f32⟩
  | .hbm, ⟨64, _⟩ => ⟨S1024, .f32⟩
  | .hbm, ⟨65, _⟩ => ⟨S4352x1024, .f32⟩
  | .hbm, ⟨66, _⟩ => ⟨S_, .f32⟩
  | .hbm, ⟨67, _⟩ => ⟨S4352, .f32⟩
  | .hbm, ⟨68, _⟩ => ⟨S4352x1, .f32⟩
  | .hbm, ⟨69, _⟩ => ⟨S4352x1024, .f32⟩
  | .hbm, ⟨70, _⟩ => ⟨S4352x1024, .f32⟩
  | .hbm, ⟨71, _⟩ => ⟨S4352x1, .f32⟩
  | .hbm, ⟨72, _⟩ => ⟨S_, .f32⟩
  | .hbm, ⟨73, _⟩ => ⟨S4352x1, .f32⟩
  | .hbm, ⟨74, _⟩ => ⟨S4352x1, .f32⟩
  | .hbm, ⟨75, _⟩ => ⟨S_, .f32⟩
  | .hbm, ⟨76, _⟩ => ⟨S4352, .f32⟩
  | .hbm, ⟨77, _⟩ => ⟨S4352x1024, .f32⟩
  | .hbm, ⟨78, _⟩ => ⟨S4352x1024, .f32⟩
  | .hbm, ⟨79, _⟩ => ⟨S4352x1024, .f32⟩
  | .hbm, ⟨80, _⟩ => ⟨S4352x1024, .f32⟩
  | .hbm, ⟨81, _⟩ => ⟨S4352x1024, .f32⟩
  | .hbm, ⟨82, _⟩ => ⟨S4352x1024, .f32⟩
  | .hbm, ⟨83, _⟩ => ⟨S_, .f32⟩
  | .hbm, ⟨84, _⟩ => ⟨S4352, .f32⟩
  | .hbm, ⟨85, _⟩ => ⟨S4352x1, .f32⟩
  | .hbm, ⟨86, _⟩ => ⟨S_, .f32⟩
  | .hbm, ⟨87, _⟩ => ⟨S4352x1, .f32⟩
  | .hbm, ⟨88, _⟩ => ⟨S4352x1, .f32⟩
  | .hbm, ⟨89, _⟩ => ⟨S_, .f32⟩
  | .hbm, ⟨90, _⟩ => ⟨S4352, .f32⟩
  | .hbm, ⟨91, _⟩ => ⟨S4352x1024, .f32⟩
  | .hbm, ⟨92, _⟩ => ⟨S4352x1024, .f32⟩
  | .hbm, ⟨93, _⟩ => ⟨S1x1024, .f32⟩
  | .hbm, ⟨94, _⟩ => ⟨S1x1024, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v25_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v25_1 : Ref sig .tc := ⟨.hbm, 46, rfl⟩
abbrev main_v25_0 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v26 : Ref sig .tc := ⟨.hbm, 51, rfl⟩
abbrev main_cst_5 : Ref sig .tc := ⟨.hbm, 52, rfl⟩
abbrev main_v27 : Ref sig .tc := ⟨.hbm, 53, rfl⟩
abbrev main_v28 : Ref sig .tc := ⟨.hbm, 54, rfl⟩
abbrev main_cst_6 : Ref sig .tc := ⟨.hbm, 55, rfl⟩
abbrev main_v29 : Ref sig .tc := ⟨.hbm, 56, rfl⟩
abbrev main_v30 : Ref sig .tc := ⟨.hbm, 57, rfl⟩
abbrev main_cst_7 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_8 : Ref sig .tc := ⟨.hbm, 63, rfl⟩
abbrev main_v35 : Ref sig .tc := ⟨.hbm, 64, rfl⟩
abbrev main_v36 : Ref sig .tc := ⟨.hbm, 65, rfl⟩
abbrev main_cst_9 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_10 : Ref sig .tc := ⟨.hbm, 72, rfl⟩
abbrev main_v42 : Ref sig .tc := ⟨.hbm, 73, rfl⟩
abbrev main_v43 : Ref sig .tc := ⟨.hbm, 74, rfl⟩
abbrev main_cst_11 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_12 : Ref sig .tc := ⟨.hbm, 83, rfl⟩
abbrev main_v51 : Ref sig .tc := ⟨.hbm, 84, rfl⟩
abbrev main_v52 : Ref sig .tc := ⟨.hbm, 85, rfl⟩
abbrev main_cst_13 : Ref sig .tc := ⟨.hbm, 86, rfl⟩
abbrev main_v53 : Ref sig .tc := ⟨.hbm, 87, rfl⟩
abbrev main_v54 : Ref sig .tc := ⟨.hbm, 88, rfl⟩
abbrev main_cst_14 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩

abbrev nD : Nat := 1
abbrev τ : Topo := Topo.v7x

variable {F : FTy → Type} [FloatOps F]
-- ==== Kernel25.lean ====
abbrev S4352x2048 : Shape := ⟨2, ![4352, 2048]⟩
abbrev S1024x2048 : Shape := ⟨2, ![1024, 2048]⟩
abbrev S1024x4x512 : Shape := ⟨3, ![1024, 4, 512]⟩
abbrev S4x1024x512 : Shape := ⟨3, ![4, 1024, 512]⟩
abbrev S4352x1024 : Shape := ⟨2, ![4352, 1024]⟩
abbrev S1088x512 : Shape := ⟨2, ![1088, 512]⟩
abbrev S1x1024x512 : Shape := ⟨3, ![1, 1024, 512]⟩
abbrev S1088x1024 : Shape := ⟨2, ![1088, 1024]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S1024x2048, .bf16⟩
  | .hbm, ⟨2, _⟩ => ⟨S1024x4x512, .bf16⟩
  | .hbm, ⟨3, _⟩ => ⟨S4x1024x512, .bf16⟩
  | .hbm, ⟨4, _⟩ => ⟨S4352x1024, .f32⟩
  | .local _ .vmem, ⟨0, _⟩ => ⟨S1088x512, .bf16⟩
  | .local _ .vmem, ⟨1, _⟩ => ⟨S1088x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1088x1024, .f32⟩
  | .local _ .vmem, ⟨5, _⟩ => ⟨S1088x1024, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg2 : BitVec 32 := BitVec.ofNat 32 (i 2).val
  let c0_i32_5 : BitVec 32 := 0#32
  let v7 : BitVec 1 := Scalar.cmpi .sgt arg2 c0_i32_5
  let c3_i32 : BitVec 32 := 3#32
  let v8 : BitVec 1 := Scalar.cmpi .slt arg2 c3_i32
  let v9 : BitVec 1 := Scalar.andi v7 v8
  let v10 : BitVec 32 := Scalar.extui v9
  let c0_i32_6 : BitVec 32 := 0#32
  let v11 : BitVec 1 := Scalar.cmpi .ne v10 c0_i32_6
  v11

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S4352x2048 : Shape := ⟨2, ![4352, 2048]⟩
abbrev S1024x2048 : Shape := ⟨2, ![1024, 2048]⟩
abbrev S4352x1024 : Shape := ⟨2, ![4352, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S1024x2048, .bf16⟩
  | .hbm, ⟨2, _⟩ => ⟨S1024x2048, .f32⟩
  | .hbm, ⟨3, _⟩ => ⟨S4352x2048, .f32⟩
  | .hbm, ⟨4, _⟩ => ⟨S4352x1024, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel26.lean ====
abbrev S2x2176x10880 : Shape := ⟨3, ![2, 2176, 10880]⟩
abbrev S31x1024 : Shape := ⟨2, ![31, 1024]⟩
abbrev S2x2064x1024 : Shape := ⟨3, ![2, 2064, 1024]⟩
abbrev S_ : Shape := ⟨0, ![]⟩
abbrev S2x2176x1024 : Shape := ⟨3, ![2, 2176, 1024]⟩
abbrev S1x1024 : Shape := ⟨2, ![1, 1024]⟩
abbrev S1x2176x256 : Shape := ⟨3, ![1, 2176, 256]⟩
abbrev S31x256 : Shape := ⟨2, ![31, 256]⟩
abbrev S1x256 : Shape := ⟨2, ![1, 256]⟩
abbrev S2208x256 : Shape := ⟨2, ![2208, 256]⟩
abbrev S2176x1 : Shape := ⟨2, ![2176, 1]⟩
abbrev S2176x256 : Shape := ⟨2, ![2176, 256]⟩
abbrev S16x256 : Shape := ⟨2, ![16, 256]⟩
abbrev S256 : Shape := ⟨1, ![256]⟩

abbrev nBuf : Space → Nat
  | .hbm => 10
  | .vmem => 18
  | .smem => 0
  | _ => 0

abbrev bufTy : (tb : Table) → Fin (tcTables nBuf tb) → BufTy
  | .hbm, ⟨0, _⟩ => ⟨S2x2176x10880, .f32⟩
  | .hbm, ⟨1, _⟩ => ⟨S31x1024, .f32⟩
  | .hbm, ⟨2, _⟩ => ⟨S2x2064x1024, .f32⟩
  | .hbm, ⟨3, _⟩ => ⟨S_, .i32⟩
  | .hbm, ⟨4, _⟩ => ⟨S_, .f32⟩
  | .hbm, ⟨5, _⟩ => ⟨S2x2176x1024, .f32⟩
  | .hbm, ⟨6, _⟩ => ⟨S2x2176x1024, .bf16⟩
  | .hbm, ⟨7, _⟩ => ⟨S2x2176x1024, .bf16⟩
  | .hbm, ⟨8, _⟩ => ⟨S31x1024, .f32⟩
  | .hbm, ⟨9, _⟩ => ⟨S1x1024, .f32⟩
  | .local _ .vmem, ⟨0, _⟩ => ⟨S1x2176x256, .f32⟩
  | .local _ .vmem, ⟨1, _⟩ => ⟨S1x2176x256, .f32⟩
  | .local _ .vmem, ⟨2, _⟩ => ⟨S1x2176x256, .f32⟩
  | .local _ .vmem, ⟨3, _⟩ => ⟨S1x2176x256, .f32⟩
  | .local _ .vmem, ⟨4, _⟩ => ⟨S31x256, .f32⟩
  | .local _ .vmem, ⟨5, _⟩ => ⟨S31x256, .f32⟩
  | .local _ .vmem, ⟨6, _⟩ => ⟨S1x2176x256, .f32⟩
  | .local _ .vmem, ⟨7, _⟩ => ⟨S1x2176x256, .f32⟩
  | .local _ .vmem, ⟨8, _⟩ => ⟨S1x2176x256, .bf16⟩
  | .local _ .vmem, ⟨9, _⟩ => ⟨S1x2176x256, .bf16⟩
  | .local _ .vmem, ⟨10, _⟩ => ⟨S1x2176x256, .bf16⟩
  | .local _ .vmem, ⟨11, _⟩ => ⟨S1x2176x256, .bf16⟩
  | .local _ .vmem, ⟨12, _⟩ => ⟨S31x256, .f32⟩
  | .local _ .vmem, ⟨13, _⟩ => ⟨S31x256, .f32⟩
  | .local _ .vmem, ⟨14, _⟩ => ⟨S1x256, .f32⟩
  | .local _ .vmem, ⟨15, _⟩ => ⟨S1x256, .f32⟩
  | .local _ .vmem, ⟨16, _⟩ => ⟨S2208x256, .f32⟩
  | .local _ .vmem, ⟨17, _⟩ => ⟨S2208x256, .f32⟩
  | _, _ => ⟨S2x2176x10880, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![arg1.toNat, c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x2176x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2176x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S31x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2176x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2176x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2176x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S31x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference26Ideal.lean ====
abbrev S2x2176x10880 : Shape := ⟨3, ![2, 2176, 10880]⟩
abbrev S31x1024 : Shape := ⟨2, ![31, 1024]⟩
abbrev S2x2064x1024 : Shape := ⟨3, ![2, 2064, 1024]⟩
abbrev S2x2064x2048 : Shape := ⟨3, ![2, 2064, 2048]⟩
abbrev S_ : Shape := ⟨0, ![]⟩
abbrev S1024 : Shape := ⟨1, ![1024]⟩
abbrev S31x2064x2064 : Shape := ⟨3, ![31, 2064, 2064]⟩
abbrev S1x31x2064x2064x1 : Shape := ⟨5, ![1, 31, 2064, 2064, 1]⟩
abbrev S2x1x1x2064x1024 : Shape := ⟨5, ![2, 1, 1, 2064, 1024]⟩
abbrev S2x31x2064x2064x1024 : Shape := ⟨5, ![2, 31, 2064, 2064, 1024]⟩
abbrev S2x31x2064x1024 : Shape := ⟨4, ![2, 31, 2064, 1024]⟩
abbrev S31x1x1024 : Shape := ⟨3, ![31, 1, 1024]⟩
abbrev S1x31x1x1024 : Shape := ⟨4, ![1, 31, 1, 1024]⟩
abbrev S1x1x1024 : Shape := ⟨3, ![1, 1, 1024]⟩
abbrev S2x2176x2048 : Shape := ⟨3, ![2, 2176, 2048]⟩
abbrev S2x2176x1024 : Shape := ⟨3, ![2, 2176, 1024]⟩
abbrev S1x1024 : Shape := ⟨2, ![1, 1024]⟩

abbrev nBuf : Space → Nat
  | .hbm => 88
  | .vmem => 0
  | .smem => 0
  | _ => 0

abbrev bufTy : (tb : Table) → Fin (tcTables nBuf tb) → BufTy
  | .hbm, ⟨0, _⟩ => ⟨S2x2176x10880, .f32⟩
  | .hbm, ⟨1, _⟩ => ⟨S31x1024, .f32⟩
  | .hbm, ⟨2, _⟩ => ⟨S2x2064x1024, .f32⟩
  | .hbm, ⟨3, _⟩ => ⟨S2x2064x2048, .f32⟩
  | .hbm, ⟨4, _⟩ => ⟨S_, .f32⟩
  | .hbm, ⟨5, _⟩ => ⟨S1024, .f32⟩
  | .hbm, ⟨6, _⟩ => ⟨S2x2064x1024, .f32⟩
  | .hbm, ⟨7, _⟩ => ⟨S2x2064x1024, .f32⟩
  | .hbm, ⟨8, _⟩ => ⟨S2x2064x1024, .f32⟩
  | .hbm, ⟨9, _⟩ => ⟨S2x2064x1024, .f32⟩
  | .hbm, ⟨10, _⟩ => ⟨S_, .f32⟩
  | .hbm, ⟨11, _⟩ => ⟨S2x2064x1024, .f32⟩
  | .hbm, ⟨12, _⟩ => ⟨S2x2064x1024, .f32⟩
  | .hbm, ⟨13, _⟩ => ⟨S_, .f32⟩
  | .hbm, ⟨14, _⟩ => ⟨S2x2064x1024, .f32⟩
  | .hbm, ⟨15, _⟩ => ⟨S2x2064x1024, .f32⟩
  | .hbm, ⟨16, _⟩ => ⟨S_, .f32⟩
  | .hbm, ⟨17, _⟩ => ⟨S2x2064x1024, .f32⟩
  | .hbm, ⟨18, _⟩ => ⟨S2x2064x1024, .f32⟩
  | .hbm, ⟨19, _⟩ => ⟨S2x2064x1024, .f32⟩
  | .hbm, ⟨20, _⟩ => ⟨S2x2064x1024, .f32⟩
  | .hbm, ⟨21, _⟩ => ⟨S31x2064x2064, .i32⟩
  | .hbm, ⟨22, _⟩ => ⟨S31x2064x2064, .i32⟩
  | .hbm, ⟨23, _⟩ => ⟨S31x2064x2064, .i32⟩
  | .hbm, ⟨24, _⟩ => ⟨S_, .i32⟩
  | .hbm, ⟨25, _⟩ => ⟨S31x2064x2064, .i32⟩
  | .hbm, ⟨26, _⟩ => ⟨S31x2064x2064, .i32⟩
  | .hbm, ⟨27, _⟩ => ⟨S31x2064x2064, .i32⟩
  | .hbm, ⟨28, _⟩ => ⟨S31x2064x2064, .i1⟩
  | .hbm, ⟨29, _⟩ => ⟨S_, .f32⟩
  | .hbm, ⟨30, _⟩ => ⟨S_, .f32⟩
  | .hbm, ⟨31, _⟩ => ⟨S31x2064x2064, .f32⟩
  | .hbm, ⟨32, _⟩ => ⟨S31x2064x2064, .f32⟩
  | .hbm, ⟨33, _⟩ => ⟨S31x2064x2064, .f32⟩
  | .hbm, ⟨34, _⟩ => ⟨S1x31x2064x2064x1, .f32⟩
  | .hbm, ⟨35, _⟩ => ⟨S2x1x1x2064x1024, .f32⟩
  | .hbm, ⟨36, _⟩ => ⟨S1x31x2064x2064x1, .f32⟩
  | .hbm, ⟨37, _⟩ => ⟨S2x31x2064x2064x1024, .f32⟩
  | .hbm, ⟨38, _⟩ => ⟨S2x31x2064x2064x1024, .f32⟩
  | .hbm, ⟨39, _⟩ => ⟨S2x31x2064x2064x1024, .f32⟩
  | .hbm, ⟨40, _⟩ => ⟨S_, .f32⟩
  | .hbm, ⟨41, _⟩ => ⟨S2x31x2064x1024, .f32⟩
  | .hbm, ⟨42, _⟩ => ⟨S31x1x1024, .f32⟩
  | .hbm, ⟨43, _⟩ => ⟨S1x31x1x1024, .f32⟩
  | .hbm, ⟨44, _⟩ => ⟨S2x31x2064x1024, .f32⟩
  | .hbm, ⟨45, _⟩ => ⟨S2x31x2064x1024, .f32⟩
  | .hbm, ⟨46, _⟩ => ⟨S_, .f32⟩
  | .hbm, ⟨47, _⟩ => ⟨S2x2064x1024, .f32⟩
  | .hbm, ⟨48, _⟩ => ⟨S1x1x1024, .f32⟩
  | .hbm, ⟨49, _⟩ => ⟨S2x2064x1024, .f32⟩
  | .hbm, ⟨50, _⟩ => ⟨S2x2064x1024, .f32⟩
  | .hbm, ⟨51, _⟩ => ⟨S2x2064x1024, .f32⟩
  | .hbm, ⟨52, _⟩ => ⟨S_, .f32⟩
  | .hbm, ⟨53, _⟩ => ⟨S1024, .f32⟩
  | .hbm, ⟨54, _⟩ => ⟨S1x1x1024, .f32⟩
  | .hbm, ⟨55, _⟩ => ⟨S_, .f32⟩
  | .hbm, ⟨56, _⟩ => ⟨S1024, .f32⟩
  | .hbm, ⟨57, _⟩ => ⟨S2x31x2064x1024, .f32⟩
  | .hbm, ⟨58, _⟩ => ⟨S2x31x2064x1024, .f32⟩
  | .hbm, ⟨59, _⟩ => ⟨S_, .f32⟩
  | .hbm, ⟨60, _⟩ => ⟨S31x1024, .f32⟩
  | .hbm, ⟨61, _⟩ => ⟨S1x31x1x1024, .f32⟩
  | .hbm, ⟨62, _⟩ => ⟨S2x31x2064x1024, .f32⟩
  | .hbm, ⟨63, _⟩ => ⟨S2x31x2064x1024, .f32⟩
  | .hbm, ⟨64, _⟩ => ⟨S_, .f32⟩
  | .hbm, ⟨65, _⟩ => ⟨S31x1024, .f32⟩
  | .hbm, ⟨66, _⟩ => ⟨S31x1x1024, .f32⟩
  | .hbm, ⟨67, _⟩ => ⟨S_, .f32⟩
  | .hbm, ⟨68, _⟩ => ⟨S31x1024, .f32⟩
  | .hbm, ⟨69, _⟩ => ⟨S2x31x2064x2064x1024, .f32⟩
  | .hbm, ⟨70, _⟩ => ⟨S2x31x2064x2064x1024, .f32⟩
  | .hbm, ⟨71, _⟩ => ⟨S2x31x2064x2064x1024, .f32⟩
  | .hbm, ⟨72, _⟩ => ⟨S_, .f32⟩
  | .hbm, ⟨73, _⟩ => ⟨S2x2064x1024, .f32⟩
  | .hbm, ⟨74, _⟩ => ⟨S2x1x1x2064x1024, .f32⟩
  | .hbm, ⟨75, _⟩ => ⟨S_, .f32⟩
  | .hbm, ⟨76, _⟩ => ⟨S2x2064x1024, .f32⟩
  | .hbm, ⟨77, _⟩ => ⟨S2x2064x1024, .f32⟩
  | .hbm, ⟨78, _⟩ => ⟨S2x2064x1024, .f32⟩
  | .hbm, ⟨79, _⟩ => ⟨S2x2064x1024, .f32⟩
  | .hbm, ⟨80, _⟩ => ⟨S2x2064x2048, .f32⟩
  | .hbm, ⟨81, _⟩ => ⟨S_, .i32⟩
  | .hbm, ⟨82, _⟩ => ⟨S_, .f32⟩
  | .hbm, ⟨83, _⟩ => ⟨S2x2176x2048, .f32⟩
  | .hbm, ⟨84, _⟩ => ⟨S2x2176x2048, .bf16⟩
  | .hbm, ⟨85, _⟩ => ⟨S2x2176x1024, .bf16⟩
  | .hbm, ⟨86, _⟩ => ⟨S2x2176x1024, .bf16⟩
  | .hbm, ⟨87, _⟩ => ⟨S1x1024, .f32⟩
  | _, _ => ⟨S2x2176x10880, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_cst_4 : Ref sig .tc := ⟨.hbm, 30, rfl⟩
abbrev main_call0_v0 : Ref sig .tc := ⟨.hbm, 31, rfl⟩
abbrev main_call0_v1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_cst_11 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_12 : Ref sig .tc := ⟨.hbm, 72, rfl⟩
abbrev main_v53 : Ref sig .tc := ⟨.hbm, 73, rfl⟩
abbrev main_v54 : Ref sig .tc := ⟨.hbm, 74, rfl⟩
abbrev main_cst_13 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_c_14 : Ref sig .tc := ⟨.hbm, 81, rfl⟩
abbrev main_call1_v0 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩

abbrev nD : Nat := 1
abbrev τ : Topo := Topo.v7x

variable {F : FTy → Type} [FloatOps F]
-- ==== Proof.At.lean ====
/- An array's entries by their row and column numbers, zero outside the array. -/
module

public import Idealize.ShloMosaic.Lib.Pointwise

@[expose] public section

noncomputable section

namespace Cert.Attn

open Idealize.ShloMosaic

/-- The entry at row `r`, column `c`. -/
def at2 {R C : ℕ} (x : (⟨2, ![R, C]⟩ : Shape).Idx → EReal) (r c : ℕ) : EReal :=
  if h : r < R ∧ c < C then x (ix2 ⟨r, h.1⟩ ⟨c, h.2⟩) else 0

/-- The entry at plane `b`, row `r`, column `c`. -/
def at3 {B R C : ℕ} (x : (⟨3, ![B, R, C]⟩ : Shape).Idx → EReal) (b r c : ℕ) : EReal :=
  if h : b < B ∧ r < R ∧ c < C then x (ix3 ⟨b, h.1⟩ ⟨r, h.2.1⟩ ⟨c, h.2.2⟩) else 0

theorem at2_eq {R C : ℕ} (x : (⟨2, ![R, C]⟩ : Shape).Idx → EReal) {r c : ℕ} (hr : r < R) (hc : c < C) :
    at2 x r c = x (ix2 ⟨r, hr⟩ ⟨c, hc⟩) := dif_pos ⟨hr, hc⟩

theorem at3_eq {B R C : ℕ} (x : (⟨3, ![B, R, C]⟩ : Shape).Idx → EReal) {b r c : ℕ} (hb : b < B) (hr : r < R) (hc : c < C) :
    at3 x b r c = x (ix3 ⟨b, hb⟩ ⟨r, hr⟩ ⟨c, hc⟩) := dif_pos ⟨hb, hr, hc⟩

/-- An entry is the entry at its index's numbers. -/
theorem eq_at2 {R C : ℕ} (x : (⟨2, ![R, C]⟩ : Shape).Idx → EReal) (j : (⟨2, ![R, C]⟩ : Shape).Idx) : x j = at2 x (j 0).val (j 1).val := by
  rw [at2_eq x (j 0).isLt (j 1).isLt]
  exact congrArg x (eq_ix2 j)

theorem eq_at3 {B R C : ℕ} (x : (⟨3, ![B, R, C]⟩ : Shape).Idx → EReal) (j : (⟨3, ![B, R, C]⟩ : Shape).Idx) :
    x j = at3 x (j 0).val (j 1).val (j 2).val := by
  rw [at3_eq x (j 0).isLt (j 1).isLt (j 2).isLt]
  exact congrArg x (eq_ix3 j)

theorem at3_out {B R C : ℕ} (x : (⟨3, ![B, R, C]⟩ : Shape).Idx → EReal) {b r c : ℕ} (hr : R ≤ r) : at3 x b r c = 0 :=
  dif_neg fun h => absurd h.2.1 (by omega)

theorem at2_finite {R C : ℕ} {x : (⟨2, ![R, C]⟩ : Shape).Idx → EReal} (h : ∀ j, x j ≠ ⊤ ∧ x j ≠ ⊥) (r c : ℕ) :
    at2 x r c ≠ ⊤ ∧ at2 x r c ≠ ⊥ := by
  unfold at2
  split
  · exact h _
  · exact ⟨EReal.zero_ne_top, EReal.zero_ne_bot⟩

/-- Row `i` of head `h` of sequence `b`, of an array that holds each sequence in 2176 rows and each head in `D` columns. -/
def headRow {R C D : ℕ} (x : (⟨2, ![R, C]⟩ : Shape).Idx → EReal) (b h i : ℕ) (d : Fin D) : EReal :=
  at2 x (b * 2176 + i) (h * D + d.val)

/-- Row `i` of head `h` of plane `b`, of an array that holds each head in `D` columns. -/
def planeRow {B R C D : ℕ} (x : (⟨3, ![B, R, C]⟩ : Shape).Idx → EReal) (b h i : ℕ) (d : Fin D) : EReal :=
  at3 x b i (h * D + d.val)

end Cert.Attn

end
-- ==== Proof.Softmax.lean ====
/- The gradient of one row of softmax attention, over the extended reals: the weights, what the kernel multiplies them by,
   what the chain rule multiplies them by, and that the two agree when the scores are finite. -/
module

public import Idealize.ShloMosaic.PureOps.Ideal
public import Mathlib.Data.EReal.Operations

@[expose] public section

noncomputable section

namespace Cert.Attn

open Idealize.ShloMosaic

/-- A sum times a nonnegative real is the sum of the products. -/
theorem sum_mul_real {ι : Type*} (s : Finset ι) (f : ι → EReal) {r : ℝ} (hr : 0 ≤ r) :
    (∑ j ∈ s, f j) * (r : EReal) = ∑ j ∈ s, f j * (r : EReal) := by
  classical
  induction s using Finset.induction_on with
  | empty => simp
  | insert a s ha ih =>
    rw [Finset.sum_insert ha, Finset.sum_insert ha, ← ih,
      EReal.right_distrib_of_nonneg_of_ne_top (by exact_mod_cast hr) (EReal.coe_ne_top r)]

/-- A difference times a nonnegative real is the difference of the products. -/
theorem sub_mul_real (a b : EReal) {r : ℝ} (hr : 0 ≤ r) : (a - b) * (r : EReal) = a * r - b * r := by
  rw [sub_eq_add_neg, EReal.right_distrib_of_nonneg_of_ne_top (by exact_mod_cast hr) (EReal.coe_ne_top r), neg_mul,
    ← sub_eq_add_neg]

section Row

variable {ι : Type*} [Fintype ι]

/-- The largest score of a row. -/
def rmax (s : ι → EReal) : EReal := Finset.univ.fold max ⊥ s

/-- The row's weights before they are normalised. -/
def rexp (s : ι → EReal) (j : ι) : EReal := Ideal.exp (s j - rmax s)

/-- The sum of a row's weights. -/
def rsum (s : ι → EReal) : EReal := ∑ j, rexp s j

/-- The gradient with respect to score `j`, times the scale `c`, as the kernel computes it: `dp` is the gradient with
    respect to the normalised weights. -/
def kgrad (c : EReal) (s dp : ι → EReal) (j : ι) : EReal :=
  rexp s j * ((dp j - Ideal.div 1 (rsum s) * ∑ k, rexp s k * dp k) * (Ideal.div 1 (rsum s) * c))

/-- The same gradient by the chain rule through the quotient `rexp / rsum`. -/
def rgrad (c : EReal) (s dp : ι → EReal) (j : ι) : EReal :=
  (Ideal.div (dp j) (rsum s) + -(∑ k, dp k * Ideal.div 1 (rsum s * rsum s) * rexp s k)) * rexp s j * c

/-- The scores of a row are real numbers. -/
def Finite (s : ι → EReal) : Prop := ∀ j, s j ≠ ⊤ ∧ s j ≠ ⊥

theorem le_rmax (s : ι → EReal) (j : ι) : s j ≤ rmax s :=
  (Finset.le_fold_max (s j)).mpr (.inr ⟨j, Finset.mem_univ j, le_rfl⟩)

theorem rmax_ne_top {s : ι → EReal} (h : Finite s) : rmax s ≠ ⊤ :=
  ne_of_lt ((Finset.fold_max_lt ⊤).mpr ⟨bot_lt_top, fun j _ => lt_of_le_of_ne le_top (h j).1⟩)

/-- Of finite scores each weight is a positive real. -/
theorem rexp_real {s : ι → EReal} (h : Finite s) (j : ι) : ∃ e : ℝ, 0 < e ∧ rexp s j = e := by
  have ht := rmax_ne_top h
  have hb : rmax s ≠ ⊥ := fun hm => (h j).2 (le_bot_iff.mp (hm ▸ le_rmax s j))
  unfold rexp
  generalize rmax s = M at *
  lift M to ℝ using ⟨ht, hb⟩
  obtain ⟨a, ha⟩ : ∃ a : ℝ, s j = a := ⟨(s j).toReal, (EReal.coe_toReal (h j).1 (h j).2).symm⟩
  rw [ha, ← EReal.coe_sub]
  exact ⟨_, Real.exp_pos _, rfl⟩

/-- Of finite scores the weights' sum is a positive real. -/
theorem rsum_real [Nonempty ι] {s : ι → EReal} (h : Finite s) : ∃ r : ℝ, 0 < r ∧ rsum s = r := by
  choose e he hs using rexp_real h
  refine ⟨∑ j, e j, Finset.sum_pos (fun j _ => he j) Finset.univ_nonempty, ?_⟩
  unfold rsum
  simp only [hs]
  exact (map_sum (⟨⟨Real.toEReal, rfl⟩, EReal.coe_add⟩ : ℝ →+ EReal) e Finset.univ).symm

/-- Of finite scores the kernel's gradient is the chain rule's, whatever the other factors are. -/
theorem kgrad_eq_rgrad [Nonempty ι] (c : EReal) {s : ι → EReal} (h : Finite s) (dp : ι → EReal) (j : ι) :
    kgrad c s dp j = rgrad c s dp j := by
  obtain ⟨r, hr, hs⟩ := rsum_real h
  have hi : (0 : ℝ) ≤ 1 / r := (one_div_pos.mpr hr).le
  unfold kgrad rgrad
  rw [hs, ← EReal.coe_mul, Ideal.div_coe hr.ne', Ideal.div_coe hr.ne', Ideal.div_coe (mul_pos hr hr).ne', one_mul, one_mul]
  have hsum : ∑ k, dp k * ((1 / (r * r) : ℝ) : EReal) * rexp s k
      = ((1 / r : ℝ) : EReal) * (∑ k, rexp s k * dp k) * ((1 / r : ℝ) : EReal) := by
    rw [mul_comm ((1 / r : ℝ) : EReal), sum_mul_real _ _ hi, sum_mul_real _ _ hi]
    refine Finset.sum_congr rfl fun k _ => ?_
    have : ((1 / (r * r) : ℝ) : EReal) = ((1 / r : ℝ) : EReal) * ((1 / r : ℝ) : EReal) := by
      rw [← EReal.coe_mul]; congr 1; field_simp
    rw [this]
    ac_rfl
  rw [hsum, ← sub_eq_add_neg, ← sub_mul_real _ _ hi]
  ac_rfl

/-- A weight times a factor divided by the sum is the normalised weight times the factor. -/
theorem rexp_mul_div [Nonempty ι] {s : ι → EReal} (h : Finite s) (o : EReal) (j : ι) :
    rexp s j * (o * Ideal.div 1 (rsum s)) = Ideal.div (rexp s j) (rsum s) * o := by
  obtain ⟨r, hr, hs⟩ := rsum_real h
  rw [hs, Ideal.div_coe hr.ne', Ideal.div_coe hr.ne', one_mul]
  ac_rfl

/-- Where the gradient with respect to every weight is zero, the gradient with respect to the scores is. -/
theorem kgrad_zero (c : EReal) (s dp : ι → EReal) (h : ∀ j, dp j = 0) (j : ι) : kgrad c s dp j = 0 := by
  unfold kgrad
  simp [h]

end Row

/-! ## A row longer than the keys that count -/

variable {n m : ℕ}

/-- The scores of a padded row: the positions from `n` on hold −∞. -/
def masked (s : Fin (n + m) → EReal) (j : Fin (n + m)) : EReal := if j.val < n then s j else ⊥

/-- A sum over a padded row whose padding adds nothing. -/
theorem sum_valid {M : Type*} [AddCommMonoid M] (f : Fin (n + m) → M) (h : ∀ j, n ≤ j.val → f j = 0) :
    ∑ j, f j = ∑ j : Fin n, f (Fin.castAdd m j) := by
  rw [Fin.sum_univ_add, Finset.sum_eq_zero (s := Finset.univ) (f := fun i : Fin m => f (Fin.natAdd n i)), add_zero]
  exact fun i _ => h _ (by simp)

theorem rmax_masked (s : Fin (n + m) → EReal) : rmax (masked s) = rmax fun j : Fin n => s (Fin.castAdd m j) := by
  refine le_antisymm ?_ ?_
  · refine (Finset.fold_max_le _).mpr ⟨bot_le, fun j _ => ?_⟩
    unfold masked
    split
    · rename_i hj
      exact le_rmax (fun j : Fin n => s (Fin.castAdd m j)) ⟨j.val, hj⟩
    · exact bot_le
  · refine (Finset.fold_max_le _).mpr ⟨bot_le, fun j _ => ?_⟩
    have := le_rmax (masked s) (Fin.castAdd m j)
    rwa [masked, if_pos (by simp)] at this

theorem rexp_masked_valid (s : Fin (n + m) → EReal) (j : Fin n) :
    rexp (masked s) (Fin.castAdd m j) = rexp (fun j : Fin n => s (Fin.castAdd m j)) j := by
  unfold rexp
  rw [rmax_masked, masked, if_pos (by simp)]

theorem rexp_masked_pad (s : Fin (n + m) → EReal) (j : Fin (n + m)) (hj : n ≤ j.val) : rexp (masked s) j = 0 := by
  unfold rexp
  rw [masked, if_neg (by omega), EReal.bot_sub]
  rfl

theorem rsum_masked (s : Fin (n + m) → EReal) : rsum (masked s) = rsum fun j : Fin n => s (Fin.castAdd m j) := by
  unfold rsum
  rw [sum_valid _ (rexp_masked_pad s)]
  exact Finset.sum_congr rfl fun j _ => rexp_masked_valid s j

/-- On a padded row the kernel's gradient is that of the keys that count … -/
theorem kgrad_masked_valid (c : EReal) (s dp : Fin (n + m) → EReal) (j : Fin n) :
    kgrad c (masked s) dp (Fin.castAdd m j)
      = kgrad c (fun j : Fin n => s (Fin.castAdd m j)) (fun j => dp (Fin.castAdd m j)) j := by
  unfold kgrad
  rw [rsum_masked, rexp_masked_valid, sum_valid (fun k => rexp (masked s) k * dp k) (fun k hk => by rw [rexp_masked_pad s k hk, zero_mul])]
  simp only [rexp_masked_valid]

/-- … and zero on the padding. -/
theorem kgrad_masked_pad (c : EReal) (s dp : Fin (n + m) → EReal) (j : Fin (n + m)) (hj : n ≤ j.val) :
    kgrad c (masked s) dp j = 0 := by
  unfold kgrad
  rw [rexp_masked_pad s j hj, zero_mul]

/-- A dot product of finite vectors, scaled by a real, is finite. -/
theorem score_finite {D : ℕ} (q k : Fin D → EReal) (hq : Finite q) (hk : Finite k) (r : ℝ) :
    (∑ d, q d * k d) * (r : EReal) ≠ ⊤ ∧ (∑ d, q d * k d) * (r : EReal) ≠ ⊥ := by
  have hq' : ∀ d, ∃ a : ℝ, q d = a := fun d => ⟨_, (EReal.coe_toReal (hq d).1 (hq d).2).symm⟩
  have hk' : ∀ d, ∃ a : ℝ, k d = a := fun d => ⟨_, (EReal.coe_toReal (hk d).1 (hk d).2).symm⟩
  choose a ha using hq'
  choose b hb using hk'
  have : (∑ d, q d * k d) = ((∑ d, a d * b d : ℝ) : EReal) := by
    simp only [ha, hb, ← EReal.coe_mul]
    exact (map_sum (⟨⟨Real.toEReal, rfl⟩, EReal.coe_add⟩ : ℝ →+ EReal) (fun d => a d * b d) Finset.univ).symm
  rw [this, ← EReal.coe_mul]
  exact ⟨EReal.coe_ne_top _, EReal.coe_ne_bot _⟩

end Cert.Attn

end
-- ==== Proof.Heads.lean ====
/- The gradients of one key head of softmax attention, over the extended reals: as the kernel sums them, block by block
   over padded rows and keys, and as the derivative sums them over the rows and keys that count. -/
module

public import proofs.«01_k».proof.Proof.Softmax

@[expose] public section

noncomputable section

namespace Cert.Attn

open Idealize.ShloMosaic

/-! ## Sums over blocks -/

/-- A sum over `H` blocks of `B` entries is the sum over all entries. -/
theorem sum_rows {M : Type*} [AddCommMonoid M] (H B : ℕ) (f : ℕ → M) :
    ∑ x ∈ Finset.range H, ∑ p ∈ Finset.range B, f (x * B + p) = ∑ r ∈ Finset.range (H * B), f r := by
  induction H with
  | zero => simp
  | succ H ih => rw [Finset.sum_range_succ, ih, Nat.succ_mul, Finset.sum_range_add]

/-- A sum over the points of a grid of `G` groups and `H` blocks of `B` rows is the sum over the groups' rows. -/
theorem sum_points {M : Type*} [AddCommMonoid M] (G H B N : ℕ) (hN : H * B = N) (f : ℕ → ℕ → M) :
    ∑ s ∈ Finset.range (G * H), ∑ p : Fin B, f (s / H) (s % H * B + p.val) = ∑ g : Fin G, ∑ r : Fin N, f g.val r.val := by
  subst hN
  rw [← sum_rows G H (fun s => ∑ p : Fin B, f (s / H) (s % H * B + p.val)), ← Fin.sum_univ_eq_sum_range (fun g => ∑ x ∈ Finset.range H, _)]
  refine Finset.sum_congr rfl fun g _ => ?_
  rw [Fin.sum_univ_eq_sum_range (f g.val), ← sum_rows]
  refine Finset.sum_congr rfl fun x hx => ?_
  have hx := Finset.mem_range.mp hx
  rw [← Fin.sum_univ_eq_sum_range (fun p => f g.val (x * B + p))]
  refine Finset.sum_congr rfl fun p _ => ?_
  rw [show (g.val * H + x) / H = g.val by
      rw [mul_comm, Nat.mul_add_div (by omega), Nat.div_eq_of_lt hx, add_zero],
    show (g.val * H + x) % H = x by rw [mul_comm, Nat.mul_add_mod, Nat.mod_eq_of_lt hx]]

/-! ## One key head -/

section Defs

variable {N D E : ℕ}

/-- The scaled scores of a query against the keys. -/
def scores (c : EReal) (K : Fin N → Fin D → EReal) (q : Fin D → EReal) (j : Fin N) : EReal := (∑ d, q d * K j d) * c

/-- The products of an output gradient with the values: the gradient with respect to the normalised weights. -/
def dots (V : Fin N → Fin E → EReal) (o : Fin E → EReal) (j : Fin N) : EReal := ∑ e, o e * V j e

/-- The gradient with respect to the products `q · k`, by the chain rule. -/
def rW (c : EReal) (K : Fin N → Fin D → EReal) (V : Fin N → Fin E → EReal) (q : Fin D → EReal) (o : Fin E → EReal) :
    Fin N → EReal := rgrad c (scores c K q) (dots V o)

/-- The normalised weights. -/
def weight (c : EReal) (K : Fin N → Fin D → EReal) (q : Fin D → EReal) (j : Fin N) : EReal :=
  Ideal.div (rexp (scores c K q) j) (rsum (scores c K q))

end Defs

section Padded

variable {n m D E : ℕ}

/-- The rows that count, of a padded array. -/
def front {α : Type*} (K : Fin (n + m) → α) (j : Fin n) : α := K (Fin.castAdd m j)

/-- The gradient with respect to the products `q · k` as the kernel computes it, on padded keys. -/
def kW (c : EReal) (K : Fin (n + m) → Fin D → EReal) (V : Fin (n + m) → Fin E → EReal) (q : Fin D → EReal) (o : Fin E → EReal) :
    Fin (n + m) → EReal := kgrad c (masked (scores c K q)) (dots V o)

/-- What the kernel adds to the values' gradient for one query row: the row's weight times the scaled output gradient. -/
def kA (c : EReal) (K : Fin (n + m) → Fin D → EReal) (q : Fin D → EReal) (o : Fin E → EReal) (j : Fin (n + m)) (e : Fin E) : EReal :=
  rexp (masked (scores c K q)) j * (o e * Ideal.div 1 (rsum (masked (scores c K q))))

theorem scores_finite [NeZero n] {r : ℝ} {K : Fin n → Fin D → EReal} {q : Fin D → EReal} (hq : Finite q) (hK : ∀ j, Finite (K j)) :
    Finite (scores (r : EReal) K q) := fun j => score_finite q (K j) hq (hK j) r

variable [NeZero n] {r : ℝ} {K : Fin (n + m) → Fin D → EReal} {V : Fin (n + m) → Fin E → EReal} {q : Fin D → EReal}
  {o : Fin E → EReal}

theorem kW_front (hq : Finite q) (hK : ∀ j, Finite (K j)) (j : Fin n) :
    kW (r : EReal) K V q o (Fin.castAdd m j) = rW (r : EReal) (front K) (front V) q o j := by
  unfold kW
  rw [kgrad_masked_valid]
  exact kgrad_eq_rgrad _ (scores_finite (K := front K) hq fun j => hK _) _ j

theorem kW_pad (c : EReal) (j : Fin (n + m)) (hj : n ≤ j.val) : kW c K V q o j = 0 := kgrad_masked_pad _ _ _ j hj

theorem kW_zero (c : EReal) (ho : ∀ e, o e = 0) (j : Fin (n + m)) : kW c K V q o j = 0 :=
  kgrad_zero _ _ _ (fun j => by unfold dots; simp [ho]) j

theorem kA_front (hq : Finite q) (hK : ∀ j, Finite (K j)) (j : Fin n) (e : Fin E) :
    kA (r : EReal) K q o (Fin.castAdd m j) e = weight (r : EReal) (front K) q j * o e := by
  unfold kA
  rw [rexp_masked_valid, rsum_masked]
  exact rexp_mul_div (scores_finite (K := front K) hq fun j => hK _) _ j

theorem kA_pad (c : EReal) (j : Fin (n + m)) (hj : n ≤ j.val) (e : Fin E) : kA c K q o j e = 0 := by
  unfold kA
  rw [rexp_masked_pad _ j hj, zero_mul]

theorem kA_zero (c : EReal) (ho : ∀ e, o e = 0) (j : Fin (n + m)) (e : Fin E) : kA c K q o j e = 0 := by
  unfold kA
  rw [ho, zero_mul, mul_zero]

/-- The queries' gradient: the kernel's sum over padded keys is the derivative's over the keys that count. -/
theorem dq_front (hq : Finite q) (hK : ∀ j, Finite (K j)) (d : Fin D) :
    ∑ j, kW (r : EReal) K V q o j * K j d = ∑ j, rW (r : EReal) (front K) (front V) q o j * front K j d := by
  rw [sum_valid _ fun j hj => by rw [kW_pad _ j hj, zero_mul]]
  exact Finset.sum_congr rfl fun j _ => by rw [kW_front hq hK]; rfl

/-- A query row whose output gradient is zero has a zero gradient. -/
theorem dq_zero (c : EReal) (ho : ∀ e, o e = 0) (d : Fin D) : ∑ j, kW c K V q o j * K j d = 0 :=
  Finset.sum_eq_zero fun j _ => by rw [kW_zero c ho, zero_mul]

end Padded

section Groups

variable {n m D E : ℕ} [NeZero n] {r : ℝ} {K : Fin (n + m) → Fin D → EReal} {V : Fin (n + m) → Fin E → EReal}
  {Q : ℕ → ℕ → Fin D → EReal} {O : ℕ → ℕ → Fin E → EReal} (G H B : ℕ)

/-- The keys' gradient: the kernel's sum over its points' padded rows is the derivative's over the groups' rows. -/
theorem dk_front (hB : H * B = n + m) (hQ : ∀ g i, Finite (Q g i)) (hK : ∀ j, Finite (K j))
    (hO : ∀ g i, n ≤ i → i < n + m → ∀ e, O g i e = 0) (j : Fin n) (d : Fin D) :
    ∑ s ∈ Finset.range (G * H), ∑ p : Fin B,
        kW (r : EReal) K V (Q (s / H) (s % H * B + p.val)) (O (s / H) (s % H * B + p.val)) (Fin.castAdd m j) * Q (s / H) (s % H * B + p.val) d
      = ∑ g : Fin G, ∑ i : Fin n, rW (r : EReal) (front K) (front V) (Q g.val i.val) (O g.val i.val) j * Q g.val i.val d := by
  rw [sum_points G H B (n + m) hB fun g i => kW (r : EReal) K V (Q g i) (O g i) (Fin.castAdd m j) * Q g i d]
  refine Finset.sum_congr rfl fun g _ => ?_
  rw [sum_valid _ fun i hi => by rw [kW_zero _ (hO _ _ hi i.isLt), zero_mul]]
  exact Finset.sum_congr rfl fun i _ => by rw [kW_front (hQ _ _) hK]; rfl

/-- A key on the padding has a zero gradient. -/
theorem dk_pad (c : EReal) (j : Fin (n + m)) (hj : n ≤ j.val) (d : Fin D) :
    ∑ s ∈ Finset.range (G * H), ∑ p : Fin B,
        kW c K V (Q (s / H) (s % H * B + p.val)) (O (s / H) (s % H * B + p.val)) j * Q (s / H) (s % H * B + p.val) d = 0 :=
  Finset.sum_eq_zero fun s _ => Finset.sum_eq_zero fun p _ => by rw [kW_pad _ j hj, zero_mul]

/-- The values' gradient: the kernel's sum over its points' padded rows is the derivative's over the groups' rows. -/
theorem dv_front (hB : H * B = n + m) (hQ : ∀ g i, Finite (Q g i)) (hK : ∀ j, Finite (K j))
    (hO : ∀ g i, n ≤ i → i < n + m → ∀ e, O g i e = 0) (j : Fin n) (e : Fin E) :
    ∑ s ∈ Finset.range (G * H), ∑ p : Fin B,
        kA (r : EReal) K (Q (s / H) (s % H * B + p.val)) (O (s / H) (s % H * B + p.val)) (Fin.castAdd m j) e
      = ∑ g : Fin G, ∑ i : Fin n, weight (r : EReal) (front K) (Q g.val i.val) j * O g.val i.val e := by
  rw [sum_points G H B (n + m) hB fun g i => kA (r : EReal) K (Q g i) (O g i) (Fin.castAdd m j) e]
  refine Finset.sum_congr rfl fun g _ => ?_
  rw [sum_valid _ fun i hi => kA_zero _ (hO _ _ hi i.isLt) _ e]
  exact Finset.sum_congr rfl fun i _ => by rw [kA_front (hQ _ _) hK]; rfl

/-- A value on the padding has a zero gradient. -/
theorem dv_pad (c : EReal) (j : Fin (n + m)) (hj : n ≤ j.val) (e : Fin E) :
    ∑ s ∈ Finset.range (G * H), ∑ p : Fin B,
        kA c K (Q (s / H) (s % H * B + p.val)) (O (s / H) (s % H * B + p.val)) j e = 0 :=
  Finset.sum_eq_zero fun s _ => Finset.sum_eq_zero fun p _ => kA_pad c j hj e

end Groups

end Cert.Attn

end
-- ==== Proof.Products.lean ====
/- Products of two arrays as sums over the entries' numbers, and a sum over blocks as one sum. -/
module

public import proofs.«01_k».proof.Proof.At
public import proofs.«01_k».proof.Proof.Heads

@[expose] public section

noncomputable section

namespace Cert.Products

open Idealize.ShloMosaic Cert.Attn

/-- Entry `r`, `c` of `a bᵀ`: the row of `a` with the row of `b`, over `n` columns. -/
def rowsT {R C K L : ℕ} (n : ℕ) (a : (⟨2, ![R, K]⟩ : Shape).Idx → EReal) (b : (⟨2, ![C, L]⟩ : Shape).Idx → EReal) (r c : ℕ) : EReal :=
  ∑ k : Fin n, at2 a r k.val * at2 b c k.val

/-- Entry `r`, `c` of `aᵀ b`: the column of `a` with the column of `b`, over `n` rows. -/
def colsT {R C K L : ℕ} (n : ℕ) (a : (⟨2, ![K, R]⟩ : Shape).Idx → EReal) (b : (⟨2, ![L, C]⟩ : Shape).Idx → EReal) (r c : ℕ) : EReal :=
  ∑ k : Fin n, at2 a k.val r * at2 b k.val c

/-- Entry `r`, `c` of `a b`: the row of `a` with the column of `b`, over `n` terms. -/
def rowCol {R C K L : ℕ} (n : ℕ) (a : (⟨2, ![R, K]⟩ : Shape).Idx → EReal) (b : (⟨2, ![L, C]⟩ : Shape).Idx → EReal) (r c : ℕ) : EReal :=
  ∑ k : Fin n, at2 a r k.val * at2 b k.val c

/-- The index of a whole array of three axes starts at zero. -/
theorem zero3 : (![0, 0, 0] : Fin 3 → ℕ) = fun _ => 0 := funext fun a => by fin_cases a <;> rfl

/-- A sum over `J` blocks of `B` is the sum over all of them. -/
theorem sum_blocks {M : Type*} [AddCommMonoid M] (J B K : ℕ) (h : J * B = K) (f : ℕ → M) :
    ∑ s ∈ Finset.range J, ∑ p : Fin B, f (s * B + p.val) = ∑ k : Fin K, f k.val := by
  subst h
  rw [Fin.sum_univ_eq_sum_range f, ← sum_rows]
  exact Finset.sum_congr rfl fun s _ => Fin.sum_univ_eq_sum_range (fun p => f (s * B + p)) B

/-- Over the columns an array has, the entries are the array's. -/
theorem rowsT_eq {R C K : ℕ} (a : (⟨2, ![R, K]⟩ : Shape).Idx → EReal) (b : (⟨2, ![C, K]⟩ : Shape).Idx → EReal) (r : Fin R) (c : Fin C) :
    rowsT K a b r.val c.val = ∑ k : Fin K, a (ix2 r k) * b (ix2 c k) :=
  Finset.sum_congr rfl fun k _ => by rw [at2_eq a r.isLt k.isLt, at2_eq b c.isLt k.isLt]

theorem colsT_eq {R C K : ℕ} (a : (⟨2, ![K, R]⟩ : Shape).Idx → EReal) (b : (⟨2, ![K, C]⟩ : Shape).Idx → EReal) (r : Fin R) (c : Fin C) :
    colsT K a b r.val c.val = ∑ k : Fin K, a (ix2 k r) * b (ix2 k c) :=
  Finset.sum_congr rfl fun k _ => by rw [at2_eq a k.isLt r.isLt, at2_eq b k.isLt c.isLt]

theorem rowCol_eq {R C K : ℕ} (a : (⟨2, ![R, K]⟩ : Shape).Idx → EReal) (b : (⟨2, ![K, C]⟩ : Shape).Idx → EReal) (r : Fin R) (c : Fin C) :
    rowCol K a b r.val c.val = ∑ k : Fin K, a (ix2 r k) * b (ix2 k c) :=
  Finset.sum_congr rfl fun k _ => by rw [at2_eq a r.isLt k.isLt, at2_eq b k.isLt c.isLt]

end Cert.Products

end
-- ==== Proof.Out.lean ====
/- What each grid point of the attention gradient's kernel leaves in its output blocks, as the body's own terms. -/
module

public import proofs.«01_k».proof.Proof.Gen.KernelIdeal.Value
public import Idealize.ShloMosaic.Lib.Pipeline.Value
public import Idealize.ShloMosaic.Lib.Tactic

@[expose] public section

set_option maxRecDepth 16384

noncomputable section

namespace Cert.KernelIdeal.Out

open Cert.KernelIdeal Cert.KernelIdeal.Gen Idealize.ShloMosaic Idealize.ShloMosaic.TcCoe Idealize.SL.Sem
open Idealize.ShloMosaic.Pipeline (Dat)

variable {F : FTy → Type} [FloatOps F] [Named F]

theorem zero2 : (![0, 0] : Fin 2 → Nat) = fun _ => 0 := funext fun a => by fin_cases a <;> rfl

section Terms

variable (x0 : Vec F S1088x128 .bf16) (x1 x2 : Vec F S2176x128 .bf16) (x3 : Vec F S1088x128 .bf16)

/-- The queries' gradient of a point's blocks. -/
def dqTerm : Vec F S1088x128 .f32 := k0_pay2 x1 (k0_pay8 x0 x1) (k0_pay10 x0 x1 x3 x2) (k0_pay11 x0 x1)

/-- What a point's blocks add to the keys' gradient. -/
def dkTerm : Vec F S2176x128 .f32 := k0_pay3 x0 (k0_pay8 x0 x1) (k0_pay10 x0 x1 x3 x2) (k0_pay11 x0 x1)

/-- What a point's blocks add to the values' gradient. -/
def dvTerm : Vec F S2176x128 .f32 := k0_pay4 (k0_pay7 x3) (k0_pay8 x0 x1) (k0_pay9 x0 x1)

variable (c : Dev nD) (i : grid0.Coords) (a4 : Memref sig .tc .vmem S1088x128 .bf16) (h4 : a4.IsWhole)
  (a5 : Memref sig .tc .vmem S2176x128 .bf16) (h5 : a5.IsWhole) (a6 : Memref sig .tc .vmem S2176x128 .bf16) (h6 : a6.IsWhole)
  (a7 : Memref sig .tc .vmem S1088x128 .bf16) (h7 : a7.IsWhole) (a8 : Memref sig .tc .vmem S1088x128 .f32) (h8 : a8.IsWhole)
  (a9 : Memref sig .tc .vmem S2176x128 .f32) (h9 : a9.IsWhole) (a10 : Memref sig .tc .vmem S2176x128 .f32) (h10 : a10.IsWhole)
  (x5 x6 : Vec F S2176x128 .f32)

theorem a_dq (hc0 : cond0_0 i) (hc1 : ¬cond0_1 i) :
    out0_A_4 c i a4 h4 a5 h5 a6 h6 a7 h7 a8 h8 a9 h9 a10 h10 hc0 hc1 x0 x1 x2 x3 = dqTerm x0 x1 x2 x3 := by
  unfold out0_A_4
  rw [View.read_writes_eq_canon _ _ _ (cover0_A_4 c i a4 h4 a5 h5 a6 h6 a7 h7 a8 h8 a9 h9 a10 h10 hc0 hc1 x0 x1 x2 x3)]
  unfold kernelRun0_A dqTerm
  dsimp only
  sl_unfold_words
  rw [View.canon_unit_zero zero2]
  simp only [View.readAt_eq_ld, h4.read_unread, h5.read_unread, h6.read_unread, h7.read_unread,
    View.ld_unit_zero (S := S1088x128) zero2, View.ld_unit_zero (S := S2176x128) zero2]

theorem a_dk (hc0 : cond0_0 i) (hc1 : ¬cond0_1 i) :
    out0_A_5 c i a4 h4 a5 h5 a6 h6 a7 h7 a8 h8 a9 h9 a10 h10 hc0 hc1 x0 x1 x2 x3 = dkTerm x0 x1 x2 x3 := by
  unfold out0_A_5
  rw [View.read_writes_eq_canon _ _ _ (cover0_A_5 c i a4 h4 a5 h5 a6 h6 a7 h7 a8 h8 a9 h9 a10 h10 hc0 hc1 x0 x1 x2 x3)]
  unfold kernelRun0_A dkTerm
  dsimp only
  sl_unfold_words
  rw [View.canon_unit_zero zero2]
  simp only [View.readAt_eq_ld, h4.read_unread, h5.read_unread, h6.read_unread, h7.read_unread,
    View.ld_unit_zero (S := S1088x128) zero2, View.ld_unit_zero (S := S2176x128) zero2]

theorem a_dv (hc0 : cond0_0 i) (hc1 : ¬cond0_1 i) :
    out0_A_6 c i a4 h4 a5 h5 a6 h6 a7 h7 a8 h8 a9 h9 a10 h10 hc0 hc1 x0 x1 x2 x3 = dvTerm x0 x1 x3 := by
  unfold out0_A_6
  rw [View.read_writes_eq_canon _ _ _ (cover0_A_6 c i a4 h4 a5 h5 a6 h6 a7 h7 a8 h8 a9 h9 a10 h10 hc0 hc1 x0 x1 x2 x3)]
  unfold kernelRun0_A dvTerm
  dsimp only
  sl_unfold_words
  rw [View.canon_unit_zero zero2]
  simp only [View.readAt_eq_ld, h4.read_unread, h5.read_unread, h6.read_unread, h7.read_unread,
    View.ld_unit_zero (S := S1088x128) zero2, View.ld_unit_zero (S := S2176x128) zero2]

theorem b_dq (hc0 : ¬cond0_0 i) (hc1 : cond0_1 i) :
    out0_B_4 c i a4 h4 a5 h5 a6 h6 a7 h7 a8 h8 a9 h9 a10 h10 hc0 hc1 x0 x1 x2 x3 x5 x6 = dqTerm x0 x1 x2 x3 := by
  unfold out0_B_4
  rw [View.read_writes_eq_canon _ _ _ (cover0_B_4 c i a4 h4 a5 h5 a6 h6 a7 h7 a8 h8 a9 h9 a10 h10 hc0 hc1 x0 x1 x2 x3 x5 x6)]
  unfold kernelRun0_B dqTerm
  dsimp only
  sl_unfold_words
  rw [View.canon_unit_zero zero2]
  simp only [View.readAt_eq_ld, h4.read_unread, h5.read_unread, h6.read_unread, h7.read_unread,
    View.ld_unit_zero (S := S1088x128) zero2, View.ld_unit_zero (S := S2176x128) zero2]

theorem b_dk (hc0 : ¬cond0_0 i) (hc1 : cond0_1 i) :
    out0_B_5 c i a4 h4 a5 h5 a6 h6 a7 h7 a8 h8 a9 h9 a10 h10 hc0 hc1 x0 x1 x2 x3 x5 x6 = addf x5 (dkTerm x0 x1 x2 x3) := by
  unfold out0_B_5
  rw [View.read_writes_eq_canon _ _ _ (cover0_B_5 c i a4 h4 a5 h5 a6 h6 a7 h7 a8 h8 a9 h9 a10 h10 hc0 hc1 x0 x1 x2 x3 x5 x6)]
  unfold kernelRun0_B dkTerm
  dsimp only
  sl_unfold_words
  rw [View.canon_unit_zero zero2]
  unfold k0_pay5
  simp only [View.readAt_eq_ld, h4.read_unread, h5.read_unread, h6.read_unread, h7.read_unread, h9.read_unread,
    View.ld_unit_zero (S := S1088x128) zero2, View.ld_unit_zero (S := S2176x128) zero2, shapeCast_self]

theorem b_dv (hc0 : ¬cond0_0 i) (hc1 : cond0_1 i) :
    out0_B_6 c i a4 h4 a5 h5 a6 h6 a7 h7 a8 h8 a9 h9 a10 h10 hc0 hc1 x0 x1 x2 x3 x5 x6 = addf x6 (dvTerm x0 x1 x3) := by
  unfold out0_B_6
  rw [View.read_writes_eq_canon _ _ _ (cover0_B_6 c i a4 h4 a5 h5 a6 h6 a7 h7 a8 h8 a9 h9 a10 h10 hc0 hc1 x0 x1 x2 x3 x5 x6)]
  unfold kernelRun0_B dvTerm
  dsimp only
  sl_unfold_words
  rw [View.canon_unit_zero zero2]
  unfold k0_pay6
  simp only [View.readAt_eq_ld, h4.read_unread, h5.read_unread, h6.read_unread, h7.read_unread, h10.read_unread,
    View.ld_unit_zero (S := S1088x128) zero2, View.ld_unit_zero (S := S2176x128) zero2, shapeCast_self]

end Terms

variable (m : (ℓ : Loc nD τ sig) → Buf (Elt F) ℓ) (c : Dev nD)

/-- Each point leaves its own block of the queries' gradient. -/
theorem outs_dq (t : Fin cfg0.N) :
    (outsAt0 m c t.val t.isLt).1 = dqTerm (iblk m c 0 t) (iblk m c 1 t) (iblk m c 2 t) (iblk m c 3 t) := by
  by_cases h0 : t.val % 8 = 0
  · rw [outsAt0_A m c t h0 (by omega)]
    dsimp only
    exact a_dq (F := F) ..
  · rw [outsAt0_B m c t h0 (by omega)]
    dsimp only
    exact b_dq (F := F) ..

/-- The first point of a head's run leaves its term of the keys' gradient … -/
theorem outs_dk_first (t : Fin cfg0.N) (h0 : t.val % 8 = 0) :
    (outsAt0 m c t.val t.isLt).2.1 = dkTerm (iblk m c 0 t) (iblk m c 1 t) (iblk m c 2 t) (iblk m c 3 t) := by
  rw [outsAt0_A m c t h0 (by omega)]
  dsimp only
  exact a_dk (F := F) ..

/-- … and each later one adds its term. -/
theorem outs_dk_next (n : ℕ) (hn : n + 1 < cfg0.N) (h0 : ¬(n + 1) % 8 = 0) :
    (outsAt0 m c (n + 1) hn).2.1 = addf (outsAt0 m c n (Nat.lt_of_succ_lt hn)).2.1
      (dkTerm (iblk m c 0 ⟨n + 1, hn⟩) (iblk m c 1 ⟨n + 1, hn⟩) (iblk m c 2 ⟨n + 1, hn⟩) (iblk m c 3 ⟨n + 1, hn⟩)) := by
  rw [show outsAt0 m c (n + 1) hn = _ from outsAt0_B m c ⟨n + 1, hn⟩ h0 (by dsimp only; omega)]
  dsimp only
  exact b_dk (F := F) ..

/-- The same of the values' gradient. -/
theorem outs_dv_first (t : Fin cfg0.N) (h0 : t.val % 8 = 0) :
    (outsAt0 m c t.val t.isLt).2.2 = dvTerm (iblk m c 0 t) (iblk m c 1 t) (iblk m c 3 t) := by
  rw [outsAt0_A m c t h0 (by omega)]
  dsimp only
  exact a_dv (F := F) ..

theorem outs_dv_next (n : ℕ) (hn : n + 1 < cfg0.N) (h0 : ¬(n + 1) % 8 = 0) :
    (outsAt0 m c (n + 1) hn).2.2 = addf (outsAt0 m c n (Nat.lt_of_succ_lt hn)).2.2
      (dvTerm (iblk m c 0 ⟨n + 1, hn⟩) (iblk m c 1 ⟨n + 1, hn⟩) (iblk m c 3 ⟨n + 1, hn⟩)) := by
  rw [show outsAt0 m c (n + 1) hn = _ from outsAt0_B m c ⟨n + 1, hn⟩ h0 (by dsimp only; omega)]
  dsimp only
  exact b_dv (F := F) ..

end Cert.KernelIdeal.Out

end
-- ==== Proof.RowMax.lean ====
/- Reductions of an array of rank five: the maximum of each row, and a sum over axes of one entry; and the constants the
   attention programs share. -/
module

public import Idealize.ShloMosaic.Lib.Pointwise

@[expose] public section

noncomputable section

namespace Cert.Attn

open Idealize.ShloMosaic

/-- The host's maximum over the last axis of an array of rank five, at an index: the maximum along the row. -/
theorem hostMax_last {n0 n1 n2 n3 n4 : ℕ} {u : Shape} (y : (⟨5, ![n0, n1, n2, n3, n4]⟩ : Shape).Idx → EReal)
    (init : u.Idx → EReal) (h : (⟨5, ![n0, n1, n2, n3, n4]⟩ : Shape).ReducesTo [4] ⟨4, ![n0, n1, n2, n3]⟩) (hu : 0 < u.numel)
    (a : Fin n0) (b : Fin n1) (c : Fin n2) (d : Fin n3) :
    Host.reduce (FloatOps.maximumf (F := Ideal) (φ := .f32)) y init h hu (ix4 a b c d)
      = (Finset.univ : Finset (Fin n4)).fold max (init (Shape.Idx.first hu)) fun k => y (ix5 a b c d k) := by
  rw [Host.reduce_eq_fold, Shape.ReducesTo.fold_fiber_r5_a4]
  rfl

/-- The host's sum over two axes of size one, at an index: the one entry. -/
theorem hostSum_ones {n0 n1 n3 : ℕ} (y : (⟨5, ![n0, n1, 1, n3, 1]⟩ : Shape).Idx → EReal) (init : EReal)
    (h : (⟨5, ![n0, n1, 1, n3, 1]⟩ : Shape).ReducesTo [2, 4] ⟨3, ![n0, n1, n3]⟩) (a : Fin n0) (b : Fin n1) (d : Fin n3) :
    Ideal.hostReduceAdd h y init (ix3 a b d) = init + y (ix5 a b 0 d 0) := by
  unfold Ideal.hostReduceAdd
  refine congrArg (init + ·) ?_
  rw [show Finset.univ.filter (fun i => h.drop i = ix3 a b d) = {ix5 a b 0 d 0} from ?_, Finset.sum_singleton]
  ext i
  rw [Finset.mem_filter, Finset.mem_singleton]
  refine ⟨fun e => ?_, fun e => ⟨Finset.mem_univ _, ?_⟩⟩
  · funext x
    apply Fin.ext
    match x with
    | ⟨0, _⟩ => exact congrArg Fin.val (congrFun e.2 0)
    | ⟨1, _⟩ => exact congrArg Fin.val (congrFun e.2 1)
    | ⟨2, _⟩ => exact Nat.lt_one_iff.mp (i 2).isLt
    | ⟨3, _⟩ => exact congrArg Fin.val (congrFun e.2 2)
    | ⟨4, _⟩ => exact Nat.lt_one_iff.mp (i 4).isLt
  · subst e
    funext x
    apply Fin.ext
    match x with
    | ⟨0, _⟩ => rfl
    | ⟨1, _⟩ => rfl
    | ⟨2, _⟩ => rfl

/-- The word of −∞. -/
theorem ofBits_neg_inf : Ideal.ofBits .f32 0xFF800000#32 = ⊥ := by simp [Ideal.ofBits, Ideal.ieee]

/-- The word the scale 1/√128 is rounded to denotes a real number. -/
theorem ofBits_scale : ∃ r : ℝ, Ideal.ofBits .f32 0x3DB504F3#32 = r := by
  simp only [Ideal.ofBits, Ideal.ieee]
  norm_num
  exact ⟨_, rfl⟩

/-- The word the scale 1/√192 is rounded to denotes a real number. -/
theorem ofBits_scale_mla : ∃ r : ℝ, Ideal.ofBits .f32 0x3D93CD3A#32 = r := by
  simp only [Ideal.ofBits, Ideal.ieee]
  norm_num
  exact ⟨_, rfl⟩

end Cert.Attn

end
-- ==== Proof.Block.lean ====
/- What one grid point of the attention gradient's kernel computes from its blocks, entry by entry. -/
module

public import proofs.«01_k».proof.Proof.Gen.KernelIdeal.Skeleton
public import proofs.«01_k».proof.Proof.Heads
public import proofs.«01_k».proof.Proof.RowMax

@[expose] public section

set_option maxRecDepth 16384

noncomputable section

namespace Cert.KernelIdeal.Block

open Idealize.ShloMosaic Cert.KernelIdeal.Gen Cert.Attn

/-- The scale of the scores: the word 1/√128 is rounded to. -/
abbrev scale : EReal := Ideal.ofBits .f32 0x3DB504F3#32

/-- A block's entry, by row and column. -/
abbrev row {R C : ℕ} (x : (⟨2, ![R, C]⟩ : Shape).Idx → EReal) (p : Fin R) (d : Fin C) : EReal := x (ix2 p d)

variable (q o : Vec Ideal S1088x128 .bf16) (k v : Vec Ideal S2176x128 .bf16)

/-- A row's scores with the padding at −∞. -/
abbrev srow (p : Fin 1088) : Fin 2176 → EReal := masked (n := 2064) (m := 112) (scores scale (row k) (row q p))

/-- The comparison that masks the padding. -/
theorem slt_word (x : ℕ) (hx : x < 2176) :
    IntOp.cmpi CmpIPredicate.slt (BitVec.ofNat 32 x) 2064#32 = if x < 2064 then 1#1 else 0#1 := by
  have h : (BitVec.ofNat 32 x).toInt = x := by
    rw [BitVec.toInt_eq_toNat_of_lt (by rw [BitVec.toNat_ofNat]; omega), BitVec.toNat_ofNat]; omega
  unfold IntOp.cmpi
  simp only [BitVec.slt, h, show (2064#32 : BitVec 32).toInt = 2064 from rfl]
  by_cases hx : x < 2064
  · rw [if_pos hx, decide_eq_true (by omega)]; rfl
  · rw [if_neg hx, decide_eq_false (by omega)]; rfl

/-- The weights the kernel computes are those of the padded row. -/
theorem pay8_apply (p : Fin 1088) (j : Fin 2176) : k0_pay8 q k (ix2 p j) = rexp (srow q k p) j := by
  have hs : ∀ x : Fin 2176, Scalar.select (IntOp.cmpi CmpIPredicate.slt (BitVec.ofNat 32 x.val) 2064#32)
      ((∑ y, q (ix2 p y) * k (ix2 x y)) * Ideal.ofBits FTy.f32 1035273459#32) (Named.named (F := Ideal) (φ := .f32) κ "mask" 4048155338#32 : EReal)
      = srow q k p x := by
    intro x
    rw [slt_word x.val x.isLt]
    unfold srow masked scores row
    split <;> rfl
  pointwise [k0_pay8]
  simp only [hs]
  rw [show Ideal.ofBits FTy.f32 4286578688#32 = ⊥ from ofBits_neg_inf]
  rfl

/-- The reciprocal of a row's sum of weights. -/
theorem pay9_apply (p : Fin 1088) : k0_pay9 q k (ix2 p 0) = Ideal.div 1 (rsum (srow q k p)) := by
  pointwise [k0_pay9]
  simp only [pay8_apply]
  rfl

/-- The weights' gradient less its weighted mean. -/
theorem pay10_apply (p : Fin 1088) (j : Fin 2176) : k0_pay10 q k o v (ix2 p j)
    = dots (row v) (row o p) j - Ideal.div 1 (rsum (srow q k p)) * ∑ x, rexp (srow q k p) x * dots (row v) (row o p) x := by
  pointwise [k0_pay10, k0_pay7]
  simp only [pay8_apply, pay9_apply]
  rfl

/-- The factor of a row's gradient. -/
theorem pay11_apply (p : Fin 1088) : k0_pay11 q k (ix2 p 0) = Ideal.div 1 (rsum (srow q k p)) * scale := by
  pointwise [k0_pay11]
  rw [pay9_apply]

/-- The point's block of the queries' gradient. -/
theorem pay2_apply (p : Fin 1088) (d : Fin 128) :
    k0_pay2 k (k0_pay8 q k) (k0_pay10 q k o v) (k0_pay11 q k) (ix2 p d)
      = ∑ j, kW (n := 2064) (m := 112) scale (row k) (row v) (row q p) (row o p) j * row k j d := by
  pointwise [k0_pay2, k0_pay1]
  simp only [pay8_apply, pay10_apply, pay11_apply]
  rfl

/-- What the point adds to the keys' gradient. -/
theorem pay3_apply (j : Fin 2176) (d : Fin 128) :
    k0_pay3 q (k0_pay8 q k) (k0_pay10 q k o v) (k0_pay11 q k) (ix2 j d)
      = ∑ p, kW (n := 2064) (m := 112) scale (row k) (row v) (row q p) (row o p) j * row q p d := by
  pointwise [k0_pay3, k0_pay1]
  simp only [pay8_apply, pay10_apply, pay11_apply]
  rfl

/-- What the point adds to the values' gradient. -/
theorem pay4_apply (j : Fin 2176) (d : Fin 128) :
    k0_pay4 (k0_pay7 o) (k0_pay8 q k) (k0_pay9 q k) (ix2 j d)
      = ∑ p, kA (n := 2064) (m := 112) scale (row k) (row q p) (row o p) j d := by
  pointwise [k0_pay4, k0_pay7]
  simp only [pay8_apply, pay9_apply]
  rfl

end Cert.KernelIdeal.Block

end
-- ==== Proof.Swiglu.lean ====
/- The gradient of `silu(gate) * up`: the kernel's arrays are the derivative's. -/
module

public import proofs.«01_k».proof.Proof.Gen.Kernel5Ideal.Value
public import proofs.«01_k».proof.Proof.Gen.Reference5Ideal.Read
public import Idealize.ShloMosaic.Lib.Pointwise

@[expose] public section

set_option maxRecDepth 16384

noncomputable section

namespace Cert.Kernel5Ideal.Swiglu

open Cert.Kernel5Ideal Cert.Kernel5Ideal.Gen Cert.Kernel5Ideal.Value
open Idealize.ShloMosaic Idealize.ShloMosaic.TcCoe Idealize.SL.Sem

/-- The logistic function. -/
def logistic (g : EReal) : EReal := Ideal.div 1 (1 + Ideal.exp (-g))

theorem logistic_top : logistic ⊤ = 1 := by
  unfold logistic
  rw [show Ideal.exp (-(⊤ : EReal)) = 0 from rfl]
  simp [Ideal.div]

theorem logistic_bot : logistic ⊥ = 0 := by
  unfold logistic
  rw [show Ideal.exp (-(⊥ : EReal)) = ⊤ from rfl, show (1 : EReal) + ⊤ = ⊤ from rfl]
  simp [Ideal.div]

theorem logistic_coe (g : ℝ) : ∃ s : ℝ, logistic g = s := by
  refine ⟨1 / (1 + Real.exp (-g)), ?_⟩
  have h : (1 + Real.exp (-g)) ≠ 0 := by positivity
  unfold logistic
  rw [show (1 + Ideal.exp (-(g : EReal)) : EReal) = ((1 + Real.exp (-g) : ℝ) : EReal) from rfl, Ideal.div_coe h, one_mul]

/-- The two ways to write the derivative of `g ↦ g * logistic g` agree, the factor `e` being finite. -/
theorem silu_grad (g e : EReal) (h : e ≠ ⊤ ∧ e ≠ ⊥) :
    e * (logistic g * (1 + g * (1 - logistic g))) = e * logistic g + g * e * (logistic g * (1 - logistic g)) := by
  induction g using EReal.rec with
  | bot => simp [logistic_bot]
  | top =>
    have : (1 : EReal) - 1 = 0 := EReal.sub_self (by decide) (by decide)
    simp [logistic_top, this]
  | coe g =>
    obtain ⟨s, hs⟩ := logistic_coe g
    lift e to ℝ using h
    rw [hs]
    norm_cast
    ring

/-- The kernel's gradient of the gate, entry by entry. -/
theorem dgate_apply (g u d : S4352x5632.Idx → EReal) (i : S4352x5632.Idx) :
    G3 (F := Ideal) g d u i = d i * u i * (logistic (g i) * (1 + g i * (1 - logistic (g i)))) := by
  simp only [logistic, ← zero_sub]
  pointwise []

/-- The kernel's gradient of the second factor, entry by entry. -/
theorem dup_apply (g d : S4352x5632.Idx → EReal) (i : S4352x5632.Idx) : G4 (F := Ideal) g d i = d i * (g i * logistic (g i)) := by
  simp only [logistic, ← zero_sub]
  pointwise []

section
open Cert.Reference5Ideal.Read

/-- The reference's entries. -/
theorem ref_dgate (g u d : S4352x5632.Idx → EReal) (i : S4352x5632.Idx) :
    val_main_v7 (F := Ideal) g u d i = d i * u i * logistic (g i) + g i * (d i * u i) * (logistic (g i) * (1 - logistic (g i))) := by
  unfold logistic
  pointwise [val_main_v7, val_main_v6, val_main_call1_v2, val_main_call1_v1, val_main_call1_v0, val_main_v5, val_main_v2_1, val_main_call0_v7,
    val_main_call0_v6, val_main_call0_cst_1, val_main_v2_2, val_main_call0_v4, val_main_call0_cst_0, val_main_call0_v3, val_main_call0_v2,
    val_main_call0_cst, val_main_call0_v1, val_main_call0_v0, val_main_v1, val_main_v0]

theorem ref_dup (g d : S4352x5632.Idx → EReal) (i : S4352x5632.Idx) : val_main_v8 (F := Ideal) g d i = g i * logistic (g i) * d i := by
  unfold logistic
  pointwise [val_main_v8, val_main_v4, val_main_v2_0, val_main_v2_2, val_main_call0_v4, val_main_call0_cst_0, val_main_call0_v3,
    val_main_call0_v2, val_main_call0_cst, val_main_call0_v1, val_main_call0_v0, val_main_v0]

/-- The two gradients of the gate agree where the incoming gradient is finite. -/
theorem dgate_eq (g u d : S4352x5632.Idx → EReal) (h : ∀ i, u i * d i ≠ ⊤ ∧ u i * d i ≠ ⊥) :
    G3 (F := Ideal) g d u = val_main_v7 (F := Ideal) g u d := by
  funext i
  rw [dgate_apply, ref_dgate]
  exact silu_grad _ _ (mul_comm (u i) (d i) ▸ h i)

/-- The two gradients of the second factor agree. -/
theorem dup_eq (g d : S4352x5632.Idx → EReal) : G4 (F := Ideal) g d = val_main_v8 (F := Ideal) g d := by
  funext i
  rw [dup_apply, ref_dup, mul_comm]

end

end Cert.Kernel5Ideal.Swiglu

end
-- ==== Proof.ConvPoint.lean ====
/- The gradient of the depthwise convolution: what one point of the grid leaves in its output blocks. -/
module

public import proofs.«01_k».proof.Proof.Gen.Kernel26Ideal.Value
public import proofs.«01_k».proof.Proof.Products
public import proofs.«01_k».proof.Proof.Out
public import proofs.«01_k».proof.Proof.Block
public import proofs.«01_k».proof.Proof.Swiglu

@[expose] public section

set_option maxRecDepth 16384

noncomputable section

namespace Cert.Kernel26Ideal.Conv

open Cert.Kernel26Ideal Cert.Kernel26Ideal.Gen Cert.Kernel26Ideal.Value Cert.Attn Cert.Products
open Idealize.ShloMosaic Idealize.ShloMosaic.TcCoe Idealize.SL.Sem
open Cert.KernelIdeal.Out (zero2)
open Cert.KernelIdeal.Block (slt_word)

/-- The logistic function. -/
abbrev expit (g : EReal) : EReal := Cert.Kernel5Ideal.Swiglu.logistic g

/-- A block with 16 rows of zeros above it and below it, at row `o + p`. -/
def shifted (y : FVec Ideal S2176x256 .f32) (o : ℕ) : FVec Ideal S2176x256 .f32 := fun i =>
  if 16 ≤ o + (i 0).val then at2 (R := 2176) (C := 256) y (o + (i 0).val - 16) (i 1).val else 0

/-- Row `k` of the taps' weights. -/
def tap (w : Vec Ideal S31x256 .f32) (k : ℕ) : Vec Ideal S1x256 .f32 := fun i => at2 (R := 31) (C := 256) w k (i 1).val

theorem halo : k0_pay6 (F := Ideal) = fun _ => 0 := by
  funext i
  pointwise [k0_pay6]

/-- A load from a scratch that holds a block between two rows of zeros is the shifted block. -/
theorem load (v : View sig .tc .vmem S2208x256 .f32) (y : FVec Ideal S2176x256 .f32) (z z' : FVec Ideal S16x256 .f32)
    (hz : z = fun _ => 0) (hz' : z' = fun _ => 0) (o : ℕ) (inb : ∀ a, (![o, 0] : Fin 2 → ℕ) a + S2176x256.size a ≤ S2208x256.size a) :
    View.readCov (Val := Elt Ideal) v [⟨Rect.unit ![2192, 0] S16x256.size inb_S2208x256_S16x256_2192_0, z⟩,
      ⟨Rect.unit ![16, 0] S2176x256.size inb_S2208x256_S2176x256_16_0, y⟩,
      ⟨Rect.unit ![0, 0] S16x256.size inb_S2208x256_S16x256_0_0, z'⟩] (Rect.unit (s := S2208x256) ![o, 0] S2176x256.size inb).toLoadRect = shifted y o := by
  subst hz hz'
  have ho : o ≤ 32 := by have := inb 0; change o + 2176 ≤ 2208 at this; omega
  rw [View.readCov_eq_canon']
  funext j
  obtain ⟨p, q, rfl⟩ : ∃ p q, j = ix2 p q := ⟨_, _, eq_ix2 j⟩
  have hi : (Rect.unit (s := S2208x256) ![o, 0] S2176x256.size inb).toLoadRect.idx (ix2 p q) = (ix2 ⟨o + p.val, by omega⟩ q : S2208x256.Idx) := by
    funext a
    refine Fin.ext ?_
    match a with
    | ⟨0, _⟩ => show o + 1 * p.val = o + p.val; omega
    | ⟨1, _⟩ => show 0 + 1 * q.val = q.val; omega
  rw [hi]
  refine (View.canon_apply_of_pieces (fun i : S2208x256.Idx => if 16 ≤ (i 0).val then at2 (R := 2176) (C := 256) y ((i 0).val - 16) (i 1).val else 0)
    _ ?_ _ ?_).trans rfl
  · intro r hr x
    simp only [List.mem_cons, List.not_mem_nil, or_false] at hr
    obtain rfl | rfl | rfl := hr
    · obtain ⟨p, q, rfl⟩ : ∃ p q, x = ix2 p q := ⟨_, _, eq_ix2 x⟩
      have h0 : ((Rect.unit (s := S2208x256) ![2192, 0] S16x256.size inb_S2208x256_S16x256_2192_0).emb (ix2 p q) 0).val = 2192 + 1 * p.val := rfl
      dsimp only
      rw [h0, if_pos (by omega)]
      unfold at2
      rw [dif_neg (by omega)]
    · obtain ⟨p, q, rfl⟩ : ∃ p q, x = ix2 p q := ⟨_, _, eq_ix2 x⟩
      have h0 : ((Rect.unit (s := S2208x256) ![16, 0] S2176x256.size inb_S2208x256_S2176x256_16_0).emb (ix2 p q) 0).val = 16 + 1 * p.val := rfl
      have h1 : ((Rect.unit (s := S2208x256) ![16, 0] S2176x256.size inb_S2208x256_S2176x256_16_0).emb (ix2 p q) 1).val = 0 + 1 * q.val := rfl
      dsimp only
      rw [h0, h1, if_pos (by omega), at2_eq _ (by omega) (by omega)]
      exact congrArg y (funext fun a => Fin.ext (match a with
        | ⟨0, _⟩ => show p.val = 16 + 1 * p.val - 16 by omega
        | ⟨1, _⟩ => show q.val = 0 + 1 * q.val by omega))
    · obtain ⟨p, q, rfl⟩ : ∃ p q, x = ix2 p q := ⟨_, _, eq_ix2 x⟩
      have h0 : ((Rect.unit (s := S2208x256) ![0, 0] S16x256.size inb_S2208x256_S16x256_0_0).emb (ix2 p q) 0).val = 0 + 1 * p.val := rfl
      dsimp only
      rw [h0, if_neg (by omega)]
  · simp only [List.mem_cons, List.not_mem_nil, or_false, exists_eq_or_imp, exists_eq_left, Rect.mem_set_unit]
    have hp := p.isLt
    have hq := q.isLt
    rcases Nat.lt_or_ge (o + p.val) 16 with h | h
    · refine .inr (.inr fun a => ?_)
      match a with
      | ⟨0, _⟩ => show 0 ≤ o + p.val ∧ o + p.val < 0 + 16; omega
      | ⟨1, _⟩ => show 0 ≤ q.val ∧ q.val < 0 + 256; omega
    · rcases Nat.lt_or_ge (o + p.val) 2192 with h' | h'
      · refine .inr (.inl fun a => ?_)
        match a with
        | ⟨0, _⟩ => show 16 ≤ o + p.val ∧ o + p.val < 16 + 2176; omega
        | ⟨1, _⟩ => show 0 ≤ q.val ∧ q.val < 0 + 256; omega
      · refine .inl fun a => ?_
        match a with
        | ⟨0, _⟩ => show 2192 ≤ o + p.val ∧ o + p.val < 2192 + 16; omega
        | ⟨1, _⟩ => show 0 ≤ q.val ∧ q.val < 0 + 256; omega

/-- A load of one row of the taps' weights. -/
theorem ld_tap (w : Vec Ideal S31x256 .f32) (k : ℕ) (inb : ∀ a, (![k, 0] : Fin 2 → ℕ) a + S1x256.size a ≤ S31x256.size a) :
    View.ld w (Rect.unit (s := S31x256) ![k, 0] S1x256.size inb) = tap w k := by
  funext j
  obtain ⟨p, q, rfl⟩ : ∃ p q, j = ix2 p q := ⟨_, _, eq_ix2 j⟩
  have hk : k < 31 := by have := inb 0; change k + 1 ≤ 31 at this; omega
  unfold tap
  show w _ = _
  rw [at2_eq _ hk (show (ix2 p q 1).val < 256 from q.isLt)]
  refine congrArg w (funext fun a => Fin.ext ?_)
  match a with
  | ⟨0, _⟩ => show k + 1 * p.val = k; omega
  | ⟨1, _⟩ => show 0 + 1 * q.val = q.val; omega

/-- A choice by the rows' mask. -/
theorem masked (p : Fin 2176) (x : EReal) : Scalar.select (IntOp.cmpi CmpIPredicate.slt (BitVec.ofNat 32 p.val) 2064#32) x 0 =
    if p.val < 2064 then x else 0 := by
  rw [slt_word p.val p.isLt]
  by_cases h : p.val < 2064
  · rw [if_pos h, if_pos h]; rfl
  · rw [if_neg h, if_neg h]; rfl

section Entries

variable (D : ℕ → FVec Ideal S2176x256 .f32) (W : ℕ → Vec Ideal S1x256 .f32)

/-- The sum of the first thirty taps' terms. -/
abbrev thirty : FVec Ideal S2176x256 .f32 :=
  k0_pay62 (k0_pay59 (k0_pay56 (k0_pay52 (k0_pay47 (k0_pay42 (k0_pay39 (k0_pay36 (k0_pay32 (k0_pay27 (k0_pay22 (k0_pay19 (k0_pay16
    (D 31) (W 0) (D 30) (W 1)) (D 29) (W 2) (D 28) (W 3)) (D 27) (W 4) (D 26) (W 5)) (D 25) (k0_pay24 (W 6)) (D 24) (W 7) (D 23) (W 8))
    (D 22) (W 9) (D 21) (W 10)) (D 20) (W 11) (D 19) (W 12) (D 18) (W 13)) (D 17) (W 14) (D 16) (W 15)) (D 15) (W 16) (D 14) (W 17))
    (D 13) (k0_pay44 (W 18)) (D 12) (W 19) (D 11) (W 20)) (D 10) (W 21) (D 9) (W 22)) (D 8) (W 23) (D 7) (W 24) (D 6) (W 25))
    (D 5) (W 26) (D 4) (W 27)) (D 3) (W 28) (D 2) (W 29)

/-- What reaches the convolution's input: the sum over the taps, zero past the sequence's end. -/
theorem dz_apply (p : Fin 2176) (q : Fin 256) : k0_pay67 k0_pay2 (thirty D W) (D 1) (k0_pay64 (W 30)) (ix2 p q) =
    if p.val < 2064 then ∑ j ∈ Finset.range 31, D (31 - j) (ix2 p q) * W j (ix2 0 q) else 0 := by
  simp only [Finset.sum_range_succ, Finset.sum_range_zero]
  pointwise [k0_pay67, k0_pay2, thirty, k0_pay62, k0_pay59, k0_pay56, k0_pay52, k0_pay47, k0_pay42, k0_pay39, k0_pay36, k0_pay32, k0_pay27, k0_pay22,
    k0_pay19, k0_pay16, k0_pay24, k0_pay44, k0_pay64]
  exact masked p _

variable (a g y : Vec Ideal S1x2176x256 .f32) (w : Vec Ideal S31x256 .f32)

/-- What reaches the convolution's input at a point, … -/
def dzBlock : FVec Ideal S2176x256 .f32 :=
  k0_pay67 k0_pay2 (thirty (shifted (k0_pay5 y)) (tap w)) (shifted (k0_pay5 y) 1) (k0_pay64 (tap w 30))

/-- … the gradients of the gated linear unit's two halves, … -/
def daBlock : FVec Ideal S1x2176x256 .bf16 :=
  k0_pay68 k0_pay2 (k0_pay4 g) (thirty (shifted (k0_pay5 y)) (tap w)) (shifted (k0_pay5 y) 1) (k0_pay64 (tap w 30))
def dgBlock : FVec Ideal S1x2176x256 .bf16 :=
  k0_pay1 (k0_pay4 g) (k0_pay69 k0_pay2 (k0_pay3 a) (k0_pay4 g) (thirty (shifted (k0_pay5 y)) (tap w)) (shifted (k0_pay5 y) 1) (k0_pay64 (tap w 30)))

/-- … and the point's part of the weights' gradient. -/
def dwBlock : Vec Ideal S31x256 .f32 := fun i =>
  ∑ p : Fin 2176, k0_pay5 y (ix2 p (i 1)) * shifted (k0_pay8 a g) ((i 0).val + 1) (ix2 p (i 1))

theorem da_apply (p : Fin 2176) (q : Fin 256) : daBlock g y w (ix3 0 p q) = dzBlock y w (ix2 p q) * expit (g (ix3 0 p q)) := by
  unfold daBlock dzBlock expit Cert.Kernel5Ideal.Swiglu.logistic
  unfold k0_pay68
  generalize k0_pay67 (F := Ideal) k0_pay2 _ _ _ = z
  rw [← zero_sub (g _)]
  pointwise [k0_pay4]

theorem dg_apply (p : Fin 2176) (q : Fin 256) : dgBlock a g y w (ix3 0 p q) =
    dzBlock y w (ix2 p q) * a (ix3 0 p q) * expit (g (ix3 0 p q)) * (1 - expit (g (ix3 0 p q))) := by
  unfold dgBlock dzBlock expit Cert.Kernel5Ideal.Swiglu.logistic
  unfold k0_pay69
  generalize k0_pay67 (F := Ideal) k0_pay2 _ _ _ = z
  rw [← zero_sub (g _)]
  pointwise [k0_pay4, k0_pay1, k0_pay3]

theorem y_apply (p : Fin 2176) (q : Fin 256) : k0_pay5 y (ix2 p q) = y (ix3 0 p q) := by
  pointwise [k0_pay5]

/-- The convolution's input. -/
theorem z_apply (p : Fin 2176) (q : Fin 256) : k0_pay8 a g (ix2 p q) =
    if p.val < 2064 then a (ix3 0 p q) * expit (g (ix3 0 p q)) else 0 := by
  unfold expit Cert.Kernel5Ideal.Swiglu.logistic
  rw [← zero_sub (g _)]
  pointwise [k0_pay8, k0_pay4, k0_pay3, k0_pay2]
  exact masked p _

/-- A point's part of the biases' gradient. -/
theorem db_apply (d : Vec Ideal S1x256 .f32) (q : Fin 256) : k0_pay66 (k0_pay5 y) d (ix2 0 q) = d (ix2 0 q) + ∑ p : Fin 2176, y (ix3 0 p q) := by
  simp only [← y_apply]
  generalize k0_pay5 y = e
  pointwise [k0_pay66]

/-- One tap's row of the weights' gradient. -/
theorem row_apply (e x : FVec Ideal S2176x256 .f32) (d : Vec Ideal S1x256 .f32) (q : Fin 256) :
    k0_pay15 e d x (ix2 0 q) = d (ix2 0 q) + ∑ p : Fin 2176, e (ix2 p q) * x (ix2 p q) := by
  pointwise [k0_pay15]

end Entries

/-- The row that a point stores for tap `j` is a row of the weights' gradient. -/
theorem row_piece (a g y : Vec Ideal S1x2176x256 .f32) (d : Vec Ideal S31x256 .f32) (j : ℕ)
    (inb : ∀ a, (![j, 0] : Fin 2 → ℕ) a + (![1, 256] : Fin 2 → ℕ) a ≤ S31x256.size a) (x : (Rect.unit (s := S31x256) ![j, 0] ![1, 256] inb).shape.Idx) :
    k0_pay15 (k0_pay5 y) (tap d j) (shifted (k0_pay8 a g) (j + 1)) x
      = (fun i => d i + dwBlock a g y i) ((Rect.unit (s := S31x256) ![j, 0] ![1, 256] inb).emb x) := by
  have hj : j < 31 := by have := inb 0; change j + 1 ≤ 31 at this; omega
  obtain ⟨o, q, rfl⟩ : ∃ (o : Fin 1) (q : Fin 256), x = ix2 o q := ⟨x 0, x 1, eq_ix2 (n0 := 1) (n1 := 256) x⟩
  obtain rfl : o = 0 := Subsingleton.elim _ _
  have hi : (Rect.unit (s := S31x256) ![j, 0] ![1, 256] inb).emb (ix2 0 q) = (ix2 ⟨j, hj⟩ q : S31x256.Idx) := by
    funext a
    refine Fin.ext ?_
    match a with
    | ⟨0, _⟩ => show j + 1 * 0 = j; omega
    | ⟨1, _⟩ => show 0 + 1 * q.val = q.val; omega
  rw [hi]
  refine (row_apply _ _ _ q).trans ?_
  refine congrArg₂ (· + ·) (at2_eq d hj q.isLt) rfl

/-- Rows stored one after the other: the array below row `n + 1` is the stored rows. -/
theorem rows_step (G : S31x256.Idx → EReal) (n : ℕ) (inb : ∀ a, (![n, 0] : Fin 2 → ℕ) a + (![1, 256] : Fin 2 → ℕ) a ≤ S31x256.size a)
    (w : (Rect.unit (s := S31x256) ![n, 0] ![1, 256] inb).shape.Idx → EReal) (M : List (View.Piece (Elt Ideal) S31x256 .f32))
    (hw : ∀ x, w x = G ((Rect.unit (s := S31x256) ![n, 0] ![1, 256] inb).emb x))
    (ih : ∀ y : S31x256.Idx, (y 0).val < n → View.canon M y = G y) (y : S31x256.Idx) (hy : (y 0).val < n + 1) :
    View.canon ((⟨Rect.unit ![n, 0] ![1, 256] inb, w⟩ : View.Piece (Elt Ideal) S31x256 .f32) :: M) y = G y := by
  by_cases h : y ∈ (Rect.unit (s := S31x256) ![n, 0] ![1, 256] inb).set
  · obtain ⟨x, rfl⟩ : ∃ x, (Rect.unit (s := S31x256) ![n, 0] ![1, 256] inb).emb x = y := (Rect.unit (s := S31x256) ![n, 0] ![1, 256] inb).exists_idx_of_mem h
    exact (View.canon_cons_emb _ _ _ x).trans (hw x)
  · refine (View.canon_cons_of_not_mem (Val := Elt Ideal) ⟨Rect.unit ![n, 0] ![1, 256] inb, w⟩ M h).trans
      (ih y (lt_of_le_of_ne (Nat.lt_succ_iff.mp hy) fun he => h ?_))
    have h1 : (y 1).val < 256 := (y 1).isLt
    rw [Rect.mem_set_unit]
    intro a
    match a with
    | ⟨0, _⟩ => show n ≤ (y 0).val ∧ (y 0).val < n + 1; omega
    | ⟨1, _⟩ => show 0 ≤ (y 1).val ∧ (y 1).val < 0 + 256; omega

end Cert.Kernel26Ideal.Conv

end
-- ==== Proof.ConvOut.lean ====
/- The gradient of the depthwise convolution: the output blocks after each point of the grid. -/
module

public import proofs.«01_k».proof.Proof.ConvPoint
public import Idealize.ShloMosaic.Lib.Pipeline.ReadBack

@[expose] public section

set_option maxRecDepth 16384

noncomputable section

namespace Cert.Kernel26Ideal.Conv

open Cert.Kernel26Ideal Cert.Kernel26Ideal.Gen Cert.Kernel26Ideal.Value Cert.Attn Cert.Products
open Idealize.ShloMosaic Idealize.ShloMosaic.TcCoe Idealize.SL.Sem
open Cert.KernelIdeal.Out (zero2)

/-- The scratch of the padded gradient, loaded at row `o`. -/
theorem load_y (v : View sig .tc .vmem S2208x256 .f32) (y : FVec Ideal S2176x256 .f32) (o : ℕ)
    (inb : ∀ a, (![o, 0] : Fin 2 → ℕ) a + (![2176, 256] : Fin 2 → ℕ) a ≤ S2208x256.size a) :
    View.readCov (Val := Elt Ideal) v [⟨Rect.unit ![2192, 0] ![16, 256] inb_S2208x256_S16x256_2192_0, k0_pay12 (F := Ideal) k0_pay6⟩,
      ⟨Rect.unit ![16, 0] ![2176, 256] inb_S2208x256_S2176x256_16_0, k0_pay11 y⟩,
      ⟨Rect.unit ![0, 0] ![16, 256] inb_S2208x256_S16x256_0_0, k0_pay10 (F := Ideal) k0_pay6⟩] (Rect.unit (s := S2208x256) ![o, 0] ![2176, 256] inb).toLoadRect
      = shifted y o := by
  refine (load v (k0_pay11 y) _ _ ?_ ?_ o inb).trans (congrArg (shifted · o) ?_)
  · unfold k0_pay12; rw [halo, shapeCast_self]
  · unfold k0_pay10; rw [halo, shapeCast_self]
  · unfold k0_pay11; rw [shapeCast_self]

/-- The scratch of the padded input, loaded at row `o`. -/
theorem load_z (v : View sig .tc .vmem S2208x256 .f32) (z : FVec Ideal S2176x256 .f32) (o : ℕ)
    (inb : ∀ a, (![o, 0] : Fin 2 → ℕ) a + (![2176, 256] : Fin 2 → ℕ) a ≤ S2208x256.size a) :
    View.readCov (Val := Elt Ideal) v [⟨Rect.unit ![2192, 0] ![16, 256] inb_S2208x256_S16x256_2192_0, k0_pay9 (F := Ideal)⟩,
      ⟨Rect.unit ![16, 0] ![2176, 256] inb_S2208x256_S2176x256_16_0, z⟩,
      ⟨Rect.unit ![0, 0] ![16, 256] inb_S2208x256_S16x256_0_0, k0_pay7 (F := Ideal)⟩] (Rect.unit (s := S2208x256) ![o, 0] ![2176, 256] inb).toLoadRect
      = shifted z o := by
  refine load v z _ _ ?_ ?_ o inb
  · unfold k0_pay9; rw [halo, shapeCast_self]
  · unfold k0_pay7; rw [halo, shapeCast_self]

/-- A load of one row of the taps' weights. -/
theorem ld_row (w : Vec Ideal S31x256 .f32) (k : ℕ) (inb : ∀ a, (![k, 0] : Fin 2 → ℕ) a + (![1, 256] : Fin 2 → ℕ) a ≤ S31x256.size a) :
    View.ld (Val := Elt Ideal) w (Rect.unit (s := S31x256) ![k, 0] ![1, 256] inb) = tap w k := ld_tap w k inb

/-- A load after a fill. -/
theorem load_fill (v : View sig .tc .vmem S31x256 .f32) (z : Vec Ideal S31x256 .f32)
    (inb : ∀ a, (![0, 0] : Fin 2 → ℕ) a + (![31, 256] : Fin 2 → ℕ) a ≤ S31x256.size a) (r : Rect S31x256) :
    View.readCov (Val := Elt Ideal) v [⟨Rect.unit ![0, 0] ![31, 256] inb, z⟩] r.toLoadRect = View.ld z r :=
  View.readCov_fill v inb z [] r (by decide)

variable (x0 x1 x3 : Vec Ideal S1x2176x256 .f32) (x2 : Vec Ideal S31x256 .f32)
  (c : Dev nD) (i : grid0.Coords) (a2 : Memref sig .tc .vmem S1x2176x256 .f32) (h2 : a2.IsWhole)
  (a3 : Memref sig .tc .vmem S1x2176x256 .f32) (h3 : a3.IsWhole) (a4 : Memref sig .tc .vmem S31x256 .f32) (h4 : a4.IsWhole)
  (a5 : Memref sig .tc .vmem S1x2176x256 .f32) (h5 : a5.IsWhole)
  (a6 : Memref sig .tc .vmem S1x2176x256 .bf16) (h6 : a6.IsWhole) (a7 : Memref sig .tc .vmem S1x2176x256 .bf16) (h7 : a7.IsWhole)
  (a8 : Memref sig .tc .vmem S31x256 .f32) (h8 : a8.IsWhole) (a9 : Memref sig .tc .vmem S1x256 .f32) (h9 : a9.IsWhole)
  (a10 a11 : Memref sig .tc .vmem S2208x256 .f32) (h10 : a10.IsWhole) (h11 : a11.IsWhole)
  (xo6 : Vec Ideal S31x256 .f32) (xo7 : Vec Ideal S1x256 .f32)

/-- A later point: the gradients of the two halves, … -/
theorem b_da (hc0 : ¬cond0_0 i) : out0_B_4 c i a2 h2 a3 h3 a4 h4 a5 h5 a6 h6 a7 h7 a8 h8 a9 h9 a10 h10 a11 h11 hc0 x0 x1 x2 x3 xo6 xo7 =
    daBlock x1 x3 x2 := by
  unfold out0_B_4
  rw [View.read_writes_eq_canon _ _ _ (fun y => cover0_B_4 (y := y) ..)]
  unfold kernelRun0_B
  dsimp only
  sl_unfold_words
  rw [View.canon_unit_zero zero3]
  simp only [View.readAt_eq_ld, h2.read_unread, h3.read_unread, h4.read_unread, h5.read_unread, View.ld_unit_zero (S := S1x2176x256) zero3,
    load_y, ld_row]
  rfl

theorem b_dg (hc0 : ¬cond0_0 i) : out0_B_5 c i a2 h2 a3 h3 a4 h4 a5 h5 a6 h6 a7 h7 a8 h8 a9 h9 a10 h10 a11 h11 hc0 x0 x1 x2 x3 xo6 xo7 =
    dgBlock x0 x1 x3 x2 := by
  unfold out0_B_5
  rw [View.read_writes_eq_canon _ _ _ (fun y => cover0_B_5 (y := y) ..)]
  unfold kernelRun0_B
  dsimp only
  sl_unfold_words
  rw [View.canon_unit_zero zero3]
  simp only [View.readAt_eq_ld, h2.read_unread, h3.read_unread, h4.read_unread, h5.read_unread, View.ld_unit_zero (S := S1x2176x256) zero3,
    load_y, ld_row]
  rfl

/-- … the weights' gradient with the point's part added, … -/
theorem b_dw (hc0 : ¬cond0_0 i) : out0_B_6 c i a2 h2 a3 h3 a4 h4 a5 h5 a6 h6 a7 h7 a8 h8 a9 h9 a10 h10 a11 h11 hc0 x0 x1 x2 x3 xo6 xo7 =
    fun k => xo6 k + dwBlock x0 x1 x3 k := by
  unfold out0_B_6
  rw [View.read_writes_eq_canon _ _ _ (fun y => cover0_B_6 (y := y) ..)]
  unfold kernelRun0_B
  dsimp only
  sl_unfold_words
  simp only [View.readAt_eq_ld, h2.read_unread, h3.read_unread, h5.read_unread, h8.read_unread, View.ld_unit_zero (S := S1x2176x256) zero3,
    load_z, ld_row]
  funext k
  have hk : (k 0).val < 31 := (k 0).isLt
  revert hk k
  repeat refine rows_step (fun k => xo6 k + dwBlock x0 x1 x3 k) _ _ _ _ (fun x => row_piece x0 x1 x3 xo6 _ _ x) ?_
  exact fun _ h => absurd h (Nat.not_lt_zero _)

/-- … and the biases'. -/
theorem b_db (hc0 : ¬cond0_0 i) : out0_B_7 c i a2 h2 a3 h3 a4 h4 a5 h5 a6 h6 a7 h7 a8 h8 a9 h9 a10 h10 a11 h11 hc0 x0 x1 x2 x3 xo6 xo7 =
    k0_pay66 (k0_pay5 x3) xo7 := by
  unfold out0_B_7
  rw [View.read_writes_eq_canon _ _ _ (fun y => cover0_B_7 (y := y) ..)]
  unfold kernelRun0_B
  dsimp only
  sl_unfold_words
  rw [View.canon_unit_zero zero2]
  simp only [View.readAt_eq_ld, h5.read_unread, h9.read_unread, View.ld_unit_zero (S := S1x2176x256) zero3, View.ld_unit_zero (S := S1x256) zero2]

/-- A sequence's first point: the gradients of the two halves, … -/
theorem a_da (hc0 : cond0_0 i) : out0_A_4 c i a2 h2 a3 h3 a4 h4 a5 h5 a6 h6 a7 h7 a8 h8 a9 h9 a10 h10 a11 h11 hc0 x0 x1 x2 x3 =
    daBlock x1 x3 x2 := by
  unfold out0_A_4
  rw [View.read_writes_eq_canon _ _ _ (fun y => cover0_A_4 (y := y) ..)]
  unfold kernelRun0_A
  dsimp only
  sl_unfold_words
  rw [View.canon_unit_zero zero3]
  simp only [View.readAt_eq_ld, h2.read_unread, h3.read_unread, h4.read_unread, h5.read_unread, View.ld_unit_zero (S := S1x2176x256) zero3,
    load_y, ld_row]
  rfl

theorem a_dg (hc0 : cond0_0 i) : out0_A_5 c i a2 h2 a3 h3 a4 h4 a5 h5 a6 h6 a7 h7 a8 h8 a9 h9 a10 h10 a11 h11 hc0 x0 x1 x2 x3 =
    dgBlock x0 x1 x3 x2 := by
  unfold out0_A_5
  rw [View.read_writes_eq_canon _ _ _ (fun y => cover0_A_5 (y := y) ..)]
  unfold kernelRun0_A
  dsimp only
  sl_unfold_words
  rw [View.canon_unit_zero zero3]
  simp only [View.readAt_eq_ld, h2.read_unread, h3.read_unread, h4.read_unread, h5.read_unread, View.ld_unit_zero (S := S1x2176x256) zero3,
    load_y, ld_row]
  rfl

/-- … the weights' gradient started from zero, … -/
theorem a_dw (hc0 : cond0_0 i) : out0_A_6 c i a2 h2 a3 h3 a4 h4 a5 h5 a6 h6 a7 h7 a8 h8 a9 h9 a10 h10 a11 h11 hc0 x0 x1 x2 x3 =
    fun k => k0_pay13 (F := Ideal) k + dwBlock x0 x1 x3 k := by
  unfold out0_A_6
  rw [View.read_writes_eq_canon _ _ _ (fun y => cover0_A_6 (y := y) ..)]
  unfold kernelRun0_A
  dsimp only
  sl_unfold_words
  simp (disch := decide) only [↓View.readCov_skip a8.view]
  simp only [load_fill, View.readAt_eq_ld, h2.read_unread, h3.read_unread, h5.read_unread,
    View.ld_unit_zero (S := S1x2176x256) zero3, load_z, ld_row]
  funext k
  have hk : (k 0).val < 31 := (k 0).isLt
  revert hk k
  repeat refine rows_step (fun k => k0_pay13 (F := Ideal) k + dwBlock x0 x1 x3 k) _ _ _ _ (fun x => row_piece x0 x1 x3 (k0_pay13 (F := Ideal)) _ _ x) ?_
  exact fun _ h => absurd h (Nat.not_lt_zero _)

/-- … and the biases'. -/
theorem a_db (hc0 : cond0_0 i) : out0_A_7 c i a2 h2 a3 h3 a4 h4 a5 h5 a6 h6 a7 h7 a8 h8 a9 h9 a10 h10 a11 h11 hc0 x0 x1 x2 x3 =
    k0_pay66 (k0_pay5 x3) (k0_pay14 (F := Ideal)) := by
  unfold out0_A_7
  rw [View.read_writes_eq_canon _ _ _ (fun y => cover0_A_7 (y := y) ..)]
  unfold kernelRun0_A
  dsimp only
  sl_unfold_words
  rw [View.canon_cons_unit_zero zero2]
  rw [View.readCov_fill _ _ _ _ _ (by decide)]
  simp only [View.readAt_eq_ld, h5.read_unread, View.ld_unit_zero (S := S1x2176x256) zero3, View.ld_unit_zero (S := S1x256) zero2]

/-- What the first point of a sequence leaves in the four blocks. -/
theorem outs_first (m : (ℓ : Loc nD τ sig) → Buf (Elt Ideal) ℓ) (c : Dev nD) (t : Fin cfg0.N) (h : t.val % 2 = 0) :
    outsAt0 m c t.val t.isLt = (daBlock (X0_1 m c t) (iblk m c 3 t) (iblk m c 2 t),
      dgBlock (X0_0 m c t) (X0_1 m c t) (iblk m c 3 t) (iblk m c 2 t),
      (fun k => k0_pay13 (F := Ideal) k + dwBlock (X0_0 m c t) (X0_1 m c t) (iblk m c 3 t) k),
      k0_pay66 (k0_pay5 (iblk m c 3 t)) (k0_pay14 (F := Ideal))) := by
  rw [outsAt0_A m c t h, a_da, a_dg, a_dw, a_db]

/-- What a later point leaves. -/
theorem outs_later (m : (ℓ : Loc nD τ sig) → Buf (Elt Ideal) ℓ) (c : Dev nD) (t : Fin cfg0.N) (h : ¬t.val % 2 = 0) (ht : t.val - 1 < cfg0.N) :
    outsAt0 m c t.val t.isLt = (daBlock (X0_1 m c t) (iblk m c 3 t) (iblk m c 2 t),
      dgBlock (X0_0 m c t) (X0_1 m c t) (iblk m c 3 t) (iblk m c 2 t),
      (fun k => (outsAt0 m c (t.val - 1) ht).2.2.1 k + dwBlock (X0_0 m c t) (X0_1 m c t) (iblk m c 3 t) k),
      k0_pay66 (k0_pay5 (iblk m c 3 t)) (outsAt0 m c (t.val - 1) ht).2.2.2) := by
  rw [outsAt0_B m c t h, b_da, b_dg, b_dw, b_db]

end Cert.Kernel26Ideal.Conv

end
-- ==== Proof.Fold.lean ====
/- What an accumulated output block holds when its run of grid points ends. -/
module

public import Idealize.ShloMosaic.Lib.Pipeline.Value
public import Mathlib.Data.EReal.Operations

@[expose] public section

noncomputable section

namespace Cert.Attn

open Idealize.ShloMosaic

/-- A block that starts a run of `J` points at the first point's term and gains each later point's term holds, after the
    run's last point `t`, the sum of the terms; `M s` is the term of the run's point `s`. -/
theorem run_sum {ι : Type*} {N J : ℕ} (hJ : 0 < J) (f T : (n : ℕ) → n < N → ι → EReal)
    (h0 : ∀ (n : ℕ) (h : n < N), n % J = 0 → f n h = T n h)
    (hs : ∀ (n : ℕ) (h : n + 1 < N), ¬(n + 1) % J = 0 → f (n + 1) h = fun x => f n (Nat.lt_of_succ_lt h) x + T (n + 1) h x)
    (t : ℕ) (ht : t < N) (hl : t % J + 1 = J) (M : ℕ → ι → EReal)
    (hM : ∀ (n : ℕ) (h : n < N) x, n / J = t / J → T n h x = M (n % J) x) (x : ι) :
    f t ht x = ∑ s ∈ Finset.range J, M s x := by
  have h' : J * (t / J) + t % J < N := by rw [Nat.div_add_mod]; exact ht
  have hq : ∀ s < J, (J * (t / J) + s) / J = t / J ∧ (J * (t / J) + s) % J = s := fun s hs =>
    ⟨by rw [Nat.mul_add_div hJ, Nat.div_eq_of_lt hs, add_zero], by rw [Nat.mul_add_mod, Nat.mod_eq_of_lt hs]⟩
  have hd : ∀ n, J * (t / J) ≤ n → n ≤ J * (t / J) + t % J → n / J = t / J := fun n h1 h2 => by
    obtain ⟨s, rfl⟩ := Nat.exists_eq_add_of_le h1
    exact (hq s (by omega)).1
  rw [Pipeline.eq_accAt_of_mod f J T (fun n h a x => a x + T n h x) h0 hs hJ t ht h',
    Pipeline.accAt_add_apply T _ (fun _ => (0 : EReal)) (fun n => M (n % J)) (J * (t / J)) (t % J)
      (fun h i => by rw [zero_add]; exact hM _ h i (hd _ le_rfl (by omega)))
      (fun n h acc i h1 h2 => congrArg (acc i + ·) (hM n h i (hd n h1.le h2))) (t % J) le_rfl h' x, hl, zero_add]
  exact Finset.sum_congr rfl fun s hs => by rw [(hq s (Finset.mem_range.mp hs)).2]

end Cert.Attn

end
-- ==== Proof.ConvArrays.lean ====
/- The gradient of the depthwise convolution: what the four arrays hold that the kernel writes. -/
module

public import proofs.«01_k».proof.Proof.ConvOut
public import proofs.«01_k».proof.Proof.Fold

@[expose] public section

set_option maxRecDepth 16384

noncomputable section

namespace Cert.Kernel26Ideal.Conv

open Cert.Kernel26Ideal Cert.Kernel26Ideal.Gen Cert.Kernel26Ideal.Value Cert.Attn Cert.Products
open Idealize.ShloMosaic Idealize.ShloMosaic.TcCoe Idealize.SL.Sem

variable (m : (ℓ : Loc nD τ sig) → Buf (Elt Ideal) ℓ) (c : Dev nD)

/-- The projection, the taps' weights and the output's gradient as launched. -/
abbrev projA : S2x2176x10880.Idx → EReal := m ((c : Thread nD τ).loc main_arg0)
abbrev tapA : S31x1024.Idx → EReal := m ((c : Thread nD τ).loc main_arg1)
abbrev outA : S2x2064x1024.Idx → EReal := m ((c : Thread nD τ).loc main_arg2)

/-- The two halves of the gated linear unit, the taps' weights and the output's gradient, by number; the last is zero past its 2064 rows. -/
abbrev aR (b n k : ℕ) : EReal := at3 (projA m c) b n k
abbrev gR (b n k : ℕ) : EReal := at3 (projA m c) b n (1024 + k)
abbrev wR (j k : ℕ) : EReal := at2 (tapA m c) j k
abbrev yR (b n k : ℕ) : EReal := at3 (outA m c) b n k

/-- A sequence with 16 zeros before it, at place `n`. -/
def late (f : ℕ → EReal) (n : ℕ) : EReal := if 16 ≤ n then f (n - 16) else 0

/-- The convolution's input. -/
def zR (b n k : ℕ) : EReal := if n < 2064 then aR m c b n k * expit (gR m c b n k) else 0

/-- What reaches the convolution's input: each tap's weight times the output's gradient at the row that the tap sends there. -/
def dzR (b p k : ℕ) : EReal :=
  if p < 2064 then ∑ j ∈ Finset.range 31, late (fun n => yR m c b n k) (31 - j + p) * wR m c j k else 0

/-- The four gradients. -/
def daArr : S2x2176x1024.Idx → EReal := fun i =>
  dzR m c (i 0).val (i 1).val (i 2).val * expit (gR m c (i 0).val (i 1).val (i 2).val)
def dgArr : S2x2176x1024.Idx → EReal := fun i =>
  dzR m c (i 0).val (i 1).val (i 2).val * aR m c (i 0).val (i 1).val (i 2).val * expit (gR m c (i 0).val (i 1).val (i 2).val)
    * (1 - expit (gR m c (i 0).val (i 1).val (i 2).val))
def dwArr : S31x1024.Idx → EReal := fun i => ∑ b ∈ Finset.range 2, ∑ p : Fin 2176,
  yR m c b p.val (i 1).val * late (fun n => zR m c b n (i 1).val) ((i 0).val + 1 + p.val)
def dbArr : S1x1024.Idx → EReal := fun i => ∑ b ∈ Finset.range 2, ∑ p : Fin 2176, yR m c b p.val (i 1).val

theorem lt8 (t : Fin cfg0.N) : t.val < 8 := lt_of_lt_of_eq t.isLt (show cfg0.N = 8 from N_0)

theorem half_index : ∀ t : Fin grid0.N, (win0_0.index t 0 = t.val % 2 ∧ win0_0.index t 1 = 0 ∧ win0_0.index t 2 = t.val / 2)
    ∧ (win0_1.index t 0 = t.val % 2 ∧ win0_1.index t 1 = 0 ∧ win0_1.index t 2 = 4 + t.val / 2) := by decide +kernel

theorem row_index : ∀ t : Fin grid0.N, win0_3.index t 0 = t.val % 2 ∧ win0_3.index t 1 = 0 ∧ win0_3.index t 2 = t.val / 2 := by decide +kernel

theorem tap_index : ∀ t : Fin grid0.N, win0_2.index t 0 = 0 ∧ win0_2.index t 1 = t.val / 2 := by decide +kernel

theorem pad_zero : FloatOps.sitofp (F := Ideal) FTy.f32 0#32 = (0 : EReal) := by
  show ((((0#32 : BitVec 32).toInt : ℤ) : ℝ) : EReal) = 0
  simp

/-- The output's gradient that the host hands to the kernel: zeros past the sequence's end. -/
theorem hosted (b : Fin 2) (p : Fin 2176) (k : Fin 1024) : V m c main_v0 (ix3 b p k) = yR m c b.val p.val k.val := by
  have h : V m c main_v0 = pad S2x2176x1024 ![0, 0, 0] ![0, 112, 0] ![0, 0, 0] (outA m c) (sitofp (F := Ideal) .f32 (constantI S_ 32 0#32))
      pads_S2x2064x1024_S2x2176x1024_000_01120_000 h_S_ := by
    unfold V
    simp only [hostOps0, hostOps0_1, List.flatten_cons, List.flatten_nil, List.append_nil, List.cons_append, List.nil_append]
    after_results
    rfl
  rw [h]
  unfold yR
  generalize outA m c = y
  have h0 := pad_zero
  pointwise
  by_cases hp : p.val < 2064
  · rw [dif_pos hp, at3_eq _ b.isLt hp k.isLt]
  · rw [dif_neg hp, h0, at3_out _ (by omega)]

/-- A position in an array of a block's entry. -/
theorem place {a x : ℕ} (h : a = x) (s p : ℕ) : a * s + 1 * p = x * s + p := by rw [h, one_mul]

theorem block_half (t : Fin cfg0.N) (p : Fin 2176) (q : Fin 256) :
    X0_0 m c t (ix3 0 p q) = aR m c (t.val % 2) p.val (t.val / 2 * 256 + q.val)
    ∧ X0_1 m c t (ix3 0 p q) = gR m c (t.val % 2) p.val (t.val / 2 * 256 + q.val) := by
  have h := lt8 t
  refine ⟨?_, ?_⟩
  all_goals
    first | unfold aR | unfold gR
    rw [at3_eq _ (by omega) p.isLt (by omega)]
  on_goal 1 =>
    unfold X0_0 Pipeline.Window.fill
    rw [dif_pos (moved0_0 t _)]
  on_goal 2 =>
    unfold X0_1 Pipeline.Window.fill
    rw [dif_pos (moved0_1 t _)]
  all_goals
    unfold iblk
    rw [View.read_apply]
    show V m c main_arg0 _ = _
    rw [V_main_arg0]
    refine congrArg (projA m c) (funext fun a => Fin.ext ?_)
  · match a with
    | ⟨0, _⟩ => exact (place (half_index t).1.1 1 0).trans (show t.val % 2 * 1 + 0 = t.val % 2 by omega)
    | ⟨1, _⟩ => exact (place (half_index t).1.2.1 2176 p.val).trans (show 0 * 2176 + p.val = p.val by omega)
    | ⟨2, _⟩ => exact place (half_index t).1.2.2 256 q.val
  · match a with
    | ⟨0, _⟩ => exact (place (half_index t).2.1 1 0).trans (show t.val % 2 * 1 + 0 = t.val % 2 by omega)
    | ⟨1, _⟩ => exact (place (half_index t).2.2.1 2176 p.val).trans (show 0 * 2176 + p.val = p.val by omega)
    | ⟨2, _⟩ => exact (place (half_index t).2.2.2 256 q.val).trans (show (4 + t.val / 2) * 256 + q.val = 1024 + (t.val / 2 * 256 + q.val) by omega)

theorem block_out (t : Fin cfg0.N) (p : Fin 2176) (q : Fin 256) :
    iblk m c 3 t (ix3 0 p q) = yR m c (t.val % 2) p.val (t.val / 2 * 256 + q.val) := by
  have h := lt8 t
  refine Eq.trans ?_ (hosted m c ⟨t.val % 2, by omega⟩ p ⟨t.val / 2 * 256 + q.val, by omega⟩)
  unfold iblk
  rw [View.read_apply]
  refine congrArg (V m c main_v0) (funext fun a => Fin.ext ?_)
  match a with
  | ⟨0, _⟩ => exact (place (row_index t).1 1 0).trans (show t.val % 2 * 1 + 0 = t.val % 2 by omega)
  | ⟨1, _⟩ => exact (place (row_index t).2.1 2176 p.val).trans (show 0 * 2176 + p.val = p.val by omega)
  | ⟨2, _⟩ => exact place (row_index t).2.2 256 q.val

theorem block_tap (t : Fin cfg0.N) (j : Fin 31) (q : Fin 256) : iblk m c 2 t (ix2 j q) = wR m c j.val (t.val / 2 * 256 + q.val) := by
  have h := lt8 t
  unfold wR
  rw [at2_eq _ j.isLt (by omega)]
  unfold iblk
  rw [View.read_apply]
  show V m c main_arg1 _ = _
  rw [V_main_arg1]
  refine congrArg (tapA m c) (funext fun a => Fin.ext ?_)
  match a with
  | ⟨0, _⟩ => exact (place (tap_index t).1 31 j.val).trans (show 0 * 31 + j.val = j.val by omega)
  | ⟨1, _⟩ => exact place (tap_index t).2 256 q.val

/-- A shifted block's entry, of a block that holds rows of a function that is zero past the block. -/
theorem shifted_apply (y : FVec Ideal S2176x256 .f32) (o : ℕ) (p : Fin 2176) (q : Fin 256) (f : ℕ → EReal) (hy : ∀ n : Fin 2176, y (ix2 n q) = f n.val)
    (h0 : ∀ n, 2176 ≤ n → f n = 0) : shifted y o (ix2 p q) = late f (o + p.val) := by
  show (if 16 ≤ o + p.val then at2 y (o + p.val - 16) q.val else 0) = _
  unfold late
  by_cases h : 16 ≤ o + p.val
  · rw [if_pos h, if_pos h]
    by_cases hn : o + p.val - 16 < 2176
    · rw [at2_eq y hn q.isLt]
      exact hy ⟨_, hn⟩
    · rw [h0 _ (by omega)]
      exact dif_neg fun hh => hn hh.1
  · rw [if_neg h, if_neg h]

theorem y_shifted (t : Fin cfg0.N) (o : ℕ) (p : Fin 2176) (q : Fin 256) : shifted (k0_pay5 (iblk m c 3 t)) o (ix2 p q) =
    late (fun n => yR m c (t.val % 2) n (t.val / 2 * 256 + q.val)) (o + p.val) :=
  shifted_apply _ o p q _ (fun n => (y_apply _ n q).trans (block_out m c t n q)) fun n hn => at3_out _ (by omega)

theorem z_shifted (t : Fin cfg0.N) (o : ℕ) (p : Fin 2176) (q : Fin 256) : shifted (k0_pay8 (X0_0 m c t) (X0_1 m c t)) o (ix2 p q) =
    late (fun n => zR m c (t.val % 2) n (t.val / 2 * 256 + q.val)) (o + p.val) :=
  shifted_apply _ o p q _ (fun n => by
    rw [z_apply, (block_half m c t n q).1, (block_half m c t n q).2]
    rfl) fun n hn => if_neg (by omega)

/-- What reaches the convolution's input, at a point. -/
theorem block_dz (t : Fin cfg0.N) (p : Fin 2176) (q : Fin 256) : dzBlock (iblk m c 3 t) (iblk m c 2 t) (ix2 p q) =
    dzR m c (t.val % 2) p.val (t.val / 2 * 256 + q.val) := by
  unfold dzBlock dzR
  rw [dz_apply]
  by_cases hp : p.val < 2064
  · rw [if_pos hp, if_pos hp]
    refine Finset.sum_congr rfl fun j hj => ?_
    have hj := Finset.mem_range.mp hj
    rw [y_shifted]
    refine congrArg _ ?_
    show at2 (iblk m c 2 t) j q.val = _
    rw [at2_eq _ hj q.isLt]
    exact block_tap m c t ⟨j, hj⟩ q
  · rw [if_neg hp, if_neg hp]

/-- What every point leaves of the two halves' gradients. -/
theorem outs_halves (t : Fin cfg0.N) : (outsAt0 m c t.val t.isLt).1 = daBlock (X0_1 m c t) (iblk m c 3 t) (iblk m c 2 t)
    ∧ (outsAt0 m c t.val t.isLt).2.1 = dgBlock (X0_0 m c t) (X0_1 m c t) (iblk m c 3 t) (iblk m c 2 t) := by
  by_cases h : t.val % 2 = 0
  · rw [outs_first m c t h]
    exact ⟨rfl, rfl⟩
  · rw [outs_later m c t h (Nat.lt_of_le_of_lt (Nat.sub_le _ _) t.isLt)]
    exact ⟨rfl, rfl⟩

theorem row_index' (t : Fin grid0.N) : win0_3.index t = ![t.val % 2, 0, t.val / 2] := by
  funext a
  match a with
  | ⟨0, _⟩ => exact (row_index t).1
  | ⟨1, _⟩ => exact (row_index t).2.1
  | ⟨2, _⟩ => exact (row_index t).2.2

/-- Every place of an array of rows lies in a point's block. -/
theorem row_place (b : Fin 2) (x : Fin 2176) (y : Fin 1024) : ∃ t : Fin cfg0.N, ∀ a : Fin 3,
    (![t.val % 2, 0, t.val / 2] : Fin 3 → ℕ) a * S1x2176x256.size a ≤ (ix3 b x y a).val
      ∧ (ix3 b x y a).val < (![t.val % 2, 0, t.val / 2] : Fin 3 → ℕ) a * S1x2176x256.size a + S1x2176x256.size a := by
  have hb := b.isLt
  have hx := x.isLt
  have hy := y.isLt
  have hN : cfg0.N = 8 := N_0
  have h1 : (y.val / 256 * 2 + b.val) % 2 = b.val := by omega
  have h2 : (y.val / 256 * 2 + b.val) / 2 = y.val / 256 := by omega
  refine ⟨⟨y.val / 256 * 2 + b.val, by omega⟩, fun a => ?_⟩
  dsimp only
  rw [h1, h2]
  match a with
  | ⟨0, _⟩ => show b.val * 1 ≤ b.val ∧ b.val < b.val * 1 + 1; omega
  | ⟨1, _⟩ => show 0 * 2176 ≤ x.val ∧ x.val < 0 * 2176 + 2176; omega
  | ⟨2, _⟩ => show y.val / 256 * 256 ≤ y.val ∧ y.val < y.val / 256 * 256 + 256; omega

/-- An array at a place of a point's block. -/
theorem at_place (f : S2x2176x1024.Idx → EReal) (t : Fin cfg0.N) (p : Fin 2176) (q : Fin 256) (i : S2x2176x1024.Idx)
    (h0 : (i 0).val = win0_3.index t 0 * 1 + 1 * 0) (h1 : (i 1).val = win0_3.index t 1 * 2176 + 1 * p.val)
    (h2 : (i 2).val = win0_3.index t 2 * 256 + 1 * q.val) :
    f (ix3 ⟨t.val % 2, by omega⟩ p ⟨t.val / 2 * 256 + q.val, by have := lt8 t; omega⟩) = f i :=
  congrArg f (funext fun a => Fin.ext (match a with
    | ⟨0, _⟩ => ((h0.trans (place (row_index t).1 1 0)).trans (show t.val % 2 * 1 + 0 = t.val % 2 by omega)).symm
    | ⟨1, _⟩ => ((h1.trans (place (row_index t).2.1 2176 p.val)).trans (show 0 * 2176 + p.val = p.val by omega)).symm
    | ⟨2, _⟩ => (h2.trans (place (row_index t).2.2 256 q.val)).symm))

/-- The gradient of the unit's linear half. -/
theorem final_a : (dats m 0 c).arrAt 4 cfg0.N = daArr m c := by
  refine (dats m 0 c).arrAt_eq_of_cover 4 _ (fun t _ => ?_) fun i => ?_
  · rw [flushed4, (outs_halves m c t).1]
    funext y
    rw [View.read_apply]
    obtain ⟨o, p, q, rfl⟩ : ∃ o p q, y = ix3 o p q := ⟨_, _, _, eq_ix3 y⟩
    obtain rfl : o = 0 := Subsingleton.elim _ _
    rw [cast_eq]
    refine Eq.trans ?_ (at_place _ t p q _ ?_ ?_ ?_)
    rotate_left
    · rfl
    · rfl
    · rfl
    refine (da_apply _ _ _ p q).trans ?_
    rw [block_dz, (block_half m c t p q).2]
    rfl
  · obtain ⟨b, x, y, rfl⟩ : ∃ b x y, i = ix3 b x y := ⟨_, _, _, eq_ix3 i⟩
    obtain ⟨t, ht⟩ := row_place b x y
    rw [← row_index' t] at ht
    exact ⟨t, flush0_4 t, by
      show ix3 b x y ∈ ((View.whole main_v1_0).slice (win0_4.rect t)).set; rw [View.set_slice_whole, Rect.mem_set_unit]; exact ht⟩

/-- The gradient of its gate. -/
theorem final_g : (dats m 0 c).arrAt 5 cfg0.N = dgArr m c := by
  refine (dats m 0 c).arrAt_eq_of_cover 5 _ (fun t _ => ?_) fun i => ?_
  · rw [flushed5, (outs_halves m c t).2]
    funext y
    rw [View.read_apply]
    obtain ⟨o, p, q, rfl⟩ : ∃ o p q, y = ix3 o p q := ⟨_, _, _, eq_ix3 y⟩
    obtain rfl : o = 0 := Subsingleton.elim _ _
    rw [cast_eq]
    refine Eq.trans ?_ (at_place _ t p q _ ?_ ?_ ?_)
    rotate_left
    · rfl
    · rfl
    · rfl
    refine (dg_apply _ _ _ _ p q).trans ?_
    rw [block_dz, (block_half m c t p q).1, (block_half m c t p q).2]
    rfl
  · obtain ⟨b, x, y, rfl⟩ : ∃ b x y, i = ix3 b x y := ⟨_, _, _, eq_ix3 i⟩
    obtain ⟨t, ht⟩ := row_place b x y
    rw [← row_index' t] at ht
    exact ⟨t, flush0_5 t, by
      show ix3 b x y ∈ ((View.whole main_v1_1).slice (win0_5.rect t)).set; rw [View.set_slice_whole, Rect.mem_set_unit]; exact ht⟩

theorem zero_dw (k : S31x256.Idx) : k0_pay13 (F := Ideal) k = 0 := by
  obtain ⟨p, q, rfl⟩ : ∃ p q, k = ix2 p q := ⟨_, _, eq_ix2 k⟩
  pointwise [k0_pay13]

theorem zero_db (k : S1x256.Idx) : k0_pay14 (F := Ideal) k = 0 := by
  obtain ⟨p, q, rfl⟩ : ∃ p q, k = ix2 p q := ⟨_, _, eq_ix2 k⟩
  pointwise [k0_pay14]

/-- After the second sequence the block of the weights' gradient holds the sum over the sequences, … -/
theorem outs_dw (t : Fin cfg0.N) (hl : t.val % 2 = 1) (j : Fin 31) (q : Fin 256) : (outsAt0 m c t.val t.isLt).2.2.1 (ix2 j q) =
    dwArr m c (ix2 j ⟨t.val / 2 * 256 + q.val, by have := lt8 t; omega⟩) := by
  refine (run_sum (J := 2) (by decide) (fun n h => (outsAt0 m c n h).2.2.1)
    (fun n h => dwBlock (X0_0 m c ⟨n, h⟩) (X0_1 m c ⟨n, h⟩) (iblk m c 3 ⟨n, h⟩))
    (fun n h h0 => ?_) (fun n h h0 => ?_) t.val t.isLt (by omega) (fun b x => ∑ p : Fin 2176,
      yR m c b p.val (t.val / 2 * 256 + (x 1).val) * late (fun n => zR m c b n (t.val / 2 * 256 + (x 1).val)) ((x 0).val + 1 + p.val))
    (fun n h x hn => ?_) (ix2 j q)).trans rfl
  · rw [outs_first m c ⟨n, h⟩ h0]
    funext k
    dsimp only
    rw [zero_dw, zero_add]
  · rw [outs_later m c ⟨n + 1, h⟩ h0 (Nat.lt_of_succ_lt h)]
    rfl
  · obtain ⟨o, q, rfl⟩ : ∃ o q, x = ix2 o q := ⟨_, _, eq_ix2 x⟩
    refine Finset.sum_congr rfl fun p _ => ?_
    rw [← hn]
    exact congrArg₂ (· * ·) ((y_apply _ p q).trans (block_out m c ⟨n, h⟩ p q)) (z_shifted m c ⟨n, h⟩ _ p q)

/-- … and that of the biases'. -/
theorem outs_db (t : Fin cfg0.N) (hl : t.val % 2 = 1) (q : Fin 256) : (outsAt0 m c t.val t.isLt).2.2.2 (ix2 0 q) =
    dbArr m c (ix2 0 ⟨t.val / 2 * 256 + q.val, by have := lt8 t; omega⟩) := by
  refine (run_sum (J := 2) (by decide) (fun n h => (outsAt0 m c n h).2.2.2)
    (fun n h x => ∑ p : Fin 2176, iblk m c 3 ⟨n, h⟩ (ix3 0 p (x 1)))
    (fun n h h0 => ?_) (fun n h h0 => ?_) t.val t.isLt (by omega) (fun b x => ∑ p : Fin 2176, yR m c b p.val (t.val / 2 * 256 + (x 1).val))
    (fun n h x hn => ?_) (ix2 0 q)).trans rfl
  · rw [outs_first m c ⟨n, h⟩ h0]
    funext k
    obtain ⟨o, q, rfl⟩ : ∃ o q, k = ix2 o q := ⟨_, _, eq_ix2 k⟩
    obtain rfl : o = 0 := Subsingleton.elim _ _
    refine (db_apply _ _ q).trans ?_
    rw [zero_db, zero_add]
    rfl
  · rw [outs_later m c ⟨n + 1, h⟩ h0 (Nat.lt_of_succ_lt h)]
    funext k
    obtain ⟨o, q, rfl⟩ : ∃ o q, k = ix2 o q := ⟨_, _, eq_ix2 k⟩
    obtain rfl : o = 0 := Subsingleton.elim _ _
    exact db_apply _ _ q
  · obtain ⟨o, q, rfl⟩ : ∃ o q, x = ix2 o q := ⟨_, _, eq_ix2 x⟩
    refine Finset.sum_congr rfl fun p _ => ?_
    rw [← hn]
    exact block_out m c ⟨n, h⟩ p q

/-- Every column lies in the block of a sequence's last point. -/
theorem col_place (y : Fin 1024) : ∃ t : Fin cfg0.N, t.val % 2 = 1 ∧ t.val / 2 * 256 ≤ y.val ∧ y.val < t.val / 2 * 256 + 256 := by
  have hy := y.isLt
  have hN : cfg0.N = 8 := N_0
  exact ⟨⟨y.val / 256 * 2 + 1, by omega⟩, by dsimp only; omega, by dsimp only; omega, by dsimp only; omega⟩

/-- The gradient of the taps' weights. -/
theorem final_w : (dats m 0 c).arrAt 6 cfg0.N = dwArr m c := by
  refine (dats m 0 c).arrAt_eq_of_cover 6 _ (fun t hf => ?_) fun i => ?_
  · rw [flushed6]
    funext y
    rw [View.read_apply]
    obtain ⟨j, q, rfl⟩ : ∃ j q, y = ix2 j q := ⟨_, _, eq_ix2 y⟩
    rw [cast_eq]
    refine (outs_dw m c t ((flush0_6 t).mp hf) j q).trans (congrArg (dwArr m c) (funext fun a => Fin.ext ?_))
    match a with
    | ⟨0, _⟩ => exact ((place (tap_index t).1 31 j.val).trans (show 0 * 31 + j.val = j.val by omega)).symm
    | ⟨1, _⟩ => exact (place (tap_index t).2 256 q.val).symm
  · obtain ⟨j, y, rfl⟩ : ∃ j y, i = ix2 j y := ⟨_, _, eq_ix2 i⟩
    obtain ⟨t, h1, h2, h3⟩ := col_place y
    refine ⟨t, (flush0_6 t).mpr h1, ?_⟩
    show ix2 j y ∈ ((View.whole main_v1_2).slice (win0_6.rect t)).set
    rw [View.set_slice_whole, Rect.mem_set_unit]
    intro a
    have hj := j.isLt
    match a with
    | ⟨0, _⟩ => show win0_2.index t 0 * 31 ≤ j.val ∧ j.val < win0_2.index t 0 * 31 + 31; rw [(tap_index t).1]; omega
    | ⟨1, _⟩ => show win0_2.index t 1 * 256 ≤ y.val ∧ y.val < win0_2.index t 1 * 256 + 256; rw [(tap_index t).2]; omega

/-- The gradient of the biases. -/
theorem final_b : (dats m 0 c).arrAt 7 cfg0.N = dbArr m c := by
  refine (dats m 0 c).arrAt_eq_of_cover 7 _ (fun t hf => ?_) fun i => ?_
  · rw [flushed7]
    funext y
    rw [View.read_apply]
    obtain ⟨o, q, rfl⟩ : ∃ o q, y = ix2 o q := ⟨_, _, eq_ix2 y⟩
    obtain rfl : o = 0 := Subsingleton.elim _ _
    rw [cast_eq]
    refine (outs_db m c t ((flush0_7 t).mp hf) q).trans (congrArg (dbArr m c) (funext fun a => Fin.ext ?_))
    match a with
    | ⟨0, _⟩ => exact ((place (tap_index t).1 1 0).trans rfl).symm
    | ⟨1, _⟩ => exact (place (tap_index t).2 256 q.val).symm
  · obtain ⟨o, y, rfl⟩ : ∃ o y, i = ix2 o y := ⟨_, _, eq_ix2 i⟩
    obtain rfl : o = 0 := Subsingleton.elim _ _
    obtain ⟨t, h1, h2, h3⟩ := col_place y
    refine ⟨t, (flush0_7 t).mpr h1, ?_⟩
    show ix2 0 y ∈ ((View.whole main_v1_3).slice (win0_7.rect t)).set
    rw [View.set_slice_whole, Rect.mem_set_unit]
    intro a
    match a with
    | ⟨0, _⟩ => show win0_2.index t 0 * 1 ≤ 0 ∧ 0 < win0_2.index t 0 * 1 + 1; rw [(tap_index t).1]; omega
    | ⟨1, _⟩ => show win0_2.index t 1 * 256 ≤ y.val ∧ y.val < win0_2.index t 1 * 256 + 256; rw [(tap_index t).2]; omega

end Cert.Kernel26Ideal.Conv

end
-- ==== Proof.ConvSums.lean ====
/- The host's sums over two axes of an array, and sums that have one term at most. -/
module

public import Idealize.ShloMosaic.Lib.Pointwise
public import Mathlib.Data.EReal.Operations

@[expose] public section

noncomputable section

namespace Cert.Attn

open Idealize.ShloMosaic

/-- The host's sum at an index is a sum over any numbering `f` of the source indices that are summed there. -/
theorem hostSum_of {s t : Shape} {axes : List (Fin s.rank)} (h : s.ReducesTo axes t) (x : s.Idx → EReal) (init : EReal) (j : t.Idx)
    {α : Type} [Fintype α] (f : α → s.Idx) (g : s.Idx → α) (hg : ∀ a, g (f a) = a) (hj : ∀ a, h.drop (f a) = j)
    (hf : ∀ i, h.drop i = j → f (g i) = i) : Ideal.hostReduceAdd h x init j = init + ∑ a, x (f a) := by
  unfold Ideal.hostReduceAdd
  refine congrArg (init + ·) (Finset.sum_nbij' g f (fun i _ => Finset.mem_univ _) (fun a _ => ?_) (fun i hi => ?_) (fun a _ => hg a) (fun i hi => ?_))
  · exact Finset.mem_filter.mpr ⟨Finset.mem_univ _, hj a⟩
  · exact hf i (Finset.mem_filter.mp hi).2
  · exact (congrArg x (hf i (Finset.mem_filter.mp hi).2)).symm

/-- A sum over the first two of three axes. -/
theorem hostSum_r3 {n0 n1 n2 : ℕ} (h : (⟨3, ![n0, n1, n2]⟩ : Shape).ReducesTo [0, 1] ⟨1, ![n2]⟩) (y : (⟨3, ![n0, n1, n2]⟩ : Shape).Idx → EReal)
    (init : EReal) (k : Fin n2) : Ideal.hostReduceAdd h y init (ix1 k) = init + ∑ a : Fin n0, ∑ b : Fin n1, y (ix3 a b k) := by
  rw [← Fintype.sum_prod_type' (f := fun a b => y (ix3 a b k))]
  refine hostSum_of h y init _ (fun p : Fin n0 × Fin n1 => ix3 p.1 p.2 k) (fun i => (i 0, i 1)) (fun p => rfl) (fun p => ?_) fun i hi => ?_
  · funext x
    match x with
    | ⟨0, _⟩ => rfl
  · funext x
    match x with
    | ⟨0, _⟩ => rfl
    | ⟨1, _⟩ => rfl
    | ⟨2, _⟩ => exact (Fin.ext (congrArg Fin.val (congrFun hi 0))).symm

/-- A sum over the first and the third of four axes. -/
theorem hostSum_r4 {n0 n1 n2 n3 : ℕ} (h : (⟨4, ![n0, n1, n2, n3]⟩ : Shape).ReducesTo [0, 2] ⟨2, ![n1, n3]⟩)
    (y : (⟨4, ![n0, n1, n2, n3]⟩ : Shape).Idx → EReal) (init : EReal) (j : Fin n1) (k : Fin n3) :
    Ideal.hostReduceAdd h y init (ix2 j k) = init + ∑ a : Fin n0, ∑ b : Fin n2, y (ix4 a j b k) := by
  rw [← Fintype.sum_prod_type' (f := fun a b => y (ix4 a j b k))]
  refine hostSum_of h y init _ (fun p : Fin n0 × Fin n2 => ix4 p.1 j p.2 k) (fun i => (i 0, i 2)) (fun p => rfl) (fun p => ?_) fun i hi => ?_
  · funext x
    match x with
    | ⟨0, _⟩ => rfl
    | ⟨1, _⟩ => rfl
  · funext x
    match x with
    | ⟨0, _⟩ => rfl
    | ⟨1, _⟩ => exact (Fin.ext (congrArg Fin.val (congrFun hi 0))).symm
    | ⟨2, _⟩ => rfl
    | ⟨3, _⟩ => exact (Fin.ext (congrArg Fin.val (congrFun hi 1))).symm

/-- A sum over the second and the third of five axes. -/
theorem hostSum_r5 {n0 n1 n2 n3 n4 : ℕ} (h : (⟨5, ![n0, n1, n2, n3, n4]⟩ : Shape).ReducesTo [1, 2] ⟨3, ![n0, n3, n4]⟩)
    (y : (⟨5, ![n0, n1, n2, n3, n4]⟩ : Shape).Idx → EReal) (init : EReal) (b : Fin n0) (s : Fin n3) (k : Fin n4) :
    Ideal.hostReduceAdd h y init (ix3 b s k) = init + ∑ j : Fin n1, ∑ l : Fin n2, y (ix5 b j l s k) := by
  rw [← Fintype.sum_prod_type' (f := fun j l => y (ix5 b j l s k))]
  refine hostSum_of h y init _ (fun p : Fin n1 × Fin n2 => ix5 b p.1 p.2 s k) (fun i => (i 1, i 2)) (fun p => rfl) (fun p => ?_) fun i hi => ?_
  · funext x
    match x with
    | ⟨0, _⟩ => rfl
    | ⟨1, _⟩ => rfl
    | ⟨2, _⟩ => rfl
  · funext x
    match x with
    | ⟨0, _⟩ => exact (Fin.ext (congrArg Fin.val (congrFun hi 0))).symm
    | ⟨1, _⟩ => rfl
    | ⟨2, _⟩ => rfl
    | ⟨3, _⟩ => exact (Fin.ext (congrArg Fin.val (congrFun hi 1))).symm
    | ⟨4, _⟩ => exact (Fin.ext (congrArg Fin.val (congrFun hi 2))).symm

/-- A sum with a term at the number `n` alone, where there is one. -/
theorem sum_at {N : ℕ} (n : ℕ) (P : ℕ → Prop) [DecidablePred P] (hP : ∀ l < N, P l ↔ l = n) (f : ℕ → EReal) :
    ∑ l : Fin N, (if P l.val then 1 else 0) * f l.val = if n < N then f n else 0 := by
  by_cases hn : n < N
  · rw [if_pos hn, Finset.sum_eq_single (⟨n, hn⟩ : Fin N)]
    · rw [if_pos ((hP n hn).mpr rfl), one_mul]
    · intro l _ hl
      rw [if_neg fun h => hl (Fin.ext ((hP l.val l.isLt).mp h)), zero_mul]
    · exact fun h => absurd (Finset.mem_univ _) h
  · rw [if_neg hn]
    refine Finset.sum_eq_zero fun l _ => ?_
    rw [if_neg fun h => hn ((hP l.val l.isLt).mp h ▸ l.isLt), zero_mul]

end Cert.Attn

end
-- ==== Proof.ConvRef.lean ====
/- The gradient of the depthwise convolution: the reference's results, and that they are the kernel's arrays. -/
module

public import proofs.«01_k».proof.Proof.ConvArrays
public import proofs.«01_k».proof.Proof.ConvSums
public import proofs.«01_k».proof.Proof.Gen.Reference26Ideal.Read

@[expose] public section

set_option maxRecDepth 16384

noncomputable section

namespace Cert.Kernel26Ideal.Conv

open Cert.Attn Cert.Products
open Cert.Reference26Ideal Cert.Reference26Ideal.Read
open Idealize.ShloMosaic Idealize.ShloMosaic.TcCoe

variable (u : S2x2176x10880.Idx → EReal) (w : S31x1024.Idx → EReal) (y : S2x2064x1024.Idx → EReal)

/-- The two halves of the gated linear unit. -/
abbrev lin (b : Fin 2) (l : Fin 2064) (k : Fin 1024) : EReal := at3 u b.val l.val k.val
abbrev gate (b : Fin 2) (l : Fin 2064) (k : Fin 1024) : EReal := at3 u b.val l.val (1024 + k.val)

theorem ref_lin (b : Fin 2) (l : Fin 2064) (k : Fin 1024) : val_main_v2 (F := Ideal) u (ix3 b l k) = lin u b l k := by
  unfold lin
  rw [at3_eq _ b.isLt (by omega) (by omega)]
  pointwise [val_main_v2, val_main_v0]

theorem ref_gate (b : Fin 2) (l : Fin 2064) (k : Fin 1024) : val_main_v3 (F := Ideal) u (ix3 b l k) = gate u b l k := by
  unfold gate
  rw [at3_eq _ b.isLt (by omega) (by omega)]
  pointwise [val_main_v3, val_main_v0]

theorem ref_expit (b : Fin 2) (l : Fin 2064) (k : Fin 1024) : val_main_v9 (F := Ideal) u (ix3 b l k) = expit (gate u b l k) := by
  rw [← ref_gate]
  unfold expit Cert.Kernel5Ideal.Swiglu.logistic
  unfold val_main_v9 val_main_v7 val_main_v5 val_main_v4
  generalize val_main_v3 (F := Ideal) u = g
  pointwise [val_main_v8, val_main_cst_1, val_main_v6, val_main_cst_0]

/-- The convolution's input. -/
theorem ref_z (b : Fin 2) (l : Fin 2064) (k : Fin 1024) : val_main_v13 (F := Ideal) u (ix3 b l k) = lin u b l k * expit (gate u b l k) := by
  rw [← ref_expit, ← ref_lin]
  rfl

/-- Tap `j` of row `l` reads row `s`. -/
def hits (j : Fin 31) (l s : Fin 2064) : EReal := if s.val + 15 = l.val + j.val then 1 else 0

theorem ref_hits (j : Fin 31) (l s : Fin 2064) : val_main_v21 (F := Ideal) (ix3 j l s) = hits j l s := by
  have h : IntOp.cmpi CmpIPredicate.eq (IntOp.addi (BitVec.ofNat 32 s.val) 15#32) (IntOp.addi (BitVec.ofNat 32 l.val) (BitVec.ofNat 32 j.val))
      = if s.val + 15 = l.val + j.val then 1#1 else 0#1 := by
    have hs := s.isLt
    have hl := l.isLt
    have hj := j.isLt
    have e : ((BitVec.ofNat 32 s.val + 15#32 = BitVec.ofNat 32 l.val + BitVec.ofNat 32 j.val) ↔ s.val + 15 = l.val + j.val) := by
      rw [← BitVec.toNat_inj]
      simp only [BitVec.toNat_add, BitVec.toNat_ofNat]
      omega
    unfold IntOp.cmpi IntOp.addi
    by_cases h : s.val + 15 = l.val + j.val
    · rw [if_pos h]
      simp [e.mpr h]
    · rw [if_neg h]
      exact congrArg BitVec.ofBool (beq_eq_false_iff_ne.mpr (mt e.mp h))
  unfold hits
  pointwise [val_main_v21, val_main_v20, val_main_v18, val_main_v16, val_main_v17, val_main_c, val_main_v19, val_main_v15, val_main_v14,
    val_main_call0_v0, val_main_cst_3, val_main_call0_v1, val_main_cst_4]
  rw [h]
  by_cases hh : s.val + 15 = l.val + j.val
  · rw [if_pos hh, if_pos hh]; rfl
  · rw [if_neg hh, if_neg hh]; rfl

/-- The rows that tap `j` reads. -/
theorem ref_windows (b : Fin 2) (j : Fin 31) (l : Fin 2064) (k : Fin 1024) : val_main_v28 (F := Ideal) u (ix4 b j l k) =
    ∑ s : Fin 2064, hits j l s * (lin u b s k * expit (gate u b s k)) := by
  simp only [← ref_hits, ← ref_z]
  unfold val_main_v28 val_main_v27 val_main_v26 val_main_v25 val_main_v24 val_main_v23 val_main_v22
  generalize val_main_v21 (F := Ideal) = t
  generalize val_main_v13 (F := Ideal) u = z
  simp only [id_eq]
  pointwise [val_main_cst_5]

theorem ref_dz (b : Fin 2) (s : Fin 2064) (k : Fin 1024) : val_main_v55 (F := Ideal) w y (ix3 b s k) =
    ∑ j : Fin 31, ∑ l : Fin 2064, hits j l s * (y (ix3 b l k) * w (ix2 j k)) := by
  simp only [← ref_hits]
  unfold val_main_v55 val_main_v54 val_main_v53 val_main_v52 val_main_v51 val_main_v24 val_main_v22
  generalize val_main_v21 (F := Ideal) = t
  simp only [id_eq]
  pointwise [val_main_v50, val_main_v46, val_main_v45, val_main_v41, val_main_v37, val_main_v30, val_main_v29, val_main_cst_12, val_main_cst_13, hostSum_r5]
  simp only [Fin.sum_univ_one]

theorem ref_dw (j : Fin 31) (k : Fin 1024) : val_main_v49 (F := Ideal) u y (ix2 j k) =
    ∑ b : Fin 2, ∑ l : Fin 2064, val_main_v28 (F := Ideal) u (ix4 b j l k) * y (ix3 b l k) := by
  unfold val_main_v49 val_main_v48 val_main_v47 val_main_v44 val_main_v43 val_main_v42
  generalize val_main_v28 (F := Ideal) u = t
  pointwise [val_main_v41, val_main_v37, val_main_cst_9, val_main_cst_10, val_main_cst_11, hostSum_r4]
  simp only [Fin.sum_univ_one]

theorem ref_db (k : Fin 1024) : val_main_v64 (F := Ideal) y (ix2 0 k) = ∑ b : Fin 2, ∑ l : Fin 2064, y (ix3 b l k) := by
  pointwise [val_main_v64, val_main_v40, val_main_v39, val_main_v38, val_main_cst_7, val_main_cst_8, hostSum_r3]
  simp only [Fin.sum_univ_one]

/-- The gradients of the unit's two halves: zeros past the sequence's end. -/
theorem ref_a (b : Fin 2) (p : Fin 2176) (k : Fin 1024) : val_main_v62 (F := Ideal) u w y (ix3 b p k) =
    if h : p.val < 2064 then val_main_v57 (F := Ideal) u w y (ix3 b ⟨p.val, h⟩ k) else 0 := by
  have h0 := pad_zero
  unfold val_main_v62 val_main_v61 val_main_v60 val_main_v59
  generalize val_main_v57 (F := Ideal) u w y = a
  generalize val_main_v58 (F := Ideal) u w y = g
  pointwise [val_main_call1_v0, val_main_c_14]
  by_cases hp : p.val < 2064
  · rw [dif_pos ⟨hp, by omega⟩, dif_pos hp]
  · rw [dif_neg fun h => hp h.1, dif_neg hp, h0]

theorem ref_g (b : Fin 2) (p : Fin 2176) (k : Fin 1024) : val_main_v63 (F := Ideal) u w y (ix3 b p k) =
    if h : p.val < 2064 then val_main_v58 (F := Ideal) u w y (ix3 b ⟨p.val, h⟩ k) else 0 := by
  have h0 := pad_zero
  unfold val_main_v63 val_main_v61 val_main_v60 val_main_v59
  generalize val_main_v57 (F := Ideal) u w y = a
  generalize val_main_v58 (F := Ideal) u w y = g
  pointwise [val_main_call1_v0, val_main_c_14]
  by_cases hp : p.val < 2064
  · rw [dif_pos ⟨hp, by omega⟩, dif_pos hp]
  · rw [dif_neg fun h => hp h.1, dif_neg hp, h0]

/-! ## The equation -/

/-- The row that a tap reads, of a function that is zero past the sequence's end. -/
theorem late_read (f : ℕ → EReal) (hf : ∀ n, 2064 ≤ n → f n = 0) (j : Fin 31) (l : Fin 2064) :
    ∑ s : Fin 2064, hits j l s * f s.val = late f (j.val + 1 + l.val) := by
  have hj := j.isLt
  have hl := l.isLt
  unfold hits late
  refine (sum_at (if 15 ≤ l.val + j.val then l.val + j.val - 15 else 2064) (fun s => s + 15 = l.val + j.val) (fun s hs => ?_) f).trans ?_
  · split <;> omega
  · by_cases h : 15 ≤ l.val + j.val
    · rw [if_pos h, if_pos (show 16 ≤ j.val + 1 + l.val by omega), show j.val + 1 + l.val - 16 = l.val + j.val - 15 by omega]
      by_cases hn : l.val + j.val - 15 < 2064
      · rw [if_pos hn]
      · rw [if_neg hn, hf _ (by omega)]
    · rw [if_neg h, if_neg (show ¬16 ≤ j.val + 1 + l.val by omega), if_neg (by omega)]

/-- The row that a tap sends to row `s`. -/
theorem late_sent (f : ℕ → EReal) (hf : ∀ n, 2064 ≤ n → f n = 0) (j : Fin 31) (s : Fin 2064) :
    ∑ l : Fin 2064, hits j l s * f l.val = late f (31 - j.val + s.val) := by
  have hj := j.isLt
  have hs := s.isLt
  unfold hits late
  refine (sum_at (if j.val ≤ s.val + 15 then s.val + 15 - j.val else 2064) (fun l => s.val + 15 = l + j.val) (fun l hl => ?_) f).trans ?_
  · split <;> omega
  · by_cases h : j.val ≤ s.val + 15
    · rw [if_pos h, if_pos (show 16 ≤ 31 - j.val + s.val by omega), show 31 - j.val + s.val - 16 = s.val + 15 - j.val by omega]
      by_cases hn : s.val + 15 - j.val < 2064
      · rw [if_pos hn]
      · rw [if_neg hn, hf _ (by omega)]
    · rw [if_neg h, if_neg (show ¬16 ≤ 31 - j.val + s.val by omega), if_neg (by omega)]

/-- Rows past the sequence's end add nothing. -/
theorem sum_short (f : ℕ → EReal) (hf : ∀ n, 2064 ≤ n → f n = 0) : ∑ p : Fin 2176, f p.val = ∑ l : Fin 2064, f l.val := by
  rw [Fin.sum_univ_eq_sum_range f 2176, Fin.sum_univ_eq_sum_range f 2064]
  refine (Finset.sum_subset (Finset.range_mono (by omega)) fun n _ hn => hf n ?_).symm
  rw [Finset.mem_range] at hn
  omega

theorem late_mul (f : ℕ → EReal) (n : ℕ) (a : EReal) : late (fun i => f i * a) n = late f n * a := by
  unfold late
  by_cases h : 16 ≤ n
  · rw [if_pos h, if_pos h]
  · rw [if_neg h, if_neg h, zero_mul]

open Cert.Kernel26Ideal.Gen Idealize.ShloMosaic.TcCoe

variable (m : (ℓ : Loc Cert.Kernel26Ideal.nD Cert.Kernel26Ideal.τ Cert.Kernel26Ideal.sig) → Buf (Elt Ideal) ℓ) (c : Dev Cert.Kernel26Ideal.nD)

/-- What reaches the convolution's input is the same. -/
theorem dz_eq (b : Fin 2) (s : Fin 2064) (k : Fin 1024) :
    val_main_v55 (F := Ideal) (tapA m c) (outA m c) (ix3 b s k) = dzR m c b.val s.val k.val := by
  rw [ref_dz]
  unfold dzR
  rw [if_pos s.isLt, ← Fin.sum_univ_eq_sum_range (fun j => late (fun n => yR m c b.val n k.val) (31 - j + s.val) * wR m c j k.val)]
  refine Finset.sum_congr rfl fun j _ => ?_
  have hz : ∀ n, 2064 ≤ n → yR m c b.val n k.val * wR m c j.val k.val = 0 := fun n hn => by
    rw [show yR m c b.val n k.val = 0 from at3_out _ hn, zero_mul]
  rw [← late_mul, ← late_sent (fun n => yR m c b.val n k.val * wR m c j.val k.val) hz]
  refine Finset.sum_congr rfl fun l _ => congrArg _ ?_
  exact congrArg₂ (· * ·) (at3_eq (outA m c) b.isLt l.isLt k.isLt).symm (at2_eq (tapA m c) j.isLt k.isLt).symm

/-- The gradient of the unit's linear half is the reference's. -/
theorem a_eq : daArr m c = val_main_v62 (F := Ideal) (projA m c) (tapA m c) (outA m c) := by
  funext i
  obtain ⟨b, p, k, rfl⟩ : ∃ b p k, i = ix3 b p k := ⟨_, _, _, eq_ix3 i⟩
  rw [ref_a]
  show dzR m c b.val p.val k.val * expit (gR m c b.val p.val k.val) = _
  by_cases hp : p.val < 2064
  · rw [dif_pos hp]
    show _ = val_main_v55 (F := Ideal) (tapA m c) (outA m c) (ix3 b ⟨p.val, hp⟩ k) * val_main_v9 (F := Ideal) (projA m c) (ix3 b ⟨p.val, hp⟩ k)
    rw [dz_eq, ref_expit]
  · rw [dif_neg hp]
    unfold dzR
    rw [if_neg hp, zero_mul]

/-- The gradient of its gate is the reference's. -/
theorem g_eq : dgArr m c = val_main_v63 (F := Ideal) (projA m c) (tapA m c) (outA m c) := by
  funext i
  obtain ⟨b, p, k, rfl⟩ : ∃ b p k, i = ix3 b p k := ⟨_, _, _, eq_ix3 i⟩
  rw [ref_g]
  show dzR m c b.val p.val k.val * aR m c b.val p.val k.val * expit (gR m c b.val p.val k.val) * (1 - expit (gR m c b.val p.val k.val)) = _
  by_cases hp : p.val < 2064
  · rw [dif_pos hp]
    have h11 : val_main_v11 (F := Ideal) (projA m c) (ix3 b ⟨p.val, hp⟩ k) = 1 - val_main_v9 (F := Ideal) (projA m c) (ix3 b ⟨p.val, hp⟩ k) := by
      unfold val_main_v11
      generalize val_main_v9 (F := Ideal) (projA m c) = e
      pointwise [val_main_v10, val_main_cst_2]
    show _ = val_main_v2 (F := Ideal) (projA m c) (ix3 b ⟨p.val, hp⟩ k) * val_main_v55 (F := Ideal) (tapA m c) (outA m c) (ix3 b ⟨p.val, hp⟩ k)
      * (val_main_v9 (F := Ideal) (projA m c) (ix3 b ⟨p.val, hp⟩ k) * val_main_v11 (F := Ideal) (projA m c) (ix3 b ⟨p.val, hp⟩ k))
    rw [h11, dz_eq, ref_expit, ref_lin, ← mul_assoc, mul_comm (lin _ _ _ _)]
  · rw [dif_neg hp]
    unfold dzR
    rw [if_neg hp, zero_mul, zero_mul, zero_mul]

/-- The gradient of the taps' weights is the reference's. -/
theorem w_eq : dwArr m c = val_main_v49 (F := Ideal) (projA m c) (outA m c) := by
  funext i
  obtain ⟨j, k, rfl⟩ : ∃ j k, i = ix2 j k := ⟨_, _, eq_ix2 i⟩
  rw [ref_dw]
  show ∑ b ∈ Finset.range 2, ∑ p : Fin 2176, yR m c b p.val k.val * late (fun n => zR m c b n k.val) (j.val + 1 + p.val) = _
  rw [← Fin.sum_univ_eq_sum_range (fun b => ∑ p : Fin 2176, yR m c b p.val k.val * late (fun n => zR m c b n k.val) (j.val + 1 + p.val))]
  refine Finset.sum_congr rfl fun b _ => ?_
  rw [sum_short (fun p => yR m c b.val p k.val * late (fun n => zR m c b.val n k.val) (j.val + 1 + p)) fun n hn => by
    rw [show yR m c b.val n k.val = 0 from at3_out _ hn, zero_mul]]
  refine Finset.sum_congr rfl fun l _ => ?_
  rw [mul_comm]
  refine congrArg₂ (· * ·) ?_ (at3_eq (outA m c) b.isLt l.isLt k.isLt)
  rw [ref_windows, ← late_read (fun n => zR m c b.val n k.val) (fun n hn => if_neg (by omega)) j l]
  exact Finset.sum_congr rfl fun s _ => congrArg _ (if_pos s.isLt)

/-- The gradient of the biases is the reference's. -/
theorem b_eq : dbArr m c = val_main_v64 (F := Ideal) (outA m c) := by
  funext i
  obtain ⟨o, k, rfl⟩ : ∃ o k, i = ix2 o k := ⟨_, _, eq_ix2 i⟩
  obtain rfl : o = 0 := Subsingleton.elim _ _
  rw [ref_db]
  show ∑ b ∈ Finset.range 2, ∑ p : Fin 2176, yR m c b p.val k.val = _
  rw [← Fin.sum_univ_eq_sum_range (fun b => ∑ p : Fin 2176, yR m c b p.val k.val)]
  refine Finset.sum_congr rfl fun b _ => ?_
  rw [sum_short (fun p => yR m c b.val p k.val) fun n hn => at3_out _ hn]
  exact Finset.sum_congr rfl fun l _ => at3_eq (outA m c) b.isLt l.isLt k.isLt

end Cert.Kernel26Ideal.Conv

end
-- ==== Proof.MergePoint.lean ====
/- The gradient of the gated merge of three branches: what one point of the grid leaves in its output blocks. -/
module

public import proofs.«01_k».proof.Proof.Gen.Kernel11Ideal.Value
public import proofs.«01_k».proof.Proof.Products
public import proofs.«01_k».proof.Proof.Swiglu
public import proofs.«01_k».proof.Proof.Out

@[expose] public section

set_option maxRecDepth 16384

noncomputable section

namespace Cert.Kernel11Ideal.Merge

open Cert.Kernel11Ideal Cert.Kernel11Ideal.Gen Cert.Attn
open Idealize.ShloMosaic Idealize.ShloMosaic.TcCoe Idealize.SL.Sem
open Cert.KernelIdeal.Out (zero2)

/-- The logistic function. -/
abbrev gate (l : EReal) : EReal := Cert.Kernel5Ideal.Swiglu.logistic l

/-- What reaches a gate's logit: the product of the merged gradient, the branch and the logistic function's slope. -/
def slope (d y l : EReal) : EReal := d * y * gate l * (1 - gate l)

section Entries

variable (d l y : Vec Ideal S544x512 .f32) (b : Vec Ideal S1x512 .f32) (p : Fin 544) (q : Fin 512)

/-- A branch's gradient, entry by entry. -/
theorem dy_apply : k0_pay8 d l b (ix2 p q) = d (ix2 p q) * gate (l (ix2 p q) + b (ix2 0 q)) := by
  simp only [gate, Cert.Kernel5Ideal.Swiglu.logistic, ← zero_sub]
  pointwise [k0_pay8, k0_pay7]

/-- The logits' gradient. -/
theorem dl_apply : k0_pay10 d l b y (ix2 p q) = slope (d (ix2 p q)) (y (ix2 p q)) (l (ix2 p q) + b (ix2 0 q)) := by
  simp only [slope, gate, Cert.Kernel5Ideal.Swiglu.logistic, ← zero_sub]
  pointwise [k0_pay10, k0_pay9, k0_pay7]

/-- A point's part of the bias's gradient. -/
theorem db_apply : k0_pay11 d l b y (ix2 0 q) = ∑ p : Fin 544, slope (d (ix2 p q)) (y (ix2 p q)) (l (ix2 p q) + b (ix2 0 q)) := by
  simp only [slope, gate, Cert.Kernel5Ideal.Swiglu.logistic, ← zero_sub]
  pointwise [k0_pay11, k0_pay9, k0_pay7]

end Entries

variable (m : (ℓ : Loc nD τ sig) → Buf (Elt Ideal) ℓ) (c : Dev nD)

/-- The first point of a column of blocks leaves the three branches' gradients, the logits' and its parts of the biases'. -/
theorem outs_first (t : Fin cfg0.N) (h : t.val % 8 = 0) : outsAt0 m c t.val t.isLt =
    (k0_pay8 (iblk m c 9 t) (X0_0 m c t) (iblk m c 3 t), k0_pay8 (iblk m c 9 t) (X0_1 m c t) (iblk m c 4 t),
      k0_pay8 (iblk m c 9 t) (X0_2 m c t) (iblk m c 5 t), k0_pay10 (iblk m c 9 t) (X0_0 m c t) (iblk m c 3 t) (iblk m c 6 t),
      k0_pay10 (iblk m c 9 t) (X0_1 m c t) (iblk m c 4 t) (iblk m c 7 t), k0_pay10 (iblk m c 9 t) (X0_2 m c t) (iblk m c 5 t) (iblk m c 8 t),
      k0_pay11 (iblk m c 9 t) (X0_0 m c t) (iblk m c 3 t) (iblk m c 6 t), k0_pay11 (iblk m c 9 t) (X0_1 m c t) (iblk m c 4 t) (iblk m c 7 t),
      k0_pay11 (iblk m c 9 t) (X0_2 m c t) (iblk m c 5 t) (iblk m c 8 t)) := by
  rw [outsAt0_A m c t h (by omega) h (by omega) h (by omega)]
  refine Prod.ext ?_ (Prod.ext ?_ (Prod.ext ?_ (Prod.ext ?_ (Prod.ext ?_ (Prod.ext ?_ (Prod.ext ?_ (Prod.ext ?_ ?_)))))))
  all_goals dsimp only
  on_goal 1 => (unfold out0_A_10; rw [View.read_writes_eq_canon _ _ _ (fun y => cover0_A_10 (y := y) ..)])
  on_goal 2 => (unfold out0_A_11; rw [View.read_writes_eq_canon _ _ _ (fun y => cover0_A_11 (y := y) ..)])
  on_goal 3 => (unfold out0_A_12; rw [View.read_writes_eq_canon _ _ _ (fun y => cover0_A_12 (y := y) ..)])
  on_goal 4 => (unfold out0_A_13; rw [View.read_writes_eq_canon _ _ _ (fun y => cover0_A_13 (y := y) ..)])
  on_goal 5 => (unfold out0_A_14; rw [View.read_writes_eq_canon _ _ _ (fun y => cover0_A_14 (y := y) ..)])
  on_goal 6 => (unfold out0_A_15; rw [View.read_writes_eq_canon _ _ _ (fun y => cover0_A_15 (y := y) ..)])
  on_goal 7 => (unfold out0_A_16; rw [View.read_writes_eq_canon _ _ _ (fun y => cover0_A_16 (y := y) ..)])
  on_goal 8 => (unfold out0_A_17; rw [View.read_writes_eq_canon _ _ _ (fun y => cover0_A_17 (y := y) ..)])
  on_goal 9 => (unfold out0_A_18; rw [View.read_writes_eq_canon _ _ _ (fun y => cover0_A_18 (y := y) ..)])
  all_goals
    unfold kernelRun0_A
    dsimp only
    sl_unfold_words
    rw [View.canon_unit_zero zero2]
    simp only [View.readAt_eq_ld, (hs0_0 t).read_unread, (hs0_1 t).read_unread, (hs0_2 t).read_unread, (hs0_3 t).read_unread, (hs0_4 t).read_unread,
      (hs0_5 t).read_unread, (hs0_6 t).read_unread, (hs0_7 t).read_unread, (hs0_8 t).read_unread, (hs0_9 t).read_unread,
      View.ld_unit_zero (S := S544x512) zero2, View.ld_unit_zero (S := S1x512) zero2]
  all_goals rfl

/-- Every later point of the column leaves its gradients and adds its parts of the biases' to what the point before left. -/
theorem outs_later (t : Fin cfg0.N) (h : ¬t.val % 8 = 0) (ht : t.val - 1 < cfg0.N) : outsAt0 m c t.val t.isLt =
    (k0_pay8 (iblk m c 9 t) (X0_0 m c t) (iblk m c 3 t), k0_pay8 (iblk m c 9 t) (X0_1 m c t) (iblk m c 4 t),
      k0_pay8 (iblk m c 9 t) (X0_2 m c t) (iblk m c 5 t), k0_pay10 (iblk m c 9 t) (X0_0 m c t) (iblk m c 3 t) (iblk m c 6 t),
      k0_pay10 (iblk m c 9 t) (X0_1 m c t) (iblk m c 4 t) (iblk m c 7 t), k0_pay10 (iblk m c 9 t) (X0_2 m c t) (iblk m c 5 t) (iblk m c 8 t),
      k0_pay12 (iblk m c 9 t) (X0_0 m c t) (iblk m c 3 t) (iblk m c 6 t) (outsAt0 m c (t.val - 1) ht).2.2.2.2.2.2.1,
      k0_pay12 (iblk m c 9 t) (X0_1 m c t) (iblk m c 4 t) (iblk m c 7 t) (outsAt0 m c (t.val - 1) ht).2.2.2.2.2.2.2.1,
      k0_pay12 (iblk m c 9 t) (X0_2 m c t) (iblk m c 5 t) (iblk m c 8 t) (outsAt0 m c (t.val - 1) ht).2.2.2.2.2.2.2.2) := by
  rw [outsAt0_B m c t h (by omega) h (by omega) h (by omega)]
  generalize outsAt0 m c (t.val - 1) _ = prev
  refine Prod.ext ?_ (Prod.ext ?_ (Prod.ext ?_ (Prod.ext ?_ (Prod.ext ?_ (Prod.ext ?_ (Prod.ext ?_ (Prod.ext ?_ ?_)))))))
  all_goals dsimp only
  on_goal 1 => (unfold out0_B_10; rw [View.read_writes_eq_canon _ _ _ (fun y => cover0_B_10 (y := y) ..)])
  on_goal 2 => (unfold out0_B_11; rw [View.read_writes_eq_canon _ _ _ (fun y => cover0_B_11 (y := y) ..)])
  on_goal 3 => (unfold out0_B_12; rw [View.read_writes_eq_canon _ _ _ (fun y => cover0_B_12 (y := y) ..)])
  on_goal 4 => (unfold out0_B_13; rw [View.read_writes_eq_canon _ _ _ (fun y => cover0_B_13 (y := y) ..)])
  on_goal 5 => (unfold out0_B_14; rw [View.read_writes_eq_canon _ _ _ (fun y => cover0_B_14 (y := y) ..)])
  on_goal 6 => (unfold out0_B_15; rw [View.read_writes_eq_canon _ _ _ (fun y => cover0_B_15 (y := y) ..)])
  on_goal 7 => (unfold out0_B_16; rw [View.read_writes_eq_canon _ _ _ (fun y => cover0_B_16 (y := y) ..)])
  on_goal 8 => (unfold out0_B_17; rw [View.read_writes_eq_canon _ _ _ (fun y => cover0_B_17 (y := y) ..)])
  on_goal 9 => (unfold out0_B_18; rw [View.read_writes_eq_canon _ _ _ (fun y => cover0_B_18 (y := y) ..)])
  all_goals
    unfold kernelRun0_B
    dsimp only
    sl_unfold_words
    rw [View.canon_unit_zero zero2]
    simp only [View.readAt_eq_ld, (hs0_0 t).read_unread, (hs0_1 t).read_unread, (hs0_2 t).read_unread, (hs0_3 t).read_unread, (hs0_4 t).read_unread,
      (hs0_5 t).read_unread, (hs0_6 t).read_unread, (hs0_7 t).read_unread, (hs0_8 t).read_unread, (hs0_9 t).read_unread,
      (hs0_16 t).read_unread, (hs0_17 t).read_unread, (hs0_18 t).read_unread,
      View.ld_unit_zero (S := S544x512) zero2, View.ld_unit_zero (S := S1x512) zero2]
  all_goals rfl

end Cert.Kernel11Ideal.Merge

end
-- ==== Proof.MergeArrays.lean ====
/- The gradient of the gated merge of three branches: what the nine arrays hold that the kernel writes. -/
module

public import proofs.«01_k».proof.Proof.MergePoint
public import proofs.«01_k».proof.Proof.Fold

@[expose] public section

set_option maxRecDepth 16384

noncomputable section

namespace Cert.Kernel11Ideal.Merge

open Cert.Kernel11Ideal Cert.Kernel11Ideal.Gen Cert.Kernel11Ideal.Value Cert.Attn Cert.Products
open Idealize.ShloMosaic Idealize.ShloMosaic.TcCoe Idealize.SL.Sem

/-- The number at a place of a list, zero past its end. -/
def at1 {N : ℕ} (b : (⟨1, ![N]⟩ : Shape).Idx → EReal) (j : ℕ) : EReal := if h : j < N then b (ix1 ⟨j, h⟩) else 0

theorem at1_eq {N : ℕ} (b : (⟨1, ![N]⟩ : Shape).Idx → EReal) {j : ℕ} (h : j < N) : at1 b j = b (ix1 ⟨j, h⟩) := dif_pos h

variable (m : (ℓ : Loc nD τ sig) → Buf (Elt Ideal) ℓ) (c : Dev nD)

abbrev projA : S4352x10880.Idx → EReal := m ((c : Thread nD τ).loc main_arg0)
abbrev biasA : S6144.Idx → EReal := m ((c : Thread nD τ).loc main_arg1)
abbrev yaA : S4352x2048.Idx → EReal := m ((c : Thread nD τ).loc main_arg2)
abbrev ybA : S4352x2048.Idx → EReal := m ((c : Thread nD τ).loc main_arg3)
abbrev ycA : S4352x2048.Idx → EReal := m ((c : Thread nD τ).loc main_arg4)
abbrev dmA : S4352x2048.Idx → EReal := m ((c : Thread nD τ).loc main_arg5)

/-- The logit of branch `k`'s gate at row `r`, column `q`: the projections hold the gates from column 4608 on. -/
def logit (k r q : ℕ) : EReal := at2 (projA m c) r (4608 + (k * 2048 + q)) + at1 (biasA m c) (k * 2048 + q)

theorem lt32 (t : Fin cfg0.N) : t.val < 32 := lt_of_lt_of_eq t.isLt (show cfg0.N = 32 from N_0)

theorem logit_index : ∀ t : Fin grid0.N, (win0_0.index t 0 = t.val % 8 ∧ win0_0.index t 1 = 9 + t.val / 8)
    ∧ (win0_1.index t 0 = t.val % 8 ∧ win0_1.index t 1 = 13 + t.val / 8)
    ∧ (win0_2.index t 0 = t.val % 8 ∧ win0_2.index t 1 = 17 + t.val / 8) := by decide +kernel

theorem bias_index : ∀ t : Fin grid0.N, (win0_3.index t 0 = 0 ∧ win0_3.index t 1 = t.val / 8)
    ∧ (win0_4.index t 0 = 0 ∧ win0_4.index t 1 = 4 + t.val / 8)
    ∧ (win0_5.index t 0 = 0 ∧ win0_5.index t 1 = 8 + t.val / 8) := by decide +kernel

theorem row_index : ∀ t : Fin grid0.N, win0_6.index t 0 = t.val % 8 ∧ win0_6.index t 1 = t.val / 8 := by decide +kernel

theorem sum_index : ∀ t : Fin grid0.N, win0_16.index t 0 = 0 ∧ win0_16.index t 1 = t.val / 8 := by decide +kernel

theorem bias_apply (j : Fin 6144) : V m c main_v0 (ix2 0 j) = at1 (biasA m c) j.val := by
  have h : V m c main_v0 = broadcastInDim S1x6144 ![1] bcast_S6144_S1x6144_1 (biasA m c) := by
    unfold V
    simp only [hostOps0, List.flatten_cons, List.flatten_nil, List.append_nil, List.cons_append, List.nil_append]
    after_results
  rw [h, at1_eq _ j.isLt]
  generalize biasA m c = a
  pointwise

/-- A position in an array of a block's entry. -/
theorem place {a x : ℕ} (h : a = x) (s p : ℕ) : a * s + 1 * p = x * s + p := by rw [h, one_mul]

theorem block_logit (t : Fin cfg0.N) (p : Fin 544) (q : Fin 512) :
    X0_0 m c t (ix2 p q) = at2 (projA m c) (t.val % 8 * 544 + p.val) (4608 + (0 * 2048 + (t.val / 8 * 512 + q.val)))
    ∧ X0_1 m c t (ix2 p q) = at2 (projA m c) (t.val % 8 * 544 + p.val) (4608 + (1 * 2048 + (t.val / 8 * 512 + q.val)))
    ∧ X0_2 m c t (ix2 p q) = at2 (projA m c) (t.val % 8 * 544 + p.val) (4608 + (2 * 2048 + (t.val / 8 * 512 + q.val))) := by
  have h := lt32 t
  refine ⟨?_, ?_, ?_⟩
  all_goals rw [at2_eq _ (by omega) (by omega)]
  on_goal 1 =>
    unfold X0_0 Pipeline.Window.fill
    rw [dif_pos (moved0_0 t _)]
  on_goal 2 =>
    unfold X0_1 Pipeline.Window.fill
    rw [dif_pos (moved0_1 t _)]
  on_goal 3 =>
    unfold X0_2 Pipeline.Window.fill
    rw [dif_pos (moved0_2 t _)]
  all_goals
    unfold iblk
    rw [View.read_apply]
    show V m c main_arg0 _ = _
    rw [V_main_arg0]
    refine congrArg (projA m c) (funext fun a => Fin.ext ?_)
  · match a with
    | ⟨0, _⟩ => exact place (logit_index t).1.1 544 p.val
    | ⟨1, _⟩ => exact (place (logit_index t).1.2 512 q.val).trans (show (9 + t.val / 8) * 512 + q.val = 4608 + (0 * 2048 + (t.val / 8 * 512 + q.val)) by omega)
  · match a with
    | ⟨0, _⟩ => exact place (logit_index t).2.1.1 544 p.val
    | ⟨1, _⟩ => exact (place (logit_index t).2.1.2 512 q.val).trans (show (13 + t.val / 8) * 512 + q.val = 4608 + (1 * 2048 + (t.val / 8 * 512 + q.val)) by omega)
  · match a with
    | ⟨0, _⟩ => exact place (logit_index t).2.2.1 544 p.val
    | ⟨1, _⟩ => exact (place (logit_index t).2.2.2 512 q.val).trans (show (17 + t.val / 8) * 512 + q.val = 4608 + (2 * 2048 + (t.val / 8 * 512 + q.val)) by omega)

theorem block_bias (t : Fin cfg0.N) (q : Fin 512) :
    iblk m c 3 t (ix2 0 q) = at1 (biasA m c) (0 * 2048 + (t.val / 8 * 512 + q.val))
    ∧ iblk m c 4 t (ix2 0 q) = at1 (biasA m c) (1 * 2048 + (t.val / 8 * 512 + q.val))
    ∧ iblk m c 5 t (ix2 0 q) = at1 (biasA m c) (2 * 2048 + (t.val / 8 * 512 + q.val)) := by
  have h := lt32 t
  refine ⟨(Eq.trans ?_ (bias_apply m c ⟨_, by omega⟩)), (Eq.trans ?_ (bias_apply m c ⟨_, by omega⟩)),
    (Eq.trans ?_ (bias_apply m c ⟨_, by omega⟩))⟩
  all_goals
    unfold iblk
    rw [View.read_apply]
    refine congrArg (V m c main_v0) (funext fun a => Fin.ext ?_)
  · match a with
    | ⟨0, _⟩ => exact place (bias_index t).1.1 1 0
    | ⟨1, _⟩ => exact (place (bias_index t).1.2 512 q.val).trans (show (t.val / 8) * 512 + q.val = 0 * 2048 + (t.val / 8 * 512 + q.val) by omega)
  · match a with
    | ⟨0, _⟩ => exact place (bias_index t).2.1.1 1 0
    | ⟨1, _⟩ => exact (place (bias_index t).2.1.2 512 q.val).trans (show (4 + t.val / 8) * 512 + q.val = 1 * 2048 + (t.val / 8 * 512 + q.val) by omega)
  · match a with
    | ⟨0, _⟩ => exact place (bias_index t).2.2.1 1 0
    | ⟨1, _⟩ => exact (place (bias_index t).2.2.2 512 q.val).trans (show (8 + t.val / 8) * 512 + q.val = 2 * 2048 + (t.val / 8 * 512 + q.val) by omega)

theorem block_rows (t : Fin cfg0.N) (p : Fin 544) (q : Fin 512) :
    iblk m c 6 t (ix2 p q) = at2 (yaA m c) (t.val % 8 * 544 + p.val) (t.val / 8 * 512 + q.val)
    ∧ iblk m c 7 t (ix2 p q) = at2 (ybA m c) (t.val % 8 * 544 + p.val) (t.val / 8 * 512 + q.val)
    ∧ iblk m c 8 t (ix2 p q) = at2 (ycA m c) (t.val % 8 * 544 + p.val) (t.val / 8 * 512 + q.val)
    ∧ iblk m c 9 t (ix2 p q) = at2 (dmA m c) (t.val % 8 * 544 + p.val) (t.val / 8 * 512 + q.val) := by
  have h := lt32 t
  refine ⟨?_, ?_, ?_, ?_⟩
  all_goals
    rw [at2_eq _ (by omega) (by omega)]
    unfold iblk
    rw [View.read_apply]
  on_goal 1 =>
    show V m c main_arg2 _ = _
    rw [V_main_arg2]
  on_goal 2 =>
    show V m c main_arg3 _ = _
    rw [V_main_arg3]
  on_goal 3 =>
    show V m c main_arg4 _ = _
    rw [V_main_arg4]
  on_goal 4 =>
    show V m c main_arg5 _ = _
    rw [V_main_arg5]
  all_goals
    refine congrArg _ (funext fun a => Fin.ext ?_)
    match a with
    | ⟨0, _⟩ => exact place (row_index t).1 544 p.val
    | ⟨1, _⟩ => exact place (row_index t).2 512 q.val

/-- The gradient of a branch whose gate has the logits `l`. -/
def dyArr (l : ℕ → ℕ → EReal) : S4352x2048.Idx → EReal := fun i => at2 (dmA m c) (i 0).val (i 1).val * gate (l (i 0).val (i 1).val)

/-- The gradient of the logits `l` of the branch `y`. -/
def dlArr (l : ℕ → ℕ → EReal) (y : S4352x2048.Idx → EReal) : S4352x2048.Idx → EReal := fun i =>
  slope (at2 (dmA m c) (i 0).val (i 1).val) (at2 y (i 0).val (i 1).val) (l (i 0).val (i 1).val)

/-- The gradient of the bias of the branch `y`: the logits' summed over the rows. -/
def dbArr (l : ℕ → ℕ → EReal) (y : S4352x2048.Idx → EReal) : S1x2048.Idx → EReal := fun i =>
  ∑ r : Fin 4352, slope (at2 (dmA m c) r.val (i 1).val) (at2 y r.val (i 1).val) (l r.val (i 1).val)

/-- What every point leaves of the branches' and the logits' gradients. -/
theorem outs_rows (t : Fin cfg0.N) : ∃ s, outsAt0 m c t.val t.isLt =
    (k0_pay8 (iblk m c 9 t) (X0_0 m c t) (iblk m c 3 t), k0_pay8 (iblk m c 9 t) (X0_1 m c t) (iblk m c 4 t),
      k0_pay8 (iblk m c 9 t) (X0_2 m c t) (iblk m c 5 t), k0_pay10 (iblk m c 9 t) (X0_0 m c t) (iblk m c 3 t) (iblk m c 6 t),
      k0_pay10 (iblk m c 9 t) (X0_1 m c t) (iblk m c 4 t) (iblk m c 7 t), k0_pay10 (iblk m c 9 t) (X0_2 m c t) (iblk m c 5 t) (iblk m c 8 t), s) := by
  by_cases h : t.val % 8 = 0
  · exact ⟨_, outs_first m c t h⟩
  · exact ⟨_, outs_later m c t h (Nat.lt_of_le_of_lt (Nat.sub_le _ _) t.isLt)⟩

/-- Every place of an array of rows lies in a point's block. -/
theorem row_place (x : Fin 4352) (y : Fin 2048) : ∃ t : Fin cfg0.N, ∀ a : Fin 2,
    (![t.val % 8, t.val / 8] : Fin 2 → ℕ) a * S544x512.size a ≤ (ix2 x y a).val
      ∧ (ix2 x y a).val < (![t.val % 8, t.val / 8] : Fin 2 → ℕ) a * S544x512.size a + S544x512.size a := by
  have hx := x.isLt
  have hy := y.isLt
  have hN : cfg0.N = 32 := N_0
  refine ⟨⟨y.val / 512 * 8 + x.val / 544, by omega⟩, fun a => ?_⟩
  match a with
  | ⟨0, _⟩ => show (y.val / 512 * 8 + x.val / 544) % 8 * 544 ≤ x.val ∧ x.val < (y.val / 512 * 8 + x.val / 544) % 8 * 544 + 544; omega
  | ⟨1, _⟩ => show (y.val / 512 * 8 + x.val / 544) / 8 * 512 ≤ y.val ∧ y.val < (y.val / 512 * 8 + x.val / 544) / 8 * 512 + 512; omega

theorem row_index' (t : Fin grid0.N) : win0_6.index t = ![t.val % 8, t.val / 8] := by
  funext a
  match a with
  | ⟨0, _⟩ => exact (row_index t).1
  | ⟨1, _⟩ => exact (row_index t).2

/-- An array at a place of a point's block. -/
theorem at_place (f : S4352x2048.Idx → EReal) (t : Fin cfg0.N) (p : Fin 544) (q : Fin 512) (i : S4352x2048.Idx)
    (h0 : (i 0).val = win0_6.index t 0 * 544 + 1 * p.val) (h1 : (i 1).val = win0_6.index t 1 * 512 + 1 * q.val) :
    f (ix2 ⟨t.val % 8 * 544 + p.val, by omega⟩ ⟨t.val / 8 * 512 + q.val, by have := lt32 t; omega⟩) = f i :=
  congrArg f (funext fun a => Fin.ext (match a with
    | ⟨0, _⟩ => (h0.trans (place (row_index t).1 544 p.val)).symm
    | ⟨1, _⟩ => (h1.trans (place (row_index t).2 512 q.val)).symm))

/-- The six arrays of rows. -/
theorem final_rows : (dats m 0 c).arrAt 10 cfg0.N = dyArr m c (logit m c 0) ∧ (dats m 0 c).arrAt 11 cfg0.N = dyArr m c (logit m c 1)
    ∧ (dats m 0 c).arrAt 12 cfg0.N = dyArr m c (logit m c 2) ∧ (dats m 0 c).arrAt 13 cfg0.N = dlArr m c (logit m c 0) (yaA m c)
    ∧ (dats m 0 c).arrAt 14 cfg0.N = dlArr m c (logit m c 1) (ybA m c) ∧ (dats m 0 c).arrAt 15 cfg0.N = dlArr m c (logit m c 2) (ycA m c) := by
  refine ⟨(dats m 0 c).arrAt_eq_of_cover 10 _ (fun t _ => ?_) fun i => ?_, (dats m 0 c).arrAt_eq_of_cover 11 _ (fun t _ => ?_) fun i => ?_,
    (dats m 0 c).arrAt_eq_of_cover 12 _ (fun t _ => ?_) fun i => ?_, (dats m 0 c).arrAt_eq_of_cover 13 _ (fun t _ => ?_) fun i => ?_,
    (dats m 0 c).arrAt_eq_of_cover 14 _ (fun t _ => ?_) fun i => ?_, (dats m 0 c).arrAt_eq_of_cover 15 _ (fun t _ => ?_) fun i => ?_⟩
  case refine_1 | refine_3 | refine_5 | refine_7 | refine_9 | refine_11 =>
    obtain ⟨s, hs⟩ := outs_rows m c t
    first | rw [flushed10] | rw [flushed11] | rw [flushed12] | rw [flushed13] | rw [flushed14] | rw [flushed15]
    rw [hs]
    funext y
    rw [View.read_apply]
    obtain ⟨p, q, rfl⟩ : ∃ p q, y = ix2 p q := ⟨_, _, eq_ix2 y⟩
    rw [cast_eq]
    refine Eq.trans ?_ (at_place _ t p q _ ?_ ?_)
    rotate_left
    · rfl
    · rfl
    first
      | refine (dy_apply _ _ _ p q).trans ?_
      | refine (dl_apply _ _ _ _ p q).trans ?_
    simp only [(block_logit m c t p q).1, (block_logit m c t p q).2.1, (block_logit m c t p q).2.2, (block_bias m c t q).1,
      (block_bias m c t q).2.1, (block_bias m c t q).2.2, (block_rows m c t p q).1, (block_rows m c t p q).2.1,
      (block_rows m c t p q).2.2.1, (block_rows m c t p q).2.2.2]
    rfl
  all_goals
    obtain ⟨x, y, rfl⟩ : ∃ x y, i = ix2 x y := ⟨_, _, eq_ix2 i⟩
    obtain ⟨t, ht⟩ := row_place x y
    rw [← row_index' t] at ht
  · exact ⟨t, flush0_10 t, by
      show ix2 x y ∈ ((View.whole main_v1_0).slice (win0_10.rect t)).set; rw [View.set_slice_whole, Rect.mem_set_unit]; exact ht⟩
  · exact ⟨t, flush0_11 t, by
      show ix2 x y ∈ ((View.whole main_v1_1).slice (win0_11.rect t)).set; rw [View.set_slice_whole, Rect.mem_set_unit]; exact ht⟩
  · exact ⟨t, flush0_12 t, by
      show ix2 x y ∈ ((View.whole main_v1_2).slice (win0_12.rect t)).set; rw [View.set_slice_whole, Rect.mem_set_unit]; exact ht⟩
  · exact ⟨t, flush0_13 t, by
      show ix2 x y ∈ ((View.whole main_v1_3).slice (win0_13.rect t)).set; rw [View.set_slice_whole, Rect.mem_set_unit]; exact ht⟩
  · exact ⟨t, flush0_14 t, by
      show ix2 x y ∈ ((View.whole main_v1_4).slice (win0_14.rect t)).set; rw [View.set_slice_whole, Rect.mem_set_unit]; exact ht⟩
  · exact ⟨t, flush0_15 t, by
      show ix2 x y ∈ ((View.whole main_v1_5).slice (win0_15.rect t)).set; rw [View.set_slice_whole, Rect.mem_set_unit]; exact ht⟩

/-- After a column's last point its block of a bias's gradient holds the sums over all rows. -/
theorem outs_sums (t : Fin cfg0.N) (hl : t.val % 8 = 7) (q : Fin 512) :
    (outsAt0 m c t.val t.isLt).2.2.2.2.2.2.1 (ix2 0 q) = dbArr m c (logit m c 0) (yaA m c) (ix2 0 ⟨t.val / 8 * 512 + q.val, by have := lt32 t; omega⟩)
    ∧ (outsAt0 m c t.val t.isLt).2.2.2.2.2.2.2.1 (ix2 0 q) = dbArr m c (logit m c 1) (ybA m c) (ix2 0 ⟨t.val / 8 * 512 + q.val, by have := lt32 t; omega⟩)
    ∧ (outsAt0 m c t.val t.isLt).2.2.2.2.2.2.2.2 (ix2 0 q) = dbArr m c (logit m c 2) (ycA m c) (ix2 0 ⟨t.val / 8 * 512 + q.val, by have := lt32 t; omega⟩) := by
  have step : ∀ (f T : (n : ℕ) → n < cfg0.N → S1x512.Idx → EReal) (l : ℕ → ℕ → EReal) (y : S4352x2048.Idx → EReal),
      (∀ (n : ℕ) (h : n < cfg0.N), n % 8 = 0 → f n h = T n h) →
      (∀ (n : ℕ) (h : n + 1 < cfg0.N), ¬(n + 1) % 8 = 0 → f (n + 1) h = fun x => f n (Nat.lt_of_succ_lt h) x + T (n + 1) h x) →
      (∀ (t : Fin cfg0.N) (q : Fin 512), T t.val t.isLt (ix2 0 q) = ∑ p : Fin 544,
        slope (at2 (dmA m c) (t.val % 8 * 544 + p.val) (t.val / 8 * 512 + q.val)) (at2 y (t.val % 8 * 544 + p.val) (t.val / 8 * 512 + q.val))
          (l (t.val % 8 * 544 + p.val) (t.val / 8 * 512 + q.val))) →
      f t.val t.isLt (ix2 0 q) = dbArr m c l y (ix2 0 ⟨t.val / 8 * 512 + q.val, by have := lt32 t; omega⟩) := by
    intro f T l y h0 hs hT
    refine (run_sum (J := 8) (by decide) f T h0 hs t.val t.isLt (by omega) (fun s x => ∑ p : Fin 544,
      slope (at2 (dmA m c) (s * 544 + p.val) (t.val / 8 * 512 + (x 1).val)) (at2 y (s * 544 + p.val) (t.val / 8 * 512 + (x 1).val))
        (l (s * 544 + p.val) (t.val / 8 * 512 + (x 1).val))) (fun n h x hn => ?_) (ix2 0 q)).trans ?_
    · obtain ⟨o, q, rfl⟩ : ∃ o q, x = ix2 o q := ⟨_, _, eq_ix2 x⟩
      obtain rfl : o = 0 := Subsingleton.elim _ _
      refine (hT ⟨n, h⟩ q).trans ?_
      simp only [hn]
      rfl
    · exact sum_blocks 8 544 4352 (by decide) fun r => slope (at2 (dmA m c) r (t.val / 8 * 512 + q.val)) (at2 y r (t.val / 8 * 512 + q.val))
        (l r (t.val / 8 * 512 + q.val))
  refine ⟨step (fun n h => (outsAt0 m c n h).2.2.2.2.2.2.1) (fun n h => k0_pay11 (iblk m c 9 ⟨n, h⟩) (X0_0 m c ⟨n, h⟩) (iblk m c 3 ⟨n, h⟩) (iblk m c 6 ⟨n, h⟩))
      _ _ (fun n h h0 => ?_) (fun n h h0 => ?_) fun t q => ?_,
    step (fun n h => (outsAt0 m c n h).2.2.2.2.2.2.2.1) (fun n h => k0_pay11 (iblk m c 9 ⟨n, h⟩) (X0_1 m c ⟨n, h⟩) (iblk m c 4 ⟨n, h⟩) (iblk m c 7 ⟨n, h⟩))
      _ _ (fun n h h0 => ?_) (fun n h h0 => ?_) fun t q => ?_,
    step (fun n h => (outsAt0 m c n h).2.2.2.2.2.2.2.2) (fun n h => k0_pay11 (iblk m c 9 ⟨n, h⟩) (X0_2 m c ⟨n, h⟩) (iblk m c 5 ⟨n, h⟩) (iblk m c 8 ⟨n, h⟩))
      _ _ (fun n h h0 => ?_) (fun n h h0 => ?_) fun t q => ?_⟩
  case refine_1 | refine_4 | refine_7 =>
    rw [outs_first m c ⟨n, h⟩ h0]
  case refine_2 | refine_5 | refine_8 =>
    rw [outs_later m c ⟨n + 1, h⟩ h0 (Nat.lt_of_succ_lt h)]
    dsimp only
    unfold k0_pay12
    simp only [shapeCast_self]
    rfl
  all_goals
    refine (db_apply _ _ _ _ q).trans (Finset.sum_congr rfl fun p _ => ?_)
    simp only [(block_logit m c t p q).1, (block_logit m c t p q).2.1, (block_logit m c t p q).2.2, (block_bias m c t q).1,
      (block_bias m c t q).2.1, (block_bias m c t q).2.2, (block_rows m c t p q).1, (block_rows m c t p q).2.1,
      (block_rows m c t p q).2.2.1, (block_rows m c t p q).2.2.2]
    rfl

/-- The three arrays of sums. -/
theorem final_sums : (dats m 0 c).arrAt 16 cfg0.N = dbArr m c (logit m c 0) (yaA m c) ∧ (dats m 0 c).arrAt 17 cfg0.N = dbArr m c (logit m c 1) (ybA m c)
    ∧ (dats m 0 c).arrAt 18 cfg0.N = dbArr m c (logit m c 2) (ycA m c) := by
  have place' : ∀ (f : S1x2048.Idx → EReal) (t : Fin cfg0.N) (q : Fin 512) (i : S1x2048.Idx) (_ : (i 1).val = win0_16.index t 1 * 512 + 1 * q.val),
      f (ix2 0 ⟨t.val / 8 * 512 + q.val, by have := lt32 t; omega⟩) = f i := fun f t q i h =>
    congrArg f (funext fun a => Fin.ext (match a with
      | ⟨0, _⟩ => by have := (i 0).isLt; show 0 = (i 0).val; exact (Nat.lt_one_iff.mp this).symm
      | ⟨1, _⟩ => (h.trans (place (sum_index t).2 512 q.val)).symm))
  have cover : ∀ y : Fin 2048, ∃ t : Fin cfg0.N, t.val % 8 = 7 ∧ ∀ a : Fin 2, win0_16.index t a * S1x512.size a ≤ (ix2 (0 : Fin 1) y a).val
      ∧ (ix2 (0 : Fin 1) y a).val < win0_16.index t a * S1x512.size a + S1x512.size a := by
    intro y
    have hy := y.isLt
    have hN : cfg0.N = 32 := N_0
    refine ⟨⟨y.val / 512 * 8 + 7, by omega⟩, by dsimp only; omega, fun a => ?_⟩
    match a with
    | ⟨0, _⟩ => show win0_16.index ⟨_, _⟩ 0 * 1 ≤ 0 ∧ 0 < win0_16.index ⟨_, _⟩ 0 * 1 + 1; rw [(sum_index _).1]; omega
    | ⟨1, _⟩ =>
      show win0_16.index ⟨_, _⟩ 1 * 512 ≤ y.val ∧ y.val < win0_16.index ⟨_, _⟩ 1 * 512 + 512
      rw [(sum_index _).2]; dsimp only; omega
  refine ⟨(dats m 0 c).arrAt_eq_of_cover 16 _ (fun t hf => ?_) fun i => ?_, (dats m 0 c).arrAt_eq_of_cover 17 _ (fun t hf => ?_) fun i => ?_,
    (dats m 0 c).arrAt_eq_of_cover 18 _ (fun t hf => ?_) fun i => ?_⟩
  case refine_1 | refine_3 | refine_5 =>
    first | rw [flushed16] | rw [flushed17] | rw [flushed18]
    funext y
    rw [View.read_apply]
    obtain ⟨o, q, rfl⟩ : ∃ o q, y = ix2 o q := ⟨_, _, eq_ix2 y⟩
    obtain rfl : o = 0 := Subsingleton.elim _ _
    first
      | exact (outs_sums m c t ((flush0_16 t).mp hf) q).1.trans (place' _ t q _ rfl)
      | exact (outs_sums m c t ((flush0_17 t).mp hf) q).2.1.trans (place' _ t q _ rfl)
      | exact (outs_sums m c t ((flush0_18 t).mp hf) q).2.2.trans (place' _ t q _ rfl)
  all_goals
    obtain ⟨o, y, rfl⟩ : ∃ o y, i = ix2 o y := ⟨_, _, eq_ix2 i⟩
    obtain rfl : o = 0 := Subsingleton.elim _ _
    obtain ⟨t, hl, ht⟩ := cover y
  · exact ⟨t, (flush0_16 t).mpr hl, by
      show ix2 0 y ∈ ((View.whole main_v1_6).slice (win0_16.rect t)).set; rw [View.set_slice_whole, Rect.mem_set_unit]; exact ht⟩
  · exact ⟨t, (flush0_17 t).mpr hl, by
      show ix2 0 y ∈ ((View.whole main_v1_7).slice (win0_17.rect t)).set; rw [View.set_slice_whole, Rect.mem_set_unit]; exact ht⟩
  · exact ⟨t, (flush0_18 t).mpr hl, by
      show ix2 0 y ∈ ((View.whole main_v1_8).slice (win0_18.rect t)).set; rw [View.set_slice_whole, Rect.mem_set_unit]; exact ht⟩

end Cert.Kernel11Ideal.Merge

end
-- ==== Proof.MergeRef.lean ====
/- The gradient of the gated merge of three branches: the entries of the reference's nine results. -/
module

public import proofs.«01_k».proof.Proof.Gen.Reference11Ideal.Read
public import proofs.«01_k».proof.Proof.MergeArrays

@[expose] public section

set_option maxRecDepth 16384

noncomputable section

namespace Cert.Kernel11Ideal.Merge

open Cert.Reference11Ideal Cert.Reference11Ideal.Read Cert.Attn
open Idealize.ShloMosaic

variable (x0 : S4352x10880.Idx → EReal) (x1 : S6144.Idx → EReal) (x2 x3 x4 x5 : S4352x2048.Idx → EReal)

/-- The reference's gates. -/
theorem ref_gate (r : Fin 4352) (j : Fin 6144) :
    val_main_v9 (F := Ideal) x0 x1 (ix2 r j) = gate (at2 x0 r.val (4608 + j.val) + at1 x1 j.val) := by
  rw [at2_eq _ r.isLt (show 4608 + j.val < 10880 by omega), at1_eq _ j.isLt]
  unfold gate Cert.Kernel5Ideal.Swiglu.logistic
  pointwise [val_main_v9, val_main_v8, val_main_cst_0, val_main_v7, val_main_v6, val_main_cst, val_main_v5, val_main_v4, val_main_v3,
    val_main_v2, val_main_v1, val_main_v0]

/-- The gradients of the branches. -/
theorem ref_dy (r : Fin 4352) (q : Fin 2048) :
    val_main_v49 (F := Ideal) x0 x1 x5 (ix2 r q) = val_main_v9 (F := Ideal) x0 x1 (ix2 r ⟨q.val, by omega⟩) * x5 (ix2 r q)
    ∧ val_main_v50 (F := Ideal) x0 x1 x5 (ix2 r q) = val_main_v9 (F := Ideal) x0 x1 (ix2 r ⟨2048 + q.val, by omega⟩) * x5 (ix2 r q)
    ∧ val_main_v51 (F := Ideal) x0 x1 x5 (ix2 r q) = val_main_v9 (F := Ideal) x0 x1 (ix2 r ⟨4096 + q.val, by omega⟩) * x5 (ix2 r q) := by
  refine ⟨?_, ?_, ?_⟩
  · pointwise [val_main_v49, val_main_v36, val_main_v15, val_main_v14, val_main_v13, val_main_v25]
  · pointwise [val_main_v50, val_main_v31, val_main_v18, val_main_v17, val_main_v13, val_main_v25]
  · pointwise [val_main_v51, val_main_v27, val_main_v22, val_main_v21, val_main_v13, val_main_v26]

/-- The gradients of the gates, side by side. -/
theorem ref_dg (r : Fin 4352) (q : Fin 2048) :
    val_main_v41 (F := Ideal) x2 x3 x4 x5 (ix2 r ⟨q.val, by omega⟩) = x5 (ix2 r q) * x2 (ix2 r q)
    ∧ val_main_v41 (F := Ideal) x2 x3 x4 x5 (ix2 r ⟨2048 + q.val, by omega⟩) = x5 (ix2 r q) * x3 (ix2 r q)
    ∧ val_main_v41 (F := Ideal) x2 x3 x4 x5 (ix2 r ⟨4096 + q.val, by omega⟩) = x5 (ix2 r q) * x4 (ix2 r q) := by
  refine ⟨?_, ?_, ?_⟩
  all_goals
    pointwise [val_main_v41, val_main_v40, val_main_v39, val_main_v38, val_main_v37, val_main_v35, val_main_v34, val_main_v33, val_main_v32,
      val_main_v30, val_main_v29, val_main_v28, val_main_v25, val_main_v26, val_main_cst_2, val_main_cst_3, val_main_cst_4]
  · have e : q.val / 2048 = 0 := by omega
    simp [e, Nat.mod_eq_of_lt q.isLt]
  · have e : (2048 + q.val) / 2048 = 1 := by omega
    simp [e]
  · have e : (4096 + q.val) / 2048 = 2 := by omega
    simp [e]

/-- The gradients of the logits, side by side. -/
theorem ref_dlogit (r : Fin 4352) (j : Fin 6144) :
    val_main_v42 (F := Ideal) x0 x1 x2 x3 x4 x5 (ix2 r j) = val_main_v41 (F := Ideal) x2 x3 x4 x5 (ix2 r j)
      * (val_main_v9 (F := Ideal) x0 x1 (ix2 r j) * (1 - val_main_v9 (F := Ideal) x0 x1 (ix2 r j))) := by
  pointwise [val_main_v42, val_main_v12, val_main_v11, val_main_v10, val_main_cst_1]

theorem ref_dl (r : Fin 4352) (q : Fin 2048) :
    val_main_v52 (F := Ideal) x0 x1 x2 x3 x4 x5 (ix2 r q) = val_main_v42 (F := Ideal) x0 x1 x2 x3 x4 x5 (ix2 r ⟨q.val, by omega⟩)
    ∧ val_main_v53 (F := Ideal) x0 x1 x2 x3 x4 x5 (ix2 r q) = val_main_v42 (F := Ideal) x0 x1 x2 x3 x4 x5 (ix2 r ⟨2048 + q.val, by omega⟩)
    ∧ val_main_v54 (F := Ideal) x0 x1 x2 x3 x4 x5 (ix2 r q) = val_main_v42 (F := Ideal) x0 x1 x2 x3 x4 x5 (ix2 r ⟨4096 + q.val, by omega⟩) := by
  refine ⟨?_, ?_, ?_⟩
  · pointwise [val_main_v52, val_main_v46]
  · pointwise [val_main_v53, val_main_v47]
  · pointwise [val_main_v54, val_main_v48]

/-- The gradients of the biases. -/
theorem ref_db (q : Fin 2048) :
    val_main_v56 (F := Ideal) x0 x1 x2 x3 x4 x5 (ix2 0 q) = ∑ r : Fin 4352, val_main_v42 (F := Ideal) x0 x1 x2 x3 x4 x5 (ix2 r ⟨q.val, by omega⟩)
    ∧ val_main_v57 (F := Ideal) x0 x1 x2 x3 x4 x5 (ix2 0 q) = ∑ r : Fin 4352, val_main_v42 (F := Ideal) x0 x1 x2 x3 x4 x5 (ix2 r ⟨2048 + q.val, by omega⟩)
    ∧ val_main_v58 (F := Ideal) x0 x1 x2 x3 x4 x5 (ix2 0 q) = ∑ r : Fin 4352, val_main_v42 (F := Ideal) x0 x1 x2 x3 x4 x5 (ix2 r ⟨4096 + q.val, by omega⟩) := by
  refine ⟨?_, ?_, ?_⟩
  · pointwise [val_main_v56, val_main_v55, val_main_v45, val_main_v44, val_main_v43, val_main_cst_5, val_main_cst_6]
    exact Fin.sum_univ_one _
  · pointwise [val_main_v57, val_main_v55, val_main_v45, val_main_v44, val_main_v43, val_main_cst_5, val_main_cst_6]
    exact Fin.sum_univ_one _
  · pointwise [val_main_v58, val_main_v55, val_main_v45, val_main_v44, val_main_v43, val_main_cst_5, val_main_cst_6]
    exact Fin.sum_univ_one _

/-- The logits' gradients in terms of the arguments. -/
theorem ref_slopes (r : Fin 4352) (q : Fin 2048) :
    val_main_v42 (F := Ideal) x0 x1 x2 x3 x4 x5 (ix2 r ⟨q.val, by omega⟩)
      = slope (at2 x5 r.val q.val) (at2 x2 r.val q.val) (at2 x0 r.val (4608 + (0 * 2048 + q.val)) + at1 x1 (0 * 2048 + q.val))
    ∧ val_main_v42 (F := Ideal) x0 x1 x2 x3 x4 x5 (ix2 r ⟨2048 + q.val, by omega⟩)
      = slope (at2 x5 r.val q.val) (at2 x3 r.val q.val) (at2 x0 r.val (4608 + (1 * 2048 + q.val)) + at1 x1 (1 * 2048 + q.val))
    ∧ val_main_v42 (F := Ideal) x0 x1 x2 x3 x4 x5 (ix2 r ⟨4096 + q.val, by omega⟩)
      = slope (at2 x5 r.val q.val) (at2 x4 r.val q.val) (at2 x0 r.val (4608 + (2 * 2048 + q.val)) + at1 x1 (2 * 2048 + q.val)) := by
  obtain ⟨h0, h1, h2⟩ := ref_dg x2 x3 x4 x5 r q
  refine ⟨?_, ?_, ?_⟩
  · rw [ref_dlogit, h0, ref_gate, at2_eq x5 r.isLt q.isLt, at2_eq x2 r.isLt q.isLt, zero_mul, zero_add]
    exact (mul_assoc _ _ _).symm
  · rw [ref_dlogit, h1, ref_gate, at2_eq x5 r.isLt q.isLt, at2_eq x3 r.isLt q.isLt]
    exact (mul_assoc _ _ _).symm
  · rw [ref_dlogit, h2, ref_gate, at2_eq x5 r.isLt q.isLt, at2_eq x4 r.isLt q.isLt]
    exact (mul_assoc _ _ _).symm

open Cert.Kernel11Ideal.Gen Idealize.ShloMosaic.TcCoe

variable (m : (ℓ : Loc Cert.Kernel11Ideal.nD Cert.Kernel11Ideal.τ Cert.Kernel11Ideal.sig) → Buf (Elt Ideal) ℓ) (c : Dev Cert.Kernel11Ideal.nD)

/-- The branches' gradients are the reference's. -/
theorem dy_eq : dyArr m c (logit m c 0) = val_main_v49 (F := Ideal) (projA m c) (biasA m c) (dmA m c)
    ∧ dyArr m c (logit m c 1) = val_main_v50 (F := Ideal) (projA m c) (biasA m c) (dmA m c)
    ∧ dyArr m c (logit m c 2) = val_main_v51 (F := Ideal) (projA m c) (biasA m c) (dmA m c) := by
  refine ⟨?_, ?_, ?_⟩
  all_goals
    funext i
    obtain ⟨r, q, rfl⟩ : ∃ r q, i = ix2 r q := ⟨_, _, eq_ix2 i⟩
    obtain ⟨h0, h1, h2⟩ := ref_dy (projA m c) (biasA m c) (dmA m c) r q
  · rw [h0, ref_gate, mul_comm, ← at2_eq (dmA m c) r.isLt q.isLt]
    unfold dyArr logit
    rw [zero_mul, zero_add]
    rfl
  · rw [h1, ref_gate, mul_comm, ← at2_eq (dmA m c) r.isLt q.isLt]
    rfl
  · rw [h2, ref_gate, mul_comm, ← at2_eq (dmA m c) r.isLt q.isLt]
    rfl

/-- The logits' gradients are the reference's. -/
theorem dl_eq : dlArr m c (logit m c 0) (yaA m c) = val_main_v52 (F := Ideal) (projA m c) (biasA m c) (yaA m c) (ybA m c) (ycA m c) (dmA m c)
    ∧ dlArr m c (logit m c 1) (ybA m c) = val_main_v53 (F := Ideal) (projA m c) (biasA m c) (yaA m c) (ybA m c) (ycA m c) (dmA m c)
    ∧ dlArr m c (logit m c 2) (ycA m c) = val_main_v54 (F := Ideal) (projA m c) (biasA m c) (yaA m c) (ybA m c) (ycA m c) (dmA m c) := by
  refine ⟨?_, ?_, ?_⟩
  all_goals
    funext i
    obtain ⟨r, q, rfl⟩ : ∃ r q, i = ix2 r q := ⟨_, _, eq_ix2 i⟩
    obtain ⟨h0, h1, h2⟩ := ref_dl (projA m c) (biasA m c) (yaA m c) (ybA m c) (ycA m c) (dmA m c) r q
    obtain ⟨s0, s1, s2⟩ := ref_slopes (projA m c) (biasA m c) (yaA m c) (ybA m c) (ycA m c) (dmA m c) r q
  · exact (h0.trans s0).symm
  · exact (h1.trans s1).symm
  · exact (h2.trans s2).symm

/-- The biases' gradients are the reference's. -/
theorem db_eq : dbArr m c (logit m c 0) (yaA m c) = val_main_v56 (F := Ideal) (projA m c) (biasA m c) (yaA m c) (ybA m c) (ycA m c) (dmA m c)
    ∧ dbArr m c (logit m c 1) (ybA m c) = val_main_v57 (F := Ideal) (projA m c) (biasA m c) (yaA m c) (ybA m c) (ycA m c) (dmA m c)
    ∧ dbArr m c (logit m c 2) (ycA m c) = val_main_v58 (F := Ideal) (projA m c) (biasA m c) (yaA m c) (ybA m c) (ycA m c) (dmA m c) := by
  refine ⟨?_, ?_, ?_⟩
  all_goals
    funext i
    obtain ⟨o, q, rfl⟩ : ∃ o q, i = ix2 o q := ⟨_, _, eq_ix2 i⟩
    obtain rfl : o = 0 := Subsingleton.elim _ _
    obtain ⟨h0, h1, h2⟩ := ref_db (projA m c) (biasA m c) (yaA m c) (ybA m c) (ycA m c) (dmA m c) q
    have hs := fun r => ref_slopes (projA m c) (biasA m c) (yaA m c) (ybA m c) (ycA m c) (dmA m c) r q
  · exact (h0.trans (Finset.sum_congr rfl fun r _ => (hs r).1)).symm
  · exact (h1.trans (Finset.sum_congr rfl fun r _ => (hs r).2.1)).symm
  · exact (h2.trans (Finset.sum_congr rfl fun r _ => (hs r).2.2)).symm

end Cert.Kernel11Ideal.Merge

end
-- ==== Proof.NormPoint.lean ====
/- The gradient of the root-mean-square norm: what one point of the grid leaves in its output blocks. -/
module

public import proofs.«01_k».proof.Proof.Gen.Kernel12Ideal.Value
public import proofs.«01_k».proof.Proof.Products
public import proofs.«01_k».proof.Proof.Out

@[expose] public section

set_option maxRecDepth 16384

noncomputable section

namespace Cert.Kernel12Ideal.Norm

open Cert.Kernel12Ideal Cert.Kernel12Ideal.Gen Cert.Attn
open Idealize.ShloMosaic Idealize.ShloMosaic.TcCoe Idealize.SL.Sem
open Cert.KernelIdeal.Out (zero2)

/-- The number of columns and the norm's small constant, as the programs' words name them. -/
abbrev width : EReal := Ideal.ofBits .f32 1157627904#32
abbrev eps : EReal := Ideal.ofBits .f32 897988541#32

/-- The norm's factor of a row. -/
def factor (x : Fin 2048 → EReal) : EReal := Ideal.rsqrt (Ideal.div (∑ k, x k * x k) width + eps)

/-- A row's gradient at column `q`, with the gradient `s` that passes the norm by. -/
def grad (x g d : Fin 2048 → EReal) (s : EReal) (q : Fin 2048) : EReal :=
  factor x * (d q * g q) - x q * (factor x * factor x * factor x) * Ideal.div (∑ k, d k * g k * x k) width + s

section Entries

variable (x d s : Vec Ideal S256x2048 .f32) (g : Vec Ideal S1x2048 .f32) (p : Fin 256) (q : Fin 2048)

/-- The gradient that a point leaves, entry by entry. -/
theorem dx_apply : k0_pay3 x d g s (ix2 p q) = grad (fun k => x (ix2 p k)) (fun k => g (ix2 0 k)) (fun k => d (ix2 p k)) (s (ix2 p q)) q := by
  unfold grad factor
  pointwise [k0_pay3, k0_pay2]

/-- Its rounded copy has the same entries over the reals. -/
theorem dxb_apply : k0_pay4 x d g s (ix2 p q) = k0_pay3 x d g s (ix2 p q) := rfl

/-- A point's part of the weights' gradient. -/
theorem dg_apply : k0_pay5 x d (ix2 0 q) = ∑ p : Fin 256, d (ix2 p q) * x (ix2 p q) * factor (fun k => x (ix2 p k)) := by
  unfold factor
  pointwise [k0_pay5, k0_pay2]

end Entries

variable (m : (ℓ : Loc nD τ sig) → Buf (Elt Ideal) ℓ) (c : Dev nD)

/-- The first point leaves its rows' gradient, the gradient's copy and its part of the weights' gradient. -/
theorem outs_first (t : Fin cfg0.N) (h : t.val % 17 = 0) (h1 : ¬1 ≤ t.val) : outsAt0 m c t.val t.isLt =
    (k0_pay3 (iblk m c 0 t) (iblk m c 2 t) (iblk m c 1 t) (iblk m c 3 t), k0_pay4 (iblk m c 0 t) (iblk m c 2 t) (iblk m c 1 t) (iblk m c 3 t),
      k0_pay5 (iblk m c 0 t) (iblk m c 2 t)) := by
  rw [outsAt0_A m c t h h1]
  refine Prod.ext ?_ (Prod.ext ?_ ?_)
  all_goals dsimp only
  on_goal 1 => (unfold out0_A_4; rw [View.read_writes_eq_canon _ _ _ (fun y => cover0_A_4 (y := y) ..)])
  on_goal 2 => (unfold out0_A_5; rw [View.read_writes_eq_canon _ _ _ (fun y => cover0_A_5 (y := y) ..)])
  on_goal 3 => (unfold out0_A_6; rw [View.read_writes_eq_canon _ _ _ (fun y => cover0_A_6 (y := y) ..)])
  all_goals
    unfold kernelRun0_A
    dsimp only
    sl_unfold_words
    rw [View.canon_unit_zero zero2]
    simp only [View.readAt_eq_ld, (hs0_0 t).read_unread, (hs0_1 t).read_unread, (hs0_2 t).read_unread, (hs0_3 t).read_unread,
      View.ld_unit_zero (S := S256x2048) zero2, View.ld_unit_zero (S := S1x2048) zero2]
  all_goals rfl

/-- Every later point leaves its rows' gradients and adds its part of the weights' to what the point before left. -/
theorem outs_later (t : Fin cfg0.N) (h : ¬t.val % 17 = 0) (ht : t.val - 1 < cfg0.N) : outsAt0 m c t.val t.isLt =
    (k0_pay3 (iblk m c 0 t) (iblk m c 2 t) (iblk m c 1 t) (iblk m c 3 t), k0_pay4 (iblk m c 0 t) (iblk m c 2 t) (iblk m c 1 t) (iblk m c 3 t),
      k0_pay1 (k0_pay5 (iblk m c 0 t) (iblk m c 2 t)) (outsAt0 m c (t.val - 1) ht).2.2) := by
  rw [outsAt0_B m c t h (by omega)]
  generalize outsAt0 m c (t.val - 1) _ = prev
  refine Prod.ext ?_ (Prod.ext ?_ ?_)
  all_goals dsimp only
  on_goal 1 => (unfold out0_B_4; rw [View.read_writes_eq_canon _ _ _ (fun y => cover0_B_4 (y := y) ..)])
  on_goal 2 => (unfold out0_B_5; rw [View.read_writes_eq_canon _ _ _ (fun y => cover0_B_5 (y := y) ..)])
  on_goal 3 => (unfold out0_B_6; rw [View.read_writes_eq_canon _ _ _ (fun y => cover0_B_6 (y := y) ..)])
  all_goals
    unfold kernelRun0_B
    dsimp only
    sl_unfold_words
    rw [View.canon_unit_zero zero2]
    simp only [View.readAt_eq_ld, (hs0_0 t).read_unread, (hs0_1 t).read_unread, (hs0_2 t).read_unread, (hs0_3 t).read_unread, (hs0_6 t).read_unread,
      View.ld_unit_zero (S := S256x2048) zero2, View.ld_unit_zero (S := S1x2048) zero2]
  all_goals rfl

end Cert.Kernel12Ideal.Norm

end
-- ==== Proof.NormArrays.lean ====
/- The gradient of the root-mean-square norm: what the three arrays hold that the kernel writes. -/
module

public import proofs.«01_k».proof.Proof.NormPoint
public import proofs.«01_k».proof.Proof.Fold

@[expose] public section

set_option maxRecDepth 16384

noncomputable section

namespace Cert.Kernel12Ideal.Norm

open Cert.Kernel12Ideal Cert.Kernel12Ideal.Gen Cert.Kernel12Ideal.Value Cert.Attn Cert.Products
open Idealize.ShloMosaic Idealize.ShloMosaic.TcCoe Idealize.SL.Sem

variable (m : (ℓ : Loc nD τ sig) → Buf (Elt Ideal) ℓ) (c : Dev nD)

abbrev xA : S4352x2048.Idx → EReal := m ((c : Thread nD τ).loc main_arg0)
abbrev gA : S2048.Idx → EReal := m ((c : Thread nD τ).loc main_arg1)
abbrev dA : S4352x2048.Idx → EReal := m ((c : Thread nD τ).loc main_arg2)
abbrev sA : S4352x2048.Idx → EReal := m ((c : Thread nD τ).loc main_arg3)

theorem lt17 (t : Fin cfg0.N) : t.val < 17 := lt_of_lt_of_eq t.isLt (show cfg0.N = 17 from N_0)

theorem row_index : ∀ t : Fin grid0.N, win0_0.index t 0 = t.val ∧ win0_0.index t 1 = 0 := by decide +kernel

theorem one_index : ∀ t : Fin grid0.N, win0_1.index t 0 = 0 ∧ win0_1.index t 1 = 0 := by decide +kernel

theorem weight_apply (j : Fin 2048) : V m c main_v0 (ix2 0 j) = gA m c (ix1 j) := by
  have h : V m c main_v0 = broadcastInDim S1x2048 ![1] bcast_S2048_S1x2048_1 (gA m c) := by
    unfold V
    simp only [hostOps0, List.flatten_cons, List.flatten_nil, List.append_nil, List.cons_append, List.nil_append]
    after_results
  rw [h]
  generalize gA m c = a
  pointwise

/-- A position in an array of a block's entry. -/
theorem place {a x : ℕ} (h : a = x) (s p : ℕ) : a * s + 1 * p = x * s + p := by rw [h, one_mul]

theorem block_weight (t : Fin cfg0.N) (q : Fin 2048) : iblk m c 1 t (ix2 0 q) = gA m c (ix1 q) := by
  refine Eq.trans ?_ (weight_apply m c q)
  unfold iblk
  rw [View.read_apply]
  refine congrArg (V m c main_v0) (funext fun a => Fin.ext ?_)
  match a with
  | ⟨0, _⟩ => exact place (one_index t).1 1 0
  | ⟨1, _⟩ => exact (place (one_index t).2 2048 q.val).trans (show 0 * 2048 + q.val = q.val by omega)

theorem block_rows (t : Fin cfg0.N) (p : Fin 256) (q : Fin 2048) :
    iblk m c 0 t (ix2 p q) = at2 (xA m c) (t.val * 256 + p.val) q.val ∧ iblk m c 2 t (ix2 p q) = at2 (dA m c) (t.val * 256 + p.val) q.val
    ∧ iblk m c 3 t (ix2 p q) = at2 (sA m c) (t.val * 256 + p.val) q.val := by
  have h := lt17 t
  refine ⟨?_, ?_, ?_⟩
  all_goals
    rw [at2_eq _ (by omega) (by omega)]
    unfold iblk
    rw [View.read_apply]
  on_goal 1 =>
    show V m c main_arg0 _ = _
    rw [V_main_arg0]
  on_goal 2 =>
    show V m c main_arg2 _ = _
    rw [V_main_arg2]
  on_goal 3 =>
    show V m c main_arg3 _ = _
    rw [V_main_arg3]
  all_goals
    refine congrArg _ (funext fun a => Fin.ext ?_)
    match a with
    | ⟨0, _⟩ => exact place (row_index t).1 256 p.val
    | ⟨1, _⟩ => exact (place (row_index t).2 2048 q.val).trans (show 0 * 2048 + q.val = q.val by omega)

/-- The gradient of the norm's input. -/
def dxArr : S4352x2048.Idx → EReal := fun i =>
  grad (fun k => at2 (xA m c) (i 0).val k.val) (fun k => gA m c (ix1 k)) (fun k => at2 (dA m c) (i 0).val k.val)
    (at2 (sA m c) (i 0).val (i 1).val) (i 1)

/-- The gradient of the norm's weights: a sum over all rows. -/
def dgArr : S1x2048.Idx → EReal := fun i =>
  ∑ r : Fin 4352, at2 (dA m c) r.val (i 1).val * at2 (xA m c) r.val (i 1).val * factor (fun k => at2 (xA m c) r.val k.val)

/-- What every point leaves of the input's gradient. -/
theorem outs_rows (t : Fin cfg0.N) : ∃ s, outsAt0 m c t.val t.isLt =
    (k0_pay3 (iblk m c 0 t) (iblk m c 2 t) (iblk m c 1 t) (iblk m c 3 t), k0_pay4 (iblk m c 0 t) (iblk m c 2 t) (iblk m c 1 t) (iblk m c 3 t), s) := by
  have h17 := lt17 t
  by_cases h : t.val % 17 = 0
  · exact ⟨_, outs_first m c t h (by omega)⟩
  · exact ⟨_, outs_later m c t h (Nat.lt_of_le_of_lt (Nat.sub_le _ _) t.isLt)⟩

theorem row_index' (t : Fin grid0.N) : win0_0.index t = ![t.val, 0] := by
  funext a
  match a with
  | ⟨0, _⟩ => exact (row_index t).1
  | ⟨1, _⟩ => exact (row_index t).2

/-- Every place of an array of rows lies in a point's block. -/
theorem row_place (x : Fin 4352) (y : Fin 2048) : ∃ t : Fin cfg0.N, ∀ a : Fin 2,
    (![t.val, 0] : Fin 2 → ℕ) a * S256x2048.size a ≤ (ix2 x y a).val
      ∧ (ix2 x y a).val < (![t.val, 0] : Fin 2 → ℕ) a * S256x2048.size a + S256x2048.size a := by
  have hx := x.isLt
  have hy := y.isLt
  have hN : cfg0.N = 17 := N_0
  refine ⟨⟨x.val / 256, by omega⟩, fun a => ?_⟩
  match a with
  | ⟨0, _⟩ => show x.val / 256 * 256 ≤ x.val ∧ x.val < x.val / 256 * 256 + 256; omega
  | ⟨1, _⟩ => show 0 * 2048 ≤ y.val ∧ y.val < 0 * 2048 + 2048; omega

/-- An array at a place of a point's block. -/
theorem at_place (f : S4352x2048.Idx → EReal) (t : Fin cfg0.N) (p : Fin 256) (q : Fin 2048) (i : S4352x2048.Idx)
    (h0 : (i 0).val = win0_0.index t 0 * 256 + 1 * p.val) (h1 : (i 1).val = win0_0.index t 1 * 2048 + 1 * q.val) :
    f (ix2 ⟨t.val * 256 + p.val, by have := lt17 t; omega⟩ q) = f i :=
  congrArg f (funext fun a => Fin.ext (match a with
    | ⟨0, _⟩ => (h0.trans (place (row_index t).1 256 p.val)).symm
    | ⟨1, _⟩ => ((h1.trans (place (row_index t).2 2048 q.val)).trans (show 0 * 2048 + q.val = q.val by omega)).symm))

/-- The input's gradient and its copy. -/
theorem final_rows : (dats m 0 c).arrAt 4 cfg0.N = dxArr m c ∧ (dats m 0 c).arrAt 5 cfg0.N = dxArr m c := by
  refine ⟨(dats m 0 c).arrAt_eq_of_cover 4 _ (fun t _ => ?_) fun i => ?_, (dats m 0 c).arrAt_eq_of_cover 5 _ (fun t _ => ?_) fun i => ?_⟩
  case refine_1 | refine_3 =>
    obtain ⟨s, hs⟩ := outs_rows m c t
    first | rw [flushed4] | rw [flushed5]
    rw [hs]
    funext y
    rw [View.read_apply]
    obtain ⟨p, q, rfl⟩ : ∃ p q, y = ix2 p q := ⟨_, _, eq_ix2 y⟩
    rw [cast_eq]
    refine Eq.trans ?_ (at_place _ t p q _ ?_ ?_)
    rotate_left
    · rfl
    · rfl
    refine (dx_apply _ _ _ _ p q).trans ?_
    simp only [fun k => (block_rows m c t p k).1, fun k => (block_rows m c t p k).2.1, fun k => (block_rows m c t p k).2.2, block_weight]
    rfl
  all_goals
    obtain ⟨x, y, rfl⟩ : ∃ x y, i = ix2 x y := ⟨_, _, eq_ix2 i⟩
    obtain ⟨t, ht⟩ := row_place x y
    rw [← row_index' t] at ht
  · exact ⟨t, flush0_4 t, by
      show ix2 x y ∈ ((View.whole main_v1_0).slice (win0_4.rect t)).set; rw [View.set_slice_whole, Rect.mem_set_unit]; exact ht⟩
  · exact ⟨t, flush0_5 t, by
      show ix2 x y ∈ ((View.whole main_v1_1).slice (win0_5.rect t)).set; rw [View.set_slice_whole, Rect.mem_set_unit]; exact ht⟩

/-- After the last point the block of the weights' gradient holds the sums over all rows. -/
theorem outs_sums (t : Fin cfg0.N) (hl : t.val % 17 = 16) (q : Fin 2048) : (outsAt0 m c t.val t.isLt).2.2 (ix2 0 q) = dgArr m c (ix2 0 q) := by
  refine (run_sum (J := 17) (by decide) (fun n h => (outsAt0 m c n h).2.2) (fun n h => k0_pay5 (iblk m c 0 ⟨n, h⟩) (iblk m c 2 ⟨n, h⟩))
    (fun n h h0 => ?_) (fun n h h0 => ?_) t.val t.isLt (by omega) (fun s x => ∑ p : Fin 256,
      at2 (dA m c) (s * 256 + p.val) (x 1).val * at2 (xA m c) (s * 256 + p.val) (x 1).val * factor (fun k => at2 (xA m c) (s * 256 + p.val) k.val))
    (fun n h x hn => ?_) (ix2 0 q)).trans ?_
  · have h17 : n < 17 := lt17 ⟨n, h⟩
    rw [outs_first m c ⟨n, h⟩ h0 (show ¬1 ≤ n by omega)]
  · rw [outs_later m c ⟨n + 1, h⟩ h0 (Nat.lt_of_succ_lt h)]
    dsimp only
    unfold k0_pay1
    simp only [shapeCast_self]
    rfl
  · obtain ⟨o, q, rfl⟩ : ∃ o q, x = ix2 o q := ⟨_, _, eq_ix2 x⟩
    obtain rfl : o = 0 := Subsingleton.elim _ _
    have h17 : n < 17 := lt17 ⟨n, h⟩
    refine (dg_apply _ _ q).trans (Finset.sum_congr rfl fun p _ => ?_)
    simp only [fun k => (block_rows m c ⟨n, h⟩ p k).1, fun k => (block_rows m c ⟨n, h⟩ p k).2.1, Nat.mod_eq_of_lt h17]
    rfl
  · exact sum_blocks 17 256 4352 (by decide) fun r => at2 (dA m c) r q.val * at2 (xA m c) r q.val * factor (fun k => at2 (xA m c) r k.val)

/-- The weights' gradient. -/
theorem final_sum : (dats m 0 c).arrAt 6 cfg0.N = dgArr m c := by
  refine (dats m 0 c).arrAt_eq_of_cover 6 _ (fun t hf => ?_) fun i => ?_
  · rw [flushed6]
    funext y
    rw [View.read_apply]
    obtain ⟨o, q, rfl⟩ : ∃ o q, y = ix2 o q := ⟨_, _, eq_ix2 y⟩
    obtain rfl : o = 0 := Subsingleton.elim _ _
    rw [cast_eq]
    refine (outs_sums m c t ((flush0_6 t).mp hf) q).trans (congrArg (dgArr m c) (funext fun a => Fin.ext ?_))
    match a with
    | ⟨0, _⟩ => exact ((place (one_index t).1 1 0).trans rfl).symm
    | ⟨1, _⟩ => exact ((place (one_index t).2 2048 q.val).trans (show 0 * 2048 + q.val = q.val by omega)).symm
  · obtain ⟨o, y, rfl⟩ : ∃ o y, i = ix2 o y := ⟨_, _, eq_ix2 i⟩
    obtain rfl : o = 0 := Subsingleton.elim _ _
    have hN : cfg0.N = 17 := N_0
    have hy := y.isLt
    obtain ⟨t, ht⟩ : ∃ t : Fin cfg0.N, t.val = 16 := ⟨⟨16, by omega⟩, rfl⟩
    refine ⟨t, (flush0_6 t).mpr (by omega), ?_⟩
    show ix2 0 y ∈ ((View.whole main_v1_2).slice (win0_6.rect t)).set
    rw [View.set_slice_whole, Rect.mem_set_unit]
    intro a
    match a with
    | ⟨0, _⟩ => show win0_1.index t 0 * 1 ≤ 0 ∧ 0 < win0_1.index t 0 * 1 + 1; rw [(one_index t).1]; omega
    | ⟨1, _⟩ => show win0_1.index t 1 * 2048 ≤ y.val ∧ y.val < win0_1.index t 1 * 2048 + 2048; rw [(one_index t).2]; omega

end Cert.Kernel12Ideal.Norm

end
-- ==== Proof.NormRef.lean ====
/- The gradient of the root-mean-square norm: the derivative that the reference takes is the kernel's formula. -/
module

public import proofs.«01_k».proof.Proof.NormArrays
public import proofs.«01_k».proof.Proof.Gen.Reference12Ideal.Read

@[expose] public section

set_option maxRecDepth 16384

noncomputable section

namespace Cert.Kernel12Ideal.Norm

open Cert.Attn Cert.Products
open Cert.Reference12Ideal Cert.Reference12Ideal.Read
open Idealize.ShloMosaic Idealize.ShloMosaic.TcCoe

/-- A finite sum of real numbers is the same number among the extended reals. -/
theorem sum_real {n : ℕ} (f : Fin n → ℝ) : (∑ k, (f k : EReal)) = ((∑ k, f k : ℝ) : EReal) := by
  induction n with
  | zero => simp
  | succ n ih => rw [Fin.sum_univ_succ, Fin.sum_univ_succ, ih, EReal.coe_add]

/-- The factor one half with its sign, as the reference's word names it. -/
abbrev half : EReal := Ideal.ofBits .f32 3204448256#32

theorem width_real : width = ((2048 : ℝ) : EReal) := by
  norm_num [width, Ideal.ofBits, Ideal.ieee, BitVec.extractLsb', Nat.shiftRight_eq_div_pow]

theorem half_real : half = ((-(1 / 2) : ℝ) : EReal) := by
  norm_num [half, Ideal.ofBits, Ideal.ieee, BitVec.extractLsb', Nat.shiftRight_eq_div_pow]

theorem eps_real : ∃ e : ℝ, 0 < e ∧ eps = (e : EReal) := by
  simp only [eps, Ideal.ofBits, Ideal.ieee]
  norm_num [BitVec.extractLsb', Nat.shiftRight_eq_div_pow]

/-- What reaches a row through its factor: the derivative of the reciprocal root. -/
def back (x g d : Fin 2048 → EReal) : EReal :=
  Ideal.div ((∑ k, x k * (d k * g k)) * (half * Ideal.div (factor x) (Ideal.div (∑ k, x k * x k) width + eps))) width

/-- What reaches an entry of a real row through the row's factor, in the reference's form and in the kernel's; the sum `S` is any. -/
theorem back_eq {v : ℝ} (hv : 0 < v) (y : ℝ) (S : EReal) :
    (y : EReal) * Ideal.div (S * (half * Ideal.div ((√v)⁻¹ : ℝ) (v : EReal))) width
        + Ideal.div (S * (half * Ideal.div ((√v)⁻¹ : ℝ) (v : EReal))) width * (y : EReal)
      = -((y : EReal) * (((√v)⁻¹ : ℝ) * ((√v)⁻¹ : ℝ) * ((√v)⁻¹ : ℝ)) * Ideal.div S width) := by
  have h2 : (0 : ℝ) < 1 / 2048 := by norm_num
  have hr : (√v)⁻¹ * (√v)⁻¹ = 1 / v := by rw [← mul_inv, Real.mul_self_sqrt hv.le, one_div]
  have hr0 : 0 < (√v)⁻¹ := inv_pos.mpr (Real.sqrt_pos.mpr hv)
  rw [half_real, width_real, Ideal.div_coe hv.ne', Ideal.div_coe (by norm_num), Ideal.div_coe (by norm_num)]
  generalize (√v)⁻¹ = r at hr hr0
  have hn : -(1 / 2) * (r * (1 / v)) < 0 := by
    have : 0 < r * (1 / v) := by positivity
    linarith
  have hp : 0 < r * r * r := by positivity
  simp only [← EReal.coe_mul]
  induction S with
  | coe S =>
    simp only [← EReal.coe_mul, ← EReal.coe_add, ← EReal.coe_neg]
    rw [← hr]
    refine congrArg _ ?_
    ring
  | top =>
    rw [EReal.top_mul_coe_of_neg hn, EReal.bot_mul_coe_of_pos h2, EReal.top_mul_coe_of_pos h2]
    rcases lt_trichotomy y 0 with h | rfl | h
    · rw [EReal.coe_mul_bot_of_neg h, EReal.bot_mul_coe_of_neg h, EReal.coe_mul_top_of_neg (mul_neg_of_neg_of_pos h hp)]
      rfl
    · simp
    · rw [EReal.coe_mul_bot_of_pos h, EReal.bot_mul_coe_of_pos h, EReal.coe_mul_top_of_pos (mul_pos h hp)]
      rfl
  | bot =>
    rw [EReal.bot_mul_coe_of_neg hn, EReal.bot_mul_coe_of_pos h2, EReal.top_mul_coe_of_pos h2]
    rcases lt_trichotomy y 0 with h | rfl | h
    · rw [EReal.coe_mul_top_of_neg h, EReal.top_mul_coe_of_neg h, EReal.coe_mul_bot_of_neg (mul_neg_of_neg_of_pos h hp)]
      rfl
    · simp
    · rw [EReal.coe_mul_top_of_pos h, EReal.top_mul_coe_of_pos h, EReal.coe_mul_bot_of_pos (mul_pos h hp)]
      rfl

/-- A row with an infinite entry has an infinite sum of squares. -/
theorem squares_top {n : ℕ} (x : Fin n → EReal) (h : ¬∀ k, x k ≠ ⊤ ∧ x k ≠ ⊥) : ∑ k, x k * x k = ⊤ := by
  obtain ⟨k, hk⟩ := not_forall.mp h
  have hk : x k * x k = ⊤ := by
    by_cases ht : x k = ⊤
    · rw [ht]; rfl
    · have hb : x k = ⊥ := by by_contra hb; exact hk ⟨ht, hb⟩
      rw [hb]; rfl
  have h0 : ∀ y : EReal, 0 ≤ y * y := fun y => by
    induction y with
    | coe y => rw [← EReal.coe_mul]; exact_mod_cast mul_self_nonneg y
    | top => exact le_top
    | bot => exact le_top
  rw [← Finset.add_sum_erase _ _ (Finset.mem_univ k), hk]
  refine EReal.top_add_of_ne_bot fun hb => ?_
  have := Finset.sum_nonneg (s := Finset.univ.erase k) (f := fun k => x k * x k) fun i _ => h0 (x i)
  rw [hb] at this
  simp at this

/-- The two forms of a row's gradient are one number. -/
theorem grad_eq (x g d : Fin 2048 → EReal) (s : EReal) (q : Fin 2048) :
    d q * g q * factor x + x q * back x g d + back x g d * x q + s = grad x g d s q := by
  have hS : ∑ k, d k * g k * x k = ∑ k, x k * (d k * g k) := Finset.sum_congr rfl fun k _ => mul_comm _ _
  unfold grad back
  rw [hS]
  generalize ∑ k, x k * (d k * g k) = S
  refine congrArg (· + s) ?_
  rw [mul_comm (factor x) (d q * g q), add_assoc, sub_eq_add_neg]
  refine congrArg _ ?_
  obtain ⟨e, he, hε⟩ := eps_real
  by_cases h : ∀ k, x k ≠ ⊤ ∧ x k ≠ ⊥
  · obtain ⟨y, hy⟩ : ∃ y : Fin 2048 → ℝ, x = fun k => (y k : EReal) :=
      ⟨fun k => (x k).toReal, funext fun k => (EReal.coe_toReal (h k).1 (h k).2).symm⟩
    subst hy
    have hsq : 0 ≤ ∑ k, y k * y k := Finset.sum_nonneg fun k _ => mul_self_nonneg _
    have hv : 0 < (∑ k, y k * y k) * (1 / 2048) + e := by positivity
    have hm : Ideal.div (∑ k, (y k : EReal) * (y k : EReal)) width + eps = (((∑ k, y k * y k) * (1 / 2048) + e : ℝ) : EReal) := by
      simp only [← EReal.coe_mul, sum_real]
      rw [width_real, hε, Ideal.div_coe (by norm_num), ← EReal.coe_mul, ← EReal.coe_add]
    unfold factor
    simp only [hm]
    rw [Ideal.rsqrt_coe, if_neg (not_lt.mpr hv.le), if_neg hv.ne']
    exact back_eq hv (y q) S
  · have hm : Ideal.div (∑ k, x k * x k) width + eps = ⊤ := by
      rw [squares_top x h, width_real, Ideal.div_coe (by norm_num), EReal.top_mul_coe_of_pos (by norm_num), hε]
      rfl
    unfold factor
    rw [hm, show Ideal.rsqrt (⊤ : EReal) = 0 from rfl]
    have h0 : Ideal.div (0 : EReal) ⊤ = 0 := by simp [Ideal.div]
    have h1 : Ideal.div (0 : EReal) width = 0 := by rw [width_real, Ideal.div_coe (by norm_num), zero_mul]
    simp [h0, h1]

variable (x d s : S4352x2048.Idx → EReal) (g : S2048.Idx → EReal)

/-- The reference's gradient, entry by entry. -/
theorem ref_dx (r : Fin 4352) (q : Fin 2048) : val_main_v36 (F := Ideal) x g d s (ix2 r q) =
    d (ix2 r q) * g (ix1 q) * factor (fun k => x (ix2 r k))
      + x (ix2 r q) * back (fun k => x (ix2 r k)) (fun k => g (ix1 k)) (fun k => d (ix2 r k))
      + back (fun k => x (ix2 r k)) (fun k => g (ix1 k)) (fun k => d (ix2 r k)) * x (ix2 r q) + s (ix2 r q) := by
  have one : ∀ a : EReal, ∑ _ : Fin 1, a = a := fun a => Fin.sum_univ_one _
  unfold back factor
  rw [← one (Ideal.div (_ * _) _)]
  pointwise [val_main_v36, val_main_v35, val_main_v34, val_main_v33, val_main_v32, val_main_v31, val_main_v30, val_main_v29, val_main_v28, val_main_v27,
    val_main_v26, val_main_v25, val_main_v24, val_main_v23, val_main_v22, val_main_v20, val_main_v19, val_main_v13, val_main_v10, val_main_v9, val_main_v8, val_main_v7, val_main_v6,
    val_main_v5, val_main_v4, val_main_v3, val_main_v2, val_main_v1, val_main_v0, val_main_cst, val_main_cst_0, val_main_cst_1, val_main_cst_2, val_main_cst_5, val_main_cst_6, val_main_cst_7]

/-- The reference's gradient of the weights. -/
theorem ref_dg (q : Fin 2048) : val_main_v38 (F := Ideal) x d (ix2 0 q) =
    ∑ r : Fin 4352, x (ix2 r q) * factor (fun k => x (ix2 r k)) * d (ix2 r q) := by
  refine Eq.trans ?_ (Fin.sum_univ_one (fun _ : Fin 1 => ∑ r : Fin 4352, x (ix2 r q) * factor (fun k => x (ix2 r k)) * d (ix2 r q)))
  unfold factor
  pointwise [val_main_v38, val_main_v21, val_main_v18, val_main_v17, val_main_v16, val_main_v12, val_main_v11, val_main_v7, val_main_v6,
    val_main_v5, val_main_v4, val_main_v3, val_main_v2, val_main_v1, val_main_v0, val_main_cst, val_main_cst_0, val_main_cst_1, val_main_cst_3, val_main_cst_4]

open Cert.Kernel12Ideal.Gen Idealize.ShloMosaic.TcCoe

variable (m : (ℓ : Loc Cert.Kernel12Ideal.nD Cert.Kernel12Ideal.τ Cert.Kernel12Ideal.sig) → Buf (Elt Ideal) ℓ) (c : Dev Cert.Kernel12Ideal.nD)

/-- The input's gradient is the reference's. -/
theorem dx_eq : dxArr m c = val_main_v36 (F := Ideal) (xA m c) (gA m c) (dA m c) (sA m c) := by
  funext i
  obtain ⟨r, q, rfl⟩ : ∃ r q, i = ix2 r q := ⟨_, _, eq_ix2 i⟩
  rw [ref_dx]
  have ex : ∀ k : Fin 2048, at2 (xA m c) r.val k.val = xA m c (ix2 r k) := fun k => at2_eq (xA m c) r.isLt k.isLt
  have ed : ∀ k : Fin 2048, at2 (dA m c) r.val k.val = dA m c (ix2 r k) := fun k => at2_eq (dA m c) r.isLt k.isLt
  unfold dxArr
  show grad (fun k => at2 (xA m c) r.val k.val) (fun k => gA m c (ix1 k)) (fun k => at2 (dA m c) r.val k.val) (at2 (sA m c) r.val q.val) q = _
  simp only [ex, ed, at2_eq (sA m c) r.isLt q.isLt]
  exact (grad_eq _ _ _ _ q).symm

/-- The copy of the reference's gradient has the same entries over the reals. -/
theorem dxb_eq : val_main_v37 (F := Ideal) (xA m c) (gA m c) (dA m c) (sA m c) = val_main_v36 (F := Ideal) (xA m c) (gA m c) (dA m c) (sA m c) := rfl

/-- The weights' gradient is the reference's. -/
theorem dg_eq : dgArr m c = val_main_v38 (F := Ideal) (xA m c) (dA m c) := by
  funext i
  obtain ⟨o, q, rfl⟩ : ∃ o q, i = ix2 o q := ⟨_, _, eq_ix2 i⟩
  obtain rfl : o = 0 := Subsingleton.elim _ _
  rw [ref_dg]
  refine Finset.sum_congr rfl fun r _ => ?_
  have ex : ∀ k : Fin 2048, at2 (xA m c) r.val k.val = xA m c (ix2 r k) := fun k => at2_eq (xA m c) r.isLt k.isLt
  have ed : at2 (dA m c) r.val q.val = dA m c (ix2 r q) := at2_eq (dA m c) r.isLt q.isLt
  show at2 (dA m c) r.val q.val * at2 (xA m c) r.val q.val * factor (fun k => at2 (xA m c) r.val k.val) = _
  simp only [ex, ed]
  rw [mul_comm (dA m c _), mul_right_comm]

end Cert.Kernel12Ideal.Norm

end
-- ==== Proof.Finite.lean ====
/- What the preconditions say: the queries and the keys have no infinite entry; nor has the gradient that reaches a gate's silu. -/
module

public import proofs.«01_k».proof.Defs
public import Idealize.ShloMosaic.Lib.ReduceAll
public import Idealize.ShloMosaic.Lib.Affine

@[expose] public section

noncomputable section

namespace Cert.Attn

open Idealize.ShloMosaic

/-- An array whose absolute values are all below infinity has no infinite entry. -/
theorem finite_of_all {s : Shape} {axes : List (Fin s.rank)} (x : FVec Ideal s .bf16)
    (hb : (⟨0, ![]⟩ : Shape).BroadcastsInDim s (![] : Fin 0 → Fin s.rank)) (h : s.ReducesTo axes ⟨0, ![]⟩) (hu : 0 < (⟨0, ![]⟩ : Shape).numel)
    (j : (⟨0, ![]⟩ : Shape).Idx)
    (e : Host.reduce IntOp.andi (cmpf .olt (Host.absf x) (broadcastInDim s ![] hb (constant (F := Ideal) ⟨0, ![]⟩ .bf16 0x7F80#16)))
      (constantI ⟨0, ![]⟩ 1 1#1) h hu j = 1#1) (i : s.Idx) : x i ≠ (⊤ : EReal) ∧ x i ≠ (⊥ : EReal) := by
  haveI : Subsingleton (⟨0, ![]⟩ : Shape).Idx := ⟨fun a b => funext fun k => k.elim0⟩
  have hi := Host.reduce_andi_all _ _ h hu j e i
  have hlt : max (x i : EReal) (-(x i : EReal)) < Ideal.ofBits .bf16 0x7F80#16 := by
    by_contra hn
    have : Ideal.cmp .olt (max (x i : EReal) (-(x i : EReal))) (Ideal.ofBits .bf16 0x7F80#16) = 1#1 := hi
    simp [Ideal.cmp, hn] at this
  rw [show Ideal.ofBits .bf16 0x7F80#16 = (⊤ : EReal) by simp [Ideal.ofBits, Ideal.ieee]] at hlt
  refine ⟨fun h => ?_, fun h => ?_⟩ <;> rw [h] at hlt <;> simp at hlt

/-- The same of an array of float32. -/
theorem finite_of_all32 {s : Shape} {axes : List (Fin s.rank)} (x : FVec Ideal s .f32)
    (hb : (⟨0, ![]⟩ : Shape).BroadcastsInDim s (![] : Fin 0 → Fin s.rank)) (h : s.ReducesTo axes ⟨0, ![]⟩) (hu : 0 < (⟨0, ![]⟩ : Shape).numel)
    (j : (⟨0, ![]⟩ : Shape).Idx)
    (e : Host.reduce IntOp.andi (cmpf .olt (Host.absf x) (broadcastInDim s ![] hb (constant (F := Ideal) ⟨0, ![]⟩ .f32 0x7F800000#32)))
      (constantI ⟨0, ![]⟩ 1 1#1) h hu j = 1#1) (i : s.Idx) : x i ≠ (⊤ : EReal) ∧ x i ≠ (⊥ : EReal) := by
  haveI : Subsingleton (⟨0, ![]⟩ : Shape).Idx := ⟨fun a b => funext fun k => k.elim0⟩
  have hi := Host.reduce_andi_all _ _ h hu j e i
  have hlt : max (x i : EReal) (-(x i : EReal)) < Ideal.ofBits .f32 0x7F800000#32 := by
    by_contra hn
    have : Ideal.cmp .olt (max (x i : EReal) (-(x i : EReal))) (Ideal.ofBits .f32 0x7F800000#32) = 1#1 := hi
    simp [Ideal.cmp, hn] at this
  rw [show Ideal.ofBits .f32 0x7F800000#32 = (⊤ : EReal) by simp [Ideal.ofBits, Ideal.ieee]] at hlt
  refine ⟨fun h => ?_, fun h => ?_⟩ <;> rw [h] at hlt <;> simp at hlt

end Cert.Attn

namespace Cert.Pre_finite_scores

open Idealize.ShloMosaic

/-- The shapes of the precondition's operations fit. -/
theorem facts : Facts := ⟨by decide, by decide, by decide, by decide, by decide⟩

/-- The precondition, read. -/
theorem finite [Facts] (q : FVec Ideal S4352x1024 .bf16) (k v : FVec Ideal S4352x256 .bf16) (o : FVec Ideal S2x2064x1024 .bf16)
    (h : fn (F := Ideal) q k v o = fun _ => 1#1) :
    (∀ i, q i ≠ (⊤ : EReal) ∧ q i ≠ (⊥ : EReal)) ∧ ∀ i, k i ≠ (⊤ : EReal) ∧ k i ≠ (⊥ : EReal) := by
  obtain ⟨hq, hk⟩ := IntOp.andi_eq_one.1 (congrFun h fun a => a.elim0)
  exact ⟨Attn.finite_of_all q _ _ _ _ hq, Attn.finite_of_all k _ _ _ _ hk⟩

end Cert.Pre_finite_scores

namespace Cert.Pre_finite_scores2

open Idealize.ShloMosaic

/-- The shapes of the second precondition's operations fit. -/
theorem facts : Facts := ⟨by decide, by decide, by decide⟩

/-- The second precondition, read. -/
theorem finite [Facts] (q k : FVec Ideal S4352x1536 .bf16) (v : FVec Ideal S4352x1024 .bf16) (o : FVec Ideal S2x2064x1024 .bf16)
    (h : fn (F := Ideal) q k v o = fun _ => 1#1) :
    (∀ i, q i ≠ (⊤ : EReal) ∧ q i ≠ (⊥ : EReal)) ∧ ∀ i, k i ≠ (⊤ : EReal) ∧ k i ≠ (⊥ : EReal) := by
  obtain ⟨hq, hk⟩ := IntOp.andi_eq_one.1 (congrFun h fun a => a.elim0)
  exact ⟨Attn.finite_of_all q _ _ _ _ hq, Attn.finite_of_all k _ _ _ _ hk⟩

end Cert.Pre_finite_scores2

namespace Cert.Pre_finite_product

open Idealize.ShloMosaic

/-- The shapes of the third precondition's operations fit. -/
theorem facts : Facts := ⟨by decide, by decide, by decide, by decide⟩

/-- The third precondition, read. -/
theorem finite [Facts] (g u : FVec Ideal S4352x5632 .bf16) (d : FVec Ideal S4352x5632 .f32) (h : fn (F := Ideal) g u d = fun _ => 1#1) (i : S4352x5632.Idx) :
    (u i * d i : EReal) ≠ ⊤ ∧ (u i * d i : EReal) ≠ ⊥ := by
  have hx := Attn.finite_of_all32 _ _ _ _ _ (congrFun h fun a => a.elim0) i
  exact hx

end Cert.Pre_finite_product

namespace Cert.Pre_finite_scores22

open Idealize.ShloMosaic

/-- The shapes of the forward attention's precondition fit. -/
theorem facts : Facts := by constructor <;> decide

/-- That precondition, read. -/
theorem finite [Facts] (q : FVec Ideal S4352x1024 .bf16) (k : FVec Ideal S4352x256 .bf16) (v : FVec Ideal S4352x256 .bf16)
    (h : fn (F := Ideal) q k v = fun _ => 1#1) :
    (∀ i, q i ≠ (⊤ : EReal) ∧ q i ≠ (⊥ : EReal)) ∧ ∀ i, k i ≠ (⊤ : EReal) ∧ k i ≠ (⊥ : EReal) := by
  obtain ⟨hq, hk⟩ := IntOp.andi_eq_one.1 (congrFun h fun a => a.elim0)
  exact ⟨Attn.finite_of_all q _ _ _ _ hq, Attn.finite_of_all k _ _ _ _ hk⟩

end Cert.Pre_finite_scores22

namespace Cert.Pre_finite_scores23

open Idealize.ShloMosaic

/-- The shapes of the forward latent attention's precondition fit. -/
theorem facts : Facts := by constructor <;> decide

/-- That precondition, read. -/
theorem finite [Facts] (q : FVec Ideal S4352x1536 .bf16) (k : FVec Ideal S4352x1536 .bf16) (v : FVec Ideal S4352x1024 .bf16)
    (h : fn (F := Ideal) q k v = fun _ => 1#1) :
    (∀ i, q i ≠ (⊤ : EReal) ∧ q i ≠ (⊥ : EReal)) ∧ ∀ i, k i ≠ (⊤ : EReal) ∧ k i ≠ (⊥ : EReal) := by
  obtain ⟨hq, hk⟩ := IntOp.andi_eq_one.1 (congrFun h fun a => a.elim0)
  exact ⟨Attn.finite_of_all q _ _ _ _ hq, Attn.finite_of_all k _ _ _ _ hk⟩

end Cert.Pre_finite_scores23

namespace Cert.Pre_finite_weighted

open Idealize.ShloMosaic

/-- The shapes of the layer norm's precondition fit. -/
theorem facts : Facts := by constructor <;> decide

/-- That precondition, read: the weights and what comes back are finite. -/
theorem finite [Facts] (y : FVec Ideal S4352x1024 .f32) (g b : FVec Ideal S1024 .f32) (d : FVec Ideal S4352x1024 .f32)
    (h : fn (F := Ideal) y g b d = fun _ => 1#1) :
    (∀ i, g i ≠ (⊤ : EReal) ∧ g i ≠ (⊥ : EReal)) ∧ ∀ i, d i ≠ (⊤ : EReal) ∧ d i ≠ (⊥ : EReal) := by
  obtain ⟨hg, hd⟩ := IntOp.andi_eq_one.1 (congrFun h fun a => a.elim0)
  exact ⟨Attn.finite_of_all32 g _ _ _ _ hg, Attn.finite_of_all32 d _ _ _ _ hd⟩

end Cert.Pre_finite_weighted

end
-- ==== Proof.LayerPoint.lean ====
/- The gradient of the layer norm and of the silu behind it: what one point of the grid leaves in its output blocks. -/
module

public import proofs.«01_k».proof.Proof.Gen.Kernel24Ideal.Value
public import proofs.«01_k».proof.Proof.Products
public import proofs.«01_k».proof.Proof.Out
public import proofs.«01_k».proof.Proof.Swiglu

@[expose] public section

set_option maxRecDepth 16384

noncomputable section

namespace Cert.Kernel24Ideal.Layer

open Cert.Kernel24Ideal Cert.Kernel24Ideal.Gen Cert.Attn
open Idealize.ShloMosaic Idealize.ShloMosaic.TcCoe Idealize.SL.Sem
open Cert.KernelIdeal.Out (zero2)

/-- The number of columns and the norm's small constant, as the programs' words name them. -/
abbrev width : EReal := Ideal.ofBits .f32 1149239296#32
abbrev eps : EReal := Ideal.ofBits .f32 897988541#32

/-- The logistic function. -/
abbrev expit (g : EReal) : EReal := Cert.Kernel5Ideal.Swiglu.logistic g

/-- A row without its mean, … -/
def centred (x : Fin 1024 → EReal) (k : Fin 1024) : EReal := x k - Ideal.div (∑ j, x j) width

/-- … the norm's factor of the row, … -/
def factor (x : Fin 1024 → EReal) : EReal := Ideal.rsqrt (Ideal.div (∑ k, centred x k * centred x k) width + eps)

/-- … the normed row, … -/
def normed (x : Fin 1024 → EReal) (k : Fin 1024) : EReal := centred x k * factor x

/-- … the layer norm of it, … -/
def layer (x g b : Fin 1024 → EReal) (k : Fin 1024) : EReal := normed x k * g k + b k

/-- … what reaches it through the silu, … -/
def through (x g b d : Fin 1024 → EReal) (k : Fin 1024) : EReal :=
  d k * (expit (layer x g b k) * (1 + layer x g b k * (1 - expit (layer x g b k))))

/-- … and the gradient of the row. -/
def grad (x g b d : Fin 1024 → EReal) (q : Fin 1024) : EReal :=
  factor x * (through x g b d q * g q - Ideal.div (∑ k, through x g b d k * g k) width
    - normed x q * Ideal.div (∑ k, through x g b d k * g k * normed x k) width)

section Entries

variable (x d : Vec Ideal S272x1024 .f32) (g b : Vec Ideal S1x1024 .f32) (p : Fin 272) (q : Fin 1024)

/-- What reaches the layer norm, entry by entry. -/
theorem through_apply : k0_pay9 x g b d (ix2 p q) =
    through (fun k => x (ix2 p k)) (fun k => g (ix2 0 k)) (fun k => b (ix2 0 k)) (fun k => d (ix2 p k)) q := by
  unfold through layer normed factor centred expit Cert.Kernel5Ideal.Swiglu.logistic
  simp only [← zero_sub (Ideal.div _ _), ← zero_sub (_ + _)]
  pointwise [k0_pay9, k0_pay8, k0_pay7, k0_pay6]

/-- The normed block. -/
theorem normed_apply : k0_pay8 x (ix2 p q) = normed (fun k => x (ix2 p k)) q := by
  unfold normed factor centred
  pointwise [k0_pay8, k0_pay7, k0_pay6]

/-- The rows' factors. -/
theorem factor_apply : k0_pay7 x (ix2 p 0) = factor (fun k => x (ix2 p k)) := by
  unfold factor centred
  pointwise [k0_pay7, k0_pay6]

/-- The gradient that a point leaves, from the parts above. -/
theorem dx_parts (r : FVec Ideal S272x1 .f32) (n e : FVec Ideal S272x1024 .f32) : k0_pay1 r n e g (ix2 p q) =
    r (ix2 p 0) * (e (ix2 p q) * g (ix2 0 q) - Ideal.div (∑ k, e (ix2 p k) * g (ix2 0 k)) width
      - n (ix2 p q) * Ideal.div (∑ k, e (ix2 p k) * g (ix2 0 k) * n (ix2 p k)) width) := by
  pointwise [k0_pay1]

/-- The gradient that a point leaves, entry by entry. -/
theorem dx_apply : k0_pay1 (k0_pay7 x) (k0_pay8 x) (k0_pay9 x g b d) g (ix2 p q) =
    grad (fun k => x (ix2 p k)) (fun k => g (ix2 0 k)) (fun k => b (ix2 0 k)) (fun k => d (ix2 p k)) q := by
  rw [dx_parts]
  simp only [through_apply, normed_apply, factor_apply]
  rfl

/-- A point's part of the weights' gradient … -/
theorem dg_apply : k0_pay2 (k0_pay8 x) (k0_pay9 x g b d) (ix2 0 q) = ∑ p : Fin 272,
    through (fun k => x (ix2 p k)) (fun k => g (ix2 0 k)) (fun k => b (ix2 0 k)) (fun k => d (ix2 p k)) q * normed (fun k => x (ix2 p k)) q := by
  simp only [← through_apply, ← normed_apply]
  generalize k0_pay8 x = n
  generalize k0_pay9 x g b d = e
  pointwise [k0_pay2]

/-- … and of the biases'. -/
theorem db_apply : k0_pay3 (k0_pay9 x g b d) (ix2 0 q) = ∑ p : Fin 272,
    through (fun k => x (ix2 p k)) (fun k => g (ix2 0 k)) (fun k => b (ix2 0 k)) (fun k => d (ix2 p k)) q := by
  simp only [← through_apply]
  generalize k0_pay9 x g b d = e
  pointwise [k0_pay3]

end Entries

variable (m : (ℓ : Loc nD τ sig) → Buf (Elt Ideal) ℓ) (c : Dev nD)

/-- A point's normed rows and what reaches them. -/
abbrev rowsN (t : Fin cfg0.N) : FVec Ideal S272x1024 .f32 := k0_pay8 (iblk m c 0 t)
abbrev rowsE (t : Fin cfg0.N) : FVec Ideal S272x1024 .f32 := k0_pay9 (iblk m c 0 t) (iblk m c 1 t) (iblk m c 2 t) (iblk m c 3 t)

/-- The gradient of a point's rows. -/
abbrev rowsX (t : Fin cfg0.N) : FVec Ideal S272x1024 .f32 := k0_pay1 (k0_pay7 (iblk m c 0 t)) (rowsN m c t) (rowsE m c t) (iblk m c 1 t)

/-- The first point leaves its rows' gradient and its parts of the weights' and biases' gradients. -/
theorem outs_first (t : Fin cfg0.N) (h : t.val % 16 = 0) (h1 : ¬1 ≤ t.val) : outsAt0 m c t.val t.isLt =
    (rowsX m c t, k0_pay2 (rowsN m c t) (rowsE m c t), k0_pay3 (rowsE m c t)) := by
  rw [outsAt0_A m c t h h1]
  refine Prod.ext ?_ (Prod.ext ?_ ?_)
  all_goals dsimp only
  on_goal 1 => (unfold out0_A_4; rw [View.read_writes_eq_canon _ _ _ (fun y => cover0_A_4 (y := y) ..)])
  on_goal 2 => (unfold out0_A_5; rw [View.read_writes_eq_canon _ _ _ (fun y => cover0_A_5 (y := y) ..)])
  on_goal 3 => (unfold out0_A_6; rw [View.read_writes_eq_canon _ _ _ (fun y => cover0_A_6 (y := y) ..)])
  all_goals
    unfold kernelRun0_A
    dsimp only
    sl_unfold_words
    rw [View.canon_unit_zero zero2]
    simp only [View.readAt_eq_ld, (hs0_0 t).read_unread, (hs0_1 t).read_unread, (hs0_2 t).read_unread, (hs0_3 t).read_unread,
      View.ld_unit_zero (S := S272x1024) zero2, View.ld_unit_zero (S := S1x1024) zero2]
  all_goals rfl

/-- Every later point leaves its rows' gradient and adds its parts to what the point before left. -/
theorem outs_later (t : Fin cfg0.N) (h : ¬t.val % 16 = 0) (ht : t.val - 1 < cfg0.N) : outsAt0 m c t.val t.isLt =
    (rowsX m c t, k0_pay4 (rowsN m c t) (rowsE m c t) (outsAt0 m c (t.val - 1) ht).2.1, k0_pay5 (rowsE m c t) (outsAt0 m c (t.val - 1) ht).2.2) := by
  rw [outsAt0_B m c t h (by omega)]
  generalize outsAt0 m c (t.val - 1) _ = prev
  refine Prod.ext ?_ (Prod.ext ?_ ?_)
  all_goals dsimp only
  on_goal 1 => (unfold out0_B_4; rw [View.read_writes_eq_canon _ _ _ (fun y => cover0_B_4 (y := y) ..)])
  on_goal 2 => (unfold out0_B_5; rw [View.read_writes_eq_canon _ _ _ (fun y => cover0_B_5 (y := y) ..)])
  on_goal 3 => (unfold out0_B_6; rw [View.read_writes_eq_canon _ _ _ (fun y => cover0_B_6 (y := y) ..)])
  all_goals
    unfold kernelRun0_B
    dsimp only
    sl_unfold_words
    rw [View.canon_unit_zero zero2]
    simp only [View.readAt_eq_ld, (hs0_0 t).read_unread, (hs0_1 t).read_unread, (hs0_2 t).read_unread, (hs0_3 t).read_unread,
      (hs0_5 t).read_unread, (hs0_6 t).read_unread, View.ld_unit_zero (S := S272x1024) zero2, View.ld_unit_zero (S := S1x1024) zero2]
  all_goals rfl

end Cert.Kernel24Ideal.Layer

end
-- ==== Proof.LayerArrays.lean ====
/- The gradient of the layer norm and of the silu behind it: what the three arrays hold that the kernel writes. -/
module

public import proofs.«01_k».proof.Proof.LayerPoint
public import proofs.«01_k».proof.Proof.Fold

@[expose] public section

set_option maxRecDepth 16384

noncomputable section

namespace Cert.Kernel24Ideal.Layer

open Cert.Kernel24Ideal Cert.Kernel24Ideal.Gen Cert.Kernel24Ideal.Value Cert.Attn Cert.Products
open Idealize.ShloMosaic Idealize.ShloMosaic.TcCoe Idealize.SL.Sem

variable (m : (ℓ : Loc nD τ sig) → Buf (Elt Ideal) ℓ) (c : Dev nD)

abbrev xA : S4352x1024.Idx → EReal := m ((c : Thread nD τ).loc main_arg0)
abbrev gA : S1024.Idx → EReal := m ((c : Thread nD τ).loc main_arg1)
abbrev bA : S1024.Idx → EReal := m ((c : Thread nD τ).loc main_arg2)
abbrev dA : S4352x1024.Idx → EReal := m ((c : Thread nD τ).loc main_arg3)

/-- Rows of the arrays, by number. -/
abbrev xR (r : ℕ) (k : Fin 1024) : EReal := at2 (xA m c) r k.val
abbrev dR (r : ℕ) (k : Fin 1024) : EReal := at2 (dA m c) r k.val
abbrev gR (k : Fin 1024) : EReal := gA m c (ix1 k)
abbrev bR (k : Fin 1024) : EReal := bA m c (ix1 k)

theorem lt16 (t : Fin cfg0.N) : t.val < 16 := lt_of_lt_of_eq t.isLt (show cfg0.N = 16 from N_0)

theorem row_index : ∀ t : Fin grid0.N, win0_0.index t 0 = t.val ∧ win0_0.index t 1 = 0 := by decide +kernel

theorem one_index : ∀ t : Fin grid0.N, win0_1.index t 0 = 0 ∧ win0_1.index t 1 = 0 := by decide +kernel

/-- The weights and the biases that the host hands to the kernel as rows. -/
theorem hosted (j : Fin 1024) : V m c main_v0 (ix2 0 j) = gR m c j ∧ V m c main_v1 (ix2 0 j) = bR m c j := by
  have hg : V m c main_v0 = broadcastInDim S1x1024 ![1] bcast_S1024_S1x1024_1 (gA m c) := by
    unfold V
    simp only [hostOps0, List.flatten_cons, List.flatten_nil, List.append_nil, List.cons_append, List.nil_append]
    after_results
  have hb : V m c main_v1 = broadcastInDim S1x1024 ![1] bcast_S1024_S1x1024_1 (bA m c) := by
    unfold V
    simp only [hostOps0, List.flatten_cons, List.flatten_nil, List.append_nil, List.cons_append, List.nil_append]
    after_results
  rw [hg, hb]
  unfold gR bR
  generalize gA m c = a
  generalize bA m c = b
  constructor <;> pointwise

/-- A position in an array of a block's entry. -/
theorem place {a x : ℕ} (h : a = x) (s p : ℕ) : a * s + 1 * p = x * s + p := by rw [h, one_mul]

theorem block_one (t : Fin cfg0.N) (q : Fin 1024) : iblk m c 1 t (ix2 0 q) = gR m c q ∧ iblk m c 2 t (ix2 0 q) = bR m c q := by
  refine ⟨Eq.trans ?_ (hosted m c q).1, Eq.trans ?_ (hosted m c q).2⟩
  all_goals
    unfold iblk
    rw [View.read_apply]
    refine congrArg (V m c _) (funext fun a => Fin.ext ?_)
    match a with
    | ⟨0, _⟩ => exact place (one_index t).1 1 0
    | ⟨1, _⟩ => exact (place (one_index t).2 1024 q.val).trans (show 0 * 1024 + q.val = q.val by omega)

theorem block_rows (t : Fin cfg0.N) (p : Fin 272) (q : Fin 1024) :
    iblk m c 0 t (ix2 p q) = xR m c (t.val * 272 + p.val) q ∧ iblk m c 3 t (ix2 p q) = dR m c (t.val * 272 + p.val) q := by
  have h := lt16 t
  refine ⟨?_, ?_⟩
  all_goals
    first | unfold xR | unfold dR
    rw [at2_eq _ (by omega) (by omega)]
    unfold iblk
    rw [View.read_apply]
  on_goal 1 =>
    show V m c main_arg0 _ = _
    rw [V_main_arg0]
  on_goal 2 =>
    show V m c main_arg3 _ = _
    rw [V_main_arg3]
  all_goals
    refine congrArg _ (funext fun a => Fin.ext ?_)
    match a with
    | ⟨0, _⟩ => exact place (row_index t).1 272 p.val
    | ⟨1, _⟩ => exact (place (row_index t).2 1024 q.val).trans (show 0 * 1024 + q.val = q.val by omega)

/-- The gradient of the norm's input. -/
def dxArr : S4352x1024.Idx → EReal := fun i => grad (xR m c (i 0).val) (gR m c) (bR m c) (dR m c (i 0).val) (i 1)

/-- The gradients of the norm's weights and of its biases: sums over all rows. -/
def dgArr : S1x1024.Idx → EReal := fun i =>
  ∑ r : Fin 4352, through (xR m c r.val) (gR m c) (bR m c) (dR m c r.val) (i 1) * normed (xR m c r.val) (i 1)
def dbArr : S1x1024.Idx → EReal := fun i => ∑ r : Fin 4352, through (xR m c r.val) (gR m c) (bR m c) (dR m c r.val) (i 1)

/-- What every point leaves of the input's gradient. -/
theorem outs_rows (t : Fin cfg0.N) : (outsAt0 m c t.val t.isLt).1 = rowsX m c t := by
  have h16 := lt16 t
  by_cases h : t.val % 16 = 0
  · rw [outs_first m c t h (by omega)]
  · rw [outs_later m c t h (Nat.lt_of_le_of_lt (Nat.sub_le _ _) t.isLt)]

theorem row_index' (t : Fin grid0.N) : win0_0.index t = ![t.val, 0] := by
  funext a
  match a with
  | ⟨0, _⟩ => exact (row_index t).1
  | ⟨1, _⟩ => exact (row_index t).2

/-- Every place of an array of rows lies in a point's block. -/
theorem row_place (x : Fin 4352) (y : Fin 1024) : ∃ t : Fin cfg0.N, ∀ a : Fin 2,
    (![t.val, 0] : Fin 2 → ℕ) a * S272x1024.size a ≤ (ix2 x y a).val
      ∧ (ix2 x y a).val < (![t.val, 0] : Fin 2 → ℕ) a * S272x1024.size a + S272x1024.size a := by
  have hx := x.isLt
  have hy := y.isLt
  have hN : cfg0.N = 16 := N_0
  refine ⟨⟨x.val / 272, by omega⟩, fun a => ?_⟩
  match a with
  | ⟨0, _⟩ => show x.val / 272 * 272 ≤ x.val ∧ x.val < x.val / 272 * 272 + 272; omega
  | ⟨1, _⟩ => show 0 * 1024 ≤ y.val ∧ y.val < 0 * 1024 + 1024; omega

/-- An array at a place of a point's block. -/
theorem at_place (f : S4352x1024.Idx → EReal) (t : Fin cfg0.N) (p : Fin 272) (q : Fin 1024) (i : S4352x1024.Idx)
    (h0 : (i 0).val = win0_0.index t 0 * 272 + 1 * p.val) (h1 : (i 1).val = win0_0.index t 1 * 1024 + 1 * q.val) :
    f (ix2 ⟨t.val * 272 + p.val, by have := lt16 t; omega⟩ q) = f i :=
  congrArg f (funext fun a => Fin.ext (match a with
    | ⟨0, _⟩ => (h0.trans (place (row_index t).1 272 p.val)).symm
    | ⟨1, _⟩ => ((h1.trans (place (row_index t).2 1024 q.val)).trans (show 0 * 1024 + q.val = q.val by omega)).symm))

/-- The input's gradient. -/
theorem final_rows : (dats m 0 c).arrAt 4 cfg0.N = dxArr m c := by
  refine (dats m 0 c).arrAt_eq_of_cover 4 _ (fun t _ => ?_) fun i => ?_
  · rw [flushed4, outs_rows]
    funext y
    rw [View.read_apply]
    obtain ⟨p, q, rfl⟩ : ∃ p q, y = ix2 p q := ⟨_, _, eq_ix2 y⟩
    rw [cast_eq]
    refine Eq.trans ?_ (at_place _ t p q _ ?_ ?_)
    rotate_left
    · rfl
    · rfl
    refine (dx_apply _ _ _ _ p q).trans ?_
    simp only [fun k => (block_rows m c t p k).1, fun k => (block_rows m c t p k).2, fun k => (block_one m c t k).1, fun k => (block_one m c t k).2]
    rfl
  · obtain ⟨x, y, rfl⟩ : ∃ x y, i = ix2 x y := ⟨_, _, eq_ix2 i⟩
    obtain ⟨t, ht⟩ := row_place x y
    rw [← row_index' t] at ht
    exact ⟨t, flush0_4 t, by
      show ix2 x y ∈ ((View.whole main_v2_0).slice (win0_4.rect t)).set; rw [View.set_slice_whole, Rect.mem_set_unit]; exact ht⟩

/-- After the last point the blocks of the weights' and the biases' gradients hold the sums over all rows. -/
theorem outs_dg (t : Fin cfg0.N) (hl : t.val % 16 = 15) (q : Fin 1024) : (outsAt0 m c t.val t.isLt).2.1 (ix2 0 q) = dgArr m c (ix2 0 q) := by
  refine (run_sum (J := 16) (by decide) (fun n h => (outsAt0 m c n h).2.1) (fun n h => k0_pay2 (rowsN m c ⟨n, h⟩) (rowsE m c ⟨n, h⟩))
    (fun n h h0 => ?_) (fun n h h0 => ?_) t.val t.isLt (by omega) (fun s x => ∑ p : Fin 272,
      through (xR m c (s * 272 + p.val)) (gR m c) (bR m c) (dR m c (s * 272 + p.val)) (x 1) * normed (xR m c (s * 272 + p.val)) (x 1))
    (fun n h x hn => ?_) (ix2 0 q)).trans ?_
  · have h16 : n < 16 := lt16 ⟨n, h⟩
    rw [outs_first m c ⟨n, h⟩ h0 (show ¬1 ≤ n by omega)]
  · rw [outs_later m c ⟨n + 1, h⟩ h0 (Nat.lt_of_succ_lt h)]
    dsimp only
    unfold k0_pay4
    simp only [shapeCast_self]
    rfl
  · obtain ⟨o, q, rfl⟩ : ∃ o q, x = ix2 o q := ⟨_, _, eq_ix2 x⟩
    obtain rfl : o = 0 := Subsingleton.elim _ _
    have h16 : n < 16 := lt16 ⟨n, h⟩
    refine (dg_apply _ _ _ _ q).trans (Finset.sum_congr rfl fun p _ => ?_)
    simp only [fun k => (block_rows m c ⟨n, h⟩ p k).1, fun k => (block_rows m c ⟨n, h⟩ p k).2, fun k => (block_one m c ⟨n, h⟩ k).1,
      fun k => (block_one m c ⟨n, h⟩ k).2, Nat.mod_eq_of_lt h16]
    rfl
  · exact sum_blocks 16 272 4352 (by decide) fun r => through (xR m c r) (gR m c) (bR m c) (dR m c r) q * normed (xR m c r) q

theorem outs_db (t : Fin cfg0.N) (hl : t.val % 16 = 15) (q : Fin 1024) : (outsAt0 m c t.val t.isLt).2.2 (ix2 0 q) = dbArr m c (ix2 0 q) := by
  refine (run_sum (J := 16) (by decide) (fun n h => (outsAt0 m c n h).2.2) (fun n h => k0_pay3 (rowsE m c ⟨n, h⟩))
    (fun n h h0 => ?_) (fun n h h0 => ?_) t.val t.isLt (by omega) (fun s x => ∑ p : Fin 272,
      through (xR m c (s * 272 + p.val)) (gR m c) (bR m c) (dR m c (s * 272 + p.val)) (x 1))
    (fun n h x hn => ?_) (ix2 0 q)).trans ?_
  · have h16 : n < 16 := lt16 ⟨n, h⟩
    rw [outs_first m c ⟨n, h⟩ h0 (show ¬1 ≤ n by omega)]
  · rw [outs_later m c ⟨n + 1, h⟩ h0 (Nat.lt_of_succ_lt h)]
    dsimp only
    unfold k0_pay5
    simp only [shapeCast_self]
    rfl
  · obtain ⟨o, q, rfl⟩ : ∃ o q, x = ix2 o q := ⟨_, _, eq_ix2 x⟩
    obtain rfl : o = 0 := Subsingleton.elim _ _
    have h16 : n < 16 := lt16 ⟨n, h⟩
    refine (db_apply _ _ _ _ q).trans (Finset.sum_congr rfl fun p _ => ?_)
    simp only [fun k => (block_rows m c ⟨n, h⟩ p k).1, fun k => (block_rows m c ⟨n, h⟩ p k).2, fun k => (block_one m c ⟨n, h⟩ k).1,
      fun k => (block_one m c ⟨n, h⟩ k).2, Nat.mod_eq_of_lt h16]
    rfl
  · exact sum_blocks 16 272 4352 (by decide) fun r => through (xR m c r) (gR m c) (bR m c) (dR m c r) q

/-- A row's place lies in the one block of it. -/
theorem one_place (t : Fin cfg0.N) (y : Fin 1024) (a : Fin 2) : win0_1.index t a * S1x1024.size a ≤ (ix2 (0 : Fin 1) y a).val
    ∧ (ix2 (0 : Fin 1) y a).val < win0_1.index t a * S1x1024.size a + S1x1024.size a := by
  have hy := y.isLt
  match a with
  | ⟨0, _⟩ => show win0_1.index t 0 * 1 ≤ 0 ∧ 0 < win0_1.index t 0 * 1 + 1; rw [(one_index t).1]; omega
  | ⟨1, _⟩ => show win0_1.index t 1 * 1024 ≤ y.val ∧ y.val < win0_1.index t 1 * 1024 + 1024; rw [(one_index t).2]; omega

/-- The weights' and the biases' gradients. -/
theorem final_sums : (dats m 0 c).arrAt 5 cfg0.N = dgArr m c ∧ (dats m 0 c).arrAt 6 cfg0.N = dbArr m c := by
  have hN : cfg0.N = 16 := N_0
  obtain ⟨t, ht⟩ : ∃ t : Fin cfg0.N, t.val = 15 := ⟨⟨15, by omega⟩, rfl⟩
  refine ⟨(dats m 0 c).arrAt_eq_of_cover 5 _ (fun t hf => ?_) fun i => ?_, (dats m 0 c).arrAt_eq_of_cover 6 _ (fun t hf => ?_) fun i => ?_⟩
  case refine_1 | refine_3 =>
    first | rw [flushed5] | rw [flushed6]
    funext y
    rw [View.read_apply]
    obtain ⟨o, q, rfl⟩ : ∃ o q, y = ix2 o q := ⟨_, _, eq_ix2 y⟩
    obtain rfl : o = 0 := Subsingleton.elim _ _
    rw [cast_eq]
    first
      | refine (outs_dg m c t ((flush0_5 t).mp hf) q).trans (congrArg (dgArr m c) (funext fun a => Fin.ext ?_))
      | refine (outs_db m c t ((flush0_6 t).mp hf) q).trans (congrArg (dbArr m c) (funext fun a => Fin.ext ?_))
    match a with
    | ⟨0, _⟩ => exact ((place (one_index t).1 1 0).trans rfl).symm
    | ⟨1, _⟩ => exact ((place (one_index t).2 1024 q.val).trans (show 0 * 1024 + q.val = q.val by omega)).symm
  all_goals
    obtain ⟨o, y, rfl⟩ : ∃ o y, i = ix2 o y := ⟨_, _, eq_ix2 i⟩
    obtain rfl : o = 0 := Subsingleton.elim _ _
  · refine ⟨t, (flush0_5 t).mpr (by omega), ?_⟩
    show ix2 0 y ∈ ((View.whole main_v2_1).slice (win0_5.rect t)).set
    rw [View.set_slice_whole, Rect.mem_set_unit]
    exact one_place t y
  · refine ⟨t, (flush0_6 t).mpr (by omega), ?_⟩
    show ix2 0 y ∈ ((View.whole main_v2_2).slice (win0_6.rect t)).set
    rw [View.set_slice_whole, Rect.mem_set_unit]
    exact one_place t y

end Cert.Kernel24Ideal.Layer

end
-- ==== Proof.LayerRef.lean ====
/- The gradient of the layer norm and of the silu behind it: the derivative that the reference takes is the kernel's formula. -/
module

public import proofs.«01_k».proof.Proof.LayerArrays
public import proofs.«01_k».proof.Proof.NormRef
public import proofs.«01_k».proof.Proof.Gen.Reference24Ideal.Read

@[expose] public section

set_option maxRecDepth 16384

noncomputable section

namespace Cert.Kernel24Ideal.Layer

open Cert.Attn Cert.Products
open Cert.Reference24Ideal Cert.Reference24Ideal.Read
open Idealize.ShloMosaic Idealize.ShloMosaic.TcCoe
open Cert.Kernel12Ideal.Norm (sum_real squares_top half half_real eps_real)

theorem width_real : width = ((1024 : ℝ) : EReal) := by
  norm_num [width, Ideal.ofBits, Ideal.ieee, BitVec.extractLsb', Nat.shiftRight_eq_div_pow]

/-- What the derivative of the silu sends back, as the reference has it. -/
def sent (x g b d : Fin 1024 → EReal) (k : Fin 1024) : EReal :=
  d k * expit (layer x g b k) + layer x g b k * d k * (expit (layer x g b k) * (1 - expit (layer x g b k)))

theorem sent_eq (x g b d : Fin 1024 → EReal) (hd : ∀ k, d k ≠ ⊤ ∧ d k ≠ ⊥) : sent x g b d = through x g b d :=
  funext fun k => (Cert.Kernel5Ideal.Swiglu.silu_grad _ _ (hd k)).symm

/-- A finite gradient comes through the silu finite, whatever the layer norm is. -/
theorem through_real (x g b d : Fin 1024 → EReal) (hd : ∀ k, d k ≠ ⊤ ∧ d k ≠ ⊥) (k : Fin 1024) : ∃ e : ℝ, through x g b d k = e := by
  unfold through
  obtain ⟨y, hy⟩ : ∃ y : ℝ, d k = y := ⟨(d k).toReal, (EReal.coe_toReal (hd k).1 (hd k).2).symm⟩
  rw [hy]
  generalize layer x g b k = l
  unfold expit
  induction l with
  | bot => exact ⟨0, by simp [Cert.Kernel5Ideal.Swiglu.logistic_bot]⟩
  | top =>
    have : (1 : EReal) - 1 = 0 := EReal.sub_self (by decide) (by decide)
    exact ⟨y, by simp [Cert.Kernel5Ideal.Swiglu.logistic_top, this]⟩
  | coe l =>
    obtain ⟨s, hs⟩ := Cert.Kernel5Ideal.Swiglu.logistic_coe l
    exact ⟨y * (s * (1 + l * (1 - s))), by rw [hs]; norm_cast⟩

/-- What reaches a row through its factor. -/
def back (x t : Fin 1024 → EReal) : EReal :=
  Ideal.div ((∑ k, centred x k * t k) * (half * Ideal.div (factor x) (Ideal.div (∑ k, centred x k * centred x k) width + eps))) width

/-- What reaches the centred row. -/
def inner (x t : Fin 1024 → EReal) (q : Fin 1024) : EReal := t q * factor x + centred x q * back x t + back x t * centred x q

/-- The two forms of a real row's gradient, the numbers `c` being the centred row, `t` what reaches the normed row, `r` the factor. -/
theorem real_eq (c t : Fin 1024 → ℝ) (hc : ∑ k, c k = 0) (r w : ℝ) (q : Fin 1024) (B : ℝ)
    (hB : B = (∑ k, c k * t k) * (-(1 / 2) * (r * (r * r))) * w) :
    t q * r + c q * B + B * c q + (∑ k, -(t k * r + c k * B + B * c k)) * w
      = r * (t q - (∑ k, t k) * w - c q * r * ((∑ k, t k * (c k * r)) * w)) := by
  have h1 : ∑ k, t k * (c k * r) = (∑ k, c k * t k) * r := by
    rw [Finset.sum_mul]
    exact Finset.sum_congr rfl fun k _ => by ring
  have h2 : ∑ k, -(t k * r + c k * B + B * c k) = -((∑ k, t k) * r) := by
    rw [Finset.sum_neg_distrib, Finset.sum_add_distrib, Finset.sum_add_distrib, ← Finset.sum_mul, ← Finset.sum_mul, ← Finset.mul_sum, hc]
    ring
  rw [h1, h2, hB]
  ring

/-- The two forms of a row's gradient are one number, of a finite gradient and finite weights. -/
theorem grad_eq (x g b d : Fin 1024 → EReal) (hg : ∀ k, g k ≠ ⊤ ∧ g k ≠ ⊥) (hd : ∀ k, d k ≠ ⊤ ∧ d k ≠ ⊥) (q : Fin 1024) :
    inner x (fun k => sent x g b d k * g k) q + Ideal.div (∑ k, -inner x (fun k => sent x g b d k * g k) k) width = grad x g b d q := by
  rw [sent_eq x g b d hd]
  unfold grad normed
  obtain ⟨e, he⟩ : ∃ e : Fin 1024 → ℝ, ∀ k, through x g b d k = e k :=
    ⟨fun k => (through_real x g b d hd k).choose, fun k => (through_real x g b d hd k).choose_spec⟩
  obtain ⟨w, hw⟩ : ∃ w : Fin 1024 → ℝ, ∀ k, g k = w k := ⟨fun k => (g k).toReal, fun k => (EReal.coe_toReal (hg k).1 (hg k).2).symm⟩
  simp only [he, hw, ← EReal.coe_mul]
  generalize hT : (fun k => e k * w k) = t
  have ht : ∀ k, e k * w k = t k := fun k => congrFun hT k
  simp only [ht]
  obtain ⟨ε, hε0, hε⟩ := eps_real
  have hε : eps = (ε : EReal) := hε
  have hn : (1024 : ℝ) ≠ 0 := by norm_num
  by_cases h : ∀ k, x k ≠ ⊤ ∧ x k ≠ ⊥
  · obtain ⟨y, hy⟩ : ∃ y : Fin 1024 → ℝ, x = fun k => (y k : EReal) :=
      ⟨fun k => (x k).toReal, funext fun k => (EReal.coe_toReal (h k).1 (h k).2).symm⟩
    subst hy
    set μ : ℝ := (∑ k, y k) * (1 / 1024) with hμ
    have hcen : ∀ k, centred (fun k => (y k : EReal)) k = ((y k - μ : ℝ) : EReal) := fun k => by
      unfold centred
      rw [sum_real, width_real, Ideal.div_coe hn, ← EReal.coe_mul, ← EReal.coe_sub]
    have hc0 : ∑ k, (y k - μ) = 0 := by
      rw [Finset.sum_sub_distrib, Finset.sum_const, Finset.card_univ, Fintype.card_fin, hμ, nsmul_eq_mul]
      push_cast
      ring
    generalize hC : (fun k => y k - μ) = cc
    have hcc : ∀ k, y k - μ = cc k := fun k => congrFun hC k
    simp only [hcc] at hcen hc0
    have hv : 0 < (∑ k, cc k * cc k) * (1 / 1024) + ε := by
      have : 0 ≤ ∑ k, cc k * cc k := Finset.sum_nonneg fun k _ => mul_self_nonneg _
      positivity
    have hm : Ideal.div (∑ k, centred (fun k => (y k : EReal)) k * centred (fun k => (y k : EReal)) k) width + eps
        = (((∑ k, cc k * cc k) * (1 / 1024) + ε : ℝ) : EReal) := by
      simp only [hcen, ← EReal.coe_mul, sum_real]
      rw [width_real, hε, Ideal.div_coe hn, ← EReal.coe_mul, ← EReal.coe_add]
    generalize (∑ k, cc k * cc k) * (1 / 1024) + ε = v at hv hm
    have hf : factor (fun k => (y k : EReal)) = (((√v)⁻¹ : ℝ) : EReal) := by
      unfold factor
      rw [hm, Ideal.rsqrt_coe, if_neg (not_lt.mpr hv.le), if_neg hv.ne']
    have hr : (√v)⁻¹ * (√v)⁻¹ = 1 / v := by rw [← mul_inv, Real.mul_self_sqrt hv.le, one_div]
    simp only [hcen] at hm
    unfold inner back
    simp only [hcen, hm, hf]
    generalize (√v)⁻¹ = r at hr
    rw [half_real, width_real]
    simp only [Ideal.div_coe hn, Ideal.div_coe hv.ne', ← EReal.coe_mul, ← EReal.coe_add, ← EReal.coe_neg, ← EReal.coe_sub, sum_real, ← hr]
    exact congrArg _ (real_eq cc t hc0 r (1 / 1024) q _ rfl)
  · have hcent : ¬∀ k, centred x k ≠ ⊤ ∧ centred x k ≠ ⊥ := fun hall => h fun k => by
      have := hall k
      unfold centred at this
      generalize Ideal.div _ _ = μ at this
      constructor
      · intro hk
        rw [hk] at this
        induction μ with
        | bot => exact this.1 rfl
        | top => exact this.2 rfl
        | coe μ => exact this.1 rfl
      · intro hk
        rw [hk] at this
        exact this.2 (by rw [sub_eq_add_neg, EReal.bot_add])
    have hm : Ideal.div (∑ k, centred x k * centred x k) width + eps = ⊤ := by
      rw [squares_top _ hcent, width_real, Ideal.div_coe hn, EReal.top_mul_coe_of_pos (by norm_num), hε]
      rfl
    have hf : factor x = 0 := by
      unfold factor
      rw [hm]
      rfl
    have h0 : Ideal.div (0 : EReal) ⊤ = 0 := by simp [Ideal.div]
    have h1 : Ideal.div (0 : EReal) width = 0 := by rw [width_real, Ideal.div_coe hn, zero_mul]
    unfold inner back
    simp [hm, hf, h0, h1]

variable (x d : S4352x1024.Idx → EReal) (g b : S1024.Idx → EReal)

/-- A row of an array. -/
abbrev row (a : S4352x1024.Idx → EReal) (r : Fin 4352) (k : Fin 1024) : EReal := a (ix2 r k)
/-- The entries of a vector. -/
abbrev vec (a : S1024.Idx → EReal) (k : Fin 1024) : EReal := a (ix1 k)

theorem ref_centred (r : Fin 4352) (q : Fin 1024) : val_main_v5 (F := Ideal) x (ix2 r q) = centred (row x r) q := by
  unfold centred
  pointwise [val_main_v5, val_main_v4, val_main_v3, val_main_v2, val_main_v1, val_main_v0, val_main_cst, val_main_cst_0]

/-- The mean of the centred row's squares, with the small constant. -/
theorem ref_square (r : Fin 4352) : val_main_v12 (F := Ideal) x (ix2 r 0) =
    Ideal.div (∑ k, centred (row x r) k * centred (row x r) k) width + eps := by
  simp only [← ref_centred]
  unfold val_main_v12 val_main_v10 val_main_v8 val_main_v7 val_main_v6
  generalize val_main_v5 (F := Ideal) x = cx
  pointwise [val_main_v11, val_main_v9, val_main_cst_1, val_main_cst_2, val_main_cst_3]

theorem ref_factor (r : Fin 4352) : val_main_v13 (F := Ideal) x (ix2 r 0) = factor (row x r) := by
  unfold factor
  rw [← ref_square]
  rfl

theorem ref_normed (r : Fin 4352) (q : Fin 1024) : val_main_v18 (F := Ideal) x (ix2 r q) = normed (row x r) q := by
  unfold normed
  rw [← ref_centred, ← ref_factor]
  unfold val_main_v18 val_main_v17
  generalize val_main_v13 (F := Ideal) x = f
  generalize val_main_v5 (F := Ideal) x = cx
  pointwise

theorem ref_layer (r : Fin 4352) (q : Fin 1024) : val_main_v24 (F := Ideal) x g b (ix2 r q) = layer (row x r) (vec g) (vec b) q := by
  unfold layer
  rw [← ref_normed]
  unfold val_main_v24 val_main_v21
  generalize val_main_v18 (F := Ideal) x = n
  pointwise [val_main_v23, val_main_v22, val_main_v20, val_main_v19]

/-- What comes back through the silu. -/
theorem ref_sent (r : Fin 4352) (q : Fin 1024) : val_main_v26 (F := Ideal) x g b d (ix2 r q) = sent (row x r) (vec g) (vec b) (row d r) q := by
  unfold sent
  simp only [← ref_layer]
  unfold val_main_v26 val_main_call1_v2 val_main_call1_v1 val_main_call1_v0 val_main_v25_1 val_main_call0_v7 val_main_v25_2 val_main_call0_v3
    val_main_call0_v1 val_main_call0_v0 row expit Cert.Kernel5Ideal.Swiglu.logistic
  generalize val_main_v24 (F := Ideal) x g b = l
  pointwise [val_main_call0_v6, val_main_call0_cst_1, val_main_call0_v4, val_main_call0_cst_0, val_main_call0_v2, val_main_call0_cst]

/-- What reaches the normed rows. -/
theorem ref_scaled (r : Fin 4352) (q : Fin 1024) : val_main_v34 (F := Ideal) x g b d (ix2 r q) =
    sent (row x r) (vec g) (vec b) (row d r) q * vec g q := by
  rw [← ref_sent]
  unfold val_main_v34
  generalize val_main_v26 (F := Ideal) x g b d = e
  pointwise [val_main_v33, val_main_v19]

/-- What reaches a row through its factor. -/
theorem ref_back (r : Fin 4352) : val_main_v43 (F := Ideal) x g b d (ix2 r 0) =
    back (row x r) (fun k => sent (row x r) (vec g) (vec b) (row d r) k * vec g k) := by
  unfold back
  rw [← ref_square, ← ref_factor]
  simp only [← ref_scaled, ← ref_centred]
  unfold val_main_v43 val_main_v41 val_main_v38 val_main_v37 val_main_v36 val_main_v16 val_main_v14
  generalize val_main_v34 (F := Ideal) x g b d = t
  generalize val_main_v5 (F := Ideal) x = cx
  generalize val_main_v13 (F := Ideal) x = f
  generalize val_main_v12 (F := Ideal) x = v
  pointwise [val_main_v42, val_main_v15, val_main_cst_4, val_main_cst_9, val_main_cst_10]

/-- What reaches the centred rows. -/
theorem ref_inner (r : Fin 4352) (q : Fin 1024) : val_main_v49 (F := Ideal) x g b d (ix2 r q) =
    inner (row x r) (fun k => sent (row x r) (vec g) (vec b) (row d r) k * vec g k) q := by
  have one : ∀ a : EReal, ∑ _ : Fin 1, a = a := fun a => Fin.sum_univ_one _
  unfold inner
  rw [← ref_back, ← one (val_main_v43 (F := Ideal) x g b d (ix2 r 0))]
  simp only [← ref_scaled, ← ref_centred, ← ref_factor]
  unfold val_main_v49 val_main_v48 val_main_v47 val_main_v46 val_main_v45 val_main_v44 val_main_v40 val_main_v39
  generalize val_main_v43 (F := Ideal) x g b d = u
  generalize val_main_v34 (F := Ideal) x g b d = t
  generalize val_main_v5 (F := Ideal) x = cx
  generalize val_main_v13 (F := Ideal) x = f
  have only : ∀ a : Fin 1 → EReal, ∑ k, a k = ∑ _ : Fin 1, a 0 := fun a => by rw [Fin.sum_univ_one, Fin.sum_univ_one]
  pointwise [val_main_cst_11]
  simp only [only fun k => u (ix2 r k)]

/-- The reference's gradient of the rows. -/
theorem ref_dx (r : Fin 4352) (q : Fin 1024) : val_main_v57 (F := Ideal) x g b d (ix2 r q) =
    inner (row x r) (fun k => sent (row x r) (vec g) (vec b) (row d r) k * vec g k) q
      + Ideal.div (∑ k, -inner (row x r) (fun k => sent (row x r) (vec g) (vec b) (row d r) k * vec g k) k) width := by
  have one : ∀ a : EReal, ∑ _ : Fin 1, a = a := fun a => Fin.sum_univ_one _
  rw [← one (Ideal.div _ _)]
  simp only [← ref_inner]
  unfold val_main_v57 val_main_v56 val_main_v55 val_main_v54 val_main_v52 val_main_v51 val_main_v50
  generalize val_main_v49 (F := Ideal) x g b d = u
  pointwise [val_main_v53, val_main_cst_12, val_main_cst_13, val_main_cst_14]

/-- The reference's gradients of the weights and of the biases. -/
theorem ref_dg (q : Fin 1024) : val_main_v58 (F := Ideal) x g b d (ix2 0 q) =
    ∑ r : Fin 4352, normed (row x r) q * sent (row x r) (vec g) (vec b) (row d r) q := by
  simp only [← ref_normed, ← ref_sent]
  unfold val_main_v58 val_main_v35 val_main_v32 val_main_v31 val_main_v30
  generalize val_main_v18 (F := Ideal) x = n
  generalize val_main_v26 (F := Ideal) x g b d = e
  refine Eq.trans ?_ (Fin.sum_univ_one (fun _ : Fin 1 => ∑ r : Fin 4352, n (ix2 r q) * e (ix2 r q)))
  pointwise [val_main_cst_7, val_main_cst_8]

theorem ref_db (q : Fin 1024) : val_main_v59 (F := Ideal) x g b d (ix2 0 q) = ∑ r : Fin 4352, sent (row x r) (vec g) (vec b) (row d r) q := by
  simp only [← ref_sent]
  unfold val_main_v59 val_main_v29 val_main_v28 val_main_v27
  generalize val_main_v26 (F := Ideal) x g b d = e
  refine Eq.trans ?_ (Fin.sum_univ_one (fun _ : Fin 1 => ∑ r : Fin 4352, e (ix2 r q)))
  pointwise [val_main_cst_5, val_main_cst_6]

open Cert.Kernel24Ideal.Gen Idealize.ShloMosaic.TcCoe

variable (m : (ℓ : Loc Cert.Kernel24Ideal.nD Cert.Kernel24Ideal.τ Cert.Kernel24Ideal.sig) → Buf (Elt Ideal) ℓ) (c : Dev Cert.Kernel24Ideal.nD)

/-- Rows by number are rows. -/
theorem rows_eq (r : Fin 4352) : xR m c r.val = row (xA m c) r ∧ dR m c r.val = row (dA m c) r :=
  ⟨funext fun k => at2_eq (xA m c) r.isLt k.isLt, funext fun k => at2_eq (dA m c) r.isLt k.isLt⟩

variable (hg : ∀ k, gA m c k ≠ ⊤ ∧ gA m c k ≠ ⊥) (hd : ∀ i, dA m c i ≠ ⊤ ∧ dA m c i ≠ ⊥)
include hg hd

/-- The input's gradient is the reference's. -/
theorem dx_eq : dxArr m c = val_main_v57 (F := Ideal) (xA m c) (gA m c) (bA m c) (dA m c) := by
  funext i
  obtain ⟨r, q, rfl⟩ : ∃ r q, i = ix2 r q := ⟨_, _, eq_ix2 i⟩
  rw [ref_dx]
  unfold dxArr
  show grad (xR m c r.val) (gR m c) (bR m c) (dR m c r.val) q = _
  rw [(rows_eq m c r).1, (rows_eq m c r).2]
  exact (grad_eq _ _ _ _ (fun k => hg (ix1 k)) (fun k => hd (ix2 r k)) q).symm

omit hg

/-- The weights' gradient is the reference's. -/
theorem dg_eq : dgArr m c = val_main_v58 (F := Ideal) (xA m c) (gA m c) (bA m c) (dA m c) := by
  funext i
  obtain ⟨o, q, rfl⟩ : ∃ o q, i = ix2 o q := ⟨_, _, eq_ix2 i⟩
  obtain rfl : o = 0 := Subsingleton.elim _ _
  rw [ref_dg]
  refine Finset.sum_congr rfl fun r _ => ?_
  show through (xR m c r.val) (gR m c) (bR m c) (dR m c r.val) q * normed (xR m c r.val) q = _
  rw [(rows_eq m c r).1, (rows_eq m c r).2, sent_eq _ _ _ _ (fun k => hd (ix2 r k)), mul_comm]

/-- The biases' gradient is the reference's. -/
theorem db_eq : dbArr m c = val_main_v59 (F := Ideal) (xA m c) (gA m c) (bA m c) (dA m c) := by
  funext i
  obtain ⟨o, q, rfl⟩ : ∃ o q, i = ix2 o q := ⟨_, _, eq_ix2 i⟩
  obtain rfl : o = 0 := Subsingleton.elim _ _
  rw [ref_db]
  refine Finset.sum_congr rfl fun r _ => ?_
  show through (xR m c r.val) (gR m c) (bR m c) (dR m c r.val) q = _
  rw [(rows_eq m c r).1, (rows_eq m c r).2, sent_eq _ _ _ _ (fun k => hd (ix2 r k))]

end Cert.Kernel24Ideal.Layer

end
-- ==== Proof.ConvInput.lean ====
/- The gradient that the convolution branch's output projection sends back, `dy wᵀ`: the kernel's array, summed over four
   shards of the weights in the result itself, is the reference's. -/
module

public import proofs.«01_k».proof.Proof.Gen.Kernel25Ideal.Value
public import proofs.«01_k».proof.Proof.Gen.Reference25Ideal.Read
public import proofs.«01_k».proof.Proof.Products
public import proofs.«01_k».proof.Proof.Fold
public import proofs.«01_k».proof.Proof.Out

@[expose] public section

set_option maxRecDepth 16384

noncomputable section

namespace Cert.Kernel25Ideal.Product

open Cert.Kernel25Ideal Cert.Kernel25Ideal.Gen Cert.Kernel25Ideal.Value Cert.Attn Cert.Products
open Idealize.ShloMosaic Idealize.ShloMosaic.TcCoe Idealize.SL.Sem
open Cert.KernelIdeal.Out (zero2)

/-- What a point's blocks add to the result, entry by entry. -/
theorem pay_apply (x : Vec Ideal S1088x512 .bf16) (w : Vec Ideal S1x1024x512 .bf16) (p : Fin 1088) (q : Fin 1024) :
    k0_pay1 x w (ix2 p q) = ∑ k : Fin 512, x (ix2 p k) * w (ix3 0 q k) := by
  pointwise [k0_pay1]

section Terms

variable (x : Vec Ideal S1088x512 .bf16) (w : Vec Ideal S1x1024x512 .bf16) (acc : Vec Ideal S1088x1024 .f32)
  (c : Dev nD) (i : grid0.Coords) (a3 : Memref sig .tc .vmem S1088x512 .bf16) (h3 : a3.IsWhole)
  (a4 : Memref sig .tc .vmem S1x1024x512 .bf16) (h4 : a4.IsWhole) (a5 : Memref sig .tc .vmem S1088x1024 .f32) (h5 : a5.IsWhole)

theorem first (hc0 : cond0_0 i) (hc1 : ¬cond0_1 i) (hc2 : ¬cond0_2 i) :
    out0_A_2 c i a3 h3 a4 h4 a5 h5 hc0 hc1 hc2 x w = k0_pay1 x w := by
  unfold out0_A_2
  rw [View.read_writes_eq_canon _ _ _ (cover0_A_2 c i a3 h3 a4 h4 a5 h5 hc0 hc1 hc2 x w)]
  unfold kernelRun0_A
  dsimp only
  sl_unfold_words
  rw [View.canon_unit_zero zero2]
  simp only [View.readAt_eq_ld, h3.read_unread, h4.read_unread, View.ld_unit_zero (S := S1088x512) zero2,
    View.ld_unit_zero (S := S1x1024x512) zero3]

theorem middle (hc0 : ¬cond0_0 i) (hc1 : cond0_1 i) (hc2 : ¬cond0_2 i) :
    out0_B_2 c i a3 h3 a4 h4 a5 h5 hc0 hc1 hc2 x w acc = addf acc (k0_pay1 x w) := by
  unfold out0_B_2
  rw [View.read_writes_eq_canon _ _ _ (cover0_B_2 c i a3 h3 a4 h4 a5 h5 hc0 hc1 hc2 x w acc)]
  unfold kernelRun0_B
  dsimp only
  sl_unfold_words
  rw [View.canon_unit_zero zero2]
  unfold k0_pay2
  simp only [View.readAt_eq_ld, h3.read_unread, h4.read_unread, h5.read_unread, View.ld_unit_zero (S := S1088x512) zero2,
    View.ld_unit_zero (S := S1x1024x512) zero3, View.ld_unit_zero (S := S1088x1024) zero2, shapeCast_self]

theorem last (hc0 : ¬cond0_0 i) (hc1 : ¬cond0_1 i) (hc2 : cond0_2 i) :
    out0_C_2 c i a3 h3 a4 h4 a5 h5 hc0 hc1 hc2 x w acc = addf acc (k0_pay1 x w) := by
  unfold out0_C_2
  rw [View.read_writes_eq_canon _ _ _ (cover0_C_2 c i a3 h3 a4 h4 a5 h5 hc0 hc1 hc2 x w acc)]
  unfold kernelRun0_C
  dsimp only
  sl_unfold_words
  rw [View.canon_unit_zero zero2]
  unfold k0_pay3
  simp only [View.readAt_eq_ld, h3.read_unread, h4.read_unread, h5.read_unread, View.ld_unit_zero (S := S1088x512) zero2,
    View.ld_unit_zero (S := S1x1024x512) zero3, View.ld_unit_zero (S := S1088x1024) zero2, shapeCast_self]

end Terms

variable (m : (ℓ : Loc nD τ sig) → Buf (Elt Ideal) ℓ) (c : Dev nD)

/-- The first point of a run leaves its term … -/
theorem outs_first (t : Fin cfg0.N) (h0 : t.val % 4 = 0) :
    outsAt0 m c t.val t.isLt = k0_pay1 (iblk m c 0 t) (iblk m c 1 t) := by
  rw [outsAt0_A m c t h0 (by omega) (by omega)]
  exact first ..

/-- … and each later one adds its term. -/
theorem outs_next (n : ℕ) (hn : n + 1 < cfg0.N) (h0 : ¬(n + 1) % 4 = 0) :
    outsAt0 m c (n + 1) hn = addf (outsAt0 m c n (Nat.lt_of_succ_lt hn)) (k0_pay1 (iblk m c 0 ⟨n + 1, hn⟩) (iblk m c 1 ⟨n + 1, hn⟩)) := by
  by_cases h3 : (n + 1) % 4 = 3
  · rw [show outsAt0 m c (n + 1) hn = _ from outsAt0_C m c ⟨n + 1, hn⟩ h0 (by dsimp only; omega) h3]
    exact last ..
  · rw [show outsAt0 m c (n + 1) hn = _ from outsAt0_B m c ⟨n + 1, hn⟩ h0 (by dsimp only; omega) h3]
    exact middle ..

abbrev xA : S4352x2048.Idx → EReal := m ((c : Thread nD τ).loc main_arg0)
abbrev wA : S1024x2048.Idx → EReal := m ((c : Thread nD τ).loc main_arg1)

theorem index0 : ∀ t : Fin grid0.N, win0_0.index t 0 = t.val / 4 ∧ win0_0.index t 1 = t.val % 4 := by decide +kernel
theorem index1 : ∀ t : Fin grid0.N, win0_1.index t 0 = t.val % 4 ∧ win0_1.index t 1 = 0 ∧ win0_1.index t 2 = 0 := by decide +kernel
theorem index2 : ∀ t : Fin grid0.N, win0_2.index t 0 = t.val / 4 ∧ win0_2.index t 1 = 0 := by decide +kernel

theorem lt16 (t : Fin cfg0.N) : t.val < 16 := lt_of_lt_of_eq t.isLt (show cfg0.N = 16 from N_0)

theorem block_x (t : Fin cfg0.N) (p : Fin 1088) (k : Fin 512) :
    iblk m c 0 t (ix2 p k) = at2 (xA m c) (t.val / 4 * 1088 + p.val) (t.val % 4 * 512 + k.val) := by
  unfold iblk
  rw [View.read_apply]
  show V m c main_arg0 _ = _
  rw [V_main_arg0]
  refine (eq_at2 (xA m c) _).trans ?_
  show at2 (xA m c) (win0_0.index t 0 * 1088 + 1 * p.val) (win0_0.index t 1 * 512 + 1 * k.val) = _
  rw [(index0 t).1, (index0 t).2, one_mul, one_mul]

/-- The weights that the host hands to the kernel: shard `s` holds columns `512 s …`. -/
theorem V_v1 : V m c main_v1 = transpose S4x1024x512 [1, 0, 2] (shapeCast S1024x4x512 (wA m c) shapeCasts_S1024x2048_S1024x4x512)
    transposes_S1024x4x512_S4x1024x512_1_0_2 := by
  unfold V
  simp only [hostOps0, List.flatten_cons, List.flatten_nil, List.append_nil, List.cons_append, List.nil_append]
  after_results
  rfl

theorem shard_apply (s : Fin 4) (q : Fin 1024) (k : Fin 512) :
    V m c main_v1 (ix3 s q k) = wA m c (ix2 q ⟨s.val * 512 + k.val, by omega⟩) := by
  rw [V_v1]
  generalize wA m c = w
  pointwise

theorem block_w (t : Fin cfg0.N) (q : Fin 1024) (k : Fin 512) :
    iblk m c 1 t (ix3 0 q k) = at2 (wA m c) q.val (t.val % 4 * 512 + k.val) := by
  rw [at2_eq _ q.isLt (show t.val % 4 * 512 + k.val < 2048 by omega)]
  refine Eq.trans ?_ (shard_apply m c ⟨t.val % 4, by omega⟩ q k)
  unfold iblk
  rw [View.read_apply]
  refine congrArg (V m c main_v1) (funext fun a => Fin.ext ?_)
  match a with
  | ⟨0, _⟩ => show win0_1.index t 0 * 1 + 1 * 0 = t.val % 4; rw [(index1 t).1]; omega
  | ⟨1, _⟩ => show win0_1.index t 1 * 1024 + 1 * q.val = q.val; rw [(index1 t).2.1]; omega
  | ⟨2, _⟩ => show win0_1.index t 2 * 512 + 1 * k.val = k.val; rw [(index1 t).2.2]; omega

/-- The array the kernel writes. -/
def prod : S4352x1024.Idx → EReal := fun x => rowsT 2048 (xA m c) (wA m c) (x 0).val (x 1).val

/-- After a run's last point the block holds the product. -/
theorem outs_last (t : Fin cfg0.N) (hl : t.val % 4 = 3) (p : Fin 1088) (q : Fin 1024) :
    outsAt0 m c t.val t.isLt (ix2 p q) = rowsT 2048 (xA m c) (wA m c) (t.val / 4 * 1088 + p.val) q.val := by
  refine (run_sum (J := 4) (by decide) (fun n h => outsAt0 m c n h) (fun n h => k0_pay1 (iblk m c 0 ⟨n, h⟩) (iblk m c 1 ⟨n, h⟩))
    (fun n h h0 => outs_first m c ⟨n, h⟩ h0) (fun n h h0 => outs_next m c n h h0) t.val t.isLt (by omega)
    (fun s x => ∑ k : Fin 512, at2 (xA m c) (t.val / 4 * 1088 + (x 0).val) (s * 512 + k.val) * at2 (wA m c) (x 1).val (s * 512 + k.val))
    (fun n h x hn => ?_) (ix2 p q)).trans ?_
  · obtain ⟨p, q, rfl⟩ : ∃ p q, x = ix2 p q := ⟨_, _, eq_ix2 x⟩
    refine (pay_apply _ _ p q).trans ?_
    simp only [block_x, block_w, ← hn]
    rfl
  · exact sum_blocks 4 512 2048 (by decide) fun k => at2 (xA m c) (t.val / 4 * 1088 + p.val) k * at2 (wA m c) q.val k

theorem final : (dats m 0 c).arrAt 2 cfg0.N = prod m c := by
  refine (dats m 0 c).arrAt_eq_of_cover 2 (prod m c) (fun t hf => ?_) fun i => ?_
  · rw [flushed2]
    funext y
    rw [View.read_apply]
    obtain ⟨p, q, rfl⟩ : ∃ p q, y = ix2 p q := ⟨_, _, eq_ix2 y⟩
    refine (outs_last m c t ((flush0_2 t).mp hf) p q).trans ?_
    show _ = rowsT 2048 (xA m c) (wA m c) (win0_2.index t 0 * 1088 + 1 * p.val) (win0_2.index t 1 * 1024 + 1 * q.val)
    rw [(index2 t).1, (index2 t).2, one_mul, one_mul, zero_mul, zero_add]
  · obtain ⟨x, y, rfl⟩ : ∃ x y, i = ix2 x y := ⟨_, _, eq_ix2 i⟩
    have hx := x.isLt
    have hy := y.isLt
    have hN : cfg0.N = 16 := N_0
    have h : x.val / 1088 * 4 + 3 < cfg0.N := by omega
    refine ⟨⟨_, h⟩, (flush0_2 _).mpr (by dsimp only; omega), ?_⟩
    show ix2 x y ∈ ((View.whole main_v2).slice (win0_2.rect ⟨_, h⟩)).set
    rw [View.set_slice_whole, Rect.mem_set_unit]
    intro a
    match a with
    | ⟨0, _⟩ =>
      show win0_2.index ⟨_, h⟩ 0 * 1088 ≤ x.val ∧ x.val < win0_2.index ⟨_, h⟩ 0 * 1088 + 1088
      rw [(index2 ⟨_, h⟩).1]; dsimp only; omega
    | ⟨1, _⟩ =>
      show win0_2.index ⟨_, h⟩ 1 * 1024 ≤ y.val ∧ y.val < win0_2.index ⟨_, h⟩ 1 * 1024 + 1024
      rw [(index2 ⟨_, h⟩).2]; omega

/-- The reference's entries. -/
theorem ref_apply (a : Vec Ideal S4352x2048 .bf16) (b : Vec Ideal S1024x2048 .bf16) (x : Fin 4352) (y : Fin 1024) :
    Cert.Reference25Ideal.Read.val_main_v2 (F := Ideal) a b (ix2 x y) = ∑ k : Fin 2048, a (ix2 x k) * b (ix2 y k) := by
  pointwise [Cert.Reference25Ideal.Read.val_main_v2, Cert.Reference25Ideal.Read.val_main_v1, Cert.Reference25Ideal.Read.val_main_v0]

/-- The array the kernel writes is the reference's. -/
theorem final_eq : (dats m 0 c).arrAt 2 cfg0.N = Cert.Reference25Ideal.Read.val_main_v2 (F := Ideal) (xA m c) (wA m c) := by
  rw [final]
  funext i
  obtain ⟨x, y, rfl⟩ : ∃ x y, i = ix2 x y := ⟨_, _, eq_ix2 i⟩
  exact (rowsT_eq (xA m c) (wA m c) x y).trans (ref_apply _ _ x y).symm

end Cert.Kernel25Ideal.Product

end
-- ==== Proof.Arrays.lean ====
/- The arrays that the attention gradient's kernel writes: each entry as a sum over the padded arrays' rows. -/
module

public import proofs.«01_k».proof.Proof.Out
public import proofs.«01_k».proof.Proof.Block
public import proofs.«01_k».proof.Proof.At
public import proofs.«01_k».proof.Proof.Fold

@[expose] public section

set_option maxRecDepth 16384

noncomputable section

namespace Cert.KernelIdeal.Arrays

open Cert.KernelIdeal Cert.KernelIdeal.Gen Cert.KernelIdeal.Value Cert.KernelIdeal.Out Cert.KernelIdeal.Block Cert.Attn
open Idealize.ShloMosaic Idealize.ShloMosaic.TcCoe Idealize.SL.Sem
open Idealize.ShloMosaic.Pipeline (Dat)

variable (m : (ℓ : Loc nD τ sig) → Buf (Elt Ideal) ℓ) (c : Dev nD)

/-- The queries, keys, values and output gradient as launched. -/
abbrev qA : S4352x1024.Idx → EReal := m ((c : Thread nD τ).loc main_arg0)
abbrev kAr : S4352x256.Idx → EReal := m ((c : Thread nD τ).loc main_arg1)
abbrev vA : S4352x256.Idx → EReal := m ((c : Thread nD τ).loc main_arg2)
abbrev oA : S2x2064x1024.Idx → EReal := m ((c : Thread nD τ).loc main_arg3)

/-! ## Which rows and columns a point's blocks hold -/

theorem index0 : ∀ t : Fin grid0.N, win0_0.index t 0 = t.val / 16 * 2 + t.val % 2 ∧ win0_0.index t 1 = t.val / 8 % 2 * 4 + t.val / 2 % 4 := by
  decide +kernel
theorem index1 : ∀ t : Fin grid0.N, win0_1.index t 0 = t.val / 16 ∧ win0_1.index t 1 = t.val / 8 % 2 := by decide +kernel
theorem index2 : ∀ t : Fin grid0.N, win0_2.index t 0 = t.val / 16 ∧ win0_2.index t 1 = t.val / 8 % 2 := by decide +kernel
theorem index3 : ∀ t : Fin grid0.N, win0_3.index t 0 = t.val / 16 * 2 + t.val % 2 ∧ win0_3.index t 1 = t.val / 8 % 2 * 4 + t.val / 2 % 4 := by
  decide +kernel
theorem index4 : ∀ t : Fin grid0.N, win0_4.index t 0 = t.val / 16 * 2 + t.val % 2 ∧ win0_4.index t 1 = t.val / 8 % 2 * 4 + t.val / 2 % 4 := by
  decide +kernel
theorem index5 : ∀ t : Fin grid0.N, win0_5.index t 0 = t.val / 16 ∧ win0_5.index t 1 = t.val / 8 % 2 := by decide +kernel
theorem index6 : ∀ t : Fin grid0.N, win0_6.index t 0 = t.val / 16 ∧ win0_6.index t 1 = t.val / 8 % 2 := by decide +kernel

theorem lt32 (t : Fin cfg0.N) : t.val < 32 := lt_of_lt_of_eq t.isLt (show cfg0.N = 32 from N_0)

/-- A point's block of queries. -/
theorem block_q (t : Fin cfg0.N) (p : Fin 1088) :
    row (iblk m c 0 t) p = headRow (qA m c) (t.val / 16) (t.val / 8 % 2 * 4 + t.val / 2 % 4) (t.val % 2 * 1088 + p.val) := by
  have ht := lt32 t
  funext d
  unfold headRow
  rw [at2_eq _ (show t.val / 16 * 2176 + (t.val % 2 * 1088 + p.val) < 4352 by omega) (by omega)]
  unfold row iblk
  rw [View.read_apply]
  show V m c main_arg0 _ = _
  rw [V_main_arg0]
  refine congrArg (qA m c) ?_
  funext a
  apply Fin.ext
  match a with
  | ⟨0, _⟩ => show win0_0.index t 0 * 1088 + 1 * p.val = t.val / 16 * 2176 + (t.val % 2 * 1088 + p.val); rw [(index0 t).1]; omega
  | ⟨1, _⟩ => show win0_0.index t 1 * 128 + 1 * d.val = (t.val / 8 % 2 * 4 + t.val / 2 % 4) * 128 + d.val; rw [(index0 t).2]; omega

/-- A point's block of keys. -/
theorem block_k (t : Fin cfg0.N) : row (iblk m c 1 t) = fun j : Fin 2176 => headRow (D := 128) (kAr m c) (t.val / 16) (t.val / 8 % 2) j.val := by
  have ht := lt32 t
  funext j d
  unfold headRow
  rw [at2_eq _ (show t.val / 16 * 2176 + j.val < 4352 by omega) (by omega)]
  unfold row iblk
  rw [View.read_apply]
  show V m c main_arg1 _ = _
  rw [V_main_arg1]
  refine congrArg (kAr m c) ?_
  funext a
  apply Fin.ext
  match a with
  | ⟨0, _⟩ => show win0_1.index t 0 * 2176 + 1 * j.val = t.val / 16 * 2176 + j.val; rw [(index1 t).1]; omega
  | ⟨1, _⟩ => show win0_1.index t 1 * 128 + 1 * d.val = t.val / 8 % 2 * 128 + d.val; rw [(index1 t).2]; omega

/-- A point's block of values. -/
theorem block_v (t : Fin cfg0.N) : row (iblk m c 2 t) = fun j : Fin 2176 => headRow (D := 128) (vA m c) (t.val / 16) (t.val / 8 % 2) j.val := by
  have ht := lt32 t
  funext j d
  unfold headRow
  rw [at2_eq _ (show t.val / 16 * 2176 + j.val < 4352 by omega) (by omega)]
  unfold row iblk
  rw [View.read_apply]
  show V m c main_arg2 _ = _
  rw [V_main_arg2]
  refine congrArg (vA m c) ?_
  funext a
  apply Fin.ext
  match a with
  | ⟨0, _⟩ => show win0_2.index t 0 * 2176 + 1 * j.val = t.val / 16 * 2176 + j.val; rw [(index2 t).1]; omega
  | ⟨1, _⟩ => show win0_2.index t 1 * 128 + 1 * d.val = t.val / 8 % 2 * 128 + d.val; rw [(index2 t).2]; omega

/-- The padded output gradient that the host hands to the kernel. -/
theorem V_v1 : V m c main_v1 = shapeCast S4352x1024 (pad S2x2176x1024 ![0, 0, 0] ![0, 112, 0] ![0, 0, 0] (oA m c)
    (sitofp (F := Ideal) .bf16 (constantI S_ 32 0#32)) pads_S2x2064x1024_S2x2176x1024_000_01120_000 h_S_) shapeCasts_S2x2176x1024_S4352x1024 := by
  unfold V
  simp only [hostOps0, hostOps0_1, hostOps0_2, List.flatten_cons, List.flatten_nil, List.append_nil, List.cons_append, List.nil_append]
  after_results
  rfl

/-- Its entries: those of the output gradient, zero on the padding. -/
theorem padded_apply (b : Fin 2) (i : Fin 2176) (col : Fin 1024) :
    V m c main_v1 (ix2 ⟨b.val * 2176 + i.val, by omega⟩ col) = at3 (oA m c) b.val i.val col.val := by
  rw [V_v1]
  generalize oA m c = o
  have hz : FloatOps.sitofp (F := Ideal) FTy.bf16 0#32 = (0 : EReal) := by
    show ((((0#32 : BitVec 32).toInt : ℤ) : ℝ) : EReal) = 0
    simp
  unfold at3
  pointwise
  rw [hz]

/-- A point's block of output gradients. -/
theorem block_o (t : Fin cfg0.N) (p : Fin 1088) :
    row (iblk m c 3 t) p = planeRow (oA m c) (t.val / 16) (t.val / 8 % 2 * 4 + t.val / 2 % 4) (t.val % 2 * 1088 + p.val) := by
  have ht := lt32 t
  funext d
  unfold planeRow
  refine Eq.trans ?_ (padded_apply m c ⟨t.val / 16, by omega⟩ ⟨t.val % 2 * 1088 + p.val, by omega⟩
    ⟨(t.val / 8 % 2 * 4 + t.val / 2 % 4) * 128 + d.val, by omega⟩)
  unfold row iblk
  rw [View.read_apply]
  refine congrArg (V m c main_v1) ?_
  funext a
  apply Fin.ext
  match a with
  | ⟨0, _⟩ => show win0_3.index t 0 * 1088 + 1 * p.val = t.val / 16 * 2176 + (t.val % 2 * 1088 + p.val); rw [(index3 t).1]; omega
  | ⟨1, _⟩ => show win0_3.index t 1 * 128 + 1 * d.val = (t.val / 8 % 2 * 4 + t.val / 2 % 4) * 128 + d.val; rw [(index3 t).2]; omega

/-! ## The arrays -/

/-- The queries, keys, values and output gradients of one head, by row. -/
abbrev Q (b h i : ℕ) : Fin 128 → EReal := headRow (qA m c) b h i
abbrev K (b h : ℕ) (j : Fin 2176) : Fin 128 → EReal := headRow (kAr m c) b h j.val
abbrev W (b h : ℕ) (j : Fin 2176) : Fin 128 → EReal := headRow (vA m c) b h j.val
abbrev O (b h i : ℕ) : Fin 128 → EReal := planeRow (oA m c) b h i

/-- The gradient with respect to the products of query row `i` of head `h` with the keys. -/
abbrev kw (b h i : ℕ) : Fin 2176 → EReal :=
  kW (n := 2064) (m := 112) scale (K m c b (h / 4)) (W m c b (h / 4)) (Q m c b h i) (O m c b h i)

/-- The queries' gradient. -/
def dq (b h i : ℕ) (d : Fin 128) : EReal := ∑ j, kw m c b h i j * K m c b (h / 4) j d

/-- The keys' gradient: the sum over the points of a key head, four query heads of two blocks of rows each. -/
def dk (b h : ℕ) (j : Fin 2176) (d : Fin 128) : EReal :=
  ∑ s ∈ Finset.range (4 * 2), ∑ p : Fin 1088, kw m c b (h * 4 + s / 2) (s % 2 * 1088 + p.val) j * Q m c b (h * 4 + s / 2) (s % 2 * 1088 + p.val) d

/-- The values' gradient. -/
def dv (b h : ℕ) (j : Fin 2176) (d : Fin 128) : EReal :=
  ∑ s ∈ Finset.range (4 * 2), ∑ p : Fin 1088, kA (n := 2064) (m := 112) scale (K m c b h)
    (Q m c b (h * 4 + s / 2) (s % 2 * 1088 + p.val)) (O m c b (h * 4 + s / 2) (s % 2 * 1088 + p.val)) j d

/-- The queries' gradient as an array. -/
def dqArr : S4352x1024.Idx → EReal := fun x =>
  dq m c ((x 0).val / 2176) ((x 1).val / 128) ((x 0).val % 2176) ⟨(x 1).val % 128, Nat.mod_lt _ (by decide)⟩

/-- The keys' and the values' gradients as arrays. -/
def dkArr : S4352x256.Idx → EReal := fun x =>
  dk m c ((x 0).val / 2176) ((x 1).val / 128) ⟨(x 0).val % 2176, Nat.mod_lt _ (by decide)⟩ ⟨(x 1).val % 128, Nat.mod_lt _ (by decide)⟩
def dvArr : S4352x256.Idx → EReal := fun x =>
  dv m c ((x 0).val / 2176) ((x 1).val / 128) ⟨(x 0).val % 2176, Nat.mod_lt _ (by decide)⟩ ⟨(x 1).val % 128, Nat.mod_lt _ (by decide)⟩

/-- A point's terms, entry by entry. -/
theorem term_dq (t : Fin cfg0.N) (p : Fin 1088) (d : Fin 128) :
    dqTerm (iblk m c 0 t) (iblk m c 1 t) (iblk m c 2 t) (iblk m c 3 t) (ix2 p d)
      = dq m c (t.val / 16) (t.val / 8 % 2 * 4 + t.val / 2 % 4) (t.val % 2 * 1088 + p.val) d := by
  refine (pay2_apply (iblk m c 0 t) (iblk m c 3 t) (iblk m c 1 t) (iblk m c 2 t) p d).trans ?_
  rw [block_q, block_k, block_v, block_o]
  unfold dq kw
  rw [show (t.val / 8 % 2 * 4 + t.val / 2 % 4) / 4 = t.val / 8 % 2 by omega]

theorem term_dk (t : Fin cfg0.N) (j : Fin 2176) (d : Fin 128) :
    dkTerm (iblk m c 0 t) (iblk m c 1 t) (iblk m c 2 t) (iblk m c 3 t) (ix2 j d)
      = ∑ p : Fin 1088, kw m c (t.val / 16) (t.val / 8 % 2 * 4 + t.val / 2 % 4) (t.val % 2 * 1088 + p.val) j
          * Q m c (t.val / 16) (t.val / 8 % 2 * 4 + t.val / 2 % 4) (t.val % 2 * 1088 + p.val) d := by
  refine (pay3_apply (iblk m c 0 t) (iblk m c 3 t) (iblk m c 1 t) (iblk m c 2 t) j d).trans ?_
  refine Finset.sum_congr rfl fun p _ => ?_
  rw [block_q, block_k, block_v, block_o]
  unfold kw
  rw [show (t.val / 8 % 2 * 4 + t.val / 2 % 4) / 4 = t.val / 8 % 2 by omega]

theorem term_dv (t : Fin cfg0.N) (j : Fin 2176) (d : Fin 128) :
    dvTerm (iblk m c 0 t) (iblk m c 1 t) (iblk m c 3 t) (ix2 j d)
      = ∑ p : Fin 1088, kA (n := 2064) (m := 112) scale (K m c (t.val / 16) (t.val / 8 % 2))
          (Q m c (t.val / 16) (t.val / 8 % 2 * 4 + t.val / 2 % 4) (t.val % 2 * 1088 + p.val))
          (O m c (t.val / 16) (t.val / 8 % 2 * 4 + t.val / 2 % 4) (t.val % 2 * 1088 + p.val)) j d := by
  refine (pay4_apply (iblk m c 0 t) (iblk m c 3 t) (iblk m c 1 t) j d).trans ?_
  refine Finset.sum_congr rfl fun p _ => ?_
  rw [block_q, block_k, block_o]

/-- The queries' gradient array. -/
theorem final_dq : (dats m 0 c).arrAt 4 cfg0.N = dqArr m c := by
  refine (dats m 0 c).arrAt_eq_of_cover 4 (dqArr m c) (fun t _ => ?_) fun i => ?_
  · have ht := lt32 t
    rw [flushed4, outs_dq]
    funext y
    rw [View.read_apply]
    obtain ⟨p, d, rfl⟩ : ∃ p d, y = ix2 p d := ⟨_, _, eq_ix2 y⟩
    refine (term_dq m c t p d).trans ?_
    show _ = dq m c ((win0_4.index t 0 * 1088 + 1 * p.val) / 2176) ((win0_4.index t 1 * 128 + 1 * d.val) / 128)
      ((win0_4.index t 0 * 1088 + 1 * p.val) % 2176) ⟨(win0_4.index t 1 * 128 + 1 * d.val) % 128, Nat.mod_lt _ (by decide)⟩
    have hp := p.isLt
    have hd := d.isLt
    rw [(index4 t).1, (index4 t).2]
    congr 1
    · omega
    · omega
    · omega
    · exact Fin.ext (by dsimp only; omega)
  · obtain ⟨x, y, rfl⟩ : ∃ x y, i = ix2 x y := ⟨_, _, eq_ix2 i⟩
    have hx := x.isLt
    have hy := y.isLt
    have hN : cfg0.N = 32 := N_0
    have h : x.val / 2176 * 16 + y.val / 128 * 2 + x.val / 1088 % 2 < cfg0.N := by omega
    refine ⟨⟨_, h⟩, flush0_4 _, ?_⟩
    show ix2 x y ∈ ((View.whole main_v2_0).slice (win0_4.rect ⟨_, h⟩)).set
    rw [View.set_slice_whole, Rect.mem_set_unit]
    intro a
    match a with
    | ⟨0, _⟩ =>
      show win0_4.index ⟨_, h⟩ 0 * 1088 ≤ x.val ∧ x.val < win0_4.index ⟨_, h⟩ 0 * 1088 + 1088
      rw [(index4 ⟨_, h⟩).1]; dsimp only; omega
    | ⟨1, _⟩ =>
      show win0_4.index ⟨_, h⟩ 1 * 128 ≤ y.val ∧ y.val < win0_4.index ⟨_, h⟩ 1 * 128 + 128
      rw [(index4 ⟨_, h⟩).2]; dsimp only; omega

/-- The keys' gradient array. -/
theorem final_dk : (dats m 0 c).arrAt 5 cfg0.N = dkArr m c := by
  refine (dats m 0 c).arrAt_eq_of_cover 5 (dkArr m c) (fun t hf => ?_) fun i => ?_
  · have ht := lt32 t
    have h7 : t.val % 8 = 7 := (flush0_5 t).mp hf
    rw [flushed5]
    funext y
    rw [View.read_apply]
    obtain ⟨j, d, rfl⟩ : ∃ j d, y = ix2 j d := ⟨_, _, eq_ix2 y⟩
    refine (run_sum (J := 8) (by decide) (fun n h => (outsAt0 m c n h).2.1)
      (fun n h => dkTerm (iblk m c 0 ⟨n, h⟩) (iblk m c 1 ⟨n, h⟩) (iblk m c 2 ⟨n, h⟩) (iblk m c 3 ⟨n, h⟩))
      (fun n h h0 => outs_dk_first m c ⟨n, h⟩ h0) (fun n h h0 => outs_dk_next m c n h h0) t.val t.isLt (by omega)
      (fun s x => ∑ p : Fin 1088, kw m c (t.val / 16) (t.val / 8 % 2 * 4 + s / 2) (s % 2 * 1088 + p.val) (x 0)
        * Q m c (t.val / 16) (t.val / 8 % 2 * 4 + s / 2) (s % 2 * 1088 + p.val) (x 1)) ?_ (ix2 j d)).trans ?_
    · intro n h x hn
      obtain ⟨j, d, rfl⟩ : ∃ j d, x = ix2 j d := ⟨_, _, eq_ix2 x⟩
      refine (term_dk m c ⟨n, h⟩ j d).trans ?_
      show _ = ∑ p : Fin 1088, kw m c (t.val / 16) (t.val / 8 % 2 * 4 + n % 8 / 2) (n % 8 % 2 * 1088 + p.val) j
        * Q m c (t.val / 16) (t.val / 8 % 2 * 4 + n % 8 / 2) (n % 8 % 2 * 1088 + p.val) d
      dsimp only
      rw [show n / 16 = t.val / 16 by omega, show n / 8 % 2 = t.val / 8 % 2 by omega, show n / 2 % 4 = n % 8 / 2 by omega,
        show n % 2 = n % 8 % 2 by omega]
    · show dk m c (t.val / 16) (t.val / 8 % 2) j d = dk m c ((win0_5.index t 0 * 2176 + 1 * j.val) / 2176)
        ((win0_5.index t 1 * 128 + 1 * d.val) / 128) ⟨(win0_5.index t 0 * 2176 + 1 * j.val) % 2176, Nat.mod_lt _ (by decide)⟩
        ⟨(win0_5.index t 1 * 128 + 1 * d.val) % 128, Nat.mod_lt _ (by decide)⟩
      have hj := j.isLt
      have hd := d.isLt
      rw [(index5 t).1, (index5 t).2]
      congr 1
      · omega
      · omega
      · exact Fin.ext (by dsimp only; omega)
      · exact Fin.ext (by dsimp only; omega)
  · obtain ⟨x, y, rfl⟩ : ∃ x y, i = ix2 x y := ⟨_, _, eq_ix2 i⟩
    have hx := x.isLt
    have hy := y.isLt
    have hN : cfg0.N = 32 := N_0
    have h : x.val / 2176 * 16 + y.val / 128 * 8 + 7 < cfg0.N := by omega
    refine ⟨⟨_, h⟩, (flush0_5 _).mpr (by dsimp only; omega), ?_⟩
    show ix2 x y ∈ ((View.whole main_v2_1).slice (win0_5.rect ⟨_, h⟩)).set
    rw [View.set_slice_whole, Rect.mem_set_unit]
    intro a
    match a with
    | ⟨0, _⟩ =>
      show win0_5.index ⟨_, h⟩ 0 * 2176 ≤ x.val ∧ x.val < win0_5.index ⟨_, h⟩ 0 * 2176 + 2176
      rw [(index5 ⟨_, h⟩).1]; dsimp only; omega
    | ⟨1, _⟩ =>
      show win0_5.index ⟨_, h⟩ 1 * 128 ≤ y.val ∧ y.val < win0_5.index ⟨_, h⟩ 1 * 128 + 128
      rw [(index5 ⟨_, h⟩).2]; dsimp only; omega

/-- The values' gradient array. -/
theorem final_dv : (dats m 0 c).arrAt 6 cfg0.N = dvArr m c := by
  refine (dats m 0 c).arrAt_eq_of_cover 6 (dvArr m c) (fun t hf => ?_) fun i => ?_
  · have ht := lt32 t
    have h7 : t.val % 8 = 7 := (flush0_6 t).mp hf
    rw [flushed6]
    funext y
    rw [View.read_apply]
    obtain ⟨j, d, rfl⟩ : ∃ j d, y = ix2 j d := ⟨_, _, eq_ix2 y⟩
    refine (run_sum (J := 8) (by decide) (fun n h => (outsAt0 m c n h).2.2)
      (fun n h => dvTerm (iblk m c 0 ⟨n, h⟩) (iblk m c 1 ⟨n, h⟩) (iblk m c 3 ⟨n, h⟩))
      (fun n h h0 => outs_dv_first m c ⟨n, h⟩ h0) (fun n h h0 => outs_dv_next m c n h h0) t.val t.isLt (by omega)
      (fun s x => ∑ p : Fin 1088, kA (n := 2064) (m := 112) scale (K m c (t.val / 16) (t.val / 8 % 2))
        (Q m c (t.val / 16) (t.val / 8 % 2 * 4 + s / 2) (s % 2 * 1088 + p.val))
        (O m c (t.val / 16) (t.val / 8 % 2 * 4 + s / 2) (s % 2 * 1088 + p.val)) (x 0) (x 1)) ?_ (ix2 j d)).trans ?_
    · intro n h x hn
      obtain ⟨j, d, rfl⟩ : ∃ j d, x = ix2 j d := ⟨_, _, eq_ix2 x⟩
      refine (term_dv m c ⟨n, h⟩ j d).trans ?_
      show _ = ∑ p : Fin 1088, kA (n := 2064) (m := 112) scale (K m c (t.val / 16) (t.val / 8 % 2))
        (Q m c (t.val / 16) (t.val / 8 % 2 * 4 + n % 8 / 2) (n % 8 % 2 * 1088 + p.val))
        (O m c (t.val / 16) (t.val / 8 % 2 * 4 + n % 8 / 2) (n % 8 % 2 * 1088 + p.val)) j d
      dsimp only
      rw [show n / 16 = t.val / 16 by omega, show n / 8 % 2 = t.val / 8 % 2 by omega, show n / 2 % 4 = n % 8 / 2 by omega,
        show n % 2 = n % 8 % 2 by omega]
    · show dv m c (t.val / 16) (t.val / 8 % 2) j d = dv m c ((win0_6.index t 0 * 2176 + 1 * j.val) / 2176)
        ((win0_6.index t 1 * 128 + 1 * d.val) / 128) ⟨(win0_6.index t 0 * 2176 + 1 * j.val) % 2176, Nat.mod_lt _ (by decide)⟩
        ⟨(win0_6.index t 1 * 128 + 1 * d.val) % 128, Nat.mod_lt _ (by decide)⟩
      have hj := j.isLt
      have hd := d.isLt
      rw [(index6 t).1, (index6 t).2]
      congr 1
      · omega
      · omega
      · exact Fin.ext (by dsimp only; omega)
      · exact Fin.ext (by dsimp only; omega)
  · obtain ⟨x, y, rfl⟩ : ∃ x y, i = ix2 x y := ⟨_, _, eq_ix2 i⟩
    have hx := x.isLt
    have hy := y.isLt
    have hN : cfg0.N = 32 := N_0
    have h : x.val / 2176 * 16 + y.val / 128 * 8 + 7 < cfg0.N := by omega
    refine ⟨⟨_, h⟩, (flush0_6 _).mpr (by dsimp only; omega), ?_⟩
    show ix2 x y ∈ ((View.whole main_v2_2).slice (win0_6.rect ⟨_, h⟩)).set
    rw [View.set_slice_whole, Rect.mem_set_unit]
    intro a
    match a with
    | ⟨0, _⟩ =>
      show win0_6.index ⟨_, h⟩ 0 * 2176 ≤ x.val ∧ x.val < win0_6.index ⟨_, h⟩ 0 * 2176 + 2176
      rw [(index6 ⟨_, h⟩).1]; dsimp only; omega
    | ⟨1, _⟩ =>
      show win0_6.index ⟨_, h⟩ 1 * 128 ≤ y.val ∧ y.val < win0_6.index ⟨_, h⟩ 1 * 128 + 128
      rw [(index6 ⟨_, h⟩).2]; dsimp only; omega

end Cert.KernelIdeal.Arrays

end
-- ==== Proof.RefValue.lean ====
/- What the reference computes, entry by entry: the derivative of the attention. -/
module

public import proofs.«01_k».proof.Proof.Gen.ReferenceIdeal.Read
public import proofs.«01_k».proof.Proof.RowMax
public import proofs.«01_k».proof.Proof.Heads
public import proofs.«01_k».proof.Proof.At

@[expose] public section

set_option maxRecDepth 16384

noncomputable section

namespace Cert.ReferenceIdeal.Grad

open Idealize.ShloMosaic Cert.ReferenceIdeal.Read Cert.Attn

variable (x0 : (⟨S4352x1024, .bf16⟩ : BufTy).Contents (Elt Ideal)) (x1 x2 : (⟨S4352x256, .bf16⟩ : BufTy).Contents (Elt Ideal))
  (x3 : (⟨S2x2064x1024, .bf16⟩ : BufTy).Contents (Elt Ideal))

/-- The scale of the scores: the word 1/√128 is rounded to. -/
abbrev scale : EReal := Ideal.ofBits .f32 0x3DB504F3#32

/-- The queries, keys, values and output gradients of one head, by row. -/
abbrev Q (b h i : ℕ) : Fin 128 → EReal := headRow (R := 4352) (C := 1024) x0 b h i
abbrev K (b h : ℕ) (j : Fin 2064) : Fin 128 → EReal := headRow (R := 4352) (C := 256) x1 b h j.val
abbrev O (b h i : ℕ) : Fin 128 → EReal := planeRow (B := 2) (R := 2064) (C := 1024) x3 b h i

variable (b : Fin 2) (h : Fin 2) (g : Fin 4) (i j : Fin 2064) (d : Fin 128)

/-- The arrays as the reference lays them out. -/
theorem v6_apply : val_main_v6 (F := Ideal) x0 (ix5 b i h g d) = Q x0 b (h * 4 + g) i d := by
  unfold Q headRow
  rw [at2_eq _ (show b.val * 2176 + i.val < 4352 by omega) (show (h.val * 4 + g.val) * 128 + d.val < 1024 by omega)]
  pointwise [val_main_v6, val_main_v5, val_main_v4, val_main_v0]
  exact congrArg x0 (by congr 2; omega)

theorem v9_apply : val_main_v9 (F := Ideal) x1 (ix4 b j h d) = K x1 b h j d := by
  unfold K headRow
  rw [at2_eq _ (show b.val * 2176 + j.val < 4352 by omega) (show h.val * 128 + d.val < 256 by omega)]
  pointwise [val_main_v9, val_main_v8, val_main_v7, val_main_v1]

theorem v12_apply : val_main_v12 (F := Ideal) x2 (ix4 b j h d) = K x2 b h j d := by
  unfold K headRow
  rw [at2_eq _ (show b.val * 2176 + j.val < 4352 by omega) (show h.val * 128 + d.val < 256 by omega)]
  pointwise [val_main_v12, val_main_v11, val_main_v10, val_main_v2]

theorem v49_apply : val_main_v49 (F := Ideal) x3 (ix5 b h d g i) = O x3 b (h * 4 + g) i d := by
  unfold O planeRow
  rw [at3_eq _ b.isLt i.isLt (show (h.val * 4 + g.val) * 128 + d.val < 1024 by omega)]
  pointwise [val_main_v49, val_main_v48, val_main_v3]
  exact congrArg x3 (by congr 2; omega)

/-- The scores. -/
theorem v16_apply : val_main_v16 (F := Ideal) x0 x1 (ix5 b h g i j) = scores scale (K x1 b h) (Q x0 b (h * 4 + g) i) j := by
  pointwise [val_main_v16, val_main_v15, val_main_cst, val_main_v14, val_main_v13]
  simp only [v6_apply, v9_apply]
  unfold scores
  simp only [mul_comm]

/-- Their maximum. -/
theorem v17_apply : val_main_v17 (F := Ideal) x0 x1 (ix4 b h g i) = rmax (scores scale (K x1 b h) (Q x0 b (h * 4 + g) i)) := by
  have h16 : (fun j => scores scale (K x1 b h) (Q x0 b (h * 4 + g) i) j) = fun j => val_main_v16 (F := Ideal) x0 x1 (ix5 b h g i j) :=
    funext fun j => (v16_apply x0 x1 b h g i j).symm
  unfold rmax
  rw [show scores scale (K x1 b h) (Q x0 b (h * 4 + g) i) = _ from h16]
  unfold val_main_v17
  generalize val_main_v16 (F := Ideal) x0 x1 = y
  refine (hostMax_last y _ _ _ b h g i).trans ?_
  rw [show val_main_cst_0 (F := Ideal) (Shape.Idx.first Gen.h_S_) = ⊥ from ofBits_neg_inf]

/-- The weights before they are normalised. -/
theorem v37_apply : val_main_v37 (F := Ideal) x0 x1 (ix5 b h g i j) = rexp (scores scale (K x1 b h) (Q x0 b (h * 4 + g) i)) j := by
  unfold rexp
  rw [← v16_apply, ← v17_apply, val_main_v37_apply, val_main_v36_apply, val_main_v35_apply, val_main_v34_apply, val_main_v24_apply,
    val_main_v23_apply, val_main_cst_2_apply]
  have e : idx_main_v34 (idx_main_v35 (ix5 b h g i j)) = ix4 b h g i := by
    funext a; match a with | ⟨0, _⟩ => rfl | ⟨1, _⟩ => rfl | ⟨2, _⟩ => rfl | ⟨3, _⟩ => rfl
  rw [e]
  generalize val_main_v16 (F := Ideal) x0 x1 (ix5 b h g i j) = y
  generalize val_main_v17 (F := Ideal) x0 x1 (ix4 b h g i) = z
  show Ideal.exp (y - max (Ideal.ofBits .f32 0xFF800000#32) z) = _
  rw [ofBits_neg_inf, max_eq_right bot_le]

/-- The word of zero. -/
theorem ofBits_zero : Ideal.ofBits .f32 0x00000000#32 = 0 := by simp [Ideal.ofBits, Ideal.ieee]

/-- The normalised weights. -/
theorem v41_apply : val_main_v41 (F := Ideal) x0 x1 (ix5 b h g i j) = weight scale (K x1 b h) (Q x0 b (h * 4 + g) i) j := by
  pointwise [val_main_v41, val_main_v40, val_main_v39, val_main_v38, val_main_cst_8]
  simp only [v37_apply]
  rfl

/-- The gradient with respect to the products of the queries with the keys. -/
theorem v66_apply : val_main_v66 (F := Ideal) x0 x1 x2 x3 (ix5 b h g i j)
    = rW scale (K x1 b h) (K x2 b h) (Q x0 b (h * 4 + g) i) (O x3 b (h * 4 + g) i) j := by
  pointwise [val_main_v66, val_main_v65, val_main_v64, val_main_v63, val_main_v62, val_main_v61, val_main_v60, val_main_v59, val_main_v58, val_main_v57, val_main_v56, val_main_v55, val_main_v54, val_main_v53, val_main_v50, val_main_v44, val_main_v43, val_main_v42, val_main_v39, val_main_v38, val_main_cst_8, val_main_cst_9, val_main_cst_10, val_main_cst_11, val_main_cst_12]
  simp only [v37_apply, v49_apply, v12_apply]
  rw [Fin.sum_univ_one]
  rfl

/-- The values' gradient, on the rows that count. -/
theorem v52_apply : val_main_v52 (F := Ideal) x0 x1 x3 (ix4 b j h d)
    = ∑ g : Fin 4, ∑ i : Fin 2064, weight scale (K x1 b h) (Q x0 b (h * 4 + g) i) j * O x3 b (h * 4 + g) i d := by
  pointwise [val_main_v52, val_main_v51]
  simp only [v49_apply, v41_apply, mul_comm]

/-- The queries' gradient, on the rows that count. -/
theorem v69_apply : val_main_v69 (F := Ideal) x0 x1 x2 x3 (ix5 b i h g d)
    = ∑ j : Fin 2064, rW scale (K x1 b h) (K x2 b h) (Q x0 b (h * 4 + g) i) (O x3 b (h * 4 + g) i) j * K x1 b h j d := by
  pointwise [val_main_v69, val_main_v68, val_main_v67]
  simp only [v66_apply, v9_apply]

/-- The keys' gradient, on the rows that count. -/
theorem v71_apply : val_main_v71 (F := Ideal) x0 x1 x2 x3 (ix4 b j h d)
    = ∑ g : Fin 4, ∑ i : Fin 2064, rW scale (K x1 b h) (K x2 b h) (Q x0 b (h * 4 + g) i) (O x3 b (h * 4 + g) i) j * Q x0 b (h * 4 + g) i d := by
  pointwise [val_main_v71, val_main_v70, val_main_v67]
  rw [Finset.sum_comm]
  simp only [v66_apply, v6_apply]

/-- The queries' gradient, zero on the padding. -/
theorem v80_apply (i : Fin 2176) : val_main_v80 (F := Ideal) x0 x1 x2 x3 (ix2 ⟨b.val * 2176 + i.val, by omega⟩ ⟨(h.val * 4 + g.val) * 128 + d.val, by omega⟩)
    = if hi : i.val < 2064 then val_main_v69 (F := Ideal) x0 x1 x2 x3 (ix5 b ⟨i.val, hi⟩ h g d) else 0 := by
  pointwise [val_main_v80, val_main_v79, val_main_v78, val_main_cst_15]
  by_cases hi : i.val < 2064
  · rw [dif_pos hi, dif_pos ⟨hi, by omega⟩]
  · rw [dif_neg hi, dif_neg fun h => hi h.1]

/-- The keys' gradient, zero on the padding. -/
theorem v77_apply (i : Fin 2176) : val_main_v77 (F := Ideal) x0 x1 x2 x3 (ix2 ⟨b.val * 2176 + i.val, by omega⟩ ⟨h.val * 128 + d.val, by omega⟩)
    = if hi : i.val < 2064 then val_main_v71 (F := Ideal) x0 x1 x2 x3 (ix4 b ⟨i.val, hi⟩ h d) else 0 := by
  pointwise [val_main_v77, val_main_v76, val_main_v75, val_main_cst_14]
  by_cases hi : i.val < 2064
  · rw [dif_pos hi, dif_pos ⟨hi, by omega⟩]
  · rw [dif_neg hi, dif_neg fun h => hi h.1]

/-- The values' gradient, zero on the padding. -/
theorem v74_apply (i : Fin 2176) : val_main_v74 (F := Ideal) x0 x1 x3 (ix2 ⟨b.val * 2176 + i.val, by omega⟩ ⟨h.val * 128 + d.val, by omega⟩)
    = if hi : i.val < 2064 then val_main_v52 (F := Ideal) x0 x1 x3 (ix4 b ⟨i.val, hi⟩ h d) else 0 := by
  pointwise [val_main_v74, val_main_v73, val_main_v72, val_main_cst_13]
  by_cases hi : i.val < 2064
  · rw [dif_pos hi, dif_pos ⟨hi, by omega⟩]
  · rw [dif_neg hi, dif_neg fun h => hi h.1]

end Cert.ReferenceIdeal.Grad

end
-- ==== Proof.Equation.lean ====
/- The equation: where the queries and the keys are finite, the arrays the kernel writes are the derivative's. -/
module

public import proofs.«01_k».proof.Proof.Arrays
public import proofs.«01_k».proof.Proof.RefValue

@[expose] public section

set_option maxRecDepth 16384

noncomputable section

namespace Cert.Equation

open Cert.KernelIdeal Cert.KernelIdeal.Arrays Cert.Attn Cert.ReferenceIdeal.Read
open Idealize.ShloMosaic Idealize.ShloMosaic.TcCoe Idealize.SL.Sem

variable (m : (ℓ : Loc nD τ sig) → Buf (Elt Ideal) ℓ) (c : Dev nD)

/-- Below the rows that count, the output gradient is zero. -/
theorem O_pad (b h i : ℕ) (hi : 2064 ≤ i) (e : Fin 128) : O m c b h i e = 0 := at3_out _ hi

variable (hq : ∀ i, qA m c i ≠ ⊤ ∧ qA m c i ≠ ⊥) (hk : ∀ i, kAr m c i ≠ ⊤ ∧ kAr m c i ≠ ⊥)

include hq in
theorem Q_finite (b h i : ℕ) : Finite (Q m c b h i) := fun _ => at2_finite hq _ _

include hk in
theorem K_finite (b h : ℕ) (j : Fin 2176) : Finite (K m c b h j) := fun _ => at2_finite hk _ _

/-- The scale of the scores is a real number, the same on both sides. -/
theorem scale_real : ∃ r : ℝ, KernelIdeal.Block.scale = r ∧ ReferenceIdeal.Grad.scale = r := by
  obtain ⟨r, hr⟩ := ofBits_scale
  exact ⟨r, hr, hr⟩

/-- A row's or column's number is its block's number and its place in the block. -/
theorem split {N : ℕ} (D : ℕ) (hD : 0 < D) (x : Fin N) : ∃ (q : ℕ) (r : Fin D), x.val = q * D + r.val :=
  ⟨x.val / D, ⟨x.val % D, Nat.mod_lt _ hD⟩, by have := Nat.div_add_mod x.val D; rw [Nat.mul_comm] at this; exact this.symm⟩

/-- An index by its coordinates' numbers. -/
theorem ix2_of {R C r s : ℕ} (x : (⟨2, ![R, C]⟩ : Shape).Idx) (hr : r < R) (hs : s < C) (h0 : (x 0).val = r) (h1 : (x 1).val = s) :
    x = ix2 ⟨r, hr⟩ ⟨s, hs⟩ := by
  subst h0 h1
  exact eq_ix2 x

include hq hk in
/-- The queries' gradients agree. -/
theorem dq_eq : dqArr m c = val_main_v80 (F := Ideal) (qA m c) (kAr m c) (vA m c) (oA m c) := by
  obtain ⟨r, hr, hr'⟩ := scale_real
  funext x
  obtain ⟨b, i, hb⟩ := split 2176 (by decide) (x 0)
  obtain ⟨H, d, hH⟩ := split 128 (by decide) (x 1)
  have hx0 : (x 0).val < 4352 := (x 0).isLt
  have hx1 : (x 1).val < 1024 := (x 1).isLt
  obtain ⟨g, h, rfl⟩ : ∃ g : Fin 4, ∃ h : ℕ, H = h * 4 + g.val := ⟨⟨H % 4, by omega⟩, H / 4, by dsimp only; omega⟩
  have hh : h < 2 := by omega
  have hbb : b < 2 := by omega
  have e : x = ix2 ⟨b * 2176 + i.val, by omega⟩ ⟨(h * 4 + g.val) * 128 + d.val, by omega⟩ := ix2_of x _ _ hb hH
  have hv := ReferenceIdeal.Grad.v80_apply (qA m c) (kAr m c) (vA m c) (oA m c) ⟨b, hbb⟩ ⟨h, hh⟩ g d i
  have hl : dqArr m c x = dq m c b (h * 4 + g.val) i.val d := by
    unfold dqArr
    congr 1
    · omega
    · omega
    · omega
    · exact Fin.ext (by dsimp only; omega)
  rw [hl, e]
  refine Eq.trans ?_ hv.symm
  unfold dq kw
  rw [show (h * 4 + g.val) / 4 = h by omega]
  by_cases hi : i.val < 2064
  · rw [dif_pos hi, ReferenceIdeal.Grad.v69_apply, hr, hr']
    exact dq_front (n := 2064) (m := 112) (Q_finite m c hq _ _ _) (K_finite m c hk _ _) d
  · rw [dif_neg hi]
    exact dq_zero (n := 2064) (m := 112) _ (O_pad m c _ _ _ (by omega)) d

include hq hk in
/-- The keys' gradients agree. -/
theorem dk_eq : dkArr m c = val_main_v77 (F := Ideal) (qA m c) (kAr m c) (vA m c) (oA m c) := by
  obtain ⟨r, hr, hr'⟩ := scale_real
  funext x
  obtain ⟨b, i, hb⟩ := split 2176 (by decide) (x 0)
  obtain ⟨h, d, hH⟩ := split 128 (by decide) (x 1)
  have hx0 : (x 0).val < 4352 := (x 0).isLt
  have hx1 : (x 1).val < 256 := (x 1).isLt
  have hh : h < 2 := by omega
  have hbb : b < 2 := by omega
  have e : x = ix2 ⟨b * 2176 + i.val, by omega⟩ ⟨h * 128 + d.val, by omega⟩ := ix2_of x _ _ hb hH
  have hv := ReferenceIdeal.Grad.v77_apply (qA m c) (kAr m c) (vA m c) (oA m c) ⟨b, hbb⟩ ⟨h, hh⟩ d i
  have hl : dkArr m c x = dk m c b h i d := by
    unfold dkArr
    congr 1
    · omega
    · omega
    · exact Fin.ext (by dsimp only; omega)
    · exact Fin.ext (by dsimp only; omega)
  rw [hl, e]
  refine Eq.trans ?_ hv.symm
  have hd : dk m c b h i d = ∑ s ∈ Finset.range (4 * 2), ∑ p : Fin 1088,
      kW (n := 2064) (m := 112) KernelIdeal.Block.scale (K m c b h) (W m c b h) (Q m c b (h * 4 + s / 2) (s % 2 * 1088 + p.val))
        (O m c b (h * 4 + s / 2) (s % 2 * 1088 + p.val)) i * Q m c b (h * 4 + s / 2) (s % 2 * 1088 + p.val) d := by
    unfold dk kw
    refine Finset.sum_congr rfl fun s hs => Finset.sum_congr rfl fun p _ => ?_
    have := Finset.mem_range.mp hs
    rw [show (h * 4 + s / 2) / 4 = h by omega]
  rw [hd]
  by_cases hi : i.val < 2064
  · rw [dif_pos hi, ReferenceIdeal.Grad.v71_apply, hr, hr']
    exact dk_front (n := 2064) (m := 112) (Q := fun g => Q m c b (h * 4 + g)) (O := fun g => O m c b (h * 4 + g)) 4 2 1088 (by decide)
      (fun _ _ => Q_finite m c hq _ _ _) (K_finite m c hk _ _) (fun _ _ hi _ => O_pad m c _ _ _ hi) ⟨i.val, hi⟩ d
  · rw [dif_neg hi]
    exact dk_pad (n := 2064) (m := 112) (Q := fun g => Q m c b (h * 4 + g)) (O := fun g => O m c b (h * 4 + g)) 4 2 1088 _ i (by omega) d

include hq hk in
/-- The values' gradients agree. -/
theorem dv_eq : dvArr m c = val_main_v74 (F := Ideal) (qA m c) (kAr m c) (oA m c) := by
  obtain ⟨r, hr, hr'⟩ := scale_real
  funext x
  obtain ⟨b, i, hb⟩ := split 2176 (by decide) (x 0)
  obtain ⟨h, d, hH⟩ := split 128 (by decide) (x 1)
  have hx0 : (x 0).val < 4352 := (x 0).isLt
  have hx1 : (x 1).val < 256 := (x 1).isLt
  have hh : h < 2 := by omega
  have hbb : b < 2 := by omega
  have e : x = ix2 ⟨b * 2176 + i.val, by omega⟩ ⟨h * 128 + d.val, by omega⟩ := ix2_of x _ _ hb hH
  have hv := ReferenceIdeal.Grad.v74_apply (qA m c) (kAr m c) (oA m c) ⟨b, hbb⟩ ⟨h, hh⟩ d i
  have hl : dvArr m c x = dv m c b h i d := by
    unfold dvArr
    congr 1
    · omega
    · omega
    · exact Fin.ext (by dsimp only; omega)
    · exact Fin.ext (by dsimp only; omega)
  rw [hl, e]
  refine Eq.trans ?_ hv.symm
  unfold dv
  by_cases hi : i.val < 2064
  · rw [dif_pos hi, ReferenceIdeal.Grad.v52_apply, hr, hr']
    exact dv_front (n := 2064) (m := 112) (Q := fun g => Q m c b (h * 4 + g)) (O := fun g => O m c b (h * 4 + g)) 4 2 1088 (by decide)
      (fun _ _ => Q_finite m c hq _ _ _) (K_finite m c hk _ _) (fun _ _ hi _ => O_pad m c _ _ _ hi) ⟨i.val, hi⟩ d
  · rw [dif_neg hi]
    exact dv_pad (n := 2064) (m := 112) (Q := fun g => Q m c b (h * 4 + g)) (O := fun g => O m c b (h * 4 + g)) 4 2 1088 _ i (by omega) d

end Cert.Equation

end
-- ==== Proof.MlaOut.lean ====
/- What each grid point of the latent attention gradient's kernel leaves in its output blocks, as the body's own terms. -/
module

public import proofs.«01_k».proof.Proof.Gen.Kernel2Ideal.Value
public import proofs.«01_k».proof.Proof.Out

@[expose] public section

set_option maxRecDepth 16384

noncomputable section

namespace Cert.Kernel2Ideal.Out

open Cert.Kernel2Ideal Cert.Kernel2Ideal.Gen Idealize.ShloMosaic Idealize.ShloMosaic.TcCoe Idealize.SL.Sem
open Cert.KernelIdeal.Out (zero2)

variable {F : FTy → Type} [FloatOps F] [Named F]

section Terms

variable (x0 : Vec F S1088x256 .bf16) (x1 : Vec F S2176x256 .bf16) (x2 : Vec F S2176x128 .bf16) (x3 : Vec F S1088x128 .bf16)

/-- The queries' gradient of a point's blocks. -/
def dqTerm : Vec F S1088x256 .f32 :=
  k0_pay2 (k0_pay8 x1) (k0_pay10 x0 x1) (k0_pay11 x0 x1) (k0_pay12 x0 x1 x3 x2) (Scalar.ofBits .f32 0x3D93CD3A#32)

/-- What a point's blocks add to the keys' gradient. -/
def dkTerm : Vec F S2176x256 .f32 :=
  k0_pay3 (k0_pay7 x0) (k0_pay10 x0 x1) (k0_pay11 x0 x1) (k0_pay12 x0 x1 x3 x2) (Scalar.ofBits .f32 0x3D93CD3A#32)

/-- What a point's blocks add to the values' gradient. -/
def dvTerm : Vec F S2176x128 .f32 := k0_pay4 (k0_pay9 x3) (k0_pay10 x0 x1) (k0_pay11 x0 x1)

variable (c : Dev nD) (i : grid0.Coords) (a4 : Memref sig .tc .vmem S1088x256 .bf16) (h4 : a4.IsWhole)
  (a5 : Memref sig .tc .vmem S2176x256 .bf16) (h5 : a5.IsWhole) (a6 : Memref sig .tc .vmem S2176x128 .bf16) (h6 : a6.IsWhole)
  (a7 : Memref sig .tc .vmem S1088x128 .bf16) (h7 : a7.IsWhole) (a8 : Memref sig .tc .vmem S1088x256 .f32) (h8 : a8.IsWhole)
  (a9 : Memref sig .tc .vmem S2176x256 .f32) (h9 : a9.IsWhole) (a10 : Memref sig .tc .vmem S2176x128 .f32) (h10 : a10.IsWhole)
  (x5 : Vec F S2176x256 .f32) (x6 : Vec F S2176x128 .f32)

theorem a_dq (hc0 : cond0_0 i) (hc1 : ¬cond0_1 i) :
    out0_A_4 c i a4 h4 a5 h5 a6 h6 a7 h7 a8 h8 a9 h9 a10 h10 hc0 hc1 x0 x1 x2 x3 = dqTerm x0 x1 x2 x3 := by
  unfold out0_A_4
  rw [View.read_writes_eq_canon _ _ _ (cover0_A_4 c i a4 h4 a5 h5 a6 h6 a7 h7 a8 h8 a9 h9 a10 h10 hc0 hc1 x0 x1 x2 x3)]
  unfold kernelRun0_A dqTerm
  dsimp only
  sl_unfold_words
  rw [View.canon_unit_zero zero2]
  simp only [View.readAt_eq_ld, h4.read_unread, h5.read_unread, h6.read_unread, h7.read_unread,
    View.ld_unit_zero (S := S1088x128) zero2, View.ld_unit_zero (S := S1088x256) zero2, View.ld_unit_zero (S := S2176x128) zero2, View.ld_unit_zero (S := S2176x256) zero2]

theorem a_dk (hc0 : cond0_0 i) (hc1 : ¬cond0_1 i) :
    out0_A_5 c i a4 h4 a5 h5 a6 h6 a7 h7 a8 h8 a9 h9 a10 h10 hc0 hc1 x0 x1 x2 x3 = dkTerm x0 x1 x2 x3 := by
  unfold out0_A_5
  rw [View.read_writes_eq_canon _ _ _ (cover0_A_5 c i a4 h4 a5 h5 a6 h6 a7 h7 a8 h8 a9 h9 a10 h10 hc0 hc1 x0 x1 x2 x3)]
  unfold kernelRun0_A dkTerm
  dsimp only
  sl_unfold_words
  rw [View.canon_unit_zero zero2]
  simp only [View.readAt_eq_ld, h4.read_unread, h5.read_unread, h6.read_unread, h7.read_unread,
    View.ld_unit_zero (S := S1088x128) zero2, View.ld_unit_zero (S := S1088x256) zero2, View.ld_unit_zero (S := S2176x128) zero2, View.ld_unit_zero (S := S2176x256) zero2]

theorem a_dv (hc0 : cond0_0 i) (hc1 : ¬cond0_1 i) :
    out0_A_6 c i a4 h4 a5 h5 a6 h6 a7 h7 a8 h8 a9 h9 a10 h10 hc0 hc1 x0 x1 x2 x3 = dvTerm x0 x1 x3 := by
  unfold out0_A_6
  rw [View.read_writes_eq_canon _ _ _ (cover0_A_6 c i a4 h4 a5 h5 a6 h6 a7 h7 a8 h8 a9 h9 a10 h10 hc0 hc1 x0 x1 x2 x3)]
  unfold kernelRun0_A dvTerm
  dsimp only
  sl_unfold_words
  rw [View.canon_unit_zero zero2]
  simp only [View.readAt_eq_ld, h4.read_unread, h5.read_unread, h6.read_unread, h7.read_unread,
    View.ld_unit_zero (S := S1088x128) zero2, View.ld_unit_zero (S := S1088x256) zero2, View.ld_unit_zero (S := S2176x128) zero2, View.ld_unit_zero (S := S2176x256) zero2]

theorem b_dq (hc0 : ¬cond0_0 i) (hc1 : cond0_1 i) :
    out0_B_4 c i a4 h4 a5 h5 a6 h6 a7 h7 a8 h8 a9 h9 a10 h10 hc0 hc1 x0 x1 x2 x3 x5 x6 = dqTerm x0 x1 x2 x3 := by
  unfold out0_B_4
  rw [View.read_writes_eq_canon _ _ _ (cover0_B_4 c i a4 h4 a5 h5 a6 h6 a7 h7 a8 h8 a9 h9 a10 h10 hc0 hc1 x0 x1 x2 x3 x5 x6)]
  unfold kernelRun0_B dqTerm
  dsimp only
  sl_unfold_words
  rw [View.canon_unit_zero zero2]
  simp only [View.readAt_eq_ld, h4.read_unread, h5.read_unread, h6.read_unread, h7.read_unread,
    View.ld_unit_zero (S := S1088x128) zero2, View.ld_unit_zero (S := S1088x256) zero2, View.ld_unit_zero (S := S2176x128) zero2, View.ld_unit_zero (S := S2176x256) zero2]

theorem b_dk (hc0 : ¬cond0_0 i) (hc1 : cond0_1 i) :
    out0_B_5 c i a4 h4 a5 h5 a6 h6 a7 h7 a8 h8 a9 h9 a10 h10 hc0 hc1 x0 x1 x2 x3 x5 x6 = addf x5 (dkTerm x0 x1 x2 x3) := by
  unfold out0_B_5
  rw [View.read_writes_eq_canon _ _ _ (cover0_B_5 c i a4 h4 a5 h5 a6 h6 a7 h7 a8 h8 a9 h9 a10 h10 hc0 hc1 x0 x1 x2 x3 x5 x6)]
  unfold kernelRun0_B dkTerm
  dsimp only
  sl_unfold_words
  rw [View.canon_unit_zero zero2]
  unfold k0_pay5
  simp only [View.readAt_eq_ld, h4.read_unread, h5.read_unread, h6.read_unread, h7.read_unread, h9.read_unread,
    View.ld_unit_zero (S := S1088x128) zero2, View.ld_unit_zero (S := S1088x256) zero2, View.ld_unit_zero (S := S2176x128) zero2, View.ld_unit_zero (S := S2176x256) zero2, shapeCast_self]

theorem b_dv (hc0 : ¬cond0_0 i) (hc1 : cond0_1 i) :
    out0_B_6 c i a4 h4 a5 h5 a6 h6 a7 h7 a8 h8 a9 h9 a10 h10 hc0 hc1 x0 x1 x2 x3 x5 x6 = addf x6 (dvTerm x0 x1 x3) := by
  unfold out0_B_6
  rw [View.read_writes_eq_canon _ _ _ (cover0_B_6 c i a4 h4 a5 h5 a6 h6 a7 h7 a8 h8 a9 h9 a10 h10 hc0 hc1 x0 x1 x2 x3 x5 x6)]
  unfold kernelRun0_B dvTerm
  dsimp only
  sl_unfold_words
  rw [View.canon_unit_zero zero2]
  unfold k0_pay6
  simp only [View.readAt_eq_ld, h4.read_unread, h5.read_unread, h6.read_unread, h7.read_unread, h10.read_unread,
    View.ld_unit_zero (S := S1088x128) zero2, View.ld_unit_zero (S := S1088x256) zero2, View.ld_unit_zero (S := S2176x128) zero2, View.ld_unit_zero (S := S2176x256) zero2, shapeCast_self]

end Terms

variable (m : (ℓ : Loc nD τ sig) → Buf (Elt F) ℓ) (c : Dev nD)

/-- Each point leaves its own block of the queries' gradient. -/
theorem outs_dq (t : Fin cfg0.N) :
    (outsAt0 m c t.val t.isLt).1 = dqTerm (iblk m c 0 t) (iblk m c 1 t) (iblk m c 2 t) (iblk m c 3 t) := by
  by_cases h0 : t.val % 2 = 0
  · rw [outsAt0_A m c t h0 (by omega)]
    dsimp only
    exact a_dq (F := F) ..
  · rw [outsAt0_B m c t h0 (by omega)]
    dsimp only
    exact b_dq (F := F) ..

/-- The first point of a head's run leaves its term of the keys' gradient … -/
theorem outs_dk_first (t : Fin cfg0.N) (h0 : t.val % 2 = 0) :
    (outsAt0 m c t.val t.isLt).2.1 = dkTerm (iblk m c 0 t) (iblk m c 1 t) (iblk m c 2 t) (iblk m c 3 t) := by
  rw [outsAt0_A m c t h0 (by omega)]
  dsimp only
  exact a_dk (F := F) ..

/-- … and each later one adds its term. -/
theorem outs_dk_next (n : ℕ) (hn : n + 1 < cfg0.N) (h0 : ¬(n + 1) % 2 = 0) :
    (outsAt0 m c (n + 1) hn).2.1 = addf (outsAt0 m c n (Nat.lt_of_succ_lt hn)).2.1
      (dkTerm (iblk m c 0 ⟨n + 1, hn⟩) (iblk m c 1 ⟨n + 1, hn⟩) (iblk m c 2 ⟨n + 1, hn⟩) (iblk m c 3 ⟨n + 1, hn⟩)) := by
  rw [show outsAt0 m c (n + 1) hn = _ from outsAt0_B m c ⟨n + 1, hn⟩ h0 (by dsimp only; omega)]
  dsimp only
  exact b_dk (F := F) ..

/-- The same of the values' gradient. -/
theorem outs_dv_first (t : Fin cfg0.N) (h0 : t.val % 2 = 0) :
    (outsAt0 m c t.val t.isLt).2.2 = dvTerm (iblk m c 0 t) (iblk m c 1 t) (iblk m c 3 t) := by
  rw [outsAt0_A m c t h0 (by omega)]
  dsimp only
  exact a_dv (F := F) ..

theorem outs_dv_next (n : ℕ) (hn : n + 1 < cfg0.N) (h0 : ¬(n + 1) % 2 = 0) :
    (outsAt0 m c (n + 1) hn).2.2 = addf (outsAt0 m c n (Nat.lt_of_succ_lt hn)).2.2
      (dvTerm (iblk m c 0 ⟨n + 1, hn⟩) (iblk m c 1 ⟨n + 1, hn⟩) (iblk m c 3 ⟨n + 1, hn⟩)) := by
  rw [show outsAt0 m c (n + 1) hn = _ from outsAt0_B m c ⟨n + 1, hn⟩ h0 (by dsimp only; omega)]
  dsimp only
  exact b_dv (F := F) ..

end Cert.Kernel2Ideal.Out

end
-- ==== Proof.MlaBlock.lean ====
/- What one grid point of the latent attention gradient's kernel computes from its blocks, entry by entry. -/
module

public import proofs.«01_k».proof.Proof.Gen.Kernel2Ideal.Skeleton
public import proofs.«01_k».proof.Proof.Block

@[expose] public section

set_option maxRecDepth 16384

noncomputable section

namespace Cert.Kernel2Ideal.Block

open Idealize.ShloMosaic Cert.Kernel2Ideal.Gen Cert.Attn
open Cert.KernelIdeal.Block (row slt_word)

/-- The scale of the scores: the word 1/√192 is rounded to. -/
abbrev scale : EReal := Ideal.ofBits .f32 0x3D93CD3A#32

variable (q : Vec Ideal S1088x256 .bf16) (o : Vec Ideal S1088x128 .bf16) (k : Vec Ideal S2176x256 .bf16) (v : Vec Ideal S2176x128 .bf16)

/-- A row's scores with the padding at −∞. -/
abbrev srow (p : Fin 1088) : Fin 2176 → EReal := masked (n := 2064) (m := 112) (scores scale (row k) (row q p))

/-- The weights the kernel computes are those of the padded row. -/
theorem pay10_apply (p : Fin 1088) (j : Fin 2176) : k0_pay10 q k (ix2 p j) = rexp (srow q k p) j := by
  have hs : ∀ x : Fin 2176, Scalar.select (IntOp.cmpi CmpIPredicate.slt (BitVec.ofNat 32 x.val) 2064#32)
      ((∑ y, q (ix2 p y) * k (ix2 x y)) * Ideal.ofBits FTy.f32 1033096506#32) (Named.named (F := Ideal) (φ := .f32) κ "mask" 4048155338#32 : EReal)
      = srow q k p x := by
    intro x
    rw [slt_word x.val x.isLt]
    unfold srow masked scores row
    split <;> rfl
  pointwise [k0_pay10, k0_pay7, k0_pay8]
  simp only [hs]
  rw [show Ideal.ofBits FTy.f32 4286578688#32 = ⊥ from ofBits_neg_inf]
  rfl

/-- The reciprocal of a row's sum of weights. -/
theorem pay11_apply (p : Fin 1088) : k0_pay11 q k (ix2 p 0) = Ideal.div 1 (rsum (srow q k p)) := by
  pointwise [k0_pay11]
  simp only [pay10_apply]
  rfl

/-- The weights' gradient less its weighted mean. -/
theorem pay12_apply (p : Fin 1088) (j : Fin 2176) : k0_pay12 q k o v (ix2 p j)
    = dots (row v) (row o p) j - Ideal.div 1 (rsum (srow q k p)) * ∑ x, rexp (srow q k p) x * dots (row v) (row o p) x := by
  pointwise [k0_pay12, k0_pay9]
  simp only [pay10_apply, pay11_apply]
  rfl

/-- The point's block of the queries' gradient. -/
theorem pay2_apply (p : Fin 1088) (d : Fin 256) :
    k0_pay2 (k0_pay8 k) (k0_pay10 q k) (k0_pay11 q k) (k0_pay12 q k o v) scale (ix2 p d)
      = ∑ j, kW (n := 2064) (m := 112) scale (row k) (row v) (row q p) (row o p) j * row k j d := by
  pointwise [k0_pay2, k0_pay1, k0_pay8]
  simp only [pay10_apply, pay11_apply, pay12_apply]
  rfl

/-- What the point adds to the keys' gradient. -/
theorem pay3_apply (j : Fin 2176) (d : Fin 256) :
    k0_pay3 (k0_pay7 q) (k0_pay10 q k) (k0_pay11 q k) (k0_pay12 q k o v) scale (ix2 j d)
      = ∑ p, kW (n := 2064) (m := 112) scale (row k) (row v) (row q p) (row o p) j * row q p d := by
  pointwise [k0_pay3, k0_pay1, k0_pay7]
  simp only [pay10_apply, pay11_apply, pay12_apply]
  rfl

/-- What the point adds to the values' gradient. -/
theorem pay4_apply (j : Fin 2176) (d : Fin 128) :
    k0_pay4 (k0_pay9 o) (k0_pay10 q k) (k0_pay11 q k) (ix2 j d)
      = ∑ p, kA (n := 2064) (m := 112) scale (row k) (row q p) (row o p) j d := by
  pointwise [k0_pay4, k0_pay9]
  simp only [pay10_apply, pay11_apply]
  rfl

end Cert.Kernel2Ideal.Block

end
-- ==== Proof.Slots.lean ====
/- Vectors widened by zero columns: what attention does with them. -/
module

public import proofs.«01_k».proof.Proof.Heads

@[expose] public section

noncomputable section

namespace Cert.Attn

open Idealize.ShloMosaic

variable {n m E N : ℕ}

/-- A vector, continued by `m` zeros. -/
def widen (f : Fin n → EReal) (d : Fin (n + m)) : EReal := if h : d.val < n then f ⟨d.val, h⟩ else 0

theorem widen_front (f : Fin n → EReal) (d : Fin n) : widen (m := m) f (Fin.castAdd m d) = f d := by
  unfold widen
  rw [dif_pos (by simp)]
  rfl

theorem widen_pad (f : Fin n → EReal) (d : Fin (n + m)) (hd : n ≤ d.val) : widen f d = 0 := dif_neg (by omega)

theorem widen_finite {f : Fin n → EReal} (h : Finite f) : Finite (widen (m := m) f) := fun d => by
  unfold widen
  split
  · exact h _
  · exact ⟨EReal.zero_ne_top, EReal.zero_ne_bot⟩

/-- Zero columns do not change the scores … -/
theorem scores_widen (c : EReal) (K : Fin N → Fin n → EReal) (q : Fin n → EReal) :
    scores c (fun j => widen (m := m) (K j)) (widen q) = scores c K q := by
  funext j
  unfold scores
  rw [sum_valid _ fun d hd => by rw [widen_pad q d hd, zero_mul]]
  simp only [widen_front]

/-- … nor the gradient with respect to the products of the queries with the keys, nor the weights. -/
theorem rW_widen (c : EReal) (K : Fin N → Fin n → EReal) (V : Fin N → Fin E → EReal) (q : Fin n → EReal) (o : Fin E → EReal) :
    rW c (fun j => widen (m := m) (K j)) V (widen q) o = rW c K V q o := by
  unfold rW
  rw [scores_widen]

theorem weight_widen (c : EReal) (K : Fin N → Fin n → EReal) (q : Fin n → EReal) :
    weight c (fun j => widen (m := m) (K j)) (widen q) = weight c K q := by
  funext j
  unfold weight
  rw [scores_widen]

/-! ## The gradients of a head whose queries and keys are widened -/

section Head

variable {D w : ℕ} [NeZero n] {r : ℝ} {K : Fin (n + m) → Fin D → EReal} {V : Fin (n + m) → Fin E → EReal}

theorem front_widen : front (fun j => widen (m := w) (K j)) = fun j => widen (front K j) := rfl

/-- The queries' gradient: on the columns that count that of the narrow vectors, on the others zero. -/
theorem dq_widen {q : Fin D → EReal} {o : Fin E → EReal} (hq : Finite q) (hK : ∀ j, Finite (K j)) (d : Fin (D + w)) :
    ∑ j, kW (r : EReal) (fun j => widen (m := w) (K j)) V (widen q) o j * widen (K j) d
      = if hd : d.val < D then ∑ j, rW (r : EReal) (front K) (front V) q o j * front K j ⟨d.val, hd⟩ else 0 := by
  refine (dq_front (K := fun j => widen (K j)) (widen_finite hq) (fun j => widen_finite (hK j)) d).trans ?_
  rw [front_widen, rW_widen]
  by_cases hd : d.val < D
  · rw [dif_pos hd]
    exact Finset.sum_congr rfl fun j _ => congrArg _ (dif_pos hd)
  · rw [dif_neg hd]
    exact Finset.sum_eq_zero fun j _ => mul_eq_zero_of_right _ (dif_neg hd)

/-- A sum over the points of one group. -/
theorem sum_one_group {B : ℕ} (H : ℕ) (f : ℕ → Fin B → EReal) :
    ∑ s ∈ Finset.range H, ∑ p : Fin B, f s p = ∑ s ∈ Finset.range (1 * H), ∑ p : Fin B, f (s % H) p := by
  rw [one_mul]
  exact Finset.sum_congr rfl fun s hs => by rw [Nat.mod_eq_of_lt (Finset.mem_range.mp hs)]

variable {Q : ℕ → Fin D → EReal} {O : ℕ → Fin E → EReal} (H B : ℕ)

/-- The keys' gradient, likewise, on the keys that count. -/
theorem dk_widen (hB : H * B = n + m) (hQ : ∀ i, Finite (Q i)) (hK : ∀ j, Finite (K j))
    (hO : ∀ i, n ≤ i → i < n + m → ∀ e, O i e = 0) (j : Fin n) (d : Fin (D + w)) :
    ∑ s ∈ Finset.range H, ∑ p : Fin B, kW (r : EReal) (fun j => widen (m := w) (K j)) V (widen (Q (s * B + p.val))) (O (s * B + p.val)) (Fin.castAdd m j)
        * widen (Q (s * B + p.val)) d
      = if hd : d.val < D then ∑ i : Fin n, rW (r : EReal) (front K) (front V) (Q i.val) (O i.val) j * Q i.val ⟨d.val, hd⟩ else 0 := by
  refine (sum_one_group H fun s p => kW (r : EReal) (fun j => widen (m := w) (K j)) V (widen (Q (s * B + p.val))) (O (s * B + p.val))
    (Fin.castAdd m j) * widen (Q (s * B + p.val)) d).trans ((dk_front (K := fun j => widen (K j)) (Q := fun _ i => widen (Q i)) (O := fun _ => O) 1 H B hB
    (fun _ i => widen_finite (hQ i)) (fun j => widen_finite (hK j)) (fun _ => hO) j d).trans ?_)
  rw [Fin.sum_univ_one, front_widen]
  simp only [rW_widen]
  by_cases hd : d.val < D
  · rw [dif_pos hd]
    exact Finset.sum_congr rfl fun j _ => congrArg _ (dif_pos hd)
  · rw [dif_neg hd]
    exact Finset.sum_eq_zero fun j _ => mul_eq_zero_of_right _ (dif_neg hd)

/-- The values' gradient on the keys that count. -/
theorem dv_widen (hB : H * B = n + m) (hQ : ∀ i, Finite (Q i)) (hK : ∀ j, Finite (K j))
    (hO : ∀ i, n ≤ i → i < n + m → ∀ e, O i e = 0) (j : Fin n) (e : Fin E) :
    ∑ s ∈ Finset.range H, ∑ p : Fin B,
        kA (r : EReal) (fun j => widen (m := w) (K j)) (widen (Q (s * B + p.val))) (O (s * B + p.val)) (Fin.castAdd m j) e
      = ∑ i : Fin n, weight (r : EReal) (front K) (Q i.val) j * O i.val e := by
  refine (sum_one_group H fun s p => kA (r : EReal) (fun j => widen (m := w) (K j)) (widen (Q (s * B + p.val))) (O (s * B + p.val))
    (Fin.castAdd m j) e).trans ((dv_front (K := fun j => widen (K j)) (Q := fun _ i => widen (Q i)) (O := fun _ => O) 1 H B hB
    (fun _ i => widen_finite (hQ i)) (fun j => widen_finite (hK j)) (fun _ => hO) j e).trans ?_)
  rw [Fin.sum_univ_one, front_widen]
  simp only [weight_widen]

/-- Below the keys that count both are zero. -/
theorem dk_below {T : ℕ → Fin D → EReal} (c : EReal) (i : Fin (n + m)) (hi : n ≤ i.val) (d : Fin D) :
    ∑ s ∈ Finset.range H, ∑ p : Fin B, kW c K V (T (s * B + p.val)) (O (s * B + p.val)) i * T (s * B + p.val) d = 0 :=
  Finset.sum_eq_zero fun _ _ => Finset.sum_eq_zero fun _ _ => mul_eq_zero_of_left (kW_pad c i hi) _

theorem dv_below {T : ℕ → Fin D → EReal} (c : EReal) (i : Fin (n + m)) (hi : n ≤ i.val) (e : Fin E) :
    ∑ s ∈ Finset.range H, ∑ p : Fin B, kA c K (T (s * B + p.val)) (O (s * B + p.val)) i e = 0 :=
  Finset.sum_eq_zero fun _ _ => Finset.sum_eq_zero fun _ _ => kA_pad c i hi e

end Head

end Cert.Attn

end
-- ==== Proof.MlaArrays.lean ====
/- The arrays that the latent attention gradient's kernel writes: each entry as a sum over the padded arrays' rows. -/
module

public import proofs.«01_k».proof.Proof.MlaOut
public import proofs.«01_k».proof.Proof.MlaBlock
public import proofs.«01_k».proof.Proof.At
public import proofs.«01_k».proof.Proof.Fold
public import proofs.«01_k».proof.Proof.Slots

@[expose] public section

set_option maxRecDepth 16384

noncomputable section

namespace Cert.Kernel2Ideal.Arrays

open Cert.Kernel2Ideal Cert.Kernel2Ideal.Gen Cert.Kernel2Ideal.Value Cert.Kernel2Ideal.Out Cert.Kernel2Ideal.Block Cert.Attn
open Idealize.ShloMosaic Idealize.ShloMosaic.TcCoe Idealize.SL.Sem
open Cert.KernelIdeal.Block (row)

variable (m : (ℓ : Loc nD τ sig) → Buf (Elt Ideal) ℓ) (c : Dev nD)

/-- The queries, keys, values and output gradient as launched. -/
abbrev qA : S4352x1536.Idx → EReal := m ((c : Thread nD τ).loc main_arg0)
abbrev kAr : S4352x1536.Idx → EReal := m ((c : Thread nD τ).loc main_arg1)
abbrev vA : S4352x1024.Idx → EReal := m ((c : Thread nD τ).loc main_arg2)
abbrev oA : S2x2064x1024.Idx → EReal := m ((c : Thread nD τ).loc main_arg3)

/-! ## Which rows and columns a point's blocks hold -/

theorem index0 : ∀ t : Fin grid0.N, win0_0.index t 0 = t.val / 16 * 2 + t.val % 2 ∧ win0_0.index t 1 = t.val / 2 % 8 := by
  decide +kernel
theorem index1 : ∀ t : Fin grid0.N, win0_1.index t 0 = t.val / 16 ∧ win0_1.index t 1 = t.val / 2 % 8 := by decide +kernel
theorem index2 : ∀ t : Fin grid0.N, win0_2.index t 0 = t.val / 16 ∧ win0_2.index t 1 = t.val / 2 % 8 := by decide +kernel
theorem index3 : ∀ t : Fin grid0.N, win0_3.index t 0 = t.val / 16 * 2 + t.val % 2 ∧ win0_3.index t 1 = t.val / 2 % 8 := by
  decide +kernel
theorem index4 : ∀ t : Fin grid0.N, win0_4.index t 0 = t.val / 16 * 2 + t.val % 2 ∧ win0_4.index t 1 = t.val / 2 % 8 := by
  decide +kernel
theorem index5 : ∀ t : Fin grid0.N, win0_5.index t 0 = t.val / 16 ∧ win0_5.index t 1 = t.val / 2 % 8 := by decide +kernel
theorem index6 : ∀ t : Fin grid0.N, win0_6.index t 0 = t.val / 16 ∧ win0_6.index t 1 = t.val / 2 % 8 := by decide +kernel

theorem lt32 (t : Fin cfg0.N) : t.val < 32 := lt_of_lt_of_eq t.isLt (show cfg0.N = 32 from N_0)

/-- The queries and keys that the host hands to the kernel: each head's 192 columns, then 64 of zeros. -/
theorem V_v2 : V m c main_v2 = shapeCast S4352x2048 (pad S4352x8x256 ![0, 0, 0] ![0, 0, 64] ![0, 0, 0]
    (shapeCast S4352x8x192 (qA m c) shapeCasts_S4352x1536_S4352x8x192)
    (sitofp (F := Ideal) .bf16 (constantI S_ 32 0#32)) pads_S4352x8x192_S4352x8x256_000_000_0640 h_S_) shapeCasts_S4352x8x256_S4352x2048 := by
  unfold V
  simp only [hostOps0, hostOps0_1, hostOps0_2, hostOps0_3, hostOps0_4, hostOps0_5, hostOps0_6, List.flatten_cons, List.flatten_nil,
    List.append_nil, List.cons_append, List.nil_append]
  after_results
  rfl

theorem V_v5 : V m c main_v5 = shapeCast S4352x2048 (pad S4352x8x256 ![0, 0, 0] ![0, 0, 64] ![0, 0, 0]
    (shapeCast S4352x8x192 (kAr m c) shapeCasts_S4352x1536_S4352x8x192)
    (sitofp (F := Ideal) .bf16 (constantI S_ 32 0#32)) pads_S4352x8x192_S4352x8x256_000_000_0640 h_S_) shapeCasts_S4352x8x256_S4352x2048 := by
  unfold V
  simp only [hostOps0, hostOps0_1, hostOps0_2, hostOps0_3, hostOps0_4, hostOps0_5, hostOps0_6, List.flatten_cons, List.flatten_nil,
    List.append_nil, List.cons_append, List.nil_append]
  after_results
  rfl

/-- The zero that the host pads with. -/
theorem padding_zero : FloatOps.sitofp (F := Ideal) FTy.bf16 0#32 = (0 : EReal) := by
  show ((((0#32 : BitVec 32).toInt : ℤ) : ℝ) : EReal) = 0
  simp

/-- The entries of a widened array. -/
theorem widened_apply (x : S4352x1536.Idx → EReal) (b : Fin 2) (i : Fin 2176) (h : Fin 8) (d : Fin 256) :
    shapeCast S4352x2048 (pad S4352x8x256 ![0, 0, 0] ![0, 0, 64] ![0, 0, 0] (shapeCast S4352x8x192 x shapeCasts_S4352x1536_S4352x8x192)
      (sitofp (F := Ideal) .bf16 (constantI S_ 32 0#32)) pads_S4352x8x192_S4352x8x256_000_000_0640 h_S_) shapeCasts_S4352x8x256_S4352x2048
      (ix2 ⟨b.val * 2176 + i.val, by omega⟩ ⟨h.val * 256 + d.val, by omega⟩)
      = widen (n := 192) (m := 64) (headRow x b.val h.val i.val) d := by
  have h0 := padding_zero
  pointwise
  unfold widen headRow
  by_cases hd : d.val < 192
  · rw [dif_pos hd, dif_pos ⟨by omega, hd⟩, at2_eq _ (show b.val * 2176 + i.val < 4352 by omega) (show h.val * 192 + d.val < 1536 by omega)]
  · rw [dif_neg hd, dif_neg fun h => hd h.2, h0]

/-- A point's block of queries. -/
theorem block_q (t : Fin cfg0.N) (p : Fin 1088) :
    row (iblk m c 0 t) p = widen (n := 192) (m := 64) (headRow (qA m c) (t.val / 16) (t.val / 2 % 8) (t.val % 2 * 1088 + p.val)) := by
  have ht := lt32 t
  funext d
  refine Eq.trans ?_ (widened_apply (qA m c) ⟨t.val / 16, by omega⟩ ⟨t.val % 2 * 1088 + p.val, by omega⟩ ⟨t.val / 2 % 8, by omega⟩ d)
  rw [← V_v2]
  unfold row iblk
  rw [View.read_apply]
  refine congrArg (V m c main_v2) ?_
  funext a
  apply Fin.ext
  match a with
  | ⟨0, _⟩ => show win0_0.index t 0 * 1088 + 1 * p.val = t.val / 16 * 2176 + (t.val % 2 * 1088 + p.val); rw [(index0 t).1]; omega
  | ⟨1, _⟩ => show win0_0.index t 1 * 256 + 1 * d.val = t.val / 2 % 8 * 256 + d.val; rw [(index0 t).2]; omega

/-- A point's block of keys. -/
theorem block_k (t : Fin cfg0.N) :
    row (iblk m c 1 t) = fun j : Fin 2176 => widen (n := 192) (m := 64) (headRow (kAr m c) (t.val / 16) (t.val / 2 % 8) j.val) := by
  have ht := lt32 t
  funext j d
  refine Eq.trans ?_ (widened_apply (kAr m c) ⟨t.val / 16, by omega⟩ j ⟨t.val / 2 % 8, by omega⟩ d)
  rw [← V_v5]
  unfold row iblk
  rw [View.read_apply]
  refine congrArg (V m c main_v5) ?_
  funext a
  apply Fin.ext
  match a with
  | ⟨0, _⟩ => show win0_1.index t 0 * 2176 + 1 * j.val = t.val / 16 * 2176 + j.val; rw [(index1 t).1]; omega
  | ⟨1, _⟩ => show win0_1.index t 1 * 256 + 1 * d.val = t.val / 2 % 8 * 256 + d.val; rw [(index1 t).2]; omega

/-- A point's block of values. -/
theorem block_v (t : Fin cfg0.N) : row (iblk m c 2 t) = fun j : Fin 2176 => headRow (D := 128) (vA m c) (t.val / 16) (t.val / 2 % 8) j.val := by
  have ht := lt32 t
  funext j d
  unfold headRow
  rw [at2_eq _ (show t.val / 16 * 2176 + j.val < 4352 by omega) (by omega)]
  unfold row iblk
  rw [View.read_apply]
  show V m c main_arg2 _ = _
  rw [V_main_arg2]
  refine congrArg (vA m c) ?_
  funext a
  apply Fin.ext
  match a with
  | ⟨0, _⟩ => show win0_2.index t 0 * 2176 + 1 * j.val = t.val / 16 * 2176 + j.val; rw [(index2 t).1]; omega
  | ⟨1, _⟩ => show win0_2.index t 1 * 128 + 1 * d.val = t.val / 2 % 8 * 128 + d.val; rw [(index2 t).2]; omega

/-- The padded output gradient that the host hands to the kernel. -/
theorem V_v7 : V m c main_v7 = shapeCast S4352x1024 (pad S2x2176x1024 ![0, 0, 0] ![0, 112, 0] ![0, 0, 0] (oA m c)
    (sitofp (F := Ideal) .bf16 (constantI S_ 32 0#32)) pads_S2x2064x1024_S2x2176x1024_000_01120_000 h_S_) shapeCasts_S2x2176x1024_S4352x1024 := by
  unfold V
  simp only [hostOps0, hostOps0_1, hostOps0_2, hostOps0_3, hostOps0_4, hostOps0_5, hostOps0_6, List.flatten_cons, List.flatten_nil,
    List.append_nil, List.cons_append, List.nil_append]
  after_results
  rfl

/-- Its entries: those of the output gradient, zero on the padding. -/
theorem padded_apply (b : Fin 2) (i : Fin 2176) (col : Fin 1024) :
    V m c main_v7 (ix2 ⟨b.val * 2176 + i.val, by omega⟩ col) = at3 (oA m c) b.val i.val col.val := by
  rw [V_v7]
  generalize oA m c = o
  have hz := padding_zero
  unfold at3
  pointwise
  rw [hz]

/-- A point's block of output gradients. -/
theorem block_o (t : Fin cfg0.N) (p : Fin 1088) :
    row (iblk m c 3 t) p = planeRow (oA m c) (t.val / 16) (t.val / 2 % 8) (t.val % 2 * 1088 + p.val) := by
  have ht := lt32 t
  funext d
  unfold planeRow
  refine Eq.trans ?_ (padded_apply m c ⟨t.val / 16, by omega⟩ ⟨t.val % 2 * 1088 + p.val, by omega⟩
    ⟨(t.val / 2 % 8) * 128 + d.val, by omega⟩)
  unfold row iblk
  rw [View.read_apply]
  refine congrArg (V m c main_v7) ?_
  funext a
  apply Fin.ext
  match a with
  | ⟨0, _⟩ => show win0_3.index t 0 * 1088 + 1 * p.val = t.val / 16 * 2176 + (t.val % 2 * 1088 + p.val); rw [(index3 t).1]; omega
  | ⟨1, _⟩ => show win0_3.index t 1 * 128 + 1 * d.val = (t.val / 2 % 8) * 128 + d.val; rw [(index3 t).2]; omega

/-! ## The arrays -/

/-- The queries, keys, values and output gradients of one head, by row. -/
abbrev Q (b h i : ℕ) : Fin 256 → EReal := widen (n := 192) (m := 64) (headRow (qA m c) b h i)
abbrev K (b h : ℕ) (j : Fin 2176) : Fin 256 → EReal := widen (n := 192) (m := 64) (headRow (kAr m c) b h j.val)
abbrev W (b h : ℕ) (j : Fin 2176) : Fin 128 → EReal := headRow (vA m c) b h j.val
abbrev O (b h i : ℕ) : Fin 128 → EReal := planeRow (oA m c) b h i

/-- The gradient with respect to the products of query row `i` of head `h` with the keys. -/
abbrev kw (b h i : ℕ) : Fin 2176 → EReal :=
  kW (n := 2064) (m := 112) scale (K m c b h) (W m c b h) (Q m c b h i) (O m c b h i)

/-- The queries' gradient. -/
def dq (b h i : ℕ) (d : Fin 256) : EReal := ∑ j, kw m c b h i j * K m c b h j d

/-- The keys' gradient: the sum over the points of a head, two blocks of rows. -/
def dk (b h : ℕ) (j : Fin 2176) (d : Fin 256) : EReal :=
  ∑ s ∈ Finset.range 2, ∑ p : Fin 1088, kw m c b h (s * 1088 + p.val) j * Q m c b h (s * 1088 + p.val) d

/-- The values' gradient. -/
def dv (b h : ℕ) (j : Fin 2176) (d : Fin 128) : EReal :=
  ∑ s ∈ Finset.range 2, ∑ p : Fin 1088, kA (n := 2064) (m := 112) scale (K m c b h)
    (Q m c b h (s * 1088 + p.val)) (O m c b h (s * 1088 + p.val)) j d

/-- The queries' gradient as an array. -/
def dqArr : S4352x2048.Idx → EReal := fun x =>
  dq m c ((x 0).val / 2176) ((x 1).val / 256) ((x 0).val % 2176) ⟨(x 1).val % 256, Nat.mod_lt _ (by decide)⟩

/-- The keys' and the values' gradients as arrays. -/
def dkArr : S4352x2048.Idx → EReal := fun x =>
  dk m c ((x 0).val / 2176) ((x 1).val / 256) ⟨(x 0).val % 2176, Nat.mod_lt _ (by decide)⟩ ⟨(x 1).val % 256, Nat.mod_lt _ (by decide)⟩
def dvArr : S4352x1024.Idx → EReal := fun x =>
  dv m c ((x 0).val / 2176) ((x 1).val / 128) ⟨(x 0).val % 2176, Nat.mod_lt _ (by decide)⟩ ⟨(x 1).val % 128, Nat.mod_lt _ (by decide)⟩

/-- A point's terms, entry by entry. -/
theorem term_dq (t : Fin cfg0.N) (p : Fin 1088) (d : Fin 256) :
    dqTerm (iblk m c 0 t) (iblk m c 1 t) (iblk m c 2 t) (iblk m c 3 t) (ix2 p d)
      = dq m c (t.val / 16) (t.val / 2 % 8) (t.val % 2 * 1088 + p.val) d := by
  refine (pay2_apply (iblk m c 0 t) (iblk m c 3 t) (iblk m c 1 t) (iblk m c 2 t) p d).trans ?_
  rw [block_q, block_k, block_v, block_o]
  rfl

theorem term_dk (t : Fin cfg0.N) (j : Fin 2176) (d : Fin 256) :
    dkTerm (iblk m c 0 t) (iblk m c 1 t) (iblk m c 2 t) (iblk m c 3 t) (ix2 j d)
      = ∑ p : Fin 1088, kw m c (t.val / 16) (t.val / 2 % 8) (t.val % 2 * 1088 + p.val) j
          * Q m c (t.val / 16) (t.val / 2 % 8) (t.val % 2 * 1088 + p.val) d := by
  refine (pay3_apply (iblk m c 0 t) (iblk m c 3 t) (iblk m c 1 t) (iblk m c 2 t) j d).trans ?_
  refine Finset.sum_congr rfl fun p _ => ?_
  rw [block_q, block_k, block_v, block_o]

theorem term_dv (t : Fin cfg0.N) (j : Fin 2176) (d : Fin 128) :
    dvTerm (iblk m c 0 t) (iblk m c 1 t) (iblk m c 3 t) (ix2 j d)
      = ∑ p : Fin 1088, kA (n := 2064) (m := 112) scale (K m c (t.val / 16) (t.val / 2 % 8))
          (Q m c (t.val / 16) (t.val / 2 % 8) (t.val % 2 * 1088 + p.val))
          (O m c (t.val / 16) (t.val / 2 % 8) (t.val % 2 * 1088 + p.val)) j d := by
  refine (pay4_apply (iblk m c 0 t) (iblk m c 3 t) (iblk m c 1 t) j d).trans ?_
  refine Finset.sum_congr rfl fun p _ => ?_
  rw [block_q, block_k, block_o]

/-- The queries' gradient array. -/
theorem final_dq : (dats m 0 c).arrAt 4 cfg0.N = dqArr m c := by
  refine (dats m 0 c).arrAt_eq_of_cover 4 (dqArr m c) (fun t _ => ?_) fun i => ?_
  · have ht := lt32 t
    rw [flushed4, outs_dq]
    funext y
    rw [View.read_apply]
    obtain ⟨p, d, rfl⟩ : ∃ p d, y = ix2 p d := ⟨_, _, eq_ix2 y⟩
    refine (term_dq m c t p d).trans ?_
    show _ = dq m c ((win0_4.index t 0 * 1088 + 1 * p.val) / 2176) ((win0_4.index t 1 * 256 + 1 * d.val) / 256)
      ((win0_4.index t 0 * 1088 + 1 * p.val) % 2176) ⟨(win0_4.index t 1 * 256 + 1 * d.val) % 256, Nat.mod_lt _ (by decide)⟩
    have hp := p.isLt
    have hd := d.isLt
    rw [(index4 t).1, (index4 t).2]
    congr 1
    · omega
    · omega
    · omega
    · exact Fin.ext (by dsimp only; omega)
  · obtain ⟨x, y, rfl⟩ : ∃ x y, i = ix2 x y := ⟨_, _, eq_ix2 i⟩
    have hx := x.isLt
    have hy := y.isLt
    have hN : cfg0.N = 32 := N_0
    have h : x.val / 2176 * 16 + y.val / 256 * 2 + x.val / 1088 % 2 < cfg0.N := by omega
    refine ⟨⟨_, h⟩, flush0_4 _, ?_⟩
    show ix2 x y ∈ ((View.whole main_v8_0).slice (win0_4.rect ⟨_, h⟩)).set
    rw [View.set_slice_whole, Rect.mem_set_unit]
    intro a
    match a with
    | ⟨0, _⟩ =>
      show win0_4.index ⟨_, h⟩ 0 * 1088 ≤ x.val ∧ x.val < win0_4.index ⟨_, h⟩ 0 * 1088 + 1088
      rw [(index4 ⟨_, h⟩).1]; dsimp only; omega
    | ⟨1, _⟩ =>
      show win0_4.index ⟨_, h⟩ 1 * 256 ≤ y.val ∧ y.val < win0_4.index ⟨_, h⟩ 1 * 256 + 256
      rw [(index4 ⟨_, h⟩).2]; dsimp only; omega

/-- The keys' gradient array. -/
theorem final_dk : (dats m 0 c).arrAt 5 cfg0.N = dkArr m c := by
  refine (dats m 0 c).arrAt_eq_of_cover 5 (dkArr m c) (fun t hf => ?_) fun i => ?_
  · have ht := lt32 t
    have h7 : t.val % 2 = 1 := (flush0_5 t).mp hf
    rw [flushed5]
    funext y
    rw [View.read_apply]
    obtain ⟨j, d, rfl⟩ : ∃ j d, y = ix2 j d := ⟨_, _, eq_ix2 y⟩
    refine (run_sum (J := 2) (by decide) (fun n h => (outsAt0 m c n h).2.1)
      (fun n h => dkTerm (iblk m c 0 ⟨n, h⟩) (iblk m c 1 ⟨n, h⟩) (iblk m c 2 ⟨n, h⟩) (iblk m c 3 ⟨n, h⟩))
      (fun n h h0 => outs_dk_first m c ⟨n, h⟩ h0) (fun n h h0 => outs_dk_next m c n h h0) t.val t.isLt (by omega)
      (fun s x => ∑ p : Fin 1088, kw m c (t.val / 16) (t.val / 2 % 8) (s * 1088 + p.val) (x 0)
        * Q m c (t.val / 16) (t.val / 2 % 8) (s * 1088 + p.val) (x 1)) ?_ (ix2 j d)).trans ?_
    · intro n h x hn
      obtain ⟨j, d, rfl⟩ : ∃ j d, x = ix2 j d := ⟨_, _, eq_ix2 x⟩
      refine (term_dk m c ⟨n, h⟩ j d).trans ?_
      show _ = ∑ p : Fin 1088, kw m c (t.val / 16) (t.val / 2 % 8) (n % 2 * 1088 + p.val) j
        * Q m c (t.val / 16) (t.val / 2 % 8) (n % 2 * 1088 + p.val) d
      dsimp only
      rw [show n / 16 = t.val / 16 by omega, show n / 2 % 8 = t.val / 2 % 8 by omega]
    · show dk m c (t.val / 16) (t.val / 2 % 8) j d = dk m c ((win0_5.index t 0 * 2176 + 1 * j.val) / 2176)
        ((win0_5.index t 1 * 256 + 1 * d.val) / 256) ⟨(win0_5.index t 0 * 2176 + 1 * j.val) % 2176, Nat.mod_lt _ (by decide)⟩
        ⟨(win0_5.index t 1 * 256 + 1 * d.val) % 256, Nat.mod_lt _ (by decide)⟩
      have hj := j.isLt
      have hd := d.isLt
      rw [(index5 t).1, (index5 t).2]
      congr 1
      · omega
      · omega
      · exact Fin.ext (by dsimp only; omega)
      · exact Fin.ext (by dsimp only; omega)
  · obtain ⟨x, y, rfl⟩ : ∃ x y, i = ix2 x y := ⟨_, _, eq_ix2 i⟩
    have hx := x.isLt
    have hy := y.isLt
    have hN : cfg0.N = 32 := N_0
    have h : x.val / 2176 * 16 + y.val / 256 * 2 + 1 < cfg0.N := by omega
    refine ⟨⟨_, h⟩, (flush0_5 _).mpr (by dsimp only; omega), ?_⟩
    show ix2 x y ∈ ((View.whole main_v8_1).slice (win0_5.rect ⟨_, h⟩)).set
    rw [View.set_slice_whole, Rect.mem_set_unit]
    intro a
    match a with
    | ⟨0, _⟩ =>
      show win0_5.index ⟨_, h⟩ 0 * 2176 ≤ x.val ∧ x.val < win0_5.index ⟨_, h⟩ 0 * 2176 + 2176
      rw [(index5 ⟨_, h⟩).1]; dsimp only; omega
    | ⟨1, _⟩ =>
      show win0_5.index ⟨_, h⟩ 1 * 256 ≤ y.val ∧ y.val < win0_5.index ⟨_, h⟩ 1 * 256 + 256
      rw [(index5 ⟨_, h⟩).2]; dsimp only; omega

/-- The values' gradient array. -/
theorem final_dv : (dats m 0 c).arrAt 6 cfg0.N = dvArr m c := by
  refine (dats m 0 c).arrAt_eq_of_cover 6 (dvArr m c) (fun t hf => ?_) fun i => ?_
  · have ht := lt32 t
    have h7 : t.val % 2 = 1 := (flush0_6 t).mp hf
    rw [flushed6]
    funext y
    rw [View.read_apply]
    obtain ⟨j, d, rfl⟩ : ∃ j d, y = ix2 j d := ⟨_, _, eq_ix2 y⟩
    refine (run_sum (J := 2) (by decide) (fun n h => (outsAt0 m c n h).2.2)
      (fun n h => dvTerm (iblk m c 0 ⟨n, h⟩) (iblk m c 1 ⟨n, h⟩) (iblk m c 3 ⟨n, h⟩))
      (fun n h h0 => outs_dv_first m c ⟨n, h⟩ h0) (fun n h h0 => outs_dv_next m c n h h0) t.val t.isLt (by omega)
      (fun s x => ∑ p : Fin 1088, kA (n := 2064) (m := 112) scale (K m c (t.val / 16) (t.val / 2 % 8))
        (Q m c (t.val / 16) (t.val / 2 % 8) (s * 1088 + p.val))
        (O m c (t.val / 16) (t.val / 2 % 8) (s * 1088 + p.val)) (x 0) (x 1)) ?_ (ix2 j d)).trans ?_
    · intro n h x hn
      obtain ⟨j, d, rfl⟩ : ∃ j d, x = ix2 j d := ⟨_, _, eq_ix2 x⟩
      refine (term_dv m c ⟨n, h⟩ j d).trans ?_
      show _ = ∑ p : Fin 1088, kA (n := 2064) (m := 112) scale (K m c (t.val / 16) (t.val / 2 % 8))
        (Q m c (t.val / 16) (t.val / 2 % 8) (n % 2 * 1088 + p.val))
        (O m c (t.val / 16) (t.val / 2 % 8) (n % 2 * 1088 + p.val)) j d
      dsimp only
      rw [show n / 16 = t.val / 16 by omega, show n / 2 % 8 = t.val / 2 % 8 by omega]
    · show dv m c (t.val / 16) (t.val / 2 % 8) j d = dv m c ((win0_6.index t 0 * 2176 + 1 * j.val) / 2176)
        ((win0_6.index t 1 * 128 + 1 * d.val) / 128) ⟨(win0_6.index t 0 * 2176 + 1 * j.val) % 2176, Nat.mod_lt _ (by decide)⟩
        ⟨(win0_6.index t 1 * 128 + 1 * d.val) % 128, Nat.mod_lt _ (by decide)⟩
      have hj := j.isLt
      have hd := d.isLt
      rw [(index6 t).1, (index6 t).2]
      congr 1
      · omega
      · omega
      · exact Fin.ext (by dsimp only; omega)
      · exact Fin.ext (by dsimp only; omega)
  · obtain ⟨x, y, rfl⟩ : ∃ x y, i = ix2 x y := ⟨_, _, eq_ix2 i⟩
    have hx := x.isLt
    have hy := y.isLt
    have hN : cfg0.N = 32 := N_0
    have h : x.val / 2176 * 16 + y.val / 128 * 2 + 1 < cfg0.N := by omega
    refine ⟨⟨_, h⟩, (flush0_6 _).mpr (by dsimp only; omega), ?_⟩
    show ix2 x y ∈ ((View.whole main_v8_2).slice (win0_6.rect ⟨_, h⟩)).set
    rw [View.set_slice_whole, Rect.mem_set_unit]
    intro a
    match a with
    | ⟨0, _⟩ =>
      show win0_6.index ⟨_, h⟩ 0 * 2176 ≤ x.val ∧ x.val < win0_6.index ⟨_, h⟩ 0 * 2176 + 2176
      rw [(index6 ⟨_, h⟩).1]; dsimp only; omega
    | ⟨1, _⟩ =>
      show win0_6.index ⟨_, h⟩ 1 * 128 ≤ y.val ∧ y.val < win0_6.index ⟨_, h⟩ 1 * 128 + 128
      rw [(index6 ⟨_, h⟩).2]; dsimp only; omega

end Cert.Kernel2Ideal.Arrays

end
-- ==== Proof.MlaRefValue.lean ====
/- What the reference computes, entry by entry: the derivative of the latent attention. -/
module

public import proofs.«01_k».proof.Proof.Gen.Reference2Ideal.Read
public import proofs.«01_k».proof.Proof.RowMax
public import proofs.«01_k».proof.Proof.Heads
public import proofs.«01_k».proof.Proof.At

@[expose] public section

set_option maxRecDepth 16384

noncomputable section

namespace Cert.Reference2Ideal.Grad

open Idealize.ShloMosaic Cert.Reference2Ideal.Read Cert.Attn

variable (x0 x1 : (⟨S4352x1536, .bf16⟩ : BufTy).Contents (Elt Ideal)) (x2 : (⟨S4352x1024, .bf16⟩ : BufTy).Contents (Elt Ideal))
  (x3 : (⟨S2x2064x1024, .bf16⟩ : BufTy).Contents (Elt Ideal))

/-- The scale of the scores: the word 1/√192 is rounded to. -/
abbrev scale : EReal := Ideal.ofBits .f32 0x3D93CD3A#32

/-- The queries, keys, values and output gradients of one head, by row. -/
abbrev Q (b h i : ℕ) : Fin 192 → EReal := headRow (R := 4352) (C := 1536) x0 b h i
abbrev K (b h : ℕ) (j : Fin 2064) : Fin 192 → EReal := headRow (R := 4352) (C := 1536) x1 b h j.val
abbrev W (b h : ℕ) (j : Fin 2064) : Fin 128 → EReal := headRow (R := 4352) (C := 1024) x2 b h j.val
abbrev O (b h i : ℕ) : Fin 128 → EReal := planeRow (B := 2) (R := 2064) (C := 1024) x3 b h i

variable (b : Fin 2) (h : Fin 8) (i j : Fin 2064) (d : Fin 192) (e : Fin 128)

/-- The arrays as the reference lays them out. -/
theorem v6_apply : val_main_v6 (F := Ideal) x0 (ix5 b i h 0 d) = Q x0 b h i d := by
  unfold Q headRow
  rw [at2_eq _ (show b.val * 2176 + i.val < 4352 by omega) (show h.val * 192 + d.val < 1536 by omega)]
  pointwise [val_main_v6, val_main_v5, val_main_v4, val_main_v0]

theorem v9_apply : val_main_v9 (F := Ideal) x1 (ix4 b j h d) = K x1 b h j d := by
  unfold K headRow
  rw [at2_eq _ (show b.val * 2176 + j.val < 4352 by omega) (show h.val * 192 + d.val < 1536 by omega)]
  pointwise [val_main_v9, val_main_v8, val_main_v7, val_main_v1]

theorem v12_apply : val_main_v12 (F := Ideal) x2 (ix4 b j h e) = W x2 b h j e := by
  unfold W headRow
  rw [at2_eq _ (show b.val * 2176 + j.val < 4352 by omega) (show h.val * 128 + e.val < 1024 by omega)]
  pointwise [val_main_v12, val_main_v11, val_main_v10, val_main_v2]

theorem v49_apply : val_main_v49 (F := Ideal) x3 (ix5 b h e 0 i) = O x3 b h i e := by
  unfold O planeRow
  rw [at3_eq _ b.isLt i.isLt (show h.val * 128 + e.val < 1024 by omega)]
  pointwise [val_main_v49, val_main_v48, val_main_v3]

/-- The scores. -/
theorem v16_apply : val_main_v16 (F := Ideal) x0 x1 (ix5 b h 0 i j) = scores scale (K x1 b h) (Q x0 b h i) j := by
  pointwise [val_main_v16, val_main_v15, val_main_cst, val_main_v14, val_main_v13]
  simp only [v6_apply, v9_apply]
  unfold scores
  simp only [mul_comm]

/-- Their maximum. -/
theorem v17_apply : val_main_v17 (F := Ideal) x0 x1 (ix4 b h 0 i) = rmax (scores scale (K x1 b h) (Q x0 b h i)) := by
  have h16 : (fun j => scores scale (K x1 b h) (Q x0 b h i) j) = fun j => val_main_v16 (F := Ideal) x0 x1 (ix5 b h 0 i j) :=
    funext fun j => (v16_apply x0 x1 b h i j).symm
  unfold rmax
  rw [show scores scale (K x1 b h) (Q x0 b h i) = _ from h16]
  unfold val_main_v17
  generalize val_main_v16 (F := Ideal) x0 x1 = y
  refine (hostMax_last y _ _ _ b h 0 i).trans ?_
  rw [show val_main_cst_0 (F := Ideal) (Shape.Idx.first Gen.h_S_) = ⊥ from ofBits_neg_inf]

/-- The weights before they are normalised. -/
theorem v37_apply : val_main_v37 (F := Ideal) x0 x1 (ix5 b h 0 i j) = rexp (scores scale (K x1 b h) (Q x0 b h i)) j := by
  unfold rexp
  rw [← v16_apply, ← v17_apply, val_main_v37_apply, val_main_v36_apply, val_main_v35_apply, val_main_v34_apply, val_main_v24_apply,
    val_main_v23_apply, val_main_cst_2_apply]
  have e : idx_main_v34 (idx_main_v35 (ix5 b h 0 i j)) = ix4 b h 0 i := by
    funext a; match a with | ⟨0, _⟩ => rfl | ⟨1, _⟩ => rfl | ⟨2, _⟩ => rfl | ⟨3, _⟩ => rfl
  rw [e]
  generalize val_main_v16 (F := Ideal) x0 x1 (ix5 b h 0 i j) = y
  generalize val_main_v17 (F := Ideal) x0 x1 (ix4 b h 0 i) = z
  show Ideal.exp (y - max (Ideal.ofBits .f32 0xFF800000#32) z) = _
  rw [ofBits_neg_inf, max_eq_right bot_le]

/-- The normalised weights. -/
theorem v41_apply : val_main_v41 (F := Ideal) x0 x1 (ix5 b h 0 i j) = weight scale (K x1 b h) (Q x0 b h i) j := by
  pointwise [val_main_v41, val_main_v40, val_main_v39, val_main_v38, val_main_cst_8]
  simp only [v37_apply]
  rfl

/-- The gradient with respect to the products of the queries with the keys. -/
theorem v67_apply : val_main_v67 (F := Ideal) x0 x1 x2 x3 (ix5 b h 0 i j)
    = rW scale (K x1 b h) (W x2 b h) (Q x0 b h i) (O x3 b h i) j := by
  pointwise [val_main_v67, val_main_v66, val_main_v65, val_main_v64, val_main_v63, val_main_v62, val_main_v61, val_main_v60, val_main_v59, val_main_v58, val_main_v57, val_main_v56, val_main_v55, val_main_v54, val_main_v53, val_main_v50, val_main_v44, val_main_v43, val_main_v42, val_main_v39, val_main_v38, val_main_cst_8, val_main_cst_9, val_main_cst_10, val_main_cst_11, val_main_cst_12]
  simp only [v37_apply, v49_apply, v12_apply]
  rw [hostSum_ones]
  pointwise
  simp only [v37_apply, v49_apply, v12_apply]
  rfl

/-- The values' gradient, on the rows that count. -/
theorem v52_apply : val_main_v52 (F := Ideal) x0 x1 x3 (ix4 b j h e)
    = ∑ i : Fin 2064, weight scale (K x1 b h) (Q x0 b h i) j * O x3 b h i e := by
  pointwise [val_main_v52, val_main_v51]
  simp only [Fin.sum_univ_one, Fin.isValue, v49_apply, v41_apply, mul_comm]

/-- The queries' gradient, on the rows that count. -/
theorem v70_apply : val_main_v70 (F := Ideal) x0 x1 x2 x3 (ix5 b i h 0 d)
    = ∑ j : Fin 2064, rW scale (K x1 b h) (W x2 b h) (Q x0 b h i) (O x3 b h i) j * K x1 b h j d := by
  pointwise [val_main_v70, val_main_v69, val_main_v68]
  simp only [v67_apply, v9_apply]

/-- The keys' gradient, on the rows that count. -/
theorem v72_apply : val_main_v72 (F := Ideal) x0 x1 x2 x3 (ix4 b j h d)
    = ∑ i : Fin 2064, rW scale (K x1 b h) (W x2 b h) (Q x0 b h i) (O x3 b h i) j * Q x0 b h i d := by
  pointwise [val_main_v72, val_main_v71, val_main_v68]
  simp only [Fin.sum_univ_one, Fin.isValue, v67_apply, v6_apply]

/-- The zero that the columns are padded with. -/
theorem padding_zero : FloatOps.sitofp (F := Ideal) FTy.f32 0#32 = (0 : EReal) := by
  show ((((0#32 : BitVec 32).toInt : ℤ) : ℝ) : EReal) = 0
  simp

/-- The queries' gradient, zero on the padding rows and columns. -/
theorem v84_apply (i : Fin 2176) (d : Fin 256) :
    val_main_v84 (F := Ideal) x0 x1 x2 x3 (ix2 ⟨b.val * 2176 + i.val, by omega⟩ ⟨h.val * 256 + d.val, by omega⟩)
      = if hi : i.val < 2064 ∧ d.val < 192 then val_main_v70 (F := Ideal) x0 x1 x2 x3 (ix5 b ⟨i.val, hi.1⟩ h 0 ⟨d.val, hi.2⟩) else 0 := by
  pointwise [val_main_v84, val_main_v83, val_main_v82, val_main_v81, val_main_v80, val_main_v79, val_main_cst_15, val_main_call0_v0, val_main_c]
  rw [padding_zero]
  by_cases hd : d.val < 192
  · rw [dif_pos ⟨by omega, hd⟩]
    by_cases hi : i.val < 2064
    · rw [dif_pos ⟨hi, by omega⟩, dif_pos ⟨hi, hd⟩]
      congr 2
      · exact Fin.ext (by dsimp only; omega)
      · exact Fin.ext (by dsimp only; omega)
    · rw [dif_neg fun h => hi h.1, dif_neg fun h => hi h.1]
  · rw [dif_neg fun h => hd h.2, dif_neg fun h => hd h.2]

/-- The keys' gradient, zero on the padding rows and columns. -/
theorem v87_apply (i : Fin 2176) (d : Fin 256) :
    val_main_v87 (F := Ideal) x0 x1 x2 x3 (ix2 ⟨b.val * 2176 + i.val, by omega⟩ ⟨h.val * 256 + d.val, by omega⟩)
      = if hi : i.val < 2064 ∧ d.val < 192 then val_main_v72 (F := Ideal) x0 x1 x2 x3 (ix4 b ⟨i.val, hi.1⟩ h ⟨d.val, hi.2⟩) else 0 := by
  pointwise [val_main_v87, val_main_v86, val_main_v85, val_main_v78, val_main_v77, val_main_v76, val_main_cst_14, val_main_call1_v0, val_main_c_16]
  rw [padding_zero]
  by_cases hd : d.val < 192
  · rw [dif_pos ⟨by omega, hd⟩]
    by_cases hi : i.val < 2064
    · rw [dif_pos ⟨hi, by omega⟩, dif_pos ⟨hi, hd⟩]
      congr 2
      · exact Fin.ext (by dsimp only; omega)
      · exact Fin.ext (by dsimp only; omega)
    · rw [dif_neg fun h => hi h.1, dif_neg fun h => hi h.1]
  · rw [dif_neg fun h => hd h.2, dif_neg fun h => hd h.2]

/-- The values' gradient, zero on the padding. -/
theorem v75_apply (i : Fin 2176) : val_main_v75 (F := Ideal) x0 x1 x3 (ix2 ⟨b.val * 2176 + i.val, by omega⟩ ⟨h.val * 128 + e.val, by omega⟩)
    = if hi : i.val < 2064 then val_main_v52 (F := Ideal) x0 x1 x3 (ix4 b ⟨i.val, hi⟩ h e) else 0 := by
  pointwise [val_main_v75, val_main_v74, val_main_v73, val_main_cst_13]
  by_cases hi : i.val < 2064
  · rw [dif_pos hi, dif_pos ⟨hi, by omega⟩]
  · rw [dif_neg hi, dif_neg fun h => hi h.1]

end Cert.Reference2Ideal.Grad

end
-- ==== Proof.MlaEquation.lean ====
/- The equation: where the queries and the keys are finite, the arrays the latent attention's kernel writes are the derivative's. -/
module

public import proofs.«01_k».proof.Proof.MlaArrays
public import proofs.«01_k».proof.Proof.MlaRefValue
public import proofs.«01_k».proof.Proof.Equation

@[expose] public section

set_option maxRecDepth 16384

noncomputable section

namespace Cert.MlaEquation

open Cert.Kernel2Ideal Cert.Kernel2Ideal.Arrays Cert.Attn Cert.Reference2Ideal.Read
open Idealize.ShloMosaic Idealize.ShloMosaic.TcCoe Idealize.SL.Sem
open Cert.Equation (split ix2_of)

variable (m : (ℓ : Loc nD τ sig) → Buf (Elt Ideal) ℓ) (c : Dev nD)

/-- Below the rows that count, the output gradient is zero. -/
theorem O_pad (b h i : ℕ) (hi : 2064 ≤ i) (e : Fin 128) : O m c b h i e = 0 := at3_out _ hi

variable (hq : ∀ i, qA m c i ≠ ⊤ ∧ qA m c i ≠ ⊥) (hk : ∀ i, kAr m c i ≠ ⊤ ∧ kAr m c i ≠ ⊥)

/-- The rows of one head's queries and keys, before they are widened. -/
abbrev Q' (b h i : ℕ) : Fin 192 → EReal := headRow (qA m c) b h i
abbrev K' (b h : ℕ) (j : Fin 2176) : Fin 192 → EReal := headRow (kAr m c) b h j.val

include hq in
theorem Q_finite (b h i : ℕ) : Finite (Q' m c b h i) := fun _ => at2_finite hq _ _

include hk in
theorem K_finite (b h : ℕ) (j : Fin 2176) : Finite (K' m c b h j) := fun _ => at2_finite hk _ _

/-- The scale of the scores is a real number, the same on both sides. -/
theorem scale_real : ∃ r : ℝ, Kernel2Ideal.Block.scale = r ∧ Reference2Ideal.Grad.scale = r := by
  obtain ⟨r, hr⟩ := ofBits_scale_mla
  exact ⟨r, hr, hr⟩

include hq hk in
/-- The queries' gradients agree. -/
theorem dq_eq : dqArr m c = val_main_v84 (F := Ideal) (qA m c) (kAr m c) (vA m c) (oA m c) := by
  obtain ⟨r, hr, hr'⟩ := scale_real
  funext x
  obtain ⟨b, i, hb⟩ := split 2176 (by decide) (x 0)
  obtain ⟨h, d, hH⟩ := split 256 (by decide) (x 1)
  have hx0 : (x 0).val < 4352 := (x 0).isLt
  have hx1 : (x 1).val < 2048 := (x 1).isLt
  have hh : h < 8 := by omega
  have hbb : b < 2 := by omega
  have e : x = ix2 ⟨b * 2176 + i.val, by omega⟩ ⟨h * 256 + d.val, by omega⟩ := ix2_of x _ _ hb hH
  have hv := Reference2Ideal.Grad.v84_apply (qA m c) (kAr m c) (vA m c) (oA m c) ⟨b, hbb⟩ ⟨h, hh⟩ i d
  have hl : dqArr m c x = dq m c b h i.val d := by
    unfold dqArr
    congr 1
    · omega
    · omega
    · omega
    · exact Fin.ext (by dsimp only; omega)
  rw [hl, e]
  refine Eq.trans ?_ hv.symm
  unfold dq kw
  by_cases hi : i.val < 2064
  · rw [hr]
    refine (dq_widen (n := 2064) (m := 112) (w := 64) (Q_finite m c hq b h i.val) (K_finite m c hk b h) d).trans ?_
    by_cases hd : d.val < 192
    · rw [dif_pos hd, dif_pos ⟨hi, hd⟩, Reference2Ideal.Grad.v70_apply, hr']
      rfl
    · rw [dif_neg hd, dif_neg fun h => hd h.2]
  · rw [dif_neg fun h => hi h.1]
    exact dq_zero (n := 2064) (m := 112) _ (O_pad m c _ _ _ (by omega)) d

include hq hk in
/-- The keys' gradients agree. -/
theorem dk_eq : dkArr m c = val_main_v87 (F := Ideal) (qA m c) (kAr m c) (vA m c) (oA m c) := by
  obtain ⟨r, hr, hr'⟩ := scale_real
  funext x
  obtain ⟨b, i, hb⟩ := split 2176 (by decide) (x 0)
  obtain ⟨h, d, hH⟩ := split 256 (by decide) (x 1)
  have hx0 : (x 0).val < 4352 := (x 0).isLt
  have hx1 : (x 1).val < 2048 := (x 1).isLt
  have hh : h < 8 := by omega
  have hbb : b < 2 := by omega
  have e : x = ix2 ⟨b * 2176 + i.val, by omega⟩ ⟨h * 256 + d.val, by omega⟩ := ix2_of x _ _ hb hH
  have hv := Reference2Ideal.Grad.v87_apply (qA m c) (kAr m c) (vA m c) (oA m c) ⟨b, hbb⟩ ⟨h, hh⟩ i d
  have hl : dkArr m c x = dk m c b h i d := by
    unfold dkArr
    congr 1
    · omega
    · omega
    · exact Fin.ext (by dsimp only; omega)
    · exact Fin.ext (by dsimp only; omega)
  rw [hl, e]
  refine Eq.trans ?_ hv.symm
  unfold dk kw
  by_cases hi : i.val < 2064
  · rw [hr]
    refine (dk_widen (n := 2064) (m := 112) (w := 64) (Q := Q' m c b h) (O := O m c b h) 2 1088 (by decide)
      (fun _ => Q_finite m c hq _ _ _) (K_finite m c hk _ _) (fun _ hi _ => O_pad m c _ _ _ hi) ⟨i.val, hi⟩ d).trans ?_
    by_cases hd : d.val < 192
    · rw [dif_pos hd, dif_pos ⟨hi, hd⟩, Reference2Ideal.Grad.v72_apply, hr']
      rfl
    · rw [dif_neg hd, dif_neg fun h => hd h.2]
  · rw [dif_neg fun h => hi h.1]
    have hn : 2064 ≤ i.val := by omega
    exact dk_below (n := 2064) (m := 112) (T := Q m c b h) (O := O m c b h) 2 1088 _ i hn d

include hq hk in
/-- The values' gradients agree. -/
theorem dv_eq : dvArr m c = val_main_v75 (F := Ideal) (qA m c) (kAr m c) (oA m c) := by
  obtain ⟨r, hr, hr'⟩ := scale_real
  funext x
  obtain ⟨b, i, hb⟩ := split 2176 (by decide) (x 0)
  obtain ⟨h, d, hH⟩ := split 128 (by decide) (x 1)
  have hx0 : (x 0).val < 4352 := (x 0).isLt
  have hx1 : (x 1).val < 1024 := (x 1).isLt
  have hh : h < 8 := by omega
  have hbb : b < 2 := by omega
  have e : x = ix2 ⟨b * 2176 + i.val, by omega⟩ ⟨h * 128 + d.val, by omega⟩ := ix2_of x _ _ hb hH
  have hv := Reference2Ideal.Grad.v75_apply (qA m c) (kAr m c) (oA m c) ⟨b, hbb⟩ ⟨h, hh⟩ d i
  have hl : dvArr m c x = dv m c b h i d := by
    unfold dvArr
    congr 1
    · omega
    · omega
    · exact Fin.ext (by dsimp only; omega)
    · exact Fin.ext (by dsimp only; omega)
  rw [hl, e]
  refine Eq.trans ?_ hv.symm
  unfold dv
  by_cases hi : i.val < 2064
  · rw [hr, dif_pos hi, Reference2Ideal.Grad.v52_apply, hr']
    exact dv_widen (n := 2064) (m := 112) (w := 64) (Q := Q' m c b h) (O := O m c b h) 2 1088 (by decide)
      (fun _ => Q_finite m c hq _ _ _) (K_finite m c hk _ _) (fun _ hi _ => O_pad m c _ _ _ hi) ⟨i.val, hi⟩ d
  · rw [dif_neg hi]
    have hn : 2064 ≤ i.val := by omega
    exact dv_below (n := 2064) (m := 112) (T := Q m c b h) (O := O m c b h) 2 1088 _ i hn d

end Cert.MlaEquation

end
-- ==== Proof.FfnAct.lean ====
/- The gradient of the feed-forward activation, `dh w_downᵀ`: the kernel's array is the reference's. -/
module

public import proofs.«01_k».proof.Proof.Gen.Kernel3Ideal.Value
public import proofs.«01_k».proof.Proof.Gen.Reference3Ideal.Read
public import proofs.«01_k».proof.Proof.Products
public import proofs.«01_k».proof.Proof.Out

@[expose] public section

set_option maxRecDepth 16384

noncomputable section

namespace Cert.Kernel3Ideal.Product

open Cert.Kernel3Ideal Cert.Kernel3Ideal.Gen Cert.Kernel3Ideal.Value Cert.Attn Cert.Products
open Idealize.ShloMosaic Idealize.ShloMosaic.TcCoe Idealize.SL.Sem
open Cert.KernelIdeal.Out (zero2)

/-- A point's block of the result, entry by entry. -/
theorem pay_apply (x : Vec Ideal S1088x2048 .bf16) (w : Vec Ideal S1408x2048 .bf16) (p : Fin 1088) (q : Fin 1408) :
    k0_pay1 x w (ix2 p q) = ∑ k : Fin 2048, x (ix2 p k) * w (ix2 q k) := by
  pointwise [k0_pay1]

variable (m : (ℓ : Loc nD τ sig) → Buf (Elt Ideal) ℓ) (c : Dev nD)

abbrev xA : S4352x2048.Idx → EReal := m ((c : Thread nD τ).loc main_arg0)
abbrev wA : S5632x2048.Idx → EReal := m ((c : Thread nD τ).loc main_arg1)

theorem index0 : ∀ t : Fin grid0.N, win0_0.index t 0 = t.val / 4 ∧ win0_0.index t 1 = 0 := by decide +kernel
theorem index1 : ∀ t : Fin grid0.N, win0_1.index t 0 = t.val % 4 ∧ win0_1.index t 1 = 0 := by decide +kernel
theorem index2 : ∀ t : Fin grid0.N, win0_2.index t 0 = t.val / 4 ∧ win0_2.index t 1 = t.val % 4 := by decide +kernel

theorem lt16 (t : Fin cfg0.N) : t.val < 16 := lt_of_lt_of_eq t.isLt (show cfg0.N = 16 from N_0)

theorem block_x (t : Fin cfg0.N) (p : Fin 1088) (k : Fin 2048) :
    iblk m c 0 t (ix2 p k) = at2 (xA m c) (t.val / 4 * 1088 + p.val) k.val := by
  have ht := lt16 t
  rw [at2_eq _ (show t.val / 4 * 1088 + p.val < 4352 by omega) k.isLt]
  unfold iblk
  rw [View.read_apply]
  refine congrArg (xA m c) (funext fun a => Fin.ext ?_)
  match a with
  | ⟨0, _⟩ => show win0_0.index t 0 * 1088 + 1 * p.val = t.val / 4 * 1088 + p.val; rw [(index0 t).1]; omega
  | ⟨1, _⟩ => show win0_0.index t 1 * 2048 + 1 * k.val = k.val; rw [(index0 t).2]; omega

theorem block_w (t : Fin cfg0.N) (q : Fin 1408) (k : Fin 2048) :
    iblk m c 1 t (ix2 q k) = at2 (wA m c) (t.val % 4 * 1408 + q.val) k.val := by
  have ht := lt16 t
  rw [at2_eq _ (show t.val % 4 * 1408 + q.val < 5632 by omega) k.isLt]
  unfold iblk
  rw [View.read_apply]
  refine congrArg (wA m c) (funext fun a => Fin.ext ?_)
  match a with
  | ⟨0, _⟩ => show win0_1.index t 0 * 1408 + 1 * q.val = t.val % 4 * 1408 + q.val; rw [(index1 t).1]; omega
  | ⟨1, _⟩ => show win0_1.index t 1 * 2048 + 1 * k.val = k.val; rw [(index1 t).2]; omega

/-- The array the kernel writes. -/
def prod : S4352x5632.Idx → EReal := fun x => rowsT 2048 (xA m c) (wA m c) (x 0).val (x 1).val

/-- What a point writes back. -/
theorem out_eq (x : Vec Ideal S1088x2048 .bf16) (w : Vec Ideal S1408x2048 .bf16) : out0_2 x w = k0_pay1 x w := by
  unfold out0_2
  rw [View.canon_unit_zero zero2]
  simp only [View.readAt_eq_ld, View.ld_unit_zero (S := S1088x2048) zero2, View.ld_unit_zero (S := S1408x2048) zero2]

theorem final : (dats m 0 c).arrAt 2 cfg0.N = prod m c := by
  refine (dats m 0 c).arrAt_eq_of_cover 2 (prod m c) (fun t _ => ?_) fun i => ?_
  · rw [flushed2, out_eq]
    funext y
    rw [View.read_apply]
    obtain ⟨p, q, rfl⟩ : ∃ p q, y = ix2 p q := ⟨_, _, eq_ix2 y⟩
    refine (pay_apply _ _ p q).trans ?_
    simp only [block_x, block_w]
    show rowsT 2048 (xA m c) (wA m c) (t.val / 4 * 1088 + p.val) (t.val % 4 * 1408 + q.val)
      = rowsT 2048 (xA m c) (wA m c) (win0_2.index t 0 * 1088 + 1 * p.val) (win0_2.index t 1 * 1408 + 1 * q.val)
    rw [(index2 t).1, (index2 t).2, one_mul, one_mul]
  · obtain ⟨x, y, rfl⟩ : ∃ x y, i = ix2 x y := ⟨_, _, eq_ix2 i⟩
    have hx := x.isLt
    have hy := y.isLt
    have hN : cfg0.N = 16 := N_0
    have h : x.val / 1088 * 4 + y.val / 1408 < cfg0.N := by omega
    refine ⟨⟨_, h⟩, flush0_2 _, ?_⟩
    show ix2 x y ∈ ((View.whole main_v0).slice (win0_2.rect ⟨_, h⟩)).set
    rw [View.set_slice_whole, Rect.mem_set_unit]
    intro a
    match a with
    | ⟨0, _⟩ =>
      show win0_2.index ⟨_, h⟩ 0 * 1088 ≤ x.val ∧ x.val < win0_2.index ⟨_, h⟩ 0 * 1088 + 1088
      rw [(index2 ⟨_, h⟩).1]; dsimp only; omega
    | ⟨1, _⟩ =>
      show win0_2.index ⟨_, h⟩ 1 * 1408 ≤ y.val ∧ y.val < win0_2.index ⟨_, h⟩ 1 * 1408 + 1408
      rw [(index2 ⟨_, h⟩).2]; dsimp only; omega

/-- The reference's entries. -/
theorem ref_apply (a : Vec Ideal S4352x2048 .bf16) (b : Vec Ideal S5632x2048 .bf16) (x : Fin 4352) (y : Fin 5632) :
    Cert.Reference3Ideal.Read.val_main_v2 (F := Ideal) a b (ix2 x y) = ∑ k : Fin 2048, a (ix2 x k) * b (ix2 y k) := by
  pointwise [Cert.Reference3Ideal.Read.val_main_v2, Cert.Reference3Ideal.Read.val_main_v1, Cert.Reference3Ideal.Read.val_main_v0]

/-- The array the kernel writes is the reference's. -/
theorem final_eq : (dats m 0 c).arrAt 2 cfg0.N = Cert.Reference3Ideal.Read.val_main_v2 (F := Ideal) (xA m c) (wA m c) := by
  rw [final]
  funext i
  obtain ⟨x, y, rfl⟩ : ∃ x y, i = ix2 x y := ⟨_, _, eq_ix2 i⟩
  exact (rowsT_eq (xA m c) (wA m c) x y).trans (ref_apply _ _ x y).symm

end Cert.Kernel3Ideal.Product

end
-- ==== Proof.FfnDownWeights.lean ====
/- The gradient of the feed-forward's down weights, `actᵀ dh`: the kernel's array, summed over two blocks of rows in a
   scratch buffer, is the reference's. -/
module

public import proofs.«01_k».proof.Proof.Gen.Kernel4Ideal.Value
public import proofs.«01_k».proof.Proof.Gen.Reference4Ideal.Read
public import proofs.«01_k».proof.Proof.Products
public import proofs.«01_k».proof.Proof.Out

@[expose] public section

set_option maxRecDepth 16384

noncomputable section

namespace Cert.Kernel4Ideal.Product

open Cert.Kernel4Ideal Cert.Kernel4Ideal.Gen Cert.Kernel4Ideal.Value Cert.Attn Cert.Products
open Idealize.ShloMosaic Idealize.ShloMosaic.TcCoe Idealize.SL.Sem
open Cert.KernelIdeal.Out (zero2)

/-- A point's term, entry by entry. -/
theorem pay_apply (x : Vec Ideal S2176x512 .bf16) (d : Vec Ideal S2176x2048 .bf16) (p : Fin 512) (q : Fin 2048) :
    k0_pay1 x d (ix2 p q) = ∑ k : Fin 2176, x (ix2 k p) * d (ix2 k q) := by
  pointwise [k0_pay1]

section Terms

variable (x : Vec Ideal S2176x512 .bf16) (d : Vec Ideal S2176x2048 .bf16) (acc : Vec Ideal S512x2048 .f32)
  (c : Dev nD) (i : grid0.Coords) (a3 : Memref sig .tc .vmem S2176x512 .bf16) (h3 : a3.IsWhole)
  (a4 : Memref sig .tc .vmem S2176x2048 .bf16) (h4 : a4.IsWhole) (a5 : Memref sig .tc .vmem S512x2048 .bf16) (h5 : a5.IsWhole)
  (a6 : Memref sig .tc .vmem S512x2048 .f32) (h6 : a6.IsWhole)

/-- The first point of a run leaves its term in the scratch buffer … -/
theorem first (hc0 : cond0_0 i) (hc1 : ¬cond0_1 i) (hc2 : ¬cond0_2 i) :
    sout0_A_0 c i a3 h3 a4 h4 a5 h5 a6 h6 hc0 hc1 hc2 x d = k0_pay1 x d := by
  unfold sout0_A_0
  rw [View.read_writes_eq_canon _ _ _ (scover0_A_0 c i a3 h3 a4 h4 a5 h5 a6 h6 hc0 hc1 hc2 x d)]
  unfold kernelRun0_A
  dsimp only
  sl_unfold_words
  rw [View.canon_unit_zero zero2]
  unfold k0_pay2
  simp only [View.readAt_eq_ld, h3.read_unread, h4.read_unread, View.ld_unit_zero (S := S2176x512) zero2,
    View.ld_unit_zero (S := S2176x2048) zero2, shapeCast_self]

/-- … and the last writes the buffer and its own term. -/
theorem last (hc0 : ¬cond0_0 i) (hc1 : ¬cond0_1 i) (hc2 : cond0_2 i) :
    out0_B_2 c i a3 h3 a4 h4 a5 h5 a6 h6 hc0 hc1 hc2 x d acc = truncf .bf16 (addf acc (k0_pay1 x d)) bitsLt_bf16_f32 := by
  unfold out0_B_2
  rw [View.read_writes_eq_canon _ _ _ (cover0_B_2 c i a3 h3 a4 h4 a5 h5 a6 h6 hc0 hc1 hc2 x d acc)]
  unfold kernelRun0_B
  dsimp only
  sl_unfold_words
  rw [View.canon_unit_zero zero2]
  unfold k0_pay4
  simp only [View.readAt_eq_ld, h3.read_unread, h4.read_unread, h6.read_unread, View.ld_unit_zero (S := S2176x512) zero2,
    View.ld_unit_zero (S := S2176x2048) zero2, View.ld_unit_zero (S := S512x2048) zero2]

end Terms

variable (m : (ℓ : Loc nD τ sig) → Buf (Elt Ideal) ℓ) (c : Dev nD)

abbrev xA : S4352x5632.Idx → EReal := m ((c : Thread nD τ).loc main_arg0)
abbrev dA : S4352x2048.Idx → EReal := m ((c : Thread nD τ).loc main_arg1)

theorem index0 : ∀ t : Fin grid0.N, win0_0.index t 0 = t.val % 2 ∧ win0_0.index t 1 = t.val / 2 := by decide +kernel
theorem index1 : ∀ t : Fin grid0.N, win0_1.index t 0 = t.val % 2 ∧ win0_1.index t 1 = 0 := by decide +kernel
theorem index2 : ∀ t : Fin grid0.N, win0_2.index t 0 = t.val / 2 ∧ win0_2.index t 1 = 0 := by decide +kernel

theorem block_x (t : Fin cfg0.N) (k : Fin 2176) (p : Fin 512) :
    iblk m c 0 t (ix2 k p) = at2 (xA m c) (t.val % 2 * 2176 + k.val) (t.val / 2 * 512 + p.val) := by
  unfold iblk
  rw [View.read_apply]
  refine (eq_at2 (xA m c) _).trans ?_
  show at2 (xA m c) (win0_0.index t 0 * 2176 + 1 * k.val) (win0_0.index t 1 * 512 + 1 * p.val) = _
  rw [(index0 t).1, (index0 t).2, one_mul, one_mul]

theorem block_d (t : Fin cfg0.N) (k : Fin 2176) (q : Fin 2048) :
    iblk m c 1 t (ix2 k q) = at2 (dA m c) (t.val % 2 * 2176 + k.val) q.val := by
  unfold iblk
  rw [View.read_apply]
  refine (eq_at2 (dA m c) _).trans ?_
  show at2 (dA m c) (win0_1.index t 0 * 2176 + 1 * k.val) (win0_1.index t 1 * 2048 + 1 * q.val) = _
  rw [(index1 t).1, (index1 t).2, one_mul, one_mul, zero_mul, zero_add]

theorem term_apply (t : Fin cfg0.N) (p : Fin 512) (q : Fin 2048) :
    k0_pay1 (iblk m c 0 t) (iblk m c 1 t) (ix2 p q)
      = ∑ k : Fin 2176, at2 (xA m c) (t.val % 2 * 2176 + k.val) (t.val / 2 * 512 + p.val) * at2 (dA m c) (t.val % 2 * 2176 + k.val) q.val := by
  refine (pay_apply _ _ p q).trans ?_
  simp only [block_x, block_d]

/-- What the scratch buffer holds after a run's first point. -/
theorem scratch_first (t : Fin cfg0.N) (h0 : t.val % 2 = 0) : (outsAt0 m c t.val t.isLt).2 = k0_pay1 (iblk m c 0 t) (iblk m c 1 t) := by
  rw [outsAt0_A m c t h0 (by omega)]
  dsimp only
  exact first ..

/-- What a run's last point writes. -/
theorem outs_last (t : Fin cfg0.N) (h1 : t.val % 2 = 1) (p : Fin 512) (q : Fin 2048) :
    (outsAt0 m c t.val t.isLt).1 (ix2 p q) = colsT 4352 (xA m c) (dA m c) (t.val / 2 * 512 + p.val) q.val := by
  have h : t.val - 1 < cfg0.N := Nat.lt_of_le_of_lt (Nat.sub_le _ _) t.isLt
  rw [outsAt0_B m c t (by omega) h1]
  dsimp only
  rw [last, scratch_first m c ⟨t.val - 1, h⟩ (by dsimp only; omega)]
  refine (congrArg₂ (· + ·) (term_apply m c ⟨t.val - 1, h⟩ p q) (term_apply m c t p q)).trans ?_
  dsimp only
  rw [show (t.val - 1) % 2 = 0 by omega, show (t.val - 1) / 2 = t.val / 2 by omega, h1]
  unfold colsT
  rw [← sum_blocks 2 2176 4352 (by decide) fun k => at2 (xA m c) k (t.val / 2 * 512 + p.val) * at2 (dA m c) k q.val,
    Finset.sum_range_succ, Finset.sum_range_one]

/-- The array the kernel writes. -/
def prod : S5632x2048.Idx → EReal := fun x => colsT 4352 (xA m c) (dA m c) (x 0).val (x 1).val

theorem final : (dats m 0 c).arrAt 2 cfg0.N = prod m c := by
  refine (dats m 0 c).arrAt_eq_of_cover 2 (prod m c) (fun t hf => ?_) fun i => ?_
  · rw [flushed2]
    funext y
    rw [View.read_apply]
    obtain ⟨p, q, rfl⟩ : ∃ p q, y = ix2 p q := ⟨_, _, eq_ix2 y⟩
    refine (outs_last m c t ((flush0_2 t).mp hf) p q).trans ?_
    show _ = colsT 4352 (xA m c) (dA m c) (win0_2.index t 0 * 512 + 1 * p.val) (win0_2.index t 1 * 2048 + 1 * q.val)
    rw [(index2 t).1, (index2 t).2, one_mul, one_mul, zero_mul, zero_add]
  · obtain ⟨x, y, rfl⟩ : ∃ x y, i = ix2 x y := ⟨_, _, eq_ix2 i⟩
    have hx := x.isLt
    have hy := y.isLt
    have hN : cfg0.N = 22 := N_0
    have h : x.val / 512 * 2 + 1 < cfg0.N := by omega
    refine ⟨⟨_, h⟩, (flush0_2 _).mpr (by dsimp only; omega), ?_⟩
    show ix2 x y ∈ ((View.whole main_v0).slice (win0_2.rect ⟨_, h⟩)).set
    rw [View.set_slice_whole, Rect.mem_set_unit]
    intro a
    match a with
    | ⟨0, _⟩ =>
      show win0_2.index ⟨_, h⟩ 0 * 512 ≤ x.val ∧ x.val < win0_2.index ⟨_, h⟩ 0 * 512 + 512
      rw [(index2 ⟨_, h⟩).1]; dsimp only; omega
    | ⟨1, _⟩ =>
      show win0_2.index ⟨_, h⟩ 1 * 2048 ≤ y.val ∧ y.val < win0_2.index ⟨_, h⟩ 1 * 2048 + 2048
      rw [(index2 ⟨_, h⟩).2]; omega

/-- The reference's entries. -/
theorem ref_apply (a : Vec Ideal S4352x5632 .bf16) (b : Vec Ideal S4352x2048 .bf16) (x : Fin 5632) (y : Fin 2048) :
    Cert.Reference4Ideal.Read.val_main_v4 (F := Ideal) a b (ix2 x y) = ∑ k : Fin 4352, a (ix2 k x) * b (ix2 k y) := by
  refine Eq.trans ?_ (Finset.sum_congr rfl fun k _ => mul_comm _ _)
  pointwise [Cert.Reference4Ideal.Read.val_main_v4, Cert.Reference4Ideal.Read.val_main_v3, Cert.Reference4Ideal.Read.val_main_v2,
    Cert.Reference4Ideal.Read.val_main_v1, Cert.Reference4Ideal.Read.val_main_v0]

/-- The array the kernel writes is the reference's. -/
theorem final_eq : (dats m 0 c).arrAt 2 cfg0.N = Cert.Reference4Ideal.Read.val_main_v4 (F := Ideal) (xA m c) (dA m c) := by
  rw [final]
  funext i
  obtain ⟨x, y, rfl⟩ : ∃ x y, i = ix2 x y := ⟨_, _, eq_ix2 i⟩
  exact (colsT_eq (xA m c) (dA m c) x y).trans (ref_apply _ _ x y).symm

end Cert.Kernel4Ideal.Product

end
-- ==== Proof.FfnGate.lean ====
/- The gradient that the gate's branch sends back, `dgate w_gateᵀ`: the kernel's array, summed over four shards of the
   weights, is the reference's. -/
module

public import proofs.«01_k».proof.Proof.Gen.Kernel6Ideal.Value
public import proofs.«01_k».proof.Proof.Gen.Reference6Ideal.Read
public import proofs.«01_k».proof.Proof.Products
public import proofs.«01_k».proof.Proof.Fold
public import proofs.«01_k».proof.Proof.Out

@[expose] public section

set_option maxRecDepth 16384

noncomputable section

namespace Cert.Kernel6Ideal.Product

open Cert.Kernel6Ideal Cert.Kernel6Ideal.Gen Cert.Kernel6Ideal.Value Cert.Attn Cert.Products
open Idealize.ShloMosaic Idealize.ShloMosaic.TcCoe Idealize.SL.Sem
open Cert.KernelIdeal.Out (zero2)

/-- What a point's blocks add to the result, entry by entry. -/
theorem pay_apply (x : Vec Ideal S1088x1408 .bf16) (w : Vec Ideal S1x2048x1408 .bf16) (p : Fin 1088) (q : Fin 2048) :
    k0_pay1 x w (ix2 p q) = ∑ k : Fin 1408, x (ix2 p k) * w (ix3 0 q k) := by
  pointwise [k0_pay1]

section Terms

variable (x : Vec Ideal S1088x1408 .bf16) (w : Vec Ideal S1x2048x1408 .bf16) (acc : Vec Ideal S1088x2048 .f32)
  (c : Dev nD) (i : grid0.Coords) (a3 : Memref sig .tc .vmem S1088x1408 .bf16) (h3 : a3.IsWhole)
  (a4 : Memref sig .tc .vmem S1x2048x1408 .bf16) (h4 : a4.IsWhole) (a5 : Memref sig .tc .vmem S1088x2048 .f32) (h5 : a5.IsWhole)

theorem first (hc0 : cond0_0 i) (hc1 : ¬cond0_1 i) (hc2 : ¬cond0_2 i) :
    out0_A_2 c i a3 h3 a4 h4 a5 h5 hc0 hc1 hc2 x w = k0_pay1 x w := by
  unfold out0_A_2
  rw [View.read_writes_eq_canon _ _ _ (cover0_A_2 c i a3 h3 a4 h4 a5 h5 hc0 hc1 hc2 x w)]
  unfold kernelRun0_A
  dsimp only
  sl_unfold_words
  rw [View.canon_unit_zero zero2]
  simp only [View.readAt_eq_ld, h3.read_unread, h4.read_unread, View.ld_unit_zero (S := S1088x1408) zero2,
    View.ld_unit_zero (S := S1x2048x1408) zero3]

theorem middle (hc0 : ¬cond0_0 i) (hc1 : cond0_1 i) (hc2 : ¬cond0_2 i) :
    out0_B_2 c i a3 h3 a4 h4 a5 h5 hc0 hc1 hc2 x w acc = addf acc (k0_pay1 x w) := by
  unfold out0_B_2
  rw [View.read_writes_eq_canon _ _ _ (cover0_B_2 c i a3 h3 a4 h4 a5 h5 hc0 hc1 hc2 x w acc)]
  unfold kernelRun0_B
  dsimp only
  sl_unfold_words
  rw [View.canon_unit_zero zero2]
  unfold k0_pay2
  simp only [View.readAt_eq_ld, h3.read_unread, h4.read_unread, h5.read_unread, View.ld_unit_zero (S := S1088x1408) zero2,
    View.ld_unit_zero (S := S1x2048x1408) zero3, View.ld_unit_zero (S := S1088x2048) zero2, shapeCast_self]

theorem last (hc0 : ¬cond0_0 i) (hc1 : ¬cond0_1 i) (hc2 : cond0_2 i) :
    out0_C_2 c i a3 h3 a4 h4 a5 h5 hc0 hc1 hc2 x w acc = addf acc (k0_pay1 x w) := by
  unfold out0_C_2
  rw [View.read_writes_eq_canon _ _ _ (cover0_C_2 c i a3 h3 a4 h4 a5 h5 hc0 hc1 hc2 x w acc)]
  unfold kernelRun0_C
  dsimp only
  sl_unfold_words
  rw [View.canon_unit_zero zero2]
  unfold k0_pay3
  simp only [View.readAt_eq_ld, h3.read_unread, h4.read_unread, h5.read_unread, View.ld_unit_zero (S := S1088x1408) zero2,
    View.ld_unit_zero (S := S1x2048x1408) zero3, View.ld_unit_zero (S := S1088x2048) zero2, shapeCast_self]

end Terms

variable (m : (ℓ : Loc nD τ sig) → Buf (Elt Ideal) ℓ) (c : Dev nD)

/-- The first point of a run leaves its term … -/
theorem outs_first (t : Fin cfg0.N) (h0 : t.val % 4 = 0) :
    outsAt0 m c t.val t.isLt = k0_pay1 (iblk m c 0 t) (iblk m c 1 t) := by
  rw [outsAt0_A m c t h0 (by omega) (by omega)]
  exact first ..

/-- … and each later one adds its term. -/
theorem outs_next (n : ℕ) (hn : n + 1 < cfg0.N) (h0 : ¬(n + 1) % 4 = 0) :
    outsAt0 m c (n + 1) hn = addf (outsAt0 m c n (Nat.lt_of_succ_lt hn)) (k0_pay1 (iblk m c 0 ⟨n + 1, hn⟩) (iblk m c 1 ⟨n + 1, hn⟩)) := by
  by_cases h3 : (n + 1) % 4 = 3
  · rw [show outsAt0 m c (n + 1) hn = _ from outsAt0_C m c ⟨n + 1, hn⟩ h0 (by dsimp only; omega) h3]
    exact last ..
  · rw [show outsAt0 m c (n + 1) hn = _ from outsAt0_B m c ⟨n + 1, hn⟩ h0 (by dsimp only; omega) h3]
    exact middle ..

abbrev xA : S4352x5632.Idx → EReal := m ((c : Thread nD τ).loc main_arg0)
abbrev wA : S2048x5632.Idx → EReal := m ((c : Thread nD τ).loc main_arg1)

theorem index0 : ∀ t : Fin grid0.N, win0_0.index t 0 = t.val / 4 ∧ win0_0.index t 1 = t.val % 4 := by decide +kernel
theorem index1 : ∀ t : Fin grid0.N, win0_1.index t 0 = t.val % 4 ∧ win0_1.index t 1 = 0 ∧ win0_1.index t 2 = 0 := by decide +kernel
theorem index2 : ∀ t : Fin grid0.N, win0_2.index t 0 = t.val / 4 ∧ win0_2.index t 1 = 0 := by decide +kernel

theorem lt16 (t : Fin cfg0.N) : t.val < 16 := lt_of_lt_of_eq t.isLt (show cfg0.N = 16 from N_0)

theorem block_x (t : Fin cfg0.N) (p : Fin 1088) (k : Fin 1408) :
    iblk m c 0 t (ix2 p k) = at2 (xA m c) (t.val / 4 * 1088 + p.val) (t.val % 4 * 1408 + k.val) := by
  unfold iblk
  rw [View.read_apply]
  show V m c main_arg0 _ = _
  rw [V_main_arg0]
  refine (eq_at2 (xA m c) _).trans ?_
  show at2 (xA m c) (win0_0.index t 0 * 1088 + 1 * p.val) (win0_0.index t 1 * 1408 + 1 * k.val) = _
  rw [(index0 t).1, (index0 t).2, one_mul, one_mul]

/-- The weights that the host hands to the kernel: shard `s` holds columns `1408 s …`. -/
theorem V_v1 : V m c main_v1 = transpose S4x2048x1408 [1, 0, 2] (shapeCast S2048x4x1408 (wA m c) shapeCasts_S2048x5632_S2048x4x1408)
    transposes_S2048x4x1408_S4x2048x1408_1_0_2 := by
  unfold V
  simp only [hostOps0, List.flatten_cons, List.flatten_nil, List.append_nil, List.cons_append, List.nil_append]
  after_results
  rfl

theorem shard_apply (s : Fin 4) (q : Fin 2048) (k : Fin 1408) :
    V m c main_v1 (ix3 s q k) = wA m c (ix2 q ⟨s.val * 1408 + k.val, by omega⟩) := by
  rw [V_v1]
  generalize wA m c = w
  pointwise

theorem block_w (t : Fin cfg0.N) (q : Fin 2048) (k : Fin 1408) :
    iblk m c 1 t (ix3 0 q k) = at2 (wA m c) q.val (t.val % 4 * 1408 + k.val) := by
  rw [at2_eq _ q.isLt (show t.val % 4 * 1408 + k.val < 5632 by omega)]
  refine Eq.trans ?_ (shard_apply m c ⟨t.val % 4, by omega⟩ q k)
  unfold iblk
  rw [View.read_apply]
  refine congrArg (V m c main_v1) (funext fun a => Fin.ext ?_)
  match a with
  | ⟨0, _⟩ => show win0_1.index t 0 * 1 + 1 * 0 = t.val % 4; rw [(index1 t).1]; omega
  | ⟨1, _⟩ => show win0_1.index t 1 * 2048 + 1 * q.val = q.val; rw [(index1 t).2.1]; omega
  | ⟨2, _⟩ => show win0_1.index t 2 * 1408 + 1 * k.val = k.val; rw [(index1 t).2.2]; omega

/-- The array the kernel writes. -/
def prod : S4352x2048.Idx → EReal := fun x => rowsT 5632 (xA m c) (wA m c) (x 0).val (x 1).val

/-- After a run's last point the block holds the product. -/
theorem outs_last (t : Fin cfg0.N) (hl : t.val % 4 = 3) (p : Fin 1088) (q : Fin 2048) :
    outsAt0 m c t.val t.isLt (ix2 p q) = rowsT 5632 (xA m c) (wA m c) (t.val / 4 * 1088 + p.val) q.val := by
  refine (run_sum (J := 4) (by decide) (fun n h => outsAt0 m c n h) (fun n h => k0_pay1 (iblk m c 0 ⟨n, h⟩) (iblk m c 1 ⟨n, h⟩))
    (fun n h h0 => outs_first m c ⟨n, h⟩ h0) (fun n h h0 => outs_next m c n h h0) t.val t.isLt (by omega)
    (fun s x => ∑ k : Fin 1408, at2 (xA m c) (t.val / 4 * 1088 + (x 0).val) (s * 1408 + k.val) * at2 (wA m c) (x 1).val (s * 1408 + k.val))
    (fun n h x hn => ?_) (ix2 p q)).trans ?_
  · obtain ⟨p, q, rfl⟩ : ∃ p q, x = ix2 p q := ⟨_, _, eq_ix2 x⟩
    refine (pay_apply _ _ p q).trans ?_
    simp only [block_x, block_w, ← hn]
    rfl
  · exact sum_blocks 4 1408 5632 (by decide) fun k => at2 (xA m c) (t.val / 4 * 1088 + p.val) k * at2 (wA m c) q.val k

theorem final : (dats m 0 c).arrAt 2 cfg0.N = prod m c := by
  refine (dats m 0 c).arrAt_eq_of_cover 2 (prod m c) (fun t hf => ?_) fun i => ?_
  · rw [flushed2]
    funext y
    rw [View.read_apply]
    obtain ⟨p, q, rfl⟩ : ∃ p q, y = ix2 p q := ⟨_, _, eq_ix2 y⟩
    refine (outs_last m c t ((flush0_2 t).mp hf) p q).trans ?_
    show _ = rowsT 5632 (xA m c) (wA m c) (win0_2.index t 0 * 1088 + 1 * p.val) (win0_2.index t 1 * 2048 + 1 * q.val)
    rw [(index2 t).1, (index2 t).2, one_mul, one_mul, zero_mul, zero_add]
  · obtain ⟨x, y, rfl⟩ : ∃ x y, i = ix2 x y := ⟨_, _, eq_ix2 i⟩
    have hx := x.isLt
    have hy := y.isLt
    have hN : cfg0.N = 16 := N_0
    have h : x.val / 1088 * 4 + 3 < cfg0.N := by omega
    refine ⟨⟨_, h⟩, (flush0_2 _).mpr (by dsimp only; omega), ?_⟩
    show ix2 x y ∈ ((View.whole main_v2).slice (win0_2.rect ⟨_, h⟩)).set
    rw [View.set_slice_whole, Rect.mem_set_unit]
    intro a
    match a with
    | ⟨0, _⟩ =>
      show win0_2.index ⟨_, h⟩ 0 * 1088 ≤ x.val ∧ x.val < win0_2.index ⟨_, h⟩ 0 * 1088 + 1088
      rw [(index2 ⟨_, h⟩).1]; dsimp only; omega
    | ⟨1, _⟩ =>
      show win0_2.index ⟨_, h⟩ 1 * 2048 ≤ y.val ∧ y.val < win0_2.index ⟨_, h⟩ 1 * 2048 + 2048
      rw [(index2 ⟨_, h⟩).2]; omega

/-- The reference's entries. -/
theorem ref_apply (a : Vec Ideal S4352x5632 .bf16) (b : Vec Ideal S2048x5632 .bf16) (x : Fin 4352) (y : Fin 2048) :
    Cert.Reference6Ideal.Read.val_main_v2 (F := Ideal) a b (ix2 x y) = ∑ k : Fin 5632, a (ix2 x k) * b (ix2 y k) := by
  pointwise [Cert.Reference6Ideal.Read.val_main_v2, Cert.Reference6Ideal.Read.val_main_v1, Cert.Reference6Ideal.Read.val_main_v0]

/-- The array the kernel writes is the reference's. -/
theorem final_eq : (dats m 0 c).arrAt 2 cfg0.N = Cert.Reference6Ideal.Read.val_main_v2 (F := Ideal) (xA m c) (wA m c) := by
  rw [final]
  funext i
  obtain ⟨x, y, rfl⟩ : ∃ x y, i = ix2 x y := ⟨_, _, eq_ix2 i⟩
  exact (rowsT_eq (xA m c) (wA m c) x y).trans (ref_apply _ _ x y).symm

end Cert.Kernel6Ideal.Product

end
-- ==== Proof.FfnUp.lean ====
/- The gradient that the up branch sends back, added to the gate's, `dv + dup w_upᵀ`: the kernel's array, summed over
   four shards of the weights with `dv` at the last, is the reference's. -/
module

public import proofs.«01_k».proof.Proof.Gen.Kernel7Ideal.Value
public import proofs.«01_k».proof.Proof.Gen.Reference7Ideal.Read
public import proofs.«01_k».proof.Proof.Products
public import proofs.«01_k».proof.Proof.Fold
public import proofs.«01_k».proof.Proof.Out

@[expose] public section

set_option maxRecDepth 16384

noncomputable section

namespace Cert.Kernel7Ideal.Product

open Cert.Kernel7Ideal Cert.Kernel7Ideal.Gen Cert.Kernel7Ideal.Value Cert.Attn Cert.Products
open Idealize.ShloMosaic Idealize.ShloMosaic.TcCoe Idealize.SL.Sem
open Cert.KernelIdeal.Out (zero2)

/-- What a point's blocks add to the result, entry by entry. -/
theorem pay_apply (x : Vec Ideal S1088x1408 .bf16) (w : Vec Ideal S1x1024x1408 .bf16) (p : Fin 1088) (q : Fin 1024) :
    k0_pay1 x w (ix2 p q) = ∑ k : Fin 1408, x (ix2 p k) * w (ix3 0 q k) := by
  pointwise [k0_pay1]

section Terms

variable (x : Vec Ideal S1088x1408 .bf16) (w : Vec Ideal S1x1024x1408 .bf16) (d acc : Vec Ideal S1088x1024 .f32)
  (c : Dev nD) (i : grid0.Coords) (a3 : Memref sig .tc .vmem S1088x1408 .bf16) (h3 : a3.IsWhole)
  (a4 : Memref sig .tc .vmem S1x1024x1408 .bf16) (h4 : a4.IsWhole) (a5 : Memref sig .tc .vmem S1088x1024 .f32) (h5 : a5.IsWhole)
  (a6 : Memref sig .tc .vmem S1088x1024 .f32) (h6 : a6.IsWhole)

theorem first (hc0 : cond0_0 i) (hc1 : ¬cond0_1 i) (hc2 : ¬cond0_2 i) :
    out0_A_3 c i a3 h3 a4 h4 a5 h5 a6 h6 hc0 hc1 hc2 x w d = k0_pay1 x w := by
  unfold out0_A_3
  rw [View.read_writes_eq_canon _ _ _ (cover0_A_3 c i a3 h3 a4 h4 a5 h5 a6 h6 hc0 hc1 hc2 x w d)]
  unfold kernelRun0_A
  dsimp only
  sl_unfold_words
  rw [View.canon_unit_zero zero2]
  simp only [View.readAt_eq_ld, h3.read_unread, h4.read_unread, View.ld_unit_zero (S := S1088x1408) zero2,
    View.ld_unit_zero (S := S1x1024x1408) zero3]

theorem middle (hc0 : ¬cond0_0 i) (hc1 : cond0_1 i) (hc2 : ¬cond0_2 i) :
    out0_B_3 c i a3 h3 a4 h4 a5 h5 a6 h6 hc0 hc1 hc2 x w d acc = addf acc (k0_pay1 x w) := by
  unfold out0_B_3
  rw [View.read_writes_eq_canon _ _ _ (cover0_B_3 c i a3 h3 a4 h4 a5 h5 a6 h6 hc0 hc1 hc2 x w d acc)]
  unfold kernelRun0_B
  dsimp only
  sl_unfold_words
  rw [View.canon_unit_zero zero2]
  unfold k0_pay2
  simp only [View.readAt_eq_ld, h3.read_unread, h4.read_unread, h6.read_unread, View.ld_unit_zero (S := S1088x1408) zero2,
    View.ld_unit_zero (S := S1x1024x1408) zero3, View.ld_unit_zero (S := S1088x1024) zero2, shapeCast_self]

theorem last (hc0 : ¬cond0_0 i) (hc1 : ¬cond0_1 i) (hc2 : cond0_2 i) :
    out0_C_3 c i a3 h3 a4 h4 a5 h5 a6 h6 hc0 hc1 hc2 x w d acc = addf (addf acc (k0_pay1 x w)) d := by
  unfold out0_C_3
  rw [View.read_writes_eq_canon _ _ _ (cover0_C_3 c i a3 h3 a4 h4 a5 h5 a6 h6 hc0 hc1 hc2 x w d acc)]
  unfold kernelRun0_C
  dsimp only
  sl_unfold_words
  rw [View.canon_unit_zero zero2]
  unfold k0_pay3
  simp only [View.readAt_eq_ld, h3.read_unread, h4.read_unread, h5.read_unread, h6.read_unread,
    View.ld_unit_zero (S := S1088x1408) zero2, View.ld_unit_zero (S := S1x1024x1408) zero3,
    View.ld_unit_zero (S := S1088x1024) zero2, shapeCast_self]

end Terms

variable (m : (ℓ : Loc nD τ sig) → Buf (Elt Ideal) ℓ) (c : Dev nD)

/-- A point's term. -/
abbrev term (n : ℕ) (h : n < cfg0.N) : FVec Ideal S1088x1024 .f32 := k0_pay1 (iblk m c 0 ⟨n, h⟩) (iblk m c 1 ⟨n, h⟩)

/-- The products a run has summed up to a point: the block's contents, at the last point before `dv` is added. -/
def partSum (n : ℕ) (h : n < cfg0.N) : FVec Ideal S1088x1024 .f32 :=
  if n % 4 = 3 then addf (outsAt0 m c (n - 1) (Nat.lt_of_le_of_lt (Nat.sub_le _ _) h)) (term m c n h) else outsAt0 m c n h

theorem partSum_first (n : ℕ) (h : n < cfg0.N) (h0 : n % 4 = 0) : partSum m c n h = term m c n h := by
  unfold partSum
  rw [if_neg (by omega)]
  exact (outsAt0_A m c ⟨n, h⟩ h0 (by dsimp only; omega) (by dsimp only; omega)).trans (first ..)

theorem partSum_next (n : ℕ) (h : n + 1 < cfg0.N) (h0 : ¬(n + 1) % 4 = 0) :
    partSum m c (n + 1) h = addf (partSum m c n (Nat.lt_of_succ_lt h)) (term m c (n + 1) h) := by
  unfold partSum
  rw [if_neg (show ¬n % 4 = 3 by omega)]
  by_cases h3 : (n + 1) % 4 = 3
  · rw [if_pos h3]
    rfl
  · rw [if_neg h3]
    exact (outsAt0_B m c ⟨n + 1, h⟩ h0 (by dsimp only; omega) h3).trans (middle ..)

theorem outs_last (t : Fin cfg0.N) (h3 : t.val % 4 = 3) :
    outsAt0 m c t.val t.isLt = addf (partSum m c t.val t.isLt) (iblk m c 2 t : FVec Ideal S1088x1024 .f32) := by
  unfold partSum
  rw [if_pos h3, outsAt0_C m c t (by omega) (by omega) h3]
  exact last ..

abbrev xA : S4352x5632.Idx → EReal := m ((c : Thread nD τ).loc main_arg0)
abbrev wA : S2048x5632.Idx → EReal := m ((c : Thread nD τ).loc main_arg1)
abbrev dA : S4352x2048.Idx → EReal := m ((c : Thread nD τ).loc main_arg2)

theorem index0 : ∀ t : Fin grid0.N, win0_0.index t 0 = t.val / 8 ∧ win0_0.index t 1 = t.val % 4 := by decide +kernel
theorem index1 : ∀ t : Fin grid0.N, win0_1.index t 0 = t.val % 4 ∧ win0_1.index t 1 = t.val / 4 % 2 ∧ win0_1.index t 2 = 0 := by decide +kernel
theorem index2 : ∀ t : Fin grid0.N, win0_2.index t 0 = t.val / 8 ∧ win0_2.index t 1 = t.val / 4 % 2 := by decide +kernel
theorem index3 : ∀ t : Fin grid0.N, win0_3.index t 0 = t.val / 8 ∧ win0_3.index t 1 = t.val / 4 % 2 := by decide +kernel

theorem lt32 (t : Fin cfg0.N) : t.val < 32 := lt_of_lt_of_eq t.isLt (show cfg0.N = 32 from N_0)

theorem block_x (t : Fin cfg0.N) (p : Fin 1088) (k : Fin 1408) :
    iblk m c 0 t (ix2 p k) = at2 (xA m c) (t.val / 8 * 1088 + p.val) (t.val % 4 * 1408 + k.val) := by
  unfold iblk
  rw [View.read_apply]
  show V m c main_arg0 _ = _
  rw [V_main_arg0]
  refine (eq_at2 (xA m c) _).trans ?_
  show at2 (xA m c) (win0_0.index t 0 * 1088 + 1 * p.val) (win0_0.index t 1 * 1408 + 1 * k.val) = _
  rw [(index0 t).1, (index0 t).2, one_mul, one_mul]

theorem block_d (t : Fin cfg0.N) (p : Fin 1088) (q : Fin 1024) :
    iblk m c 2 t (ix2 p q) = at2 (dA m c) (t.val / 8 * 1088 + p.val) (t.val / 4 % 2 * 1024 + q.val) := by
  unfold iblk
  rw [View.read_apply]
  show V m c main_arg2 _ = _
  rw [V_main_arg2]
  refine (eq_at2 (dA m c) _).trans ?_
  show at2 (dA m c) (win0_2.index t 0 * 1088 + 1 * p.val) (win0_2.index t 1 * 1024 + 1 * q.val) = _
  rw [(index2 t).1, (index2 t).2, one_mul, one_mul]

/-- The weights that the host hands to the kernel: shard `s` holds columns `1408 s …`. -/
theorem V_v1 : V m c main_v1 = transpose S4x2048x1408 [1, 0, 2] (shapeCast S2048x4x1408 (wA m c) shapeCasts_S2048x5632_S2048x4x1408)
    transposes_S2048x4x1408_S4x2048x1408_1_0_2 := by
  unfold V
  simp only [hostOps0, List.flatten_cons, List.flatten_nil, List.append_nil, List.cons_append, List.nil_append]
  after_results
  rfl

theorem shard_apply (s : Fin 4) (q : Fin 2048) (k : Fin 1408) :
    V m c main_v1 (ix3 s q k) = wA m c (ix2 q ⟨s.val * 1408 + k.val, by omega⟩) := by
  rw [V_v1]
  generalize wA m c = w
  pointwise

theorem block_w (t : Fin cfg0.N) (q : Fin 1024) (k : Fin 1408) :
    iblk m c 1 t (ix3 0 q k) = at2 (wA m c) (t.val / 4 % 2 * 1024 + q.val) (t.val % 4 * 1408 + k.val) := by
  rw [at2_eq _ (show t.val / 4 % 2 * 1024 + q.val < 2048 by omega) (show t.val % 4 * 1408 + k.val < 5632 by omega)]
  refine Eq.trans ?_ (shard_apply m c ⟨t.val % 4, by omega⟩ ⟨t.val / 4 % 2 * 1024 + q.val, by omega⟩ k)
  unfold iblk
  rw [View.read_apply]
  refine congrArg (V m c main_v1) (funext fun a => Fin.ext ?_)
  match a with
  | ⟨0, _⟩ => show win0_1.index t 0 * 1 + 1 * 0 = t.val % 4; rw [(index1 t).1]; omega
  | ⟨1, _⟩ => show win0_1.index t 1 * 1024 + 1 * q.val = t.val / 4 % 2 * 1024 + q.val; rw [(index1 t).2.1]; omega
  | ⟨2, _⟩ => show win0_1.index t 2 * 1408 + 1 * k.val = k.val; rw [(index1 t).2.2]; omega

/-- The entries the kernel writes. -/
def entry (r q : ℕ) : EReal := rowsT 5632 (xA m c) (wA m c) r q + at2 (dA m c) r q

/-- The array the kernel writes. -/
def prod : S4352x2048.Idx → EReal := fun x => entry m c (x 0).val (x 1).val

/-- After a run's last point the block holds the product and `dv`. -/
theorem last_apply (t : Fin cfg0.N) (hl : t.val % 4 = 3) (p : Fin 1088) (q : Fin 1024) :
    outsAt0 m c t.val t.isLt (ix2 p q) = entry m c (t.val / 8 * 1088 + p.val) (t.val / 4 % 2 * 1024 + q.val) := by
  rw [outs_last m c t hl]
  refine congrArg₂ (· + ·) ((run_sum (J := 4) (by decide) (partSum m c) (term m c)
    (partSum_first m c) (partSum_next m c) t.val t.isLt (by omega)
    (fun s x => ∑ k : Fin 1408, at2 (xA m c) (t.val / 8 * 1088 + (x 0).val) (s * 1408 + k.val)
      * at2 (wA m c) (t.val / 4 % 2 * 1024 + (x 1).val) (s * 1408 + k.val))
    (fun n h x hn => ?_) (ix2 p q)).trans ?_) (block_d m c t p q)
  · obtain ⟨p, q, rfl⟩ : ∃ p q, x = ix2 p q := ⟨_, _, eq_ix2 x⟩
    refine (pay_apply _ _ p q).trans ?_
    simp only [block_x, block_w, ← hn, show n / 8 = t.val / 8 by omega]
    rfl
  · exact sum_blocks 4 1408 5632 (by decide) fun k => at2 (xA m c) (t.val / 8 * 1088 + p.val) k * at2 (wA m c) (t.val / 4 % 2 * 1024 + q.val) k

theorem final : (dats m 0 c).arrAt 3 cfg0.N = prod m c := by
  refine (dats m 0 c).arrAt_eq_of_cover 3 (prod m c) (fun t hf => ?_) fun i => ?_
  · rw [flushed3]
    funext y
    rw [View.read_apply]
    obtain ⟨p, q, rfl⟩ : ∃ p q, y = ix2 p q := ⟨_, _, eq_ix2 y⟩
    refine (last_apply m c t ((flush0_3 t).mp hf) p q).trans ?_
    show _ = entry m c (win0_3.index t 0 * 1088 + 1 * p.val) (win0_3.index t 1 * 1024 + 1 * q.val)
    rw [(index3 t).1, (index3 t).2, one_mul, one_mul]
  · obtain ⟨x, y, rfl⟩ : ∃ x y, i = ix2 x y := ⟨_, _, eq_ix2 i⟩
    have hx := x.isLt
    have hy := y.isLt
    have hN : cfg0.N = 32 := N_0
    have h : x.val / 1088 * 8 + y.val / 1024 * 4 + 3 < cfg0.N := by omega
    refine ⟨⟨_, h⟩, (flush0_3 _).mpr (by dsimp only; omega), ?_⟩
    show ix2 x y ∈ ((View.whole main_v2).slice (win0_3.rect ⟨_, h⟩)).set
    rw [View.set_slice_whole, Rect.mem_set_unit]
    intro a
    match a with
    | ⟨0, _⟩ =>
      show win0_3.index ⟨_, h⟩ 0 * 1088 ≤ x.val ∧ x.val < win0_3.index ⟨_, h⟩ 0 * 1088 + 1088
      rw [(index3 ⟨_, h⟩).1]; dsimp only; omega
    | ⟨1, _⟩ =>
      show win0_3.index ⟨_, h⟩ 1 * 1024 ≤ y.val ∧ y.val < win0_3.index ⟨_, h⟩ 1 * 1024 + 1024
      rw [(index3 ⟨_, h⟩).2]; dsimp only; omega

/-- The reference's entries. -/
theorem ref_apply (a : Vec Ideal S4352x5632 .bf16) (b : Vec Ideal S2048x5632 .bf16) (d : Vec Ideal S4352x2048 .f32)
    (x : Fin 4352) (y : Fin 2048) :
    Cert.Reference7Ideal.Read.val_main_v3 (F := Ideal) a b d (ix2 x y) = (∑ k : Fin 5632, a (ix2 x k) * b (ix2 y k)) + d (ix2 x y) := by
  refine Eq.trans ?_ (add_comm _ _)
  pointwise [Cert.Reference7Ideal.Read.val_main_v3, Cert.Reference7Ideal.Read.val_main_v2, Cert.Reference7Ideal.Read.val_main_v1,
    Cert.Reference7Ideal.Read.val_main_v0]

/-- The array the kernel writes is the reference's. -/
theorem final_eq : (dats m 0 c).arrAt 3 cfg0.N = Cert.Reference7Ideal.Read.val_main_v3 (F := Ideal) (xA m c) (wA m c) (dA m c) := by
  rw [final]
  funext i
  obtain ⟨x, y, rfl⟩ : ∃ x y, i = ix2 x y := ⟨_, _, eq_ix2 i⟩
  refine Eq.trans ?_ (ref_apply _ _ _ x y).symm
  exact congrArg₂ (· + ·) (rowsT_eq (xA m c) (wA m c) x y) (at2_eq (dA m c) x.isLt y.isLt)

end Cert.Kernel7Ideal.Product

end
-- ==== Proof.FfnUpWeights.lean ====
/- The gradient of the feed-forward's gate or up weights, `vᵀ d`, in four shards of columns: the kernel's array, summed
   over two blocks of rows in a scratch buffer, is the reference's. -/
module

public import proofs.«01_k».proof.Proof.Gen.Kernel8Ideal.Value
public import proofs.«01_k».proof.Proof.Gen.Reference8Ideal.Read
public import proofs.«01_k».proof.Proof.Products
public import proofs.«01_k».proof.Proof.Out

@[expose] public section

set_option maxRecDepth 16384

noncomputable section

namespace Cert.Kernel8Ideal.Product

open Cert.Kernel8Ideal Cert.Kernel8Ideal.Gen Cert.Kernel8Ideal.Value Cert.Attn Cert.Products
open Idealize.ShloMosaic Idealize.ShloMosaic.TcCoe Idealize.SL.Sem
open Cert.KernelIdeal.Out (zero2)

/-- A point's term, entry by entry. -/
theorem pay_apply (x : Vec Ideal S2176x1024 .bf16) (d : Vec Ideal S2176x1408 .bf16) (p : Fin 1024) (q : Fin 1408) :
    k0_pay1 x d (ix2 p q) = ∑ k : Fin 2176, x (ix2 k p) * d (ix2 k q) := by
  pointwise [k0_pay1]

section Terms

variable (x : Vec Ideal S2176x1024 .bf16) (d : Vec Ideal S2176x1408 .bf16) (acc : Vec Ideal S1024x1408 .f32)
  (c : Dev nD) (i : grid0.Coords) (a3 : Memref sig .tc .vmem S2176x1024 .bf16) (h3 : a3.IsWhole)
  (a4 : Memref sig .tc .vmem S2176x1408 .bf16) (h4 : a4.IsWhole) (a5 : Memref sig .tc .vmem S1x1024x1408 .bf16) (h5 : a5.IsWhole)
  (a6 : Memref sig .tc .vmem S1024x1408 .f32) (h6 : a6.IsWhole)

/-- The first point of a run leaves its term in the scratch buffer … -/
theorem first (hc0 : cond0_0 i) (hc1 : ¬cond0_1 i) (hc2 : ¬cond0_2 i) :
    sout0_A_0 c i a3 h3 a4 h4 a5 h5 a6 h6 hc0 hc1 hc2 x d = k0_pay1 x d := by
  unfold sout0_A_0
  rw [View.read_writes_eq_canon _ _ _ (scover0_A_0 c i a3 h3 a4 h4 a5 h5 a6 h6 hc0 hc1 hc2 x d)]
  unfold kernelRun0_A
  dsimp only
  sl_unfold_words
  rw [View.canon_unit_zero zero2]
  unfold k0_pay2
  simp only [View.readAt_eq_ld, h3.read_unread, h4.read_unread, View.ld_unit_zero (S := S2176x1024) zero2,
    View.ld_unit_zero (S := S2176x1408) zero2, shapeCast_self]

/-- … and the last writes the buffer and its own term. -/
theorem last (hc0 : ¬cond0_0 i) (hc1 : ¬cond0_1 i) (hc2 : cond0_2 i) :
    out0_B_2 c i a3 h3 a4 h4 a5 h5 a6 h6 hc0 hc1 hc2 x d acc
      = shapeCast S1x1024x1408 (truncf .bf16 (addf acc (k0_pay1 x d)) bitsLt_bf16_f32) shapeCasts_S1024x1408_S1x1024x1408 := by
  unfold out0_B_2
  rw [View.read_writes_eq_canon _ _ _ (cover0_B_2 c i a3 h3 a4 h4 a5 h5 a6 h6 hc0 hc1 hc2 x d acc)]
  unfold kernelRun0_B
  dsimp only
  sl_unfold_words
  rw [View.canon_unit_zero zero3]
  unfold k0_pay4
  simp only [View.readAt_eq_ld, h3.read_unread, h4.read_unread, h6.read_unread, View.ld_unit_zero (S := S2176x1024) zero2,
    View.ld_unit_zero (S := S2176x1408) zero2, View.ld_unit_zero (S := S1024x1408) zero2]

/-- The shape it is written in has one plane. -/
theorem plane_apply (a b : FVec Ideal S1024x1408 .f32) (p : Fin 1024) (q : Fin 1408) :
    shapeCast S1x1024x1408 (truncf .bf16 (addf a b) bitsLt_bf16_f32) shapeCasts_S1024x1408_S1x1024x1408 (ix3 0 p q)
      = (a (ix2 p q) + b (ix2 p q) : EReal) := by
  pointwise

end Terms

variable (m : (ℓ : Loc nD τ sig) → Buf (Elt Ideal) ℓ) (c : Dev nD)

abbrev xA : S4352x2048.Idx → EReal := m ((c : Thread nD τ).loc main_arg0)
abbrev dA : S4352x5632.Idx → EReal := m ((c : Thread nD τ).loc main_arg1)

theorem index0 : ∀ t : Fin grid0.N, win0_0.index t 0 = t.val % 2 ∧ win0_0.index t 1 = t.val / 8 := by decide +kernel
theorem index1 : ∀ t : Fin grid0.N, win0_1.index t 0 = t.val % 2 ∧ win0_1.index t 1 = t.val / 2 % 4 := by decide +kernel
theorem index2 : ∀ t : Fin grid0.N, win0_2.index t 0 = t.val / 2 % 4 ∧ win0_2.index t 1 = t.val / 8 ∧ win0_2.index t 2 = 0 := by
  decide +kernel

theorem block_x (t : Fin cfg0.N) (k : Fin 2176) (p : Fin 1024) :
    iblk m c 0 t (ix2 k p) = at2 (xA m c) (t.val % 2 * 2176 + k.val) (t.val / 8 * 1024 + p.val) := by
  unfold iblk
  rw [View.read_apply]
  refine (eq_at2 (xA m c) _).trans ?_
  show at2 (xA m c) (win0_0.index t 0 * 2176 + 1 * k.val) (win0_0.index t 1 * 1024 + 1 * p.val) = _
  rw [(index0 t).1, (index0 t).2, one_mul, one_mul]

theorem block_d (t : Fin cfg0.N) (k : Fin 2176) (q : Fin 1408) :
    iblk m c 1 t (ix2 k q) = at2 (dA m c) (t.val % 2 * 2176 + k.val) (t.val / 2 % 4 * 1408 + q.val) := by
  unfold iblk
  rw [View.read_apply]
  refine (eq_at2 (dA m c) _).trans ?_
  show at2 (dA m c) (win0_1.index t 0 * 2176 + 1 * k.val) (win0_1.index t 1 * 1408 + 1 * q.val) = _
  rw [(index1 t).1, (index1 t).2, one_mul, one_mul]

theorem term_apply (t : Fin cfg0.N) (p : Fin 1024) (q : Fin 1408) :
    k0_pay1 (iblk m c 0 t) (iblk m c 1 t) (ix2 p q)
      = ∑ k : Fin 2176, at2 (xA m c) (t.val % 2 * 2176 + k.val) (t.val / 8 * 1024 + p.val)
          * at2 (dA m c) (t.val % 2 * 2176 + k.val) (t.val / 2 % 4 * 1408 + q.val) := by
  refine (pay_apply _ _ p q).trans ?_
  simp only [block_x, block_d]

/-- What the scratch buffer holds after a run's first point. -/
theorem scratch_first (t : Fin cfg0.N) (h0 : t.val % 2 = 0) : (outsAt0 m c t.val t.isLt).2 = k0_pay1 (iblk m c 0 t) (iblk m c 1 t) := by
  rw [outsAt0_A m c t h0 (by omega)]
  dsimp only
  exact first ..

/-- What a run's last point writes. -/
theorem outs_last (t : Fin cfg0.N) (h1 : t.val % 2 = 1) (p : Fin 1024) (q : Fin 1408) :
    (outsAt0 m c t.val t.isLt).1 (ix3 0 p q) = colsT 4352 (xA m c) (dA m c) (t.val / 8 * 1024 + p.val) (t.val / 2 % 4 * 1408 + q.val) := by
  have h : t.val - 1 < cfg0.N := Nat.lt_of_le_of_lt (Nat.sub_le _ _) t.isLt
  rw [outsAt0_B m c t (by omega) h1]
  dsimp only
  rw [last, scratch_first m c ⟨t.val - 1, h⟩ (by dsimp only; omega), plane_apply]
  refine (congrArg₂ (· + ·) (term_apply m c ⟨t.val - 1, h⟩ p q) (term_apply m c t p q)).trans ?_
  dsimp only
  rw [show (t.val - 1) % 2 = 0 by omega, show (t.val - 1) / 8 = t.val / 8 by omega, show (t.val - 1) / 2 % 4 = t.val / 2 % 4 by omega, h1]
  unfold colsT
  rw [← sum_blocks 2 2176 4352 (by decide) fun k => at2 (xA m c) k (t.val / 8 * 1024 + p.val) * at2 (dA m c) k (t.val / 2 % 4 * 1408 + q.val),
    Finset.sum_range_succ, Finset.sum_range_one]

/-- The array the kernel writes: shard `s` holds the columns `1408 s …`. -/
def prod : S4x2048x1408.Idx → EReal := fun x => colsT 4352 (xA m c) (dA m c) (x 1).val ((x 0).val * 1408 + (x 2).val)

theorem final : (dats m 0 c).arrAt 2 cfg0.N = prod m c := by
  refine (dats m 0 c).arrAt_eq_of_cover 2 (prod m c) (fun t hf => ?_) fun i => ?_
  · rw [flushed2]
    funext y
    rw [View.read_apply]
    obtain ⟨z, p, q, rfl⟩ : ∃ z p q, y = ix3 z p q := ⟨_, _, _, eq_ix3 y⟩
    obtain rfl : z = 0 := Subsingleton.elim _ _
    refine (outs_last m c t ((flush0_2 t).mp hf) p q).trans ?_
    show _ = colsT 4352 (xA m c) (dA m c) (win0_2.index t 1 * 1024 + 1 * p.val)
      ((win0_2.index t 0 * 1 + 1 * 0) * 1408 + (win0_2.index t 2 * 1408 + 1 * q.val))
    rw [(index2 t).1, (index2 t).2.1, (index2 t).2.2, one_mul, one_mul, zero_mul, zero_add, mul_one, add_zero, one_mul]
  · obtain ⟨s, x, y, rfl⟩ : ∃ s x y, i = ix3 s x y := ⟨_, _, _, eq_ix3 i⟩
    have hs := s.isLt
    have hx := x.isLt
    have hy := y.isLt
    have hN : cfg0.N = 16 := N_0
    have h : x.val / 1024 * 8 + s.val * 2 + 1 < cfg0.N := by omega
    refine ⟨⟨_, h⟩, (flush0_2 _).mpr (by dsimp only; omega), ?_⟩
    show ix3 s x y ∈ ((View.whole main_v0).slice (win0_2.rect ⟨_, h⟩)).set
    rw [View.set_slice_whole, Rect.mem_set_unit]
    intro a
    match a with
    | ⟨0, _⟩ =>
      show win0_2.index ⟨_, h⟩ 0 * 1 ≤ s.val ∧ s.val < win0_2.index ⟨_, h⟩ 0 * 1 + 1
      rw [(index2 ⟨_, h⟩).1]; dsimp only; omega
    | ⟨1, _⟩ =>
      show win0_2.index ⟨_, h⟩ 1 * 1024 ≤ x.val ∧ x.val < win0_2.index ⟨_, h⟩ 1 * 1024 + 1024
      rw [(index2 ⟨_, h⟩).2.1]; dsimp only; omega
    | ⟨2, _⟩ =>
      show win0_2.index ⟨_, h⟩ 2 * 1408 ≤ y.val ∧ y.val < win0_2.index ⟨_, h⟩ 2 * 1408 + 1408
      rw [(index2 ⟨_, h⟩).2.2]; omega

/-- The reference's product, entry by entry. -/
theorem ref_product (a : Vec Ideal S4352x2048 .bf16) (b : Vec Ideal S4352x5632 .bf16) (x : Fin 2048) (y : Fin 5632) :
    Cert.Reference8Ideal.Read.val_main_v4 (F := Ideal) a b (ix2 x y) = ∑ k : Fin 4352, a (ix2 k x) * b (ix2 k y) := by
  refine Eq.trans ?_ (Finset.sum_congr rfl fun k _ => mul_comm _ _)
  pointwise [Cert.Reference8Ideal.Read.val_main_v4, Cert.Reference8Ideal.Read.val_main_v3, Cert.Reference8Ideal.Read.val_main_v2,
    Cert.Reference8Ideal.Read.val_main_v1, Cert.Reference8Ideal.Read.val_main_v0]

open Cert.Reference8Ideal.Read in
/-- The reference's shards. -/
theorem ref_apply (a : Vec Ideal S4352x2048 .bf16) (b : Vec Ideal S4352x5632 .bf16) (s : Fin 4) (x : Fin 2048) (y : Fin 1408) :
    Cert.Reference8Ideal.Read.val_main_v13 (F := Ideal) a b (ix3 s x y)
      = Cert.Reference8Ideal.Read.val_main_v4 (F := Ideal) a b (ix2 x ⟨s.val * 1408 + y.val, by omega⟩) := by
  unfold val_main_v13 val_main_v9 val_main_v10 val_main_v11 val_main_v12 val_main_v5 val_main_v6 val_main_v7 val_main_v8
  generalize Cert.Reference8Ideal.Read.val_main_v4 (F := Ideal) a b = w
  pointwise
  split_ifs <;> exact congrArg w (congrArg (ix2 x) (Fin.ext (by dsimp only; omega)))

/-- The array the kernel writes is the reference's. -/
theorem final_eq : (dats m 0 c).arrAt 2 cfg0.N = Cert.Reference8Ideal.Read.val_main_v13 (F := Ideal) (xA m c) (dA m c) := by
  rw [final]
  funext i
  obtain ⟨s, x, y, rfl⟩ : ∃ s x y, i = ix3 s x y := ⟨_, _, _, eq_ix3 i⟩
  rw [ref_apply, ref_product]
  exact colsT_eq (xA m c) (dA m c) x ⟨s.val * 1408 + y.val, by omega⟩

end Cert.Kernel8Ideal.Product

end
-- ==== Proof.InColumns.lean ====
/- The order in which the version keeps the input projection's columns: the rotary key's 64 columns last, then 64 zero
   columns. A product over the reordered columns is the product over the columns in the reference's order. -/
module

public import proofs.«01_k».proof.Proof.Products

@[expose] public section

noncomputable section

namespace Cert.InColumns

open Idealize.ShloMosaic Cert.Attn Cert.Products

/-- The reference's number of the version's column `k`; a zero column has a number past the reference's 10816. -/
def col (k : ℕ) : ℕ :=
  if k < 4608 then k else if k < 10752 then k + 64 else if k < 10816 then k - 6144 else k

theorem col_lo {k : ℕ} (h : k < 4608) : col k = k := if_pos h

theorem col_gate {k : ℕ} (h : k < 6144) : col (4608 + k) = 4608 + 64 + k := by
  unfold col
  rw [if_neg (by omega), if_pos (by omega)]
  omega

theorem col_key {k : ℕ} (h : k < 64) : col (4608 + 6144 + k) = 4608 + k := by
  unfold col
  rw [if_neg (by omega), if_neg (by omega), if_pos (by omega)]
  omega

theorem col_zero {k : ℕ} (h : 10816 ≤ k) : col k = k := by
  unfold col
  rw [if_neg (by omega), if_neg (by omega), if_neg (by omega)]

/-- A sum over four ranges, of which the second and third are another sum's third and second and the last vanishes. -/
theorem sum_swap (a b c d : ℕ) (f g : ℕ → EReal) (h1 : ∀ k < a, g k = f k) (h2 : ∀ k < b, g (a + k) = f (a + c + k))
    (h3 : ∀ k < c, g (a + b + k) = f (a + k)) (h4 : ∀ k < d, g (a + b + c + k) = 0) :
    ∑ k ∈ Finset.range (a + b + c + d), g k = ∑ k ∈ Finset.range (a + c + b), f k := by
  have e : ∀ (n : ℕ) (u v : ℕ → EReal), (∀ k < n, u k = v k) → ∑ k ∈ Finset.range n, u k = ∑ k ∈ Finset.range n, v k :=
    fun n u v h => Finset.sum_congr rfl fun k hk => h k (Finset.mem_range.mp hk)
  simp only [Finset.sum_range_add]
  rw [e a _ _ h1, e b _ _ h2, e c _ _ h3, e d _ (fun _ => 0) h4, Finset.sum_const_zero, add_zero, add_right_comm]

/-- A sum over the version's columns of a term that vanishes at the zero columns is the sum over the reference's. -/
theorem sum_col (f : ℕ → EReal) (h : ∀ k, 10816 ≤ k → f k = 0) : ∑ k : Fin 10880, f (col k.val) = ∑ k : Fin 10816, f k.val := by
  rw [Fin.sum_univ_eq_sum_range (fun k => f (col k)), Fin.sum_univ_eq_sum_range f]
  exact sum_swap 4608 6144 64 64 f (fun k => f (col k)) (fun k hk => congrArg f (col_lo hk)) (fun k hk => congrArg f (col_gate hk))
    (fun k hk => congrArg f (col_key hk)) fun k _ => by rw [col_zero (by omega)]; exact h _ (by omega)

/-- Past its last column an array's entries are zero. -/
theorem at2_past {R C : ℕ} (x : (⟨2, ![R, C]⟩ : Shape).Idx → EReal) {r c : ℕ} (h : C ≤ c) : at2 x r c = 0 :=
  dif_neg fun hh => absurd hh.2 (by omega)

/-- Two arrays' rows multiplied over the version's columns. -/
theorem rowsT_col {R C : ℕ} (a : (⟨2, ![R, 10816]⟩ : Shape).Idx → EReal) (b : (⟨2, ![C, 10816]⟩ : Shape).Idx → EReal) (r c : ℕ) :
    ∑ k : Fin 10880, at2 a r (col k.val) * at2 b c (col k.val) = rowsT 10816 a b r c :=
  sum_col (fun k => at2 a r k * at2 b c k) fun k hk => by rw [at2_past a hk, zero_mul]

/-- The entries of an array whose columns are reordered: three slices and the zeros, side by side. -/
theorem reorder {R : ℕ} (x : (⟨2, ![R, 10816]⟩ : Shape).Idx → EReal) (r : Fin R) (k : Fin 10880) :
    (if h : k.val < 4608 then x (ix2 r ⟨k.val, by omega⟩)
      else if h : k.val - 4608 < 6144 then x (ix2 r ⟨4672 + (k.val - 4608), by omega⟩)
      else if h : k.val - 4608 - 6144 < 64 then x (ix2 r ⟨4608 + (k.val - 4608 - 6144), by omega⟩) else 0)
      = at2 x r.val (col k.val) := by
  have hx : ∀ {a b : ℕ} (ha : a < 10816), a = b → x (ix2 r ⟨a, ha⟩) = at2 x r.val b := fun ha e => by
    subst e
    exact (at2_eq x r.isLt ha).symm
  unfold col
  by_cases a : k.val < 4608
  · rw [dif_pos a, if_pos a]
    exact hx _ rfl
  · rw [dif_neg a, if_neg a]
    by_cases b : k.val < 10752
    · rw [dif_pos (by omega), if_pos b]
      exact hx _ (by omega)
    · rw [dif_neg (by omega), if_neg b]
      by_cases c : k.val < 10816
      · rw [dif_pos (by omega), if_pos c]
        exact hx _ (by omega)
      · rw [dif_neg (by omega), if_neg c, at2_past x (by omega)]

end Cert.InColumns

end
-- ==== Proof.InputGrad.lean ====
/- The gradient that the input projection sends back, `dproj w_inᵀ`: the kernel's array, summed over five blocks of the
   reordered columns, is the reference's. -/
module

public import proofs.«01_k».proof.Proof.Gen.Kernel9Ideal.Value
public import proofs.«01_k».proof.Proof.Gen.Reference9Ideal.Read
public import proofs.«01_k».proof.Proof.InColumns
public import proofs.«01_k».proof.Proof.Fold
public import proofs.«01_k».proof.Proof.Out

@[expose] public section

set_option maxRecDepth 16384

noncomputable section

namespace Cert.Kernel9Ideal.Product

open Cert.Kernel9Ideal Cert.Kernel9Ideal.Gen Cert.Kernel9Ideal.Value Cert.Attn Cert.Products Cert.InColumns
open Idealize.ShloMosaic Idealize.ShloMosaic.TcCoe Idealize.SL.Sem
open Cert.KernelIdeal.Out (zero2)

/-- What a point's blocks add to the result, entry by entry. -/
theorem pay_apply (x : Vec Ideal S1088x2176 .bf16) (w : Vec Ideal S2048x2176 .bf16) (p : Fin 1088) (q : Fin 2048) :
    k0_pay1 x w (ix2 p q) = ∑ k : Fin 2176, x (ix2 p k) * w (ix2 q k) := by
  pointwise [k0_pay1]

section Terms

variable (x : Vec Ideal S1088x2176 .bf16) (w : Vec Ideal S2048x2176 .bf16) (acc : Vec Ideal S1088x2048 .f32)
  (c : Dev nD) (i : grid0.Coords) (a3 : Memref sig .tc .vmem S1088x2176 .bf16) (h3 : a3.IsWhole)
  (a4 : Memref sig .tc .vmem S2048x2176 .bf16) (h4 : a4.IsWhole) (a5 : Memref sig .tc .vmem S1088x2048 .f32) (h5 : a5.IsWhole)

theorem first (hc0 : cond0_0 i) (hc1 : ¬cond0_1 i) (hc2 : ¬cond0_2 i) :
    out0_A_2 c i a3 h3 a4 h4 a5 h5 hc0 hc1 hc2 x w = k0_pay1 x w := by
  unfold out0_A_2
  rw [View.read_writes_eq_canon _ _ _ (cover0_A_2 c i a3 h3 a4 h4 a5 h5 hc0 hc1 hc2 x w)]
  unfold kernelRun0_A
  dsimp only
  sl_unfold_words
  rw [View.canon_unit_zero zero2]
  simp only [View.readAt_eq_ld, h3.read_unread, h4.read_unread, View.ld_unit_zero (S := S1088x2176) zero2,
    View.ld_unit_zero (S := S2048x2176) zero2]

theorem middle (hc0 : ¬cond0_0 i) (hc1 : cond0_1 i) (hc2 : ¬cond0_2 i) :
    out0_B_2 c i a3 h3 a4 h4 a5 h5 hc0 hc1 hc2 x w acc = addf acc (k0_pay1 x w) := by
  unfold out0_B_2
  rw [View.read_writes_eq_canon _ _ _ (cover0_B_2 c i a3 h3 a4 h4 a5 h5 hc0 hc1 hc2 x w acc)]
  unfold kernelRun0_B
  dsimp only
  sl_unfold_words
  rw [View.canon_unit_zero zero2]
  unfold k0_pay2
  simp only [View.readAt_eq_ld, h3.read_unread, h4.read_unread, h5.read_unread, View.ld_unit_zero (S := S1088x2176) zero2,
    View.ld_unit_zero (S := S2048x2176) zero2, View.ld_unit_zero (S := S1088x2048) zero2, shapeCast_self]

theorem last (hc0 : ¬cond0_0 i) (hc1 : ¬cond0_1 i) (hc2 : cond0_2 i) :
    out0_C_2 c i a3 h3 a4 h4 a5 h5 hc0 hc1 hc2 x w acc = addf acc (k0_pay1 x w) := by
  unfold out0_C_2
  rw [View.read_writes_eq_canon _ _ _ (cover0_C_2 c i a3 h3 a4 h4 a5 h5 hc0 hc1 hc2 x w acc)]
  unfold kernelRun0_C
  dsimp only
  sl_unfold_words
  rw [View.canon_unit_zero zero2]
  unfold k0_pay3
  simp only [View.readAt_eq_ld, h3.read_unread, h4.read_unread, h5.read_unread, View.ld_unit_zero (S := S1088x2176) zero2,
    View.ld_unit_zero (S := S2048x2176) zero2, View.ld_unit_zero (S := S1088x2048) zero2, shapeCast_self]

end Terms

variable (m : (ℓ : Loc nD τ sig) → Buf (Elt Ideal) ℓ) (c : Dev nD)

/-- The first point of a run leaves its term … -/
theorem outs_first (t : Fin cfg0.N) (h0 : t.val % 5 = 0) :
    outsAt0 m c t.val t.isLt = k0_pay1 (iblk m c 0 t) (iblk m c 1 t) := by
  rw [outsAt0_A m c t h0 (by omega) (by omega)]
  exact first ..

/-- … and each later one adds its term. -/
theorem outs_next (n : ℕ) (hn : n + 1 < cfg0.N) (h0 : ¬(n + 1) % 5 = 0) :
    outsAt0 m c (n + 1) hn = addf (outsAt0 m c n (Nat.lt_of_succ_lt hn)) (k0_pay1 (iblk m c 0 ⟨n + 1, hn⟩) (iblk m c 1 ⟨n + 1, hn⟩)) := by
  by_cases h4 : (n + 1) % 5 = 4
  · rw [show outsAt0 m c (n + 1) hn = _ from outsAt0_C m c ⟨n + 1, hn⟩ h0 (by dsimp only; omega) h4]
    exact last ..
  · rw [show outsAt0 m c (n + 1) hn = _ from outsAt0_B m c ⟨n + 1, hn⟩ h0 (by dsimp only; omega) h4]
    exact middle ..

abbrev dA : S4352x10816.Idx → EReal := m ((c : Thread nD τ).loc main_arg0)
abbrev wA : S2048x10816.Idx → EReal := m ((c : Thread nD τ).loc main_arg1)

theorem index0 : ∀ t : Fin grid0.N, win0_0.index t 0 = t.val / 5 ∧ win0_0.index t 1 = t.val % 5 := by decide +kernel
theorem index1 : ∀ t : Fin grid0.N, win0_1.index t 0 = 0 ∧ win0_1.index t 1 = t.val % 5 := by decide +kernel
theorem index2 : ∀ t : Fin grid0.N, win0_2.index t 0 = t.val / 5 ∧ win0_2.index t 1 = 0 := by decide +kernel

theorem lt20 (t : Fin cfg0.N) : t.val < 20 := lt_of_lt_of_eq t.isLt (show cfg0.N = 20 from N_0)

/-- The two arrays that the host hands to the kernel: their columns are in the version's order. -/
theorem V_v4 : V m c main_v4 = concatenate S4352x10880 1
    [⟨S4352x4608, extractStridedSlice S4352x4608 ![0, 0] (dA m c) slices_S4352x10816_S4352x4608_0_0⟩,
      ⟨S4352x6144, extractStridedSlice S4352x6144 ![0, 4672] (dA m c) slices_S4352x10816_S4352x6144_0_4672⟩,
      ⟨S4352x64, extractStridedSlice S4352x64 ![0, 4608] (dA m c) slices_S4352x10816_S4352x64_0_4608⟩,
      ⟨S4352x64, broadcastInDim S4352x64 ![] bcast_S_S4352x64 (constant (F := Ideal) S_ .bf16 0x0000#16)⟩]
    concatenates_S4352x4608_S4352x6144_S4352x64_S4352x64_S4352x10880_d1 := by
  unfold V
  simp only [hostOps0, List.flatten_cons, List.flatten_nil, List.append_nil, List.cons_append, List.nil_append]
  after_results
  rfl

theorem V_v9 : V m c main_v9 = concatenate S2048x10880 1
    [⟨S2048x4608, extractStridedSlice S2048x4608 ![0, 0] (wA m c) slices_S2048x10816_S2048x4608_0_0⟩,
      ⟨S2048x6144, extractStridedSlice S2048x6144 ![0, 4672] (wA m c) slices_S2048x10816_S2048x6144_0_4672⟩,
      ⟨S2048x64, extractStridedSlice S2048x64 ![0, 4608] (wA m c) slices_S2048x10816_S2048x64_0_4608⟩,
      ⟨S2048x64, broadcastInDim S2048x64 ![] bcast_S_S2048x64 (constant (F := Ideal) S_ .bf16 0x0000#16)⟩]
    concatenates_S2048x4608_S2048x6144_S2048x64_S2048x64_S2048x10880_d1 := by
  unfold V
  simp only [hostOps0, List.flatten_cons, List.flatten_nil, List.append_nil, List.cons_append, List.nil_append]
  after_results
  rfl

theorem v4_apply (r : Fin 4352) (k : Fin 10880) : V m c main_v4 (ix2 r k) = at2 (dA m c) r.val (col k.val) := by
  rw [V_v4]
  generalize dA m c = a
  refine Eq.trans ?_ (reorder a r k)
  pointwise

theorem v9_apply (r : Fin 2048) (k : Fin 10880) : V m c main_v9 (ix2 r k) = at2 (wA m c) r.val (col k.val) := by
  rw [V_v9]
  generalize wA m c = a
  refine Eq.trans ?_ (reorder a r k)
  pointwise

theorem block_d (t : Fin cfg0.N) (p : Fin 1088) (k : Fin 2176) :
    iblk m c 0 t (ix2 p k) = at2 (dA m c) (t.val / 5 * 1088 + p.val) (col (t.val % 5 * 2176 + k.val)) := by
  have h := lt20 t
  refine Eq.trans ?_ (v4_apply m c ⟨t.val / 5 * 1088 + p.val, by omega⟩ ⟨t.val % 5 * 2176 + k.val, by omega⟩)
  unfold iblk
  rw [View.read_apply]
  refine congrArg (V m c main_v4) (funext fun a => Fin.ext ?_)
  match a with
  | ⟨0, _⟩ => show win0_0.index t 0 * 1088 + 1 * p.val = _; rw [(index0 t).1, one_mul]; rfl
  | ⟨1, _⟩ => show win0_0.index t 1 * 2176 + 1 * k.val = _; rw [(index0 t).2, one_mul]; rfl

theorem block_w (t : Fin cfg0.N) (q : Fin 2048) (k : Fin 2176) :
    iblk m c 1 t (ix2 q k) = at2 (wA m c) q.val (col (t.val % 5 * 2176 + k.val)) := by
  refine Eq.trans ?_ (v9_apply m c q ⟨t.val % 5 * 2176 + k.val, by omega⟩)
  unfold iblk
  rw [View.read_apply]
  refine congrArg (V m c main_v9) (funext fun a => Fin.ext ?_)
  match a with
  | ⟨0, _⟩ => show win0_1.index t 0 * 2048 + 1 * q.val = q.val; rw [(index1 t).1]; omega
  | ⟨1, _⟩ => show win0_1.index t 1 * 2176 + 1 * k.val = _; rw [(index1 t).2, one_mul]; rfl

/-- The array the kernel writes. -/
def prod : S4352x2048.Idx → EReal := fun x => rowsT 10816 (dA m c) (wA m c) (x 0).val (x 1).val

/-- After a run's last point the block holds the product. -/
theorem outs_last (t : Fin cfg0.N) (hl : t.val % 5 = 4) (p : Fin 1088) (q : Fin 2048) :
    outsAt0 m c t.val t.isLt (ix2 p q) = rowsT 10816 (dA m c) (wA m c) (t.val / 5 * 1088 + p.val) q.val := by
  refine (run_sum (J := 5) (by decide) (fun n h => outsAt0 m c n h) (fun n h => k0_pay1 (iblk m c 0 ⟨n, h⟩) (iblk m c 1 ⟨n, h⟩))
    (fun n h h0 => outs_first m c ⟨n, h⟩ h0) (fun n h h0 => outs_next m c n h h0) t.val t.isLt (by omega)
    (fun s x => ∑ k : Fin 2176, at2 (dA m c) (t.val / 5 * 1088 + (x 0).val) (col (s * 2176 + k.val)) * at2 (wA m c) (x 1).val (col (s * 2176 + k.val)))
    (fun n h x hn => ?_) (ix2 p q)).trans ?_
  · obtain ⟨p, q, rfl⟩ : ∃ p q, x = ix2 p q := ⟨_, _, eq_ix2 x⟩
    refine (pay_apply _ _ p q).trans ?_
    simp only [block_d, block_w, ← hn]
    rfl
  · exact (sum_blocks 5 2176 10880 (by decide) fun k => at2 (dA m c) (t.val / 5 * 1088 + p.val) (col k) * at2 (wA m c) q.val (col k)).trans
      (rowsT_col (dA m c) (wA m c) _ _)

theorem final : (dats m 0 c).arrAt 2 cfg0.N = prod m c := by
  refine (dats m 0 c).arrAt_eq_of_cover 2 (prod m c) (fun t hf => ?_) fun i => ?_
  · rw [flushed2]
    funext y
    rw [View.read_apply]
    obtain ⟨p, q, rfl⟩ : ∃ p q, y = ix2 p q := ⟨_, _, eq_ix2 y⟩
    refine (outs_last m c t ((flush0_2 t).mp hf) p q).trans ?_
    show _ = rowsT 10816 (dA m c) (wA m c) (win0_2.index t 0 * 1088 + 1 * p.val) (win0_2.index t 1 * 2048 + 1 * q.val)
    rw [(index2 t).1, (index2 t).2, one_mul, one_mul, zero_mul, zero_add]
  · obtain ⟨x, y, rfl⟩ : ∃ x y, i = ix2 x y := ⟨_, _, eq_ix2 i⟩
    have hx := x.isLt
    have hy := y.isLt
    have hN : cfg0.N = 20 := N_0
    have h : x.val / 1088 * 5 + 4 < cfg0.N := by omega
    refine ⟨⟨_, h⟩, (flush0_2 _).mpr (by dsimp only; omega), ?_⟩
    show ix2 x y ∈ ((View.whole main_v10).slice (win0_2.rect ⟨_, h⟩)).set
    rw [View.set_slice_whole, Rect.mem_set_unit]
    intro a
    match a with
    | ⟨0, _⟩ =>
      show win0_2.index ⟨_, h⟩ 0 * 1088 ≤ x.val ∧ x.val < win0_2.index ⟨_, h⟩ 0 * 1088 + 1088
      rw [(index2 ⟨_, h⟩).1]; dsimp only; omega
    | ⟨1, _⟩ =>
      show win0_2.index ⟨_, h⟩ 1 * 2048 ≤ y.val ∧ y.val < win0_2.index ⟨_, h⟩ 1 * 2048 + 2048
      rw [(index2 ⟨_, h⟩).2]; omega

/-- The reference's entries. -/
theorem ref_apply (a : Vec Ideal S4352x10816 .bf16) (b : Vec Ideal S2048x10816 .bf16) (x : Fin 4352) (y : Fin 2048) :
    Cert.Reference9Ideal.Read.val_main_v2 (F := Ideal) a b (ix2 x y) = ∑ k : Fin 10816, a (ix2 x k) * b (ix2 y k) := by
  pointwise [Cert.Reference9Ideal.Read.val_main_v2, Cert.Reference9Ideal.Read.val_main_v1, Cert.Reference9Ideal.Read.val_main_v0]

/-- The array the kernel writes is the reference's. -/
theorem final_eq : (dats m 0 c).arrAt 2 cfg0.N = Cert.Reference9Ideal.Read.val_main_v2 (F := Ideal) (dA m c) (wA m c) := by
  rw [final]
  funext i
  obtain ⟨x, y, rfl⟩ : ∃ x y, i = ix2 x y := ⟨_, _, eq_ix2 i⟩
  exact (rowsT_eq (dA m c) (wA m c) x y).trans (ref_apply _ _ x y).symm

end Cert.Kernel9Ideal.Product

end
-- ==== Proof.InputWeights.lean ====
/- The gradient of the input projection's weights, `uᵀ dproj`, in the version's order of columns: the kernel's array, summed
   over two blocks of rows in a scratch buffer, is the reference's. -/
module

public import proofs.«01_k».proof.Proof.Gen.Kernel10Ideal.Value
public import proofs.«01_k».proof.Proof.Gen.Reference10Ideal.Read
public import proofs.«01_k».proof.Proof.InColumns
public import proofs.«01_k».proof.Proof.Out

@[expose] public section

set_option maxRecDepth 16384

noncomputable section

namespace Cert.Kernel10Ideal.Product

open Cert.Kernel10Ideal Cert.Kernel10Ideal.Gen Cert.Kernel10Ideal.Value Cert.Attn Cert.Products Cert.InColumns
open Idealize.ShloMosaic Idealize.ShloMosaic.TcCoe Idealize.SL.Sem
open Cert.KernelIdeal.Out (zero2)

/-- A point's term, entry by entry. -/
theorem pay_apply (x : Vec Ideal S2176x1024 .bf16) (d : Vec Ideal S2176x2176 .bf16) (p : Fin 1024) (q : Fin 2176) :
    k0_pay1 x d (ix2 p q) = ∑ k : Fin 2176, x (ix2 k p) * d (ix2 k q) := by
  pointwise [k0_pay1]

section Terms

variable (x : Vec Ideal S2176x1024 .bf16) (d : Vec Ideal S2176x2176 .bf16) (acc : Vec Ideal S1024x2176 .f32)
  (c : Dev nD) (i : grid0.Coords) (a3 : Memref sig .tc .vmem S2176x1024 .bf16) (h3 : a3.IsWhole)
  (a4 : Memref sig .tc .vmem S2176x2176 .bf16) (h4 : a4.IsWhole) (a5 : Memref sig .tc .vmem S1024x2176 .bf16) (h5 : a5.IsWhole)
  (a6 : Memref sig .tc .vmem S1024x2176 .f32) (h6 : a6.IsWhole)

/-- The first point of a run leaves its term in the scratch buffer … -/
theorem first (hc0 : cond0_0 i) (hc1 : ¬cond0_1 i) (hc2 : ¬cond0_2 i) :
    sout0_A_0 c i a3 h3 a4 h4 a5 h5 a6 h6 hc0 hc1 hc2 x d = k0_pay1 x d := by
  unfold sout0_A_0
  rw [View.read_writes_eq_canon _ _ _ (scover0_A_0 c i a3 h3 a4 h4 a5 h5 a6 h6 hc0 hc1 hc2 x d)]
  unfold kernelRun0_A
  dsimp only
  sl_unfold_words
  rw [View.canon_unit_zero zero2]
  unfold k0_pay2
  simp only [View.readAt_eq_ld, h3.read_unread, h4.read_unread, View.ld_unit_zero (S := S2176x1024) zero2,
    View.ld_unit_zero (S := S2176x2176) zero2, shapeCast_self]

/-- … and the last writes the buffer and its own term. -/
theorem last (hc0 : ¬cond0_0 i) (hc1 : ¬cond0_1 i) (hc2 : cond0_2 i) :
    out0_B_2 c i a3 h3 a4 h4 a5 h5 a6 h6 hc0 hc1 hc2 x d acc
      = truncf .bf16 (addf acc (k0_pay1 x d)) bitsLt_bf16_f32 := by
  unfold out0_B_2
  rw [View.read_writes_eq_canon _ _ _ (cover0_B_2 c i a3 h3 a4 h4 a5 h5 a6 h6 hc0 hc1 hc2 x d acc)]
  unfold kernelRun0_B
  dsimp only
  sl_unfold_words
  rw [View.canon_unit_zero zero2]
  unfold k0_pay4
  simp only [View.readAt_eq_ld, h3.read_unread, h4.read_unread, h6.read_unread, View.ld_unit_zero (S := S2176x1024) zero2,
    View.ld_unit_zero (S := S2176x2176) zero2, View.ld_unit_zero (S := S1024x2176) zero2]

end Terms

variable (m : (ℓ : Loc nD τ sig) → Buf (Elt Ideal) ℓ) (c : Dev nD)

abbrev xA : S4352x2048.Idx → EReal := m ((c : Thread nD τ).loc main_arg0)
abbrev dA : S4352x10816.Idx → EReal := m ((c : Thread nD τ).loc main_arg1)

theorem index0 : ∀ t : Fin grid0.N, win0_0.index t 0 = t.val % 2 ∧ win0_0.index t 1 = t.val / 10 := by decide +kernel
theorem index1 : ∀ t : Fin grid0.N, win0_1.index t 0 = t.val % 2 ∧ win0_1.index t 1 = t.val / 2 % 5 := by decide +kernel
theorem index2 : ∀ t : Fin grid0.N, win0_2.index t 0 = t.val / 10 ∧ win0_2.index t 1 = t.val / 2 % 5 := by decide +kernel

/-- The array of gradients that the host hands to the kernel: its columns are in the version's order. -/
theorem V_v4 : V m c main_v4 = concatenate S4352x10880 1
    [⟨S4352x4608, extractStridedSlice S4352x4608 ![0, 0] (dA m c) slices_S4352x10816_S4352x4608_0_0⟩,
      ⟨S4352x6144, extractStridedSlice S4352x6144 ![0, 4672] (dA m c) slices_S4352x10816_S4352x6144_0_4672⟩,
      ⟨S4352x64, extractStridedSlice S4352x64 ![0, 4608] (dA m c) slices_S4352x10816_S4352x64_0_4608⟩,
      ⟨S4352x64, broadcastInDim S4352x64 ![] bcast_S_S4352x64 (constant (F := Ideal) S_ .bf16 0x0000#16)⟩]
    concatenates_S4352x4608_S4352x6144_S4352x64_S4352x64_S4352x10880_d1 := by
  unfold V
  simp only [hostOps0, List.flatten_cons, List.flatten_nil, List.append_nil, List.cons_append, List.nil_append]
  after_results
  rfl

theorem v4_apply (r : Fin 4352) (k : Fin 10880) : V m c main_v4 (ix2 r k) = at2 (dA m c) r.val (col k.val) := by
  rw [V_v4]
  generalize dA m c = a
  refine Eq.trans ?_ (reorder a r k)
  pointwise

theorem block_x (t : Fin cfg0.N) (k : Fin 2176) (p : Fin 1024) :
    iblk m c 0 t (ix2 k p) = at2 (xA m c) (t.val % 2 * 2176 + k.val) (t.val / 10 * 1024 + p.val) := by
  unfold iblk
  rw [View.read_apply]
  show V m c main_arg0 _ = _
  rw [V_main_arg0]
  refine (eq_at2 (xA m c) _).trans ?_
  show at2 (xA m c) (win0_0.index t 0 * 2176 + 1 * k.val) (win0_0.index t 1 * 1024 + 1 * p.val) = _
  rw [(index0 t).1, (index0 t).2, one_mul, one_mul]

theorem block_d (t : Fin cfg0.N) (k : Fin 2176) (q : Fin 2176) :
    iblk m c 1 t (ix2 k q) = at2 (dA m c) (t.val % 2 * 2176 + k.val) (col (t.val / 2 % 5 * 2176 + q.val)) := by
  refine Eq.trans ?_ (v4_apply m c ⟨t.val % 2 * 2176 + k.val, by omega⟩ ⟨t.val / 2 % 5 * 2176 + q.val, by omega⟩)
  unfold iblk
  rw [View.read_apply]
  refine congrArg (V m c main_v4) (funext fun a => Fin.ext ?_)
  match a with
  | ⟨0, _⟩ => show win0_1.index t 0 * 2176 + 1 * k.val = _; rw [(index1 t).1, one_mul]; rfl
  | ⟨1, _⟩ => show win0_1.index t 1 * 2176 + 1 * q.val = _; rw [(index1 t).2, one_mul]; rfl

theorem term_apply (t : Fin cfg0.N) (p : Fin 1024) (q : Fin 2176) :
    k0_pay1 (iblk m c 0 t) (iblk m c 1 t) (ix2 p q)
      = ∑ k : Fin 2176, at2 (xA m c) (t.val % 2 * 2176 + k.val) (t.val / 10 * 1024 + p.val)
          * at2 (dA m c) (t.val % 2 * 2176 + k.val) (col (t.val / 2 % 5 * 2176 + q.val)) := by
  refine (pay_apply _ _ p q).trans ?_
  simp only [block_x, block_d]

/-- What the scratch buffer holds after a run's first point. -/
theorem scratch_first (t : Fin cfg0.N) (h0 : t.val % 2 = 0) : (outsAt0 m c t.val t.isLt).2 = k0_pay1 (iblk m c 0 t) (iblk m c 1 t) := by
  rw [outsAt0_A m c t h0 (by omega)]
  dsimp only
  exact first ..

/-- What a run's last point writes. -/
theorem outs_last (t : Fin cfg0.N) (h1 : t.val % 2 = 1) (p : Fin 1024) (q : Fin 2176) :
    (outsAt0 m c t.val t.isLt).1 (ix2 p q) = colsT 4352 (xA m c) (dA m c) (t.val / 10 * 1024 + p.val) (col (t.val / 2 % 5 * 2176 + q.val)) := by
  have h : t.val - 1 < cfg0.N := Nat.lt_of_le_of_lt (Nat.sub_le _ _) t.isLt
  rw [outsAt0_B m c t (by omega) h1]
  dsimp only
  rw [last, scratch_first m c ⟨t.val - 1, h⟩ (by dsimp only; omega)]
  refine (congrArg₂ (· + ·) (term_apply m c ⟨t.val - 1, h⟩ p q) (term_apply m c t p q)).trans ?_
  dsimp only
  rw [show (t.val - 1) % 2 = 0 by omega, show (t.val - 1) / 10 = t.val / 10 by omega, show (t.val - 1) / 2 % 5 = t.val / 2 % 5 by omega, h1]
  unfold colsT
  rw [← sum_blocks 2 2176 4352 (by decide) fun k => at2 (xA m c) k (t.val / 10 * 1024 + p.val) * at2 (dA m c) k (col (t.val / 2 % 5 * 2176 + q.val)),
    Finset.sum_range_succ, Finset.sum_range_one]

/-- The array the kernel writes. -/
def prod : S2048x10880.Idx → EReal := fun x => colsT 4352 (xA m c) (dA m c) (x 0).val (col (x 1).val)

theorem final : (dats m 0 c).arrAt 2 cfg0.N = prod m c := by
  refine (dats m 0 c).arrAt_eq_of_cover 2 (prod m c) (fun t hf => ?_) fun i => ?_
  · rw [flushed2]
    funext y
    rw [View.read_apply]
    obtain ⟨p, q, rfl⟩ : ∃ p q, y = ix2 p q := ⟨_, _, eq_ix2 y⟩
    refine (outs_last m c t ((flush0_2 t).mp hf) p q).trans ?_
    show _ = colsT 4352 (xA m c) (dA m c) (win0_2.index t 0 * 1024 + 1 * p.val) (col (win0_2.index t 1 * 2176 + 1 * q.val))
    rw [(index2 t).1, (index2 t).2, one_mul, one_mul]
  · obtain ⟨x, y, rfl⟩ : ∃ x y, i = ix2 x y := ⟨_, _, eq_ix2 i⟩
    have hx := x.isLt
    have hy := y.isLt
    have hN : cfg0.N = 20 := N_0
    have h : x.val / 1024 * 10 + y.val / 2176 * 2 + 1 < cfg0.N := by omega
    refine ⟨⟨_, h⟩, (flush0_2 _).mpr (by dsimp only; omega), ?_⟩
    show ix2 x y ∈ ((View.whole main_v5).slice (win0_2.rect ⟨_, h⟩)).set
    rw [View.set_slice_whole, Rect.mem_set_unit]
    intro a
    match a with
    | ⟨0, _⟩ =>
      show win0_2.index ⟨_, h⟩ 0 * 1024 ≤ x.val ∧ x.val < win0_2.index ⟨_, h⟩ 0 * 1024 + 1024
      rw [(index2 ⟨_, h⟩).1]; dsimp only; omega
    | ⟨1, _⟩ =>
      show win0_2.index ⟨_, h⟩ 1 * 2176 ≤ y.val ∧ y.val < win0_2.index ⟨_, h⟩ 1 * 2176 + 2176
      rw [(index2 ⟨_, h⟩).2]; dsimp only; omega

open Cert.Reference10Ideal.Read

/-- The reference's product, entry by entry. -/
theorem ref_product (a : Vec Ideal S4352x2048 .bf16) (b : Vec Ideal S4352x10816 .bf16) (x : Fin 2048) (y : Fin 10816) :
    Cert.Reference10Ideal.Read.val_main_v4 (F := Ideal) a b (ix2 x y) = ∑ k : Fin 4352, a (ix2 k x) * b (ix2 k y) := by
  refine Eq.trans ?_ (Finset.sum_congr rfl fun k _ => mul_comm _ _)
  pointwise [Cert.Reference10Ideal.Read.val_main_v4, Cert.Reference10Ideal.Read.val_main_v3, Cert.Reference10Ideal.Read.val_main_v2,
    Cert.Reference10Ideal.Read.val_main_v1, Cert.Reference10Ideal.Read.val_main_v0]

/-- The reference's result is its product with the columns in the version's order. -/
theorem ref_apply (a : Vec Ideal S4352x2048 .bf16) (b : Vec Ideal S4352x10816 .bf16) (x : Fin 2048) (y : Fin 10880) :
    val_main_v9 (F := Ideal) a b (ix2 x y) = at2 (val_main_v4 (F := Ideal) a b) x.val (col y.val) := by
  unfold val_main_v9 val_main_v8 val_main_call0_v0 val_main_c val_main_v5 val_main_v6 val_main_v7
  generalize Cert.Reference10Ideal.Read.val_main_v4 (F := Ideal) a b = w
  refine Eq.trans ?_ (reorder w x y)
  pointwise
  have h0 : (FloatOps.sitofp (F := Ideal) .bf16 0#32 : EReal) = 0 := by
    show (((0#32 : BitVec 32).toInt : ℝ) : EReal) = 0
    rw [show (0#32 : BitVec 32).toInt = 0 from rfl, Int.cast_zero, EReal.coe_zero]
  rw [h0]
  by_cases a : y.val < 4608
  · rw [dif_pos (by omega), dif_pos a, dif_pos a]
  · by_cases b : y.val - 4608 < 6144
    · rw [dif_pos (by omega), dif_neg a, dif_neg a, dif_pos b, dif_pos b]
    · by_cases c : y.val - 4608 - 6144 < 64
      · rw [dif_pos (by omega), dif_neg a, dif_neg a, dif_neg b, dif_neg b, dif_pos c]
      · rw [dif_neg (by omega), dif_neg a, dif_neg b, dif_neg c]

/-- The array the kernel writes is the reference's. -/
theorem final_eq : (dats m 0 c).arrAt 2 cfg0.N = Cert.Reference10Ideal.Read.val_main_v9 (F := Ideal) (xA m c) (dA m c) := by
  rw [final]
  funext i
  obtain ⟨x, y, rfl⟩ : ∃ x y, i = ix2 x y := ⟨_, _, eq_ix2 i⟩
  rw [ref_apply]
  show colsT 4352 (xA m c) (dA m c) x.val (col y.val) = _
  by_cases h : col y.val < 10816
  · rw [at2_eq _ x.isLt h, ref_product]
    exact colsT_eq (xA m c) (dA m c) x ⟨col y.val, h⟩
  · rw [at2_past _ (by omega)]
    exact Finset.sum_eq_zero fun k _ => by rw [at2_past (dA m c) (by omega), mul_zero]

end Cert.Kernel10Ideal.Product

end
-- ==== Proof.MixInput.lean ====
/- The gradient that the mixer's output projection sends back, `dh w_outᵀ`: the kernel's array is the reference's. -/
module

public import proofs.«01_k».proof.Proof.Gen.Kernel13Ideal.Value
public import proofs.«01_k».proof.Proof.Gen.Reference13Ideal.Read
public import proofs.«01_k».proof.Proof.Products
public import proofs.«01_k».proof.Proof.Out

@[expose] public section

set_option maxRecDepth 16384

noncomputable section

namespace Cert.Kernel13Ideal.Product

open Cert.Kernel13Ideal Cert.Kernel13Ideal.Gen Cert.Kernel13Ideal.Value Cert.Attn Cert.Products
open Idealize.ShloMosaic Idealize.ShloMosaic.TcCoe Idealize.SL.Sem
open Cert.KernelIdeal.Out (zero2)

/-- A point's block of the result, entry by entry. -/
theorem pay_apply (x : Vec Ideal S1088x2048 .bf16) (w : Vec Ideal S2048x2048 .bf16) (p : Fin 1088) (q : Fin 2048) :
    k0_pay1 x w (ix2 p q) = ∑ k : Fin 2048, x (ix2 p k) * w (ix2 q k) := by
  pointwise [k0_pay1]

/-- What a point writes back. -/
theorem out_eq (x : Vec Ideal S1088x2048 .bf16) (w : Vec Ideal S2048x2048 .bf16) : out0_2 x w = k0_pay1 x w := by
  unfold out0_2
  rw [View.canon_unit_zero zero2]
  simp only [View.readAt_eq_ld, View.ld_unit_zero (S := S1088x2048) zero2, View.ld_unit_zero (S := S2048x2048) zero2]

variable (m : (ℓ : Loc nD τ sig) → Buf (Elt Ideal) ℓ) (c : Dev nD)

abbrev dA : S4352x2048.Idx → EReal := m ((c : Thread nD τ).loc main_arg0)
abbrev wA : S2048x2048.Idx → EReal := m ((c : Thread nD τ).loc main_arg1)

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel

theorem block_d (t : Fin cfg0.N) (p : Fin 1088) (k : Fin 2048) : iblk m c 0 t (ix2 p k) = at2 (dA m c) (t.val * 1088 + p.val) k.val := by
  unfold iblk
  rw [View.read_apply]
  refine (eq_at2 (dA m c) _).trans ?_
  show at2 (dA m c) (win0_0.index t 0 * 1088 + 1 * p.val) (win0_0.index t 1 * 2048 + 1 * k.val) = _
  rw [(index0 t).1, (index0 t).2, one_mul, one_mul, zero_mul, zero_add]

theorem block_w (t : Fin cfg0.N) (q : Fin 2048) (k : Fin 2048) : iblk m c 1 t (ix2 q k) = at2 (wA m c) q.val k.val := by
  unfold iblk
  rw [View.read_apply]
  refine (eq_at2 (wA m c) _).trans ?_
  show at2 (wA m c) (win0_1.index t 0 * 2048 + 1 * q.val) (win0_1.index t 1 * 2048 + 1 * k.val) = _
  rw [(index1 t).1, (index1 t).2, one_mul, one_mul, zero_mul, zero_add, zero_add]

/-- The array the kernel writes. -/
def prod : S4352x2048.Idx → EReal := fun x => rowsT 2048 (dA m c) (wA m c) (x 0).val (x 1).val

theorem final : (dats m 0 c).arrAt 2 cfg0.N = prod m c := by
  refine (dats m 0 c).arrAt_eq_of_cover 2 (prod m c) (fun t _ => ?_) fun i => ?_
  · rw [flushed2, out_eq]
    funext y
    rw [View.read_apply]
    obtain ⟨p, q, rfl⟩ : ∃ p q, y = ix2 p q := ⟨_, _, eq_ix2 y⟩
    refine (pay_apply _ _ p q).trans ?_
    simp only [block_d, block_w]
    show rowsT 2048 (dA m c) (wA m c) (t.val * 1088 + p.val) q.val
      = rowsT 2048 (dA m c) (wA m c) (win0_2.index t 0 * 1088 + 1 * p.val) (win0_2.index t 1 * 2048 + 1 * q.val)
    rw [(index2 t).1, (index2 t).2, one_mul, one_mul, zero_mul, zero_add]
  · obtain ⟨x, y, rfl⟩ : ∃ x y, i = ix2 x y := ⟨_, _, eq_ix2 i⟩
    have hx := x.isLt
    have hy := y.isLt
    have hN : cfg0.N = 4 := N_0
    have h : x.val / 1088 < cfg0.N := by omega
    refine ⟨⟨_, h⟩, flush0_2 _, ?_⟩
    show ix2 x y ∈ ((View.whole main_v0).slice (win0_2.rect ⟨_, h⟩)).set
    rw [View.set_slice_whole, Rect.mem_set_unit]
    intro a
    match a with
    | ⟨0, _⟩ =>
      show win0_2.index ⟨_, h⟩ 0 * 1088 ≤ x.val ∧ x.val < win0_2.index ⟨_, h⟩ 0 * 1088 + 1088
      rw [(index2 ⟨_, h⟩).1]; dsimp only; omega
    | ⟨1, _⟩ =>
      show win0_2.index ⟨_, h⟩ 1 * 2048 ≤ y.val ∧ y.val < win0_2.index ⟨_, h⟩ 1 * 2048 + 2048
      rw [(index2 ⟨_, h⟩).2]; omega

/-- The reference's entries. -/
theorem ref_apply (a : Vec Ideal S4352x2048 .bf16) (b : Vec Ideal S2048x2048 .bf16) (x : Fin 4352) (y : Fin 2048) :
    Cert.Reference13Ideal.Read.val_main_v2 (F := Ideal) a b (ix2 x y) = ∑ k : Fin 2048, a (ix2 x k) * b (ix2 y k) := by
  pointwise [Cert.Reference13Ideal.Read.val_main_v2, Cert.Reference13Ideal.Read.val_main_v1, Cert.Reference13Ideal.Read.val_main_v0]

/-- The array the kernel writes is the reference's. -/
theorem final_eq : (dats m 0 c).arrAt 2 cfg0.N = Cert.Reference13Ideal.Read.val_main_v2 (F := Ideal) (dA m c) (wA m c) := by
  rw [final]
  funext i
  obtain ⟨x, y, rfl⟩ : ∃ x y, i = ix2 x y := ⟨_, _, eq_ix2 i⟩
  exact (rowsT_eq (dA m c) (wA m c) x y).trans (ref_apply _ _ x y).symm

end Cert.Kernel13Ideal.Product

end
-- ==== Proof.MixWeights.lean ====
/- The gradient of the mixer's output weights, `mergedᵀ dh`: the kernel's array, summed over two blocks of rows in a
   scratch buffer, is the reference's. -/
module

public import proofs.«01_k».proof.Proof.Gen.Kernel14Ideal.Value
public import proofs.«01_k».proof.Proof.Gen.Reference14Ideal.Read
public import proofs.«01_k».proof.Proof.Products
public import proofs.«01_k».proof.Proof.Out

@[expose] public section

set_option maxRecDepth 16384

noncomputable section

namespace Cert.Kernel14Ideal.Product

open Cert.Kernel14Ideal Cert.Kernel14Ideal.Gen Cert.Kernel14Ideal.Value Cert.Attn Cert.Products
open Idealize.ShloMosaic Idealize.ShloMosaic.TcCoe Idealize.SL.Sem
open Cert.KernelIdeal.Out (zero2)

/-- A point's term, entry by entry. -/
theorem pay_apply (x : Vec Ideal S2176x1024 .bf16) (d : Vec Ideal S2176x2048 .bf16) (p : Fin 1024) (q : Fin 2048) :
    k0_pay1 x d (ix2 p q) = ∑ k : Fin 2176, x (ix2 k p) * d (ix2 k q) := by
  pointwise [k0_pay1]

section Terms

variable (x : Vec Ideal S2176x1024 .bf16) (d : Vec Ideal S2176x2048 .bf16) (acc : Vec Ideal S1024x2048 .f32)
  (c : Dev nD) (i : grid0.Coords) (a3 : Memref sig .tc .vmem S2176x1024 .bf16) (h3 : a3.IsWhole)
  (a4 : Memref sig .tc .vmem S2176x2048 .bf16) (h4 : a4.IsWhole) (a5 : Memref sig .tc .vmem S1024x2048 .bf16) (h5 : a5.IsWhole)
  (a6 : Memref sig .tc .vmem S1024x2048 .f32) (h6 : a6.IsWhole)

/-- The first point of a run leaves its term in the scratch buffer … -/
theorem first (hc0 : cond0_0 i) (hc1 : ¬cond0_1 i) (hc2 : ¬cond0_2 i) :
    sout0_A_0 c i a3 h3 a4 h4 a5 h5 a6 h6 hc0 hc1 hc2 x d = k0_pay1 x d := by
  unfold sout0_A_0
  rw [View.read_writes_eq_canon _ _ _ (scover0_A_0 c i a3 h3 a4 h4 a5 h5 a6 h6 hc0 hc1 hc2 x d)]
  unfold kernelRun0_A
  dsimp only
  sl_unfold_words
  rw [View.canon_unit_zero zero2]
  unfold k0_pay2
  simp only [View.readAt_eq_ld, h3.read_unread, h4.read_unread, View.ld_unit_zero (S := S2176x1024) zero2,
    View.ld_unit_zero (S := S2176x2048) zero2, shapeCast_self]

/-- … and the last writes the buffer and its own term. -/
theorem last (hc0 : ¬cond0_0 i) (hc1 : ¬cond0_1 i) (hc2 : cond0_2 i) :
    out0_B_2 c i a3 h3 a4 h4 a5 h5 a6 h6 hc0 hc1 hc2 x d acc = truncf .bf16 (addf acc (k0_pay1 x d)) bitsLt_bf16_f32 := by
  unfold out0_B_2
  rw [View.read_writes_eq_canon _ _ _ (cover0_B_2 c i a3 h3 a4 h4 a5 h5 a6 h6 hc0 hc1 hc2 x d acc)]
  unfold kernelRun0_B
  dsimp only
  sl_unfold_words
  rw [View.canon_unit_zero zero2]
  unfold k0_pay4
  simp only [View.readAt_eq_ld, h3.read_unread, h4.read_unread, h6.read_unread, View.ld_unit_zero (S := S2176x1024) zero2,
    View.ld_unit_zero (S := S2176x2048) zero2, View.ld_unit_zero (S := S1024x2048) zero2]

end Terms

variable (m : (ℓ : Loc nD τ sig) → Buf (Elt Ideal) ℓ) (c : Dev nD)

abbrev xA : S4352x2048.Idx → EReal := m ((c : Thread nD τ).loc main_arg0)
abbrev dA : S4352x2048.Idx → EReal := m ((c : Thread nD τ).loc main_arg1)

theorem index0 : ∀ t : Fin grid0.N, win0_0.index t 0 = t.val % 2 ∧ win0_0.index t 1 = t.val / 2 := by decide +kernel
theorem index1 : ∀ t : Fin grid0.N, win0_1.index t 0 = t.val % 2 ∧ win0_1.index t 1 = 0 := by decide +kernel
theorem index2 : ∀ t : Fin grid0.N, win0_2.index t 0 = t.val / 2 ∧ win0_2.index t 1 = 0 := by decide +kernel

theorem block_x (t : Fin cfg0.N) (k : Fin 2176) (p : Fin 1024) :
    iblk m c 0 t (ix2 k p) = at2 (xA m c) (t.val % 2 * 2176 + k.val) (t.val / 2 * 1024 + p.val) := by
  unfold iblk
  rw [View.read_apply]
  refine (eq_at2 (xA m c) _).trans ?_
  show at2 (xA m c) (win0_0.index t 0 * 2176 + 1 * k.val) (win0_0.index t 1 * 1024 + 1 * p.val) = _
  rw [(index0 t).1, (index0 t).2, one_mul, one_mul]

theorem block_d (t : Fin cfg0.N) (k : Fin 2176) (q : Fin 2048) :
    iblk m c 1 t (ix2 k q) = at2 (dA m c) (t.val % 2 * 2176 + k.val) q.val := by
  unfold iblk
  rw [View.read_apply]
  refine (eq_at2 (dA m c) _).trans ?_
  show at2 (dA m c) (win0_1.index t 0 * 2176 + 1 * k.val) (win0_1.index t 1 * 2048 + 1 * q.val) = _
  rw [(index1 t).1, (index1 t).2, one_mul, one_mul, zero_mul, zero_add]

theorem term_apply (t : Fin cfg0.N) (p : Fin 1024) (q : Fin 2048) :
    k0_pay1 (iblk m c 0 t) (iblk m c 1 t) (ix2 p q)
      = ∑ k : Fin 2176, at2 (xA m c) (t.val % 2 * 2176 + k.val) (t.val / 2 * 1024 + p.val) * at2 (dA m c) (t.val % 2 * 2176 + k.val) q.val := by
  refine (pay_apply _ _ p q).trans ?_
  simp only [block_x, block_d]

/-- What the scratch buffer holds after a run's first point. -/
theorem scratch_first (t : Fin cfg0.N) (h0 : t.val % 2 = 0) : (outsAt0 m c t.val t.isLt).2 = k0_pay1 (iblk m c 0 t) (iblk m c 1 t) := by
  rw [outsAt0_A m c t h0 (by omega)]
  dsimp only
  exact first ..

/-- What a run's last point writes. -/
theorem outs_last (t : Fin cfg0.N) (h1 : t.val % 2 = 1) (p : Fin 1024) (q : Fin 2048) :
    (outsAt0 m c t.val t.isLt).1 (ix2 p q) = colsT 4352 (xA m c) (dA m c) (t.val / 2 * 1024 + p.val) q.val := by
  have h : t.val - 1 < cfg0.N := Nat.lt_of_le_of_lt (Nat.sub_le _ _) t.isLt
  rw [outsAt0_B m c t (by omega) h1]
  dsimp only
  rw [last, scratch_first m c ⟨t.val - 1, h⟩ (by dsimp only; omega)]
  refine (congrArg₂ (· + ·) (term_apply m c ⟨t.val - 1, h⟩ p q) (term_apply m c t p q)).trans ?_
  dsimp only
  rw [show (t.val - 1) % 2 = 0 by omega, show (t.val - 1) / 2 = t.val / 2 by omega, h1]
  unfold colsT
  rw [← sum_blocks 2 2176 4352 (by decide) fun k => at2 (xA m c) k (t.val / 2 * 1024 + p.val) * at2 (dA m c) k q.val,
    Finset.sum_range_succ, Finset.sum_range_one]

/-- The array the kernel writes. -/
def prod : S2048x2048.Idx → EReal := fun x => colsT 4352 (xA m c) (dA m c) (x 0).val (x 1).val

theorem final : (dats m 0 c).arrAt 2 cfg0.N = prod m c := by
  refine (dats m 0 c).arrAt_eq_of_cover 2 (prod m c) (fun t hf => ?_) fun i => ?_
  · rw [flushed2]
    funext y
    rw [View.read_apply]
    obtain ⟨p, q, rfl⟩ : ∃ p q, y = ix2 p q := ⟨_, _, eq_ix2 y⟩
    refine (outs_last m c t ((flush0_2 t).mp hf) p q).trans ?_
    show _ = colsT 4352 (xA m c) (dA m c) (win0_2.index t 0 * 1024 + 1 * p.val) (win0_2.index t 1 * 2048 + 1 * q.val)
    rw [(index2 t).1, (index2 t).2, one_mul, one_mul, zero_mul, zero_add]
  · obtain ⟨x, y, rfl⟩ : ∃ x y, i = ix2 x y := ⟨_, _, eq_ix2 i⟩
    have hx := x.isLt
    have hy := y.isLt
    have hN : cfg0.N = 4 := N_0
    have h : x.val / 1024 * 2 + 1 < cfg0.N := by omega
    refine ⟨⟨_, h⟩, (flush0_2 _).mpr (by dsimp only; omega), ?_⟩
    show ix2 x y ∈ ((View.whole main_v0).slice (win0_2.rect ⟨_, h⟩)).set
    rw [View.set_slice_whole, Rect.mem_set_unit]
    intro a
    match a with
    | ⟨0, _⟩ =>
      show win0_2.index ⟨_, h⟩ 0 * 1024 ≤ x.val ∧ x.val < win0_2.index ⟨_, h⟩ 0 * 1024 + 1024
      rw [(index2 ⟨_, h⟩).1]; dsimp only; omega
    | ⟨1, _⟩ =>
      show win0_2.index ⟨_, h⟩ 1 * 2048 ≤ y.val ∧ y.val < win0_2.index ⟨_, h⟩ 1 * 2048 + 2048
      rw [(index2 ⟨_, h⟩).2]; omega

/-- The reference's entries. -/
theorem ref_apply (a : Vec Ideal S4352x2048 .bf16) (b : Vec Ideal S4352x2048 .bf16) (x : Fin 2048) (y : Fin 2048) :
    Cert.Reference14Ideal.Read.val_main_v4 (F := Ideal) a b (ix2 x y) = ∑ k : Fin 4352, a (ix2 k x) * b (ix2 k y) := by
  refine Eq.trans ?_ (Finset.sum_congr rfl fun k _ => mul_comm _ _)
  pointwise [Cert.Reference14Ideal.Read.val_main_v4, Cert.Reference14Ideal.Read.val_main_v3, Cert.Reference14Ideal.Read.val_main_v2,
    Cert.Reference14Ideal.Read.val_main_v1, Cert.Reference14Ideal.Read.val_main_v0]

/-- The array the kernel writes is the reference's. -/
theorem final_eq : (dats m 0 c).arrAt 2 cfg0.N = Cert.Reference14Ideal.Read.val_main_v4 (F := Ideal) (xA m c) (dA m c) := by
  rw [final]
  funext i
  obtain ⟨x, y, rfl⟩ : ∃ x y, i = ix2 x y := ⟨_, _, eq_ix2 i⟩
  exact (colsT_eq (xA m c) (dA m c) x y).trans (ref_apply _ _ x y).symm

end Cert.Kernel14Ideal.Product

end
-- ==== Proof.BranchWeights.lean ====
/- The gradient of a branch's output weights, `xᵀ dy`, in four shards of columns: the kernel's array, summed over two blocks
   of rows in a scratch buffer, is the reference's. -/
module

public import proofs.«01_k».proof.Proof.Gen.Kernel15Ideal.Value
public import proofs.«01_k».proof.Proof.Gen.Reference15Ideal.Read
public import proofs.«01_k».proof.Proof.Products
public import proofs.«01_k».proof.Proof.Out

@[expose] public section

set_option maxRecDepth 16384

noncomputable section

namespace Cert.Kernel15Ideal.Product

open Cert.Kernel15Ideal Cert.Kernel15Ideal.Gen Cert.Kernel15Ideal.Value Cert.Attn Cert.Products
open Idealize.ShloMosaic Idealize.ShloMosaic.TcCoe Idealize.SL.Sem
open Cert.KernelIdeal.Out (zero2)

/-- A point's term, entry by entry. -/
theorem pay_apply (x : Vec Ideal S2176x1024 .bf16) (d : Vec Ideal S2176x512 .bf16) (p : Fin 1024) (q : Fin 512) :
    k0_pay1 x d (ix2 p q) = ∑ k : Fin 2176, x (ix2 k p) * d (ix2 k q) := by
  pointwise [k0_pay1]

section Terms

variable (x : Vec Ideal S2176x1024 .bf16) (d : Vec Ideal S2176x512 .bf16) (acc : Vec Ideal S1024x512 .f32)
  (c : Dev nD) (i : grid0.Coords) (a3 : Memref sig .tc .vmem S2176x1024 .bf16) (h3 : a3.IsWhole)
  (a4 : Memref sig .tc .vmem S2176x512 .bf16) (h4 : a4.IsWhole) (a5 : Memref sig .tc .vmem S1x1024x512 .bf16) (h5 : a5.IsWhole)
  (a6 : Memref sig .tc .vmem S1024x512 .f32) (h6 : a6.IsWhole)

/-- The first point of a run leaves its term in the scratch buffer … -/
theorem first (hc0 : cond0_0 i) (hc1 : ¬cond0_1 i) (hc2 : ¬cond0_2 i) :
    sout0_A_0 c i a3 h3 a4 h4 a5 h5 a6 h6 hc0 hc1 hc2 x d = k0_pay1 x d := by
  unfold sout0_A_0
  rw [View.read_writes_eq_canon _ _ _ (scover0_A_0 c i a3 h3 a4 h4 a5 h5 a6 h6 hc0 hc1 hc2 x d)]
  unfold kernelRun0_A
  dsimp only
  sl_unfold_words
  rw [View.canon_unit_zero zero2]
  unfold k0_pay2
  simp only [View.readAt_eq_ld, h3.read_unread, h4.read_unread, View.ld_unit_zero (S := S2176x1024) zero2,
    View.ld_unit_zero (S := S2176x512) zero2, shapeCast_self]

/-- … and the last writes the buffer and its own term. -/
theorem last (hc0 : ¬cond0_0 i) (hc1 : ¬cond0_1 i) (hc2 : cond0_2 i) :
    out0_B_2 c i a3 h3 a4 h4 a5 h5 a6 h6 hc0 hc1 hc2 x d acc
      = shapeCast S1x1024x512 (truncf .bf16 (addf acc (k0_pay1 x d)) bitsLt_bf16_f32) shapeCasts_S1024x512_S1x1024x512 := by
  unfold out0_B_2
  rw [View.read_writes_eq_canon _ _ _ (cover0_B_2 c i a3 h3 a4 h4 a5 h5 a6 h6 hc0 hc1 hc2 x d acc)]
  unfold kernelRun0_B
  dsimp only
  sl_unfold_words
  rw [View.canon_unit_zero zero3]
  unfold k0_pay4
  simp only [View.readAt_eq_ld, h3.read_unread, h4.read_unread, h6.read_unread, View.ld_unit_zero (S := S2176x1024) zero2,
    View.ld_unit_zero (S := S2176x512) zero2, View.ld_unit_zero (S := S1024x512) zero2]

/-- The shape it is written in has one plane. -/
theorem plane_apply (a b : FVec Ideal S1024x512 .f32) (p : Fin 1024) (q : Fin 512) :
    shapeCast S1x1024x512 (truncf .bf16 (addf a b) bitsLt_bf16_f32) shapeCasts_S1024x512_S1x1024x512 (ix3 0 p q)
      = (a (ix2 p q) + b (ix2 p q) : EReal) := by
  pointwise

end Terms

variable (m : (ℓ : Loc nD τ sig) → Buf (Elt Ideal) ℓ) (c : Dev nD)

abbrev xA : S4352x1024.Idx → EReal := m ((c : Thread nD τ).loc main_arg0)
abbrev dA : S4352x2048.Idx → EReal := m ((c : Thread nD τ).loc main_arg1)

theorem index0 : ∀ t : Fin grid0.N, win0_0.index t 0 = t.val % 2 ∧ win0_0.index t 1 = 0 := by decide +kernel
theorem index1 : ∀ t : Fin grid0.N, win0_1.index t 0 = t.val % 2 ∧ win0_1.index t 1 = t.val / 2 % 4 := by decide +kernel
theorem index2 : ∀ t : Fin grid0.N, win0_2.index t 0 = t.val / 2 % 4 ∧ win0_2.index t 1 = 0 ∧ win0_2.index t 2 = 0 := by
  decide +kernel

theorem block_x (t : Fin cfg0.N) (k : Fin 2176) (p : Fin 1024) :
    iblk m c 0 t (ix2 k p) = at2 (xA m c) (t.val % 2 * 2176 + k.val) p.val := by
  unfold iblk
  rw [View.read_apply]
  refine (eq_at2 (xA m c) _).trans ?_
  show at2 (xA m c) (win0_0.index t 0 * 2176 + 1 * k.val) (win0_0.index t 1 * 1024 + 1 * p.val) = _
  rw [(index0 t).1, (index0 t).2, one_mul, one_mul, zero_mul, zero_add]

theorem block_d (t : Fin cfg0.N) (k : Fin 2176) (q : Fin 512) :
    iblk m c 1 t (ix2 k q) = at2 (dA m c) (t.val % 2 * 2176 + k.val) (t.val / 2 % 4 * 512 + q.val) := by
  unfold iblk
  rw [View.read_apply]
  refine (eq_at2 (dA m c) _).trans ?_
  show at2 (dA m c) (win0_1.index t 0 * 2176 + 1 * k.val) (win0_1.index t 1 * 512 + 1 * q.val) = _
  rw [(index1 t).1, (index1 t).2, one_mul, one_mul]

theorem term_apply (t : Fin cfg0.N) (p : Fin 1024) (q : Fin 512) :
    k0_pay1 (iblk m c 0 t) (iblk m c 1 t) (ix2 p q)
      = ∑ k : Fin 2176, at2 (xA m c) (t.val % 2 * 2176 + k.val) p.val
          * at2 (dA m c) (t.val % 2 * 2176 + k.val) (t.val / 2 % 4 * 512 + q.val) := by
  refine (pay_apply _ _ p q).trans ?_
  simp only [block_x, block_d]

/-- What the scratch buffer holds after a run's first point. -/
theorem scratch_first (t : Fin cfg0.N) (h0 : t.val % 2 = 0) : (outsAt0 m c t.val t.isLt).2 = k0_pay1 (iblk m c 0 t) (iblk m c 1 t) := by
  rw [outsAt0_A m c t h0 (by omega)]
  dsimp only
  exact first ..

/-- What a run's last point writes. -/
theorem outs_last (t : Fin cfg0.N) (h1 : t.val % 2 = 1) (p : Fin 1024) (q : Fin 512) :
    (outsAt0 m c t.val t.isLt).1 (ix3 0 p q) = colsT 4352 (xA m c) (dA m c) p.val (t.val / 2 % 4 * 512 + q.val) := by
  have h : t.val - 1 < cfg0.N := Nat.lt_of_le_of_lt (Nat.sub_le _ _) t.isLt
  rw [outsAt0_B m c t (by omega) h1]
  dsimp only
  rw [last, scratch_first m c ⟨t.val - 1, h⟩ (by dsimp only; omega), plane_apply]
  refine (congrArg₂ (· + ·) (term_apply m c ⟨t.val - 1, h⟩ p q) (term_apply m c t p q)).trans ?_
  dsimp only
  rw [show (t.val - 1) % 2 = 0 by omega, show (t.val - 1) / 2 % 4 = t.val / 2 % 4 by omega, h1]
  unfold colsT
  rw [← sum_blocks 2 2176 4352 (by decide) fun k => at2 (xA m c) k p.val * at2 (dA m c) k (t.val / 2 % 4 * 512 + q.val),
    Finset.sum_range_succ, Finset.sum_range_one]

/-- The array the kernel writes: shard `s` holds the columns `512 s …`. -/
def prod : S4x1024x512.Idx → EReal := fun x => colsT 4352 (xA m c) (dA m c) (x 1).val ((x 0).val * 512 + (x 2).val)

theorem final : (dats m 0 c).arrAt 2 cfg0.N = prod m c := by
  refine (dats m 0 c).arrAt_eq_of_cover 2 (prod m c) (fun t hf => ?_) fun i => ?_
  · rw [flushed2]
    funext y
    rw [View.read_apply]
    obtain ⟨z, p, q, rfl⟩ : ∃ z p q, y = ix3 z p q := ⟨_, _, _, eq_ix3 y⟩
    obtain rfl : z = 0 := Subsingleton.elim _ _
    refine (outs_last m c t ((flush0_2 t).mp hf) p q).trans ?_
    show _ = colsT 4352 (xA m c) (dA m c) (win0_2.index t 1 * 1024 + 1 * p.val)
      ((win0_2.index t 0 * 1 + 1 * 0) * 512 + (win0_2.index t 2 * 512 + 1 * q.val))
    rw [(index2 t).1, (index2 t).2.1, (index2 t).2.2]
    simp only [zero_mul, mul_zero, one_mul, mul_one, zero_add, add_zero]
  · obtain ⟨s, x, y, rfl⟩ : ∃ s x y, i = ix3 s x y := ⟨_, _, _, eq_ix3 i⟩
    have hs := s.isLt
    have hx := x.isLt
    have hy := y.isLt
    have hN : cfg0.N = 8 := N_0
    have h : s.val * 2 + 1 < cfg0.N := by omega
    refine ⟨⟨_, h⟩, (flush0_2 _).mpr (by dsimp only; omega), ?_⟩
    show ix3 s x y ∈ ((View.whole main_v0).slice (win0_2.rect ⟨_, h⟩)).set
    rw [View.set_slice_whole, Rect.mem_set_unit]
    intro a
    match a with
    | ⟨0, _⟩ =>
      show win0_2.index ⟨_, h⟩ 0 * 1 ≤ s.val ∧ s.val < win0_2.index ⟨_, h⟩ 0 * 1 + 1
      rw [(index2 ⟨_, h⟩).1]; dsimp only; omega
    | ⟨1, _⟩ =>
      show win0_2.index ⟨_, h⟩ 1 * 1024 ≤ x.val ∧ x.val < win0_2.index ⟨_, h⟩ 1 * 1024 + 1024
      rw [(index2 ⟨_, h⟩).2.1]; omega
    | ⟨2, _⟩ =>
      show win0_2.index ⟨_, h⟩ 2 * 512 ≤ y.val ∧ y.val < win0_2.index ⟨_, h⟩ 2 * 512 + 512
      rw [(index2 ⟨_, h⟩).2.2]; omega

/-- The reference's product, entry by entry. -/
theorem ref_product (a : Vec Ideal S4352x1024 .bf16) (b : Vec Ideal S4352x2048 .bf16) (x : Fin 1024) (y : Fin 2048) :
    Cert.Reference15Ideal.Read.val_main_v4 (F := Ideal) a b (ix2 x y) = ∑ k : Fin 4352, a (ix2 k x) * b (ix2 k y) := by
  refine Eq.trans ?_ (Finset.sum_congr rfl fun k _ => mul_comm _ _)
  pointwise [Cert.Reference15Ideal.Read.val_main_v4, Cert.Reference15Ideal.Read.val_main_v3, Cert.Reference15Ideal.Read.val_main_v2,
    Cert.Reference15Ideal.Read.val_main_v1, Cert.Reference15Ideal.Read.val_main_v0]

open Cert.Reference15Ideal.Read in
/-- The reference's shards. -/
theorem ref_apply (a : Vec Ideal S4352x1024 .bf16) (b : Vec Ideal S4352x2048 .bf16) (s : Fin 4) (x : Fin 1024) (y : Fin 512) :
    Cert.Reference15Ideal.Read.val_main_v13 (F := Ideal) a b (ix3 s x y)
      = Cert.Reference15Ideal.Read.val_main_v4 (F := Ideal) a b (ix2 x ⟨s.val * 512 + y.val, by omega⟩) := by
  unfold val_main_v13 val_main_v9 val_main_v10 val_main_v11 val_main_v12 val_main_v5 val_main_v6 val_main_v7 val_main_v8
  generalize Cert.Reference15Ideal.Read.val_main_v4 (F := Ideal) a b = w
  pointwise
  split_ifs <;> exact congrArg w (congrArg (ix2 x) (Fin.ext (by dsimp only; omega)))

/-- The array the kernel writes is the reference's. -/
theorem final_eq : (dats m 0 c).arrAt 2 cfg0.N = Cert.Reference15Ideal.Read.val_main_v13 (F := Ideal) (xA m c) (dA m c) := by
  rw [final]
  funext i
  obtain ⟨s, x, y, rfl⟩ : ∃ s x y, i = ix3 s x y := ⟨_, _, _, eq_ix3 i⟩
  rw [ref_apply, ref_product]
  exact colsT_eq (xA m c) (dA m c) x ⟨s.val * 512 + y.val, by omega⟩

end Cert.Kernel15Ideal.Product

end
-- ==== Proof.BranchInput.lean ====
/- The gradient that a branch's output projection sends back, `dy wᵀ`: the kernel's array, summed over four shards of the
   weights in a scratch buffer, is the reference's. -/
module

public import proofs.«01_k».proof.Proof.Gen.Kernel16Ideal.Value
public import proofs.«01_k».proof.Proof.Gen.Reference16Ideal.Read
public import proofs.«01_k».proof.Proof.Products
public import proofs.«01_k».proof.Proof.Fold
public import proofs.«01_k».proof.Proof.Out

@[expose] public section

set_option maxRecDepth 16384

noncomputable section

namespace Cert.Kernel16Ideal.Product

open Cert.Kernel16Ideal Cert.Kernel16Ideal.Gen Cert.Kernel16Ideal.Value Cert.Attn Cert.Products
open Idealize.ShloMosaic Idealize.ShloMosaic.TcCoe Idealize.SL.Sem
open Cert.KernelIdeal.Out (zero2)

/-- What a point's blocks add to the result, entry by entry. -/
theorem pay_apply (x : Vec Ideal S1088x512 .bf16) (w : Vec Ideal S1x1024x512 .bf16) (p : Fin 1088) (q : Fin 1024) :
    k0_pay1 x w (ix2 p q) = ∑ k : Fin 512, x (ix2 p k) * w (ix3 0 q k) := by
  pointwise [k0_pay1]

section Terms

variable (x : Vec Ideal S1088x512 .bf16) (w : Vec Ideal S1x1024x512 .bf16) (acc : Vec Ideal S1088x1024 .f32)
  (c : Dev nD) (i : grid0.Coords) (a3 : Memref sig .tc .vmem S1088x512 .bf16) (h3 : a3.IsWhole)
  (a4 : Memref sig .tc .vmem S1x1024x512 .bf16) (h4 : a4.IsWhole) (a5 : Memref sig .tc .vmem S1088x1024 .bf16) (h5 : a5.IsWhole)
  (a6 : Memref sig .tc .vmem S1088x1024 .f32) (h6 : a6.IsWhole)

/-- The first point of a run leaves its term in the scratch buffer, … -/
theorem first (hc0 : cond0_0 i) (hc1 : ¬cond0_1 i) (hc2 : ¬cond0_2 i) :
    sout0_A_0 c i a3 h3 a4 h4 a5 h5 a6 h6 hc0 hc1 hc2 x w = k0_pay1 x w := by
  unfold sout0_A_0
  rw [View.read_writes_eq_canon _ _ _ (scover0_A_0 c i a3 h3 a4 h4 a5 h5 a6 h6 hc0 hc1 hc2 x w)]
  unfold kernelRun0_A
  dsimp only
  sl_unfold_words
  rw [View.canon_unit_zero zero2]
  unfold k0_pay2
  simp only [View.readAt_eq_ld, h3.read_unread, h4.read_unread, View.ld_unit_zero (S := S1088x512) zero2,
    View.ld_unit_zero (S := S1x1024x512) zero3, shapeCast_self]

/-- … each later one but the last adds its term to it, … -/
theorem middle (hc0 : ¬cond0_0 i) (hc1 : cond0_1 i) (hc2 : ¬cond0_2 i) :
    sout0_B_0 c i a3 h3 a4 h4 a5 h5 a6 h6 hc0 hc1 hc2 x w acc = addf acc (k0_pay1 x w) := by
  unfold sout0_B_0
  rw [View.read_writes_eq_canon _ _ _ (scover0_B_0 c i a3 h3 a4 h4 a5 h5 a6 h6 hc0 hc1 hc2 x w acc)]
  unfold kernelRun0_B
  dsimp only
  sl_unfold_words
  rw [View.canon_unit_zero zero2]
  unfold k0_pay3
  simp only [View.readAt_eq_ld, h3.read_unread, h4.read_unread, h6.read_unread, View.ld_unit_zero (S := S1088x512) zero2,
    View.ld_unit_zero (S := S1x1024x512) zero3, View.ld_unit_zero (S := S1088x1024) zero2, shapeCast_self]

/-- … and the last writes the buffer and its own term. -/
theorem last (hc0 : ¬cond0_0 i) (hc1 : ¬cond0_1 i) (hc2 : cond0_2 i) :
    out0_C_2 c i a3 h3 a4 h4 a5 h5 a6 h6 hc0 hc1 hc2 x w acc = truncf .bf16 (addf acc (k0_pay1 x w)) bitsLt_bf16_f32 := by
  unfold out0_C_2
  rw [View.read_writes_eq_canon _ _ _ (cover0_C_2 c i a3 h3 a4 h4 a5 h5 a6 h6 hc0 hc1 hc2 x w acc)]
  unfold kernelRun0_C
  dsimp only
  sl_unfold_words
  rw [View.canon_unit_zero zero2]
  unfold k0_pay4
  simp only [View.readAt_eq_ld, h3.read_unread, h4.read_unread, h6.read_unread, View.ld_unit_zero (S := S1088x512) zero2,
    View.ld_unit_zero (S := S1x1024x512) zero3, View.ld_unit_zero (S := S1088x1024) zero2]

end Terms

variable (m : (ℓ : Loc nD τ sig) → Buf (Elt Ideal) ℓ) (c : Dev nD)

/-- A point's term. -/
abbrev term (n : ℕ) (h : n < cfg0.N) : FVec Ideal S1088x1024 .f32 := k0_pay1 (iblk m c 0 ⟨n, h⟩) (iblk m c 1 ⟨n, h⟩)

/-- The products a run has summed up to a point: the scratch buffer's contents, at the last point with its own term. -/
def partSum (n : ℕ) (h : n < cfg0.N) : FVec Ideal S1088x1024 .f32 :=
  if n % 4 = 3 then addf (outsAt0 m c (n - 1) (Nat.lt_of_le_of_lt (Nat.sub_le _ _) h)).2 (term m c n h) else (outsAt0 m c n h).2

theorem partSum_first (n : ℕ) (h : n < cfg0.N) (h0 : n % 4 = 0) : partSum m c n h = term m c n h := by
  unfold partSum
  rw [if_neg (by omega), show outsAt0 m c n h = _ from outsAt0_A m c ⟨n, h⟩ h0 (by dsimp only; omega) (by dsimp only; omega)]
  dsimp only
  exact first ..

theorem partSum_next (n : ℕ) (h : n + 1 < cfg0.N) (h0 : ¬(n + 1) % 4 = 0) :
    partSum m c (n + 1) h = addf (partSum m c n (Nat.lt_of_succ_lt h)) (term m c (n + 1) h) := by
  unfold partSum
  rw [if_neg (show ¬n % 4 = 3 by omega)]
  by_cases h3 : (n + 1) % 4 = 3
  · rw [if_pos h3]
    rfl
  · rw [if_neg h3, show outsAt0 m c (n + 1) h = _ from outsAt0_B m c ⟨n + 1, h⟩ h0 (by dsimp only; omega) h3]
    dsimp only
    exact middle ..

theorem outs_last (t : Fin cfg0.N) (h3 : t.val % 4 = 3) :
    (outsAt0 m c t.val t.isLt).1 = truncf .bf16 (partSum m c t.val t.isLt) bitsLt_bf16_f32 := by
  unfold partSum
  rw [if_pos h3, outsAt0_C m c t (by omega) (by omega) h3]
  dsimp only
  exact last ..

abbrev xA : S4352x2048.Idx → EReal := m ((c : Thread nD τ).loc main_arg0)
abbrev wA : S1024x2048.Idx → EReal := m ((c : Thread nD τ).loc main_arg1)

theorem index0 : ∀ t : Fin grid0.N, win0_0.index t 0 = t.val / 4 ∧ win0_0.index t 1 = t.val % 4 := by decide +kernel
theorem index1 : ∀ t : Fin grid0.N, win0_1.index t 0 = t.val % 4 ∧ win0_1.index t 1 = 0 ∧ win0_1.index t 2 = 0 := by decide +kernel
theorem index2 : ∀ t : Fin grid0.N, win0_2.index t 0 = t.val / 4 ∧ win0_2.index t 1 = 0 := by decide +kernel

theorem lt16 (t : Fin cfg0.N) : t.val < 16 := lt_of_lt_of_eq t.isLt (show cfg0.N = 16 from N_0)

theorem block_x (t : Fin cfg0.N) (p : Fin 1088) (k : Fin 512) :
    iblk m c 0 t (ix2 p k) = at2 (xA m c) (t.val / 4 * 1088 + p.val) (t.val % 4 * 512 + k.val) := by
  unfold iblk
  rw [View.read_apply]
  show V m c main_arg0 _ = _
  rw [V_main_arg0]
  refine (eq_at2 (xA m c) _).trans ?_
  show at2 (xA m c) (win0_0.index t 0 * 1088 + 1 * p.val) (win0_0.index t 1 * 512 + 1 * k.val) = _
  rw [(index0 t).1, (index0 t).2, one_mul, one_mul]

/-- The weights that the host hands to the kernel: shard `s` holds columns `512 s …`. -/
theorem V_v1 : V m c main_v1 = transpose S4x1024x512 [1, 0, 2] (shapeCast S1024x4x512 (wA m c) shapeCasts_S1024x2048_S1024x4x512)
    transposes_S1024x4x512_S4x1024x512_1_0_2 := by
  unfold V
  simp only [hostOps0, List.flatten_cons, List.flatten_nil, List.append_nil, List.cons_append, List.nil_append]
  after_results
  rfl

theorem shard_apply (s : Fin 4) (q : Fin 1024) (k : Fin 512) :
    V m c main_v1 (ix3 s q k) = wA m c (ix2 q ⟨s.val * 512 + k.val, by omega⟩) := by
  rw [V_v1]
  generalize wA m c = w
  pointwise

theorem block_w (t : Fin cfg0.N) (q : Fin 1024) (k : Fin 512) :
    iblk m c 1 t (ix3 0 q k) = at2 (wA m c) q.val (t.val % 4 * 512 + k.val) := by
  rw [at2_eq _ q.isLt (show t.val % 4 * 512 + k.val < 2048 by omega)]
  refine Eq.trans ?_ (shard_apply m c ⟨t.val % 4, by omega⟩ q k)
  unfold iblk
  rw [View.read_apply]
  refine congrArg (V m c main_v1) (funext fun a => Fin.ext ?_)
  match a with
  | ⟨0, _⟩ => show win0_1.index t 0 * 1 + 1 * 0 = t.val % 4; rw [(index1 t).1]; omega
  | ⟨1, _⟩ => show win0_1.index t 1 * 1024 + 1 * q.val = q.val; rw [(index1 t).2.1]; omega
  | ⟨2, _⟩ => show win0_1.index t 2 * 512 + 1 * k.val = k.val; rw [(index1 t).2.2]; omega

/-- The array the kernel writes. -/
def prod : S4352x1024.Idx → EReal := fun x => rowsT 2048 (xA m c) (wA m c) (x 0).val (x 1).val

/-- After a run's last point the block holds the product. -/
theorem last_apply (t : Fin cfg0.N) (hl : t.val % 4 = 3) (p : Fin 1088) (q : Fin 1024) :
    (outsAt0 m c t.val t.isLt).1 (ix2 p q) = rowsT 2048 (xA m c) (wA m c) (t.val / 4 * 1088 + p.val) q.val := by
  rw [outs_last m c t hl]
  refine (run_sum (J := 4) (by decide) (partSum m c) (term m c) (partSum_first m c) (partSum_next m c) t.val t.isLt (by omega)
    (fun s x => ∑ k : Fin 512, at2 (xA m c) (t.val / 4 * 1088 + (x 0).val) (s * 512 + k.val) * at2 (wA m c) (x 1).val (s * 512 + k.val))
    (fun n h x hn => ?_) (ix2 p q)).trans ?_
  · obtain ⟨p, q, rfl⟩ : ∃ p q, x = ix2 p q := ⟨_, _, eq_ix2 x⟩
    refine (pay_apply _ _ p q).trans ?_
    simp only [block_x, block_w, ← hn]
    rfl
  · exact sum_blocks 4 512 2048 (by decide) fun k => at2 (xA m c) (t.val / 4 * 1088 + p.val) k * at2 (wA m c) q.val k

theorem final : (dats m 0 c).arrAt 2 cfg0.N = prod m c := by
  refine (dats m 0 c).arrAt_eq_of_cover 2 (prod m c) (fun t hf => ?_) fun i => ?_
  · rw [flushed2]
    funext y
    rw [View.read_apply]
    obtain ⟨p, q, rfl⟩ : ∃ p q, y = ix2 p q := ⟨_, _, eq_ix2 y⟩
    refine (last_apply m c t ((flush0_2 t).mp hf) p q).trans ?_
    show _ = rowsT 2048 (xA m c) (wA m c) (win0_2.index t 0 * 1088 + 1 * p.val) (win0_2.index t 1 * 1024 + 1 * q.val)
    rw [(index2 t).1, (index2 t).2, one_mul, one_mul, zero_mul, zero_add]
  · obtain ⟨x, y, rfl⟩ : ∃ x y, i = ix2 x y := ⟨_, _, eq_ix2 i⟩
    have hx := x.isLt
    have hy := y.isLt
    have hN : cfg0.N = 16 := N_0
    have h : x.val / 1088 * 4 + 3 < cfg0.N := by omega
    refine ⟨⟨_, h⟩, (flush0_2 _).mpr (by dsimp only; omega), ?_⟩
    show ix2 x y ∈ ((View.whole main_v2).slice (win0_2.rect ⟨_, h⟩)).set
    rw [View.set_slice_whole, Rect.mem_set_unit]
    intro a
    match a with
    | ⟨0, _⟩ =>
      show win0_2.index ⟨_, h⟩ 0 * 1088 ≤ x.val ∧ x.val < win0_2.index ⟨_, h⟩ 0 * 1088 + 1088
      rw [(index2 ⟨_, h⟩).1]; dsimp only; omega
    | ⟨1, _⟩ =>
      show win0_2.index ⟨_, h⟩ 1 * 1024 ≤ y.val ∧ y.val < win0_2.index ⟨_, h⟩ 1 * 1024 + 1024
      rw [(index2 ⟨_, h⟩).2]; omega

/-- The reference's entries. -/
theorem ref_apply (a : Vec Ideal S4352x2048 .bf16) (b : Vec Ideal S1024x2048 .bf16) (x : Fin 4352) (y : Fin 1024) :
    Cert.Reference16Ideal.Read.val_main_v3 (F := Ideal) a b (ix2 x y) = ∑ k : Fin 2048, a (ix2 x k) * b (ix2 y k) := by
  pointwise [Cert.Reference16Ideal.Read.val_main_v3, Cert.Reference16Ideal.Read.val_main_v2,
    Cert.Reference16Ideal.Read.val_main_v1, Cert.Reference16Ideal.Read.val_main_v0]

/-- The array the kernel writes is the reference's. -/
theorem final_eq : (dats m 0 c).arrAt 2 cfg0.N = Cert.Reference16Ideal.Read.val_main_v3 (F := Ideal) (xA m c) (wA m c) := by
  rw [final]
  funext i
  obtain ⟨x, y, rfl⟩ : ∃ x y, i = ix2 x y := ⟨_, _, eq_ix2 i⟩
  exact (rowsT_eq (xA m c) (wA m c) x y).trans (ref_apply _ _ x y).symm

end Cert.Kernel16Ideal.Product

end
-- ==== Proof.InputForward.lean ====
/- The input projection `u w_in`, its columns in the version's order: the kernel's array is the reference's. -/
module

public import proofs.«01_k».proof.Proof.Gen.Kernel17Ideal.Value
public import proofs.«01_k».proof.Proof.Gen.Reference17Ideal.Read
public import proofs.«01_k».proof.Proof.InColumns
public import proofs.«01_k».proof.Proof.Out

@[expose] public section

set_option maxRecDepth 16384

noncomputable section

namespace Cert.Kernel17Ideal.Product

open Cert.Kernel17Ideal Cert.Kernel17Ideal.Gen Cert.Kernel17Ideal.Value Cert.Attn Cert.Products Cert.InColumns
open Idealize.ShloMosaic Idealize.ShloMosaic.TcCoe Idealize.SL.Sem
open Cert.KernelIdeal.Out (zero2)

/-- A point's block of the result, entry by entry. -/
theorem pay_apply (x : Vec Ideal S1088x2048 .bf16) (w : Vec Ideal S2048x2176 .bf16) (p : Fin 1088) (q : Fin 2176) :
    k0_pay1 x w (ix2 p q) = ∑ k : Fin 2048, x (ix2 p k) * w (ix2 k q) := by
  pointwise [k0_pay1]

/-- What a point writes back. -/
theorem out_eq (x : Vec Ideal S1088x2048 .bf16) (w : Vec Ideal S2048x2176 .bf16) : out0_2 x w = k0_pay1 x w := by
  unfold out0_2
  rw [View.canon_unit_zero zero2]
  simp only [View.readAt_eq_ld, View.ld_unit_zero (S := S1088x2048) zero2, View.ld_unit_zero (S := S2048x2176) zero2]

variable (m : (ℓ : Loc nD τ sig) → Buf (Elt Ideal) ℓ) (c : Dev nD)

abbrev uA : S4352x2048.Idx → EReal := m ((c : Thread nD τ).loc main_arg0)
abbrev wA : S2048x10816.Idx → EReal := m ((c : Thread nD τ).loc main_arg1)

theorem index0 : ∀ t : Fin grid0.N, win0_0.index t 0 = t.val / 5 ∧ win0_0.index t 1 = 0 := by decide +kernel
theorem index1 : ∀ t : Fin grid0.N, win0_1.index t 0 = 0 ∧ win0_1.index t 1 = t.val % 5 := by decide +kernel
theorem index2 : ∀ t : Fin grid0.N, win0_2.index t 0 = t.val / 5 ∧ win0_2.index t 1 = t.val % 5 := by decide +kernel

/-- The weights that the host hands to the kernel: their columns are in the version's order. -/
theorem V_v4 : V m c main_v4 = concatenate S2048x10880 1
    [⟨S2048x4608, extractStridedSlice S2048x4608 ![0, 0] (wA m c) slices_S2048x10816_S2048x4608_0_0⟩,
      ⟨S2048x6144, extractStridedSlice S2048x6144 ![0, 4672] (wA m c) slices_S2048x10816_S2048x6144_0_4672⟩,
      ⟨S2048x64, extractStridedSlice S2048x64 ![0, 4608] (wA m c) slices_S2048x10816_S2048x64_0_4608⟩,
      ⟨S2048x64, broadcastInDim S2048x64 ![] bcast_S_S2048x64 (constant (F := Ideal) S_ .bf16 0x0000#16)⟩]
    concatenates_S2048x4608_S2048x6144_S2048x64_S2048x64_S2048x10880_d1 := by
  unfold V
  simp only [hostOps0, List.flatten_cons, List.flatten_nil, List.append_nil, List.cons_append, List.nil_append]
  after_results
  rfl

theorem v4_apply (k : Fin 2048) (y : Fin 10880) : V m c main_v4 (ix2 k y) = at2 (wA m c) k.val (col y.val) := by
  rw [V_v4]
  generalize wA m c = a
  refine Eq.trans ?_ (reorder a k y)
  pointwise

theorem block_u (t : Fin cfg0.N) (p : Fin 1088) (k : Fin 2048) :
    iblk m c 0 t (ix2 p k) = at2 (uA m c) (t.val / 5 * 1088 + p.val) k.val := by
  unfold iblk
  rw [View.read_apply]
  show V m c main_arg0 _ = _
  rw [V_main_arg0]
  refine (eq_at2 (uA m c) _).trans ?_
  show at2 (uA m c) (win0_0.index t 0 * 1088 + 1 * p.val) (win0_0.index t 1 * 2048 + 1 * k.val) = _
  rw [(index0 t).1, (index0 t).2, one_mul, one_mul, zero_mul, zero_add]

theorem block_w (t : Fin cfg0.N) (k : Fin 2048) (q : Fin 2176) :
    iblk m c 1 t (ix2 k q) = at2 (wA m c) k.val (col (t.val % 5 * 2176 + q.val)) := by
  refine Eq.trans ?_ (v4_apply m c k ⟨t.val % 5 * 2176 + q.val, by omega⟩)
  unfold iblk
  rw [View.read_apply]
  refine congrArg (V m c main_v4) (funext fun a => Fin.ext ?_)
  match a with
  | ⟨0, _⟩ => show win0_1.index t 0 * 2048 + 1 * k.val = k.val; rw [(index1 t).1]; omega
  | ⟨1, _⟩ => show win0_1.index t 1 * 2176 + 1 * q.val = _; rw [(index1 t).2, one_mul]; rfl

/-- The array the kernel writes. -/
def prod : S4352x10880.Idx → EReal := fun x => rowCol 2048 (uA m c) (wA m c) (x 0).val (col (x 1).val)

theorem final : (dats m 0 c).arrAt 2 cfg0.N = prod m c := by
  refine (dats m 0 c).arrAt_eq_of_cover 2 (prod m c) (fun t _ => ?_) fun i => ?_
  · rw [flushed2, out_eq]
    funext y
    rw [View.read_apply]
    obtain ⟨p, q, rfl⟩ : ∃ p q, y = ix2 p q := ⟨_, _, eq_ix2 y⟩
    refine (pay_apply _ _ p q).trans ?_
    simp only [block_u, block_w]
    show rowCol 2048 (uA m c) (wA m c) (t.val / 5 * 1088 + p.val) (col (t.val % 5 * 2176 + q.val))
      = rowCol 2048 (uA m c) (wA m c) (win0_2.index t 0 * 1088 + 1 * p.val) (col (win0_2.index t 1 * 2176 + 1 * q.val))
    rw [(index2 t).1, (index2 t).2, one_mul, one_mul]
  · obtain ⟨x, y, rfl⟩ : ∃ x y, i = ix2 x y := ⟨_, _, eq_ix2 i⟩
    have hx := x.isLt
    have hy := y.isLt
    have hN : cfg0.N = 20 := N_0
    have h : x.val / 1088 * 5 + y.val / 2176 < cfg0.N := by omega
    refine ⟨⟨_, h⟩, flush0_2 _, ?_⟩
    show ix2 x y ∈ ((View.whole main_v5).slice (win0_2.rect ⟨_, h⟩)).set
    rw [View.set_slice_whole, Rect.mem_set_unit]
    intro a
    match a with
    | ⟨0, _⟩ =>
      show win0_2.index ⟨_, h⟩ 0 * 1088 ≤ x.val ∧ x.val < win0_2.index ⟨_, h⟩ 0 * 1088 + 1088
      rw [(index2 ⟨_, h⟩).1]; dsimp only; omega
    | ⟨1, _⟩ =>
      show win0_2.index ⟨_, h⟩ 1 * 2176 ≤ y.val ∧ y.val < win0_2.index ⟨_, h⟩ 1 * 2176 + 2176
      rw [(index2 ⟨_, h⟩).2]; dsimp only; omega

section
open Cert.Reference17Ideal.Read

/-- The reference's product, entry by entry. -/
theorem ref_product (a : Vec Ideal S4352x2048 .bf16) (b : Vec Ideal S2048x10816 .bf16) (x : Fin 4352) (y : Fin 10816) :
    val_main_v2 (F := Ideal) a b (ix2 x y) = ∑ k : Fin 2048, a (ix2 x k) * b (ix2 k y) := by
  pointwise [val_main_v2, val_main_v1, val_main_v0]

/-- The reference's result is its product with the columns in the version's order. -/
theorem ref_apply (a : Vec Ideal S4352x2048 .bf16) (b : Vec Ideal S2048x10816 .bf16) (x : Fin 4352) (y : Fin 10880) :
    val_main_v7 (F := Ideal) a b (ix2 x y) = at2 (val_main_v2 (F := Ideal) a b) x.val (col y.val) := by
  unfold val_main_v7 val_main_v6 val_main_call0_v0 val_main_c val_main_v3 val_main_v4 val_main_v5
  generalize val_main_v2 (F := Ideal) a b = w
  refine Eq.trans ?_ (reorder w x y)
  pointwise
  have h0 : (FloatOps.sitofp (F := Ideal) .f32 0#32 : EReal) = 0 := by
    show (((0#32 : BitVec 32).toInt : ℝ) : EReal) = 0
    rw [show (0#32 : BitVec 32).toInt = 0 from rfl, Int.cast_zero, EReal.coe_zero]
  rw [h0]
  by_cases a : y.val < 4608
  · rw [dif_pos (by omega), dif_pos a, dif_pos a]
  · by_cases b : y.val - 4608 < 6144
    · rw [dif_pos (by omega), dif_neg a, dif_neg a, dif_pos b, dif_pos b]
    · by_cases c : y.val - 4608 - 6144 < 64
      · rw [dif_pos (by omega), dif_neg a, dif_neg a, dif_neg b, dif_neg b, dif_pos c]
      · rw [dif_neg (by omega), dif_neg a, dif_neg b, dif_neg c]

/-- The array the kernel writes is the reference's. -/
theorem final_eq : (dats m 0 c).arrAt 2 cfg0.N = val_main_v7 (F := Ideal) (uA m c) (wA m c) := by
  rw [final]
  funext i
  obtain ⟨x, y, rfl⟩ : ∃ x y, i = ix2 x y := ⟨_, _, eq_ix2 i⟩
  rw [ref_apply]
  show rowCol 2048 (uA m c) (wA m c) x.val (col y.val) = _
  by_cases h : col y.val < 10816
  · rw [at2_eq _ x.isLt h, ref_product]
    exact rowCol_eq (uA m c) (wA m c) x ⟨col y.val, h⟩
  · rw [at2_past _ (by omega)]
    exact Finset.sum_eq_zero fun k _ => by rw [at2_past (wA m c) (by omega), mul_zero]

end

end Cert.Kernel17Ideal.Product

end
-- ==== Proof.FfnForward.lean ====
/- The feed-forward's gate or up projection `v w`, the weights in four shards of columns: the kernel's array is the
   reference's. -/
module

public import proofs.«01_k».proof.Proof.Gen.Kernel18Ideal.Value
public import proofs.«01_k».proof.Proof.Gen.Reference18Ideal.Read
public import proofs.«01_k».proof.Proof.Products
public import proofs.«01_k».proof.Proof.Out

@[expose] public section

set_option maxRecDepth 16384

noncomputable section

namespace Cert.Kernel18Ideal.Product

open Cert.Kernel18Ideal Cert.Kernel18Ideal.Gen Cert.Kernel18Ideal.Value Cert.Attn Cert.Products
open Idealize.ShloMosaic Idealize.ShloMosaic.TcCoe Idealize.SL.Sem
open Cert.KernelIdeal.Out (zero2)

/-- A point's block of the result, entry by entry. -/
theorem pay_apply (x : Vec Ideal S1088x2048 .bf16) (w : Vec Ideal S1x2048x1408 .bf16) (p : Fin 1088) (q : Fin 1408) :
    k0_pay1 x w (ix2 p q) = ∑ k : Fin 2048, x (ix2 p k) * w (ix3 0 k q) := by
  pointwise [k0_pay1]

/-- What a point writes back. -/
theorem out_eq (x : Vec Ideal S1088x2048 .bf16) (w : Vec Ideal S1x2048x1408 .bf16) : out0_2 x w = k0_pay1 x w := by
  unfold out0_2
  rw [View.canon_unit_zero zero2]
  simp only [View.readAt_eq_ld, View.ld_unit_zero (S := S1088x2048) zero2, View.ld_unit_zero (S := S1x2048x1408) zero3]

variable (m : (ℓ : Loc nD τ sig) → Buf (Elt Ideal) ℓ) (c : Dev nD)

abbrev xA : S4352x2048.Idx → EReal := m ((c : Thread nD τ).loc main_arg0)
abbrev wA : S2048x5632.Idx → EReal := m ((c : Thread nD τ).loc main_arg1)

theorem index0 : ∀ t : Fin grid0.N, win0_0.index t 0 = t.val / 4 ∧ win0_0.index t 1 = 0 := by decide +kernel
theorem index1 : ∀ t : Fin grid0.N, win0_1.index t 0 = t.val % 4 ∧ win0_1.index t 1 = 0 ∧ win0_1.index t 2 = 0 := by decide +kernel
theorem index2 : ∀ t : Fin grid0.N, win0_2.index t 0 = t.val / 4 ∧ win0_2.index t 1 = t.val % 4 := by decide +kernel

theorem block_x (t : Fin cfg0.N) (p : Fin 1088) (k : Fin 2048) :
    iblk m c 0 t (ix2 p k) = at2 (xA m c) (t.val / 4 * 1088 + p.val) k.val := by
  unfold iblk
  rw [View.read_apply]
  show V m c main_arg0 _ = _
  rw [V_main_arg0]
  refine (eq_at2 (xA m c) _).trans ?_
  show at2 (xA m c) (win0_0.index t 0 * 1088 + 1 * p.val) (win0_0.index t 1 * 2048 + 1 * k.val) = _
  rw [(index0 t).1, (index0 t).2, one_mul, one_mul, zero_mul, zero_add]

/-- The weights that the host hands to the kernel: shard `s` holds columns `1408 s …`. -/
theorem V_v1 : V m c main_v1 = transpose S4x2048x1408 [1, 0, 2] (shapeCast S2048x4x1408 (wA m c) shapeCasts_S2048x5632_S2048x4x1408)
    transposes_S2048x4x1408_S4x2048x1408_1_0_2 := by
  unfold V
  simp only [hostOps0, List.flatten_cons, List.flatten_nil, List.append_nil, List.cons_append, List.nil_append]
  after_results
  rfl

theorem shard_apply (s : Fin 4) (k : Fin 2048) (q : Fin 1408) :
    V m c main_v1 (ix3 s k q) = wA m c (ix2 k ⟨s.val * 1408 + q.val, by omega⟩) := by
  rw [V_v1]
  generalize wA m c = w
  pointwise

theorem block_w (t : Fin cfg0.N) (k : Fin 2048) (q : Fin 1408) :
    iblk m c 1 t (ix3 0 k q) = at2 (wA m c) k.val (t.val % 4 * 1408 + q.val) := by
  rw [at2_eq _ k.isLt (show t.val % 4 * 1408 + q.val < 5632 by omega)]
  refine Eq.trans ?_ (shard_apply m c ⟨t.val % 4, by omega⟩ k q)
  unfold iblk
  rw [View.read_apply]
  refine congrArg (V m c main_v1) (funext fun a => Fin.ext ?_)
  match a with
  | ⟨0, _⟩ => show win0_1.index t 0 * 1 + 1 * 0 = t.val % 4; rw [(index1 t).1]; omega
  | ⟨1, _⟩ => show win0_1.index t 1 * 2048 + 1 * k.val = k.val; rw [(index1 t).2.1]; omega
  | ⟨2, _⟩ => show win0_1.index t 2 * 1408 + 1 * q.val = q.val; rw [(index1 t).2.2]; omega

/-- The array the kernel writes. -/
def prod : S4352x5632.Idx → EReal := fun x => rowCol 2048 (xA m c) (wA m c) (x 0).val (x 1).val

theorem final : (dats m 0 c).arrAt 2 cfg0.N = prod m c := by
  refine (dats m 0 c).arrAt_eq_of_cover 2 (prod m c) (fun t _ => ?_) fun i => ?_
  · rw [flushed2, out_eq]
    funext y
    rw [View.read_apply]
    obtain ⟨p, q, rfl⟩ : ∃ p q, y = ix2 p q := ⟨_, _, eq_ix2 y⟩
    refine (pay_apply _ _ p q).trans ?_
    simp only [block_x, block_w]
    show rowCol 2048 (xA m c) (wA m c) (t.val / 4 * 1088 + p.val) (t.val % 4 * 1408 + q.val)
      = rowCol 2048 (xA m c) (wA m c) (win0_2.index t 0 * 1088 + 1 * p.val) (win0_2.index t 1 * 1408 + 1 * q.val)
    rw [(index2 t).1, (index2 t).2, one_mul, one_mul]
  · obtain ⟨x, y, rfl⟩ : ∃ x y, i = ix2 x y := ⟨_, _, eq_ix2 i⟩
    have hx := x.isLt
    have hy := y.isLt
    have hN : cfg0.N = 16 := N_0
    have h : x.val / 1088 * 4 + y.val / 1408 < cfg0.N := by omega
    refine ⟨⟨_, h⟩, flush0_2 _, ?_⟩
    show ix2 x y ∈ ((View.whole main_v2).slice (win0_2.rect ⟨_, h⟩)).set
    rw [View.set_slice_whole, Rect.mem_set_unit]
    intro a
    match a with
    | ⟨0, _⟩ =>
      show win0_2.index ⟨_, h⟩ 0 * 1088 ≤ x.val ∧ x.val < win0_2.index ⟨_, h⟩ 0 * 1088 + 1088
      rw [(index2 ⟨_, h⟩).1]; dsimp only; omega
    | ⟨1, _⟩ =>
      show win0_2.index ⟨_, h⟩ 1 * 1408 ≤ y.val ∧ y.val < win0_2.index ⟨_, h⟩ 1 * 1408 + 1408
      rw [(index2 ⟨_, h⟩).2]; dsimp only; omega

/-- The reference's entries. -/
theorem ref_apply (a : Vec Ideal S4352x2048 .bf16) (b : Vec Ideal S2048x5632 .bf16) (x : Fin 4352) (y : Fin 5632) :
    Cert.Reference18Ideal.Read.val_main_v3 (F := Ideal) a b (ix2 x y) = ∑ k : Fin 2048, a (ix2 x k) * b (ix2 k y) := by
  pointwise [Cert.Reference18Ideal.Read.val_main_v3, Cert.Reference18Ideal.Read.val_main_v2, Cert.Reference18Ideal.Read.val_main_v1,
    Cert.Reference18Ideal.Read.val_main_v0]

/-- The array the kernel writes is the reference's. -/
theorem final_eq : (dats m 0 c).arrAt 2 cfg0.N = Cert.Reference18Ideal.Read.val_main_v3 (F := Ideal) (xA m c) (wA m c) := by
  rw [final]
  funext i
  obtain ⟨x, y, rfl⟩ : ∃ x y, i = ix2 x y := ⟨_, _, eq_ix2 i⟩
  exact (rowCol_eq (xA m c) (wA m c) x y).trans (ref_apply _ _ x y).symm

end Cert.Kernel18Ideal.Product

end
-- ==== Proof.FfnDown.lean ====
/- The feed-forward's down projection with the residual, `h + act w_down`: the kernel's array, summed over four blocks, is the
   reference's. -/
module

public import proofs.«01_k».proof.Proof.Gen.Kernel19Ideal.Value
public import proofs.«01_k».proof.Proof.Gen.Reference19Ideal.Read
public import proofs.«01_k».proof.Proof.Products
public import proofs.«01_k».proof.Proof.Fold
public import proofs.«01_k».proof.Proof.Out

@[expose] public section

set_option maxRecDepth 16384

noncomputable section

namespace Cert.Kernel19Ideal.Product

open Cert.Kernel19Ideal Cert.Kernel19Ideal.Gen Cert.Kernel19Ideal.Value Cert.Attn Cert.Products
open Idealize.ShloMosaic Idealize.ShloMosaic.TcCoe Idealize.SL.Sem
open Cert.KernelIdeal.Out (zero2)

/-- What a point's blocks add to the result, entry by entry. -/
theorem pay_apply (x : Vec Ideal S1088x1408 .bf16) (w : Vec Ideal S1408x1024 .bf16) (p : Fin 1088) (q : Fin 1024) :
    k0_pay1 x w (ix2 p q) = ∑ k : Fin 1408, x (ix2 p k) * w (ix2 k q) := by
  pointwise [k0_pay1]

section Terms

variable (x : Vec Ideal S1088x1408 .bf16) (w : Vec Ideal S1408x1024 .bf16) (d acc : Vec Ideal S1088x1024 .f32)
  (c : Dev nD) (i : grid0.Coords) (a3 : Memref sig .tc .vmem S1088x1408 .bf16) (h3 : a3.IsWhole)
  (a4 : Memref sig .tc .vmem S1408x1024 .bf16) (h4 : a4.IsWhole) (a5 : Memref sig .tc .vmem S1088x1024 .f32) (h5 : a5.IsWhole)
  (a6 : Memref sig .tc .vmem S1088x1024 .f32) (h6 : a6.IsWhole)

theorem first (hc0 : cond0_0 i) (hc1 : ¬cond0_1 i) (hc2 : ¬cond0_2 i) :
    out0_A_3 c i a3 h3 a4 h4 a5 h5 a6 h6 hc0 hc1 hc2 x w d = k0_pay1 x w := by
  unfold out0_A_3
  rw [View.read_writes_eq_canon _ _ _ (cover0_A_3 c i a3 h3 a4 h4 a5 h5 a6 h6 hc0 hc1 hc2 x w d)]
  unfold kernelRun0_A
  dsimp only
  sl_unfold_words
  rw [View.canon_unit_zero zero2]
  simp only [View.readAt_eq_ld, h3.read_unread, h4.read_unread, View.ld_unit_zero (S := S1088x1408) zero2,
    View.ld_unit_zero (S := S1408x1024) zero2]

theorem middle (hc0 : ¬cond0_0 i) (hc1 : cond0_1 i) (hc2 : ¬cond0_2 i) :
    out0_B_3 c i a3 h3 a4 h4 a5 h5 a6 h6 hc0 hc1 hc2 x w d acc = addf acc (k0_pay1 x w) := by
  unfold out0_B_3
  rw [View.read_writes_eq_canon _ _ _ (cover0_B_3 c i a3 h3 a4 h4 a5 h5 a6 h6 hc0 hc1 hc2 x w d acc)]
  unfold kernelRun0_B
  dsimp only
  sl_unfold_words
  rw [View.canon_unit_zero zero2]
  unfold k0_pay2
  simp only [View.readAt_eq_ld, h3.read_unread, h4.read_unread, h6.read_unread, View.ld_unit_zero (S := S1088x1408) zero2,
    View.ld_unit_zero (S := S1408x1024) zero2, View.ld_unit_zero (S := S1088x1024) zero2, shapeCast_self]

theorem last (hc0 : ¬cond0_0 i) (hc1 : ¬cond0_1 i) (hc2 : cond0_2 i) :
    out0_C_3 c i a3 h3 a4 h4 a5 h5 a6 h6 hc0 hc1 hc2 x w d acc = addf (addf acc (k0_pay1 x w)) d := by
  unfold out0_C_3
  rw [View.read_writes_eq_canon _ _ _ (cover0_C_3 c i a3 h3 a4 h4 a5 h5 a6 h6 hc0 hc1 hc2 x w d acc)]
  unfold kernelRun0_C
  dsimp only
  sl_unfold_words
  rw [View.canon_unit_zero zero2]
  unfold k0_pay3
  simp only [View.readAt_eq_ld, h3.read_unread, h4.read_unread, h5.read_unread, h6.read_unread,
    View.ld_unit_zero (S := S1088x1408) zero2, View.ld_unit_zero (S := S1408x1024) zero2,
    View.ld_unit_zero (S := S1088x1024) zero2, shapeCast_self]

end Terms

variable (m : (ℓ : Loc nD τ sig) → Buf (Elt Ideal) ℓ) (c : Dev nD)

/-- A point's term. -/
abbrev term (n : ℕ) (h : n < cfg0.N) : FVec Ideal S1088x1024 .f32 := k0_pay1 (iblk m c 0 ⟨n, h⟩) (iblk m c 1 ⟨n, h⟩)

/-- The products a run has summed up to a point: the block's contents, at the last point before `h` is added. -/
def partSum (n : ℕ) (h : n < cfg0.N) : FVec Ideal S1088x1024 .f32 :=
  if n % 4 = 3 then addf (outsAt0 m c (n - 1) (Nat.lt_of_le_of_lt (Nat.sub_le _ _) h)) (term m c n h) else outsAt0 m c n h

theorem partSum_first (n : ℕ) (h : n < cfg0.N) (h0 : n % 4 = 0) : partSum m c n h = term m c n h := by
  unfold partSum
  rw [if_neg (by omega)]
  exact (outsAt0_A m c ⟨n, h⟩ h0 (by dsimp only; omega) (by dsimp only; omega)).trans (first ..)

theorem partSum_next (n : ℕ) (h : n + 1 < cfg0.N) (h0 : ¬(n + 1) % 4 = 0) :
    partSum m c (n + 1) h = addf (partSum m c n (Nat.lt_of_succ_lt h)) (term m c (n + 1) h) := by
  unfold partSum
  rw [if_neg (show ¬n % 4 = 3 by omega)]
  by_cases h3 : (n + 1) % 4 = 3
  · rw [if_pos h3]
    rfl
  · rw [if_neg h3]
    exact (outsAt0_B m c ⟨n + 1, h⟩ h0 (by dsimp only; omega) h3).trans (middle ..)

theorem outs_last (t : Fin cfg0.N) (h3 : t.val % 4 = 3) :
    outsAt0 m c t.val t.isLt = addf (partSum m c t.val t.isLt) (iblk m c 2 t : FVec Ideal S1088x1024 .f32) := by
  unfold partSum
  rw [if_pos h3, outsAt0_C m c t (by omega) (by omega) h3]
  exact last ..

abbrev xA : S4352x5632.Idx → EReal := m ((c : Thread nD τ).loc main_arg0)
abbrev wA : S5632x2048.Idx → EReal := m ((c : Thread nD τ).loc main_arg1)
abbrev dA : S4352x2048.Idx → EReal := m ((c : Thread nD τ).loc main_arg2)

theorem index0 : ∀ t : Fin grid0.N, win0_0.index t 0 = t.val / 8 ∧ win0_0.index t 1 = t.val % 4 := by decide +kernel
theorem index1 : ∀ t : Fin grid0.N, win0_1.index t 0 = t.val % 4 ∧ win0_1.index t 1 = t.val / 4 % 2 := by decide +kernel
theorem index2 : ∀ t : Fin grid0.N, win0_2.index t 0 = t.val / 8 ∧ win0_2.index t 1 = t.val / 4 % 2 := by decide +kernel
theorem index3 : ∀ t : Fin grid0.N, win0_3.index t 0 = t.val / 8 ∧ win0_3.index t 1 = t.val / 4 % 2 := by decide +kernel

theorem lt32 (t : Fin cfg0.N) : t.val < 32 := lt_of_lt_of_eq t.isLt (show cfg0.N = 32 from N_0)

theorem block_x (t : Fin cfg0.N) (p : Fin 1088) (k : Fin 1408) :
    iblk m c 0 t (ix2 p k) = at2 (xA m c) (t.val / 8 * 1088 + p.val) (t.val % 4 * 1408 + k.val) := by
  unfold iblk
  rw [View.read_apply]
  refine (eq_at2 (xA m c) _).trans ?_
  show at2 (xA m c) (win0_0.index t 0 * 1088 + 1 * p.val) (win0_0.index t 1 * 1408 + 1 * k.val) = _
  rw [(index0 t).1, (index0 t).2, one_mul, one_mul]

theorem block_d (t : Fin cfg0.N) (p : Fin 1088) (q : Fin 1024) :
    iblk m c 2 t (ix2 p q) = at2 (dA m c) (t.val / 8 * 1088 + p.val) (t.val / 4 % 2 * 1024 + q.val) := by
  unfold iblk
  rw [View.read_apply]
  refine (eq_at2 (dA m c) _).trans ?_
  show at2 (dA m c) (win0_2.index t 0 * 1088 + 1 * p.val) (win0_2.index t 1 * 1024 + 1 * q.val) = _
  rw [(index2 t).1, (index2 t).2, one_mul, one_mul]

theorem block_w (t : Fin cfg0.N) (k : Fin 1408) (q : Fin 1024) :
    iblk m c 1 t (ix2 k q) = at2 (wA m c) (t.val % 4 * 1408 + k.val) (t.val / 4 % 2 * 1024 + q.val) := by
  unfold iblk
  rw [View.read_apply]
  refine (eq_at2 (wA m c) _).trans ?_
  show at2 (wA m c) (win0_1.index t 0 * 1408 + 1 * k.val) (win0_1.index t 1 * 1024 + 1 * q.val) = _
  rw [(index1 t).1, (index1 t).2, one_mul, one_mul]

/-- The entries the kernel writes. -/
def entry (r q : ℕ) : EReal := rowCol 5632 (xA m c) (wA m c) r q + at2 (dA m c) r q

/-- The array the kernel writes. -/
def prod : S4352x2048.Idx → EReal := fun x => entry m c (x 0).val (x 1).val

/-- After a run's last point the block holds the product and `h`. -/
theorem last_apply (t : Fin cfg0.N) (hl : t.val % 4 = 3) (p : Fin 1088) (q : Fin 1024) :
    outsAt0 m c t.val t.isLt (ix2 p q) = entry m c (t.val / 8 * 1088 + p.val) (t.val / 4 % 2 * 1024 + q.val) := by
  rw [outs_last m c t hl]
  refine congrArg₂ (· + ·) ((run_sum (J := 4) (by decide) (partSum m c) (term m c)
    (partSum_first m c) (partSum_next m c) t.val t.isLt (by omega)
    (fun s x => ∑ k : Fin 1408, at2 (xA m c) (t.val / 8 * 1088 + (x 0).val) (s * 1408 + k.val)
      * at2 (wA m c) (s * 1408 + k.val) (t.val / 4 % 2 * 1024 + (x 1).val))
    (fun n h x hn => ?_) (ix2 p q)).trans ?_) (block_d m c t p q)
  · obtain ⟨p, q, rfl⟩ : ∃ p q, x = ix2 p q := ⟨_, _, eq_ix2 x⟩
    refine (pay_apply _ _ p q).trans ?_
    simp only [block_x, block_w, ← hn, show n / 8 = t.val / 8 by omega]
    rfl
  · exact sum_blocks 4 1408 5632 (by decide) fun k => at2 (xA m c) (t.val / 8 * 1088 + p.val) k * at2 (wA m c) k (t.val / 4 % 2 * 1024 + q.val)

theorem final : (dats m 0 c).arrAt 3 cfg0.N = prod m c := by
  refine (dats m 0 c).arrAt_eq_of_cover 3 (prod m c) (fun t hf => ?_) fun i => ?_
  · rw [flushed3]
    funext y
    rw [View.read_apply]
    obtain ⟨p, q, rfl⟩ : ∃ p q, y = ix2 p q := ⟨_, _, eq_ix2 y⟩
    refine (last_apply m c t ((flush0_3 t).mp hf) p q).trans ?_
    show _ = entry m c (win0_3.index t 0 * 1088 + 1 * p.val) (win0_3.index t 1 * 1024 + 1 * q.val)
    rw [(index3 t).1, (index3 t).2, one_mul, one_mul]
  · obtain ⟨x, y, rfl⟩ : ∃ x y, i = ix2 x y := ⟨_, _, eq_ix2 i⟩
    have hx := x.isLt
    have hy := y.isLt
    have hN : cfg0.N = 32 := N_0
    have h : x.val / 1088 * 8 + y.val / 1024 * 4 + 3 < cfg0.N := by omega
    refine ⟨⟨_, h⟩, (flush0_3 _).mpr (by dsimp only; omega), ?_⟩
    show ix2 x y ∈ ((View.whole main_v0).slice (win0_3.rect ⟨_, h⟩)).set
    rw [View.set_slice_whole, Rect.mem_set_unit]
    intro a
    match a with
    | ⟨0, _⟩ =>
      show win0_3.index ⟨_, h⟩ 0 * 1088 ≤ x.val ∧ x.val < win0_3.index ⟨_, h⟩ 0 * 1088 + 1088
      rw [(index3 ⟨_, h⟩).1]; dsimp only; omega
    | ⟨1, _⟩ =>
      show win0_3.index ⟨_, h⟩ 1 * 1024 ≤ y.val ∧ y.val < win0_3.index ⟨_, h⟩ 1 * 1024 + 1024
      rw [(index3 ⟨_, h⟩).2]; dsimp only; omega

/-- The reference's entries. -/
theorem ref_apply (a : Vec Ideal S4352x5632 .bf16) (b : Vec Ideal S5632x2048 .bf16) (d : Vec Ideal S4352x2048 .f32)
    (x : Fin 4352) (y : Fin 2048) :
    Cert.Reference19Ideal.Read.val_main_v3 (F := Ideal) a b d (ix2 x y) = (∑ k : Fin 5632, a (ix2 x k) * b (ix2 k y)) + d (ix2 x y) := by
  refine Eq.trans ?_ (add_comm _ _)
  pointwise [Cert.Reference19Ideal.Read.val_main_v3, Cert.Reference19Ideal.Read.val_main_v2, Cert.Reference19Ideal.Read.val_main_v1,
    Cert.Reference19Ideal.Read.val_main_v0]

/-- The array the kernel writes is the reference's. -/
theorem final_eq : (dats m 0 c).arrAt 3 cfg0.N = Cert.Reference19Ideal.Read.val_main_v3 (F := Ideal) (xA m c) (wA m c) (dA m c) := by
  rw [final]
  funext i
  obtain ⟨x, y, rfl⟩ : ∃ x y, i = ix2 x y := ⟨_, _, eq_ix2 i⟩
  refine Eq.trans ?_ (ref_apply _ _ _ x y).symm
  exact congrArg₂ (· + ·) (rowCol_eq (xA m c) (wA m c) x y) (at2_eq (dA m c) x.isLt y.isLt)

end Cert.Kernel19Ideal.Product

end
-- ==== Proof.BranchForward.lean ====
/- A branch's output projection `x w`, the weights in four shards of columns: the kernel's array is the reference's. -/
module

public import proofs.«01_k».proof.Proof.Gen.Kernel20Ideal.Value
public import proofs.«01_k».proof.Proof.Gen.Reference20Ideal.Read
public import proofs.«01_k».proof.Proof.Products
public import proofs.«01_k».proof.Proof.Out

@[expose] public section

set_option maxRecDepth 16384

noncomputable section

namespace Cert.Kernel20Ideal.Product

open Cert.Kernel20Ideal Cert.Kernel20Ideal.Gen Cert.Kernel20Ideal.Value Cert.Attn Cert.Products
open Idealize.ShloMosaic Idealize.ShloMosaic.TcCoe Idealize.SL.Sem
open Cert.KernelIdeal.Out (zero2)

/-- A point's block of the result, entry by entry. -/
theorem pay_apply (x : Vec Ideal S1088x1024 .bf16) (w : Vec Ideal S1x1024x512 .bf16) (p : Fin 1088) (q : Fin 512) :
    k0_pay1 x w (ix2 p q) = ∑ k : Fin 1024, x (ix2 p k) * w (ix3 0 k q) := by
  pointwise [k0_pay1]

/-- What a point writes back. -/
theorem out_eq (x : Vec Ideal S1088x1024 .bf16) (w : Vec Ideal S1x1024x512 .bf16) : out0_2 x w = k0_pay1 x w := by
  unfold out0_2
  rw [View.canon_unit_zero zero2]
  simp only [View.readAt_eq_ld, View.ld_unit_zero (S := S1088x1024) zero2, View.ld_unit_zero (S := S1x1024x512) zero3]

variable (m : (ℓ : Loc nD τ sig) → Buf (Elt Ideal) ℓ) (c : Dev nD)

abbrev xA : S4352x1024.Idx → EReal := m ((c : Thread nD τ).loc main_arg0)
abbrev wA : S1024x2048.Idx → EReal := m ((c : Thread nD τ).loc main_arg1)

theorem index0 : ∀ t : Fin grid0.N, win0_0.index t 0 = t.val / 4 ∧ win0_0.index t 1 = 0 := by decide +kernel
theorem index1 : ∀ t : Fin grid0.N, win0_1.index t 0 = t.val % 4 ∧ win0_1.index t 1 = 0 ∧ win0_1.index t 2 = 0 := by decide +kernel
theorem index2 : ∀ t : Fin grid0.N, win0_2.index t 0 = t.val / 4 ∧ win0_2.index t 1 = t.val % 4 := by decide +kernel

theorem block_x (t : Fin cfg0.N) (p : Fin 1088) (k : Fin 1024) :
    iblk m c 0 t (ix2 p k) = at2 (xA m c) (t.val / 4 * 1088 + p.val) k.val := by
  unfold iblk
  rw [View.read_apply]
  show V m c main_arg0 _ = _
  rw [V_main_arg0]
  refine (eq_at2 (xA m c) _).trans ?_
  show at2 (xA m c) (win0_0.index t 0 * 1088 + 1 * p.val) (win0_0.index t 1 * 1024 + 1 * k.val) = _
  rw [(index0 t).1, (index0 t).2, one_mul, one_mul, zero_mul, zero_add]

/-- The weights that the host hands to the kernel: shard `s` holds columns `512 s …`. -/
theorem V_v1 : V m c main_v1 = transpose S4x1024x512 [1, 0, 2] (shapeCast S1024x4x512 (wA m c) shapeCasts_S1024x2048_S1024x4x512)
    transposes_S1024x4x512_S4x1024x512_1_0_2 := by
  unfold V
  simp only [hostOps0, List.flatten_cons, List.flatten_nil, List.append_nil, List.cons_append, List.nil_append]
  after_results
  rfl

theorem shard_apply (s : Fin 4) (k : Fin 1024) (q : Fin 512) :
    V m c main_v1 (ix3 s k q) = wA m c (ix2 k ⟨s.val * 512 + q.val, by omega⟩) := by
  rw [V_v1]
  generalize wA m c = w
  pointwise

theorem block_w (t : Fin cfg0.N) (k : Fin 1024) (q : Fin 512) :
    iblk m c 1 t (ix3 0 k q) = at2 (wA m c) k.val (t.val % 4 * 512 + q.val) := by
  rw [at2_eq _ k.isLt (show t.val % 4 * 512 + q.val < 2048 by omega)]
  refine Eq.trans ?_ (shard_apply m c ⟨t.val % 4, by omega⟩ k q)
  unfold iblk
  rw [View.read_apply]
  refine congrArg (V m c main_v1) (funext fun a => Fin.ext ?_)
  match a with
  | ⟨0, _⟩ => show win0_1.index t 0 * 1 + 1 * 0 = t.val % 4; rw [(index1 t).1]; omega
  | ⟨1, _⟩ => show win0_1.index t 1 * 1024 + 1 * k.val = k.val; rw [(index1 t).2.1]; omega
  | ⟨2, _⟩ => show win0_1.index t 2 * 512 + 1 * q.val = q.val; rw [(index1 t).2.2]; omega

/-- The array the kernel writes. -/
def prod : S4352x2048.Idx → EReal := fun x => rowCol 1024 (xA m c) (wA m c) (x 0).val (x 1).val

theorem final : (dats m 0 c).arrAt 2 cfg0.N = prod m c := by
  refine (dats m 0 c).arrAt_eq_of_cover 2 (prod m c) (fun t _ => ?_) fun i => ?_
  · rw [flushed2, out_eq]
    funext y
    rw [View.read_apply]
    obtain ⟨p, q, rfl⟩ : ∃ p q, y = ix2 p q := ⟨_, _, eq_ix2 y⟩
    refine (pay_apply _ _ p q).trans ?_
    simp only [block_x, block_w]
    show rowCol 1024 (xA m c) (wA m c) (t.val / 4 * 1088 + p.val) (t.val % 4 * 512 + q.val)
      = rowCol 1024 (xA m c) (wA m c) (win0_2.index t 0 * 1088 + 1 * p.val) (win0_2.index t 1 * 512 + 1 * q.val)
    rw [(index2 t).1, (index2 t).2, one_mul, one_mul]
  · obtain ⟨x, y, rfl⟩ : ∃ x y, i = ix2 x y := ⟨_, _, eq_ix2 i⟩
    have hx := x.isLt
    have hy := y.isLt
    have hN : cfg0.N = 16 := N_0
    have h : x.val / 1088 * 4 + y.val / 512 < cfg0.N := by omega
    refine ⟨⟨_, h⟩, flush0_2 _, ?_⟩
    show ix2 x y ∈ ((View.whole main_v2).slice (win0_2.rect ⟨_, h⟩)).set
    rw [View.set_slice_whole, Rect.mem_set_unit]
    intro a
    match a with
    | ⟨0, _⟩ =>
      show win0_2.index ⟨_, h⟩ 0 * 1088 ≤ x.val ∧ x.val < win0_2.index ⟨_, h⟩ 0 * 1088 + 1088
      rw [(index2 ⟨_, h⟩).1]; dsimp only; omega
    | ⟨1, _⟩ =>
      show win0_2.index ⟨_, h⟩ 1 * 512 ≤ y.val ∧ y.val < win0_2.index ⟨_, h⟩ 1 * 512 + 512
      rw [(index2 ⟨_, h⟩).2]; dsimp only; omega

/-- The reference's entries. -/
theorem ref_apply (a : Vec Ideal S4352x1024 .bf16) (b : Vec Ideal S1024x2048 .bf16) (x : Fin 4352) (y : Fin 2048) :
    Cert.Reference20Ideal.Read.val_main_v2 (F := Ideal) a b (ix2 x y) = ∑ k : Fin 1024, a (ix2 x k) * b (ix2 k y) := by
  pointwise [Cert.Reference20Ideal.Read.val_main_v2, Cert.Reference20Ideal.Read.val_main_v1,
    Cert.Reference20Ideal.Read.val_main_v0]

/-- The array the kernel writes is the reference's. -/
theorem final_eq : (dats m 0 c).arrAt 2 cfg0.N = Cert.Reference20Ideal.Read.val_main_v2 (F := Ideal) (xA m c) (wA m c) := by
  rw [final]
  funext i
  obtain ⟨x, y, rfl⟩ : ∃ x y, i = ix2 x y := ⟨_, _, eq_ix2 i⟩
  exact (rowCol_eq (xA m c) (wA m c) x y).trans (ref_apply _ _ x y).symm

end Cert.Kernel20Ideal.Product

end
-- ==== Proof.MixForward.lean ====
/- The mixer's output projection with the residual, `h + merged w_out`: the kernel's array is the reference's. -/
module

public import proofs.«01_k».proof.Proof.Gen.Kernel21Ideal.Value
public import proofs.«01_k».proof.Proof.Gen.Reference21Ideal.Read
public import proofs.«01_k».proof.Proof.Products
public import proofs.«01_k».proof.Proof.Out

@[expose] public section

set_option maxRecDepth 16384

noncomputable section

namespace Cert.Kernel21Ideal.Product

open Cert.Kernel21Ideal Cert.Kernel21Ideal.Gen Cert.Kernel21Ideal.Value Cert.Attn Cert.Products
open Idealize.ShloMosaic Idealize.ShloMosaic.TcCoe Idealize.SL.Sem
open Cert.KernelIdeal.Out (zero2)

/-- A point's block of the result, entry by entry. -/
theorem pay_apply (x : Vec Ideal S1088x2048 .bf16) (w : Vec Ideal S2048x1024 .bf16) (h : Vec Ideal S1088x1024 .f32) (p : Fin 1088)
    (q : Fin 1024) : k0_pay1 x w h (ix2 p q) = ∑ k : Fin 2048, x (ix2 p k) * w (ix2 k q) + h (ix2 p q) := by
  pointwise [k0_pay1]

/-- What a point writes back. -/
theorem out_eq (x : Vec Ideal S1088x2048 .bf16) (w : Vec Ideal S2048x1024 .bf16) (h : Vec Ideal S1088x1024 .f32) :
    out0_3 x w h = k0_pay1 x w h := by
  unfold out0_3
  rw [View.canon_unit_zero zero2]
  simp only [View.readAt_eq_ld, View.ld_unit_zero (S := S1088x2048) zero2, View.ld_unit_zero (S := S2048x1024) zero2,
    View.ld_unit_zero (S := S1088x1024) zero2]

variable (m : (ℓ : Loc nD τ sig) → Buf (Elt Ideal) ℓ) (c : Dev nD)

abbrev xA : S4352x2048.Idx → EReal := m ((c : Thread nD τ).loc main_arg0)
abbrev wA : S2048x2048.Idx → EReal := m ((c : Thread nD τ).loc main_arg1)
abbrev hA : S4352x2048.Idx → EReal := m ((c : Thread nD τ).loc main_arg2)

theorem index0 : ∀ t : Fin grid0.N, win0_0.index t 0 = t.val / 2 ∧ win0_0.index t 1 = 0 := by decide +kernel
theorem index1 : ∀ t : Fin grid0.N, win0_1.index t 0 = 0 ∧ win0_1.index t 1 = t.val % 2 := by decide +kernel
theorem index2 : ∀ t : Fin grid0.N, win0_2.index t 0 = t.val / 2 ∧ win0_2.index t 1 = t.val % 2 := by decide +kernel
theorem index3 : ∀ t : Fin grid0.N, win0_3.index t 0 = t.val / 2 ∧ win0_3.index t 1 = t.val % 2 := by decide +kernel

theorem block_x (t : Fin cfg0.N) (p : Fin 1088) (k : Fin 2048) :
    iblk m c 0 t (ix2 p k) = at2 (xA m c) (t.val / 2 * 1088 + p.val) k.val := by
  unfold iblk
  rw [View.read_apply]
  refine (eq_at2 (xA m c) _).trans ?_
  show at2 (xA m c) (win0_0.index t 0 * 1088 + 1 * p.val) (win0_0.index t 1 * 2048 + 1 * k.val) = _
  rw [(index0 t).1, (index0 t).2, one_mul, one_mul, zero_mul, zero_add]

theorem block_w (t : Fin cfg0.N) (k : Fin 2048) (q : Fin 1024) :
    iblk m c 1 t (ix2 k q) = at2 (wA m c) k.val (t.val % 2 * 1024 + q.val) := by
  unfold iblk
  rw [View.read_apply]
  refine (eq_at2 (wA m c) _).trans ?_
  show at2 (wA m c) (win0_1.index t 0 * 2048 + 1 * k.val) (win0_1.index t 1 * 1024 + 1 * q.val) = _
  rw [(index1 t).1, (index1 t).2, one_mul, one_mul, zero_mul, zero_add]

theorem block_h (t : Fin cfg0.N) (p : Fin 1088) (q : Fin 1024) :
    iblk m c 2 t (ix2 p q) = at2 (hA m c) (t.val / 2 * 1088 + p.val) (t.val % 2 * 1024 + q.val) := by
  unfold iblk
  rw [View.read_apply]
  refine (eq_at2 (hA m c) _).trans ?_
  show at2 (hA m c) (win0_2.index t 0 * 1088 + 1 * p.val) (win0_2.index t 1 * 1024 + 1 * q.val) = _
  rw [(index2 t).1, (index2 t).2, one_mul, one_mul]

/-- The array the kernel writes. -/
def res : S4352x2048.Idx → EReal := fun x =>
  rowCol 2048 (xA m c) (wA m c) (x 0).val (x 1).val + at2 (hA m c) (x 0).val (x 1).val

theorem final : (dats m 0 c).arrAt 3 cfg0.N = res m c := by
  refine (dats m 0 c).arrAt_eq_of_cover 3 (res m c) (fun t _ => ?_) fun i => ?_
  · rw [flushed3, out_eq]
    funext y
    rw [View.read_apply]
    obtain ⟨p, q, rfl⟩ : ∃ p q, y = ix2 p q := ⟨_, _, eq_ix2 y⟩
    refine (pay_apply _ _ _ p q).trans ?_
    simp only [block_x, block_w, block_h]
    show _ = rowCol 2048 (xA m c) (wA m c) (win0_3.index t 0 * 1088 + 1 * p.val) (win0_3.index t 1 * 1024 + 1 * q.val)
      + at2 (hA m c) (win0_3.index t 0 * 1088 + 1 * p.val) (win0_3.index t 1 * 1024 + 1 * q.val)
    rw [(index3 t).1, (index3 t).2, one_mul, one_mul]
    rfl
  · obtain ⟨x, y, rfl⟩ : ∃ x y, i = ix2 x y := ⟨_, _, eq_ix2 i⟩
    have hx := x.isLt
    have hy := y.isLt
    have hN : cfg0.N = 8 := N_0
    have h : x.val / 1088 * 2 + y.val / 1024 < cfg0.N := by omega
    refine ⟨⟨_, h⟩, flush0_3 _, ?_⟩
    show ix2 x y ∈ ((View.whole main_v0).slice (win0_3.rect ⟨_, h⟩)).set
    rw [View.set_slice_whole, Rect.mem_set_unit]
    intro a
    match a with
    | ⟨0, _⟩ =>
      show win0_3.index ⟨_, h⟩ 0 * 1088 ≤ x.val ∧ x.val < win0_3.index ⟨_, h⟩ 0 * 1088 + 1088
      rw [(index3 ⟨_, h⟩).1]; dsimp only; omega
    | ⟨1, _⟩ =>
      show win0_3.index ⟨_, h⟩ 1 * 1024 ≤ y.val ∧ y.val < win0_3.index ⟨_, h⟩ 1 * 1024 + 1024
      rw [(index3 ⟨_, h⟩).2]; dsimp only; omega

/-- The reference's entries. -/
theorem ref_apply (a : Vec Ideal S4352x2048 .bf16) (b : Vec Ideal S2048x2048 .bf16) (h : Vec Ideal S4352x2048 .f32) (x : Fin 4352)
    (y : Fin 2048) : Cert.Reference21Ideal.Read.val_main_v3 (F := Ideal) a b h (ix2 x y)
      = h (ix2 x y) + ∑ k : Fin 2048, a (ix2 x k) * b (ix2 k y) := by
  pointwise [Cert.Reference21Ideal.Read.val_main_v3, Cert.Reference21Ideal.Read.val_main_v2, Cert.Reference21Ideal.Read.val_main_v1,
    Cert.Reference21Ideal.Read.val_main_v0]

/-- The array the kernel writes is the reference's. -/
theorem final_eq : (dats m 0 c).arrAt 3 cfg0.N = Cert.Reference21Ideal.Read.val_main_v3 (F := Ideal) (xA m c) (wA m c) (hA m c) := by
  rw [final]
  funext i
  obtain ⟨x, y, rfl⟩ : ∃ x y, i = ix2 x y := ⟨_, _, eq_ix2 i⟩
  refine Eq.trans ?_ (ref_apply _ _ _ x y).symm
  rw [add_comm]
  exact congrArg₂ (· + ·) (rowCol_eq (xA m c) (wA m c) x y) (at2_eq (hA m c) x.isLt y.isLt)

end Cert.Kernel21Ideal.Product

end
-- ==== Proof.Attend.lean ====
/- One row of softmax attention, over the extended reals: as the kernel computes it on padded keys, and as it is defined. -/
module

public import proofs.«01_k».proof.Proof.Slots
public import proofs.«01_k».proof.Proof.At

@[expose] public section

noncomputable section

namespace Cert.Attn

open Idealize.ShloMosaic

variable {N n m D E w : ℕ}

/-- The values' mean by a query's normalised weights. -/
def attend (c : EReal) (K : Fin N → Fin D → EReal) (V : Fin N → Fin E → EReal) (q : Fin D → EReal) (e : Fin E) : EReal :=
  ∑ j, V j e * weight c K q j

/-- The same as the kernel computes it: the padded row's sum, then the division by the weights' sum. -/
def kattend (c : EReal) (K : Fin (n + m) → Fin D → EReal) (V : Fin (n + m) → Fin E → EReal) (q : Fin D → EReal) (e : Fin E) : EReal :=
  (∑ j, rexp (masked (scores c K q)) j * V j e) * Ideal.div 1 (rsum (masked (scores c K q)))

variable [NeZero n] {r : ℝ} {K : Fin (n + m) → Fin D → EReal} {q : Fin D → EReal}

/-- Of finite queries and keys the two agree, whatever the values are. -/
theorem kattend_eq (hq : Finite q) (hK : ∀ j, Finite (K j)) (V : Fin (n + m) → Fin E → EReal) (e : Fin E) :
    kattend (r : EReal) K V q e = attend (r : EReal) (front K) (front V) q e := by
  unfold kattend attend weight
  rw [sum_valid _ fun j hj => by rw [rexp_masked_pad _ j hj, zero_mul], rsum_masked]
  simp only [rexp_masked_valid]
  obtain ⟨s, hs, he⟩ := rsum_real (scores_finite (K := front K) (r := r) hq fun j => hK _)
  rw [show (fun j : Fin n => scores (r : EReal) K q (Fin.castAdd m j)) = scores (r : EReal) (front K) q from rfl, he,
    Ideal.div_coe hs.ne', one_mul, sum_mul_real _ _ (one_div_pos.mpr hs).le]
  refine Finset.sum_congr rfl fun j _ => ?_
  rw [Ideal.div_coe hs.ne', mul_right_comm, mul_comm]
  rfl

/-- Zero columns behind the queries and the keys change nothing. -/
theorem attend_widen (c : EReal) (K : Fin N → Fin D → EReal) (V : Fin N → Fin E → EReal) (q : Fin D → EReal) (e : Fin E) :
    attend c (fun j => widen (m := w) (K j)) V (widen q) e = attend c K V q e := by
  unfold attend
  rw [weight_widen]

end Cert.Attn

end
-- ==== Proof.GqaForward.lean ====
/- The grouped attention of the forward pass: the kernel's array is the reference's where the queries and the keys are finite. -/
module

public import proofs.«01_k».proof.Proof.Gen.Kernel22Ideal.Value
public import proofs.«01_k».proof.Proof.Gen.Reference22Ideal.Read
public import proofs.«01_k».proof.Proof.Attend
public import proofs.«01_k».proof.Proof.Equation

@[expose] public section

set_option maxRecDepth 16384

noncomputable section

namespace Cert.Kernel22Ideal.Forward

open Cert.Kernel22Ideal Cert.Kernel22Ideal.Gen Cert.Kernel22Ideal.Value Cert.Attn
open Idealize.ShloMosaic Idealize.ShloMosaic.TcCoe Idealize.SL.Sem
open Cert.KernelIdeal.Block (row slt_word scale)
open Cert.KernelIdeal.Out (zero2)
open Cert.Equation (split ix2_of)

/-! ## What one grid point computes -/

theorem pay_apply (q : Vec Ideal S1088x128 .bf16) (k v : Vec Ideal S2176x128 .bf16) (p : Fin 1088) (e : Fin 128) :
    k0_pay1 q k v (ix2 p e) = kattend (n := 2064) (m := 112) scale (row k) (row v) (row q p) e := by
  have hs : ∀ x : Fin 2176, Scalar.select (IntOp.cmpi CmpIPredicate.slt (BitVec.ofNat 32 x.val) 2064#32)
      ((∑ y, q (ix2 p y) * k (ix2 x y)) * Ideal.ofBits FTy.f32 1035273459#32) (Named.named (F := Ideal) (φ := .f32) κ "mask" 4048155338#32 : EReal)
      = masked (n := 2064) (m := 112) (scores scale (row k) (row q p)) x := by
    intro x
    rw [slt_word x.val x.isLt]
    unfold masked scores row
    split <;> rfl
  pointwise [k0_pay1]
  simp only [hs]
  rw [show Ideal.ofBits FTy.f32 4286578688#32 = ⊥ from ofBits_neg_inf]
  rfl

variable (m : (ℓ : Loc nD τ sig) → Buf (Elt Ideal) ℓ) (c : Dev nD)

abbrev qA : S4352x1024.Idx → EReal := m ((c : Thread nD τ).loc main_arg0)
abbrev kAr : S4352x256.Idx → EReal := m ((c : Thread nD τ).loc main_arg1)
abbrev vA : S4352x256.Idx → EReal := m ((c : Thread nD τ).loc main_arg2)

theorem index0 : ∀ t : Fin grid0.N, win0_0.index t 0 = t.val / 16 * 2 + t.val % 2 ∧ win0_0.index t 1 = t.val / 2 % 8 := by decide +kernel
theorem index1 : ∀ t : Fin grid0.N, win0_1.index t 0 = t.val / 16 ∧ win0_1.index t 1 = t.val / 8 % 2 := by decide +kernel
theorem index2 : ∀ t : Fin grid0.N, win0_2.index t 0 = t.val / 16 ∧ win0_2.index t 1 = t.val / 8 % 2 := by decide +kernel
theorem index3 : ∀ t : Fin grid0.N, win0_3.index t 0 = t.val / 16 * 2 + t.val % 2 ∧ win0_3.index t 1 = t.val / 2 % 8 := by decide +kernel

theorem lt32 (t : Fin cfg0.N) : t.val < 32 := lt_of_lt_of_eq t.isLt (show cfg0.N = 32 from N_0)

/-- A point's block of queries. -/
theorem block_q (t : Fin cfg0.N) (p : Fin 1088) :
    row (iblk m c 0 t) p = headRow (qA m c) (t.val / 16) (t.val / 2 % 8) (t.val % 2 * 1088 + p.val) := by
  have ht := lt32 t
  funext d
  unfold headRow
  rw [at2_eq _ (show t.val / 16 * 2176 + (t.val % 2 * 1088 + p.val) < 4352 by omega) (by omega)]
  unfold row iblk
  rw [View.read_apply]
  refine congrArg (qA m c) (funext fun a => Fin.ext ?_)
  match a with
  | ⟨0, _⟩ => show win0_0.index t 0 * 1088 + 1 * p.val = t.val / 16 * 2176 + (t.val % 2 * 1088 + p.val); rw [(index0 t).1]; omega
  | ⟨1, _⟩ => show win0_0.index t 1 * 128 + 1 * d.val = t.val / 2 % 8 * 128 + d.val; rw [(index0 t).2]; omega

/-- A point's block of keys. -/
theorem block_k (t : Fin cfg0.N) : row (iblk m c 1 t) = fun j : Fin 2176 => headRow (D := 128) (kAr m c) (t.val / 16) (t.val / 8 % 2) j.val := by
  have ht := lt32 t
  funext j d
  unfold headRow
  rw [at2_eq _ (show t.val / 16 * 2176 + j.val < 4352 by omega) (by omega)]
  unfold row iblk
  rw [View.read_apply]
  refine congrArg (kAr m c) (funext fun a => Fin.ext ?_)
  match a with
  | ⟨0, _⟩ => show win0_1.index t 0 * 2176 + 1 * j.val = t.val / 16 * 2176 + j.val; rw [(index1 t).1]; omega
  | ⟨1, _⟩ => show win0_1.index t 1 * 128 + 1 * d.val = t.val / 8 % 2 * 128 + d.val; rw [(index1 t).2]; omega

/-- A point's block of values. -/
theorem block_v (t : Fin cfg0.N) : row (iblk m c 2 t) = fun j : Fin 2176 => headRow (D := 128) (vA m c) (t.val / 16) (t.val / 8 % 2) j.val := by
  have ht := lt32 t
  funext j d
  unfold headRow
  rw [at2_eq _ (show t.val / 16 * 2176 + j.val < 4352 by omega) (by omega)]
  unfold row iblk
  rw [View.read_apply]
  refine congrArg (vA m c) (funext fun a => Fin.ext ?_)
  match a with
  | ⟨0, _⟩ => show win0_2.index t 0 * 2176 + 1 * j.val = t.val / 16 * 2176 + j.val; rw [(index2 t).1]; omega
  | ⟨1, _⟩ => show win0_2.index t 1 * 128 + 1 * d.val = t.val / 8 % 2 * 128 + d.val; rw [(index2 t).2]; omega

/-! ## The array -/

/-- One head's row, as the kernel computes it. -/
def outRow (b h i : ℕ) (e : Fin 128) : EReal :=
  kattend (n := 2064) (m := 112) scale (fun j : Fin 2176 => headRow (D := 128) (kAr m c) b (h / 4) j.val)
    (fun j : Fin 2176 => headRow (D := 128) (vA m c) b (h / 4) j.val) (headRow (qA m c) b h i) e

/-- The array the kernel writes. -/
def outArr : S4352x1024.Idx → EReal := fun x =>
  outRow m c ((x 0).val / 2176) ((x 1).val / 128) ((x 0).val % 2176) ⟨(x 1).val % 128, Nat.mod_lt _ (by decide)⟩

/-- Its entries by sequence, head, row and column. -/
theorem outArr_at (x : S4352x1024.Idx) (b h i : ℕ) (e : Fin 128) (hi : i < 2176) (h0 : (x 0).val = b * 2176 + i)
    (h1 : (x 1).val = h * 128 + e.val) : outArr m c x = outRow m c b h i e := by
  unfold outArr
  congr 1
  · omega
  · omega
  · omega
  · exact Fin.ext (by dsimp only; omega)

/-- What a point writes back. -/
theorem out_eq (q : Vec Ideal S1088x128 .bf16) (k v : Vec Ideal S2176x128 .bf16) : out0_3 q k v = k0_pay1 q k v := by
  unfold out0_3
  rw [View.canon_unit_zero zero2]
  simp only [View.readAt_eq_ld, View.ld_unit_zero (S := S1088x128) zero2, View.ld_unit_zero (S := S2176x128) zero2]

theorem final : (dats m 0 c).arrAt 3 cfg0.N = outArr m c := by
  refine (dats m 0 c).arrAt_eq_of_cover 3 (outArr m c) (fun t _ => ?_) fun i => ?_
  · have ht := lt32 t
    rw [flushed3, out_eq]
    funext y
    rw [View.read_apply]
    obtain ⟨p, e, rfl⟩ : ∃ p e, y = ix2 p e := ⟨_, _, eq_ix2 y⟩
    refine (pay_apply _ _ _ p e).trans ?_
    rw [block_q, block_k, block_v, cast_eq]
    refine Eq.trans ?_ (outArr_at m c _ (t.val / 16) (t.val / 2 % 8) (t.val % 2 * 1088 + p.val) e (by omega) ?_ ?_).symm
    · unfold outRow
      rw [show t.val / 2 % 8 / 4 = t.val / 8 % 2 by omega]
    · show win0_3.index t 0 * 1088 + 1 * p.val = _
      rw [(index3 t).1]
      omega
    · show win0_3.index t 1 * 128 + 1 * e.val = _
      rw [(index3 t).2]
      omega
  · obtain ⟨x, y, rfl⟩ : ∃ x y, i = ix2 x y := ⟨_, _, eq_ix2 i⟩
    have hx := x.isLt
    have hy := y.isLt
    have hN : cfg0.N = 32 := N_0
    have h : x.val / 2176 * 16 + y.val / 128 * 2 + x.val / 1088 % 2 < cfg0.N := by omega
    refine ⟨⟨_, h⟩, flush0_3 _, ?_⟩
    show ix2 x y ∈ ((View.whole main_v0).slice (win0_3.rect ⟨_, h⟩)).set
    rw [View.set_slice_whole, Rect.mem_set_unit]
    intro a
    match a with
    | ⟨0, _⟩ =>
      show win0_3.index ⟨_, h⟩ 0 * 1088 ≤ x.val ∧ x.val < win0_3.index ⟨_, h⟩ 0 * 1088 + 1088
      rw [(index3 ⟨_, h⟩).1]; dsimp only; omega
    | ⟨1, _⟩ =>
      show win0_3.index ⟨_, h⟩ 1 * 128 ≤ y.val ∧ y.val < win0_3.index ⟨_, h⟩ 1 * 128 + 128
      rw [(index3 ⟨_, h⟩).2]; dsimp only; omega

end Cert.Kernel22Ideal.Forward

/-! ## The reference -/

namespace Cert.Reference22Ideal.Forward

open Idealize.ShloMosaic Cert.Reference22Ideal.Read Cert.Attn
open Cert.KernelIdeal.Block (scale)

variable (x0 : (⟨S4352x1024, .bf16⟩ : BufTy).Contents (Elt Ideal)) (x1 x2 : (⟨S4352x256, .bf16⟩ : BufTy).Contents (Elt Ideal))

abbrev Q (b h i : ℕ) : Fin 128 → EReal := headRow (R := 4352) (C := 1024) x0 b h i
abbrev K (b h : ℕ) (j : Fin 2064) : Fin 128 → EReal := headRow (R := 4352) (C := 256) x1 b h j.val

variable (b : Fin 2) (h : Fin 2) (g : Fin 4) (i : Fin 2176) (j : Fin 2064) (d : Fin 128)

/-- The arrays as the reference lays them out. -/
theorem q_apply : val_main_v3 (F := Ideal) x0 (ix5 b i h g d) = Q x0 b (h * 4 + g) i d := by
  unfold Q headRow
  rw [at2_eq _ (show b.val * 2176 + i.val < 4352 by omega) (show (h.val * 4 + g.val) * 128 + d.val < 1024 by omega)]
  pointwise [val_main_v3, val_main_v0]
  exact congrArg x0 (by congr 2; omega)

theorem k_apply : val_main_v5 (F := Ideal) x1 (ix4 b j h d) = K x1 b h j d := by
  unfold K headRow
  rw [at2_eq _ (show b.val * 2176 + j.val < 4352 by omega) (show h.val * 128 + d.val < 256 by omega)]
  pointwise [val_main_v5, val_main_v4, val_main_v1]

theorem v_apply : val_main_v7 (F := Ideal) x2 (ix4 b j h d) = K x2 b h j d := by
  unfold K headRow
  rw [at2_eq _ (show b.val * 2176 + j.val < 4352 by omega) (show h.val * 128 + d.val < 256 by omega)]
  pointwise [val_main_v7, val_main_v6, val_main_v2]

/-- The scores. -/
theorem score_apply : val_main_v11 (F := Ideal) x0 x1 (ix5 b h g i j) = scores scale (K x1 b h) (Q x0 b (h * 4 + g) i) j := by
  pointwise [val_main_v11, val_main_v10, val_main_cst, val_main_v9, val_main_v8]
  simp only [q_apply, k_apply]
  unfold scores
  simp only [mul_comm]

/-- Their maximum. -/
theorem max_apply : val_main_v12 (F := Ideal) x0 x1 (ix4 b h g i) = rmax (scores scale (K x1 b h) (Q x0 b (h * 4 + g) i)) := by
  have hs : (fun j => scores scale (K x1 b h) (Q x0 b (h * 4 + g) i) j) = fun j => val_main_v11 (F := Ideal) x0 x1 (ix5 b h g i j) :=
    funext fun j => (score_apply x0 x1 b h g i j).symm
  unfold rmax
  rw [show scores scale (K x1 b h) (Q x0 b (h * 4 + g) i) = _ from hs]
  unfold val_main_v12
  generalize val_main_v11 (F := Ideal) x0 x1 = y
  refine (hostMax_last y _ _ _ b h g i).trans ?_
  rw [show val_main_cst_0 (F := Ideal) (Shape.Idx.first Gen.h_S_) = ⊥ from ofBits_neg_inf]

/-- The weights before they are normalised. -/
theorem exp_apply : val_main_v18 (F := Ideal) x0 x1 (ix5 b h g i j) = rexp (scores scale (K x1 b h) (Q x0 b (h * 4 + g) i)) j := by
  unfold rexp
  rw [← score_apply, ← max_apply, val_main_v18_apply, val_main_v17_apply, val_main_v16_apply, val_main_v15_apply, val_main_v14_apply,
    val_main_v13_apply, val_main_cst_1_apply]
  have e : idx_main_v15 (idx_main_v16 (ix5 b h g i j)) = ix4 b h g i := by
    funext a; match a with | ⟨0, _⟩ => rfl | ⟨1, _⟩ => rfl | ⟨2, _⟩ => rfl | ⟨3, _⟩ => rfl
  rw [e]
  generalize val_main_v11 (F := Ideal) x0 x1 (ix5 b h g i j) = y
  generalize val_main_v12 (F := Ideal) x0 x1 (ix4 b h g i) = z
  show Ideal.exp (y - max (Ideal.ofBits .f32 0xFF800000#32) z) = _
  rw [ofBits_neg_inf, max_eq_right bot_le]

/-- The normalised weights. -/
theorem weight_apply : val_main_v22 (F := Ideal) x0 x1 (ix5 b h g i j) = weight scale (K x1 b h) (Q x0 b (h * 4 + g) i) j := by
  pointwise [val_main_v22, val_main_v21, val_main_v20, val_main_v19, val_main_cst_2]
  simp only [exp_apply]
  rfl

/-- The result. -/
theorem result_apply : val_main_v26 (F := Ideal) x0 x1 x2 (ix2 ⟨b.val * 2176 + i.val, by omega⟩ ⟨(h.val * 4 + g.val) * 128 + d.val, by omega⟩)
    = attend scale (K x1 b h) (K x2 b h) (Q x0 b (h * 4 + g) i) d := by
  pointwise [val_main_v26, val_main_v25, val_main_v24, val_main_v23]
  simp only [weight_apply, v_apply]
  rfl

end Cert.Reference22Ideal.Forward

/-! ## The equation -/

namespace Cert.Kernel22Ideal.Forward

open Cert.Kernel22Ideal Cert.Attn
open Idealize.ShloMosaic Idealize.ShloMosaic.TcCoe Idealize.SL.Sem
open Cert.Equation (split ix2_of)

variable (m : (ℓ : Loc nD τ sig) → Buf (Elt Ideal) ℓ) (c : Dev nD)

/-- The array the kernel writes is the reference's. -/
theorem out_arr_eq (hq : ∀ i, qA m c i ≠ ⊤ ∧ qA m c i ≠ ⊥) (hk : ∀ i, kAr m c i ≠ ⊤ ∧ kAr m c i ≠ ⊥) :
    outArr m c = Cert.Reference22Ideal.Read.val_main_v26 (F := Ideal) (qA m c) (kAr m c) (vA m c) := by
  obtain ⟨r, hr⟩ := ofBits_scale
  funext x
  obtain ⟨b, i, hb⟩ := split 2176 (by decide) (x 0)
  obtain ⟨H, d, hH⟩ := split 128 (by decide) (x 1)
  have hx0 : (x 0).val < 4352 := (x 0).isLt
  have hx1 : (x 1).val < 1024 := (x 1).isLt
  obtain ⟨g, h, rfl⟩ : ∃ g : Fin 4, ∃ h : ℕ, H = h * 4 + g.val := ⟨⟨H % 4, by omega⟩, H / 4, by dsimp only; omega⟩
  have hh : h < 2 := by omega
  have hbb : b < 2 := by omega
  rw [outArr_at m c x b (h * 4 + g.val) i.val d i.isLt hb hH,
    show x = ix2 ⟨b * 2176 + i.val, by omega⟩ ⟨(h * 4 + g.val) * 128 + d.val, by omega⟩ from ix2_of x _ _ hb hH]
  refine Eq.trans ?_ (Reference22Ideal.Forward.result_apply (qA m c) (kAr m c) (vA m c) ⟨b, hbb⟩ ⟨h, hh⟩ g i d).symm
  unfold outRow
  rw [show (h * 4 + g.val) / 4 = h by omega, show KernelIdeal.Block.scale = (r : EReal) from hr]
  exact kattend_eq (n := 2064) (m := 112) (fun _ => at2_finite hq _ _) (fun _ _ => at2_finite hk _ _) _ d

end Cert.Kernel22Ideal.Forward

end
-- ==== Proof.MlaForward.lean ====
/- The latent attention of the forward pass: the kernel's array is the reference's where the queries and the keys are finite. -/
module

public import proofs.«01_k».proof.Proof.Gen.Kernel23Ideal.Value
public import proofs.«01_k».proof.Proof.Gen.Reference23Ideal.Read
public import proofs.«01_k».proof.Proof.Attend
public import proofs.«01_k».proof.Proof.MlaEquation

@[expose] public section

set_option maxRecDepth 16384

noncomputable section

namespace Cert.Kernel23Ideal.Forward

open Cert.Kernel23Ideal Cert.Kernel23Ideal.Gen Cert.Kernel23Ideal.Value Cert.Attn
open Idealize.ShloMosaic Idealize.ShloMosaic.TcCoe Idealize.SL.Sem
open Cert.KernelIdeal.Block (row slt_word)
open Cert.Kernel2Ideal.Block (scale)
open Cert.KernelIdeal.Out (zero2)
open Cert.Equation (split ix2_of)

/-! ## What one grid point computes -/

theorem pay_apply (q : Vec Ideal S1088x256 .bf16) (k : Vec Ideal S2176x256 .bf16) (v : Vec Ideal S2176x128 .bf16) (p : Fin 1088) (e : Fin 128) :
    k0_pay1 q k v (ix2 p e) = kattend (n := 2064) (m := 112) scale (row k) (row v) (row q p) e := by
  have hs : ∀ x : Fin 2176, Scalar.select (IntOp.cmpi CmpIPredicate.slt (BitVec.ofNat 32 x.val) 2064#32)
      ((∑ y, q (ix2 p y) * k (ix2 x y)) * Ideal.ofBits FTy.f32 1033096506#32) (Named.named (F := Ideal) (φ := .f32) κ "mask" 4048155338#32 : EReal)
      = masked (n := 2064) (m := 112) (scores scale (row k) (row q p)) x := by
    intro x
    rw [slt_word x.val x.isLt]
    unfold masked scores row
    split <;> rfl
  pointwise [k0_pay1]
  simp only [hs]
  rw [show Ideal.ofBits FTy.f32 4286578688#32 = ⊥ from ofBits_neg_inf]
  rfl

variable (m : (ℓ : Loc nD τ sig) → Buf (Elt Ideal) ℓ) (c : Dev nD)

abbrev qA : S4352x1536.Idx → EReal := m ((c : Thread nD τ).loc main_arg0)
abbrev kAr : S4352x1536.Idx → EReal := m ((c : Thread nD τ).loc main_arg1)
abbrev vA : S4352x1024.Idx → EReal := m ((c : Thread nD τ).loc main_arg2)

theorem index0 : ∀ t : Fin grid0.N, win0_0.index t 0 = t.val / 16 * 2 + t.val % 2 ∧ win0_0.index t 1 = t.val / 2 % 8 := by decide +kernel
theorem index1 : ∀ t : Fin grid0.N, win0_1.index t 0 = t.val / 16 ∧ win0_1.index t 1 = t.val / 2 % 8 := by decide +kernel
theorem index2 : ∀ t : Fin grid0.N, win0_2.index t 0 = t.val / 16 ∧ win0_2.index t 1 = t.val / 2 % 8 := by decide +kernel
theorem index3 : ∀ t : Fin grid0.N, win0_3.index t 0 = t.val / 16 * 2 + t.val % 2 ∧ win0_3.index t 1 = t.val / 2 % 8 := by decide +kernel

theorem lt32 (t : Fin cfg0.N) : t.val < 32 := lt_of_lt_of_eq t.isLt (show cfg0.N = 32 from N_0)

/-- The queries and keys that the host hands to the kernel: each head's 192 columns, then 64 of zeros. -/
def widened (x : S4352x1536.Idx → EReal) : S4352x2048.Idx → EReal :=
  shapeCast S4352x2048 (pad S4352x8x256 ![0, 0, 0] ![0, 0, 64] ![0, 0, 0] (shapeCast S4352x8x192 x shapeCasts_S4352x1536_S4352x8x192)
    (sitofp (F := Ideal) .bf16 (constantI S_ 32 0#32)) pads_S4352x8x192_S4352x8x256_000_000_0640 h_S_) shapeCasts_S4352x8x256_S4352x2048

theorem V_slots : V m c main_v2 = widened (qA m c) ∧ V m c main_v5 = widened (kAr m c) := by
  constructor
  all_goals
    unfold V
    simp only [hostOps0, hostOps0_1, hostOps0_2, hostOps0_3, hostOps0_4, List.flatten_cons, List.flatten_nil, List.append_nil,
      List.cons_append, List.nil_append]
    after_results
    rfl

theorem widened_at (x : S4352x1536.Idx → EReal) (b : Fin 2) (i : Fin 2176) (h : Fin 8) (d : Fin 256) :
    widened x (ix2 ⟨b.val * 2176 + i.val, by omega⟩ ⟨h.val * 256 + d.val, by omega⟩)
      = widen (n := 192) (m := 64) (headRow x b.val h.val i.val) d := Kernel2Ideal.Arrays.widened_apply x b i h d

/-- A point's block of queries. -/
theorem block_q (t : Fin cfg0.N) (p : Fin 1088) :
    row (iblk m c 0 t) p = widen (n := 192) (m := 64) (headRow (qA m c) (t.val / 16) (t.val / 2 % 8) (t.val % 2 * 1088 + p.val)) := by
  have ht := lt32 t
  funext d
  refine Eq.trans ?_ (widened_at (qA m c) ⟨t.val / 16, by omega⟩ ⟨t.val % 2 * 1088 + p.val, by omega⟩ ⟨t.val / 2 % 8, by omega⟩ d)
  rw [← (V_slots m c).1]
  unfold row iblk
  rw [View.read_apply]
  refine congrArg (V m c main_v2) (funext fun a => Fin.ext ?_)
  match a with
  | ⟨0, _⟩ => show win0_0.index t 0 * 1088 + 1 * p.val = t.val / 16 * 2176 + (t.val % 2 * 1088 + p.val); rw [(index0 t).1]; omega
  | ⟨1, _⟩ => show win0_0.index t 1 * 256 + 1 * d.val = t.val / 2 % 8 * 256 + d.val; rw [(index0 t).2]; omega

/-- A point's block of keys. -/
theorem block_k (t : Fin cfg0.N) :
    row (iblk m c 1 t) = fun j : Fin 2176 => widen (n := 192) (m := 64) (headRow (kAr m c) (t.val / 16) (t.val / 2 % 8) j.val) := by
  have ht := lt32 t
  funext j d
  refine Eq.trans ?_ (widened_at (kAr m c) ⟨t.val / 16, by omega⟩ j ⟨t.val / 2 % 8, by omega⟩ d)
  rw [← (V_slots m c).2]
  unfold row iblk
  rw [View.read_apply]
  refine congrArg (V m c main_v5) (funext fun a => Fin.ext ?_)
  match a with
  | ⟨0, _⟩ => show win0_1.index t 0 * 2176 + 1 * j.val = t.val / 16 * 2176 + j.val; rw [(index1 t).1]; omega
  | ⟨1, _⟩ => show win0_1.index t 1 * 256 + 1 * d.val = t.val / 2 % 8 * 256 + d.val; rw [(index1 t).2]; omega

/-- A point's block of values. -/
theorem block_v (t : Fin cfg0.N) : row (iblk m c 2 t) = fun j : Fin 2176 => headRow (D := 128) (vA m c) (t.val / 16) (t.val / 2 % 8) j.val := by
  have ht := lt32 t
  funext j d
  unfold headRow
  rw [at2_eq _ (show t.val / 16 * 2176 + j.val < 4352 by omega) (by omega)]
  unfold row iblk
  rw [View.read_apply]
  show V m c main_arg2 _ = _
  rw [V_main_arg2]
  refine congrArg (vA m c) (funext fun a => Fin.ext ?_)
  match a with
  | ⟨0, _⟩ => show win0_2.index t 0 * 2176 + 1 * j.val = t.val / 16 * 2176 + j.val; rw [(index2 t).1]; omega
  | ⟨1, _⟩ => show win0_2.index t 1 * 128 + 1 * d.val = t.val / 2 % 8 * 128 + d.val; rw [(index2 t).2]; omega

/-! ## The array -/

/-- One head's row, as the kernel computes it. -/
def outRow (b h i : ℕ) (e : Fin 128) : EReal :=
  kattend (n := 2064) (m := 112) scale (fun j : Fin 2176 => widen (n := 192) (m := 64) (headRow (kAr m c) b h j.val))
    (fun j : Fin 2176 => headRow (D := 128) (vA m c) b h j.val) (widen (n := 192) (m := 64) (headRow (qA m c) b h i)) e

/-- The array the kernel writes. -/
def outArr : S4352x1024.Idx → EReal := fun x =>
  outRow m c ((x 0).val / 2176) ((x 1).val / 128) ((x 0).val % 2176) ⟨(x 1).val % 128, Nat.mod_lt _ (by decide)⟩

/-- Its entries by sequence, head, row and column. -/
theorem outArr_at (x : S4352x1024.Idx) (b h i : ℕ) (e : Fin 128) (hi : i < 2176) (h0 : (x 0).val = b * 2176 + i)
    (h1 : (x 1).val = h * 128 + e.val) : outArr m c x = outRow m c b h i e := by
  unfold outArr
  congr 1
  · omega
  · omega
  · omega
  · exact Fin.ext (by dsimp only; omega)

/-- What a point writes back. -/
theorem out_eq (q : Vec Ideal S1088x256 .bf16) (k : Vec Ideal S2176x256 .bf16) (v : Vec Ideal S2176x128 .bf16) : out0_3 q k v = k0_pay1 q k v := by
  unfold out0_3
  rw [View.canon_unit_zero zero2]
  simp only [View.readAt_eq_ld, View.ld_unit_zero (S := S1088x256) zero2, View.ld_unit_zero (S := S2176x256) zero2,
    View.ld_unit_zero (S := S2176x128) zero2]

theorem final : (dats m 0 c).arrAt 3 cfg0.N = outArr m c := by
  refine (dats m 0 c).arrAt_eq_of_cover 3 (outArr m c) (fun t _ => ?_) fun i => ?_
  · have ht := lt32 t
    rw [flushed3, out_eq]
    funext y
    rw [View.read_apply]
    obtain ⟨p, e, rfl⟩ : ∃ p e, y = ix2 p e := ⟨_, _, eq_ix2 y⟩
    refine (pay_apply _ _ _ p e).trans ?_
    rw [block_q, block_k, block_v, cast_eq]
    refine Eq.trans ?_ (outArr_at m c _ (t.val / 16) (t.val / 2 % 8) (t.val % 2 * 1088 + p.val) e (by omega) ?_ ?_).symm
    · rfl
    · show win0_3.index t 0 * 1088 + 1 * p.val = _
      rw [(index3 t).1]
      omega
    · show win0_3.index t 1 * 128 + 1 * e.val = _
      rw [(index3 t).2]
      omega
  · obtain ⟨x, y, rfl⟩ : ∃ x y, i = ix2 x y := ⟨_, _, eq_ix2 i⟩
    have hx := x.isLt
    have hy := y.isLt
    have hN : cfg0.N = 32 := N_0
    have h : x.val / 2176 * 16 + y.val / 128 * 2 + x.val / 1088 % 2 < cfg0.N := by omega
    refine ⟨⟨_, h⟩, flush0_3 _, ?_⟩
    show ix2 x y ∈ ((View.whole main_v6).slice (win0_3.rect ⟨_, h⟩)).set
    rw [View.set_slice_whole, Rect.mem_set_unit]
    intro a
    match a with
    | ⟨0, _⟩ =>
      show win0_3.index ⟨_, h⟩ 0 * 1088 ≤ x.val ∧ x.val < win0_3.index ⟨_, h⟩ 0 * 1088 + 1088
      rw [(index3 ⟨_, h⟩).1]; dsimp only; omega
    | ⟨1, _⟩ =>
      show win0_3.index ⟨_, h⟩ 1 * 128 ≤ y.val ∧ y.val < win0_3.index ⟨_, h⟩ 1 * 128 + 128
      rw [(index3 ⟨_, h⟩).2]; dsimp only; omega

end Cert.Kernel23Ideal.Forward

/-! ## The reference -/

namespace Cert.Reference23Ideal.Forward

open Idealize.ShloMosaic Cert.Reference23Ideal.Read Cert.Attn
open Cert.Kernel2Ideal.Block (scale)

variable (x0 x1 : (⟨S4352x1536, .bf16⟩ : BufTy).Contents (Elt Ideal)) (x2 : (⟨S4352x1024, .bf16⟩ : BufTy).Contents (Elt Ideal))

abbrev Q (b h i : ℕ) : Fin 192 → EReal := headRow (R := 4352) (C := 1536) x0 b h i
abbrev K (b h : ℕ) (j : Fin 2064) : Fin 192 → EReal := headRow (R := 4352) (C := 1536) x1 b h j.val
abbrev W (b h : ℕ) (j : Fin 2064) : Fin 128 → EReal := headRow (R := 4352) (C := 1024) x2 b h j.val

variable (b : Fin 2) (h : Fin 8) (i : Fin 2176) (j : Fin 2064) (d : Fin 192) (e : Fin 128)

/-- The arrays as the reference lays them out. -/
theorem q_apply : val_main_v3 (F := Ideal) x0 (ix5 b i h 0 d) = Q x0 b h i d := by
  unfold Q headRow
  rw [at2_eq _ (show b.val * 2176 + i.val < 4352 by omega) (show h.val * 192 + d.val < 1536 by omega)]
  pointwise [val_main_v3, val_main_v0]

theorem k_apply : val_main_v5 (F := Ideal) x1 (ix4 b j h d) = K x1 b h j d := by
  unfold K headRow
  rw [at2_eq _ (show b.val * 2176 + j.val < 4352 by omega) (show h.val * 192 + d.val < 1536 by omega)]
  pointwise [val_main_v5, val_main_v4, val_main_v1]

theorem v_apply : val_main_v7 (F := Ideal) x2 (ix4 b j h e) = W x2 b h j e := by
  unfold W headRow
  rw [at2_eq _ (show b.val * 2176 + j.val < 4352 by omega) (show h.val * 128 + e.val < 1024 by omega)]
  pointwise [val_main_v7, val_main_v6, val_main_v2]

/-- The scores. -/
theorem score_apply : val_main_v11 (F := Ideal) x0 x1 (ix5 b h 0 i j) = scores scale (K x1 b h) (Q x0 b h i) j := by
  pointwise [val_main_v11, val_main_v10, val_main_cst, val_main_v9, val_main_v8]
  simp only [q_apply, k_apply]
  unfold scores
  simp only [mul_comm]

/-- Their maximum. -/
theorem max_apply : val_main_v12 (F := Ideal) x0 x1 (ix4 b h 0 i) = rmax (scores scale (K x1 b h) (Q x0 b h i)) := by
  have hs : (fun j => scores scale (K x1 b h) (Q x0 b h i) j) = fun j => val_main_v11 (F := Ideal) x0 x1 (ix5 b h 0 i j) :=
    funext fun j => (score_apply x0 x1 b h i j).symm
  unfold rmax
  rw [show scores scale (K x1 b h) (Q x0 b h i) = _ from hs]
  unfold val_main_v12
  generalize val_main_v11 (F := Ideal) x0 x1 = y
  refine (hostMax_last y _ _ _ b h 0 i).trans ?_
  rw [show val_main_cst_0 (F := Ideal) (Shape.Idx.first Gen.h_S_) = ⊥ from ofBits_neg_inf]

/-- The weights before they are normalised. -/
theorem exp_apply : val_main_v18 (F := Ideal) x0 x1 (ix5 b h 0 i j) = rexp (scores scale (K x1 b h) (Q x0 b h i)) j := by
  unfold rexp
  rw [← score_apply, ← max_apply, val_main_v18_apply, val_main_v17_apply, val_main_v16_apply, val_main_v15_apply, val_main_v14_apply,
    val_main_v13_apply, val_main_cst_1_apply]
  have e : idx_main_v15 (idx_main_v16 (ix5 b h 0 i j)) = ix4 b h 0 i := by
    funext a; match a with | ⟨0, _⟩ => rfl | ⟨1, _⟩ => rfl | ⟨2, _⟩ => rfl | ⟨3, _⟩ => rfl
  rw [e]
  generalize val_main_v11 (F := Ideal) x0 x1 (ix5 b h 0 i j) = y
  generalize val_main_v12 (F := Ideal) x0 x1 (ix4 b h 0 i) = z
  show Ideal.exp (y - max (Ideal.ofBits .f32 0xFF800000#32) z) = _
  rw [ofBits_neg_inf, max_eq_right bot_le]

/-- The normalised weights. -/
theorem weight_apply : val_main_v22 (F := Ideal) x0 x1 (ix5 b h 0 i j) = weight scale (K x1 b h) (Q x0 b h i) j := by
  pointwise [val_main_v22, val_main_v21, val_main_v20, val_main_v19, val_main_cst_2]
  simp only [exp_apply]
  rfl

/-- The result. -/
theorem result_apply : val_main_v26 (F := Ideal) x0 x1 x2 (ix2 ⟨b.val * 2176 + i.val, by omega⟩ ⟨h.val * 128 + e.val, by omega⟩)
    = attend scale (K x1 b h) (W x2 b h) (Q x0 b h i) e := by
  pointwise [val_main_v26, val_main_v25, val_main_v24, val_main_v23]
  simp only [weight_apply, v_apply]
  rfl

end Cert.Reference23Ideal.Forward

/-! ## The equation -/

namespace Cert.Kernel23Ideal.Forward

open Cert.Kernel23Ideal Cert.Attn
open Idealize.ShloMosaic Idealize.ShloMosaic.TcCoe Idealize.SL.Sem
open Cert.Equation (split ix2_of)

variable (m : (ℓ : Loc nD τ sig) → Buf (Elt Ideal) ℓ) (c : Dev nD)

/-- One row: widening the queries and the keys changes nothing, nor does the padding. -/
theorem row_eq (r : ℝ) (K : Fin (2064 + 112) → Fin 192 → EReal) (V : Fin (2064 + 112) → Fin 128 → EReal) (q : Fin 192 → EReal)
    (hq : Finite q) (hK : ∀ j, Finite (K j)) (e : Fin 128) :
    kattend (r : EReal) (fun j => widen (m := 64) (K j)) V (widen (m := 64) q) e = attend (r : EReal) (front K) (front V) q e :=
  (kattend_eq (widen_finite hq) (fun j => widen_finite (hK j)) V e).trans (attend_widen (w := 64) (r : EReal) (front K) (front V) q e)

/-- The array the kernel writes is the reference's. -/
theorem out_arr_eq (hq : ∀ i, qA m c i ≠ ⊤ ∧ qA m c i ≠ ⊥) (hk : ∀ i, kAr m c i ≠ ⊤ ∧ kAr m c i ≠ ⊥) :
    outArr m c = Cert.Reference23Ideal.Read.val_main_v26 (F := Ideal) (qA m c) (kAr m c) (vA m c) := by
  obtain ⟨r, hr⟩ := ofBits_scale_mla
  funext x
  obtain ⟨b, i, hb⟩ := split 2176 (by decide) (x 0)
  obtain ⟨h, e, hH⟩ := split 128 (by decide) (x 1)
  have hx0 : (x 0).val < 4352 := (x 0).isLt
  have hx1 : (x 1).val < 1024 := (x 1).isLt
  have hh : h < 8 := by omega
  have hbb : b < 2 := by omega
  rw [outArr_at m c x b h i.val e i.isLt hb hH,
    show x = ix2 ⟨b * 2176 + i.val, by omega⟩ ⟨h * 128 + e.val, by omega⟩ from ix2_of x _ _ hb hH]
  refine Eq.trans ?_ (Reference23Ideal.Forward.result_apply (qA m c) (kAr m c) (vA m c) ⟨b, hbb⟩ ⟨h, hh⟩ i e).symm
  unfold outRow
  rw [show Kernel2Ideal.Block.scale = (r : EReal) from hr]
  exact row_eq r (fun j : Fin 2176 => headRow (kAr m c) b h j.val) (fun j : Fin 2176 => headRow (vA m c) b h j.val) (headRow (qA m c) b h i.val)
    (fun _ => at2_finite hq _ _) (fun _ _ => at2_finite hk _ _) e

end Cert.Kernel23Ideal.Forward

end
-- ==== Proof.lean ====
/- The certificate: the gradients' kernels run, and over the reals they compute the derivatives. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Read
public import proofs.«01_k».proof.Proof.Gen.Kernel2.Frame
public import proofs.«01_k».proof.Proof.Gen.Kernel2Ideal.Value
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Read
public import proofs.«01_k».proof.Proof.Gen.Kernel9.Frame
public import proofs.«01_k».proof.Proof.Gen.Kernel9Ideal.Value
public import proofs.«01_k».proof.Proof.Gen.Reference9Ideal.Read
public import proofs.«01_k».proof.Proof.Gen.Kernel10.Frame
public import proofs.«01_k».proof.Proof.Gen.Kernel10Ideal.Value
public import proofs.«01_k».proof.Proof.Gen.Reference10Ideal.Read
public import proofs.«01_k».proof.Proof.Gen.Kernel11.Frame
public import proofs.«01_k».proof.Proof.Gen.Kernel11Ideal.Value
public import proofs.«01_k».proof.Proof.Gen.Reference11Ideal.Read
public import proofs.«01_k».proof.Proof.Gen.Kernel12.Frame
public import proofs.«01_k».proof.Proof.Gen.Kernel12Ideal.Value
public import proofs.«01_k».proof.Proof.Gen.Reference12Ideal.Read
public import proofs.«01_k».proof.Proof.Gen.Kernel13.Frame
public import proofs.«01_k».proof.Proof.Gen.Kernel13Ideal.Value
public import proofs.«01_k».proof.Proof.Gen.Reference13Ideal.Read
public import proofs.«01_k».proof.Proof.Gen.Kernel14.Frame
public import proofs.«01_k».proof.Proof.Gen.Kernel14Ideal.Value
public import proofs.«01_k».proof.Proof.Gen.Reference14Ideal.Read
public import proofs.«01_k».proof.Proof.Gen.Kernel15.Frame
public import proofs.«01_k».proof.Proof.Gen.Kernel15Ideal.Value
public import proofs.«01_k».proof.Proof.Gen.Reference15Ideal.Read
public import proofs.«01_k».proof.Proof.Gen.Kernel16.Frame
public import proofs.«01_k».proof.Proof.Gen.Kernel16Ideal.Value
public import proofs.«01_k».proof.Proof.Gen.Reference16Ideal.Read
public import proofs.«01_k».proof.Proof.Gen.Kernel17.Frame
public import proofs.«01_k».proof.Proof.Gen.Kernel17Ideal.Value
public import proofs.«01_k».proof.Proof.Gen.Reference17Ideal.Read
public import proofs.«01_k».proof.Proof.Gen.Kernel18.Frame
public import proofs.«01_k».proof.Proof.Gen.Kernel18Ideal.Value
public import proofs.«01_k».proof.Proof.Gen.Reference18Ideal.Read
public import proofs.«01_k».proof.Proof.Gen.Kernel19.Frame
public import proofs.«01_k».proof.Proof.Gen.Kernel19Ideal.Value
public import proofs.«01_k».proof.Proof.Gen.Reference19Ideal.Read
public import proofs.«01_k».proof.Proof.Gen.Kernel20.Frame
public import proofs.«01_k».proof.Proof.Gen.Kernel20Ideal.Value
public import proofs.«01_k».proof.Proof.Gen.Reference20Ideal.Read
public import proofs.«01_k».proof.Proof.Gen.Kernel21.Frame
public import proofs.«01_k».proof.Proof.Gen.Kernel21Ideal.Value
public import proofs.«01_k».proof.Proof.Gen.Reference21Ideal.Read
public import proofs.«01_k».proof.Proof.Gen.Kernel22.Frame
public import proofs.«01_k».proof.Proof.Gen.Kernel22Ideal.Value
public import proofs.«01_k».proof.Proof.Gen.Reference22Ideal.Read
public import proofs.«01_k».proof.Proof.Gen.Kernel23.Frame
public import proofs.«01_k».proof.Proof.Gen.Kernel23Ideal.Value
public import proofs.«01_k».proof.Proof.Gen.Reference23Ideal.Read
public import proofs.«01_k».proof.Proof.Gen.Kernel24.Frame
public import proofs.«01_k».proof.Proof.Gen.Kernel24Ideal.Value
public import proofs.«01_k».proof.Proof.Gen.Reference24Ideal.Read
public import proofs.«01_k».proof.Proof.Gen.Kernel25.Frame
public import proofs.«01_k».proof.Proof.Gen.Kernel25Ideal.Value
public import proofs.«01_k».proof.Proof.Gen.Reference25Ideal.Read
public import proofs.«01_k».proof.Proof.Gen.Kernel26.Frame
public import proofs.«01_k».proof.Proof.Gen.Kernel26Ideal.Value
public import proofs.«01_k».proof.Proof.Gen.Reference26Ideal.Read
public import proofs.«01_k».proof.Proof.ConvRef
public import proofs.«01_k».proof.Proof.MergeRef
public import proofs.«01_k».proof.Proof.NormRef
public import proofs.«01_k».proof.Proof.Finite
public import proofs.«01_k».proof.Proof.LayerRef
public import proofs.«01_k».proof.Proof.ConvInput
public import proofs.«01_k».proof.Proof.Equation
public import proofs.«01_k».proof.Proof.MlaEquation
public import proofs.«01_k».proof.Proof.FfnAct
public import proofs.«01_k».proof.Proof.FfnDownWeights
public import proofs.«01_k».proof.Proof.Swiglu
public import proofs.«01_k».proof.Proof.FfnGate
public import proofs.«01_k».proof.Proof.FfnUp
public import proofs.«01_k».proof.Proof.FfnUpWeights
public import proofs.«01_k».proof.Proof.InputGrad
public import proofs.«01_k».proof.Proof.InputWeights
public import proofs.«01_k».proof.Proof.MixInput
public import proofs.«01_k».proof.Proof.MixWeights
public import proofs.«01_k».proof.Proof.BranchWeights
public import proofs.«01_k».proof.Proof.BranchInput
public import proofs.«01_k».proof.Proof.InputForward
public import proofs.«01_k».proof.Proof.FfnForward
public import proofs.«01_k».proof.Proof.FfnDown
public import proofs.«01_k».proof.Proof.BranchForward
public import proofs.«01_k».proof.Proof.MixForward
public import proofs.«01_k».proof.Proof.GqaForward
public import proofs.«01_k».proof.Proof.MlaForward
public import Idealize.ShloMosaic.Adequacy
public import Idealize.ShloMosaic.Init

@[expose] public section

noncomputable section

namespace Cert.Proof

open Idealize.ShloMosaic Idealize.ShloMosaic.TcCoe Idealize.SL.Sem

/-- The reference's run, and its counters. -/
theorem quiescent_ReferenceIdeal : quiescent_ReferenceIdeal (hReferenceIdeal := ReferenceIdeal.Gen.facts) := fun m ρ _ =>
  (θ_run _ _ _).mono (fun r h => ⟨fun c => (h c).2.2.2, sem_eq_zero_of_no_sems rfl r.2⟩) (ReferenceIdeal.Value.run m ρ)

/-- The kernel and the derivative agree. -/
theorem algebraic : algebraic_KernelIdeal_ReferenceIdeal_pre_finite_scores (hKernelIdeal := KernelIdeal.Gen.facts)
    (hReferenceIdeal := ReferenceIdeal.Gen.facts) (hPre_finite_scores := Pre_finite_scores.facts) := fun m g m' g' hpre hagree =>
  ⟨fun c => KernelIdeal.Arrays.dqArr m c, fun c => KernelIdeal.Arrays.dkArr m c, fun c => KernelIdeal.Arrays.dvArr m c,
    (θ_run _ _ _).mono (fun r h c => by
      obtain ⟨h0, h1, h2, h3⟩ := h c
      exact ⟨h0.trans (KernelIdeal.Arrays.final_dq m c), h1.trans (KernelIdeal.Arrays.final_dk m c),
        h2.trans (KernelIdeal.Arrays.final_dv m c), h3⟩) (KernelIdeal.Value.run_blocks m g),
    (θ_run _ _ _).mono (fun r h c => by
      haveI := Pre_finite_scores.facts
      obtain ⟨h0, h1, h2, h3⟩ := h c
      obtain ⟨a0, a1, a2, a3⟩ := hagree c
      obtain ⟨hq, hk⟩ := Pre_finite_scores.finite _ _ _ _ (hpre c)
      refine ⟨h0.trans ?_, h1.trans ?_, h2.trans ?_, h3⟩
      · rw [ReferenceIdeal.Read.val_main_v80_eq, a0, a1, a2, a3]
        exact (Equation.dq_eq m c hq hk).symm
      · rw [ReferenceIdeal.Read.val_main_v77_eq, a0, a1, a2, a3]
        exact (Equation.dk_eq m c hq hk).symm
      · rw [ReferenceIdeal.Read.val_main_v74_eq, a0, a1, a3]
        exact (Equation.dv_eq m c hq hk).symm) (ReferenceIdeal.Value.run m' g')⟩

/-- The latent attention's reference: its run, and its counters. -/
theorem quiescent_Reference2Ideal : quiescent_Reference2Ideal (hReference2Ideal := Reference2Ideal.Gen.facts) := fun m ρ _ =>
  (θ_run _ _ _).mono (fun r h => ⟨fun c => (h c).2.2.2, sem_eq_zero_of_no_sems rfl r.2⟩) (Reference2Ideal.Value.run m ρ)

/-- The latent attention's kernel and the derivative agree. -/
theorem algebraic2 : algebraic_Kernel2Ideal_Reference2Ideal_pre_finite_scores2 (hKernel2Ideal := Kernel2Ideal.Gen.facts)
    (hReference2Ideal := Reference2Ideal.Gen.facts) (hPre_finite_scores2 := Pre_finite_scores2.facts) := fun m g m' g' hpre hagree =>
  ⟨fun c => Kernel2Ideal.Arrays.dqArr m c, fun c => Kernel2Ideal.Arrays.dkArr m c, fun c => Kernel2Ideal.Arrays.dvArr m c,
    (θ_run _ _ _).mono (fun r h c => by
      obtain ⟨h0, h1, h2, h3⟩ := h c
      exact ⟨h0.trans (Kernel2Ideal.Arrays.final_dq m c), h1.trans (Kernel2Ideal.Arrays.final_dk m c),
        h2.trans (Kernel2Ideal.Arrays.final_dv m c), h3⟩) (Kernel2Ideal.Value.run_blocks m g),
    (θ_run _ _ _).mono (fun r h c => by
      haveI := Pre_finite_scores2.facts
      obtain ⟨h0, h1, h2, h3⟩ := h c
      obtain ⟨a0, a1, a2, a3⟩ := hagree c
      obtain ⟨hq, hk⟩ := Pre_finite_scores2.finite _ _ _ _ (hpre c)
      refine ⟨h0.trans ?_, h1.trans ?_, h2.trans ?_, h3⟩
      · rw [Reference2Ideal.Read.val_main_v84_eq, a0, a1, a2, a3]
        exact (MlaEquation.dq_eq m c hq hk).symm
      · rw [Reference2Ideal.Read.val_main_v87_eq, a0, a1, a2, a3]
        exact (MlaEquation.dk_eq m c hq hk).symm
      · rw [Reference2Ideal.Read.val_main_v75_eq, a0, a1, a3]
        exact (MlaEquation.dv_eq m c hq hk).symm) (Reference2Ideal.Value.run m' g')⟩

/-- The reference's run and counters, of the activation's gradient. -/
theorem quiescent_Reference3Ideal : quiescent_Reference3Ideal (hReference3Ideal := Reference3Ideal.Gen.facts) := fun m ρ _ =>
  (θ_run _ _ _).mono (fun r h => ⟨fun c => (h c).2, sem_eq_zero_of_no_sems rfl r.2⟩) (Reference3Ideal.Value.run m ρ)

/-- Kernel and reference agree on the activation's gradient. -/
theorem algebraic3 : algebraic_Kernel3Ideal_Reference3Ideal (hKernel3Ideal := Kernel3Ideal.Gen.facts)
    (hReference3Ideal := Reference3Ideal.Gen.facts) := fun m g m' g' _ hagree =>
  ⟨_, (θ_run _ _ _).mono (fun r h c => ⟨(h c).1.trans (Kernel3Ideal.Product.final_eq m c), (h c).2⟩) (Kernel3Ideal.Value.run_blocks m g),
    (θ_run _ _ _).mono (fun r h c => by
      obtain ⟨a0, a1⟩ := hagree c
      refine ⟨(h c).1.trans ?_, (h c).2⟩
      rw [Reference3Ideal.Read.val_main_v2_eq, a0, a1]) (Reference3Ideal.Value.run m' g')⟩

/-- The reference's run and counters, of the down weights' gradient. -/
theorem quiescent_Reference4Ideal : quiescent_Reference4Ideal (hReference4Ideal := Reference4Ideal.Gen.facts) := fun m ρ _ =>
  (θ_run _ _ _).mono (fun r h => ⟨fun c => (h c).2, sem_eq_zero_of_no_sems rfl r.2⟩) (Reference4Ideal.Value.run m ρ)

/-- Kernel and reference agree on the down weights' gradient. -/
theorem algebraic4 : algebraic_Kernel4Ideal_Reference4Ideal (hKernel4Ideal := Kernel4Ideal.Gen.facts)
    (hReference4Ideal := Reference4Ideal.Gen.facts) := fun m g m' g' _ hagree =>
  ⟨_, (θ_run _ _ _).mono (fun r h c => ⟨(h c).1.trans (Kernel4Ideal.Product.final_eq m c), (h c).2⟩) (Kernel4Ideal.Value.run_blocks m g),
    (θ_run _ _ _).mono (fun r h c => by
      obtain ⟨a0, a1⟩ := hagree c
      refine ⟨(h c).1.trans ?_, (h c).2⟩
      rw [Reference4Ideal.Read.val_main_v4_eq, a0, a1]) (Reference4Ideal.Value.run m' g')⟩

/-- The reference's run and counters, of the gated activation's gradients. -/
theorem quiescent_Reference5Ideal : quiescent_Reference5Ideal (hReference5Ideal := Reference5Ideal.Gen.facts) := fun m ρ _ =>
  (θ_run _ _ _).mono (fun r h => ⟨fun c => (h c).2.2, sem_eq_zero_of_no_sems rfl r.2⟩) (Reference5Ideal.Value.run m ρ)

/-- Kernel and reference agree on the gated activation's gradients. -/
theorem algebraic5 : algebraic_Kernel5Ideal_Reference5Ideal_pre_finite_product (hKernel5Ideal := Kernel5Ideal.Gen.facts)
    (hReference5Ideal := Reference5Ideal.Gen.facts) (hPre_finite_product := Pre_finite_product.facts) := fun m g m' g' hpre hagree =>
  ⟨_, _, Kernel5Ideal.Value.run m g,
    (θ_run _ _ _).mono (fun r h c => by
      haveI := Pre_finite_product.facts
      obtain ⟨h0, h1, h2⟩ := h c
      obtain ⟨a0, a1, a2⟩ := hagree c
      refine ⟨h0.trans ?_, h1.trans ?_, h2⟩
      · rw [Reference5Ideal.Read.val_main_v7_eq, a0, a1, a2]
        exact (Kernel5Ideal.Swiglu.dgate_eq _ _ _ (Pre_finite_product.finite _ _ _ (hpre c))).symm
      · rw [Reference5Ideal.Read.val_main_v8_eq, a0, a2]
        exact (Kernel5Ideal.Swiglu.dup_eq _ _).symm) (Reference5Ideal.Value.run m' g')⟩

/-- The reference's run and counters, of the gradient that the gate's branch sends back. -/
theorem quiescent_Reference6Ideal : quiescent_Reference6Ideal (hReference6Ideal := Reference6Ideal.Gen.facts) := fun m ρ _ =>
  (θ_run _ _ _).mono (fun r h => ⟨fun c => (h c).2, sem_eq_zero_of_no_sems rfl r.2⟩) (Reference6Ideal.Value.run m ρ)

/-- Kernel and reference agree on the gradient that the gate's branch sends back. -/
theorem algebraic6 : algebraic_Kernel6Ideal_Reference6Ideal (hKernel6Ideal := Kernel6Ideal.Gen.facts)
    (hReference6Ideal := Reference6Ideal.Gen.facts) := fun m g m' g' _ hagree =>
  ⟨_, (θ_run _ _ _).mono (fun r h c => ⟨(h c).1.trans (Kernel6Ideal.Product.final_eq m c), (h c).2⟩) (Kernel6Ideal.Value.run_blocks m g),
    (θ_run _ _ _).mono (fun r h c => by
      obtain ⟨a0, a1⟩ := hagree c
      refine ⟨(h c).1.trans ?_, (h c).2⟩
      rw [Reference6Ideal.Read.val_main_v2_eq, a0, a1]) (Reference6Ideal.Value.run m' g')⟩

/-- The reference's run and counters, of the gradient that both branches send back. -/
theorem quiescent_Reference7Ideal : quiescent_Reference7Ideal (hReference7Ideal := Reference7Ideal.Gen.facts) := fun m ρ _ =>
  (θ_run _ _ _).mono (fun r h => ⟨fun c => (h c).2, sem_eq_zero_of_no_sems rfl r.2⟩) (Reference7Ideal.Value.run m ρ)

/-- Kernel and reference agree on the gradient that both branches send back. -/
theorem algebraic7 : algebraic_Kernel7Ideal_Reference7Ideal (hKernel7Ideal := Kernel7Ideal.Gen.facts)
    (hReference7Ideal := Reference7Ideal.Gen.facts) := fun m g m' g' _ hagree =>
  ⟨_, (θ_run _ _ _).mono (fun r h c => ⟨(h c).1.trans (Kernel7Ideal.Product.final_eq m c), (h c).2⟩) (Kernel7Ideal.Value.run_blocks m g),
    (θ_run _ _ _).mono (fun r h c => by
      obtain ⟨a0, a1, a2⟩ := hagree c
      refine ⟨(h c).1.trans ?_, (h c).2⟩
      rw [Reference7Ideal.Read.val_main_v3_eq, a0, a1, a2]) (Reference7Ideal.Value.run m' g')⟩

/-- The reference's run and counters, of the gate's and the up weights' gradient. -/
theorem quiescent_Reference8Ideal : quiescent_Reference8Ideal (hReference8Ideal := Reference8Ideal.Gen.facts) := fun m ρ _ =>
  (θ_run _ _ _).mono (fun r h => ⟨fun c => (h c).2, sem_eq_zero_of_no_sems rfl r.2⟩) (Reference8Ideal.Value.run m ρ)

/-- Kernel and reference agree on the gate's and the up weights' gradient. -/
theorem algebraic8 : algebraic_Kernel8Ideal_Reference8Ideal (hKernel8Ideal := Kernel8Ideal.Gen.facts)
    (hReference8Ideal := Reference8Ideal.Gen.facts) := fun m g m' g' _ hagree =>
  ⟨_, (θ_run _ _ _).mono (fun r h c => ⟨(h c).1.trans (Kernel8Ideal.Product.final_eq m c), (h c).2⟩) (Kernel8Ideal.Value.run_blocks m g),
    (θ_run _ _ _).mono (fun r h c => by
      obtain ⟨a0, a1⟩ := hagree c
      refine ⟨(h c).1.trans ?_, (h c).2⟩
      rw [Reference8Ideal.Read.val_main_v13_eq, a0, a1]) (Reference8Ideal.Value.run m' g')⟩

/-- The reference's run and counters, of the input projection's gradient. -/
theorem quiescent_Reference9Ideal : quiescent_Reference9Ideal (hReference9Ideal := Reference9Ideal.Gen.facts) := fun m ρ _ =>
  (θ_run _ _ _).mono (fun r h => ⟨fun c => (h c).2, sem_eq_zero_of_no_sems rfl r.2⟩) (Reference9Ideal.Value.run m ρ)

/-- Kernel and reference agree on the gradient that the input projection sends back. -/
theorem algebraic9 : algebraic_Kernel9Ideal_Reference9Ideal (hKernel9Ideal := Kernel9Ideal.Gen.facts)
    (hReference9Ideal := Reference9Ideal.Gen.facts) := fun m g m' g' _ hagree =>
  ⟨_, (θ_run _ _ _).mono (fun r h c => ⟨(h c).1.trans (Kernel9Ideal.Product.final_eq m c), (h c).2⟩) (Kernel9Ideal.Value.run_blocks m g),
    (θ_run _ _ _).mono (fun r h c => by
      obtain ⟨a0, a1⟩ := hagree c
      refine ⟨(h c).1.trans ?_, (h c).2⟩
      rw [Reference9Ideal.Read.val_main_v2_eq, a0, a1]) (Reference9Ideal.Value.run m' g')⟩

/-- The reference's run and counters, of the input weights' gradient. -/
theorem quiescent_Reference10Ideal : quiescent_Reference10Ideal (hReference10Ideal := Reference10Ideal.Gen.facts) := fun m ρ _ =>
  (θ_run _ _ _).mono (fun r h => ⟨fun c => (h c).2, sem_eq_zero_of_no_sems rfl r.2⟩) (Reference10Ideal.Value.run m ρ)

/-- Kernel and reference agree on the input weights' gradient. -/
theorem algebraic10 : algebraic_Kernel10Ideal_Reference10Ideal (hKernel10Ideal := Kernel10Ideal.Gen.facts)
    (hReference10Ideal := Reference10Ideal.Gen.facts) := fun m g m' g' _ hagree =>
  ⟨_, (θ_run _ _ _).mono (fun r h c => ⟨(h c).1.trans (Kernel10Ideal.Product.final_eq m c), (h c).2⟩) (Kernel10Ideal.Value.run_blocks m g),
    (θ_run _ _ _).mono (fun r h c => by
      obtain ⟨a0, a1⟩ := hagree c
      refine ⟨(h c).1.trans ?_, (h c).2⟩
      rw [Reference10Ideal.Read.val_main_v9_eq, a0, a1]) (Reference10Ideal.Value.run m' g')⟩

/-- The reference's run and counters, of the merge's gradients. -/
theorem quiescent_Reference11Ideal : quiescent_Reference11Ideal (hReference11Ideal := Reference11Ideal.Gen.facts) := fun m ρ _ =>
  (θ_run _ _ _).mono (fun r h => ⟨fun c => (h c).2.2.2.2.2.2.2.2.2, sem_eq_zero_of_no_sems rfl r.2⟩) (Reference11Ideal.Value.run m ρ)

/-- Kernel and reference agree on the merge's gradients: of the three branches, of their gates' logits and of the gates' biases. -/
theorem algebraic11 : algebraic_Kernel11Ideal_Reference11Ideal (hKernel11Ideal := Kernel11Ideal.Gen.facts)
    (hReference11Ideal := Reference11Ideal.Gen.facts) := fun m g m' g' _ hagree =>
  ⟨_, _, _, _, _, _, _, _, _, (θ_run _ _ _).mono (fun r h c => by
      obtain ⟨y0, y1, y2, l0, l1, l2⟩ := Kernel11Ideal.Merge.final_rows m c
      obtain ⟨b0, b1, b2⟩ := Kernel11Ideal.Merge.final_sums m c
      obtain ⟨dy0, dy1, dy2⟩ := Kernel11Ideal.Merge.dy_eq m c
      obtain ⟨dl0, dl1, dl2⟩ := Kernel11Ideal.Merge.dl_eq m c
      obtain ⟨db0, db1, db2⟩ := Kernel11Ideal.Merge.db_eq m c
      obtain ⟨h0, h1, h2, h3, h4, h5, h6, h7, h8, hk⟩ := h c
      exact ⟨h0.trans (y0.trans dy0), h1.trans (y1.trans dy1), h2.trans (y2.trans dy2), h3.trans (l0.trans dl0), h4.trans (l1.trans dl1),
        h5.trans (l2.trans dl2), h6.trans (b0.trans db0), h7.trans (b1.trans db1), h8.trans (b2.trans db2), hk⟩) (Kernel11Ideal.Value.run_blocks m g),
    (θ_run _ _ _).mono (fun r h c => by
      obtain ⟨h0, h1, h2, h3, h4, h5, h6, h7, h8, hk⟩ := h c
      obtain ⟨a0, a1, a2, a3, a4, a5⟩ := hagree c
      refine ⟨h0.trans ?_, h1.trans ?_, h2.trans ?_, h3.trans ?_, h4.trans ?_, h5.trans ?_, h6.trans ?_, h7.trans ?_, h8.trans ?_, hk⟩
      · rw [Reference11Ideal.Read.val_main_v49_eq, a0, a1, a5]
      · rw [Reference11Ideal.Read.val_main_v50_eq, a0, a1, a5]
      · rw [Reference11Ideal.Read.val_main_v51_eq, a0, a1, a5]
      · rw [Reference11Ideal.Read.val_main_v52_eq, a0, a1, a2, a3, a4, a5]
      · rw [Reference11Ideal.Read.val_main_v53_eq, a0, a1, a2, a3, a4, a5]
      · rw [Reference11Ideal.Read.val_main_v54_eq, a0, a1, a2, a3, a4, a5]
      · rw [Reference11Ideal.Read.val_main_v56_eq, a0, a1, a2, a3, a4, a5]
      · rw [Reference11Ideal.Read.val_main_v57_eq, a0, a1, a2, a3, a4, a5]
      · rw [Reference11Ideal.Read.val_main_v58_eq, a0, a1, a2, a3, a4, a5]) (Reference11Ideal.Value.run m' g')⟩

/-- The reference's run and counters, of the norm's gradients. -/
theorem quiescent_Reference12Ideal : quiescent_Reference12Ideal (hReference12Ideal := Reference12Ideal.Gen.facts) := fun m ρ _ =>
  (θ_run _ _ _).mono (fun r h => ⟨fun c => (h c).2.2.2, sem_eq_zero_of_no_sems rfl r.2⟩) (Reference12Ideal.Value.run m ρ)

/-- Kernel and reference agree on the norm's gradients. -/
theorem algebraic12 : algebraic_Kernel12Ideal_Reference12Ideal (hKernel12Ideal := Kernel12Ideal.Gen.facts)
    (hReference12Ideal := Reference12Ideal.Gen.facts) := fun m g m' g' _ hagree =>
  ⟨_, _, _, (θ_run _ _ _).mono (fun r h c => by
      obtain ⟨h0, h1, h2, hk⟩ := h c
      obtain ⟨r0, r1⟩ := Kernel12Ideal.Norm.final_rows m c
      exact ⟨h0.trans (r0.trans (Kernel12Ideal.Norm.dx_eq m c)), h1.trans (r1.trans (Kernel12Ideal.Norm.dx_eq m c)),
        h2.trans ((Kernel12Ideal.Norm.final_sum m c).trans (Kernel12Ideal.Norm.dg_eq m c)), hk⟩) (Kernel12Ideal.Value.run_blocks m g),
    (θ_run _ _ _).mono (fun r h c => by
      obtain ⟨h0, h1, h2, hk⟩ := h c
      obtain ⟨a0, a1, a2, a3⟩ := hagree c
      refine ⟨h0.trans ?_, h1.trans ?_, h2.trans ?_, hk⟩
      · rw [Reference12Ideal.Read.val_main_v36_eq, a0, a1, a2, a3]
      · rw [Reference12Ideal.Read.val_main_v37_eq, a0, a1, a2, a3]
        exact Kernel12Ideal.Norm.dxb_eq m c
      · rw [Reference12Ideal.Read.val_main_v38_eq, a0, a2]) (Reference12Ideal.Value.run m' g')⟩

/-- The reference's run and counters, of the gradient that the mixing product sends back. -/
theorem quiescent_Reference13Ideal : quiescent_Reference13Ideal (hReference13Ideal := Reference13Ideal.Gen.facts) := fun m ρ _ =>
  (θ_run _ _ _).mono (fun r h => ⟨fun c => (h c).2, sem_eq_zero_of_no_sems rfl r.2⟩) (Reference13Ideal.Value.run m ρ)

/-- Kernel and reference agree on the gradient that the mixing product sends back. -/
theorem algebraic13 : algebraic_Kernel13Ideal_Reference13Ideal (hKernel13Ideal := Kernel13Ideal.Gen.facts)
    (hReference13Ideal := Reference13Ideal.Gen.facts) := fun m g m' g' _ hagree =>
  ⟨_, (θ_run _ _ _).mono (fun r h c => ⟨(h c).1.trans (Kernel13Ideal.Product.final_eq m c), (h c).2⟩) (Kernel13Ideal.Value.run_blocks m g),
    (θ_run _ _ _).mono (fun r h c => by
      obtain ⟨a0, a1⟩ := hagree c
      refine ⟨(h c).1.trans ?_, (h c).2⟩
      rw [Reference13Ideal.Read.val_main_v2_eq, a0, a1]) (Reference13Ideal.Value.run m' g')⟩

/-- The reference's run and counters, of the mixing weights' gradient. -/
theorem quiescent_Reference14Ideal : quiescent_Reference14Ideal (hReference14Ideal := Reference14Ideal.Gen.facts) := fun m ρ _ =>
  (θ_run _ _ _).mono (fun r h => ⟨fun c => (h c).2, sem_eq_zero_of_no_sems rfl r.2⟩) (Reference14Ideal.Value.run m ρ)

/-- Kernel and reference agree on the mixing weights' gradient. -/
theorem algebraic14 : algebraic_Kernel14Ideal_Reference14Ideal (hKernel14Ideal := Kernel14Ideal.Gen.facts)
    (hReference14Ideal := Reference14Ideal.Gen.facts) := fun m g m' g' _ hagree =>
  ⟨_, (θ_run _ _ _).mono (fun r h c => ⟨(h c).1.trans (Kernel14Ideal.Product.final_eq m c), (h c).2⟩) (Kernel14Ideal.Value.run_blocks m g),
    (θ_run _ _ _).mono (fun r h c => by
      obtain ⟨a0, a1⟩ := hagree c
      refine ⟨(h c).1.trans ?_, (h c).2⟩
      rw [Reference14Ideal.Read.val_main_v4_eq, a0, a1]) (Reference14Ideal.Value.run m' g')⟩

/-- The reference's run and counters, of a branch's output weights' gradient. -/
theorem quiescent_Reference15Ideal : quiescent_Reference15Ideal (hReference15Ideal := Reference15Ideal.Gen.facts) := fun m ρ _ =>
  (θ_run _ _ _).mono (fun r h => ⟨fun c => (h c).2, sem_eq_zero_of_no_sems rfl r.2⟩) (Reference15Ideal.Value.run m ρ)

/-- Kernel and reference agree on a branch's output weights' gradient. -/
theorem algebraic15 : algebraic_Kernel15Ideal_Reference15Ideal (hKernel15Ideal := Kernel15Ideal.Gen.facts)
    (hReference15Ideal := Reference15Ideal.Gen.facts) := fun m g m' g' _ hagree =>
  ⟨_, (θ_run _ _ _).mono (fun r h c => ⟨(h c).1.trans (Kernel15Ideal.Product.final_eq m c), (h c).2⟩) (Kernel15Ideal.Value.run_blocks m g),
    (θ_run _ _ _).mono (fun r h c => by
      obtain ⟨a0, a1⟩ := hagree c
      refine ⟨(h c).1.trans ?_, (h c).2⟩
      rw [Reference15Ideal.Read.val_main_v13_eq, a0, a1]) (Reference15Ideal.Value.run m' g')⟩

/-- The reference's run and counters, of the gradient that a branch's output product sends back. -/
theorem quiescent_Reference16Ideal : quiescent_Reference16Ideal (hReference16Ideal := Reference16Ideal.Gen.facts) := fun m ρ _ =>
  (θ_run _ _ _).mono (fun r h => ⟨fun c => (h c).2, sem_eq_zero_of_no_sems rfl r.2⟩) (Reference16Ideal.Value.run m ρ)

/-- Kernel and reference agree on the gradient that a branch's output product sends back. -/
theorem algebraic16 : algebraic_Kernel16Ideal_Reference16Ideal (hKernel16Ideal := Kernel16Ideal.Gen.facts)
    (hReference16Ideal := Reference16Ideal.Gen.facts) := fun m g m' g' _ hagree =>
  ⟨_, (θ_run _ _ _).mono (fun r h c => ⟨(h c).1.trans (Kernel16Ideal.Product.final_eq m c), (h c).2⟩) (Kernel16Ideal.Value.run_blocks m g),
    (θ_run _ _ _).mono (fun r h c => by
      obtain ⟨a0, a1⟩ := hagree c
      refine ⟨(h c).1.trans ?_, (h c).2⟩
      rw [Reference16Ideal.Read.val_main_v3_eq, a0, a1]) (Reference16Ideal.Value.run m' g')⟩

/-- The reference's run and counters, of the input projection. -/
theorem quiescent_Reference17Ideal : quiescent_Reference17Ideal (hReference17Ideal := Reference17Ideal.Gen.facts) := fun m ρ _ =>
  (θ_run _ _ _).mono (fun r h => ⟨fun c => (h c).2, sem_eq_zero_of_no_sems rfl r.2⟩) (Reference17Ideal.Value.run m ρ)

/-- Kernel and reference agree on the input projection. -/
theorem algebraic17 : algebraic_Kernel17Ideal_Reference17Ideal (hKernel17Ideal := Kernel17Ideal.Gen.facts)
    (hReference17Ideal := Reference17Ideal.Gen.facts) := fun m g m' g' _ hagree =>
  ⟨_, (θ_run _ _ _).mono (fun r h c => ⟨(h c).1.trans (Kernel17Ideal.Product.final_eq m c), (h c).2⟩) (Kernel17Ideal.Value.run_blocks m g),
    (θ_run _ _ _).mono (fun r h c => by
      obtain ⟨a0, a1⟩ := hagree c
      refine ⟨(h c).1.trans ?_, (h c).2⟩
      rw [Reference17Ideal.Read.val_main_v7_eq, a0, a1]) (Reference17Ideal.Value.run m' g')⟩

/-- The reference's run and counters, of the feed-forward's first product. -/
theorem quiescent_Reference18Ideal : quiescent_Reference18Ideal (hReference18Ideal := Reference18Ideal.Gen.facts) := fun m ρ _ =>
  (θ_run _ _ _).mono (fun r h => ⟨fun c => (h c).2, sem_eq_zero_of_no_sems rfl r.2⟩) (Reference18Ideal.Value.run m ρ)

/-- Kernel and reference agree on the feed-forward's first product. -/
theorem algebraic18 : algebraic_Kernel18Ideal_Reference18Ideal (hKernel18Ideal := Kernel18Ideal.Gen.facts)
    (hReference18Ideal := Reference18Ideal.Gen.facts) := fun m g m' g' _ hagree =>
  ⟨_, (θ_run _ _ _).mono (fun r h c => ⟨(h c).1.trans (Kernel18Ideal.Product.final_eq m c), (h c).2⟩) (Kernel18Ideal.Value.run_blocks m g),
    (θ_run _ _ _).mono (fun r h c => by
      obtain ⟨a0, a1⟩ := hagree c
      refine ⟨(h c).1.trans ?_, (h c).2⟩
      rw [Reference18Ideal.Read.val_main_v3_eq, a0, a1]) (Reference18Ideal.Value.run m' g')⟩

/-- The reference's run and counters, of the feed-forward's second product. -/
theorem quiescent_Reference19Ideal : quiescent_Reference19Ideal (hReference19Ideal := Reference19Ideal.Gen.facts) := fun m ρ _ =>
  (θ_run _ _ _).mono (fun r h => ⟨fun c => (h c).2, sem_eq_zero_of_no_sems rfl r.2⟩) (Reference19Ideal.Value.run m ρ)

/-- Kernel and reference agree on the feed-forward's second product. -/
theorem algebraic19 : algebraic_Kernel19Ideal_Reference19Ideal (hKernel19Ideal := Kernel19Ideal.Gen.facts)
    (hReference19Ideal := Reference19Ideal.Gen.facts) := fun m g m' g' _ hagree =>
  ⟨_, (θ_run _ _ _).mono (fun r h c => ⟨(h c).1.trans (Kernel19Ideal.Product.final_eq m c), (h c).2⟩) (Kernel19Ideal.Value.run_blocks m g),
    (θ_run _ _ _).mono (fun r h c => by
      obtain ⟨a0, a1, a2⟩ := hagree c
      refine ⟨(h c).1.trans ?_, (h c).2⟩
      rw [Reference19Ideal.Read.val_main_v3_eq, a0, a1, a2]) (Reference19Ideal.Value.run m' g')⟩

/-- The reference's run and counters, of a branch's output product. -/
theorem quiescent_Reference20Ideal : quiescent_Reference20Ideal (hReference20Ideal := Reference20Ideal.Gen.facts) := fun m ρ _ =>
  (θ_run _ _ _).mono (fun r h => ⟨fun c => (h c).2, sem_eq_zero_of_no_sems rfl r.2⟩) (Reference20Ideal.Value.run m ρ)

/-- Kernel and reference agree on a branch's output product. -/
theorem algebraic20 : algebraic_Kernel20Ideal_Reference20Ideal (hKernel20Ideal := Kernel20Ideal.Gen.facts)
    (hReference20Ideal := Reference20Ideal.Gen.facts) := fun m g m' g' _ hagree =>
  ⟨_, (θ_run _ _ _).mono (fun r h c => ⟨(h c).1.trans (Kernel20Ideal.Product.final_eq m c), (h c).2⟩) (Kernel20Ideal.Value.run_blocks m g),
    (θ_run _ _ _).mono (fun r h c => by
      obtain ⟨a0, a1⟩ := hagree c
      refine ⟨(h c).1.trans ?_, (h c).2⟩
      rw [Reference20Ideal.Read.val_main_v2_eq, a0, a1]) (Reference20Ideal.Value.run m' g')⟩

/-- The reference's run and counters, of the mixing product. -/
theorem quiescent_Reference21Ideal : quiescent_Reference21Ideal (hReference21Ideal := Reference21Ideal.Gen.facts) := fun m ρ _ =>
  (θ_run _ _ _).mono (fun r h => ⟨fun c => (h c).2, sem_eq_zero_of_no_sems rfl r.2⟩) (Reference21Ideal.Value.run m ρ)

/-- Kernel and reference agree on the mixing product. -/
theorem algebraic21 : algebraic_Kernel21Ideal_Reference21Ideal (hKernel21Ideal := Kernel21Ideal.Gen.facts)
    (hReference21Ideal := Reference21Ideal.Gen.facts) := fun m g m' g' _ hagree =>
  ⟨_, (θ_run _ _ _).mono (fun r h c => ⟨(h c).1.trans (Kernel21Ideal.Product.final_eq m c), (h c).2⟩) (Kernel21Ideal.Value.run_blocks m g),
    (θ_run _ _ _).mono (fun r h c => by
      obtain ⟨a0, a1, a2⟩ := hagree c
      refine ⟨(h c).1.trans ?_, (h c).2⟩
      rw [Reference21Ideal.Read.val_main_v3_eq, a0, a1, a2]) (Reference21Ideal.Value.run m' g')⟩

/-- The reference's run and counters, of the forward attention. -/
theorem quiescent_Reference22Ideal : quiescent_Reference22Ideal (hReference22Ideal := Reference22Ideal.Gen.facts) := fun m ρ _ =>
  (θ_run _ _ _).mono (fun r h => ⟨fun c => (h c).2, sem_eq_zero_of_no_sems rfl r.2⟩) (Reference22Ideal.Value.run m ρ)

/-- Kernel and reference agree on the forward attention. -/
theorem algebraic22 : algebraic_Kernel22Ideal_Reference22Ideal_pre_finite_scores22 (hKernel22Ideal := Kernel22Ideal.Gen.facts)
    (hReference22Ideal := Reference22Ideal.Gen.facts) (hPre_finite_scores22 := Pre_finite_scores22.facts) := fun m g m' g' hpre hagree =>
  ⟨_, (θ_run _ _ _).mono (fun r h c => ⟨(h c).1.trans (Kernel22Ideal.Forward.final m c), (h c).2⟩) (Kernel22Ideal.Value.run_blocks m g),
    (θ_run _ _ _).mono (fun r h c => by
      haveI := Pre_finite_scores22.facts
      obtain ⟨a0, a1, a2⟩ := hagree c
      obtain ⟨hq, hk⟩ := Pre_finite_scores22.finite _ _ _ (hpre c)
      refine ⟨(h c).1.trans ?_, (h c).2⟩
      rw [Reference22Ideal.Read.val_main_v26_eq, a0, a1, a2]
      exact (Kernel22Ideal.Forward.out_arr_eq m c hq hk).symm) (Reference22Ideal.Value.run m' g')⟩

/-- The reference's run and counters, of the forward latent attention. -/
theorem quiescent_Reference23Ideal : quiescent_Reference23Ideal (hReference23Ideal := Reference23Ideal.Gen.facts) := fun m ρ _ =>
  (θ_run _ _ _).mono (fun r h => ⟨fun c => (h c).2, sem_eq_zero_of_no_sems rfl r.2⟩) (Reference23Ideal.Value.run m ρ)

/-- Kernel and reference agree on the forward latent attention. -/
theorem algebraic23 : algebraic_Kernel23Ideal_Reference23Ideal_pre_finite_scores23 (hKernel23Ideal := Kernel23Ideal.Gen.facts)
    (hReference23Ideal := Reference23Ideal.Gen.facts) (hPre_finite_scores23 := Pre_finite_scores23.facts) := fun m g m' g' hpre hagree =>
  ⟨_, (θ_run _ _ _).mono (fun r h c => ⟨(h c).1.trans (Kernel23Ideal.Forward.final m c), (h c).2⟩) (Kernel23Ideal.Value.run_blocks m g),
    (θ_run _ _ _).mono (fun r h c => by
      haveI := Pre_finite_scores23.facts
      obtain ⟨a0, a1, a2⟩ := hagree c
      obtain ⟨hq, hk⟩ := Pre_finite_scores23.finite _ _ _ (hpre c)
      refine ⟨(h c).1.trans ?_, (h c).2⟩
      rw [Reference23Ideal.Read.val_main_v26_eq, a0, a1, a2]
      exact (Kernel23Ideal.Forward.out_arr_eq m c hq hk).symm) (Reference23Ideal.Value.run m' g')⟩

/-- The reference's run and counters, of the gradients of the convolution's layer norm. -/
theorem quiescent_Reference24Ideal : quiescent_Reference24Ideal (hReference24Ideal := Reference24Ideal.Gen.facts) := fun m ρ _ =>
  (θ_run _ _ _).mono (fun r h => ⟨fun c => (h c).2.2.2, sem_eq_zero_of_no_sems rfl r.2⟩) (Reference24Ideal.Value.run m ρ)

/-- Kernel and reference agree on the gradients of the convolution's layer norm. -/
theorem algebraic24 : algebraic_Kernel24Ideal_Reference24Ideal_pre_finite_weighted (hKernel24Ideal := Kernel24Ideal.Gen.facts)
    (hReference24Ideal := Reference24Ideal.Gen.facts) (hPre_finite_weighted := Pre_finite_weighted.facts) := fun m g m' g' hpre hagree =>
  ⟨_, _, _, (θ_run _ _ _).mono (fun r h c => by
      obtain ⟨h0, h1, h2, hk⟩ := h c
      obtain ⟨r1, r2⟩ := Kernel24Ideal.Layer.final_sums m c
      exact ⟨h0.trans (Kernel24Ideal.Layer.final_rows m c), h1.trans r1, h2.trans r2, hk⟩) (Kernel24Ideal.Value.run_blocks m g),
    (θ_run _ _ _).mono (fun r h c => by
      haveI := Pre_finite_weighted.facts
      obtain ⟨h0, h1, h2, hk⟩ := h c
      obtain ⟨a0, a1, a2, a3⟩ := hagree c
      obtain ⟨hg, hd⟩ := Pre_finite_weighted.finite _ _ _ _ (hpre c)
      refine ⟨h0.trans ?_, h1.trans ?_, h2.trans ?_, hk⟩
      · rw [Reference24Ideal.Read.val_main_v57_eq, a0, a1, a2, a3]
        exact (Kernel24Ideal.Layer.dx_eq m c hg hd).symm
      · rw [Reference24Ideal.Read.val_main_v58_eq, a0, a1, a2, a3]
        exact (Kernel24Ideal.Layer.dg_eq m c hd).symm
      · rw [Reference24Ideal.Read.val_main_v59_eq, a0, a1, a2, a3]
        exact (Kernel24Ideal.Layer.db_eq m c hd).symm) (Reference24Ideal.Value.run m' g')⟩

/-- The reference's run and counters, of the gradient that the convolution branch's output projection sends back. -/
theorem quiescent_Reference25Ideal : quiescent_Reference25Ideal (hReference25Ideal := Reference25Ideal.Gen.facts) := fun m ρ _ =>
  (θ_run _ _ _).mono (fun r h => ⟨fun c => (h c).2, sem_eq_zero_of_no_sems rfl r.2⟩) (Reference25Ideal.Value.run m ρ)

/-- Kernel and reference agree on the gradient that the convolution branch's output projection sends back. -/
theorem algebraic25 : algebraic_Kernel25Ideal_Reference25Ideal (hKernel25Ideal := Kernel25Ideal.Gen.facts)
    (hReference25Ideal := Reference25Ideal.Gen.facts) := fun m g m' g' _ hagree =>
  ⟨_, (θ_run _ _ _).mono (fun r h c => ⟨(h c).1.trans (Kernel25Ideal.Product.final_eq m c), (h c).2⟩) (Kernel25Ideal.Value.run_blocks m g),
    (θ_run _ _ _).mono (fun r h c => by
      obtain ⟨a0, a1⟩ := hagree c
      refine ⟨(h c).1.trans ?_, (h c).2⟩
      rw [Reference25Ideal.Read.val_main_v2_eq, a0, a1]) (Reference25Ideal.Value.run m' g')⟩

/-- The reference's run and counters, of the convolution's gradient. -/
theorem quiescent_Reference26Ideal : quiescent_Reference26Ideal (hReference26Ideal := Reference26Ideal.Gen.facts) := fun m ρ _ =>
  (θ_run _ _ _).mono (fun r h => ⟨fun c => (h c).2.2.2.2, sem_eq_zero_of_no_sems rfl r.2⟩) (Reference26Ideal.Value.run m ρ)

/-- Kernel and reference agree on the convolution's gradient. -/
theorem algebraic26 : algebraic_Kernel26Ideal_Reference26Ideal (hKernel26Ideal := Kernel26Ideal.Gen.facts)
    (hReference26Ideal := Reference26Ideal.Gen.facts) := fun m g m' g' _ hagree =>
  ⟨_, _, _, _, (θ_run _ _ _).mono (fun r h c => by
      obtain ⟨h0, h1, h2, h3, hk⟩ := h c
      exact ⟨h0.trans (Kernel26Ideal.Conv.final_a m c), h1.trans (Kernel26Ideal.Conv.final_g m c),
        h2.trans (Kernel26Ideal.Conv.final_w m c), h3.trans (Kernel26Ideal.Conv.final_b m c), hk⟩) (Kernel26Ideal.Value.run_blocks m g),
    (θ_run _ _ _).mono (fun r h c => by
      obtain ⟨h0, h1, h2, h3, hk⟩ := h c
      obtain ⟨a0, a1, a2⟩ := hagree c
      refine ⟨h0.trans ?_, h1.trans ?_, h2.trans ?_, h3.trans ?_, hk⟩
      · rw [Reference26Ideal.Read.val_main_v62_eq, a0, a1, a2]
        exact (Kernel26Ideal.Conv.a_eq m c).symm
      · rw [Reference26Ideal.Read.val_main_v63_eq, a0, a1, a2]
        exact (Kernel26Ideal.Conv.g_eq m c).symm
      · rw [Reference26Ideal.Read.val_main_v49_eq, a0, a2]
        exact (Kernel26Ideal.Conv.w_eq m c).symm
      · rw [Reference26Ideal.Read.val_main_v64_eq, a2]
        exact (Kernel26Ideal.Conv.b_eq m c).symm) (Reference26Ideal.Value.run m' g')⟩

theorem claim : Cert.Claim :=
  ⟨Kernel.Gen.facts, KernelIdeal.Gen.facts, ReferenceIdeal.Gen.facts, Kernel2.Gen.facts, Kernel2Ideal.Gen.facts, Reference2Ideal.Gen.facts,
    Kernel3.Gen.facts, Kernel3Ideal.Gen.facts, Reference3Ideal.Gen.facts, Kernel4.Gen.facts, Kernel4Ideal.Gen.facts, Reference4Ideal.Gen.facts,
    Kernel5.Gen.facts, Kernel5Ideal.Gen.facts, Reference5Ideal.Gen.facts, Kernel6.Gen.facts, Kernel6Ideal.Gen.facts, Reference6Ideal.Gen.facts,
    Kernel7.Gen.facts, Kernel7Ideal.Gen.facts, Reference7Ideal.Gen.facts, Kernel8.Gen.facts, Kernel8Ideal.Gen.facts, Reference8Ideal.Gen.facts,
    Kernel9.Gen.facts, Kernel9Ideal.Gen.facts, Reference9Ideal.Gen.facts,
    Kernel10.Gen.facts, Kernel10Ideal.Gen.facts, Reference10Ideal.Gen.facts,
    Kernel11.Gen.facts, Kernel11Ideal.Gen.facts, Reference11Ideal.Gen.facts,
    Kernel12.Gen.facts, Kernel12Ideal.Gen.facts, Reference12Ideal.Gen.facts,
    Kernel13.Gen.facts, Kernel13Ideal.Gen.facts, Reference13Ideal.Gen.facts,
    Kernel14.Gen.facts, Kernel14Ideal.Gen.facts, Reference14Ideal.Gen.facts,
    Kernel15.Gen.facts, Kernel15Ideal.Gen.facts, Reference15Ideal.Gen.facts,
    Kernel16.Gen.facts, Kernel16Ideal.Gen.facts, Reference16Ideal.Gen.facts,
    Kernel17.Gen.facts, Kernel17Ideal.Gen.facts, Reference17Ideal.Gen.facts,
    Kernel18.Gen.facts, Kernel18Ideal.Gen.facts, Reference18Ideal.Gen.facts,
    Kernel19.Gen.facts, Kernel19Ideal.Gen.facts, Reference19Ideal.Gen.facts,
    Kernel20.Gen.facts, Kernel20Ideal.Gen.facts, Reference20Ideal.Gen.facts,
    Kernel21.Gen.facts, Kernel21Ideal.Gen.facts, Reference21Ideal.Gen.facts,
    Kernel22.Gen.facts, Kernel22Ideal.Gen.facts, Reference22Ideal.Gen.facts,
    Kernel23.Gen.facts, Kernel23Ideal.Gen.facts, Reference23Ideal.Gen.facts,
    Kernel24.Gen.facts, Kernel24Ideal.Gen.facts, Reference24Ideal.Gen.facts,
    Kernel25.Gen.facts, Kernel25Ideal.Gen.facts, Reference25Ideal.Gen.facts,
    Kernel26.Gen.facts, Kernel26Ideal.Gen.facts, Reference26Ideal.Gen.facts,
    Pre_finite_scores.facts, Pre_finite_scores2.facts, Pre_finite_product.facts, Pre_finite_scores22.facts, Pre_finite_scores23.facts,
    Pre_finite_weighted.facts,
    fun m ρ _ => Kernel.Gen.frame m ρ, fun m ρ _ => KernelIdeal.Gen.frame m ρ, fun m ρ _ => KernelIdeal.Gen.frame m ρ,
    quiescent_ReferenceIdeal, fun m ρ _ => quiescent_ReferenceIdeal m ρ trivial,
    fun m ρ _ => Kernel2.Gen.frame m ρ, fun m ρ _ => Kernel2Ideal.Gen.frame m ρ, fun m ρ _ => Kernel2Ideal.Gen.frame m ρ,
    quiescent_Reference2Ideal, fun m ρ _ => quiescent_Reference2Ideal m ρ trivial,
    fun m ρ _ => Kernel3.Gen.frame m ρ, fun m ρ _ => Kernel3Ideal.Gen.frame m ρ, quiescent_Reference3Ideal,
    fun m ρ _ => Kernel4.Gen.frame m ρ, fun m ρ _ => Kernel4Ideal.Gen.frame m ρ, quiescent_Reference4Ideal,
    fun m ρ _ => Kernel5.Gen.frame m ρ, fun m ρ _ => Kernel5Ideal.Gen.frame m ρ, fun m ρ _ => Kernel5Ideal.Gen.frame m ρ,
    quiescent_Reference5Ideal, fun m ρ _ => quiescent_Reference5Ideal m ρ trivial,
    fun m ρ _ => Kernel6.Gen.frame m ρ, fun m ρ _ => Kernel6Ideal.Gen.frame m ρ, quiescent_Reference6Ideal,
    fun m ρ _ => Kernel7.Gen.frame m ρ, fun m ρ _ => Kernel7Ideal.Gen.frame m ρ, quiescent_Reference7Ideal,
    fun m ρ _ => Kernel8.Gen.frame m ρ, fun m ρ _ => Kernel8Ideal.Gen.frame m ρ, quiescent_Reference8Ideal,
    fun m ρ _ => Kernel9.Gen.frame m ρ, fun m ρ _ => Kernel9Ideal.Gen.frame m ρ, quiescent_Reference9Ideal,
    fun m ρ _ => Kernel10.Gen.frame m ρ, fun m ρ _ => Kernel10Ideal.Gen.frame m ρ, quiescent_Reference10Ideal,
    fun m ρ _ => Kernel11.Gen.frame m ρ, fun m ρ _ => Kernel11Ideal.Gen.frame m ρ, quiescent_Reference11Ideal,
    fun m ρ _ => Kernel12.Gen.frame m ρ, fun m ρ _ => Kernel12Ideal.Gen.frame m ρ, quiescent_Reference12Ideal,
    fun m ρ _ => Kernel13.Gen.frame m ρ, fun m ρ _ => Kernel13Ideal.Gen.frame m ρ, quiescent_Reference13Ideal,
    fun m ρ _ => Kernel14.Gen.frame m ρ, fun m ρ _ => Kernel14Ideal.Gen.frame m ρ, quiescent_Reference14Ideal,
    fun m ρ _ => Kernel15.Gen.frame m ρ, fun m ρ _ => Kernel15Ideal.Gen.frame m ρ, quiescent_Reference15Ideal,
    fun m ρ _ => Kernel16.Gen.frame m ρ, fun m ρ _ => Kernel16Ideal.Gen.frame m ρ, quiescent_Reference16Ideal,
    fun m ρ _ => Kernel17.Gen.frame m ρ, fun m ρ _ => Kernel17Ideal.Gen.frame m ρ, quiescent_Reference17Ideal,
    fun m ρ _ => Kernel18.Gen.frame m ρ, fun m ρ _ => Kernel18Ideal.Gen.frame m ρ, quiescent_Reference18Ideal,
    fun m ρ _ => Kernel19.Gen.frame m ρ, fun m ρ _ => Kernel19Ideal.Gen.frame m ρ, quiescent_Reference19Ideal,
    fun m ρ _ => Kernel20.Gen.frame m ρ, fun m ρ _ => Kernel20Ideal.Gen.frame m ρ, quiescent_Reference20Ideal,
    fun m ρ _ => Kernel21.Gen.frame m ρ, fun m ρ _ => Kernel21Ideal.Gen.frame m ρ, quiescent_Reference21Ideal,
    fun m ρ _ => Kernel22.Gen.frame m ρ, fun m ρ _ => Kernel22Ideal.Gen.frame m ρ, fun m ρ _ => Kernel22Ideal.Gen.frame m ρ,
    quiescent_Reference22Ideal, fun m ρ _ => quiescent_Reference22Ideal m ρ trivial,
    fun m ρ _ => Kernel23.Gen.frame m ρ, fun m ρ _ => Kernel23Ideal.Gen.frame m ρ, fun m ρ _ => Kernel23Ideal.Gen.frame m ρ,
    quiescent_Reference23Ideal, fun m ρ _ => quiescent_Reference23Ideal m ρ trivial,
    fun m ρ _ => Kernel24.Gen.frame m ρ, fun m ρ _ => Kernel24Ideal.Gen.frame m ρ, fun m ρ _ => Kernel24Ideal.Gen.frame m ρ,
    quiescent_Reference24Ideal, fun m ρ _ => quiescent_Reference24Ideal m ρ trivial,
    fun m ρ _ => Kernel25.Gen.frame m ρ, fun m ρ _ => Kernel25Ideal.Gen.frame m ρ, quiescent_Reference25Ideal,
    fun m ρ _ => Kernel26.Gen.frame m ρ, fun m ρ _ => Kernel26Ideal.Gen.frame m ρ, quiescent_Reference26Ideal,
    IdealRules.named_const.statement KernelIdeal.κ "mask" .f32 0xF149F2CA#32 ⊥ rfl, algebraic,
    IdealRules.named_const.statement Kernel2Ideal.κ "mask" .f32 0xF149F2CA#32 ⊥ rfl, algebraic2,
    trivial, algebraic3, trivial, algebraic4, trivial, algebraic5, trivial, algebraic6, trivial, algebraic7, trivial, algebraic8,
    trivial, algebraic9, trivial, algebraic10, trivial, algebraic11, trivial, algebraic12,
    trivial, algebraic13, trivial, algebraic14, trivial, algebraic15, trivial, algebraic16,
    trivial, algebraic17, trivial, algebraic18, trivial, algebraic19, trivial, algebraic20, trivial, algebraic21,
    IdealRules.named_const.statement Kernel22Ideal.κ "mask" .f32 0xF149F2CA#32 ⊥ rfl, algebraic22,
    IdealRules.named_const.statement Kernel23Ideal.κ "mask" .f32 0xF149F2CA#32 ⊥ rfl, algebraic23,
    trivial, algebraic24, trivial, algebraic25, trivial, algebraic26⟩

end Cert.Proof

end
